-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4)
      ∧ r.2.mem ((c.tc : Thread Cert.Kernel32.nD Cert.Kernel32.τ).loc Cert.Kernel32.main_arg5) = m ((c.tc : Thread Cert.Kernel32.nD Cert.Kernel32.τ).loc Cert.Kernel32.main_arg5)
      ∧ r.2.mem ((c.tc : Thread Cert.Kernel32.nD Cert.Kernel32.τ).loc Cert.Kernel32.main_arg6) = m ((c.tc : Thread Cert.Kernel32.nD Cert.Kernel32.τ).loc Cert.Kernel32.main_arg6)
      ∧ r.2.mem ((c.tc : Thread Cert.Kernel32.nD Cert.Kernel32.τ).loc Cert.Kernel32.main_arg7) = m ((c.tc : Thread Cert.Kernel32.nD Cert.Kernel32.τ).loc Cert.Kernel32.main_arg7)
      ∧ r.2.mem ((c.tc : Thread Cert.Kernel32.nD Cert.Kernel32.τ).loc Cert.Kernel32.main_arg8) = m ((c.tc : Thread Cert.Kernel32.nD Cert.Kernel32.τ).loc Cert.Kernel32.main_arg8)
      ∧ r.2.mem ((c.tc : Thread Cert.Kernel32.nD Cert.Kernel32.τ).loc Cert.Kernel32.main_arg9) = m ((c.tc : Thread Cert.Kernel32.nD Cert.Kernel32.τ).loc Cert.Kernel32.main_arg9))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5)
      ∧ r.2.mem ((c.tc : Thread Cert.Kernel32Ideal.nD Cert.Kernel32Ideal.τ).loc Cert.Kernel32Ideal.main_arg6) = m ((c.tc : Thread Cert.Kernel32Ideal.nD Cert.Kernel32Ideal.τ).loc Cert.Kernel32Ideal.main_arg6)
      ∧ r.2.mem ((c.tc : Thread Cert.Kernel32Ideal.nD Cert.Kernel32Ideal.τ).loc Cert.Kernel32Ideal.main_arg7) = m ((c.tc : Thread Cert.Kernel32Ideal.nD Cert.Kernel32Ideal.τ).loc Cert.Kernel32Ideal.main_arg7)
      ∧ r.2.mem ((c.tc : Thread Cert.Kernel32Ideal.nD Cert.Kernel32Ideal.τ).loc Cert.Kernel32Ideal.main_arg8) = m ((c.tc : Thread Cert.Kernel32Ideal.nD Cert.Kernel32Ideal.τ).loc Cert.Kernel32Ideal.main_arg8)
      ∧ r.2.mem ((c.tc : Thread Cert.Kernel32Ideal.nD Cert.Kernel32Ideal.τ).loc Cert.Kernel32Ideal.main_arg9) = m ((c.tc : Thread Cert.Kernel32Ideal.nD Cert.Kernel32Ideal.τ).loc Cert.Kernel32Ideal.main_arg9))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5)
      ∧ r.2.mem ((c.tc : Thread Cert.Reference32Ideal.nD Cert.Reference32Ideal.τ).loc Cert.Reference32Ideal.main_arg6) = m ((c.tc : Thread Cert.Reference32Ideal.nD Cert.Reference32Ideal.τ).loc Cert.Reference32Ideal.main_arg6)
      ∧ r.2.mem ((c.tc : Thread Cert.Reference32Ideal.nD Cert.Reference32Ideal.τ).loc Cert.Reference32Ideal.main_arg7) = m ((c.tc : Thread Cert.Reference32Ideal.nD Cert.Reference32Ideal.τ).loc Cert.Reference32Ideal.main_arg7)
      ∧ r.2.mem ((c.tc : Thread Cert.Reference32Ideal.nD Cert.Reference32Ideal.τ).loc Cert.Reference32Ideal.main_arg8) = m ((c.tc : Thread Cert.Reference32Ideal.nD Cert.Reference32Ideal.τ).loc Cert.Reference32Ideal.main_arg8)
      ∧ r.2.mem ((c.tc : Thread Cert.Reference32Ideal.nD Cert.Reference32Ideal.τ).loc Cert.Reference32Ideal.main_arg9) = m ((c.tc : Thread Cert.Reference32Ideal.nD Cert.Reference32Ideal.τ).loc Cert.Reference32Ideal.main_arg9))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def preserves_Kernel_KernelIdeal : Prop :=
  IdealRules.named_const.Statement Cert.KernelIdeal.κ "masked" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v66_0)) (v1 : (c : Dev Cert.KernelIdeal.nD) → Buf (Elt Ideal) ((c.tc : Thread Cert.KernelIdeal.nD Cert.KernelIdeal.τ).loc Cert.KernelIdeal.main_v66_1)) (v2 : (c : Dev Cert.KernelIdeal.nD) → Buf (Elt Ideal) ((c.tc : Thread Cert.KernelIdeal.nD Cert.KernelIdeal.τ).loc Cert.KernelIdeal.main_v66_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66_0) = v0 c
          ∧ r.2.mem ((c.tc : Thread Cert.KernelIdeal.nD Cert.KernelIdeal.τ).loc Cert.KernelIdeal.main_v66_1) = v1 c
          ∧ r.2.mem ((c.tc : Thread Cert.KernelIdeal.nD Cert.KernelIdeal.τ).loc Cert.KernelIdeal.main_v66_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_v190) = v1 c
          ∧ r.2.mem ((c.tc : Thread Cert.ReferenceIdeal.nD Cert.ReferenceIdeal.τ).loc Cert.ReferenceIdeal.main_v193) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v3) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v3) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v3) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)
      ∧ m' ((c.tc : Thread Cert.Reference32Ideal.nD Cert.Reference32Ideal.τ).loc Cert.Reference32Ideal.main_arg5) = m ((c.tc : Thread Cert.Kernel32Ideal.nD Cert.Kernel32Ideal.τ).loc Cert.Kernel32Ideal.main_arg5)
      ∧ m' ((c.tc : Thread Cert.Reference32Ideal.nD Cert.Reference32Ideal.τ).loc Cert.Reference32Ideal.main_arg6) = m ((c.tc : Thread Cert.Kernel32Ideal.nD Cert.Kernel32Ideal.τ).loc Cert.Kernel32Ideal.main_arg6)
      ∧ m' ((c.tc : Thread Cert.Reference32Ideal.nD Cert.Reference32Ideal.τ).loc Cert.Reference32Ideal.main_arg7) = m ((c.tc : Thread Cert.Kernel32Ideal.nD Cert.Kernel32Ideal.τ).loc Cert.Kernel32Ideal.main_arg7)
      ∧ m' ((c.tc : Thread Cert.Reference32Ideal.nD Cert.Reference32Ideal.τ).loc Cert.Reference32Ideal.main_arg8) = m ((c.tc : Thread Cert.Kernel32Ideal.nD Cert.Kernel32Ideal.τ).loc Cert.Kernel32Ideal.main_arg8)
      ∧ m' ((c.tc : Thread Cert.Reference32Ideal.nD Cert.Reference32Ideal.τ).loc Cert.Reference32Ideal.main_arg9) = m ((c.tc : Thread Cert.Kernel32Ideal.nD Cert.Kernel32Ideal.τ).loc Cert.Kernel32Ideal.main_arg9)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
          ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5)
          ∧ r.2.mem ((c.tc : Thread Cert.Kernel32Ideal.nD Cert.Kernel32Ideal.τ).loc Cert.Kernel32Ideal.main_arg6) = m ((c.tc : Thread Cert.Kernel32Ideal.nD Cert.Kernel32Ideal.τ).loc Cert.Kernel32Ideal.main_arg6)
          ∧ r.2.mem ((c.tc : Thread Cert.Kernel32Ideal.nD Cert.Kernel32Ideal.τ).loc Cert.Kernel32Ideal.main_arg7) = m ((c.tc : Thread Cert.Kernel32Ideal.nD Cert.Kernel32Ideal.τ).loc Cert.Kernel32Ideal.main_arg7)
          ∧ r.2.mem ((c.tc : Thread Cert.Kernel32Ideal.nD Cert.Kernel32Ideal.τ).loc Cert.Kernel32Ideal.main_arg8) = m ((c.tc : Thread Cert.Kernel32Ideal.nD Cert.Kernel32Ideal.τ).loc Cert.Kernel32Ideal.main_arg8)
          ∧ r.2.mem ((c.tc : Thread Cert.Kernel32Ideal.nD Cert.Kernel32Ideal.τ).loc Cert.Kernel32Ideal.main_arg9) = m ((c.tc : Thread Cert.Kernel32Ideal.nD Cert.Kernel32Ideal.τ).loc Cert.Kernel32Ideal.main_arg9))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v21) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4)
          ∧ r.2.mem ((c.tc : Thread Cert.Reference32Ideal.nD Cert.Reference32Ideal.τ).loc Cert.Reference32Ideal.main_arg5) = m' ((c.tc : Thread Cert.Reference32Ideal.nD Cert.Reference32Ideal.τ).loc Cert.Reference32Ideal.main_arg5)
          ∧ r.2.mem ((c.tc : Thread Cert.Reference32Ideal.nD Cert.Reference32Ideal.τ).loc Cert.Reference32Ideal.main_arg6) = m' ((c.tc : Thread Cert.Reference32Ideal.nD Cert.Reference32Ideal.τ).loc Cert.Reference32Ideal.main_arg6)
          ∧ r.2.mem ((c.tc : Thread Cert.Reference32Ideal.nD Cert.Reference32Ideal.τ).loc Cert.Reference32Ideal.main_arg7) = m' ((c.tc : Thread Cert.Reference32Ideal.nD Cert.Reference32Ideal.τ).loc Cert.Reference32Ideal.main_arg7)
          ∧ r.2.mem ((c.tc : Thread Cert.Reference32Ideal.nD Cert.Reference32Ideal.τ).loc Cert.Reference32Ideal.main_arg8) = m' ((c.tc : Thread Cert.Reference32Ideal.nD Cert.Reference32Ideal.τ).loc Cert.Reference32Ideal.main_arg8)
          ∧ r.2.mem ((c.tc : Thread Cert.Reference32Ideal.nD Cert.Reference32Ideal.τ).loc Cert.Reference32Ideal.main_arg9) = m' ((c.tc : Thread Cert.Reference32Ideal.nD Cert.Reference32Ideal.τ).loc Cert.Reference32Ideal.main_arg9))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v23) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_v10) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v23) = v0 c
          ∧ r.2.mem ((c.tc : Thread Cert.Reference35Ideal.nD Cert.Reference35Ideal.τ).loc Cert.Reference35Ideal.main_v4) = v1 c
          ∧ r.2.mem ((c.tc : Thread Cert.Reference35Ideal.nD Cert.Reference35Ideal.τ).loc Cert.Reference35Ideal.main_v10) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v23) = v0 c
          ∧ r.2.mem ((c.tc : Thread Cert.Reference36Ideal.nD Cert.Reference36Ideal.τ).loc Cert.Reference36Ideal.main_v4) = v1 c
          ∧ r.2.mem ((c.tc : Thread Cert.Reference36Ideal.nD Cert.Reference36Ideal.τ).loc Cert.Reference36Ideal.main_v10) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v23) = v0 c
          ∧ r.2.mem ((c.tc : Thread Cert.Reference37Ideal.nD Cert.Reference37Ideal.τ).loc Cert.Reference37Ideal.main_v4) = v1 c
          ∧ r.2.mem ((c.tc : Thread Cert.Reference37Ideal.nD Cert.Reference37Ideal.τ).loc Cert.Reference37Ideal.main_v10) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v23) = v0 c
          ∧ r.2.mem ((c.tc : Thread Cert.Reference38Ideal.nD Cert.Reference38Ideal.τ).loc Cert.Reference38Ideal.main_v4) = v1 c
          ∧ r.2.mem ((c.tc : Thread Cert.Reference38Ideal.nD Cert.Reference38Ideal.τ).loc Cert.Reference38Ideal.main_v10) = v2 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v23) = v0 c
          ∧ r.2.mem ((c.tc : Thread Cert.Reference39Ideal.nD Cert.Reference39Ideal.τ).loc Cert.Reference39Ideal.main_v4) = v1 c
          ∧ r.2.mem ((c.tc : Thread Cert.Reference39Ideal.nD Cert.Reference39Ideal.τ).loc Cert.Reference39Ideal.main_v10) = v2 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
-- ==== Pre_finite.lean ====
abbrev S8192x8192 : Shape := ⟨2, ![8192, 8192]⟩
abbrev S2x2048 : Shape := ⟨2, ![2, 2048]⟩
abbrev S1x128 : Shape := ⟨2, ![1, 128]⟩
abbrev S8192x2048 : Shape := ⟨2, ![8192, 2048]⟩
abbrev S_ : Shape := ⟨0, ![]⟩

class Facts : Prop where
  bitsLt_bf16_f32 : FTy.bits .bf16 < FTy.bits .f32
  bcast_S_S8192x8192 : S_.BroadcastsInDim S8192x8192 (![] : Fin 0 → Fin S8192x8192.rank)
  bcast_S_S2x2048 : S_.BroadcastsInDim S2x2048 (![] : Fin 0 → Fin S2x2048.rank)
  bcast_S_S1x128 : S_.BroadcastsInDim S1x128 (![] : Fin 0 → Fin S1x128.rank)
  bcast_S_S8192x2048 : S_.BroadcastsInDim S8192x2048 (![] : Fin 0 → Fin S8192x2048.rank)

variable [Facts]

def fn {F : FTy → Type} [FloatOps F] (main_arg0 : FVec F S8192x8192 .f32) (main_arg1 : FVec F S2x2048 .f32) (main_arg2 : FVec F S1x128 .f32) (main_arg3 : FVec F S8192x2048 .bf16) : IVec S8192x8192 1 × IVec S2x2048 1 × IVec S1x128 1 × IVec S8192x2048 1 :=
  let main_v0 : FVec F S8192x2048 .f32 := (extf .f32 · bitsLt_bf16_f32) main_arg3
  let main_v1 : FVec F S8192x8192 .f32 := Host.absf main_arg0
  let main_cst : FVec F S_ .f32 := constant S_ .f32 0x7F800000#32
  let main_v2 : FVec F S8192x8192 .f32 := broadcastInDim S8192x8192 ![] bcast_S_S8192x8192 main_cst
  let main_v3 : IVec S8192x8192 1 := cmpf .olt main_v1 main_v2
  let main_v4 : FVec F S2x2048 .f32 := Host.absf main_arg1
  let main_cst_0 : FVec F S_ .f32 := constant S_ .f32 0x7F800000#32
  let main_v5 : FVec F S2x2048 .f32 := broadcastInDim S2x2048 ![] bcast_S_S2x2048 main_cst_0
  let main_v6 : IVec S2x2048 1 := cmpf .olt main_v4 main_v5
  let main_v7 : FVec F S1x128 .f32 := Host.absf main_arg2
  let main_cst_1 : FVec F S_ .f32 := constant S_ .f32 0x7F800000#32
  let main_v8 : FVec F S1x128 .f32 := broadcastInDim S1x128 ![] bcast_S_S1x128 main_cst_1
  let main_v9 : IVec S1x128 1 := cmpf .olt main_v7 main_v8
  let main_v10 : FVec F S8192x2048 .f32 := Host.absf main_v0
  let main_cst_2 : FVec F S_ .f32 := constant S_ .f32 0x7F800000#32
  let main_v11 : FVec F S8192x2048 .f32 := broadcastInDim S8192x2048 ![] bcast_S_S8192x2048 main_cst_2
  let main_v12 : IVec S8192x2048 1 := cmpf .olt main_v10 main_v11
  (main_v3, main_v6, main_v9, main_v12)
-- ==== Kernel.lean ====
abbrev S8192x8192 : Shape := ⟨2, ![8192, 8192]⟩
abbrev S2x2048 : Shape := ⟨2, ![2, 2048]⟩
abbrev S1x128 : Shape := ⟨2, ![1, 128]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192x16x128 : Shape := ⟨3, ![8192, 16, 128]⟩
abbrev S8192 : Shape := ⟨1, ![8192]⟩
abbrev S1x8192 : Shape := ⟨2, ![1, 8192]⟩
abbrev S128 : Shape := ⟨1, ![128]⟩
abbrev S128x1 : Shape := ⟨2, ![128, 1]⟩
abbrev S128x8192 : Shape := ⟨2, ![128, 8192]⟩
abbrev S128x8192x1x1 : Shape := ⟨4, ![128, 8192, 1, 1]⟩
abbrev S1x8192x16x128 : Shape := ⟨4, ![1, 8192, 16, 128]⟩
abbrev S128x8192x16x128 : Shape := ⟨4, ![128, 8192, 16, 128]⟩
abbrev S128x16x128 : Shape := ⟨3, ![128, 16, 128]⟩
abbrev S128x1x16x128 : Shape := ⟨4, ![128, 1, 16, 128]⟩
abbrev S8192x1 : Shape := ⟨2, ![8192, 1]⟩
abbrev S8192x8192x1x1 : Shape := ⟨4, ![8192, 8192, 1, 1]⟩
abbrev S8192x8192x16x128 : Shape := ⟨4, ![8192, 8192, 16, 128]⟩
abbrev S16x128x128x128 : Shape := ⟨4, ![16, 128, 128, 128]⟩
abbrev S16x1x128 : Shape := ⟨3, ![16, 1, 128]⟩
abbrev S128x2048 : Shape := ⟨2, ![128, 2048]⟩
abbrev S16x2x128x128 : Shape := ⟨4, ![16, 2, 128, 128]⟩
abbrev S16x128x128 : Shape := ⟨3, ![16, 128, 128]⟩
abbrev S1x1x128 : Shape := ⟨3, ![1, 1, 128]⟩
abbrev S64x128 : Shape := ⟨2, ![64, 128]⟩
abbrev S1x64x128 : Shape := ⟨3, ![1, 64, 128]⟩
abbrev S16x64x128 : Shape := ⟨3, ![16, 64, 128]⟩
abbrev S16x1x128x128 : Shape := ⟨4, ![16, 1, 128, 128]⟩
abbrev S64x64 : Shape := ⟨2, ![64, 64]⟩
abbrev S1x64x64 : Shape := ⟨3, ![1, 64, 64]⟩
abbrev S16x64x64 : Shape := ⟨3, ![16, 64, 64]⟩
abbrev S16x128 : Shape := ⟨2, ![16, 128]⟩
abbrev S16x64 : Shape := ⟨2, ![16, 64]⟩
abbrev S16x64x1 : Shape := ⟨3, ![16, 64, 1]⟩

abbrev nBuf : Space → Nat
  | .hbm => 94
  | .vmem => 19
  | .smem => 0
  | _ => 0

abbrev bufTy : (tb : Table) → Fin (tcTables nBuf tb) → BufTy
  | .hbm, ⟨0, _⟩ => ⟨S8192x8192, .f32⟩
  | .hbm, ⟨1, _⟩ => ⟨S2x2048, .f32⟩
  | .hbm, ⟨2, _⟩ => ⟨S1x128, .f32⟩
  | .hbm, ⟨3, _⟩ => ⟨S8192x2048, .bf16⟩
  | .hbm, ⟨4, _⟩ => ⟨S8192x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x16x128, .f32⟩
  | .hbm, ⟨35, _⟩ => ⟨S8192x2048, .f32⟩
  | .hbm, ⟨36, _⟩ => ⟨S8192x16x128, .f32⟩
  | .hbm, ⟨37, _⟩ => ⟨S8192x2048, .f32⟩
  | .hbm, ⟨38, _⟩ => ⟨S8192x16x128, .f32⟩
  | .hbm, ⟨39, _⟩ => ⟨S8192, .i32⟩
  | .hbm, ⟨40, _⟩ => ⟨S1x8192, .i32⟩
  | .hbm, ⟨41, _⟩ => ⟨S128, .i32⟩
  | .hbm, ⟨42, _⟩ => ⟨S128x1, .i32⟩
  | .hbm, ⟨43, _⟩ => ⟨S_, .i32⟩
  | .hbm, ⟨44, _⟩ => ⟨S128x1, .i32⟩
  | .hbm, ⟨45, _⟩ => ⟨S128x1, .i32⟩
  | .hbm, ⟨46, _⟩ => ⟨S128x8192, .i32⟩
  | .hbm, ⟨47, _⟩ => ⟨S128x8192, .i32⟩
  | .hbm, ⟨48, _⟩ => ⟨S128x8192, .i1⟩
  | .hbm, ⟨49, _⟩ => ⟨S128x8192x1x1, .i1⟩
  | .hbm, ⟨50, _⟩ => ⟨S1x8192x16x128, .f32⟩
  | .hbm, ⟨51, _⟩ => ⟨S_, .f32⟩
  | .hbm, ⟨52, _⟩ => ⟨S_, .f32⟩
  | .hbm, ⟨53, _⟩ => ⟨S128x8192x16x128, .i1⟩
  | .hbm, ⟨54, _⟩ => ⟨S128x8192x16x128, .f32⟩
  | .hbm, ⟨55, _⟩ => ⟨S128x8192x16x128, .f32⟩
  | .hbm, ⟨56, _⟩ => ⟨S128x8192x16x128, .f32⟩
  | .hbm, ⟨57, _⟩ => ⟨S_, .f32⟩
  | .hbm, ⟨58, _⟩ => ⟨S128x16x128, .f32⟩
  | .hbm, ⟨59, _⟩ => ⟨S128x1x16x128, .f32⟩
  | .hbm, ⟨60, _⟩ => ⟨S8192, .i32⟩
  | .hbm, ⟨61, _⟩ => ⟨S8192x1, .i32⟩
  | .hbm, ⟨62, _⟩ => ⟨S1x8192, .i32⟩
  | .hbm, ⟨63, _⟩ => ⟨S8192x8192, .i32⟩
  | .hbm, ⟨64, _⟩ => ⟨S8192x8192, .i32⟩
  | .hbm, ⟨65, _⟩ => ⟨S8192x8192, .i1⟩
  | .hbm, ⟨66, _⟩ => ⟨S8192x8192x1x1, .i1⟩
  | .hbm, ⟨67, _⟩ => ⟨S1x8192x16x128, .f32⟩
  | .hbm, ⟨68, _⟩ => ⟨S_, .f32⟩
  | .hbm, ⟨69, _⟩ => ⟨S_, .f32⟩
  | .hbm, ⟨70, _⟩ => ⟨S8192x8192x16x128, .i1⟩
  | .hbm, ⟨71, _⟩ => ⟨S8192x8192x16x128, .f32⟩
  | .hbm, ⟨72, _⟩ => ⟨S8192x8192x16x128, .f32⟩
  | .hbm, ⟨73, _⟩ => ⟨S8192x8192x16x128, .f32⟩
  | .hbm, ⟨74, _⟩ => ⟨S_, .f32⟩
  | .hbm, ⟨75, _⟩ => ⟨S8192x16x128, .f32⟩
  | .hbm, ⟨76, _⟩ => ⟨S1x8192x16x128, .f32⟩
  | .hbm, ⟨77, _⟩ => ⟨S128x8192x16x128, .f32⟩
  | .hbm, ⟨78, _⟩ => ⟨S128x8192x16x128, .f32⟩
  | .hbm, ⟨79, _⟩ => ⟨S128x8192x16x128, .f32⟩
  | .hbm, ⟨80, _⟩ => ⟨S_, .f32⟩
  | .hbm, ⟨81, _⟩ => ⟨S_, .f32⟩
  | .hbm, ⟨82, _⟩ => ⟨S128x8192x16x128, .i1⟩
  | .hbm, ⟨83, _⟩ => ⟨S128x8192x16x128, .f32⟩
  | .hbm, ⟨84, _⟩ => ⟨S128x8192x16x128, .f32⟩
  | .hbm, ⟨85, _⟩ => ⟨S128x8192x16x128, .f32⟩
  | .hbm, ⟨86, _⟩ => ⟨S1x8192x16x128, .f32⟩
  | .hbm, ⟨87, _⟩ => ⟨S128x8192x16x128, .f32⟩
  | .hbm, ⟨88, _⟩ => ⟨S128x8192x16x128, .f32⟩
  | .hbm, ⟨89, _⟩ => ⟨S16x128x128x128, .f32⟩
  | .hbm, ⟨90, _⟩ => ⟨S16x128x128x128, .f32⟩
  | .hbm, ⟨91, _⟩ => ⟨S8192x8192, .bf16⟩
  | .hbm, ⟨92, _⟩ => ⟨S2x2048, .f32⟩
  | .hbm, ⟨93, _⟩ => ⟨S16x1x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S2x2048, .f32⟩
  | .local _ .vmem, ⟨9, _⟩ => ⟨S1x128, .f32⟩
  | .local _ .vmem, ⟨10, _⟩ => ⟨S16x2x128x128, .f32⟩
  | .local _ .vmem, ⟨11, _⟩ => ⟨S16x2x128x128, .f32⟩
  | .local _ .vmem, ⟨12, _⟩ => ⟨S128x2048, .bf16⟩
  | .local _ .vmem, ⟨13, _⟩ => ⟨S128x2048, .bf16⟩
  | .local _ .vmem, ⟨14, _⟩ => ⟨S128x8192, .bf16⟩
  | .local _ .vmem, ⟨15, _⟩ => ⟨S128x8192, .bf16⟩
  | .local _ .vmem, ⟨16, _⟩ => ⟨S2x2048, .f32⟩
  | .local _ .vmem, ⟨17, _⟩ => ⟨S16x1x128, .f32⟩
  | .local _ .vmem, ⟨18, _⟩ => ⟨S16x128x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_3 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_v53 : Ref sig .tc := ⟨.hbm, 73, rfl⟩
abbrev main_cst_6 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_7 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66_0 : Ref sig .tc := ⟨.hbm, 91, rfl⟩
abbrev main_v66_1 : Ref sig .tc := ⟨.hbm, 92, rfl⟩
abbrev main_v66_2 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c1_i32 : BitVec 32 := 1#32
  let v1 : BitVec 32 := Scalar.addi c1_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c2_i32 : BitVec 32 := 2#32
  let v1 : BitVec 32 := Scalar.addi c2_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c3_i32 : BitVec 32 := 3#32
  let v1 : BitVec 32 := Scalar.addi c3_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S16x2x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S2x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S16x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "masked" => some ⊥
  | _ => none
-- ==== ReferenceIdeal.lean ====
abbrev S8192x8192 : Shape := ⟨2, ![8192, 8192]⟩
abbrev S2x2048 : Shape := ⟨2, ![2, 2048]⟩
abbrev S1x128 : Shape := ⟨2, ![1, 128]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192x16x128 : Shape := ⟨3, ![8192, 16, 128]⟩
abbrev S8192 : Shape := ⟨1, ![8192]⟩
abbrev S8192x1 : Shape := ⟨2, ![8192, 1]⟩
abbrev S1x8192 : Shape := ⟨2, ![1, 8192]⟩
abbrev S8192x8192x1x1 : Shape := ⟨4, ![8192, 8192, 1, 1]⟩
abbrev S1x8192x16x128 : Shape := ⟨4, ![1, 8192, 16, 128]⟩
abbrev S8192x8192x16x128 : Shape := ⟨4, ![8192, 8192, 16, 128]⟩
abbrev S8192x1x16x128 : Shape := ⟨4, ![8192, 1, 16, 128]⟩
abbrev S8192x8192x16 : Shape := ⟨3, ![8192, 8192, 16]⟩
abbrev S16x128x8192 : Shape := ⟨3, ![16, 128, 8192]⟩
abbrev S16x128 : Shape := ⟨2, ![16, 128]⟩
abbrev S8192x16 : Shape := ⟨2, ![8192, 16]⟩
abbrev S8192x16x1 : Shape := ⟨3, ![8192, 16, 1]⟩
abbrev S1x16x128 : Shape := ⟨3, ![1, 16, 128]⟩
abbrev S128 : Shape := ⟨1, ![128]⟩
abbrev S16x8192x8192 : Shape := ⟨3, ![16, 8192, 8192]⟩
abbrev S1x1x128 : Shape := ⟨3, ![1, 1, 128]⟩
abbrev S15x1x128 : Shape := ⟨3, ![15, 1, 128]⟩
abbrev S16x1x128 : Shape := ⟨3, ![16, 1, 128]⟩

abbrev nBuf : Space → Nat
  | .hbm => 282
  | .vmem => 0
  | .smem => 0
  | _ => 0

abbrev hbmTy0_0 (i : Nat) : BufTy := match i % 128 with
  | 0 => ⟨S8192x8192, .f32⟩
  | 1 => ⟨S2x2048, .f32⟩
  | 2 => ⟨S1x128, .f32⟩
  | 3 => ⟨S8192x2048, .bf16⟩
  | 4 => ⟨S8192x2048, .f32⟩
  | 5 => ⟨S8192x2048, .f32⟩
  | 6 => ⟨S8192x2048, .f32⟩
  | 7 => ⟨S8192x2048, .f32⟩
  | 8 => ⟨S1x2048, .f32⟩
  | 9 => ⟨S2048, .f32⟩
  | 10 => ⟨S1x2048, .f32⟩
  | 11 => ⟨S2048, .f32⟩
  | 12 => ⟨S8192x2048, .f32⟩
  | 13 => ⟨S8192x2048, .f32⟩
  | 14 => ⟨S_, .f32⟩
  | 15 => ⟨S8192x2048, .f32⟩
  | 16 => ⟨S8192x2048, .f32⟩
  | 17 => ⟨S_, .f32⟩
  | 18 => ⟨S8192x2048, .f32⟩
  | 19 => ⟨S8192x2048, .f32⟩
  | 20 => ⟨S_, .f32⟩
  | 21 => ⟨S8192x2048, .f32⟩
  | 22 => ⟨S8192x2048, .f32⟩
  | 23 => ⟨S8192x2048, .f32⟩
  | 24 => ⟨S8192x2048, .f32⟩
  | 25 => ⟨S_, .f32⟩
  | 26 => ⟨S8192x2048, .f32⟩
  | 27 => ⟨S8192x2048, .f32⟩
  | 28 => ⟨S8192x16x128, .f32⟩
  | 29 => ⟨S2048, .f32⟩
  | 30 => ⟨S2048, .f32⟩
  | 31 => ⟨S2048, .f32⟩
  | 32 => ⟨S2048, .f32⟩
  | 33 => ⟨S2048, .f32⟩
  | 34 => ⟨S2048, .f32⟩
  | 35 => ⟨S_, .f32⟩
  | 36 => ⟨S2048, .f32⟩
  | 37 => ⟨S2048, .f32⟩
  | 38 => ⟨S_, .f32⟩
  | 39 => ⟨S2048, .f32⟩
  | 40 => ⟨S2048, .f32⟩
  | 41 => ⟨S8192x2048, .f32⟩
  | 42 => ⟨S8192x2048, .f32⟩
  | 43 => ⟨S_, .f32⟩
  | 44 => ⟨S8192x2048, .f32⟩
  | 45 => ⟨S8192x2048, .f32⟩
  | 46 => ⟨S_, .f32⟩
  | 47 => ⟨S8192x2048, .f32⟩
  | 48 => ⟨S8192x2048, .f32⟩
  | 49 => ⟨S_, .f32⟩
  | 50 => ⟨S8192x2048, .f32⟩
  | 51 => ⟨S8192x2048, .f32⟩
  | 52 => ⟨S8192x2048, .f32⟩
  | 53 => ⟨S1x2048, .f32⟩
  | 54 => ⟨S8192x2048, .f32⟩
  | 55 => ⟨S8192x2048, .f32⟩
  | 56 => ⟨S1x2048, .f32⟩
  | 57 => ⟨S8192x2048, .f32⟩
  | 58 => ⟨S8192x2048, .f32⟩
  | 59 => ⟨S_, .f32⟩
  | 60 => ⟨S8192x2048, .f32⟩
  | 61 => ⟨S8192x2048, .f32⟩
  | 62 => ⟨S8192x16x128, .f32⟩
  | 63 => ⟨S8192x2048, .f32⟩
  | 64 => ⟨S8192x16x128, .f32⟩
  | 65 => ⟨S8192x16x128, .f32⟩
  | 66 => ⟨S8192, .i32⟩
  | 67 => ⟨S8192x1, .i32⟩
  | 68 => ⟨S1x8192, .i32⟩
  | 69 => ⟨S8192x8192, .i32⟩
  | 70 => ⟨S8192x8192, .i32⟩
  | 71 => ⟨S8192x8192, .i1⟩
  | 72 => ⟨S8192x8192x1x1, .i1⟩
  | 73 => ⟨S8192, .i32⟩
  | 74 => ⟨S8192x1, .i32⟩
  | 75 => ⟨S1x8192, .i32⟩
  | 76 => ⟨S8192x8192, .i32⟩
  | 77 => ⟨S8192x8192, .i32⟩
  | 78 => ⟨S8192x8192, .i1⟩
  | 79 => ⟨S8192x8192x1x1, .i1⟩
  | 80 => ⟨S1x8192x16x128, .f32⟩
  | 81 => ⟨S_, .f32⟩
  | 82 => ⟨S_, .f32⟩
  | 83 => ⟨S8192x8192x16x128, .i1⟩
  | 84 => ⟨S8192x8192x16x128, .f32⟩
  | 85 => ⟨S8192x8192x16x128, .f32⟩
  | 86 => ⟨S8192x8192x16x128, .f32⟩
  | 87 => ⟨S_, .f32⟩
  | 88 => ⟨S8192x8192x16x128, .f32⟩
  | 89 => ⟨S_, .f32⟩
  | 90 => ⟨S8192x16x128, .f32⟩
  | 91 => ⟨S8192x1x16x128, .f32⟩
  | 92 => ⟨S1x8192x16x128, .f32⟩
  | 93 => ⟨S8192x8192x16x128, .f32⟩
  | 94 => ⟨S8192x8192x16x128, .f32⟩
  | 95 => ⟨S8192x8192x16x128, .f32⟩
  | 96 => ⟨S_, .f32⟩
  | 97 => ⟨S_, .f32⟩
  | 98 => ⟨S8192x8192x16x128, .i1⟩
  | 99 => ⟨S8192x8192x16x128, .f32⟩
  | 100 => ⟨S8192x8192x16x128, .f32⟩
  | 101 => ⟨S_, .f32⟩
  | 102 => ⟨S8192x8192x16x128, .f32⟩
  | 103 => ⟨S8192x8192x16x128, .f32⟩
  | 104 => ⟨S8192x1x16x128, .f32⟩
  | 105 => ⟨S1x8192x16x128, .f32⟩
  | 106 => ⟨S8192x8192x16x128, .f32⟩
  | 107 => ⟨S8192x8192x16x128, .f32⟩
  | 108 => ⟨S8192x8192x16x128, .f32⟩
  | 109 => ⟨S8192x8192x16x128, .f32⟩
  | 110 => ⟨S_, .f32⟩
  | 111 => ⟨S8192x8192x16, .f32⟩
  | 112 => ⟨S16x128x8192, .f32⟩
  | 113 => ⟨S8192x16x128, .f32⟩
  | 114 => ⟨S16x128, .f32⟩
  | 115 => ⟨S8192x16x128, .f32⟩
  | 116 => ⟨S_, .f32⟩
  | 117 => ⟨S8192x16, .f32⟩
  | 118 => ⟨S8192x16x1, .f32⟩
  | 119 => ⟨S_, .f32⟩
  | 120 => ⟨S8192x16x1, .f32⟩
  | 121 => ⟨S8192x16x1, .f32⟩
  | 122 => ⟨S_, .f32⟩
  | 123 => ⟨S8192x16x1, .f32⟩
  | 124 => ⟨S8192x16x1, .f32⟩
  | 125 => ⟨S8192x16x1, .f32⟩
  | 126 => ⟨S8192x16x1, .f32⟩
  | 127 => ⟨S_, .f32⟩
  | _ => ⟨S8192x8192, .f32⟩

abbrev hbmTy0_1 (i : Nat) : BufTy := match i % 128 with
  | 0 => ⟨S8192x16x1, .f32⟩
  | 1 => ⟨S8192x16x1, .f32⟩
  | 2 => ⟨S8192x16x128, .f32⟩
  | 3 => ⟨S8192x16x128, .f32⟩
  | 4 => ⟨S1x16x128, .f32⟩
  | 5 => ⟨S8192x16x128, .f32⟩
  | 6 => ⟨S8192x16x128, .f32⟩
  | 7 => ⟨S8192x16x128, .f32⟩
  | 8 => ⟨S8192x16x128, .f32⟩
  | 9 => ⟨S8192x16x128, .f32⟩
  | 10 => ⟨S_, .f32⟩
  | 11 => ⟨S8192x16x128, .f32⟩
  | 12 => ⟨S8192x16x128, .f32⟩
  | 13 => ⟨S_, .f32⟩
  | 14 => ⟨S8192x16x128, .f32⟩
  | 15 => ⟨S8192x16x128, .f32⟩
  | 16 => ⟨S_, .f32⟩
  | 17 => ⟨S8192x16x128, .f32⟩
  | 18 => ⟨S8192x16x128, .f32⟩
  | 19 => ⟨S8192x16x128, .f32⟩
  | 20 => ⟨S8192x16x128, .f32⟩
  | 21 => ⟨S8192x16x128, .f32⟩
  | 22 => ⟨S8192x2048, .f32⟩
  | 23 => ⟨S8192x2048, .f32⟩
  | 24 => ⟨S8192x16x128, .f32⟩
  | 25 => ⟨S8192x16x128, .f32⟩
  | 26 => ⟨S8192x16x128, .f32⟩
  | 27 => ⟨S8192x16x128, .f32⟩
  | 28 => ⟨S8192x16x128, .f32⟩
  | 29 => ⟨S8192x16x128, .f32⟩
  | 30 => ⟨S8192x16x128, .f32⟩
  | 31 => ⟨S8192x2048, .f32⟩
  | 32 => ⟨S8192x16x128, .f32⟩
  | 33 => ⟨S_, .f32⟩
  | 34 => ⟨S16x128, .f32⟩
  | 35 => ⟨S1x16x128, .f32⟩
  | 36 => ⟨S8192x16x128, .f32⟩
  | 37 => ⟨S8192x16x128, .f32⟩
  | 38 => ⟨S_, .f32⟩
  | 39 => ⟨S16x128, .f32⟩
  | 40 => ⟨S8192x16x128, .f32⟩
  | 41 => ⟨S_, .f32⟩
  | 42 => ⟨S8192x16, .f32⟩
  | 43 => ⟨S8192x16x1, .f32⟩
  | 44 => ⟨S8192x16x128, .f32⟩
  | 45 => ⟨S8192x16x128, .f32⟩
  | 46 => ⟨S8192x16x1, .f32⟩
  | 47 => ⟨S_, .f32⟩
  | 48 => ⟨S8192x16x1, .f32⟩
  | 49 => ⟨S8192x16x1, .f32⟩
  | 50 => ⟨S_, .f32⟩
  | 51 => ⟨S8192x16, .f32⟩
  | 52 => ⟨S8192x16x128, .f32⟩
  | 53 => ⟨S8192x16x128, .f32⟩
  | 54 => ⟨S8192x16x128, .f32⟩
  | 55 => ⟨S8192x16x128, .f32⟩
  | 56 => ⟨S8192x16x128, .f32⟩
  | 57 => ⟨S_, .f32⟩
  | 58 => ⟨S128, .f32⟩
  | 59 => ⟨S1x128, .f32⟩
  | 60 => ⟨S16x128x8192, .f32⟩
  | 61 => ⟨S16x8192x8192, .f32⟩
  | 62 => ⟨S8192x8192x16, .f32⟩
  | 63 => ⟨S16x128x8192, .f32⟩
  | 64 => ⟨S8192x16x128, .f32⟩
  | 65 => ⟨S8192x8192x16x128, .f32⟩
  | 66 => ⟨S8192x8192x16x128, .f32⟩
  | 67 => ⟨S8192x8192x16x128, .f32⟩
  | 68 => ⟨S8192x8192x16x128, .f32⟩
  | 69 => ⟨S8192x8192x16x128, .f32⟩
  | 70 => ⟨S_, .f32⟩
  | 71 => ⟨S8192x16x128, .f32⟩
  | 72 => ⟨S1x8192x16x128, .f32⟩
  | 73 => ⟨S8192x8192x16x128, .f32⟩
  | 74 => ⟨S8192x8192x16x128, .f32⟩
  | 75 => ⟨S_, .f32⟩
  | 76 => ⟨S8192x16x128, .f32⟩
  | 77 => ⟨S8192x1x16x128, .f32⟩
  | 78 => ⟨S_, .f32⟩
  | 79 => ⟨S8192x16x128, .f32⟩
  | 80 => ⟨S_, .f32⟩
  | 81 => ⟨S8192x16x128, .f32⟩
  | 82 => ⟨S8192x8192x16x128, .f32⟩
  | 83 => ⟨S_, .f32⟩
  | 84 => ⟨S8192x8192x16x128, .f32⟩
  | 85 => ⟨S8192x8192x16x128, .f32⟩
  | 86 => ⟨S_, .f32⟩
  | 87 => ⟨S8192x16x128, .f32⟩
  | 88 => ⟨S8192x1x16x128, .f32⟩
  | 89 => ⟨S8192x8192x16x128, .f32⟩
  | 90 => ⟨S_, .f32⟩
  | 91 => ⟨S8192x16x128, .f32⟩
  | 92 => ⟨S1x8192x16x128, .f32⟩
  | 93 => ⟨S_, .f32⟩
  | 94 => ⟨S8192x16x128, .f32⟩
  | 95 => ⟨S_, .f32⟩
  | 96 => ⟨S8192x16x128, .f32⟩
  | 97 => ⟨S8192x16x128, .f32⟩
  | 98 => ⟨S8192x8192x16x128, .f32⟩
  | 99 => ⟨S_, .f32⟩
  | 100 => ⟨S8192x8192x16x128, .f32⟩
  | 101 => ⟨S8192x8192x16x128, .f32⟩
  | 102 => ⟨S_, .f32⟩
  | 103 => ⟨S8192x16x128, .f32⟩
  | 104 => ⟨S1x8192x16x128, .f32⟩
  | 105 => ⟨S_, .f32⟩
  | 106 => ⟨S8192x16x128, .f32⟩
  | 107 => ⟨S8192x2048, .f32⟩
  | 108 => ⟨S8192x2048, .f32⟩
  | 109 => ⟨S8192x2048, .f32⟩
  | 110 => ⟨S8192x2048, .f32⟩
  | 111 => ⟨S8192x2048, .f32⟩
  | 112 => ⟨S8192x2048, .f32⟩
  | 113 => ⟨S_, .f32⟩
  | 114 => ⟨S2048, .f32⟩
  | 115 => ⟨S1x2048, .f32⟩
  | 116 => ⟨S_, .f32⟩
  | 117 => ⟨S2048, .f32⟩
  | 118 => ⟨S8192x2048, .f32⟩
  | 119 => ⟨S8192x2048, .f32⟩
  | 120 => ⟨S8192x2048, .f32⟩
  | 121 => ⟨S_, .f32⟩
  | 122 => ⟨S2048, .f32⟩
  | 123 => ⟨S1x2048, .f32⟩
  | 124 => ⟨S_, .f32⟩
  | 125 => ⟨S2048, .f32⟩
  | 126 => ⟨S8192x2048, .f32⟩
  | 127 => ⟨S2048, .f32⟩
  | _ => ⟨S8192x8192, .f32⟩

abbrev hbmTy0_2 (i : Nat) : BufTy := match i % 128 with
  | 0 => ⟨S2048, .f32⟩
  | 1 => ⟨S2048, .f32⟩
  | 2 => ⟨S2048, .f32⟩
  | 3 => ⟨S2048, .f32⟩
  | 4 => ⟨S2048, .f32⟩
  | 5 => ⟨S2048, .f32⟩
  | 6 => ⟨S2048, .f32⟩
  | 7 => ⟨S2048, .f32⟩
  | 8 => ⟨S2048, .f32⟩
  | 9 => ⟨S8192x2048, .f32⟩
  | 10 => ⟨S_, .f32⟩
  | 11 => ⟨S8192x2048, .f32⟩
  | 12 => ⟨S8192x2048, .f32⟩
  | 13 => ⟨S8192x2048, .f32⟩
  | 14 => ⟨S8192x2048, .f32⟩
  | 15 => ⟨S8192x2048, .f32⟩
  | 16 => ⟨S8192x2048, .f32⟩
  | 17 => ⟨S8192x8192, .f32⟩
  | 18 => ⟨S8192x8192, .bf16⟩
  | 19 => ⟨S1x2048, .f32⟩
  | 20 => ⟨S1x2048, .f32⟩
  | 21 => ⟨S2x2048, .f32⟩
  | 22 => ⟨S1x1x128, .f32⟩
  | 23 => ⟨S_, .f32⟩
  | 24 => ⟨S15x1x128, .f32⟩
  | 25 => ⟨S16x1x128, .f32⟩
  | _ => ⟨S8192x8192, .f32⟩

abbrev hbmTy (i : Nat) : BufTy := match i / 128 with
  | 0 => hbmTy0_0 i
  | 1 => hbmTy0_1 i
  | 2 => hbmTy0_2 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v8_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v8_1 : Ref sig .tc := ⟨.hbm, 23, rfl⟩
abbrev main_v8_0 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_0 : Ref sig .tc := ⟨.hbm, 35, rfl⟩
abbrev main_v18 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_6 : Ref sig .tc := ⟨.hbm, 81, rfl⟩
abbrev main_call1_v0 : Ref sig .tc := ⟨.hbm, 82, rfl⟩
abbrev main_v58_1 : Ref sig .tc := ⟨.hbm, 83, rfl⟩
abbrev main_call1_v2 : Ref sig .tc := ⟨.hbm, 84, rfl⟩
abbrev main_call1_v3 : Ref sig .tc := ⟨.hbm, 85, rfl⟩
abbrev main_v58_0 : Ref sig .tc := ⟨.hbm, 86, rfl⟩
abbrev main_call1_cst : Ref sig .tc := ⟨.hbm, 87, rfl⟩
abbrev main_v58_2 : Ref sig .tc := ⟨.hbm, 88, rfl⟩
abbrev main_cst_7 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_8 : Ref sig .tc := ⟨.hbm, 96, rfl⟩
abbrev main_call2_v0 : Ref sig .tc := ⟨.hbm, 97, rfl⟩
abbrev main_v65_1 : Ref sig .tc := ⟨.hbm, 98, rfl⟩
abbrev main_call2_v2 : Ref sig .tc := ⟨.hbm, 99, rfl⟩
abbrev main_v65_0 : Ref sig .tc := ⟨.hbm, 100, rfl⟩
abbrev main_call2_cst : Ref sig .tc := ⟨.hbm, 101, rfl⟩
abbrev main_v65_2 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_9 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_10 : Ref sig .tc := ⟨.hbm, 116, rfl⟩
abbrev main_v78 : Ref sig .tc := ⟨.hbm, 117, rfl⟩
abbrev main_v79 : Ref sig .tc := ⟨.hbm, 118, rfl⟩
abbrev main_cst_11 : Ref sig .tc := ⟨.hbm, 119, rfl⟩
abbrev main_v80 : Ref sig .tc := ⟨.hbm, 120, rfl⟩
abbrev main_v81 : Ref sig .tc := ⟨.hbm, 121, rfl⟩
abbrev main_cst_12 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_13 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_call3_v0 : Ref sig .tc := ⟨.hbm, 136, rfl⟩
abbrev main_call3_v1 : Ref sig .tc := ⟨.hbm, 137, rfl⟩
abbrev main_call3_cst : Ref sig .tc := ⟨.hbm, 138, rfl⟩
abbrev main_call3_v2 : Ref sig .tc := ⟨.hbm, 139, rfl⟩
abbrev main_call3_v3 : Ref sig .tc := ⟨.hbm, 140, rfl⟩
abbrev main_call3_cst_0 : Ref sig .tc := ⟨.hbm, 141, rfl⟩
abbrev main_call3_v4 : Ref sig .tc := ⟨.hbm, 142, rfl⟩
abbrev main_v94_2 : Ref sig .tc := ⟨.hbm, 143, rfl⟩
abbrev main_call3_cst_1 : Ref sig .tc := ⟨.hbm, 144, rfl⟩
abbrev main_call3_v6 : Ref sig .tc := ⟨.hbm, 145, rfl⟩
abbrev main_call3_v7 : Ref sig .tc := ⟨.hbm, 146, rfl⟩
abbrev main_v94_1 : Ref sig .tc := ⟨.hbm, 147, rfl⟩
abbrev main_v94_0 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_call4_v0 : Ref sig .tc := ⟨.hbm, 155, rfl⟩
abbrev main_call4_v1 : Ref sig .tc := ⟨.hbm, 156, rfl⟩
abbrev main_call4_v2 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_cst_14 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_cst_15 : Ref sig .tc := ⟨.hbm, 166, rfl⟩
abbrev main_v108 : Ref sig .tc := ⟨.hbm, 167, rfl⟩
abbrev main_v109 : Ref sig .tc := ⟨.hbm, 168, rfl⟩
abbrev main_cst_16 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_cst_17 : Ref sig .tc := ⟨.hbm, 175, rfl⟩
abbrev main_v115 : Ref sig .tc := ⟨.hbm, 176, rfl⟩
abbrev main_v116 : Ref sig .tc := ⟨.hbm, 177, rfl⟩
abbrev main_cst_18 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_cst_19 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_cst_20 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_cst_21 : Ref sig .tc := ⟨.hbm, 203, rfl⟩
abbrev main_v139 : Ref sig .tc := ⟨.hbm, 204, rfl⟩
abbrev main_v140 : Ref sig .tc := ⟨.hbm, 205, rfl⟩
abbrev main_cst_22 : Ref sig .tc := ⟨.hbm, 206, rfl⟩
abbrev main_v141 : Ref sig .tc := ⟨.hbm, 207, rfl⟩
abbrev main_cst_23 : Ref sig .tc := ⟨.hbm, 208, rfl⟩
abbrev main_v142 : Ref sig .tc := ⟨.hbm, 209, rfl⟩
abbrev main_v143 : Ref sig .tc := ⟨.hbm, 210, rfl⟩
abbrev main_call5_cst : Ref sig .tc := ⟨.hbm, 211, rfl⟩
abbrev main_call5_v0 : Ref sig .tc := ⟨.hbm, 212, rfl⟩
abbrev main_v144 : Ref sig .tc := ⟨.hbm, 213, rfl⟩
abbrev main_cst_24 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_cst_25 : Ref sig .tc := ⟨.hbm, 218, rfl⟩
abbrev main_v148 : Ref sig .tc := ⟨.hbm, 219, rfl⟩
abbrev main_v149 : Ref sig .tc := ⟨.hbm, 220, rfl⟩
abbrev main_cst_26 : Ref sig .tc := ⟨.hbm, 221, rfl⟩
abbrev main_v150 : Ref sig .tc := ⟨.hbm, 222, rfl⟩
abbrev main_cst_27 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_call6_cst : Ref sig .tc := ⟨.hbm, 227, rfl⟩
abbrev main_call6_v0 : Ref sig .tc := ⟨.hbm, 228, rfl⟩
abbrev main_call6_v1 : Ref sig .tc := ⟨.hbm, 229, rfl⟩
abbrev main_call6_cst_0 : Ref sig .tc := ⟨.hbm, 230, rfl⟩
abbrev main_call6_v2 : Ref sig .tc := ⟨.hbm, 231, rfl⟩
abbrev main_v154 : Ref sig .tc := ⟨.hbm, 232, rfl⟩
abbrev main_cst_28 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_cst_29 : Ref sig .tc := ⟨.hbm, 241, rfl⟩
abbrev main_v162 : Ref sig .tc := ⟨.hbm, 242, rfl⟩
abbrev main_v163 : Ref sig .tc := ⟨.hbm, 243, rfl⟩
abbrev main_cst_30 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_cst_31 : Ref sig .tc := ⟨.hbm, 249, rfl⟩
abbrev main_v168 : Ref sig .tc := ⟨.hbm, 250, rfl⟩
abbrev main_v169 : Ref sig .tc := ⟨.hbm, 251, rfl⟩
abbrev main_cst_32 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_cst_33 : Ref sig .tc := ⟨.hbm, 266, rfl⟩
abbrev main_v183 : Ref sig .tc := ⟨.hbm, 267, rfl⟩
abbrev main_v184 : Ref sig .tc := ⟨.hbm, 268, rfl⟩
abbrev main_call7_v0 : Ref sig .tc := ⟨.hbm, 269, rfl⟩
abbrev main_call7_v1 : Ref sig .tc := ⟨.hbm, 270, rfl⟩
abbrev main_call7_v2 : Ref sig .tc := ⟨.hbm, 271, rfl⟩
abbrev main_v185 : Ref sig .tc := ⟨.hbm, 272, rfl⟩
abbrev main_v186 : Ref sig .tc := ⟨.hbm, 273, rfl⟩
abbrev main_v187 : Ref sig .tc := ⟨.hbm, 274, rfl⟩
abbrev main_v188 : Ref sig .tc := ⟨.hbm, 275, rfl⟩
abbrev main_v189 : Ref sig .tc := ⟨.hbm, 276, rfl⟩
abbrev main_v190 : Ref sig .tc := ⟨.hbm, 277, rfl⟩
abbrev main_v191 : Ref sig .tc := ⟨.hbm, 278, rfl⟩
abbrev main_cst_34 : Ref sig .tc := ⟨.hbm, 279, rfl⟩
abbrev main_v192 : Ref sig .tc := ⟨.hbm, 280, rfl⟩
abbrev main_v193 : Ref sig .tc := ⟨.hbm, 281, rfl⟩

abbrev nD : Nat := 1
abbrev τ : Topo := Topo.v7x

variable {F : FTy → Type} [FloatOps F]
-- ==== Kernel2.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S1408x2048 : Shape := ⟨2, ![1408, 2048]⟩
abbrev S1024x1408 : Shape := ⟨2, ![1024, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S_, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S8192x5632, .f32⟩
  | .hbm, ⟨8, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8192x2048 : Shape := ⟨2, ![8192, 2048]⟩
abbrev S8192x5632 : Shape := ⟨2, ![8192, 5632]⟩
abbrev S2048x5632 : Shape := ⟨2, ![2048, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S_, .f32⟩
  | .hbm, ⟨3, _⟩ => ⟨S2048x5632, .f32⟩
  | .hbm, ⟨4, _⟩ => ⟨S8192x2048, .f32⟩
  | .hbm, ⟨5, _⟩ => ⟨S8192x5632, .f32⟩
  | .hbm, ⟨6, _⟩ => ⟨S8192x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x5632 : Shape := ⟨2, ![8192, 5632]⟩
abbrev S2048x11264 : Shape := ⟨2, ![2048, 11264]⟩
abbrev S8192x2048 : Shape := ⟨2, ![8192, 2048]⟩
abbrev S1024x1408 : Shape := ⟨2, ![1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S2048x11264, .bf16⟩
  | .hbm, ⟨3, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 8], ![false, false, false]⟩

def k0_cond4 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg2 c0_i32
  let c0_i32_0 : BitVec 32 := 0#32
  let v1 : BitVec 32 := Scalar.subi arg2 c0_i32_0
  let c3_i32 : BitVec 32 := 3#32
  let v2 : BitVec 32 := Scalar.minsi v1 c3_i32
  let c0_i32_1 : BitVec 32 := 0#32
  let v3 : BitVec 32 := Scalar.addi c0_i32_1 v2
  let c0_i32_2 : BitVec 32 := 0#32
  let v4 : BitVec 32 := Scalar.select v0 v3 c0_i32_2
  let c4_i32 : BitVec 32 := 4#32
  let v5 : BitVec 1 := Scalar.cmpi .sge arg2 c4_i32
  let c4_i32_3 : BitVec 32 := 4#32
  let v6 : BitVec 32 := Scalar.subi arg2 c4_i32_3
  let c3_i32_4 : BitVec 32 := 3#32
  let v7 : BitVec 32 := Scalar.minsi v6 c3_i32_4
  let c4_i32_5 : BitVec 32 := 4#32
  let v8 : BitVec 32 := Scalar.addi c4_i32_5 v7
  let v9 : BitVec 32 := Scalar.select v5 v8 v4
  let c0_i32_6 : BitVec 32 := 0#32
  ![arg0.toNat, v9.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S8192x5632 : Shape := ⟨2, ![8192, 5632]⟩
abbrev S2048x11264 : Shape := ⟨2, ![2048, 11264]⟩
abbrev S_ : Shape := ⟨0, ![]⟩
abbrev S8192x2048 : Shape := ⟨2, ![8192, 2048]⟩
abbrev S8192x11264 : Shape := ⟨2, ![8192, 11264]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S2048x11264, .bf16⟩
  | .hbm, ⟨3, _⟩ => ⟨S_, .f32⟩
  | .hbm, ⟨4, _⟩ => ⟨S8192x2048, .f32⟩
  | .hbm, ⟨5, _⟩ => ⟨S2048x11264, .f32⟩
  | .hbm, ⟨6, _⟩ => ⟨S8192x11264, .f32⟩
  | .hbm, ⟨7, _⟩ => ⟨S8192x5632, .f32⟩
  | .hbm, ⟨8, _⟩ => ⟨S8192x5632, .f32⟩
  | .hbm, ⟨9, _⟩ => ⟨S8192x11264, .f32⟩
  | .hbm, ⟨10, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S8192x8192 : Shape := ⟨2, ![8192, 8192]⟩
abbrev S8192x4096 : Shape := ⟨2, ![8192, 4096]⟩
abbrev S22592x2048 : Shape := ⟨2, ![22592, 2048]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S22592x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 6], ![false, false, false]⟩

def k0_cond4 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg2 c0_i32
  let c0_i32_0 : BitVec 32 := 0#32
  let v1 : BitVec 32 := Scalar.subi arg2 c0_i32_0
  let c3_i32 : BitVec 32 := 3#32
  let v2 : BitVec 32 := Scalar.minsi v1 c3_i32
  let c0_i32_1 : BitVec 32 := 0#32
  let v3 : BitVec 32 := Scalar.addi c0_i32_1 v2
  let c0_i32_2 : BitVec 32 := 0#32
  let v4 : BitVec 32 := Scalar.select v0 v3 c0_i32_2
  let c4_i32 : BitVec 32 := 4#32
  let v5 : BitVec 1 := Scalar.cmpi .sge arg2 c4_i32
  let c4_i32_3 : BitVec 32 := 4#32
  let v6 : BitVec 32 := Scalar.subi arg2 c4_i32_3
  let c1_i32 : BitVec 32 := 1#32
  let v7 : BitVec 32 := Scalar.minsi v6 c1_i32
  let c4_i32_4 : BitVec 32 := 4#32
  let v8 : BitVec 32 := Scalar.addi c4_i32_4 v7
  let v9 : BitVec 32 := Scalar.select v5 v8 v4
  let c0_i32_5 : BitVec 32 := 0#32
  ![v9.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8192x8192 : Shape := ⟨2, ![8192, 8192]⟩
abbrev S8192x4096 : Shape := ⟨2, ![8192, 4096]⟩
abbrev S22592x2048 : Shape := ⟨2, ![22592, 2048]⟩
abbrev S_ : Shape := ⟨0, ![]⟩
abbrev S8192x2048 : Shape := ⟨2, ![8192, 2048]⟩
abbrev S12288x2048 : Shape := ⟨2, ![12288, 2048]⟩
abbrev S8192x12288 : Shape := ⟨2, ![8192, 12288]⟩

abbrev nBuf : Space → Nat
  | .hbm => 12
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S22592x2048, .bf16⟩
  | .hbm, ⟨3, _⟩ => ⟨S_, .f32⟩
  | .hbm, ⟨4, _⟩ => ⟨S8192x2048, .f32⟩
  | .hbm, ⟨5, _⟩ => ⟨S12288x2048, .bf16⟩
  | .hbm, ⟨6, _⟩ => ⟨S12288x2048, .f32⟩
  | .hbm, ⟨7, _⟩ => ⟨S8192x12288, .f32⟩
  | .hbm, ⟨8, _⟩ => ⟨S8192x8192, .f32⟩
  | .hbm, ⟨9, _⟩ => ⟨S8192x4096, .f32⟩
  | .hbm, ⟨10, _⟩ => ⟨S8192x12288, .f32⟩
  | .hbm, ⟨11, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel6.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x2048 : Shape := ⟨2, ![8192, 2048]⟩
abbrev S8192x5632 : Shape := ⟨2, ![8192, 5632]⟩
abbrev S2048x5632 : Shape := ⟨2, ![2048, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S_, .f32⟩
  | .hbm, ⟨3, _⟩ => ⟨S2048x5632, .f32⟩
  | .hbm, ⟨4, _⟩ => ⟨S8192x2048, .f32⟩
  | .hbm, ⟨5, _⟩ => ⟨S8192x5632, .f32⟩
  | .hbm, ⟨6, _⟩ => ⟨S8192x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S2048x1024 : Shape := ⟨2, ![2048, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S2048x1024 : Shape := ⟨2, ![2048, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8192x4096 : Shape := ⟨2, ![8192, 4096]⟩
abbrev S8192x2048 : Shape := ⟨2, ![8192, 2048]⟩
abbrev S4096x2048 : Shape := ⟨2, ![4096, 2048]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x4096 : Shape := ⟨2, ![8192, 4096]⟩
abbrev S8192x2048 : Shape := ⟨2, ![8192, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S_, .f32⟩
  | .hbm, ⟨3, _⟩ => ⟨S4096x2048, .f32⟩
  | .hbm, ⟨4, _⟩ => ⟨S8192x4096, .f32⟩
  | .hbm, ⟨5, _⟩ => ⟨S8192x2048, .f32⟩
  | .hbm, ⟨6, _⟩ => ⟨S8192x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S8192x8192 : Shape := ⟨2, ![8192, 8192]⟩
abbrev S8192x2048 : Shape := ⟨2, ![8192, 2048]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x4096 : Shape := ⟨2, ![8192, 4096]⟩
abbrev S8192x2048 : Shape := ⟨2, ![8192, 2048]⟩
abbrev S4096x2048 : Shape := ⟨2, ![4096, 2048]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x4096 : Shape := ⟨2, ![8192, 4096]⟩
abbrev S8192x2048 : Shape := ⟨2, ![8192, 2048]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S_, .f32⟩
  | .hbm, ⟨3, _⟩ => ⟨S4096x2048, .f32⟩
  | .hbm, ⟨4, _⟩ => ⟨S8192x2048, .f32⟩
  | .hbm, ⟨5, _⟩ => ⟨S8192x4096, .f32⟩
  | .hbm, ⟨6, _⟩ => ⟨S8192x4096, .f32⟩
  | .hbm, ⟨7, _⟩ => ⟨S4096x2048, .f32⟩
  | .hbm, ⟨8, _⟩ => ⟨S4096x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8192x4096 : Shape := ⟨2, ![8192, 4096]⟩
abbrev S8192x2048 : Shape := ⟨2, ![8192, 2048]⟩
abbrev S4096x2048 : Shape := ⟨2, ![4096, 2048]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x4096 : Shape := ⟨2, ![8192, 4096]⟩
abbrev S8192x2048 : Shape := ⟨2, ![8192, 2048]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S_, .f32⟩
  | .hbm, ⟨3, _⟩ => ⟨S4096x2048, .f32⟩
  | .hbm, ⟨4, _⟩ => ⟨S8192x2048, .f32⟩
  | .hbm, ⟨5, _⟩ => ⟨S8192x4096, .f32⟩
  | .hbm, ⟨6, _⟩ => ⟨S8192x4096, .f32⟩
  | .hbm, ⟨7, _⟩ => ⟨S4096x2048, .f32⟩
  | .hbm, ⟨8, _⟩ => ⟨S4096x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S8192x128 : Shape := ⟨2, ![8192, 128]⟩
abbrev S8192x2048 : Shape := ⟨2, ![8192, 2048]⟩
abbrev S128x2048 : Shape := ⟨2, ![128, 2048]⟩
abbrev S1024x128 : Shape := ⟨2, ![1024, 128]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .bf16⟩
  | .hbm, ⟨1, _⟩ => ⟨S8192x2048, .bf16⟩
  | .hbm, ⟨2, _⟩ => ⟨S128x2048, .bf16⟩
  | .local _ .vmem, ⟨0, _⟩ => ⟨S1024x128, .bf16⟩
  | .local _ .vmem, ⟨1, _⟩ => ⟨S1024x128, .bf16⟩
  | .local _ .vmem, ⟨2, _⟩ => ⟨S1024x2048, .bf16⟩
  | .local _ .vmem, ⟨3, _⟩ => ⟨S1024x2048, .bf16⟩
  | .local _ .vmem, ⟨4, _⟩ => ⟨S128x2048, .bf16⟩
  | .local _ .vmem, ⟨5, _⟩ => ⟨S128x2048, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x128 : Shape := ⟨2, ![8192, 128]⟩
abbrev S8192x2048 : Shape := ⟨2, ![8192, 2048]⟩
abbrev S_ : Shape := ⟨0, ![]⟩
abbrev S128x2048 : Shape := ⟨2, ![128, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S8192x2048, .bf16⟩
  | .hbm, ⟨2, _⟩ => ⟨S_, .f32⟩
  | .hbm, ⟨3, _⟩ => ⟨S128x2048, .f32⟩
  | .hbm, ⟨4, _⟩ => ⟨S8192x2048, .f32⟩
  | .hbm, ⟨5, _⟩ => ⟨S8192x128, .f32⟩
  | .hbm, ⟨6, _⟩ => ⟨S8192x128, .f32⟩
  | .hbm, ⟨7, _⟩ => ⟨S128x2048, .f32⟩
  | .hbm, ⟨8, _⟩ => ⟨S128x2048, .bf16⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S8192x2048 : Shape := ⟨2, ![8192, 2048]⟩
abbrev S2048x2048 : Shape := ⟨2, ![2048, 2048]⟩
abbrev S2048x1024 : Shape := ⟨2, ![2048, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S8192x2048 : Shape := ⟨2, ![8192, 2048]⟩
abbrev S2048x2048 : Shape := ⟨2, ![2048, 2048]⟩
abbrev S2048x1024 : Shape := ⟨2, ![2048, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel20.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel21.lean ====
abbrev S8192x2048 : Shape := ⟨2, ![8192, 2048]⟩
abbrev S4096x2048 : Shape := ⟨2, ![4096, 2048]⟩
abbrev S8192x4096 : Shape := ⟨2, ![8192, 4096]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x2048 : Shape := ⟨2, ![8192, 2048]⟩
abbrev S4096x2048 : Shape := ⟨2, ![4096, 2048]⟩
abbrev S_ : Shape := ⟨0, ![]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S_, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | .hbm, ⟨7, _⟩ => ⟨S8192x4096, .f32⟩
  | .hbm, ⟨8, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S8192x2048 : Shape := ⟨2, ![8192, 2048]⟩
abbrev S2048x11264 : Shape := ⟨2, ![2048, 11264]⟩
abbrev S8192x11264 : Shape := ⟨2, ![8192, 11264]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel23.lean ====
abbrev S8192x5632 : Shape := ⟨2, ![8192, 5632]⟩
abbrev S5632x2048 : Shape := ⟨2, ![5632, 2048]⟩
abbrev S8192x2048 : Shape := ⟨2, ![8192, 2048]⟩
abbrev S512x5632 : Shape := ⟨2, ![512, 5632]⟩
abbrev S5632x1024 : Shape := ⟨2, ![5632, 1024]⟩
abbrev S512x1024 : Shape := ⟨2, ![512, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .f32⟩
  | .hbm, ⟨3, _⟩ => ⟨S5632x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel24.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel25.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel26.lean ====
abbrev S8192x4096 : Shape := ⟨2, ![8192, 4096]⟩
abbrev S4096x2048 : Shape := ⟨2, ![4096, 2048]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x4096, .f32⟩
  | .hbm, ⟨3, _⟩ => ⟨S4096x2048, .f32⟩
  | .hbm, ⟨4, _⟩ => ⟨S8192x2048, .f32⟩
  | .hbm, ⟨5, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel27.lean ====
abbrev S8192x2048 : Shape := ⟨2, ![8192, 2048]⟩
abbrev S22592x2048 : Shape := ⟨2, ![22592, 2048]⟩
abbrev S8192x8192 : Shape := ⟨2, ![8192, 8192]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S22592x2048, .bf16⟩
  | .hbm, ⟨2, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S8192x2048 : Shape := ⟨2, ![8192, 2048]⟩
abbrev S22592x2048 : Shape := ⟨2, ![22592, 2048]⟩
abbrev S8192x8192 : Shape := ⟨2, ![8192, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S22592x2048, .bf16⟩
  | .hbm, ⟨2, _⟩ => ⟨S8192x2048, .f32⟩
  | .hbm, ⟨3, _⟩ => ⟨S8192x2048, .bf16⟩
  | .hbm, ⟨4, _⟩ => ⟨S8192x2048, .f32⟩
  | .hbm, ⟨5, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel28.lean ====
abbrev S8192x2048 : Shape := ⟨2, ![8192, 2048]⟩
abbrev S22592x2048 : Shape := ⟨2, ![22592, 2048]⟩
abbrev S8192x4096 : Shape := ⟨2, ![8192, 4096]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S22592x2048, .bf16⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg0 c8_i32
  let c0_i32 : BitVec 32 := 0#32
  let v1 : BitVec 32 := Scalar.addi arg2 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S8192x2048 : Shape := ⟨2, ![8192, 2048]⟩
abbrev S22592x2048 : Shape := ⟨2, ![22592, 2048]⟩
abbrev S4096x2048 : Shape := ⟨2, ![4096, 2048]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S22592x2048, .bf16⟩
  | .hbm, ⟨2, _⟩ => ⟨S8192x2048, .f32⟩
  | .hbm, ⟨3, _⟩ => ⟨S4096x2048, .bf16⟩
  | .hbm, ⟨4, _⟩ => ⟨S4096x2048, .f32⟩
  | .hbm, ⟨5, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel29.lean ====
abbrev S8192x2048 : Shape := ⟨2, ![8192, 2048]⟩
abbrev S22592x2048 : Shape := ⟨2, ![22592, 2048]⟩
abbrev S8192x6144 : Shape := ⟨2, ![8192, 6144]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S22592x2048, .bf16⟩
  | .hbm, ⟨2, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg0 c12_i32
  let c0_i32 : BitVec 32 := 0#32
  let v1 : BitVec 32 := Scalar.addi arg2 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S8192x2048 : Shape := ⟨2, ![8192, 2048]⟩
abbrev S22592x2048 : Shape := ⟨2, ![22592, 2048]⟩
abbrev S6144x2048 : Shape := ⟨2, ![6144, 2048]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S22592x2048, .bf16⟩
  | .hbm, ⟨2, _⟩ => ⟨S8192x2048, .f32⟩
  | .hbm, ⟨3, _⟩ => ⟨S6144x2048, .bf16⟩
  | .hbm, ⟨4, _⟩ => ⟨S6144x2048, .f32⟩
  | .hbm, ⟨5, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel30.lean ====
abbrev S8192x2048 : Shape := ⟨2, ![8192, 2048]⟩
abbrev S128x2048 : Shape := ⟨2, ![128, 2048]⟩
abbrev S8192x128 : Shape := ⟨2, ![8192, 128]⟩
abbrev S1024x2048 : Shape := ⟨2, ![1024, 2048]⟩
abbrev S1024x128 : Shape := ⟨2, ![1024, 128]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S128x2048, .bf16⟩
  | .hbm, ⟨2, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x128, .f32⟩
  | .local _ .vmem, ⟨4, _⟩ => ⟨S1024x128, .f32⟩
  | .local _ .vmem, ⟨5, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S8192x2048 : Shape := ⟨2, ![8192, 2048]⟩
abbrev S128x2048 : Shape := ⟨2, ![128, 2048]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S128x2048, .bf16⟩
  | .hbm, ⟨2, _⟩ => ⟨S8192x2048, .f32⟩
  | .hbm, ⟨3, _⟩ => ⟨S128x2048, .f32⟩
  | .hbm, ⟨4, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel31.lean ====
abbrev S8192x2048 : Shape := ⟨2, ![8192, 2048]⟩
abbrev S4096x2048 : Shape := ⟨2, ![4096, 2048]⟩
abbrev S8192x4096 : Shape := ⟨2, ![8192, 4096]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S8192x2048 : Shape := ⟨2, ![8192, 2048]⟩
abbrev S4096x2048 : Shape := ⟨2, ![4096, 2048]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x2048, .f32⟩
  | .hbm, ⟨3, _⟩ => ⟨S4096x2048, .f32⟩
  | .hbm, ⟨4, _⟩ => ⟨S8192x4096, .f32⟩
  | .hbm, ⟨5, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel32.lean ====
abbrev S8192x4096 : Shape := ⟨2, ![8192, 4096]⟩
abbrev S8192x1024 : Shape := ⟨2, ![8192, 1024]⟩
abbrev S8192x128 : Shape := ⟨2, ![8192, 128]⟩
abbrev S8192x2048 : Shape := ⟨2, ![8192, 2048]⟩
abbrev S22592x2048 : Shape := ⟨2, ![22592, 2048]⟩
abbrev S128x2048 : Shape := ⟨2, ![128, 2048]⟩
abbrev S4096x2048 : Shape := ⟨2, ![4096, 2048]⟩
abbrev S1024x1024 : Shape := ⟨2, ![1024, 1024]⟩
abbrev S1024x128 : Shape := ⟨2, ![1024, 128]⟩
abbrev S128x1024 : Shape := ⟨2, ![128, 1024]⟩

abbrev nBuf : Space → Nat
  | .hbm => 11
  | .vmem => 23
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x1024, .bf16⟩
  | .hbm, ⟨3, _⟩ => ⟨S8192x128, .bf16⟩
  | .hbm, ⟨4, _⟩ => ⟨S8192x2048, .bf16⟩
  | .hbm, ⟨5, _⟩ => ⟨S8192x2048, .bf16⟩
  | .hbm, ⟨6, _⟩ => ⟨S22592x2048, .bf16⟩
  | .hbm, ⟨7, _⟩ => ⟨S128x2048, .bf16⟩
  | .hbm, ⟨8, _⟩ => ⟨S4096x2048, .bf16⟩
  | .hbm, ⟨9, _⟩ => ⟨S8192x2048, .f32⟩
  | .hbm, ⟨10, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x128, .bf16⟩
  | .local _ .vmem, ⟨7, _⟩ => ⟨S1024x128, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S128x1024, .bf16⟩
  | .local _ .vmem, ⟨15, _⟩ => ⟨S128x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 8, 11], ![false, false, false]⟩

def k0_cond8 (i : grid0.Coords) : BitVec 1 :=
  let arg2 : BitVec 32 := BitVec.ofNat 32 (i 2).val
  let c10_i32 : BitVec 32 := 10#32
  let v33 : BitVec 1 := Scalar.cmpi .eq arg2 c10_i32
  let v34 : BitVec 32 := Scalar.extui v33
  let c0_i32_13 : BitVec 32 := 0#32
  let v35 : BitVec 1 := Scalar.cmpi .ne v34 c0_i32_13
  v35

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.subi arg2 c5_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi arg2 c7_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.subi arg2 c9_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg2 c0_i32
  let c0_i32_0 : BitVec 32 := 0#32
  let v1 : BitVec 32 := Scalar.subi arg2 c0_i32_0
  let c3_i32 : BitVec 32 := 3#32
  let v2 : BitVec 32 := Scalar.minsi v1 c3_i32
  let c12_i32 : BitVec 32 := 12#32
  let v3 : BitVec 32 := Scalar.addi c12_i32 v2
  let c12_i32_1 : BitVec 32 := 12#32
  let v4 : BitVec 32 := Scalar.select v0 v3 c12_i32_1
  let c4_i32 : BitVec 32 := 4#32
  let v5 : BitVec 1 := Scalar.cmpi .sge arg2 c4_i32
  let c4_i32_2 : BitVec 32 := 4#32
  let v6 : BitVec 32 := Scalar.subi arg2 c4_i32_2
  let c0_i32_3 : BitVec 32 := 0#32
  let v7 : BitVec 32 := Scalar.minsi v6 c0_i32_3
  let c16_i32 : BitVec 32 := 16#32
  let v8 : BitVec 32 := Scalar.addi c16_i32 v7
  let v9 : BitVec 32 := Scalar.select v5 v8 v4
  let c5_i32 : BitVec 32 := 5#32
  let v10 : BitVec 1 := Scalar.cmpi .sge arg2 c5_i32
  let c5_i32_4 : BitVec 32 := 5#32
  let v11 : BitVec 32 := Scalar.subi arg2 c5_i32_4
  let c0_i32_5 : BitVec 32 := 0#32
  let v12 : BitVec 32 := Scalar.minsi v11 c0_i32_5
  let c17_i32 : BitVec 32 := 17#32
  let v13 : BitVec 32 := Scalar.addi c17_i32 v12
  let v14 : BitVec 32 := Scalar.select v10 v13 v9
  let c0_i32_6 : BitVec 32 := 0#32
  ![v14.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 1 := Scalar.cmpi .sge arg2 c6_i32
  let c6_i32_0 : BitVec 32 := 6#32
  let v1 : BitVec 32 := Scalar.subi arg2 c6_i32_0
  let c0_i32 : BitVec 32 := 0#32
  let v2 : BitVec 32 := Scalar.minsi v1 c0_i32
  let c0_i32_1 : BitVec 32 := 0#32
  let v3 : BitVec 32 := Scalar.addi c0_i32_1 v2
  let c0_i32_2 : BitVec 32 := 0#32
  let v4 : BitVec 32 := Scalar.select v0 v3 c0_i32_2
  let c0_i32_3 : BitVec 32 := 0#32
  ![v4.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 1 := Scalar.cmpi .sge arg2 c7_i32
  let c7_i32_0 : BitVec 32 := 7#32
  let v1 : BitVec 32 := Scalar.subi arg2 c7_i32_0
  let c1_i32 : BitVec 32 := 1#32
  let v2 : BitVec 32 := Scalar.minsi v1 c1_i32
  let c0_i32 : BitVec 32 := 0#32
  let v3 : BitVec 32 := Scalar.addi c0_i32 v2
  let c0_i32_1 : BitVec 32 := 0#32
  let v4 : BitVec 32 := Scalar.select v0 v3 c0_i32_1
  let c9_i32 : BitVec 32 := 9#32
  let v5 : BitVec 1 := Scalar.cmpi .sge arg2 c9_i32
  let c9_i32_2 : BitVec 32 := 9#32
  let v6 : BitVec 32 := Scalar.subi arg2 c9_i32_2
  let c1_i32_3 : BitVec 32 := 1#32
  let v7 : BitVec 32 := Scalar.minsi v6 c1_i32_3
  let c2_i32 : BitVec 32 := 2#32
  let v8 : BitVec 32 := Scalar.addi c2_i32 v7
  let v9 : BitVec 32 := Scalar.select v5 v8 v4
  let c0_i32_4 : BitVec 32 := 0#32
  ![v9.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== Reference32Ideal.lean ====
abbrev S8192x4096 : Shape := ⟨2, ![8192, 4096]⟩
abbrev S8192x1024 : Shape := ⟨2, ![8192, 1024]⟩
abbrev S8192x128 : Shape := ⟨2, ![8192, 128]⟩
abbrev S8192x2048 : Shape := ⟨2, ![8192, 2048]⟩
abbrev S22592x2048 : Shape := ⟨2, ![22592, 2048]⟩
abbrev S128x2048 : Shape := ⟨2, ![128, 2048]⟩
abbrev S4096x2048 : Shape := ⟨2, ![4096, 2048]⟩
abbrev S_ : Shape := ⟨0, ![]⟩
abbrev S6144x2048 : Shape := ⟨2, ![6144, 2048]⟩
abbrev S8192x6144 : Shape := ⟨2, ![8192, 6144]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x1024, .bf16⟩
  | .hbm, ⟨3, _⟩ => ⟨S8192x128, .bf16⟩
  | .hbm, ⟨4, _⟩ => ⟨S8192x2048, .bf16⟩
  | .hbm, ⟨5, _⟩ => ⟨S8192x2048, .bf16⟩
  | .hbm, ⟨6, _⟩ => ⟨S22592x2048, .bf16⟩
  | .hbm, ⟨7, _⟩ => ⟨S128x2048, .bf16⟩
  | .hbm, ⟨8, _⟩ => ⟨S4096x2048, .bf16⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S6144x2048, .bf16⟩
  | .hbm, ⟨13, _⟩ => ⟨S6144x2048, .f32⟩
  | .hbm, ⟨14, _⟩ => ⟨S8192x6144, .f32⟩
  | .hbm, ⟨15, _⟩ => ⟨S128x2048, .f32⟩
  | .hbm, ⟨16, _⟩ => ⟨S8192x128, .f32⟩
  | .hbm, ⟨17, _⟩ => ⟨S4096x2048, .f32⟩
  | .hbm, ⟨18, _⟩ => ⟨S8192x4096, .f32⟩
  | .hbm, ⟨19, _⟩ => ⟨S8192x4096, .f32⟩
  | .hbm, ⟨20, _⟩ => ⟨S8192x1024, .f32⟩
  | .hbm, ⟨21, _⟩ => ⟨S8192x1024, .f32⟩
  | .hbm, ⟨22, _⟩ => ⟨S8192x6144, .f32⟩
  | .hbm, ⟨23, _⟩ => ⟨S8192x128, .f32⟩
  | .hbm, ⟨24, _⟩ => ⟨S8192x2048, .f32⟩
  | .hbm, ⟨25, _⟩ => ⟨S8192x2048, .f32⟩
  | .hbm, ⟨26, _⟩ => ⟨S8192x4096, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Kernel33.lean ====
abbrev S2048x5648 : Shape := ⟨2, ![2048, 5648]⟩
abbrev S64x5648 : Shape := ⟨2, ![64, 5648]⟩

abbrev nBuf : Space → Nat
  | .hbm => 7
  | .vmem => 14
  | .smem => 0
  | _ => 0

abbrev bufTy : (tb : Table) → Fin (tcTables nBuf tb) → BufTy
  | .hbm, ⟨0, _⟩ => ⟨S2048x5648, .f32⟩
  | .hbm, ⟨1, _⟩ => ⟨S2048x5648, .f32⟩
  | .hbm, ⟨2, _⟩ => ⟨S2048x5648, .f32⟩
  | .hbm, ⟨3, _⟩ => ⟨S2048x5648, .f32⟩
  | .hbm, ⟨4, _⟩ => ⟨S2048x5648, .f32⟩
  | .hbm, ⟨5, _⟩ => ⟨S2048x5648, .f32⟩
  | .hbm, ⟨6, _⟩ => ⟨S2048x5648, .f32⟩
  | .local _ .vmem, ⟨0, _⟩ => ⟨S64x5648, .f32⟩
  | .local _ .vmem, ⟨1, _⟩ => ⟨S64x5648, .f32⟩
  | .local _ .vmem, ⟨2, _⟩ => ⟨S64x5648, .f32⟩
  | .local _ .vmem, ⟨3, _⟩ => ⟨S64x5648, .f32⟩
  | .local _ .vmem, ⟨4, _⟩ => ⟨S64x5648, .f32⟩
  | .local _ .vmem, ⟨5, _⟩ => ⟨S64x5648, .f32⟩
  | .local _ .vmem, ⟨6, _⟩ => ⟨S64x5648, .f32⟩
  | .local _ .vmem, ⟨7, _⟩ => ⟨S64x5648, .f32⟩
  | .local _ .vmem, ⟨8, _⟩ => ⟨S64x5648, .f32⟩
  | .local _ .vmem, ⟨9, _⟩ => ⟨S64x5648, .f32⟩
  | .local _ .vmem, ⟨10, _⟩ => ⟨S64x5648, .f32⟩
  | .local _ .vmem, ⟨11, _⟩ => ⟨S64x5648, .f32⟩
  | .local _ .vmem, ⟨12, _⟩ => ⟨S64x5648, .f32⟩
  | .local _ .vmem, ⟨13, _⟩ => ⟨S64x5648, .f32⟩
  | _, _ => ⟨S2048x5648, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x5648 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x5648 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x5648 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x5648 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x5648 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x5648 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x5648 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference33Ideal.lean ====
abbrev S2048x5648 : Shape := ⟨2, ![2048, 5648]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x5648, .f32⟩
  | .hbm, ⟨1, _⟩ => ⟨S2048x5648, .f32⟩
  | .hbm, ⟨2, _⟩ => ⟨S2048x5648, .f32⟩
  | .hbm, ⟨3, _⟩ => ⟨S2048x5648, .f32⟩
  | .hbm, ⟨4, _⟩ => ⟨S_, .f32⟩
  | .hbm, ⟨5, _⟩ => ⟨S2048x5648, .f32⟩
  | .hbm, ⟨6, _⟩ => ⟨S2048x5648, .f32⟩
  | .hbm, ⟨7, _⟩ => ⟨S_, .f32⟩
  | .hbm, ⟨8, _⟩ => ⟨S2048x5648, .f32⟩
  | .hbm, ⟨9, _⟩ => ⟨S2048x5648, .f32⟩
  | .hbm, ⟨10, _⟩ => ⟨S2048x5648, .f32⟩
  | .hbm, ⟨11, _⟩ => ⟨S_, .f32⟩
  | .hbm, ⟨12, _⟩ => ⟨S2048x5648, .f32⟩
  | .hbm, ⟨13, _⟩ => ⟨S2048x5648, .f32⟩
  | .hbm, ⟨14, _⟩ => ⟨S2048x5648, .f32⟩
  | .hbm, ⟨15, _⟩ => ⟨S_, .f32⟩
  | .hbm, ⟨16, _⟩ => ⟨S2048x5648, .f32⟩
  | .hbm, ⟨17, _⟩ => ⟨S2048x5648, .f32⟩
  | .hbm, ⟨18, _⟩ => ⟨S2048x5648, .f32⟩
  | .hbm, ⟨19, _⟩ => ⟨S_, .f32⟩
  | .hbm, ⟨20, _⟩ => ⟨S2048x5648, .f32⟩
  | .hbm, ⟨21, _⟩ => ⟨S2048x5648, .f32⟩
  | .hbm, ⟨22, _⟩ => ⟨S_, .f32⟩
  | .hbm, ⟨23, _⟩ => ⟨S2048x5648, .f32⟩
  | .hbm, ⟨24, _⟩ => ⟨S2048x5648, .f32⟩
  | .hbm, ⟨25, _⟩ => ⟨S2048x5648, .f32⟩
  | .hbm, ⟨26, _⟩ => ⟨S_, .f32⟩
  | .hbm, ⟨27, _⟩ => ⟨S2048x5648, .f32⟩
  | .hbm, ⟨28, _⟩ => ⟨S2048x5648, .f32⟩
  | .hbm, ⟨29, _⟩ => ⟨S2048x5648, .f32⟩
  | .hbm, ⟨30, _⟩ => ⟨S_, .f32⟩
  | .hbm, ⟨31, _⟩ => ⟨S2048x5648, .f32⟩
  | .hbm, ⟨32, _⟩ => ⟨S2048x5648, .f32⟩
  | .hbm, ⟨33, _⟩ => ⟨S2048x5648, .f32⟩
  | .hbm, ⟨34, _⟩ => ⟨S_, .f32⟩
  | .hbm, ⟨35, _⟩ => ⟨S2048x5648, .f32⟩
  | .hbm, ⟨36, _⟩ => ⟨S2048x5648, .f32⟩
  | _, _ => ⟨S2048x5648, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S512x2048 : Shape := ⟨2, ![512, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference34Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S1024x2048 : Shape := ⟨2, ![1024, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference35Ideal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S512x2048 : Shape := ⟨2, ![512, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference36Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel37.lean ====
abbrev S2048x2816 : Shape := ⟨2, ![2048, 2816]⟩
abbrev S128x2816 : Shape := ⟨2, ![128, 2816]⟩

abbrev nBuf : Space → Nat
  | .hbm => 7
  | .vmem => 14
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference37Ideal.lean ====
abbrev S2048x2816 : Shape := ⟨2, ![2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel38.lean ====
abbrev S1408x2048 : Shape := ⟨2, ![1408, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference38Ideal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel39.lean ====
abbrev S304x128 : Shape := ⟨2, ![304, 128]⟩

abbrev nBuf : Space → Nat
  | .hbm => 7
  | .vmem => 7
  | .smem => 0
  | _ => 0

abbrev bufTy : (tb : Table) → Fin (tcTables nBuf tb) → BufTy
  | .hbm, ⟨0, _⟩ => ⟨S304x128, .f32⟩
  | .hbm, ⟨1, _⟩ => ⟨S304x128, .f32⟩
  | .hbm, ⟨2, _⟩ => ⟨S304x128, .f32⟩
  | .hbm, ⟨3, _⟩ => ⟨S304x128, .f32⟩
  | .hbm, ⟨4, _⟩ => ⟨S304x128, .f32⟩
  | .hbm, ⟨5, _⟩ => ⟨S304x128, .f32⟩
  | .hbm, ⟨6, _⟩ => ⟨S304x128, .f32⟩
  | .local _ .vmem, ⟨0, _⟩ => ⟨S304x128, .f32⟩
  | .local _ .vmem, ⟨1, _⟩ => ⟨S304x128, .f32⟩
  | .local _ .vmem, ⟨2, _⟩ => ⟨S304x128, .f32⟩
  | .local _ .vmem, ⟨3, _⟩ => ⟨S304x128, .f32⟩
  | .local _ .vmem, ⟨4, _⟩ => ⟨S304x128, .f32⟩
  | .local _ .vmem, ⟨5, _⟩ => ⟨S304x128, .f32⟩
  | .local _ .vmem, ⟨6, _⟩ => ⟨S304x128, .f32⟩
  | _, _ => ⟨S304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S304x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S304x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S304x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S304x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S304x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S304x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S304x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference39Ideal.lean ====
abbrev S304x128 : Shape := ⟨2, ![304, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S304x128, .f32⟩
  | .hbm, ⟨1, _⟩ => ⟨S304x128, .f32⟩
  | .hbm, ⟨2, _⟩ => ⟨S304x128, .f32⟩
  | .hbm, ⟨3, _⟩ => ⟨S304x128, .f32⟩
  | .hbm, ⟨4, _⟩ => ⟨S_, .f32⟩
  | .hbm, ⟨5, _⟩ => ⟨S304x128, .f32⟩
  | .hbm, ⟨6, _⟩ => ⟨S304x128, .f32⟩
  | .hbm, ⟨7, _⟩ => ⟨S_, .f32⟩
  | .hbm, ⟨8, _⟩ => ⟨S304x128, .f32⟩
  | .hbm, ⟨9, _⟩ => ⟨S304x128, .f32⟩
  | .hbm, ⟨10, _⟩ => ⟨S304x128, .f32⟩
  | .hbm, ⟨11, _⟩ => ⟨S_, .f32⟩
  | .hbm, ⟨12, _⟩ => ⟨S304x128, .f32⟩
  | .hbm, ⟨13, _⟩ => ⟨S304x128, .f32⟩
  | .hbm, ⟨14, _⟩ => ⟨S304x128, .f32⟩
  | .hbm, ⟨15, _⟩ => ⟨S_, .f32⟩
  | .hbm, ⟨16, _⟩ => ⟨S304x128, .f32⟩
  | .hbm, ⟨17, _⟩ => ⟨S304x128, .f32⟩
  | .hbm, ⟨18, _⟩ => ⟨S304x128, .f32⟩
  | .hbm, ⟨19, _⟩ => ⟨S_, .f32⟩
  | .hbm, ⟨20, _⟩ => ⟨S304x128, .f32⟩
  | .hbm, ⟨21, _⟩ => ⟨S304x128, .f32⟩
  | .hbm, ⟨22, _⟩ => ⟨S_, .f32⟩
  | .hbm, ⟨23, _⟩ => ⟨S304x128, .f32⟩
  | .hbm, ⟨24, _⟩ => ⟨S304x128, .f32⟩
  | .hbm, ⟨25, _⟩ => ⟨S304x128, .f32⟩
  | .hbm, ⟨26, _⟩ => ⟨S_, .f32⟩
  | .hbm, ⟨27, _⟩ => ⟨S304x128, .f32⟩
  | .hbm, ⟨28, _⟩ => ⟨S304x128, .f32⟩
  | .hbm, ⟨29, _⟩ => ⟨S304x128, .f32⟩
  | .hbm, ⟨30, _⟩ => ⟨S_, .f32⟩
  | .hbm, ⟨31, _⟩ => ⟨S304x128, .f32⟩
  | .hbm, ⟨32, _⟩ => ⟨S304x128, .f32⟩
  | .hbm, ⟨33, _⟩ => ⟨S304x128, .f32⟩
  | .hbm, ⟨34, _⟩ => ⟨S_, .f32⟩
  | .hbm, ⟨35, _⟩ => ⟨S304x128, .f32⟩
  | .hbm, ⟨36, _⟩ => ⟨S304x128, .f32⟩
  | _, _ => ⟨S304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Frames.lean ====
/- The three programs run, keep their arguments and end with every counter at zero; and the one constant
   the idealized kernel names. -/
module

public import proofs.«01_k».proof.Defs
public import proofs.«01_k».proof.Proof.Gen.Pre_finite
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof

open Idealize.ShloMosaic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_finite : Cert.quiescent_KernelIdeal_pre_finite := fun m ρ _ => Cert.KernelIdeal.Gen.frame m ρ

theorem frame_reference : Cert.quiescent_ReferenceIdeal := fun m ρ _ =>
  (θ_run _ _ _).mono (fun _ h => ⟨fun c => (h c).2.2.2, sem_eq_zero_of_no_sems rfl _⟩) (Cert.ReferenceIdeal.Value.run m ρ)

theorem frame_reference_finite : Cert.quiescent_ReferenceIdeal_pre_finite := fun m ρ _ => frame_reference m ρ trivial

theorem masked_preserved : Cert.preserves_Kernel_KernelIdeal :=
  IdealRules.named_const.statement Cert.KernelIdeal.κ "masked" .f32 0xF149F2CA#32 ⊥ rfl

end Cert.Proof

end
-- ==== Proof.Chunk.lean ====
/- One chunk of the backward kernel, as the program computes it: the arrays it makes from the chunk's inputs, each
   over the sixteen heads, the 64 tokens of the chunk and the 128 channels of a head. -/
module

public import proofs.«01_k».proof.Proof.Gen.KernelIdeal

@[expose] public section

noncomputable section

namespace Cert.Proof

open Idealize.ShloMosaic Idealize.SL.Sem Cert.KernelIdeal Cert.KernelIdeal.Gen

/-- What one chunk reads: the two rows of the lower-bound table, the norm weight, the columns of the projection, the
    state before the chunk, the output gradient and the gradient of the state after the chunk. -/
structure In where
  t0 : FVec Ideal S16x1x128 .f32
  t1 : FVec Ideal S16x1x128 .f32
  nw : FVec Ideal S1x128 .f32
  q : FVec Ideal S16x64x128 .f32
  f : FVec Ideal S16x64x128 .f32
  v : FVec Ideal S16x64x128 .f32
  g : FVec Ideal S16x64x128 .f32
  st : FVec Ideal S16x128x128 .f32
  dy : FVec Ideal S16x64x128 .f32
  dst : FVec Ideal S16x128x128 .f32

namespace In

/-! ## Combinations the program repeats -/

abbrev T := FVec Ideal S16x64x128 .f32
abbrev Row := FVec Ideal S16x1x128 .f32
abbrev Col := FVec Ideal S16x64x1 .f32
abbrev Sq := FVec Ideal S16x64x64 .f32
abbrev St := FVec Ideal S16x128x128 .f32

def fill (s : Shape) (b : BitVec 32) : FVec Ideal s .f32 := broadcast s (Scalar.ofBits .f32 b)
def neg (x : T) : T := subf (fill S16x64x128 0x00000000#32) x
def negRow (x : Row) : Row := subf (fill S16x1x128 0x00000000#32) x
def spread (x : Row) : T := broadcastTo S16x64x128 x broadcasts_S16x1x128_S16x64x128
def spreadCol (x : Col) : T := broadcastTo S16x64x128 x broadcasts_S16x64x1_S16x64x128
def sumT (x : T) : Row :=
  shapeCast S16x1x128 (multiReduction .add [1] S16x128 x 0x00000000#32 reduces_S16x64x128_S16x128 (.inl rfl) rfl) shapeCasts_S16x128_S16x1x128
def sumRow (x : Row) : Row :=
  shapeCast S16x1x128 (multiReduction .add [1] S16x128 x 0x00000000#32 reduces_S16x1x128_S16x128 (.inl rfl) rfl) shapeCasts_S16x128_S16x1x128
def sumSt (x : St) : Row :=
  shapeCast S16x1x128 (multiReduction .add [1] S16x128 x 0x00000000#32 reduces_S16x128x128_S16x128 (.inl rfl) rfl) shapeCasts_S16x128_S16x1x128
def sumK (x : T) : Col :=
  shapeCast S16x64x1 (multiReduction .add [2] S16x64 x 0x00000000#32 reduces_S16x64x128_S16x64 (.inl rfl) rfl) shapeCasts_S16x64_S16x64x1
def sumCol (x : Col) : Col :=
  shapeCast S16x64x1 (multiReduction .add [2] S16x64 x 0x00000000#32 reduces_S16x64x1_S16x64 (.inl rfl) rfl) shapeCasts_S16x64_S16x64x1
def mulSqT (m : Sq) (x : T) : T :=
  matmul dot_S16x64x64_S16x64x128_S16x64x128_2_1_1_2_0_0 none (truncf .bf16 m bitsLt_bf16_f32) (truncf .bf16 x bitsLt_bf16_f32) (constant S16x64x128 .f32 0x00000000#32)
def mulTrT (m : Sq) (x : T) : T :=
  matmul dot_S16x64x64_S16x64x128_S16x64x128_1_1_2_2_0_0 none (truncf .bf16 m bitsLt_bf16_f32) (truncf .bf16 x bitsLt_bf16_f32) (constant S16x64x128 .f32 0x00000000#32)
def mulTT (x y : T) : Sq :=
  matmul dot_S16x64x128_S16x64x128_S16x64x64_2_2_1_1_0_0 none (truncf .bf16 x bitsLt_bf16_f32) (truncf .bf16 y bitsLt_bf16_f32) (constant S16x64x64 .f32 0x00000000#32)
def mulTStTr (x : T) (y : St) : T :=
  matmul dot_S16x64x128_S16x128x128_S16x64x128_2_2_1_1_0_0 none (truncf .bf16 x bitsLt_bf16_f32) (truncf .bf16 y bitsLt_bf16_f32) (constant S16x64x128 .f32 0x00000000#32)
def mulTSt (x : T) (y : St) : T :=
  matmul dot_S16x64x128_S16x128x128_S16x64x128_2_1_1_2_0_0 none (truncf .bf16 x bitsLt_bf16_f32) (truncf .bf16 y bitsLt_bf16_f32) (constant S16x64x128 .f32 0x00000000#32)
def mulTrTT (x y : T) : St :=
  matmul dot_S16x64x128_S16x64x128_S16x128x128_1_1_2_2_0_0 none (truncf .bf16 x bitsLt_bf16_f32) (truncf .bf16 y bitsLt_bf16_f32) (constant S16x128x128 .f32 0x00000000#32)

/-- What rounding to the short format loses. -/
def lost (x : T) : T := subf x (extf .f32 (truncf .bf16 x bitsLt_bf16_f32) bitsLt_bf16_f32)
/-- A product whose right side is taken in three parts of the short format. -/
def mulSqT3 (m : Sq) (x : T) : T := addf (addf (mulSqT m (lost (lost x))) (mulSqT m (lost x))) (mulSqT m x)
def mulTrT3 (m : Sq) (x : T) : T := addf (addf (mulTrT m (lost (lost x))) (mulTrT m (lost x))) (mulTrT m x)

/-! ## Masks -/

/-- A row number divided by sixteen, rounding down. -/
def block (s : Shape) (r : IVec s 32) : IVec s 32 :=
  select (andi (cmpi .ne (subi (extui 32 (cmpi .sgt r (broadcast s 0#32)) natLt_1_32) (extui 32 (cmpi .slt r (broadcast s 0#32)) natLt_1_32))
      (broadcast s (Scalar.subi (Scalar.extui (Scalar.cmpi .sgt 16#32 0#32)) (Scalar.extui (Scalar.cmpi .slt 16#32 0#32)))))
    (cmpi .ne (remsi r (broadcast s 16#32)) (broadcast s 0#32)))
    (subi (divsi r (broadcast s 16#32)) (broadcast s 1#32)) (divsi r (broadcast s 16#32))
def rows : IVec S64x128 32 := iota .tc S64x128 32 [0] iota_S64x128_d0_w32
def heads (m : IVec S64x128 1) : IVec S16x64x128 1 :=
  broadcastTo S16x64x128 (shapeCast S1x64x128 m shapeCasts_S64x128_S1x64x128) broadcasts_S1x64x128_S16x64x128
def rowIs (b : BitVec 32) : IVec S16x64x128 1 := heads (cmpi .eq rows (broadcast S64x128 b))
def inBlock (b : BitVec 32) : IVec S16x64x128 1 := heads (cmpi .eq (block S64x128 rows) (broadcast S64x128 b))
def fromBlock (b : BitVec 32) : IVec S16x64x128 1 := heads (cmpi .sge (block S64x128 rows) (broadcast S64x128 b))
def sqRow : IVec S64x64 32 := iota .tc S64x64 32 [0] iota_S64x64_d0_w32
def sqCol : IVec S64x64 32 := iota .tc S64x64 32 [1] iota_S64x64_d1_w32
def lower : IVec S64x64 1 := cmpi .sle sqCol sqRow
def lowerBlock : IVec S64x64 1 := andi lower (cmpi .eq (block S64x64 sqCol) (block S64x64 sqRow))
def triangle (m : IVec S64x64 1) : Sq :=
  broadcastTo S16x64x64 (shapeCast S1x64x64 (select m (fill S64x64 0x3F800000#32) (fill S64x64 0x00000000#32)) shapeCasts_S64x64_S1x64x64) broadcasts_S1x64x64_S16x64x64
def lowerH : IVec S16x64x64 1 :=
  broadcastTo S16x64x64 (shapeCast S1x64x64 lower shapeCasts_S64x64_S1x64x64) broadcasts_S1x64x64_S16x64x64
def keep (m : IVec S16x64x128 1) (x : T) : T := select m x (fill S16x64x128 0x00000000#32)
def keepSq (x : Sq) : Sq := select lowerH x (fill S16x64x64 0x00000000#32)
def rowAt (b : BitVec 32) (x : T) : Row := sumT (keep (rowIs b) x)
def atRow (b : BitVec 32) (x : Row) : T := keep (rowIs b) (spread x)

/-! ## The gates -/

variable (I : In)

def tMax : Row := maximumf I.t0 I.t1
def w0 : Row := select (cmpf .ogt I.t0 I.t1) (fill S16x1x128 0x3F800000#32) (select (cmpf .oeq I.t0 I.t1) (fill S16x1x128 0x3F000000#32) (fill S16x1x128 0x00000000#32))
def w1 : Row := select (cmpf .ogt I.t1 I.t0) (fill S16x1x128 0x3F800000#32) (select (cmpf .oeq I.t1 I.t0) (fill S16x1x128 0x3F000000#32) (fill S16x1x128 0x00000000#32))
def e0 : Row := exp (subf I.t0 I.tMax)
def e1 : Row := exp (subf I.t1 I.tMax)
def eSum : Row := addf I.e0 I.e1
def lb : Row := divf I.e0 I.eSum
def invSq : Row := divf (fill S16x1x128 0x3F800000#32) (mulf I.eSum I.eSum)
def rest : Row := subf (fill S16x1x128 0x3F800000#32) I.lb
def sigF : T := logistic I.f
def dSigF : T := mulf I.sigF (subf (fill S16x64x128 0x3F800000#32) I.sigF)
def forget : T := addf (spread I.lb) (mulf (spread I.rest) I.sigF)
def key : T := subf (fill S16x64x128 0x3F800000#32) I.forget
def logF : T := log I.forget
def sigQ : T := logistic I.q
def dSigQ : T := mulf I.sigQ (subf (fill S16x64x128 0x3F800000#32) I.sigQ)
def qh : T := mulf (mulf I.q I.sigQ) (fill S16x64x128 0x3DB504F3#32)

/-! ## The decays, the scores and the output -/

def cum : T := mulSqT3 (triangle lower) I.logF
def cumBlk : T := mulSqT3 (triangle lowerBlock) I.logF
def lead : T := subf I.cum I.cumBlk
def expBlk : T := exp I.cumBlk
def qt : T := mulf I.qh I.expBlk
def expNegBlk : T := exp (neg I.cumBlk)
def kt : T := mulf I.key I.expNegBlk
def dec0 : T := exp I.lead
/-- The decay from the end of the block before block `b`, whose last row is `r`. -/
def decAt (b r : BitVec 32) : T :=
  exp (select (fromBlock b) (subf I.lead (spread (rowAt r I.cum))) (broadcast S16x64x128 (Named.named κ "masked" 0xF149F2CA#32)))
def dec1 : T := I.decAt 1#32 15#32
def dec2 : T := I.decAt 2#32 31#32
def dec3 : T := I.decAt 3#32 47#32
def q0 : T := mulf I.qt I.dec0
def q1 : T := mulf I.qt I.dec1
def q2 : T := mulf I.qt I.dec2
def q3 : T := mulf I.qt I.dec3
def ktAt (b : BitVec 32) : T := keep (inBlock b) I.kt
def scoresAll : Sq :=
  addf (addf (addf (addf (fill S16x64x64 0x00000000#32) (mulTT I.q0 (I.ktAt 0#32))) (mulTT I.q1 (I.ktAt 1#32))) (mulTT I.q2 (I.ktAt 2#32))) (mulTT I.q3 (I.ktAt 3#32))
def scores : Sq := keepSq I.scoresAll
def oIn : T := mulSqT I.scores I.v
def expCum : T := exp I.cum
def qg : T := mulf I.qh I.expCum
def o : T := addf I.oIn (mulTStTr I.qg I.st)
def last : Row := rowAt 63#32 I.cum
def expLast : Row := exp I.last
def decay : T := exp (subf (spread I.last) I.cum)
def kg : T := mulf I.key I.decay

/-! ## The norm and the gate -/

def sq : T := mulf I.o I.o
def msEps : Col := addf (divf (sumK I.sq) (fill S16x64x1 0x43000000#32)) (fill S16x64x1 0x358637BD#32)
def root : Col := rsqrt I.msEps
def rootQ : Col := divf I.root I.msEps
def rootD : Col := mulf (fill S16x64x1 0xBF000000#32) I.rootQ
def oNorm : T := mulf I.o (spreadCol I.root)
def weight : T := broadcastTo S16x64x128 (shapeCast S1x1x128 I.nw shapeCasts_S1x128_S1x1x128) broadcasts_S1x1x128_S16x64x128
def oW : T := mulf I.oNorm I.weight
def sigG : T := logistic I.g
def dSigG : T := mulf I.sigG (subf (fill S16x64x128 0x3F800000#32) I.sigG)
def siluG : T := mulf I.g I.sigG
def dSilu : T := mulf I.oW I.dy
def dOW : T := mulf I.dy I.siluG
def dG : T := addf (mulf I.dSilu I.sigG) (mulf (mulf I.g I.dSilu) I.dSigG)
def dNwRaw : FVec Ideal S128 .f32 := multiReduction .add [0, 1] S128 (mulf I.oNorm I.dOW) 0x00000000#32 reduces_S16x64x128_S128 (.inl rfl) rfl
def dNw : FVec Ideal S1x128 .f32 :=
  shapeCast S1x128 (multiReduction .add [0, 1] S128 (shapeCast S1x1x128 I.dNwRaw shapeCasts_S128_S1x1x128) 0x00000000#32 reduces_S1x1x128_S128 (.inl rfl) rfl) shapeCasts_S128_S1x128
def dNorm : T := mulf I.dOW I.weight
def dON : T := mulf I.dNorm (spreadCol I.root)
def dRoot : Col := divf (mulf (sumK (mulf I.o I.dNorm)) I.rootD) (fill S16x64x1 0x43000000#32)
def dRootT : T := spreadCol (sumCol I.dRoot)
def dO : T := addf (addf I.dON (mulf I.o I.dRootT)) (mulf I.dRootT I.o)

/-! ## Backward through the state and the scores -/

def dKg1 : T := mulTStTr I.kg I.dst
def dKg : T := mulTSt I.v I.dst
def dKeyIn : T := mulf I.dKg I.decay
def dDec : T := mulf (mulf I.key I.dKg) I.decay
def stDst : Row := sumSt (mulf I.st I.dst)
def dstDec : St := mulf I.dst (broadcastTo S16x128x128 I.expLast broadcasts_S16x1x128_S16x128x128)
def dLast : Row := sumRow (addf (sumT I.dDec) (mulf I.stDst I.expLast))
def dCumEnd : T := addf (neg I.dDec) (atRow 63#32 I.dLast)
def dQg : T := mulTSt I.dO I.st
def dstNew : St := addf I.dstDec (mulTrTT I.dO I.qg)
def dQhIn : T := mulf I.dQg I.expCum
def dCumQ : T := mulf (mulf I.qh I.dQg) I.expCum
def dV : T := addf I.dKg1 (mulTrT I.scores I.dO)
def dScores : Sq := keepSq (mulTT I.dO I.v)
def dqAt (b : BitVec 32) : T := mulSqT I.dScores (I.ktAt b)
def dkAt (b : BitVec 32) (qb : T) : T := keep (inBlock b) (mulTrT I.dScores qb)
def dLeadAt (b : BitVec 32) (dec : T) : T := keep (fromBlock b) (mulf (mulf I.qt (I.dqAt b)) dec)
def dKt : T := addf (addf (addf (I.dkAt 3#32 I.q3) (I.dkAt 2#32 I.q2)) (I.dkAt 1#32 I.q1)) (I.dkAt 0#32 I.q0)
def dQt : T :=
  addf (addf (addf (mulf (I.dqAt 3#32) I.dec3) (mulf (I.dqAt 2#32) I.dec2)) (mulf (I.dqAt 1#32) I.dec1)) (mulf (I.dqAt 0#32) I.dec0)
def dLead0 : T := mulf (mulf I.qt (I.dqAt 0#32)) I.dec0
def dLead : T := addf (addf (addf (I.dLeadAt 3#32 I.dec3) (I.dLeadAt 2#32 I.dec2)) (I.dLeadAt 1#32 I.dec1)) I.dLead0
def dLeadRow (r b : BitVec 32) (dec : T) : T := atRow r (sumRow (sumT (neg (I.dLeadAt b dec))))
def dKey : T := addf I.dKeyIn (mulf I.dKt I.expNegBlk)
def dQh : T := addf I.dQhIn (mulf I.dQt I.expBlk)
def dBlkK : T := addf (neg (mulf (mulf I.key I.dKt) I.expNegBlk)) (mulf (mulf I.qh I.dQt) I.expBlk)
def dCum : T :=
  addf (addf (addf (addf (addf I.dCumEnd I.dCumQ) (I.dLeadRow 47#32 3#32 I.dec3)) (I.dLeadRow 31#32 2#32 I.dec2)) (I.dLeadRow 15#32 1#32 I.dec1)) I.dLead
def dCumBlk : T := addf I.dBlkK (neg I.dLead)
def dLogF : T := addf (mulTrT3 (triangle lowerBlock) I.dCumBlk) (mulTrT3 (triangle lower) I.dCum)

/-! ## The gradients of the inputs -/

def dQs : T := mulf I.dQh (fill S16x64x128 0x3DB504F3#32)
def dQ : T := addf (mulf I.dQs I.sigQ) (mulf (mulf I.q I.dQs) I.dSigQ)
def dForget : T := addf (divf I.dLogF I.forget) (neg I.dKey)
def dF : T := mulf (mulf (spread I.rest) I.dForget) I.dSigF
def dLb : Row := addf (sumT I.dForget) (negRow (sumT (mulf I.dForget I.sigF)))
def dSum : Row := negRow (mulf (mulf I.dLb I.invSq) I.e0)
def dE0 : Row := mulf (addf (divf I.dLb I.eSum) I.dSum) I.e0
def dE1 : Row := mulf I.dSum I.e1
def dMax : Row := addf (negRow I.dE1) (negRow I.dE0)
def dT1 : Row := addf I.dE1 (mulf I.dMax I.w1)
def dT0 : Row := addf I.dE0 (mulf I.dMax I.w0)

end In

end Cert.Proof
-- ==== Proof.Stores.lean ====
/- The stores of one grid point as lists made by counting: one list of slabs for the gradient of the projection, one of
   rows for the gradient of the lower-bound table. -/
module

public import proofs.«01_k».proof.Proof.Chunk
public import proofs.«01_k».proof.Proof.Gen.KernelIdeal.Frame

@[expose] public section

noncomputable section

namespace Cert.Proof

open Idealize.ShloMosaic Idealize.SL.Sem Cert.KernelIdeal Cert.KernelIdeal.Gen

/-! ## The gradient of the projection -/

theorem slicesT (h : ℕ) (hh : h < 16) : S16x64x128.Slices ![h, 0, 0] S1x64x128 := by
  refine ⟨rfl, fun a => ?_⟩
  match a with
  | ⟨0, _⟩ => exact hh
  | ⟨1, _⟩ => exact le_refl _
  | ⟨2, _⟩ => exact le_refl _

/-- The 64 rows of head `h`, as they are stored. -/
def slab (X : FVec Ideal S16x64x128 .f32) (h : ℕ) (hh : h < 16) : FVec Ideal S64x128 .bf16 :=
  truncf .bf16 (shapeCast S64x128 (extractStridedSlice S1x64x128 ![h, 0, 0] X (slicesT h hh)) shapeCasts_S1x64x128_S64x128) bitsLt_bf16_f32

/-- Which of the four gradients goes to segment `n` of the columns. -/
def seg (I : In) (n : ℕ) : FVec Ideal S16x64x128 .f32 :=
  if n = 0 then I.dQ else if n = 1 then I.dF else if n = 2 then I.dV else I.dG

theorem figInb (n : ℕ) : ∀ a, (![64 * (1 - n / 64), 2048 * (n % 4) + 128 * (n % 64 / 4)] : Fin 2 → ℕ) a + S64x128.size a ≤ S128x8192.size a := by
  intro a
  match a with
  | ⟨0, _⟩ => show 64 * (1 - n / 64) + 64 ≤ 128; omega
  | ⟨1, _⟩ => show 2048 * (n % 4) + 128 * (n % 64 / 4) + 128 ≤ 8192; omega

/-- The `n`th store: the later chunk's 64 stores first, by head and then by segment. -/
def figPiece (I1 I0 : In) (n : ℕ) : View.Piece (Elt Ideal) S128x8192 .bf16 :=
  ⟨Rect.unit ![64 * (1 - n / 64), 2048 * (n % 4) + 128 * (n % 64 / 4)] S64x128.size (figInb n),
    slab (seg (if n < 64 then I1 else I0) (n % 4)) (n % 64 / 4) (by omega)⟩

/-- The first `n` stores, last first. -/
def figs (I1 I0 : In) : ℕ → List (View.Piece (Elt Ideal) S128x8192 .bf16)
  | 0 => []
  | n + 1 => figPiece I1 I0 n :: figs I1 I0 n

/-! ## The gradient of the lower-bound table -/

theorem slicesRow (h : ℕ) (hh : h < 16) : S16x1x128.Slices ![h, 0, 0] S1x1x128 := by
  refine ⟨rfl, fun a => ?_⟩
  match a with
  | ⟨0, _⟩ => exact hh
  | ⟨1, _⟩ => exact le_refl _
  | ⟨2, _⟩ => exact le_refl _

/-- The row of head `h`. -/
def strip (X : FVec Ideal S16x1x128 .f32) (h : ℕ) (hh : h < 16) : FVec Ideal S1x128 .f32 :=
  shapeCast S1x128 (extractStridedSlice S1x1x128 ![h, 0, 0] X (slicesRow h hh)) shapeCasts_S1x1x128_S1x128

theorem tabInb (n : ℕ) : ∀ a, (![n % 2, 128 * (n % 32 / 2)] : Fin 2 → ℕ) a + S1x128.size a ≤ S2x2048.size a := by
  intro a
  match a with
  | ⟨0, _⟩ => show n % 2 + 1 ≤ 2; omega
  | ⟨1, _⟩ => show 128 * (n % 32 / 2) + 128 ≤ 2048; omega

/-- The place of the `n`th store: by head and then by row, once for each chunk. -/
def tabRect (n : ℕ) : Rect S2x2048 := Rect.unit ![n % 2, 128 * (n % 32 / 2)] S1x128.size (tabInb n)

/-- What the `n`th store adds to what it finds. -/
def tabAdd (I1 I0 : In) (n : ℕ) : FVec Ideal S1x128 .f32 :=
  strip (if n % 2 = 0 then (if n < 32 then I1 else I0).dT0 else (if n < 32 then I1 else I0).dT1) (n % 32 / 2) (by omega)

/-- The `n`th store over what its load reads. -/
def tabPiece (I1 I0 : In) (n : ℕ) (rd : (tabRect n).shape.Idx → Elt Ideal .f32) : View.Piece (Elt Ideal) S2x2048 .f32 :=
  ⟨tabRect n, addf (F := Ideal) (φ := .f32) (shapeCast S1x128 (s := S1x128) rd shapeCasts_S1x128_S1x128) (tabAdd I1 I0 n)⟩

variable {sig' : RefSig} {κ' : Kind} {sp' : Space}

/-- The first `n` stores at the first point, over a block filled with `base`. -/
def tabA (v : View sig' κ' sp' S2x2048 .f32) (base : List (View.Piece (Elt Ideal) S2x2048 .f32)) (I1 I0 : In) : ℕ → List (View.Piece (Elt Ideal) S2x2048 .f32)
  | 0 => base
  | n + 1 => tabPiece I1 I0 n (v.readCov (tabA v base I1 I0 n) (tabRect n).toLoadRect) :: tabA v base I1 I0 n

/-- The first `n` stores at a later point: the first chunk's loads read what the point before left. -/
def tabB (v : View sig' κ' sp' S2x2048 .f32) (f : v.ty.Contents (Elt Ideal)) (I1 I0 : In) : ℕ → List (View.Piece (Elt Ideal) S2x2048 .f32)
  | 0 => []
  | n + 1 => tabPiece I1 I0 n (if n < 32 then v.readAt (Elt Ideal) (tabRect n).toLoadRect f else v.readCov (tabB v f I1 I0 n) (tabRect n).toLoadRect)
      :: tabB v f I1 I0 n

/-! ## The gradient of the norm's weight and the carried gradient of the state -/

/-- Where the weight's gradient is added up: row 0. -/
def nwRect : Rect S16x1x128 := Rect.unit ![0, 0, 0] S1x1x128.size inb_S16x1x128_S1x1x128_0_0_0

/-- One chunk's store over what its load reads. -/
def nwPiece (d : FVec Ideal S1x128 .f32) (rd : nwRect.shape.Idx → Elt Ideal .f32) : View.Piece (Elt Ideal) S16x1x128 .f32 :=
  ⟨nwRect, shapeCast S1x1x128 (addf (F := Ideal) (φ := .f32) (shapeCast S1x128 (s := S1x1x128) rd shapeCasts_S1x1x128_S1x128) d) shapeCasts_S1x128_S1x1x128⟩

/-- A store of the whole carried state. -/
def stPiece (d : FVec Ideal S16x128x128 .f32) : View.Piece (Elt Ideal) S16x128x128 .f32 :=
  ⟨Rect.unit ![0, 0, 0] S16x128x128.size inb_S16x128x128_S16x128x128_0_0_0, shapeCast S16x128x128 d shapeCasts_S16x128x128_S16x128x128⟩

/-- Zero fills of the three accumulators. -/
def stZero : View.Piece (Elt Ideal) S16x128x128 .f32 := stPiece (broadcast S16x128x128 (FloatOps.ofBits (F := Ideal) .f32 0x00000000#32))
def tabZero : View.Piece (Elt Ideal) S2x2048 .f32 :=
  ⟨Rect.unit ![0, 0] S2x2048.size inb_S2x2048_S2x2048_0_0, broadcast S2x2048 (FloatOps.ofBits (F := Ideal) .f32 0x00000000#32)⟩
def nwZero : View.Piece (Elt Ideal) S16x1x128 .f32 :=
  ⟨Rect.unit ![0, 0, 0] S16x1x128.size inb_S16x1x128_S16x1x128_0_0_0, broadcast S16x1x128 (FloatOps.ofBits (F := Ideal) .f32 0x00000000#32)⟩

end Cert.Proof
-- ==== Proof.Body.lean ====
/- What one grid point stores, read off its run: the lists of `Stores` over the two chunks' nodes. -/
module

public import proofs.«01_k».proof.Proof.Stores

@[expose] public section

noncomputable section

namespace Cert.Proof

open Idealize.ShloMosaic Idealize.SL.Sem Cert.KernelIdeal Cert.KernelIdeal.Gen

variable (c : Dev nD) (i : grid0.Coords)
  (arg2 : Memref sig .tc .vmem S128x2048 .f32) (harg2 : arg2.IsWhole)
  (arg3 : Memref sig .tc .vmem S128x2048 .f32) (harg3 : arg3.IsWhole)
  (arg4 : Memref sig .tc .vmem S128x2048 .f32) (harg4 : arg4.IsWhole)
  (arg5 : Memref sig .tc .vmem S128x2048 .f32) (harg5 : arg5.IsWhole)
  (arg6 : Memref sig .tc .vmem S2x2048 .f32) (harg6 : arg6.IsWhole)
  (arg7 : Memref sig .tc .vmem S1x128 .f32) (harg7 : arg7.IsWhole)
  (arg8 : Memref sig .tc .vmem S16x2x128x128 .f32) (harg8 : arg8.IsWhole)
  (arg9 : Memref sig .tc .vmem S128x2048 .bf16) (harg9 : arg9.IsWhole)
  (arg10 : Memref sig .tc .vmem S128x8192 .bf16) (harg10 : arg10.IsWhole)
  (arg11 : Memref sig .tc .vmem S2x2048 .f32) (harg11 : arg11.IsWhole)
  (arg12 : Memref sig .tc .vmem S16x1x128 .f32) (harg12 : arg12.IsWhole)
  (arg13 : Memref sig .tc .vmem S16x128x128 .f32) (harg13 : arg13.IsWhole)
  (x0 : Vec Ideal S128x2048 .f32)
  (x1 : Vec Ideal S128x2048 .f32)
  (x2 : Vec Ideal S128x2048 .f32)
  (x3 : Vec Ideal S128x2048 .f32)
  (x4 : Vec Ideal S2x2048 .f32)
  (x5 : Vec Ideal S1x128 .f32)
  (x6 : Vec Ideal S16x2x128x128 .f32)
  (x7 : Vec Ideal S128x2048 .bf16)
  (xo9 : Vec Ideal S2x2048 .f32) (xo10 : Vec Ideal S16x1x128 .f32) (xs0 : Vec Ideal S16x128x128 .f32)

/-- The inputs of the later chunk at the first point. -/
def inA1 : In where
  t0 := kernelRun0_A.sl.v36 c arg6 harg6 x4
  t1 := kernelRun0_A.sl.v69 c arg6 harg6 x4
  q := kernelRun0_A.sl.v102 c arg2 harg2 x0
  f := kernelRun0_A.sl.v135 c arg3 harg3 x1
  v := kernelRun0_A.sl.v168 c arg4 harg4 x2
  g := kernelRun0_A.sl.v201 c arg5 harg5 x3
  st := kernelRun0_A.sl.v203 c arg8 harg8 x6
  dy := kernelRun0_A.sl.v690 c arg9 harg9 x7
  nw := kernelRun0_A.sl.r c arg7 harg7 x5
  dst := kernelRun0_A.sl.v720 c arg13

/-- The inputs of the earlier chunk at the first point. -/
def inA0 : In where
  t0 := kernelRun0_A.sl.v36 c arg6 harg6 x4
  t1 := kernelRun0_A.sl.v69 c arg6 harg6 x4
  q := kernelRun0_A.sl.v1426 c arg2 harg2 x0
  f := kernelRun0_A.sl.v1459 c arg3 harg3 x1
  v := kernelRun0_A.sl.v1492 c arg4 harg4 x2
  g := kernelRun0_A.sl.v1525 c arg5 harg5 x3
  st := kernelRun0_A.sl.v1527 c arg8 harg8 x6
  dy := kernelRun0_A.sl.v2014 c arg9 harg9 x7
  nw := kernelRun0_A.sl.r c arg7 harg7 x5
  dst := kernelRun0_A.sl.v2044 c arg2 harg2 arg3 harg3 arg4 harg4 arg5 harg5 arg6 harg6 arg7 harg7 arg8 harg8 arg9 harg9 arg13 x0 x1 x2 x3 x4 x5 x6 x7

/-- The inputs of the later chunk at a later point. -/
def inB1 : In where
  t0 := kernelRun0_B.sl.v36 c arg6 harg6 x4
  t1 := kernelRun0_B.sl.v69 c arg6 harg6 x4
  q := kernelRun0_B.sl.v102 c arg2 harg2 x0
  f := kernelRun0_B.sl.v135 c arg3 harg3 x1
  v := kernelRun0_B.sl.v168 c arg4 harg4 x2
  g := kernelRun0_B.sl.v201 c arg5 harg5 x3
  st := kernelRun0_B.sl.v203 c arg8 harg8 x6
  dy := kernelRun0_B.sl.v690 c arg9 harg9 x7
  nw := kernelRun0_B.sl.r c arg7 harg7 x5
  dst := kernelRun0_B.sl.v720 c arg13 harg13 xs0

/-- The inputs of the earlier chunk at a later point. -/
def inB0 : In where
  t0 := kernelRun0_B.sl.v36 c arg6 harg6 x4
  t1 := kernelRun0_B.sl.v69 c arg6 harg6 x4
  q := kernelRun0_B.sl.v1426 c arg2 harg2 x0
  f := kernelRun0_B.sl.v1459 c arg3 harg3 x1
  v := kernelRun0_B.sl.v1492 c arg4 harg4 x2
  g := kernelRun0_B.sl.v1525 c arg5 harg5 x3
  st := kernelRun0_B.sl.v1527 c arg8 harg8 x6
  dy := kernelRun0_B.sl.v2014 c arg9 harg9 x7
  nw := kernelRun0_B.sl.r c arg7 harg7 x5
  dst := kernelRun0_B.sl.v2044 c arg2 harg2 arg3 harg3 arg4 harg4 arg5 harg5 arg6 harg6 arg7 harg7 arg8 harg8 arg9 harg9 arg13 harg13 x0 x1 x2 x3 x4 x5 x6 x7 xs0

theorem figsA (hc0 : cond0_0 i) :
    (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).1
      = figs (inA1 c arg2 harg2 arg3 harg3 arg4 harg4 arg5 harg5 arg6 harg6 arg7 harg7 arg8 harg8 arg9 harg9 arg13 x0 x1 x2 x3 x4 x5 x6 x7)
          (inA0 c arg2 harg2 arg3 harg3 arg4 harg4 arg5 harg5 arg6 harg6 arg7 harg7 arg8 harg8 arg9 harg9 arg13 x0 x1 x2 x3 x4 x5 x6 x7) 128 := by sl_kernel_rfl

theorem tabsA (hc0 : cond0_0 i) :
    (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.1
      = tabA arg11.view [tabZero] (inA1 c arg2 harg2 arg3 harg3 arg4 harg4 arg5 harg5 arg6 harg6 arg7 harg7 arg8 harg8 arg9 harg9 arg13 x0 x1 x2 x3 x4 x5 x6 x7)
          (inA0 c arg2 harg2 arg3 harg3 arg4 harg4 arg5 harg5 arg6 harg6 arg7 harg7 arg8 harg8 arg9 harg9 arg13 x0 x1 x2 x3 x4 x5 x6 x7) 64 := by sl_kernel_rfl

theorem nwsA (hc0 : cond0_0 i) :
    (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.1
      = nwPiece (inA0 c arg2 harg2 arg3 harg3 arg4 harg4 arg5 harg5 arg6 harg6 arg7 harg7 arg8 harg8 arg9 harg9 arg13 x0 x1 x2 x3 x4 x5 x6 x7).dNw
            (arg12.view.readCov ([nwPiece (inA1 c arg2 harg2 arg3 harg3 arg4 harg4 arg5 harg5 arg6 harg6 arg7 harg7 arg8 harg8 arg9 harg9 arg13 x0 x1 x2 x3 x4 x5 x6 x7).dNw (arg12.view.readCov [nwZero] nwRect.toLoadRect), nwZero]) nwRect.toLoadRect)
          :: [nwPiece (inA1 c arg2 harg2 arg3 harg3 arg4 harg4 arg5 harg5 arg6 harg6 arg7 harg7 arg8 harg8 arg9 harg9 arg13 x0 x1 x2 x3 x4 x5 x6 x7).dNw (arg12.view.readCov [nwZero] nwRect.toLoadRect), nwZero] := by sl_kernel_rfl

theorem stsA (hc0 : cond0_0 i) :
    (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.2.1
      = [stPiece (inA0 c arg2 harg2 arg3 harg3 arg4 harg4 arg5 harg5 arg6 harg6 arg7 harg7 arg8 harg8 arg9 harg9 arg13 x0 x1 x2 x3 x4 x5 x6 x7).dstNew,
          stPiece (inA1 c arg2 harg2 arg3 harg3 arg4 harg4 arg5 harg5 arg6 harg6 arg7 harg7 arg8 harg8 arg9 harg9 arg13 x0 x1 x2 x3 x4 x5 x6 x7).dstNew, stZero] := by sl_kernel_rfl

theorem dstA0 : (inA0 c arg2 harg2 arg3 harg3 arg4 harg4 arg5 harg5 arg6 harg6 arg7 harg7 arg8 harg8 arg9 harg9 arg13 x0 x1 x2 x3 x4 x5 x6 x7).dst
    = shapeCast S16x128x128 (arg13.view.readCov [stPiece (inA1 c arg2 harg2 arg3 harg3 arg4 harg4 arg5 harg5 arg6 harg6 arg7 harg7 arg8 harg8 arg9 harg9 arg13 x0 x1 x2 x3 x4 x5 x6 x7).dstNew, stZero] (Rect.unit ![0, 0, 0] S16x128x128.size inb_S16x128x128_S16x128x128_0_0_0).toLoadRect) shapeCasts_S16x128x128_S16x128x128 := by sl_kernel_rfl

theorem dstA1 : (inA1 c arg2 harg2 arg3 harg3 arg4 harg4 arg5 harg5 arg6 harg6 arg7 harg7 arg8 harg8 arg9 harg9 arg13 x0 x1 x2 x3 x4 x5 x6 x7).dst
    = shapeCast S16x128x128 (arg13.view.readCov [stZero] (Rect.unit ![0, 0, 0] S16x128x128.size inb_S16x128x128_S16x128x128_0_0_0).toLoadRect) shapeCasts_S16x128x128_S16x128x128 := by sl_kernel_rfl

theorem figsB (hc0 : ¬cond0_0 i) :
    (kernelRun0_B (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xs0).1
      = figs (inB1 c arg2 harg2 arg3 harg3 arg4 harg4 arg5 harg5 arg6 harg6 arg7 harg7 arg8 harg8 arg9 harg9 arg13 harg13 x0 x1 x2 x3 x4 x5 x6 x7 xs0)
          (inB0 c arg2 harg2 arg3 harg3 arg4 harg4 arg5 harg5 arg6 harg6 arg7 harg7 arg8 harg8 arg9 harg9 arg13 harg13 x0 x1 x2 x3 x4 x5 x6 x7 xs0) 128 := by sl_kernel_rfl

theorem tabsB (hc0 : ¬cond0_0 i) :
    (kernelRun0_B (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xs0).2.1
      = tabB arg11.view (harg11.unread xo9) (inB1 c arg2 harg2 arg3 harg3 arg4 harg4 arg5 harg5 arg6 harg6 arg7 harg7 arg8 harg8 arg9 harg9 arg13 harg13 x0 x1 x2 x3 x4 x5 x6 x7 xs0)
          (inB0 c arg2 harg2 arg3 harg3 arg4 harg4 arg5 harg5 arg6 harg6 arg7 harg7 arg8 harg8 arg9 harg9 arg13 harg13 x0 x1 x2 x3 x4 x5 x6 x7 xs0) 64 := by sl_kernel_rfl

theorem nwsB (hc0 : ¬cond0_0 i) :
    (kernelRun0_B (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xs0).2.2.1
      = nwPiece (inB0 c arg2 harg2 arg3 harg3 arg4 harg4 arg5 harg5 arg6 harg6 arg7 harg7 arg8 harg8 arg9 harg9 arg13 harg13 x0 x1 x2 x3 x4 x5 x6 x7 xs0).dNw
            (arg12.view.readCov ([nwPiece (inB1 c arg2 harg2 arg3 harg3 arg4 harg4 arg5 harg5 arg6 harg6 arg7 harg7 arg8 harg8 arg9 harg9 arg13 harg13 x0 x1 x2 x3 x4 x5 x6 x7 xs0).dNw (arg12.view.readAt (Elt Ideal) nwRect.toLoadRect (harg12.unread xo10))]) nwRect.toLoadRect)
          :: [nwPiece (inB1 c arg2 harg2 arg3 harg3 arg4 harg4 arg5 harg5 arg6 harg6 arg7 harg7 arg8 harg8 arg9 harg9 arg13 harg13 x0 x1 x2 x3 x4 x5 x6 x7 xs0).dNw (arg12.view.readAt (Elt Ideal) nwRect.toLoadRect (harg12.unread xo10))] := by sl_kernel_rfl

theorem stsB (hc0 : ¬cond0_0 i) :
    (kernelRun0_B (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xs0).2.2.2.1
      = [stPiece (inB0 c arg2 harg2 arg3 harg3 arg4 harg4 arg5 harg5 arg6 harg6 arg7 harg7 arg8 harg8 arg9 harg9 arg13 harg13 x0 x1 x2 x3 x4 x5 x6 x7 xs0).dstNew,
          stPiece (inB1 c arg2 harg2 arg3 harg3 arg4 harg4 arg5 harg5 arg6 harg6 arg7 harg7 arg8 harg8 arg9 harg9 arg13 harg13 x0 x1 x2 x3 x4 x5 x6 x7 xs0).dstNew] := by sl_kernel_rfl

theorem dstB0 : (inB0 c arg2 harg2 arg3 harg3 arg4 harg4 arg5 harg5 arg6 harg6 arg7 harg7 arg8 harg8 arg9 harg9 arg13 harg13 x0 x1 x2 x3 x4 x5 x6 x7 xs0).dst
    = shapeCast S16x128x128 (arg13.view.readCov [stPiece (inB1 c arg2 harg2 arg3 harg3 arg4 harg4 arg5 harg5 arg6 harg6 arg7 harg7 arg8 harg8 arg9 harg9 arg13 harg13 x0 x1 x2 x3 x4 x5 x6 x7 xs0).dstNew] (Rect.unit ![0, 0, 0] S16x128x128.size inb_S16x128x128_S16x128x128_0_0_0).toLoadRect) shapeCasts_S16x128x128_S16x128x128 := by sl_kernel_rfl

theorem dstB1 : (inB1 c arg2 harg2 arg3 harg3 arg4 harg4 arg5 harg5 arg6 harg6 arg7 harg7 arg8 harg8 arg9 harg9 arg13 harg13 x0 x1 x2 x3 x4 x5 x6 x7 xs0).dst
    = shapeCast S16x128x128 (arg13.view.readAt (Elt Ideal) (Rect.unit ![0, 0, 0] S16x128x128.size inb_S16x128x128_S16x128x128_0_0_0).toLoadRect (harg13.unread xs0)) shapeCasts_S16x128x128_S16x128x128 := by sl_kernel_rfl

end Cert.Proof
-- ==== Proof.Lift.lean ====
/- Arrays of real numbers as arrays of extended reals, and what each operation of the kernel makes of them. -/
module

public import proofs.«01_k».proof.Proof.Gen.KernelIdeal
public import Idealize.ShloMosaic.Lib.ValueIdx
public import Idealize.ShloMosaic.Lib.Pipeline.Value
public import Idealize.ShloMosaic.PureOps.Ideal.Laws

@[expose] public section

noncomputable section

namespace Cert.Proof

open Idealize.ShloMosaic Idealize.ShloMosaic.ValueIdx Idealize.SL.Sem Cert.KernelIdeal Cert.KernelIdeal.Gen
open scoped BigOperators

/-- The extended real of a finite sum of reals. -/
theorem coe_sum {ι : Type*} [Fintype ι] (f : ι → ℝ) : ((∑ k, f k : ℝ) : EReal) = ∑ k, (f k : EReal) :=
  map_sum (⟨⟨fun x : ℝ => (x : EReal), EReal.coe_zero⟩, EReal.coe_add⟩ : ℝ →+ EReal) f Finset.univ

/-- An array of real numbers, as an array of extended reals of any format. -/
def E {φ : FTy} {s : Shape} (r : s.Idx → ℝ) : FVec Ideal s φ := fun i => ((r i : ℝ) : EReal)

/-- A mask, as an array of bits. -/
def M {s : Shape} (m : s.Idx → Prop) [DecidablePred m] : IVec s 1 := fun i => BitVec.ofBool (decide (m i))

section
variable {φ : FTy} {s : Shape} (a b : s.Idx → ℝ)

theorem E_inj {r r' : s.Idx → ℝ} (h : ∀ i, r i = r' i) : (E r : FVec Ideal s φ) = E r' := by
  rw [show r = r' from funext h]

theorem addf_E : addf (E a : FVec Ideal s φ) (E b) = E fun i => a i + b i := by
  funext i; exact (EReal.coe_add _ _).symm

theorem subf_E : subf (E a : FVec Ideal s φ) (E b) = E fun i => a i - b i := by
  funext i; exact (EReal.coe_sub _ _).symm

theorem mulf_E : mulf (E a : FVec Ideal s φ) (E b) = E fun i => a i * b i := by
  funext i; exact (EReal.coe_mul _ _).symm

theorem cmpf_gt_E : cmpf .ogt (E a : FVec Ideal s φ) (E b) = M fun i => b i < a i := by
  funext i
  show Ideal.cmp .ogt ((a i : ℝ) : EReal) ((b i : ℝ) : EReal) = _
  simp only [Ideal.cmp, M, EReal.coe_lt_coe_iff]

theorem cmpf_eq_E : cmpf .oeq (E a : FVec Ideal s φ) (E b) = M fun i => a i = b i := by
  funext i
  show Ideal.cmp .oeq ((a i : ℝ) : EReal) ((b i : ℝ) : EReal) = _
  simp only [Ideal.cmp, M, EReal.coe_eq_coe_iff]

theorem maximumf_E : maximumf (E a : FVec Ideal s φ) (E b) = E fun i => max (a i) (b i) := by
  funext i; exact (EReal.coe_strictMono.monotone.map_max).symm

theorem exp_E : exp (E a : FVec Ideal s φ) = E fun i => Real.exp (a i) := by
  funext i; exact Ideal.exp_coe _

theorem log_E (h : ∀ i, 0 < a i) : log (E a : FVec Ideal s φ) = E fun i => Real.log (a i) := by
  funext i
  refine (Ideal.log_coe _).trans ?_
  rw [if_neg (not_le.2 (h i))]; rfl

theorem logistic_E : logistic (E a : FVec Ideal s φ) = E fun i => (1 + Real.exp (-a i))⁻¹ := by
  funext i; exact Ideal.logistic_coe _

theorem divf_E (h : ∀ i, b i ≠ 0) : divf (E a : FVec Ideal s φ) (E b) = E fun i => a i / b i := by
  funext i
  refine (Ideal.div_coe (h i) _).trans ?_
  show ((a i : ℝ) : EReal) * _ = ((a i / b i : ℝ) : EReal)
  rw [← EReal.coe_mul, mul_one_div]

theorem rsqrt_E (h : ∀ i, 0 < a i) : rsqrt (E a : FVec Ideal s φ) = E fun i => (Real.sqrt (a i))⁻¹ := by
  funext i
  refine (Ideal.rsqrt_coe _).trans ?_
  rw [if_neg (h i).le.not_gt, if_neg (h i).ne']; rfl

theorem truncf_E {ψ : FTy} (h : ψ.bits < φ.bits) : truncf ψ (E a : FVec Ideal s φ) h = E a := rfl

theorem extf_E {ψ : FTy} (h : φ.bits < ψ.bits) : extf ψ (E a : FVec Ideal s φ) h = E a := rfl

theorem select_E (m : s.Idx → Prop) [DecidablePred m] : select (M m) (E a : FVec Ideal s φ) (E b) = E fun i => if m i then a i else b i := by
  funext i
  show Scalar.select (BitVec.ofBool (decide (m i))) ((a i : ℝ) : EReal) ((b i : ℝ) : EReal) = (((if m i then a i else b i) : ℝ) : EReal)
  by_cases h : m i <;> simp only [h, if_true, if_false, decide_true, decide_false] <;> rfl

/-- Past the mask the exponential of the named constant is zero. -/
theorem exp_select_E (m : s.Idx → Prop) [DecidablePred m] :
    exp (select (M m) (E a : FVec Ideal s .f32) (broadcast s (Named.named (F := Ideal) (φ := .f32) Cert.KernelIdeal.κ "masked" 0xF149F2CA#32)))
      = E fun i => if m i then Real.exp (a i) else 0 := by
  funext i
  show Ideal.exp (Scalar.select (BitVec.ofBool (decide (m i))) ((a i : ℝ) : EReal) _) = (((if m i then Real.exp (a i) else 0) : ℝ) : EReal)
  by_cases h : m i <;> simp only [h, if_true, if_false, decide_true, decide_false]
  · exact Ideal.exp_coe _
  · exact (congrArg Ideal.exp (IdealRules.named_const.ideal_named_scalar _ _ _ _ rfl)).trans Ideal.exp_bot

theorem broadcast_E (x : Ideal φ) (c : ℝ) (h : x = (c : EReal)) : broadcast s x = (E fun _ => c : FVec Ideal s φ) := by
  rw [h]; rfl

theorem constant_zero_E : constant (F := Ideal) s .f32 0x00000000#32 = E fun _ => 0 := by
  funext i; exact Ideal.ofBits_zero_f32

end

/-! ## The constants -/

/-- The scale of the queries as the program writes it, `128 ^ (-1/2)` rounded. -/
def cScale : ℝ := 11863283 / 134217728

/-- The number the mean square is raised by before its root is taken, as the program writes it. -/
def cEps : ℝ := 8796093 / 8796093022208

theorem lit_zero : (Scalar.ofBits .f32 0x00000000#32 : Ideal .f32) = ((0 : ℝ) : EReal) := by
  simp [Scalar.ofBits, Ideal.ofBits, Ideal.ieee]
theorem lit_one : (Scalar.ofBits .f32 0x3F800000#32 : Ideal .f32) = ((1 : ℝ) : EReal) := by
  simp [Scalar.ofBits, Ideal.ofBits, Ideal.ieee, -EReal.coe_mul]; norm_num
theorem lit_half : (Scalar.ofBits .f32 0x3F000000#32 : Ideal .f32) = ((1/2 : ℝ) : EReal) := by
  simp [Scalar.ofBits, Ideal.ofBits, Ideal.ieee, -EReal.coe_mul]; norm_num
theorem lit_neg_half : (Scalar.ofBits .f32 0xBF000000#32 : Ideal .f32) = ((-1/2 : ℝ) : EReal) := by
  simp [Scalar.ofBits, Ideal.ofBits, Ideal.ieee, -EReal.coe_mul]; norm_num
theorem lit_width : (Scalar.ofBits .f32 0x43000000#32 : Ideal .f32) = ((128 : ℝ) : EReal) := by
  simp [Scalar.ofBits, Ideal.ofBits, Ideal.ieee, -EReal.coe_mul]; norm_num
theorem lit_scale : (Scalar.ofBits .f32 0x3DB504F3#32 : Ideal .f32) = ((cScale : ℝ) : EReal) := by
  simp [Scalar.ofBits, Ideal.ofBits, Ideal.ieee, -EReal.coe_mul, cScale]; norm_num
theorem lit_eps : (Scalar.ofBits .f32 0x358637BD#32 : Ideal .f32) = ((cEps : ℝ) : EReal) := by
  simp [Scalar.ofBits, Ideal.ofBits, Ideal.ieee, -EReal.coe_mul, cEps]; norm_num

theorem cEps_pos : 0 < cEps := by unfold cEps; norm_num

section
variable {s : Shape}

theorem bc_zero : broadcast s (Scalar.ofBits .f32 0x00000000#32 : Ideal .f32) = E fun _ => 0 := broadcast_E _ _ lit_zero
theorem bc_one : broadcast s (Scalar.ofBits .f32 0x3F800000#32 : Ideal .f32) = E fun _ => 1 := broadcast_E _ _ lit_one
theorem bc_half : broadcast s (Scalar.ofBits .f32 0x3F000000#32 : Ideal .f32) = E fun _ => 1/2 := broadcast_E _ _ lit_half
theorem bc_neg_half : broadcast s (Scalar.ofBits .f32 0xBF000000#32 : Ideal .f32) = E fun _ => -1/2 := broadcast_E _ _ lit_neg_half
theorem bc_width : broadcast s (Scalar.ofBits .f32 0x43000000#32 : Ideal .f32) = E fun _ => 128 := broadcast_E _ _ lit_width
theorem bc_scale : broadcast s (Scalar.ofBits .f32 0x3DB504F3#32 : Ideal .f32) = E fun _ => cScale := broadcast_E _ _ lit_scale
theorem bc_eps : broadcast s (Scalar.ofBits .f32 0x358637BD#32 : Ideal .f32) = E fun _ => cEps := broadcast_E _ _ lit_eps

end

/-! ## Products -/

section
variable {φ₁ φ₂ : FTy} {sl sr so : Shape}

/-- A product over one contracted axis, of arrays of real numbers, read through the coordinates it contracts. -/
theorem matmul_E (D : DotDims sl sr so) (n : Nat) (hr : D.contr.rank = 1) (hs : D.contr.size ⟨0, by omega⟩ = n)
    (x : sl.Idx → ℝ) (y : sr.Idx → ℝ) (li : so.Idx → Fin n → sl.Idx) (ri : so.Idx → Fin n → sr.Idx)
    (hl : ∀ j k, D.lhsIdx j ((contrEquiv1 D n hr hs).symm k) = li j k)
    (hR : ∀ j k, D.rhsIdx j ((contrEquiv1 D n hr hs).symm k) = ri j k) :
    matmul D none (E x : FVec Ideal sl φ₁) (E y : FVec Ideal sr φ₂) (constant so .f32 0x00000000#32)
      = E fun j => ∑ k : Fin n, x (li j k) * y (ri j k) := by
  funext j
  refine (Ideal.matmul_constant_zero_apply D none _ _ j).trans ?_
  rw [← Equiv.sum_comp (contrEquiv1 D n hr hs).symm]
  refine Eq.trans (Finset.sum_congr rfl fun k _ => ?_) (coe_sum fun k : Fin n => x (li j k) * y (ri j k)).symm
  rw [hl, hR]
  exact (EReal.coe_mul _ _).symm

end

section
variable {φ₁ φ₂ : FTy}

theorem matmul_nn64_E (x : S16x64x64.Idx → ℝ) (y : S16x64x128.Idx → ℝ) :
    matmul dot_S16x64x64_S16x64x128_S16x64x128_2_1_1_2_0_0 none (E x : FVec Ideal S16x64x64 φ₁) (E y : FVec Ideal S16x64x128 φ₂)
      (constant S16x64x128 .f32 0x00000000#32) = E fun j => ∑ k : Fin 64, x (ix3 (j 0) (j 1) k) * y (ix3 (j 0) k (j 2)) :=
  matmul_E dot_S16x64x64_S16x64x128_S16x64x128_2_1_1_2_0_0 64 rfl rfl x y (fun j k => ix3 (j 0) (j 1) k) (fun j k => ix3 (j 0) k (j 2))
    (fun j k => by
      funext a; apply Fin.ext
      match a with
      | ⟨0, _⟩ => rfl
      | ⟨1, _⟩ => rfl
      | ⟨2, _⟩ => exact contrEquiv1_symm_val dot_S16x64x64_S16x64x128_S16x64x128_2_1_1_2_0_0 64 rfl rfl k
    )
    (fun j k => by
      funext a; apply Fin.ext
      match a with
      | ⟨0, _⟩ => rfl
      | ⟨1, _⟩ => exact contrEquiv1_symm_val dot_S16x64x64_S16x64x128_S16x64x128_2_1_1_2_0_0 64 rfl rfl k
      | ⟨2, _⟩ => rfl
    )

theorem matmul_tn64_E (x : S16x64x64.Idx → ℝ) (y : S16x64x128.Idx → ℝ) :
    matmul dot_S16x64x64_S16x64x128_S16x64x128_1_1_2_2_0_0 none (E x : FVec Ideal S16x64x64 φ₁) (E y : FVec Ideal S16x64x128 φ₂)
      (constant S16x64x128 .f32 0x00000000#32) = E fun j => ∑ k : Fin 64, x (ix3 (j 0) k (j 1)) * y (ix3 (j 0) k (j 2)) :=
  matmul_E dot_S16x64x64_S16x64x128_S16x64x128_1_1_2_2_0_0 64 rfl rfl x y (fun j k => ix3 (j 0) k (j 1)) (fun j k => ix3 (j 0) k (j 2))
    (fun j k => by
      funext a; apply Fin.ext
      match a with
      | ⟨0, _⟩ => rfl
      | ⟨1, _⟩ => exact contrEquiv1_symm_val dot_S16x64x64_S16x64x128_S16x64x128_1_1_2_2_0_0 64 rfl rfl k
      | ⟨2, _⟩ => rfl
    )
    (fun j k => by
      funext a; apply Fin.ext
      match a with
      | ⟨0, _⟩ => rfl
      | ⟨1, _⟩ => exact contrEquiv1_symm_val dot_S16x64x64_S16x64x128_S16x64x128_1_1_2_2_0_0 64 rfl rfl k
      | ⟨2, _⟩ => rfl
    )

theorem matmul_nt64_E (x : S16x64x128.Idx → ℝ) (y : S16x64x128.Idx → ℝ) :
    matmul dot_S16x64x128_S16x64x128_S16x64x64_2_2_1_1_0_0 none (E x : FVec Ideal S16x64x128 φ₁) (E y : FVec Ideal S16x64x128 φ₂)
      (constant S16x64x64 .f32 0x00000000#32) = E fun j => ∑ k : Fin 128, x (ix3 (j 0) (j 1) k) * y (ix3 (j 0) (j 2) k) :=
  matmul_E dot_S16x64x128_S16x64x128_S16x64x64_2_2_1_1_0_0 128 rfl rfl x y (fun j k => ix3 (j 0) (j 1) k) (fun j k => ix3 (j 0) (j 2) k)
    (fun j k => by
      funext a; apply Fin.ext
      match a with
      | ⟨0, _⟩ => rfl
      | ⟨1, _⟩ => rfl
      | ⟨2, _⟩ => exact contrEquiv1_symm_val dot_S16x64x128_S16x64x128_S16x64x64_2_2_1_1_0_0 128 rfl rfl k
    )
    (fun j k => by
      funext a; apply Fin.ext
      match a with
      | ⟨0, _⟩ => rfl
      | ⟨1, _⟩ => rfl
      | ⟨2, _⟩ => exact contrEquiv1_symm_val dot_S16x64x128_S16x64x128_S16x64x64_2_2_1_1_0_0 128 rfl rfl k
    )

theorem matmul_nt128_E (x : S16x64x128.Idx → ℝ) (y : S16x128x128.Idx → ℝ) :
    matmul dot_S16x64x128_S16x128x128_S16x64x128_2_2_1_1_0_0 none (E x : FVec Ideal S16x64x128 φ₁) (E y : FVec Ideal S16x128x128 φ₂)
      (constant S16x64x128 .f32 0x00000000#32) = E fun j => ∑ k : Fin 128, x (ix3 (j 0) (j 1) k) * y (ix3 (j 0) (j 2) k) :=
  matmul_E dot_S16x64x128_S16x128x128_S16x64x128_2_2_1_1_0_0 128 rfl rfl x y (fun j k => ix3 (j 0) (j 1) k) (fun j k => ix3 (j 0) (j 2) k)
    (fun j k => by
      funext a; apply Fin.ext
      match a with
      | ⟨0, _⟩ => rfl
      | ⟨1, _⟩ => rfl
      | ⟨2, _⟩ => exact contrEquiv1_symm_val dot_S16x64x128_S16x128x128_S16x64x128_2_2_1_1_0_0 128 rfl rfl k
    )
    (fun j k => by
      funext a; apply Fin.ext
      match a with
      | ⟨0, _⟩ => rfl
      | ⟨1, _⟩ => rfl
      | ⟨2, _⟩ => exact contrEquiv1_symm_val dot_S16x64x128_S16x128x128_S16x64x128_2_2_1_1_0_0 128 rfl rfl k
    )

theorem matmul_nn128_E (x : S16x64x128.Idx → ℝ) (y : S16x128x128.Idx → ℝ) :
    matmul dot_S16x64x128_S16x128x128_S16x64x128_2_1_1_2_0_0 none (E x : FVec Ideal S16x64x128 φ₁) (E y : FVec Ideal S16x128x128 φ₂)
      (constant S16x64x128 .f32 0x00000000#32) = E fun j => ∑ k : Fin 128, x (ix3 (j 0) (j 1) k) * y (ix3 (j 0) k (j 2)) :=
  matmul_E dot_S16x64x128_S16x128x128_S16x64x128_2_1_1_2_0_0 128 rfl rfl x y (fun j k => ix3 (j 0) (j 1) k) (fun j k => ix3 (j 0) k (j 2))
    (fun j k => by
      funext a; apply Fin.ext
      match a with
      | ⟨0, _⟩ => rfl
      | ⟨1, _⟩ => rfl
      | ⟨2, _⟩ => exact contrEquiv1_symm_val dot_S16x64x128_S16x128x128_S16x64x128_2_1_1_2_0_0 128 rfl rfl k
    )
    (fun j k => by
      funext a; apply Fin.ext
      match a with
      | ⟨0, _⟩ => rfl
      | ⟨1, _⟩ => exact contrEquiv1_symm_val dot_S16x64x128_S16x128x128_S16x64x128_2_1_1_2_0_0 128 rfl rfl k
      | ⟨2, _⟩ => rfl
    )

theorem matmul_tn128_E (x : S16x64x128.Idx → ℝ) (y : S16x64x128.Idx → ℝ) :
    matmul dot_S16x64x128_S16x64x128_S16x128x128_1_1_2_2_0_0 none (E x : FVec Ideal S16x64x128 φ₁) (E y : FVec Ideal S16x64x128 φ₂)
      (constant S16x128x128 .f32 0x00000000#32) = E fun j => ∑ k : Fin 64, x (ix3 (j 0) k (j 1)) * y (ix3 (j 0) k (j 2)) :=
  matmul_E dot_S16x64x128_S16x64x128_S16x128x128_1_1_2_2_0_0 64 rfl rfl x y (fun j k => ix3 (j 0) k (j 1)) (fun j k => ix3 (j 0) k (j 2))
    (fun j k => by
      funext a; apply Fin.ext
      match a with
      | ⟨0, _⟩ => rfl
      | ⟨1, _⟩ => exact contrEquiv1_symm_val dot_S16x64x128_S16x64x128_S16x128x128_1_1_2_2_0_0 64 rfl rfl k
      | ⟨2, _⟩ => rfl
    )
    (fun j k => by
      funext a; apply Fin.ext
      match a with
      | ⟨0, _⟩ => rfl
      | ⟨1, _⟩ => exact contrEquiv1_symm_val dot_S16x64x128_S16x64x128_S16x128x128_1_1_2_2_0_0 64 rfl rfl k
      | ⟨2, _⟩ => rfl
    )

end

/-! ## Sums over one axis -/

section
variable {s t : Shape}

theorem sum_E {a : Fin s.rank} (h : s.Reduces [a] t) (hφ : FKind.Formats .f32) (hacc : (0x00000000#32 : BitVec 32) = FKind.add.neutral .f32 hφ)
    (x : s.Idx → ℝ) (li : t.Idx → Fin (s.size a) → s.Idx) (hl : ∀ j k c, (h.lift j k c).val = (li j k c).val) :
    multiReduction .add [a] t (E x : FVec Ideal s .f32) 0x00000000#32 h hφ hacc = E fun j => ∑ k, x (li j k) := by
  funext j
  refine (Ideal.multiReduction_add_single _ _ h hφ hacc j).trans (Eq.trans (Finset.sum_congr rfl fun k _ => ?_) (coe_sum _).symm)
  rw [show h.lift j k = li j k from funext fun c => Fin.ext (hl j k c)]
  rfl

end

theorem sum_S16x64x128_1_E (h : S16x64x128.Reduces [1] S16x128) (hφ hacc) (x : S16x64x128.Idx → ℝ) :
    multiReduction .add [1] S16x128 (E x : FVec Ideal S16x64x128 .f32) 0x00000000#32 h hφ hacc = E fun j => ∑ k : Fin 64, x (ix3 (j 0) k (j 1)) :=
  sum_E h hφ hacc x (fun j k => ix3 (j 0) k (j 1)) fun j k c => by
    match c with
    | ⟨0, _⟩ => rfl
    | ⟨1, _⟩ => rfl
    | ⟨2, _⟩ => rfl

theorem sum_S16x128x128_1_E (h : S16x128x128.Reduces [1] S16x128) (hφ hacc) (x : S16x128x128.Idx → ℝ) :
    multiReduction .add [1] S16x128 (E x : FVec Ideal S16x128x128 .f32) 0x00000000#32 h hφ hacc = E fun j => ∑ k : Fin 128, x (ix3 (j 0) k (j 1)) :=
  sum_E h hφ hacc x (fun j k => ix3 (j 0) k (j 1)) fun j k c => by
    match c with
    | ⟨0, _⟩ => rfl
    | ⟨1, _⟩ => rfl
    | ⟨2, _⟩ => rfl

theorem sum_S16x1x128_1_E (h : S16x1x128.Reduces [1] S16x128) (hφ hacc) (x : S16x1x128.Idx → ℝ) :
    multiReduction .add [1] S16x128 (E x : FVec Ideal S16x1x128 .f32) 0x00000000#32 h hφ hacc = E fun j => ∑ k : Fin 1, x (ix3 (j 0) k (j 1)) :=
  sum_E h hφ hacc x (fun j k => ix3 (j 0) k (j 1)) fun j k c => by
    match c with
    | ⟨0, _⟩ => rfl
    | ⟨1, _⟩ => rfl
    | ⟨2, _⟩ => rfl

theorem sum_S16x64x128_2_E (h : S16x64x128.Reduces [2] S16x64) (hφ hacc) (x : S16x64x128.Idx → ℝ) :
    multiReduction .add [2] S16x64 (E x : FVec Ideal S16x64x128 .f32) 0x00000000#32 h hφ hacc = E fun j => ∑ k : Fin 128, x (ix3 (j 0) (j 1) k) :=
  sum_E h hφ hacc x (fun j k => ix3 (j 0) (j 1) k) fun j k c => by
    match c with
    | ⟨0, _⟩ => rfl
    | ⟨1, _⟩ => rfl
    | ⟨2, _⟩ => rfl

theorem sum_S16x64x1_2_E (h : S16x64x1.Reduces [2] S16x64) (hφ hacc) (x : S16x64x1.Idx → ℝ) :
    multiReduction .add [2] S16x64 (E x : FVec Ideal S16x64x1 .f32) 0x00000000#32 h hφ hacc = E fun j => ∑ k : Fin 1, x (ix3 (j 0) (j 1) k) :=
  sum_E h hφ hacc x (fun j k => ix3 (j 0) (j 1) k) fun j k c => by
    match c with
    | ⟨0, _⟩ => rfl
    | ⟨1, _⟩ => rfl
    | ⟨2, _⟩ => rfl

/-! ## Changes of shape -/

section
variable {φ : FTy}

theorem cast_self_E (x : S16x128x128.Idx → ℝ) (h : S16x128x128.ShapeCasts S16x128x128) :
    shapeCast S16x128x128 (E x : FVec Ideal S16x128x128 φ) h = E x := by
  funext j
  exact Idealize.ShloMosaic.shapeCast_apply _ h j j rfl

theorem cast_S16x128_S16x1x128 {α : Type} (x : S16x128.Idx → α) (h : S16x128.ShapeCasts S16x1x128) :
    shapeCast S16x1x128 x h = fun j => x (ix2 (j 0) (j 2)) := by
  funext j
  refine Idealize.ShloMosaic.shapeCast_apply _ h j (ix2 (j 0) (j 2)) ?_
  rw [Shape.rowMajor_val_two, Shape.rowMajor_val_three]
  have := (j 1).isLt; change (j 1).val < 1 at this; show (j 0).val * 128 + (j 2).val = ((j 0).val * 1 + (j 1).val) * 128 + (j 2).val; omega

theorem cast_S16x128_S16x1x128_E (x : S16x128.Idx → ℝ) (h : S16x128.ShapeCasts S16x1x128) :
    shapeCast S16x1x128 (E x : FVec Ideal S16x128 φ) h = E fun j => x (ix2 (j 0) (j 2)) := cast_S16x128_S16x1x128 _ h

theorem cast_S16x128_S16x1x128_M (m : S16x128.Idx → Prop) [DecidablePred m] (h : S16x128.ShapeCasts S16x1x128) :
    shapeCast S16x1x128 (M m) h = M fun j => m (ix2 (j 0) (j 2)) := cast_S16x128_S16x1x128 _ h

theorem cast_S16x64_S16x64x1 {α : Type} (x : S16x64.Idx → α) (h : S16x64.ShapeCasts S16x64x1) :
    shapeCast S16x64x1 x h = fun j => x (ix2 (j 0) (j 1)) := by
  funext j
  refine Idealize.ShloMosaic.shapeCast_apply _ h j (ix2 (j 0) (j 1)) ?_
  rw [Shape.rowMajor_val_two, Shape.rowMajor_val_three]
  have := (j 2).isLt; change (j 2).val < 1 at this; show (j 0).val * 64 + (j 1).val = ((j 0).val * 64 + (j 1).val) * 1 + (j 2).val; omega

theorem cast_S16x64_S16x64x1_E (x : S16x64.Idx → ℝ) (h : S16x64.ShapeCasts S16x64x1) :
    shapeCast S16x64x1 (E x : FVec Ideal S16x64 φ) h = E fun j => x (ix2 (j 0) (j 1)) := cast_S16x64_S16x64x1 _ h

theorem cast_S64x128_S1x64x128 {α : Type} (x : S64x128.Idx → α) (h : S64x128.ShapeCasts S1x64x128) :
    shapeCast S1x64x128 x h = fun j => x (ix2 (j 1) (j 2)) := by
  funext j
  refine Idealize.ShloMosaic.shapeCast_apply _ h j (ix2 (j 1) (j 2)) ?_
  rw [Shape.rowMajor_val_two, Shape.rowMajor_val_three]
  have := (j 0).isLt; change (j 0).val < 1 at this; show (j 1).val * 128 + (j 2).val = ((j 0).val * 64 + (j 1).val) * 128 + (j 2).val; omega

theorem cast_S64x128_S1x64x128_E (x : S64x128.Idx → ℝ) (h : S64x128.ShapeCasts S1x64x128) :
    shapeCast S1x64x128 (E x : FVec Ideal S64x128 φ) h = E fun j => x (ix2 (j 1) (j 2)) := cast_S64x128_S1x64x128 _ h

theorem cast_S64x128_S1x64x128_M (m : S64x128.Idx → Prop) [DecidablePred m] (h : S64x128.ShapeCasts S1x64x128) :
    shapeCast S1x64x128 (M m) h = M fun j => m (ix2 (j 1) (j 2)) := cast_S64x128_S1x64x128 _ h

theorem cast_S64x64_S1x64x64 {α : Type} (x : S64x64.Idx → α) (h : S64x64.ShapeCasts S1x64x64) :
    shapeCast S1x64x64 x h = fun j => x (ix2 (j 1) (j 2)) := by
  funext j
  refine Idealize.ShloMosaic.shapeCast_apply _ h j (ix2 (j 1) (j 2)) ?_
  rw [Shape.rowMajor_val_two, Shape.rowMajor_val_three]
  have := (j 0).isLt; change (j 0).val < 1 at this; show (j 1).val * 64 + (j 2).val = ((j 0).val * 64 + (j 1).val) * 64 + (j 2).val; omega

theorem cast_S64x64_S1x64x64_E (x : S64x64.Idx → ℝ) (h : S64x64.ShapeCasts S1x64x64) :
    shapeCast S1x64x64 (E x : FVec Ideal S64x64 φ) h = E fun j => x (ix2 (j 1) (j 2)) := cast_S64x64_S1x64x64 _ h

theorem cast_S64x64_S1x64x64_M (m : S64x64.Idx → Prop) [DecidablePred m] (h : S64x64.ShapeCasts S1x64x64) :
    shapeCast S1x64x64 (M m) h = M fun j => m (ix2 (j 1) (j 2)) := cast_S64x64_S1x64x64 _ h

theorem cast_S1x128_S1x1x128 {α : Type} (x : S1x128.Idx → α) (h : S1x128.ShapeCasts S1x1x128) :
    shapeCast S1x1x128 x h = fun j => x (ix2 (j 1) (j 2)) := by
  funext j
  refine Idealize.ShloMosaic.shapeCast_apply _ h j (ix2 (j 1) (j 2)) ?_
  rw [Shape.rowMajor_val_two, Shape.rowMajor_val_three]
  have := (j 0).isLt; change (j 0).val < 1 at this; show (j 1).val * 128 + (j 2).val = ((j 0).val * 1 + (j 1).val) * 128 + (j 2).val; omega

theorem cast_S1x128_S1x1x128_E (x : S1x128.Idx → ℝ) (h : S1x128.ShapeCasts S1x1x128) :
    shapeCast S1x1x128 (E x : FVec Ideal S1x128 φ) h = E fun j => x (ix2 (j 1) (j 2)) := cast_S1x128_S1x1x128 _ h

theorem cast_S128_S1x128 {α : Type} (x : S128.Idx → α) (h : S128.ShapeCasts S1x128) :
    shapeCast S1x128 x h = fun j => x (ix1 (j 1)) := by
  funext j
  refine Idealize.ShloMosaic.shapeCast_apply _ h j (ix1 (j 1)) ?_
  rw [Shape.rowMajor_val_one, Shape.rowMajor_val_two]
  have := (j 0).isLt; change (j 0).val < 1 at this; show (j 1).val = (j 0).val * 128 + (j 1).val; omega

theorem cast_S128_S1x128_E (x : S128.Idx → ℝ) (h : S128.ShapeCasts S1x128) :
    shapeCast S1x128 (E x : FVec Ideal S128 φ) h = E fun j => x (ix1 (j 1)) := cast_S128_S1x128 _ h

theorem bc_S16x1x128_S16x64x128 {α : Type} (x : S16x1x128.Idx → α) (h : S16x1x128.Broadcasts S16x64x128) :
    broadcastTo S16x64x128 x h = fun j => x (ix3 (j 0) (0 : Fin 1) (j 2)) := by
  funext j
  refine Idealize.ShloMosaic.broadcastTo_apply _ h j (ix3 (j 0) (0 : Fin 1) (j 2)) fun a => ?_
  match a with
  | ⟨0, _⟩ => rfl
  | ⟨1, _⟩ => rfl
  | ⟨2, _⟩ => rfl

theorem bc_S16x1x128_S16x64x128_E (x : S16x1x128.Idx → ℝ) (h : S16x1x128.Broadcasts S16x64x128) :
    broadcastTo S16x64x128 (E x : FVec Ideal S16x1x128 φ) h = E fun j => x (ix3 (j 0) (0 : Fin 1) (j 2)) := bc_S16x1x128_S16x64x128 _ h

theorem bc_S16x1x128_S16x128x128 {α : Type} (x : S16x1x128.Idx → α) (h : S16x1x128.Broadcasts S16x128x128) :
    broadcastTo S16x128x128 x h = fun j => x (ix3 (j 0) (0 : Fin 1) (j 2)) := by
  funext j
  refine Idealize.ShloMosaic.broadcastTo_apply _ h j (ix3 (j 0) (0 : Fin 1) (j 2)) fun a => ?_
  match a with
  | ⟨0, _⟩ => rfl
  | ⟨1, _⟩ => rfl
  | ⟨2, _⟩ => rfl

theorem bc_S16x1x128_S16x128x128_E (x : S16x1x128.Idx → ℝ) (h : S16x1x128.Broadcasts S16x128x128) :
    broadcastTo S16x128x128 (E x : FVec Ideal S16x1x128 φ) h = E fun j => x (ix3 (j 0) (0 : Fin 1) (j 2)) := bc_S16x1x128_S16x128x128 _ h

theorem bc_S16x64x1_S16x64x128 {α : Type} (x : S16x64x1.Idx → α) (h : S16x64x1.Broadcasts S16x64x128) :
    broadcastTo S16x64x128 x h = fun j => x (ix3 (j 0) (j 1) (0 : Fin 1)) := by
  funext j
  refine Idealize.ShloMosaic.broadcastTo_apply _ h j (ix3 (j 0) (j 1) (0 : Fin 1)) fun a => ?_
  match a with
  | ⟨0, _⟩ => rfl
  | ⟨1, _⟩ => rfl
  | ⟨2, _⟩ => rfl

theorem bc_S16x64x1_S16x64x128_E (x : S16x64x1.Idx → ℝ) (h : S16x64x1.Broadcasts S16x64x128) :
    broadcastTo S16x64x128 (E x : FVec Ideal S16x64x1 φ) h = E fun j => x (ix3 (j 0) (j 1) (0 : Fin 1)) := bc_S16x64x1_S16x64x128 _ h

theorem bc_S1x1x128_S16x64x128 {α : Type} (x : S1x1x128.Idx → α) (h : S1x1x128.Broadcasts S16x64x128) :
    broadcastTo S16x64x128 x h = fun j => x (ix3 (0 : Fin 1) (0 : Fin 1) (j 2)) := by
  funext j
  refine Idealize.ShloMosaic.broadcastTo_apply _ h j (ix3 (0 : Fin 1) (0 : Fin 1) (j 2)) fun a => ?_
  match a with
  | ⟨0, _⟩ => rfl
  | ⟨1, _⟩ => rfl
  | ⟨2, _⟩ => rfl

theorem bc_S1x1x128_S16x64x128_E (x : S1x1x128.Idx → ℝ) (h : S1x1x128.Broadcasts S16x64x128) :
    broadcastTo S16x64x128 (E x : FVec Ideal S1x1x128 φ) h = E fun j => x (ix3 (0 : Fin 1) (0 : Fin 1) (j 2)) := bc_S1x1x128_S16x64x128 _ h

theorem bc_S1x64x64_S16x64x64 {α : Type} (x : S1x64x64.Idx → α) (h : S1x64x64.Broadcasts S16x64x64) :
    broadcastTo S16x64x64 x h = fun j => x (ix3 (0 : Fin 1) (j 1) (j 2)) := by
  funext j
  refine Idealize.ShloMosaic.broadcastTo_apply _ h j (ix3 (0 : Fin 1) (j 1) (j 2)) fun a => ?_
  match a with
  | ⟨0, _⟩ => rfl
  | ⟨1, _⟩ => rfl
  | ⟨2, _⟩ => rfl

theorem bc_S1x64x64_S16x64x64_E (x : S1x64x64.Idx → ℝ) (h : S1x64x64.Broadcasts S16x64x64) :
    broadcastTo S16x64x64 (E x : FVec Ideal S1x64x64 φ) h = E fun j => x (ix3 (0 : Fin 1) (j 1) (j 2)) := bc_S1x64x64_S16x64x64 _ h

theorem bc_S1x64x64_S16x64x64_M (m : S1x64x64.Idx → Prop) [DecidablePred m] (h : S1x64x64.Broadcasts S16x64x64) :
    broadcastTo S16x64x64 (M m) h = M fun j => m (ix3 (0 : Fin 1) (j 1) (j 2)) := bc_S1x64x64_S16x64x64 _ h

theorem bc_S1x64x128_S16x64x128 {α : Type} (x : S1x64x128.Idx → α) (h : S1x64x128.Broadcasts S16x64x128) :
    broadcastTo S16x64x128 x h = fun j => x (ix3 (0 : Fin 1) (j 1) (j 2)) := by
  funext j
  refine Idealize.ShloMosaic.broadcastTo_apply _ h j (ix3 (0 : Fin 1) (j 1) (j 2)) fun a => ?_
  match a with
  | ⟨0, _⟩ => rfl
  | ⟨1, _⟩ => rfl
  | ⟨2, _⟩ => rfl

theorem bc_S1x64x128_S16x64x128_M (m : S1x64x128.Idx → Prop) [DecidablePred m] (h : S1x64x128.Broadcasts S16x64x128) :
    broadcastTo S16x64x128 (M m) h = M fun j => m (ix3 (0 : Fin 1) (j 1) (j 2)) := bc_S1x64x128_S16x64x128 _ h

end

/-! ## Sums over the two leading axes -/

section

theorem sum_S1x1x128_E (h : S1x1x128.Reduces [0, 1] S128) (hφ hacc) (x : S1x1x128.Idx → ℝ) :
    multiReduction .add [0, 1] S128 (E x : FVec Ideal S1x1x128 .f32) 0x00000000#32 h hφ hacc = E fun j => x (ix3 0 0 (j 0)) := by
  funext j
  show Ideal.reduceAdd h (E x : FVec Ideal S1x1x128 .f32) j = _
  unfold Ideal.reduceAdd
  have key : (Finset.univ.filter fun i => h.drop i = j) = {(ix3 0 0 (j 0) : S1x1x128.Idx)} := by
    ext i
    simp only [Finset.mem_filter, Finset.mem_univ, true_and, Finset.mem_singleton]
    constructor
    · rintro rfl
      rw [eq_ix3 i]
      funext a; apply Fin.ext
      match a with
      | ⟨0, _⟩ => exact Nat.lt_one_iff.1 (i 0).isLt
      | ⟨1, _⟩ => exact Nat.lt_one_iff.1 (i 1).isLt
      | ⟨2, _⟩ => rfl
    · rintro rfl
      funext a; apply Fin.ext
      match a with
      | ⟨0, _⟩ => rfl
  rw [key, Finset.sum_singleton]
  rfl

theorem sum_S16x64x128_E (h : S16x64x128.Reduces [0, 1] S128) (hφ hacc) (x : S16x64x128.Idx → ℝ) :
    multiReduction .add [0, 1] S128 (E x : FVec Ideal S16x64x128 .f32) 0x00000000#32 h hφ hacc
      = E fun j => ∑ a : Fin 16, ∑ b : Fin 64, x (ix3 a b (j 0)) := by
  funext j
  show Ideal.reduceAdd h (E x : FVec Ideal S16x64x128 .f32) j = _
  unfold Ideal.reduceAdd
  have key : (Finset.univ.filter fun i => h.drop i = j)
      = (Finset.univ : Finset (Fin 16 × Fin 64)).image fun p => (ix3 p.1 p.2 (j 0) : S16x64x128.Idx) := by
    ext i
    simp only [Finset.mem_filter, Finset.mem_univ, true_and, Finset.mem_image]
    constructor
    · rintro rfl
      refine ⟨(i 0, i 1), ?_⟩
      funext a; apply Fin.ext
      match a with
      | ⟨0, _⟩ => rfl
      | ⟨1, _⟩ => rfl
      | ⟨2, _⟩ => rfl
    · rintro ⟨p, rfl⟩
      funext a; apply Fin.ext
      match a with
      | ⟨0, _⟩ => rfl
  rw [key, Finset.sum_image (fun p _ q _ e => Prod.ext (congrFun e 0) (congrFun e 1)), Fintype.sum_prod_type]
  show (∑ a, ∑ b, ((x (ix3 a b (j 0)) : ℝ) : EReal)) = ((∑ a : Fin 16, ∑ b : Fin 64, x (ix3 a b (j 0)) : ℝ) : EReal)
  rw [coe_sum]
  exact Finset.sum_congr rfl fun a _ => (coe_sum _).symm

end

end Cert.Proof
-- ==== Proof.Inputs.lean ====
/- What one chunk reads: plain reads of the block's arrays. -/
module

public import proofs.«01_k».proof.Proof.Body
public import proofs.«01_k».proof.Proof.Lift
public import Idealize.ShloMosaic.Lib.VecWindow

@[expose] public section

noncomputable section

namespace Cert.Proof

open Idealize.ShloMosaic Idealize.ShloMosaic.ValueIdx Idealize.SL.Sem Cert.KernelIdeal Cert.KernelIdeal.Gen

variable {sig' : RefSig} {κ' : Kind} {sp' : Space}

/-- Where the chunk of half `a` finds its entry: row `64·a + t`, column `128·h + k` of a segment. -/
def at2 (a : Fin 2) (h : Fin 16) (t : Fin 64) (k : Fin 128) : S128x2048.Idx :=
  ix2 (⟨64 * a.val + t.val, by omega⟩ : Fin 128) (⟨128 * h.val + k.val, by omega⟩ : Fin 2048)

/-- Where it finds a row of the lower-bound table. -/
def atTab (r : Fin 2) (h : Fin 16) (k : Fin 128) : S2x2048.Idx := ix2 r (⟨128 * h.val + k.val, by omega⟩ : Fin 2048)

/-- One chunk's inputs out of the block's arrays. -/
def chunkIn (a : Fin 2) (x0 x1 x2 x3 : Vec Ideal S128x2048 .f32) (x4 : Vec Ideal S2x2048 .f32) (x5 : Vec Ideal S1x128 .f32)
    (x6 : Vec Ideal S16x2x128x128 .f32) (x7 : Vec Ideal S128x2048 .bf16) (dst : FVec Ideal S16x128x128 .f32) : In where
  t0 := fun i => x4 (atTab 0 (i 0) (i 2))
  t1 := fun i => x4 (atTab 1 (i 0) (i 2))
  nw := x5
  q := fun i => x0 (at2 a (i 0) (i 1) (i 2))
  f := fun i => x1 (at2 a (i 0) (i 1) (i 2))
  v := fun i => x2 (at2 a (i 0) (i 1) (i 2))
  g := fun i => x3 (at2 a (i 0) (i 1) (i 2))
  st := fun i => x6 (ix4 (i 0) a (i 1) (i 2))
  dy := fun i => x7 (at2 a (i 0) (i 1) (i 2))
  dst := dst

theorem rowInb (a h : ℕ) (ha : a < 2) (hh : h < 16) : ∀ b, (![64 * a, 128 * h] : Fin 2 → ℕ) b + S64x128.size b ≤ S128x2048.size b := by
  intro b
  match b with
  | ⟨0, _⟩ => show 64 * a + 64 ≤ 128; omega
  | ⟨1, _⟩ => show 128 * h + 128 ≤ 2048; omega

theorem lineInb (r h : ℕ) (hr : r < 2) (hh : h < 16) : ∀ b, (![r, 128 * h] : Fin 2 → ℕ) b + S1x128.size b ≤ S2x2048.size b := by
  intro b
  match b with
  | ⟨0, _⟩ => show r + 1 ≤ 2; omega
  | ⟨1, _⟩ => show 128 * h + 128 ≤ 2048; omega

/-- The rectangles of the loads. -/
abbrev rowRect (a : Fin 2) (h : Fin 16) : Rect S128x2048 := Rect.unit ![64 * a.val, 128 * h.val] S64x128.size (rowInb a.val h.val a.isLt h.isLt)
abbrev lineRect (r : Fin 2) (h : Fin 16) : Rect S2x2048 := Rect.unit ![r.val, 128 * h.val] S1x128.size (lineInb r.val h.val r.isLt h.isLt)

/-- The heads' slabs of a chunk, one under the other. -/
def rowsOf {e : EltTy} (v : View sig' κ' sp' S128x2048 e) (f : v.ty.Contents (Elt Ideal)) (a : Fin 2) : S16x64x128.Idx → Elt Ideal e :=
  concatenate S16x64x128 0 (List.ofFn fun h : Fin 16 => (⟨S1x64x128, shapeCast S1x64x128 (s := S64x128)
    (v.readAt (Elt Ideal) (rowRect a h).toLoadRect f) shapeCasts_S64x128_S1x64x128⟩ :
      (s : Shape) × (s.Idx → Elt Ideal e))) concatenates_S1x64x128_S1x64x128_S1x64x128_S1x64x128_S1x64x128_S1x64x128_S1x64x128_S1x64x128_S1x64x128_S1x64x128_S1x64x128_S1x64x128_S1x64x128_S1x64x128_S1x64x128_S1x64x128_S16x64x128_d0

theorem rowsOf_apply {e : EltTy} (v : View sig' κ' sp' S128x2048 e) (f : v.ty.Contents (Elt Ideal)) (a : Fin 2) (i : S16x64x128.Idx) :
    rowsOf v f a i = v.read (Elt Ideal) f (at2 a (i 0) (i 1) (i 2)) := by
  refine (concatenate_ofFn_unit_apply (t := S16x64x128) (s₁ := S1x64x128) 0 (N := 16) _ _ rfl rfl i (i 0) rfl (ix3 0 (i 1) (i 2)) ?_).trans ?_
  · intro b hb
    match b with
    | ⟨0, _⟩ => exact absurd rfl hb
    | ⟨1, _⟩ => rfl
    | ⟨2, _⟩ => rfl
  refine (Idealize.ShloMosaic.shapeCast_apply (s := S64x128) _ _ _ (ix2 (i 1) (i 2)) ?_).trans ?_
  · rw [Shape.rowMajor_val_two, Shape.rowMajor_val_three]
    show (i 1).val * 128 + (i 2).val = (0 * 64 + (i 1).val) * 128 + (i 2).val; omega
  · rw [View.readAt_apply]
    refine congrArg _ (funext fun b => Fin.ext ?_)
    match b with
    | ⟨0, _⟩ => show 64 * a.val + 1 * (i 1).val = 64 * a.val + (i 1).val; omega
    | ⟨1, _⟩ => show 128 * (i 0).val + 1 * (i 2).val = 128 * (i 0).val + (i 2).val; omega

/-- The heads' pieces of a row of the table, one under the other. -/
def linesOf (v : View sig' κ' sp' S2x2048 .f32) (f : v.ty.Contents (Elt Ideal)) (r : Fin 2) : FVec Ideal S16x1x128 .f32 :=
  concatenate S16x1x128 0 (List.ofFn fun h : Fin 16 => (⟨S1x1x128, shapeCast S1x1x128 (s := S1x128)
    (v.readAt (Elt Ideal) (lineRect r h).toLoadRect f) shapeCasts_S1x128_S1x1x128⟩ :
      (s : Shape) × (s.Idx → Elt Ideal .f32))) concatenates_S1x1x128_S1x1x128_S1x1x128_S1x1x128_S1x1x128_S1x1x128_S1x1x128_S1x1x128_S1x1x128_S1x1x128_S1x1x128_S1x1x128_S1x1x128_S1x1x128_S1x1x128_S1x1x128_S16x1x128_d0

theorem linesOf_apply (v : View sig' κ' sp' S2x2048 .f32) (f : v.ty.Contents (Elt Ideal)) (r : Fin 2) (i : S16x1x128.Idx) :
    linesOf v f r i = v.read (Elt Ideal) f (atTab r (i 0) (i 2)) := by
  refine (concatenate_ofFn_unit_apply (t := S16x1x128) (s₁ := S1x1x128) 0 (N := 16) _ _ rfl rfl i (i 0) rfl (ix3 0 0 (i 2)) ?_).trans ?_
  · intro b hb
    have h1 := (i 1).isLt; change (i 1).val < 1 at h1
    match b with
    | ⟨0, _⟩ => exact absurd rfl hb
    | ⟨1, _⟩ => show 0 = (i 1).val; omega
    | ⟨2, _⟩ => rfl
  refine (Idealize.ShloMosaic.shapeCast_apply (s := S1x128) _ _ _ (ix2 0 (i 2)) ?_).trans ?_
  · rw [Shape.rowMajor_val_two, Shape.rowMajor_val_three]
    show 0 * 128 + (i 2).val = (0 * 1 + 0) * 128 + (i 2).val; omega
  · rw [View.readAt_apply]
    refine congrArg _ (funext fun b => Fin.ext ?_)
    match b with
    | ⟨0, _⟩ => show r.val + 1 * 0 = r.val; omega
    | ⟨1, _⟩ => show 128 * (i 0).val + 1 * (i 2).val = 128 * (i 0).val + (i 2).val; omega

theorem stInb (a : ℕ) (ha : a < 2) : ∀ b, (![0, a, 0, 0] : Fin 4 → ℕ) b + S16x1x128x128.size b ≤ S16x2x128x128.size b := by
  intro b
  match b with
  | ⟨0, _⟩ => exact le_refl _
  | ⟨1, _⟩ => exact ha
  | ⟨2, _⟩ => exact le_refl _
  | ⟨3, _⟩ => exact le_refl _

abbrev stRect (a : Fin 2) : Rect S16x2x128x128 := Rect.unit ![0, a.val, 0, 0] S16x1x128x128.size (stInb a.val a.isLt)

/-- The states the chunk begins with. -/
def statesOf (v : View sig' κ' sp' S16x2x128x128 .f32) (f : v.ty.Contents (Elt Ideal)) (a : Fin 2) : FVec Ideal S16x128x128 .f32 :=
  shapeCast S16x128x128 (s := S16x1x128x128) (v.readAt (Elt Ideal) (stRect a).toLoadRect f) shapeCasts_S16x1x128x128_S16x128x128

theorem statesOf_apply (v : View sig' κ' sp' S16x2x128x128 .f32) (f : v.ty.Contents (Elt Ideal)) (a : Fin 2) (i : S16x128x128.Idx) :
    statesOf v f a i = v.read (Elt Ideal) f (ix4 (i 0) a (i 1) (i 2)) := by
  refine (Idealize.ShloMosaic.shapeCast_apply (s := S16x1x128x128) _ _ _ (ix4 (i 0) 0 (i 1) (i 2)) ?_).trans ?_
  · rw [Shape.rowMajor_val_four, Shape.rowMajor_val_three]
    show (((i 0).val * 1 + 0) * 128 + (i 1).val) * 128 + (i 2).val = ((i 0).val * 128 + (i 1).val) * 128 + (i 2).val; omega
  · rw [View.readAt_apply]
    refine congrArg _ (funext fun b => Fin.ext ?_)
    match b with
    | ⟨0, _⟩ => show 0 + 1 * (i 0).val = (i 0).val; omega
    | ⟨1, _⟩ => show a.val + 1 * 0 = a.val; omega
    | ⟨2, _⟩ => show 0 + 1 * (i 1).val = (i 1).val; omega
    | ⟨3, _⟩ => show 0 + 1 * (i 2).val = (i 2).val; omega

variable (c : Dev nD)
  (arg2 : Memref sig .tc .vmem S128x2048 .f32) (harg2 : arg2.IsWhole)
  (arg3 : Memref sig .tc .vmem S128x2048 .f32) (harg3 : arg3.IsWhole)
  (arg4 : Memref sig .tc .vmem S128x2048 .f32) (harg4 : arg4.IsWhole)
  (arg5 : Memref sig .tc .vmem S128x2048 .f32) (harg5 : arg5.IsWhole)
  (arg6 : Memref sig .tc .vmem S2x2048 .f32) (harg6 : arg6.IsWhole)
  (arg7 : Memref sig .tc .vmem S1x128 .f32) (harg7 : arg7.IsWhole)
  (arg8 : Memref sig .tc .vmem S16x2x128x128 .f32) (harg8 : arg8.IsWhole)
  (arg9 : Memref sig .tc .vmem S128x2048 .bf16) (harg9 : arg9.IsWhole)
  (arg13 : Memref sig .tc .vmem S16x128x128 .f32) (harg13 : arg13.IsWhole)
  (x0 : Vec Ideal S128x2048 .f32)
  (x1 : Vec Ideal S128x2048 .f32)
  (x2 : Vec Ideal S128x2048 .f32)
  (x3 : Vec Ideal S128x2048 .f32)
  (x4 : Vec Ideal S2x2048 .f32)
  (x5 : Vec Ideal S1x128 .f32)
  (x6 : Vec Ideal S16x2x128x128 .f32)
  (x7 : Vec Ideal S128x2048 .bf16)
  (xs0 : Vec Ideal S16x128x128 .f32)

theorem inA1_eq : inA1 c arg2 harg2 arg3 harg3 arg4 harg4 arg5 harg5 arg6 harg6 arg7 harg7 arg8 harg8 arg9 harg9 arg13 x0 x1 x2 x3 x4 x5 x6 x7
    = chunkIn 1 x0 x1 x2 x3 x4 x5 x6 x7 (inA1 c arg2 harg2 arg3 harg3 arg4 harg4 arg5 harg5 arg6 harg6 arg7 harg7 arg8 harg8 arg9 harg9 arg13 x0 x1 x2 x3 x4 x5 x6 x7).dst := by
  have t0 : (inA1 c arg2 harg2 arg3 harg3 arg4 harg4 arg5 harg5 arg6 harg6 arg7 harg7 arg8 harg8 arg9 harg9 arg13 x0 x1 x2 x3 x4 x5 x6 x7).t0 = linesOf arg6.view (harg6.unread x4) 0 := by sl_kernel_rfl
  have t1 : (inA1 c arg2 harg2 arg3 harg3 arg4 harg4 arg5 harg5 arg6 harg6 arg7 harg7 arg8 harg8 arg9 harg9 arg13 x0 x1 x2 x3 x4 x5 x6 x7).t1 = linesOf arg6.view (harg6.unread x4) 1 := by sl_kernel_rfl
  have q : (inA1 c arg2 harg2 arg3 harg3 arg4 harg4 arg5 harg5 arg6 harg6 arg7 harg7 arg8 harg8 arg9 harg9 arg13 x0 x1 x2 x3 x4 x5 x6 x7).q = rowsOf arg2.view (harg2.unread x0) 1 := by sl_kernel_rfl
  have f : (inA1 c arg2 harg2 arg3 harg3 arg4 harg4 arg5 harg5 arg6 harg6 arg7 harg7 arg8 harg8 arg9 harg9 arg13 x0 x1 x2 x3 x4 x5 x6 x7).f = rowsOf arg3.view (harg3.unread x1) 1 := by sl_kernel_rfl
  have v : (inA1 c arg2 harg2 arg3 harg3 arg4 harg4 arg5 harg5 arg6 harg6 arg7 harg7 arg8 harg8 arg9 harg9 arg13 x0 x1 x2 x3 x4 x5 x6 x7).v = rowsOf arg4.view (harg4.unread x2) 1 := by sl_kernel_rfl
  have g : (inA1 c arg2 harg2 arg3 harg3 arg4 harg4 arg5 harg5 arg6 harg6 arg7 harg7 arg8 harg8 arg9 harg9 arg13 x0 x1 x2 x3 x4 x5 x6 x7).g = rowsOf arg5.view (harg5.unread x3) 1 := by sl_kernel_rfl
  have st : (inA1 c arg2 harg2 arg3 harg3 arg4 harg4 arg5 harg5 arg6 harg6 arg7 harg7 arg8 harg8 arg9 harg9 arg13 x0 x1 x2 x3 x4 x5 x6 x7).st = statesOf arg8.view (harg8.unread x6) 1 := by sl_kernel_rfl
  have dy : (inA1 c arg2 harg2 arg3 harg3 arg4 harg4 arg5 harg5 arg6 harg6 arg7 harg7 arg8 harg8 arg9 harg9 arg13 x0 x1 x2 x3 x4 x5 x6 x7).dy = extf (F := Ideal) (φ := .bf16) .f32 (rowsOf arg9.view (harg9.unread x7) 1) bitsLt_bf16_f32 := by sl_kernel_rfl
  have nw : (inA1 c arg2 harg2 arg3 harg3 arg4 harg4 arg5 harg5 arg6 harg6 arg7 harg7 arg8 harg8 arg9 harg9 arg13 x0 x1 x2 x3 x4 x5 x6 x7).nw = arg7.view.readAt (Elt Ideal) (Rect.unit ![0, 0] S1x128.size inb_S1x128_S1x128_0_0).toLoadRect (harg7.unread x5) := by sl_kernel_rfl
  rw [View.readAt_full, harg7.read_unread] at nw
  have t0' : (inA1 c arg2 harg2 arg3 harg3 arg4 harg4 arg5 harg5 arg6 harg6 arg7 harg7 arg8 harg8 arg9 harg9 arg13 x0 x1 x2 x3 x4 x5 x6 x7).t0 = fun i => x4 (atTab 0 (i 0) (i 2)) := by rw [t0]; funext i; rw [linesOf_apply, harg6.read_unread]
  have t1' : (inA1 c arg2 harg2 arg3 harg3 arg4 harg4 arg5 harg5 arg6 harg6 arg7 harg7 arg8 harg8 arg9 harg9 arg13 x0 x1 x2 x3 x4 x5 x6 x7).t1 = fun i => x4 (atTab 1 (i 0) (i 2)) := by rw [t1]; funext i; rw [linesOf_apply, harg6.read_unread]
  have q' : (inA1 c arg2 harg2 arg3 harg3 arg4 harg4 arg5 harg5 arg6 harg6 arg7 harg7 arg8 harg8 arg9 harg9 arg13 x0 x1 x2 x3 x4 x5 x6 x7).q = fun i => x0 (at2 1 (i 0) (i 1) (i 2)) := by rw [q]; funext i; rw [rowsOf_apply, harg2.read_unread]
  have f' : (inA1 c arg2 harg2 arg3 harg3 arg4 harg4 arg5 harg5 arg6 harg6 arg7 harg7 arg8 harg8 arg9 harg9 arg13 x0 x1 x2 x3 x4 x5 x6 x7).f = fun i => x1 (at2 1 (i 0) (i 1) (i 2)) := by rw [f]; funext i; rw [rowsOf_apply, harg3.read_unread]
  have v' : (inA1 c arg2 harg2 arg3 harg3 arg4 harg4 arg5 harg5 arg6 harg6 arg7 harg7 arg8 harg8 arg9 harg9 arg13 x0 x1 x2 x3 x4 x5 x6 x7).v = fun i => x2 (at2 1 (i 0) (i 1) (i 2)) := by rw [v]; funext i; rw [rowsOf_apply, harg4.read_unread]
  have g' : (inA1 c arg2 harg2 arg3 harg3 arg4 harg4 arg5 harg5 arg6 harg6 arg7 harg7 arg8 harg8 arg9 harg9 arg13 x0 x1 x2 x3 x4 x5 x6 x7).g = fun i => x3 (at2 1 (i 0) (i 1) (i 2)) := by rw [g]; funext i; rw [rowsOf_apply, harg5.read_unread]
  have st' : (inA1 c arg2 harg2 arg3 harg3 arg4 harg4 arg5 harg5 arg6 harg6 arg7 harg7 arg8 harg8 arg9 harg9 arg13 x0 x1 x2 x3 x4 x5 x6 x7).st = fun i => x6 (ix4 (i 0) 1 (i 1) (i 2)) := by rw [st]; funext i; rw [statesOf_apply, harg8.read_unread]
  have dy' : (inA1 c arg2 harg2 arg3 harg3 arg4 harg4 arg5 harg5 arg6 harg6 arg7 harg7 arg8 harg8 arg9 harg9 arg13 x0 x1 x2 x3 x4 x5 x6 x7).dy = fun i => x7 (at2 1 (i 0) (i 1) (i 2)) := by
    rw [dy]; funext i; exact (rowsOf_apply arg9.view (harg9.unread x7) 1 i).trans (by rw [harg9.read_unread])
  revert t0' t1' q' f' v' g' st' dy' nw
  generalize (inA1 c arg2 harg2 arg3 harg3 arg4 harg4 arg5 harg5 arg6 harg6 arg7 harg7 arg8 harg8 arg9 harg9 arg13 x0 x1 x2 x3 x4 x5 x6 x7) = I
  intro nw t0 t1 q f v g st dy
  obtain ⟨⟩ := I
  subst t0 t1 q f v g st dy nw
  rfl

theorem inA0_eq : inA0 c arg2 harg2 arg3 harg3 arg4 harg4 arg5 harg5 arg6 harg6 arg7 harg7 arg8 harg8 arg9 harg9 arg13 x0 x1 x2 x3 x4 x5 x6 x7
    = chunkIn 0 x0 x1 x2 x3 x4 x5 x6 x7 (inA0 c arg2 harg2 arg3 harg3 arg4 harg4 arg5 harg5 arg6 harg6 arg7 harg7 arg8 harg8 arg9 harg9 arg13 x0 x1 x2 x3 x4 x5 x6 x7).dst := by
  have t0 : (inA0 c arg2 harg2 arg3 harg3 arg4 harg4 arg5 harg5 arg6 harg6 arg7 harg7 arg8 harg8 arg9 harg9 arg13 x0 x1 x2 x3 x4 x5 x6 x7).t0 = linesOf arg6.view (harg6.unread x4) 0 := by sl_kernel_rfl
  have t1 : (inA0 c arg2 harg2 arg3 harg3 arg4 harg4 arg5 harg5 arg6 harg6 arg7 harg7 arg8 harg8 arg9 harg9 arg13 x0 x1 x2 x3 x4 x5 x6 x7).t1 = linesOf arg6.view (harg6.unread x4) 1 := by sl_kernel_rfl
  have q : (inA0 c arg2 harg2 arg3 harg3 arg4 harg4 arg5 harg5 arg6 harg6 arg7 harg7 arg8 harg8 arg9 harg9 arg13 x0 x1 x2 x3 x4 x5 x6 x7).q = rowsOf arg2.view (harg2.unread x0) 0 := by sl_kernel_rfl
  have f : (inA0 c arg2 harg2 arg3 harg3 arg4 harg4 arg5 harg5 arg6 harg6 arg7 harg7 arg8 harg8 arg9 harg9 arg13 x0 x1 x2 x3 x4 x5 x6 x7).f = rowsOf arg3.view (harg3.unread x1) 0 := by sl_kernel_rfl
  have v : (inA0 c arg2 harg2 arg3 harg3 arg4 harg4 arg5 harg5 arg6 harg6 arg7 harg7 arg8 harg8 arg9 harg9 arg13 x0 x1 x2 x3 x4 x5 x6 x7).v = rowsOf arg4.view (harg4.unread x2) 0 := by sl_kernel_rfl
  have g : (inA0 c arg2 harg2 arg3 harg3 arg4 harg4 arg5 harg5 arg6 harg6 arg7 harg7 arg8 harg8 arg9 harg9 arg13 x0 x1 x2 x3 x4 x5 x6 x7).g = rowsOf arg5.view (harg5.unread x3) 0 := by sl_kernel_rfl
  have st : (inA0 c arg2 harg2 arg3 harg3 arg4 harg4 arg5 harg5 arg6 harg6 arg7 harg7 arg8 harg8 arg9 harg9 arg13 x0 x1 x2 x3 x4 x5 x6 x7).st = statesOf arg8.view (harg8.unread x6) 0 := by sl_kernel_rfl
  have dy : (inA0 c arg2 harg2 arg3 harg3 arg4 harg4 arg5 harg5 arg6 harg6 arg7 harg7 arg8 harg8 arg9 harg9 arg13 x0 x1 x2 x3 x4 x5 x6 x7).dy = extf (F := Ideal) (φ := .bf16) .f32 (rowsOf arg9.view (harg9.unread x7) 0) bitsLt_bf16_f32 := by sl_kernel_rfl
  have nw : (inA0 c arg2 harg2 arg3 harg3 arg4 harg4 arg5 harg5 arg6 harg6 arg7 harg7 arg8 harg8 arg9 harg9 arg13 x0 x1 x2 x3 x4 x5 x6 x7).nw = arg7.view.readAt (Elt Ideal) (Rect.unit ![0, 0] S1x128.size inb_S1x128_S1x128_0_0).toLoadRect (harg7.unread x5) := by sl_kernel_rfl
  rw [View.readAt_full, harg7.read_unread] at nw
  have t0' : (inA0 c arg2 harg2 arg3 harg3 arg4 harg4 arg5 harg5 arg6 harg6 arg7 harg7 arg8 harg8 arg9 harg9 arg13 x0 x1 x2 x3 x4 x5 x6 x7).t0 = fun i => x4 (atTab 0 (i 0) (i 2)) := by rw [t0]; funext i; rw [linesOf_apply, harg6.read_unread]
  have t1' : (inA0 c arg2 harg2 arg3 harg3 arg4 harg4 arg5 harg5 arg6 harg6 arg7 harg7 arg8 harg8 arg9 harg9 arg13 x0 x1 x2 x3 x4 x5 x6 x7).t1 = fun i => x4 (atTab 1 (i 0) (i 2)) := by rw [t1]; funext i; rw [linesOf_apply, harg6.read_unread]
  have q' : (inA0 c arg2 harg2 arg3 harg3 arg4 harg4 arg5 harg5 arg6 harg6 arg7 harg7 arg8 harg8 arg9 harg9 arg13 x0 x1 x2 x3 x4 x5 x6 x7).q = fun i => x0 (at2 0 (i 0) (i 1) (i 2)) := by rw [q]; funext i; rw [rowsOf_apply, harg2.read_unread]
  have f' : (inA0 c arg2 harg2 arg3 harg3 arg4 harg4 arg5 harg5 arg6 harg6 arg7 harg7 arg8 harg8 arg9 harg9 arg13 x0 x1 x2 x3 x4 x5 x6 x7).f = fun i => x1 (at2 0 (i 0) (i 1) (i 2)) := by rw [f]; funext i; rw [rowsOf_apply, harg3.read_unread]
  have v' : (inA0 c arg2 harg2 arg3 harg3 arg4 harg4 arg5 harg5 arg6 harg6 arg7 harg7 arg8 harg8 arg9 harg9 arg13 x0 x1 x2 x3 x4 x5 x6 x7).v = fun i => x2 (at2 0 (i 0) (i 1) (i 2)) := by rw [v]; funext i; rw [rowsOf_apply, harg4.read_unread]
  have g' : (inA0 c arg2 harg2 arg3 harg3 arg4 harg4 arg5 harg5 arg6 harg6 arg7 harg7 arg8 harg8 arg9 harg9 arg13 x0 x1 x2 x3 x4 x5 x6 x7).g = fun i => x3 (at2 0 (i 0) (i 1) (i 2)) := by rw [g]; funext i; rw [rowsOf_apply, harg5.read_unread]
  have st' : (inA0 c arg2 harg2 arg3 harg3 arg4 harg4 arg5 harg5 arg6 harg6 arg7 harg7 arg8 harg8 arg9 harg9 arg13 x0 x1 x2 x3 x4 x5 x6 x7).st = fun i => x6 (ix4 (i 0) 0 (i 1) (i 2)) := by rw [st]; funext i; rw [statesOf_apply, harg8.read_unread]
  have dy' : (inA0 c arg2 harg2 arg3 harg3 arg4 harg4 arg5 harg5 arg6 harg6 arg7 harg7 arg8 harg8 arg9 harg9 arg13 x0 x1 x2 x3 x4 x5 x6 x7).dy = fun i => x7 (at2 0 (i 0) (i 1) (i 2)) := by
    rw [dy]; funext i; exact (rowsOf_apply arg9.view (harg9.unread x7) 0 i).trans (by rw [harg9.read_unread])
  revert t0' t1' q' f' v' g' st' dy' nw
  generalize (inA0 c arg2 harg2 arg3 harg3 arg4 harg4 arg5 harg5 arg6 harg6 arg7 harg7 arg8 harg8 arg9 harg9 arg13 x0 x1 x2 x3 x4 x5 x6 x7) = I
  intro nw t0 t1 q f v g st dy
  obtain ⟨⟩ := I
  subst t0 t1 q f v g st dy nw
  rfl

theorem inB1_eq : inB1 c arg2 harg2 arg3 harg3 arg4 harg4 arg5 harg5 arg6 harg6 arg7 harg7 arg8 harg8 arg9 harg9 arg13 harg13 x0 x1 x2 x3 x4 x5 x6 x7 xs0
    = chunkIn 1 x0 x1 x2 x3 x4 x5 x6 x7 (inB1 c arg2 harg2 arg3 harg3 arg4 harg4 arg5 harg5 arg6 harg6 arg7 harg7 arg8 harg8 arg9 harg9 arg13 harg13 x0 x1 x2 x3 x4 x5 x6 x7 xs0).dst := by
  have t0 : (inB1 c arg2 harg2 arg3 harg3 arg4 harg4 arg5 harg5 arg6 harg6 arg7 harg7 arg8 harg8 arg9 harg9 arg13 harg13 x0 x1 x2 x3 x4 x5 x6 x7 xs0).t0 = linesOf arg6.view (harg6.unread x4) 0 := by sl_kernel_rfl
  have t1 : (inB1 c arg2 harg2 arg3 harg3 arg4 harg4 arg5 harg5 arg6 harg6 arg7 harg7 arg8 harg8 arg9 harg9 arg13 harg13 x0 x1 x2 x3 x4 x5 x6 x7 xs0).t1 = linesOf arg6.view (harg6.unread x4) 1 := by sl_kernel_rfl
  have q : (inB1 c arg2 harg2 arg3 harg3 arg4 harg4 arg5 harg5 arg6 harg6 arg7 harg7 arg8 harg8 arg9 harg9 arg13 harg13 x0 x1 x2 x3 x4 x5 x6 x7 xs0).q = rowsOf arg2.view (harg2.unread x0) 1 := by sl_kernel_rfl
  have f : (inB1 c arg2 harg2 arg3 harg3 arg4 harg4 arg5 harg5 arg6 harg6 arg7 harg7 arg8 harg8 arg9 harg9 arg13 harg13 x0 x1 x2 x3 x4 x5 x6 x7 xs0).f = rowsOf arg3.view (harg3.unread x1) 1 := by sl_kernel_rfl
  have v : (inB1 c arg2 harg2 arg3 harg3 arg4 harg4 arg5 harg5 arg6 harg6 arg7 harg7 arg8 harg8 arg9 harg9 arg13 harg13 x0 x1 x2 x3 x4 x5 x6 x7 xs0).v = rowsOf arg4.view (harg4.unread x2) 1 := by sl_kernel_rfl
  have g : (inB1 c arg2 harg2 arg3 harg3 arg4 harg4 arg5 harg5 arg6 harg6 arg7 harg7 arg8 harg8 arg9 harg9 arg13 harg13 x0 x1 x2 x3 x4 x5 x6 x7 xs0).g = rowsOf arg5.view (harg5.unread x3) 1 := by sl_kernel_rfl
  have st : (inB1 c arg2 harg2 arg3 harg3 arg4 harg4 arg5 harg5 arg6 harg6 arg7 harg7 arg8 harg8 arg9 harg9 arg13 harg13 x0 x1 x2 x3 x4 x5 x6 x7 xs0).st = statesOf arg8.view (harg8.unread x6) 1 := by sl_kernel_rfl
  have dy : (inB1 c arg2 harg2 arg3 harg3 arg4 harg4 arg5 harg5 arg6 harg6 arg7 harg7 arg8 harg8 arg9 harg9 arg13 harg13 x0 x1 x2 x3 x4 x5 x6 x7 xs0).dy = extf (F := Ideal) (φ := .bf16) .f32 (rowsOf arg9.view (harg9.unread x7) 1) bitsLt_bf16_f32 := by sl_kernel_rfl
  have nw : (inB1 c arg2 harg2 arg3 harg3 arg4 harg4 arg5 harg5 arg6 harg6 arg7 harg7 arg8 harg8 arg9 harg9 arg13 harg13 x0 x1 x2 x3 x4 x5 x6 x7 xs0).nw = arg7.view.readAt (Elt Ideal) (Rect.unit ![0, 0] S1x128.size inb_S1x128_S1x128_0_0).toLoadRect (harg7.unread x5) := by sl_kernel_rfl
  rw [View.readAt_full, harg7.read_unread] at nw
  have t0' : (inB1 c arg2 harg2 arg3 harg3 arg4 harg4 arg5 harg5 arg6 harg6 arg7 harg7 arg8 harg8 arg9 harg9 arg13 harg13 x0 x1 x2 x3 x4 x5 x6 x7 xs0).t0 = fun i => x4 (atTab 0 (i 0) (i 2)) := by rw [t0]; funext i; rw [linesOf_apply, harg6.read_unread]
  have t1' : (inB1 c arg2 harg2 arg3 harg3 arg4 harg4 arg5 harg5 arg6 harg6 arg7 harg7 arg8 harg8 arg9 harg9 arg13 harg13 x0 x1 x2 x3 x4 x5 x6 x7 xs0).t1 = fun i => x4 (atTab 1 (i 0) (i 2)) := by rw [t1]; funext i; rw [linesOf_apply, harg6.read_unread]
  have q' : (inB1 c arg2 harg2 arg3 harg3 arg4 harg4 arg5 harg5 arg6 harg6 arg7 harg7 arg8 harg8 arg9 harg9 arg13 harg13 x0 x1 x2 x3 x4 x5 x6 x7 xs0).q = fun i => x0 (at2 1 (i 0) (i 1) (i 2)) := by rw [q]; funext i; rw [rowsOf_apply, harg2.read_unread]
  have f' : (inB1 c arg2 harg2 arg3 harg3 arg4 harg4 arg5 harg5 arg6 harg6 arg7 harg7 arg8 harg8 arg9 harg9 arg13 harg13 x0 x1 x2 x3 x4 x5 x6 x7 xs0).f = fun i => x1 (at2 1 (i 0) (i 1) (i 2)) := by rw [f]; funext i; rw [rowsOf_apply, harg3.read_unread]
  have v' : (inB1 c arg2 harg2 arg3 harg3 arg4 harg4 arg5 harg5 arg6 harg6 arg7 harg7 arg8 harg8 arg9 harg9 arg13 harg13 x0 x1 x2 x3 x4 x5 x6 x7 xs0).v = fun i => x2 (at2 1 (i 0) (i 1) (i 2)) := by rw [v]; funext i; rw [rowsOf_apply, harg4.read_unread]
  have g' : (inB1 c arg2 harg2 arg3 harg3 arg4 harg4 arg5 harg5 arg6 harg6 arg7 harg7 arg8 harg8 arg9 harg9 arg13 harg13 x0 x1 x2 x3 x4 x5 x6 x7 xs0).g = fun i => x3 (at2 1 (i 0) (i 1) (i 2)) := by rw [g]; funext i; rw [rowsOf_apply, harg5.read_unread]
  have st' : (inB1 c arg2 harg2 arg3 harg3 arg4 harg4 arg5 harg5 arg6 harg6 arg7 harg7 arg8 harg8 arg9 harg9 arg13 harg13 x0 x1 x2 x3 x4 x5 x6 x7 xs0).st = fun i => x6 (ix4 (i 0) 1 (i 1) (i 2)) := by rw [st]; funext i; rw [statesOf_apply, harg8.read_unread]
  have dy' : (inB1 c arg2 harg2 arg3 harg3 arg4 harg4 arg5 harg5 arg6 harg6 arg7 harg7 arg8 harg8 arg9 harg9 arg13 harg13 x0 x1 x2 x3 x4 x5 x6 x7 xs0).dy = fun i => x7 (at2 1 (i 0) (i 1) (i 2)) := by
    rw [dy]; funext i; exact (rowsOf_apply arg9.view (harg9.unread x7) 1 i).trans (by rw [harg9.read_unread])
  revert t0' t1' q' f' v' g' st' dy' nw
  generalize (inB1 c arg2 harg2 arg3 harg3 arg4 harg4 arg5 harg5 arg6 harg6 arg7 harg7 arg8 harg8 arg9 harg9 arg13 harg13 x0 x1 x2 x3 x4 x5 x6 x7 xs0) = I
  intro nw t0 t1 q f v g st dy
  obtain ⟨⟩ := I
  subst t0 t1 q f v g st dy nw
  rfl

theorem inB0_eq : inB0 c arg2 harg2 arg3 harg3 arg4 harg4 arg5 harg5 arg6 harg6 arg7 harg7 arg8 harg8 arg9 harg9 arg13 harg13 x0 x1 x2 x3 x4 x5 x6 x7 xs0
    = chunkIn 0 x0 x1 x2 x3 x4 x5 x6 x7 (inB0 c arg2 harg2 arg3 harg3 arg4 harg4 arg5 harg5 arg6 harg6 arg7 harg7 arg8 harg8 arg9 harg9 arg13 harg13 x0 x1 x2 x3 x4 x5 x6 x7 xs0).dst := by
  have t0 : (inB0 c arg2 harg2 arg3 harg3 arg4 harg4 arg5 harg5 arg6 harg6 arg7 harg7 arg8 harg8 arg9 harg9 arg13 harg13 x0 x1 x2 x3 x4 x5 x6 x7 xs0).t0 = linesOf arg6.view (harg6.unread x4) 0 := by sl_kernel_rfl
  have t1 : (inB0 c arg2 harg2 arg3 harg3 arg4 harg4 arg5 harg5 arg6 harg6 arg7 harg7 arg8 harg8 arg9 harg9 arg13 harg13 x0 x1 x2 x3 x4 x5 x6 x7 xs0).t1 = linesOf arg6.view (harg6.unread x4) 1 := by sl_kernel_rfl
  have q : (inB0 c arg2 harg2 arg3 harg3 arg4 harg4 arg5 harg5 arg6 harg6 arg7 harg7 arg8 harg8 arg9 harg9 arg13 harg13 x0 x1 x2 x3 x4 x5 x6 x7 xs0).q = rowsOf arg2.view (harg2.unread x0) 0 := by sl_kernel_rfl
  have f : (inB0 c arg2 harg2 arg3 harg3 arg4 harg4 arg5 harg5 arg6 harg6 arg7 harg7 arg8 harg8 arg9 harg9 arg13 harg13 x0 x1 x2 x3 x4 x5 x6 x7 xs0).f = rowsOf arg3.view (harg3.unread x1) 0 := by sl_kernel_rfl
  have v : (inB0 c arg2 harg2 arg3 harg3 arg4 harg4 arg5 harg5 arg6 harg6 arg7 harg7 arg8 harg8 arg9 harg9 arg13 harg13 x0 x1 x2 x3 x4 x5 x6 x7 xs0).v = rowsOf arg4.view (harg4.unread x2) 0 := by sl_kernel_rfl
  have g : (inB0 c arg2 harg2 arg3 harg3 arg4 harg4 arg5 harg5 arg6 harg6 arg7 harg7 arg8 harg8 arg9 harg9 arg13 harg13 x0 x1 x2 x3 x4 x5 x6 x7 xs0).g = rowsOf arg5.view (harg5.unread x3) 0 := by sl_kernel_rfl
  have st : (inB0 c arg2 harg2 arg3 harg3 arg4 harg4 arg5 harg5 arg6 harg6 arg7 harg7 arg8 harg8 arg9 harg9 arg13 harg13 x0 x1 x2 x3 x4 x5 x6 x7 xs0).st = statesOf arg8.view (harg8.unread x6) 0 := by sl_kernel_rfl
  have dy : (inB0 c arg2 harg2 arg3 harg3 arg4 harg4 arg5 harg5 arg6 harg6 arg7 harg7 arg8 harg8 arg9 harg9 arg13 harg13 x0 x1 x2 x3 x4 x5 x6 x7 xs0).dy = extf (F := Ideal) (φ := .bf16) .f32 (rowsOf arg9.view (harg9.unread x7) 0) bitsLt_bf16_f32 := by sl_kernel_rfl
  have nw : (inB0 c arg2 harg2 arg3 harg3 arg4 harg4 arg5 harg5 arg6 harg6 arg7 harg7 arg8 harg8 arg9 harg9 arg13 harg13 x0 x1 x2 x3 x4 x5 x6 x7 xs0).nw = arg7.view.readAt (Elt Ideal) (Rect.unit ![0, 0] S1x128.size inb_S1x128_S1x128_0_0).toLoadRect (harg7.unread x5) := by sl_kernel_rfl
  rw [View.readAt_full, harg7.read_unread] at nw
  have t0' : (inB0 c arg2 harg2 arg3 harg3 arg4 harg4 arg5 harg5 arg6 harg6 arg7 harg7 arg8 harg8 arg9 harg9 arg13 harg13 x0 x1 x2 x3 x4 x5 x6 x7 xs0).t0 = fun i => x4 (atTab 0 (i 0) (i 2)) := by rw [t0]; funext i; rw [linesOf_apply, harg6.read_unread]
  have t1' : (inB0 c arg2 harg2 arg3 harg3 arg4 harg4 arg5 harg5 arg6 harg6 arg7 harg7 arg8 harg8 arg9 harg9 arg13 harg13 x0 x1 x2 x3 x4 x5 x6 x7 xs0).t1 = fun i => x4 (atTab 1 (i 0) (i 2)) := by rw [t1]; funext i; rw [linesOf_apply, harg6.read_unread]
  have q' : (inB0 c arg2 harg2 arg3 harg3 arg4 harg4 arg5 harg5 arg6 harg6 arg7 harg7 arg8 harg8 arg9 harg9 arg13 harg13 x0 x1 x2 x3 x4 x5 x6 x7 xs0).q = fun i => x0 (at2 0 (i 0) (i 1) (i 2)) := by rw [q]; funext i; rw [rowsOf_apply, harg2.read_unread]
  have f' : (inB0 c arg2 harg2 arg3 harg3 arg4 harg4 arg5 harg5 arg6 harg6 arg7 harg7 arg8 harg8 arg9 harg9 arg13 harg13 x0 x1 x2 x3 x4 x5 x6 x7 xs0).f = fun i => x1 (at2 0 (i 0) (i 1) (i 2)) := by rw [f]; funext i; rw [rowsOf_apply, harg3.read_unread]
  have v' : (inB0 c arg2 harg2 arg3 harg3 arg4 harg4 arg5 harg5 arg6 harg6 arg7 harg7 arg8 harg8 arg9 harg9 arg13 harg13 x0 x1 x2 x3 x4 x5 x6 x7 xs0).v = fun i => x2 (at2 0 (i 0) (i 1) (i 2)) := by rw [v]; funext i; rw [rowsOf_apply, harg4.read_unread]
  have g' : (inB0 c arg2 harg2 arg3 harg3 arg4 harg4 arg5 harg5 arg6 harg6 arg7 harg7 arg8 harg8 arg9 harg9 arg13 harg13 x0 x1 x2 x3 x4 x5 x6 x7 xs0).g = fun i => x3 (at2 0 (i 0) (i 1) (i 2)) := by rw [g]; funext i; rw [rowsOf_apply, harg5.read_unread]
  have st' : (inB0 c arg2 harg2 arg3 harg3 arg4 harg4 arg5 harg5 arg6 harg6 arg7 harg7 arg8 harg8 arg9 harg9 arg13 harg13 x0 x1 x2 x3 x4 x5 x6 x7 xs0).st = fun i => x6 (ix4 (i 0) 0 (i 1) (i 2)) := by rw [st]; funext i; rw [statesOf_apply, harg8.read_unread]
  have dy' : (inB0 c arg2 harg2 arg3 harg3 arg4 harg4 arg5 harg5 arg6 harg6 arg7 harg7 arg8 harg8 arg9 harg9 arg13 harg13 x0 x1 x2 x3 x4 x5 x6 x7 xs0).dy = fun i => x7 (at2 0 (i 0) (i 1) (i 2)) := by
    rw [dy]; funext i; exact (rowsOf_apply arg9.view (harg9.unread x7) 0 i).trans (by rw [harg9.read_unread])
  revert t0' t1' q' f' v' g' st' dy' nw
  generalize (inB0 c arg2 harg2 arg3 harg3 arg4 harg4 arg5 harg5 arg6 harg6 arg7 harg7 arg8 harg8 arg9 harg9 arg13 harg13 x0 x1 x2 x3 x4 x5 x6 x7 xs0) = I
  intro nw t0 t1 q f v g st dy
  obtain ⟨⟩ := I
  subst t0 t1 q f v g st dy nw
  rfl

end Cert.Proof
-- ==== Proof.Readout.lean ====
/- What the stores of one grid point leave, entry by entry. -/
module

public import proofs.«01_k».proof.Proof.Stores
public import proofs.«01_k».proof.Proof.Lift
public import Idealize.ShloMosaic.Lib.VecWindow
public import Idealize.ShloMosaic.Lib.Pipeline.ValueKit.Acc
public import Idealize.ShloMosaic.Lib.WritesUnit

@[expose] public section

noncomputable section

namespace Cert.Proof

open Idealize.ShloMosaic Idealize.ShloMosaic.ValueIdx Idealize.SL.Sem Cert.KernelIdeal Cert.KernelIdeal.Gen

variable {sig' : RefSig} {κ' : Kind} {sp' : Space}

/-! ## The gradient of the projection -/

theorem slab_apply (X : FVec Ideal S16x64x128 .f32) (h : ℕ) (hh : h < 16) (t : Fin 64) (k : Fin 128) :
    slab X h hh (ix2 t k) = X (ix3 ⟨h, hh⟩ t k) := by
  change shapeCast S64x128 (s := S1x64x128) (extractStridedSlice S1x64x128 ![h, 0, 0] X (slicesT h hh)) shapeCasts_S1x64x128_S64x128 (ix2 t k) = _
  refine (Idealize.ShloMosaic.shapeCast_apply (s := S1x64x128) _ _ (ix2 t k) (ix3 0 t k) ?_).trans ?_
  · rw [Shape.rowMajor_val_two, Shape.rowMajor_val_three]
    show (0 * 64 + t.val) * 128 + k.val = t.val * 128 + k.val; omega
  · unfold extractStridedSlice
    refine congrArg X (funext fun b => Fin.ext ?_)
    match b with
    | ⟨0, _⟩ => show h + 0 = h; omega
    | ⟨1, _⟩ => show 0 + t.val = t.val; omega
    | ⟨2, _⟩ => show 0 + k.val = k.val; omega

/-- A column of the projection: segment, head and channel. -/
def col (g : Fin 4) (h : Fin 16) (k : Fin 128) : Fin 8192 := ⟨2048 * g.val + 128 * h.val + k.val, by omega⟩

/-- A row of a block: half and token. -/
def row (a : Fin 2) (t : Fin 64) : Fin 128 := ⟨64 * a.val + t.val, by omega⟩

theorem canon_figs (I1 I0 : In) (a : Fin 2) (t : Fin 64) (g : Fin 4) (h : Fin 16) (k : Fin 128) (n : ℕ) (hn : n ≤ 128)
    (hN : 64 * (1 - a.val) + 4 * h.val + g.val < n) :
    View.canon (figs I1 I0 n) (ix2 (row a t) (col g h k)) = seg (if a = 1 then I1 else I0) g.val (ix3 h t k) := by
  induction n with
  | zero => omega
  | succ n ih =>
    by_cases e : n = 64 * (1 - a.val) + 4 * h.val + g.val
    · have hy : (ix2 (row a t) (col g h k) : S128x8192.Idx) = (figPiece I1 I0 n).1.emb (ix2 t k) := by
        refine funext fun b => Fin.ext ?_
        match b with
        | ⟨0, _⟩ => show 64 * a.val + t.val = 64 * (1 - n / 64) + 1 * t.val; omega
        | ⟨1, _⟩ => show 2048 * g.val + 128 * h.val + k.val = 2048 * (n % 4) + 128 * (n % 64 / 4) + 1 * k.val; omega
      rw [hy]
      refine (View.canon_cons_emb _ _ _ _).trans ?_
      refine (slab_apply _ _ _ t k).trans ?_
      have hg : n % 4 = g.val := by omega
      have hh : (⟨n % 64 / 4, by omega⟩ : Fin 16) = h := Fin.ext (by show n % 64 / 4 = h.val; omega)
      rw [hg, hh]
      by_cases ha : a = 1
      · subst ha; rw [if_pos rfl, if_pos (by change n = 64 * (1 - 1) + 4 * h.val + g.val at e; omega)]
      · have : a.val = 0 := by have := Fin.val_ne_of_ne ha; have := a.isLt; change a.val ≠ 1 at *; omega
        rw [if_neg ha, if_neg (by omega)]
    · refine (View.canon_cons_of_not_mem _ _ ?_).trans (ih (by omega) (by omega))
      intro hm
      rw [figPiece, Rect.mem_set_unit] at hm
      have h0 := hm 0
      have h1 := hm 1
      change 64 * (1 - n / 64) ≤ 64 * a.val + t.val ∧ 64 * a.val + t.val < 64 * (1 - n / 64) + 64 at h0
      change 2048 * (n % 4) + 128 * (n % 64 / 4) ≤ 2048 * g.val + 128 * h.val + k.val ∧ 2048 * g.val + 128 * h.val + k.val < 2048 * (n % 4) + 128 * (n % 64 / 4) + 128 at h1
      have ha : n / 64 = 1 - a.val := by omega
      have hg : n % 4 = g.val := by omega
      have hh : n % 64 / 4 = h.val := by omega
      omega

/-! ## The gradient of the lower-bound table -/

theorem strip_apply (X : FVec Ideal S16x1x128 .f32) (h : ℕ) (hh : h < 16) (k : Fin 128) :
    strip X h hh (ix2 0 k) = X (ix3 ⟨h, hh⟩ 0 k) := by
  refine (Idealize.ShloMosaic.shapeCast_apply (s := S1x1x128) _ _ (ix2 0 k) (ix3 0 0 k) ?_).trans ?_
  · rw [Shape.rowMajor_val_two, Shape.rowMajor_val_three]
    show (0 * 1 + 0) * 128 + k.val = 0 * 128 + k.val; omega
  · unfold extractStridedSlice
    refine congrArg X (funext fun b => Fin.ext ?_)
    match b with
    | ⟨0, _⟩ => show h + 0 = h; omega
    | ⟨1, _⟩ => rfl
    | ⟨2, _⟩ => show 0 + k.val = k.val; omega

/-- A column of the table: head and channel. -/
def tcol (h : Fin 16) (k : Fin 128) : Fin 2048 := ⟨128 * h.val + k.val, by omega⟩

/-- One chunk's gradient of a row of the table. -/
def dT (I : In) (r : Fin 2) : FVec Ideal S16x1x128 .f32 := if r.val = 0 then I.dT0 else I.dT1

theorem tabPiece_emb (n : ℕ) (r : Fin 2) (h : Fin 16) (k : Fin 128) (e : n % 32 = 2 * h.val + r.val) :
    (ix2 r (tcol h k) : S2x2048.Idx) = (tabRect n).emb (ix2 0 k) := by
  refine funext fun b => Fin.ext ?_
  match b with
  | ⟨0, _⟩ => show r.val = n % 2 + 1 * 0; omega
  | ⟨1, _⟩ => show 128 * h.val + k.val = 128 * (n % 32 / 2) + 1 * k.val; omega

theorem tabAdd_apply (I1 I0 : In) (n : ℕ) (r : Fin 2) (h : Fin 16) (k : Fin 128) (e : n % 32 = 2 * h.val + r.val) :
    tabAdd I1 I0 n (ix2 0 k) = dT (if n < 32 then I1 else I0) r (ix3 h 0 k) := by
  refine (strip_apply _ _ _ k).trans ?_
  have hh : (⟨n % 32 / 2, by omega⟩ : Fin 16) = h := Fin.ext (by show n % 32 / 2 = h.val; omega)
  have hr : n % 2 = r.val := by omega
  rw [hh, hr]; rfl

theorem tabPiece_apply (I1 I0 : In) (n : ℕ) (rd : (tabRect n).shape.Idx → Elt Ideal .f32) (L : List (View.Piece (Elt Ideal) S2x2048 .f32))
    (r : Fin 2) (h : Fin 16) (k : Fin 128) (e : n % 32 = 2 * h.val + r.val) :
    View.canon (tabPiece I1 I0 n rd :: L) (ix2 r (tcol h k))
      = ((rd (ix2 0 k) : Ideal .f32) + dT (if n < 32 then I1 else I0) r (ix3 h 0 k) : EReal) := by
  rw [tabPiece_emb n r h k e]
  refine (View.canon_cons_emb _ _ _ _).trans ?_
  rw [← tabAdd_apply I1 I0 n r h k e]
  show (shapeCast S1x128 (s := S1x128) rd shapeCasts_S1x128_S1x128 (ix2 0 k) + _ : EReal) = _
  rw [Idealize.ShloMosaic.shapeCast_apply (s := S1x128) rd shapeCasts_S1x128_S1x128 (ix2 0 k) (ix2 0 k) rfl]

theorem tabPiece_skip (I1 I0 : In) (n : ℕ) (rd : (tabRect n).shape.Idx → Elt Ideal .f32) (L : List (View.Piece (Elt Ideal) S2x2048 .f32))
    (r : Fin 2) (h : Fin 16) (k : Fin 128) (e : n % 32 ≠ 2 * h.val + r.val) :
    View.canon (tabPiece I1 I0 n rd :: L) (ix2 r (tcol h k)) = View.canon L (ix2 r (tcol h k)) := by
  refine View.canon_cons_of_not_mem _ _ ?_
  intro hm
  change _ ∈ (tabRect n).set at hm
  unfold tabRect at hm
  rw [Rect.mem_set_unit] at hm
  have h0 := hm 0
  have h1 := hm 1
  change n % 2 ≤ r.val ∧ r.val < n % 2 + 1 at h0
  change 128 * (n % 32 / 2) ≤ 128 * h.val + k.val ∧ 128 * h.val + k.val < 128 * (n % 32 / 2) + 128 at h1
  omega

theorem canon_tabA (v : View sig' κ' sp' S2x2048 .f32) (base : List (View.Piece (Elt Ideal) S2x2048 .f32)) (I1 I0 : In)
    (r : Fin 2) (h : Fin 16) (k : Fin 128) (n : ℕ) (hn : n ≤ 64) :
    (View.canon (tabA v base I1 I0 n) (ix2 r (tcol h k)) : EReal)
      = if n ≤ 2 * h.val + r.val then (View.canon base (ix2 r (tcol h k)) : EReal)
        else if n ≤ 2 * h.val + r.val + 32 then (View.canon base (ix2 r (tcol h k)) + dT I1 r (ix3 h 0 k) : EReal)
        else (View.canon base (ix2 r (tcol h k)) + dT I1 r (ix3 h 0 k) + dT I0 r (ix3 h 0 k) : EReal) := by
  induction n with
  | zero => rw [if_pos (by omega)]; rfl
  | succ n ih =>
    have ih := ih (by omega)
    rw [tabA]
    by_cases e : n % 32 = 2 * h.val + r.val
    · refine (tabPiece_apply I1 I0 n _ _ r h k e).trans ?_
      rw [View.readCov_eq_canon']
      have hy : (tabRect n).toLoadRect.idx (ix2 0 k) = (ix2 r (tcol h k) : S2x2048.Idx) := (tabPiece_emb n r h k e).symm
      show (View.canon (tabA v base I1 I0 n) ((tabRect n).toLoadRect.idx (ix2 0 k)) + _ : EReal) = _
      rw [hy, ih]
      by_cases c : n < 32
      · rw [if_pos c, if_pos (show n ≤ 2 * h.val + r.val by omega), if_neg (show ¬ n + 1 ≤ 2 * h.val + r.val by omega),
          if_pos (show n + 1 ≤ 2 * h.val + r.val + 32 by omega)]
      · rw [if_neg c, if_neg (show ¬ n ≤ 2 * h.val + r.val by omega), if_pos (show n ≤ 2 * h.val + r.val + 32 by omega),
          if_neg (show ¬ n + 1 ≤ 2 * h.val + r.val by omega), if_neg (show ¬ n + 1 ≤ 2 * h.val + r.val + 32 by omega)]
    · rw [tabPiece_skip I1 I0 n _ _ r h k e, ih]
      by_cases c : n ≤ 2 * h.val + r.val
      · rw [if_pos c, if_pos (by omega)]
      · by_cases c' : n ≤ 2 * h.val + r.val + 32
        · rw [if_neg c, if_pos c', if_neg (show ¬ n + 1 ≤ 2 * h.val + r.val by omega), if_pos (show n + 1 ≤ 2 * h.val + r.val + 32 by omega)]
        · rw [if_neg c, if_neg c', if_neg (show ¬ n + 1 ≤ 2 * h.val + r.val by omega), if_neg (show ¬ n + 1 ≤ 2 * h.val + r.val + 32 by omega)]

theorem canon_tabB (v : View sig' κ' sp' S2x2048 .f32) (f : v.ty.Contents (Elt Ideal)) (I1 I0 : In)
    (r : Fin 2) (h : Fin 16) (k : Fin 128) (n : ℕ) (hn : n ≤ 64) (hN : 2 * h.val + r.val < n) :
    (View.canon (tabB v f I1 I0 n) (ix2 r (tcol h k)) : EReal)
      = if n ≤ 2 * h.val + r.val + 32 then (v.read (Elt Ideal) f (ix2 r (tcol h k)) + dT I1 r (ix3 h 0 k) : EReal)
        else (v.read (Elt Ideal) f (ix2 r (tcol h k)) + dT I1 r (ix3 h 0 k) + dT I0 r (ix3 h 0 k) : EReal) := by
  induction n with
  | zero => omega
  | succ n ih =>
    rw [tabB]
    by_cases e : n % 32 = 2 * h.val + r.val
    · refine (tabPiece_apply I1 I0 n _ _ r h k e).trans ?_
      have hy : (tabRect n).toLoadRect.idx (ix2 0 k) = (ix2 r (tcol h k) : S2x2048.Idx) := (tabPiece_emb n r h k e).symm
      by_cases c : n < 32
      · rw [if_pos c, if_pos c, if_pos (by omega)]
        show (v.read (Elt Ideal) f ((tabRect n).toLoadRect.idx (ix2 0 k)) + _ : EReal) = _
        rw [hy]
      · rw [if_neg c, if_neg c, if_neg (by omega), View.readCov_eq_canon']
        show (View.canon (tabB v f I1 I0 n) ((tabRect n).toLoadRect.idx (ix2 0 k)) + _ : EReal) = _
        rw [hy, ih (by omega) (by omega), if_pos (by omega)]
    · rw [tabPiece_skip I1 I0 n _ _ r h k e, ih (by omega) (by omega)]
      by_cases c' : n ≤ 2 * h.val + r.val + 32
      · rw [if_pos c', if_pos (by omega)]
      · rw [if_neg c', if_neg (by omega)]

theorem zero_lit : (FloatOps.ofBits (F := Ideal) .f32 0x00000000#32 : EReal) = 0 := Ideal.ofBits_zero_f32

theorem canon_tabZero : (View.canon [tabZero] : S2x2048.Idx → Elt Ideal .f32) = fun _ => (0 : EReal) := by
  refine (View.canon_cons_unit_lit' (S := S2x2048) inb_S2x2048_S2x2048_0_0 _ [] ?_).trans (funext fun _ => zero_lit)
  intro a; match a with | ⟨0, _⟩ => rfl | ⟨1, _⟩ => rfl

/-! ## The gradient of the norm's weight -/

theorem nwRect_emb (k : Fin 128) : (ix3 0 0 k : S16x1x128.Idx) = nwRect.emb (ix3 (0 : Fin 1) (0 : Fin 1) k) := by
  refine funext fun b => Fin.ext ?_
  match b with
  | ⟨0, _⟩ => rfl
  | ⟨1, _⟩ => rfl
  | ⟨2, _⟩ => show k.val = 0 + 1 * k.val; omega

theorem nwPiece_val (d : FVec Ideal S1x128 .f32) (rd : nwRect.shape.Idx → Elt Ideal .f32) (k : Fin 128) :
    (nwPiece d rd).2 (ix3 (0 : Fin 1) (0 : Fin 1) k) = ((rd (ix3 (0 : Fin 1) (0 : Fin 1) k) : Ideal .f32) + d (ix2 0 k) : EReal) := by
  change shapeCast S1x1x128 (s := S1x128) (addf (F := Ideal) (φ := .f32) (shapeCast S1x128 (s := S1x1x128) rd shapeCasts_S1x1x128_S1x128) d)
    shapeCasts_S1x128_S1x1x128 (ix3 (0 : Fin 1) (0 : Fin 1) k) = _
  refine (Idealize.ShloMosaic.shapeCast_apply (s := S1x128) (t := S1x1x128) _ _ (ix3 (0 : Fin 1) (0 : Fin 1) k) (ix2 0 k) ?_).trans ?_
  · rw [Shape.rowMajor_val_two, Shape.rowMajor_val_three]
    show 0 * 128 + k.val = (0 * 1 + 0) * 128 + k.val; omega
  · show (shapeCast S1x128 (s := S1x1x128) rd shapeCasts_S1x1x128_S1x128 (ix2 0 k) + _ : EReal) = _
    rw [Idealize.ShloMosaic.shapeCast_apply (s := S1x1x128) rd shapeCasts_S1x1x128_S1x128 (ix2 0 k) (ix3 0 0 k) ?_]
    rw [Shape.rowMajor_val_two, Shape.rowMajor_val_three]
    show (0 * 1 + 0) * 128 + k.val = 0 * 128 + k.val; omega

theorem nw_not_mem (r : Fin 16) (k : Fin 128) (hr : r ≠ 0) : (ix3 r 0 k : S16x1x128.Idx) ∉ nwRect.set := by
  intro hm
  rw [nwRect, Rect.mem_set_unit] at hm
  have h0 := (hm 0).2
  change r.val < 0 + 1 at h0
  exact hr (Fin.ext (by show r.val = 0; omega))

theorem canon_nwZero : (View.canon [nwZero] : S16x1x128.Idx → Elt Ideal .f32) = fun _ => (0 : EReal) := by
  refine (View.canon_cons_unit_lit' (S := S16x1x128) inb_S16x1x128_S16x1x128_0_0_0 _ [] ?_).trans (funext fun _ => zero_lit)
  intro a; match a with | ⟨0, _⟩ => rfl | ⟨1, _⟩ => rfl | ⟨2, _⟩ => rfl

/-- One store over a list: row 0 is the sum, -/
theorem canon_nw (v : View sig' κ' sp' S16x1x128 .f32) (d : FVec Ideal S1x128 .f32) (L : List (View.Piece (Elt Ideal) S16x1x128 .f32)) (k : Fin 128) :
    View.canon (nwPiece d (v.readCov L nwRect.toLoadRect) :: L) (ix3 0 0 k) = (View.canon L (ix3 0 0 k) + d (ix2 0 k) : EReal) := by
  rw [View.readCov_eq_canon', nwRect_emb]
  refine (View.canon_cons_emb _ _ _ _).trans ?_
  exact nwPiece_val _ _ k

/-- and the other rows stay. -/
theorem canon_nw_skip (d : FVec Ideal S1x128 .f32) (rd : nwRect.shape.Idx → Elt Ideal .f32) (L : List (View.Piece (Elt Ideal) S16x1x128 .f32))
    (r : Fin 16) (k : Fin 128) (hr : r ≠ 0) :
    View.canon (nwPiece d rd :: L) (ix3 r 0 k) = View.canon L (ix3 r 0 k) :=
  View.canon_cons_of_not_mem _ _ (nw_not_mem r k hr)

theorem writes_nw (v : View sig' κ' sp' S16x1x128 .f32) (f : v.ty.Contents (Elt Ideal)) (d : FVec Ideal S1x128 .f32) (rd : nwRect.shape.Idx → Elt Ideal .f32)
    (L : List (View.Piece (Elt Ideal) S16x1x128 .f32)) (k : Fin 128) :
    v.read (Elt Ideal) (v.writes (Elt Ideal) f (nwPiece d rd :: L)) (ix3 0 0 k) = ((rd (ix3 (0 : Fin 1) (0 : Fin 1) k) : Ideal .f32) + d (ix2 0 k) : EReal) := by
  refine (View.read_writes_cons_unit_of_mem v f inb_S16x1x128_S1x1x128_0_0_0 _ L (ix3 0 0 k) (ix3 0 0 k) rfl ?_).trans (nwPiece_val d rd k)
  intro a
  match a with
  | ⟨0, _⟩ => rfl
  | ⟨1, _⟩ => rfl
  | ⟨2, _⟩ => show k.val = 0 + k.val; omega

theorem writes_nw_skip (v : View sig' κ' sp' S16x1x128 .f32) (f : v.ty.Contents (Elt Ideal)) (d : FVec Ideal S1x128 .f32) (rd : nwRect.shape.Idx → Elt Ideal .f32)
    (L : List (View.Piece (Elt Ideal) S16x1x128 .f32)) (r : Fin 16) (k : Fin 128) (hr : r ≠ 0) :
    v.read (Elt Ideal) (v.writes (Elt Ideal) f (nwPiece d rd :: L)) (ix3 r 0 k) = v.read (Elt Ideal) (v.writes (Elt Ideal) f L) (ix3 r 0 k) := by
  refine View.read_writes_cons_unit_of_not_mem v f inb_S16x1x128_S1x1x128_0_0_0 _ L (ix3 r 0 k) rfl 0 (.inr ?_)
  have : r.val ≠ 0 := fun h => hr (Fin.ext h)
  show 0 + 1 ≤ r.val; omega

/-! ## The carried gradient of the state -/

theorem cast_same (d : FVec Ideal S16x128x128 .f32) : shapeCast S16x128x128 d shapeCasts_S16x128x128_S16x128x128 = d :=
  funext fun i => Idealize.ShloMosaic.shapeCast_apply (s := S16x128x128) d _ i i rfl

theorem three_zero : ∀ a : Fin 3, (![0, 0, 0] : Fin 3 → ℕ) a = 0 := by
  intro a; match a with | ⟨0, _⟩ => rfl | ⟨1, _⟩ => rfl | ⟨2, _⟩ => rfl

theorem canon_st (d : FVec Ideal S16x128x128 .f32) (L : List (View.Piece (Elt Ideal) S16x128x128 .f32)) : View.canon (stPiece d :: L) = d :=
  (View.canon_cons_unit_lit' (S := S16x128x128) inb_S16x128x128_S16x128x128_0_0_0 _ L three_zero).trans (cast_same d)

theorem readCov_st (v : View sig' κ' sp' S16x128x128 .f32) (d : FVec Ideal S16x128x128 .f32) (L : List (View.Piece (Elt Ideal) S16x128x128 .f32)) :
    shapeCast S16x128x128 (v.readCov (stPiece d :: L) (Rect.unit ![0, 0, 0] S16x128x128.size inb_S16x128x128_S16x128x128_0_0_0).toLoadRect) shapeCasts_S16x128x128_S16x128x128 = d := by
  refine Eq.trans ?_ (cast_same d)
  refine congrArg (fun y => shapeCast S16x128x128 (s := S16x128x128) y shapeCasts_S16x128x128_S16x128x128) ?_
  exact (View.readCov_cons_unit_lit' (S := S16x128x128) v inb_S16x128x128_S16x128x128_0_0_0 inb_S16x128x128_S16x128x128_0_0_0 _ L three_zero three_zero).trans (cast_same d)

theorem readAt_st (v : View sig' κ' sp' S16x128x128 .f32) (f : v.ty.Contents (Elt Ideal)) :
    shapeCast S16x128x128 (v.readAt (Elt Ideal) (Rect.unit ![0, 0, 0] S16x128x128.size inb_S16x128x128_S16x128x128_0_0_0).toLoadRect f) shapeCasts_S16x128x128_S16x128x128
      = v.read (Elt Ideal) f := by
  refine Eq.trans ?_ (cast_same _)
  exact congrArg (fun y => shapeCast S16x128x128 (s := S16x128x128) y shapeCasts_S16x128x128_S16x128x128) (View.readAt_full v f _)

end Cert.Proof
-- ==== Proof.Point.lean ====
/- One grid point in terms of its two chunks: what its four outputs hold after it. -/
module

public import proofs.«01_k».proof.Proof.Body
public import proofs.«01_k».proof.Proof.Inputs
public import proofs.«01_k».proof.Proof.Readout

@[expose] public section

noncomputable section

namespace Cert.Proof

open Idealize.ShloMosaic Idealize.ShloMosaic.ValueIdx Idealize.SL.Sem Cert.KernelIdeal Cert.KernelIdeal.Gen

/-- A block of the projection's gradient holds the four gradients of the two chunks. -/
def HoldsFig (o : Vec Ideal S128x8192 .bf16) (I1 I0 : In) : Prop :=
  ∀ (a : Fin 2) (t : Fin 64) (g : Fin 4) (h : Fin 16) (k : Fin 128),
    o (ix2 (row a t) (col g h k)) = seg (if a = 1 then I1 else I0) g.val (ix3 h t k)

/-- The table's gradient is what was there and the two chunks' parts. -/
def HoldsTab (o : Vec Ideal S2x2048 .f32) (p : S2x2048.Idx → EReal) (I1 I0 : In) : Prop :=
  ∀ (r : Fin 2) (h : Fin 16) (k : Fin 128),
    (o (ix2 r (tcol h k)) : EReal) = p (ix2 r (tcol h k)) + dT I1 r (ix3 h 0 k) + dT I0 r (ix3 h 0 k)

/-- The weight's gradient is what was there and, in row 0, the two chunks' parts. -/
def HoldsNw (o : Vec Ideal S16x1x128 .f32) (p : S16x1x128.Idx → EReal) (I1 I0 : In) : Prop :=
  ∀ (r : Fin 16) (k : Fin 128),
    (o (ix3 r 0 k) : EReal) = if r = 0 then p (ix3 0 0 k) + I1.dNw (ix2 0 k) + I0.dNw (ix2 0 k) else p (ix3 r 0 k)

variable (c : Dev nD) (i : grid0.Coords)
  (arg2 : Memref sig .tc .vmem S128x2048 .f32) (harg2 : arg2.IsWhole)
  (arg3 : Memref sig .tc .vmem S128x2048 .f32) (harg3 : arg3.IsWhole)
  (arg4 : Memref sig .tc .vmem S128x2048 .f32) (harg4 : arg4.IsWhole)
  (arg5 : Memref sig .tc .vmem S128x2048 .f32) (harg5 : arg5.IsWhole)
  (arg6 : Memref sig .tc .vmem S2x2048 .f32) (harg6 : arg6.IsWhole)
  (arg7 : Memref sig .tc .vmem S1x128 .f32) (harg7 : arg7.IsWhole)
  (arg8 : Memref sig .tc .vmem S16x2x128x128 .f32) (harg8 : arg8.IsWhole)
  (arg9 : Memref sig .tc .vmem S128x2048 .bf16) (harg9 : arg9.IsWhole)
  (arg10 : Memref sig .tc .vmem S128x8192 .bf16) (harg10 : arg10.IsWhole)
  (arg11 : Memref sig .tc .vmem S2x2048 .f32) (harg11 : arg11.IsWhole)
  (arg12 : Memref sig .tc .vmem S16x1x128 .f32) (harg12 : arg12.IsWhole)
  (arg13 : Memref sig .tc .vmem S16x128x128 .f32) (harg13 : arg13.IsWhole)
  (x0 : Vec Ideal S128x2048 .f32)
  (x1 : Vec Ideal S128x2048 .f32)
  (x2 : Vec Ideal S128x2048 .f32)
  (x3 : Vec Ideal S128x2048 .f32)
  (x4 : Vec Ideal S2x2048 .f32)
  (x5 : Vec Ideal S1x128 .f32)
  (x6 : Vec Ideal S16x2x128x128 .f32)
  (x7 : Vec Ideal S128x2048 .bf16)
  (xo9 : Vec Ideal S2x2048 .f32) (xo10 : Vec Ideal S16x1x128 .f32) (xs0 : Vec Ideal S16x128x128 .f32)

variable (I1 I0 : In)

theorem in1_A (h1 : chunkIn 1 x0 x1 x2 x3 x4 x5 x6 x7 (fun _ => (0 : EReal)) = I1) : inA1 c arg2 harg2 arg3 harg3 arg4 harg4 arg5 harg5 arg6 harg6 arg7 harg7 arg8 harg8 arg9 harg9 arg13 x0 x1 x2 x3 x4 x5 x6 x7 = I1 := by
  refine (inA1_eq c arg2 harg2 arg3 harg3 arg4 harg4 arg5 harg5 arg6 harg6 arg7 harg7 arg8 harg8 arg9 harg9 arg13 x0 x1 x2 x3 x4 x5 x6 x7).trans ?_
  rw [dstA1 c arg2 harg2 arg3 harg3 arg4 harg4 arg5 harg5 arg6 harg6 arg7 harg7 arg8 harg8 arg9 harg9 arg13 x0 x1 x2 x3 x4 x5 x6 x7, show stZero = stPiece _ from rfl, readCov_st]
  refine Eq.trans ?_ h1
  exact congrArg (chunkIn 1 x0 x1 x2 x3 x4 x5 x6 x7) (funext fun _ => zero_lit)

theorem in0_A (h1 : chunkIn 1 x0 x1 x2 x3 x4 x5 x6 x7 (fun _ => (0 : EReal)) = I1) (h0 : chunkIn 0 x0 x1 x2 x3 x4 x5 x6 x7 I1.dstNew = I0) : inA0 c arg2 harg2 arg3 harg3 arg4 harg4 arg5 harg5 arg6 harg6 arg7 harg7 arg8 harg8 arg9 harg9 arg13 x0 x1 x2 x3 x4 x5 x6 x7 = I0 := by
  refine (inA0_eq c arg2 harg2 arg3 harg3 arg4 harg4 arg5 harg5 arg6 harg6 arg7 harg7 arg8 harg8 arg9 harg9 arg13 x0 x1 x2 x3 x4 x5 x6 x7).trans ?_
  rw [dstA0 c arg2 harg2 arg3 harg3 arg4 harg4 arg5 harg5 arg6 harg6 arg7 harg7 arg8 harg8 arg9 harg9 arg13 x0 x1 x2 x3 x4 x5 x6 x7, readCov_st, in1_A c arg2 harg2 arg3 harg3 arg4 harg4 arg5 harg5 arg6 harg6 arg7 harg7 arg8 harg8 arg9 harg9 arg13 x0 x1 x2 x3 x4 x5 x6 x7 I1 h1, h0]

theorem fig_A (hc0 : cond0_0 i) (h1 : chunkIn 1 x0 x1 x2 x3 x4 x5 x6 x7 (fun _ => (0 : EReal)) = I1) (h0 : chunkIn 0 x0 x1 x2 x3 x4 x5 x6 x7 I1.dstNew = I0) : HoldsFig (out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7) I1 I0 := by
  intro a t g h k
  unfold out0_A_8
  rw [View.read_writes_junk_eq_canon, figsA c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0, in1_A c arg2 harg2 arg3 harg3 arg4 harg4 arg5 harg5 arg6 harg6 arg7 harg7 arg8 harg8 arg9 harg9 arg13 x0 x1 x2 x3 x4 x5 x6 x7 I1 h1, in0_A c arg2 harg2 arg3 harg3 arg4 harg4 arg5 harg5 arg6 harg6 arg7 harg7 arg8 harg8 arg9 harg9 arg13 x0 x1 x2 x3 x4 x5 x6 x7 I1 I0 h1 h0]
  exact canon_figs I1 I0 a t g h k 128 le_rfl (by omega)

theorem tab_A (hc0 : cond0_0 i) (h1 : chunkIn 1 x0 x1 x2 x3 x4 x5 x6 x7 (fun _ => (0 : EReal)) = I1) (h0 : chunkIn 0 x0 x1 x2 x3 x4 x5 x6 x7 I1.dstNew = I0) : HoldsTab (out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7) (fun _ => 0) I1 I0 := by
  intro r h k
  unfold out0_A_9
  rw [View.read_writes_junk_eq_canon, tabsA c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0, in1_A c arg2 harg2 arg3 harg3 arg4 harg4 arg5 harg5 arg6 harg6 arg7 harg7 arg8 harg8 arg9 harg9 arg13 x0 x1 x2 x3 x4 x5 x6 x7 I1 h1, in0_A c arg2 harg2 arg3 harg3 arg4 harg4 arg5 harg5 arg6 harg6 arg7 harg7 arg8 harg8 arg9 harg9 arg13 x0 x1 x2 x3 x4 x5 x6 x7 I1 I0 h1 h0]
  refine (canon_tabA arg11.view [tabZero] I1 I0 r h k 64 le_rfl).trans ?_
  rw [if_neg (by omega), if_neg (by omega), canon_tabZero]

theorem nw_A (hc0 : cond0_0 i) (h1 : chunkIn 1 x0 x1 x2 x3 x4 x5 x6 x7 (fun _ => (0 : EReal)) = I1) (h0 : chunkIn 0 x0 x1 x2 x3 x4 x5 x6 x7 I1.dstNew = I0) : HoldsNw (out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7) (fun _ => 0) I1 I0 := by
  intro r k
  unfold out0_A_10
  rw [View.read_writes_junk_eq_canon, nwsA c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0, in1_A c arg2 harg2 arg3 harg3 arg4 harg4 arg5 harg5 arg6 harg6 arg7 harg7 arg8 harg8 arg9 harg9 arg13 x0 x1 x2 x3 x4 x5 x6 x7 I1 h1, in0_A c arg2 harg2 arg3 harg3 arg4 harg4 arg5 harg5 arg6 harg6 arg7 harg7 arg8 harg8 arg9 harg9 arg13 x0 x1 x2 x3 x4 x5 x6 x7 I1 I0 h1 h0]
  by_cases hr : r = 0
  · subst hr
    rw [if_pos rfl]
    refine (canon_nw arg12.view _ _ k).trans ?_
    refine congrArg (fun y : EReal => y + I0.dNw (ix2 0 k)) ?_
    refine (canon_nw arg12.view _ _ k).trans ?_
    rw [canon_nwZero]
  · rw [if_neg hr]
    refine (canon_nw_skip _ _ _ r k hr).trans ((canon_nw_skip _ _ _ r k hr).trans ?_)
    rw [canon_nwZero]

theorem st_A (hc0 : cond0_0 i) (h1 : chunkIn 1 x0 x1 x2 x3 x4 x5 x6 x7 (fun _ => (0 : EReal)) = I1) (h0 : chunkIn 0 x0 x1 x2 x3 x4 x5 x6 x7 I1.dstNew = I0) : sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = I0.dstNew := by
  unfold sout0_A_0
  rw [View.read_writes_junk_eq_canon, stsA c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0, in0_A c arg2 harg2 arg3 harg3 arg4 harg4 arg5 harg5 arg6 harg6 arg7 harg7 arg8 harg8 arg9 harg9 arg13 x0 x1 x2 x3 x4 x5 x6 x7 I1 I0 h1 h0]
  exact canon_st _ _

theorem in1_B (h1 : chunkIn 1 x0 x1 x2 x3 x4 x5 x6 x7 xs0 = I1) : inB1 c arg2 harg2 arg3 harg3 arg4 harg4 arg5 harg5 arg6 harg6 arg7 harg7 arg8 harg8 arg9 harg9 arg13 harg13 x0 x1 x2 x3 x4 x5 x6 x7 xs0 = I1 := by
  refine (inB1_eq c arg2 harg2 arg3 harg3 arg4 harg4 arg5 harg5 arg6 harg6 arg7 harg7 arg8 harg8 arg9 harg9 arg13 harg13 x0 x1 x2 x3 x4 x5 x6 x7 xs0).trans ?_
  rw [dstB1 c arg2 harg2 arg3 harg3 arg4 harg4 arg5 harg5 arg6 harg6 arg7 harg7 arg8 harg8 arg9 harg9 arg13 harg13 x0 x1 x2 x3 x4 x5 x6 x7 xs0, readAt_st, Memref.IsWhole.read_unread]
  exact h1

theorem in0_B (h1 : chunkIn 1 x0 x1 x2 x3 x4 x5 x6 x7 xs0 = I1) (h0 : chunkIn 0 x0 x1 x2 x3 x4 x5 x6 x7 I1.dstNew = I0) : inB0 c arg2 harg2 arg3 harg3 arg4 harg4 arg5 harg5 arg6 harg6 arg7 harg7 arg8 harg8 arg9 harg9 arg13 harg13 x0 x1 x2 x3 x4 x5 x6 x7 xs0 = I0 := by
  refine (inB0_eq c arg2 harg2 arg3 harg3 arg4 harg4 arg5 harg5 arg6 harg6 arg7 harg7 arg8 harg8 arg9 harg9 arg13 harg13 x0 x1 x2 x3 x4 x5 x6 x7 xs0).trans ?_
  rw [dstB0 c arg2 harg2 arg3 harg3 arg4 harg4 arg5 harg5 arg6 harg6 arg7 harg7 arg8 harg8 arg9 harg9 arg13 harg13 x0 x1 x2 x3 x4 x5 x6 x7 xs0, readCov_st, in1_B c arg2 harg2 arg3 harg3 arg4 harg4 arg5 harg5 arg6 harg6 arg7 harg7 arg8 harg8 arg9 harg9 arg13 harg13 x0 x1 x2 x3 x4 x5 x6 x7 xs0 I1 h1, h0]

theorem fig_B (hc0 : ¬cond0_0 i) (h1 : chunkIn 1 x0 x1 x2 x3 x4 x5 x6 x7 xs0 = I1) (h0 : chunkIn 0 x0 x1 x2 x3 x4 x5 x6 x7 I1.dstNew = I0) : HoldsFig (out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xs0) I1 I0 := by
  intro a t g h k
  unfold out0_B_8
  rw [View.read_writes_junk_eq_canon, figsB c i arg2 harg2 arg3 harg3 arg4 harg4 arg5 harg5 arg6 harg6 arg7 harg7 arg8 harg8 arg9 harg9 arg10 harg10 arg11 harg11 arg12 harg12 arg13 harg13 x0 x1 x2 x3 x4 x5 x6 x7 xo9 xo10 xs0 hc0, in1_B c arg2 harg2 arg3 harg3 arg4 harg4 arg5 harg5 arg6 harg6 arg7 harg7 arg8 harg8 arg9 harg9 arg13 harg13 x0 x1 x2 x3 x4 x5 x6 x7 xs0 I1 h1, in0_B c arg2 harg2 arg3 harg3 arg4 harg4 arg5 harg5 arg6 harg6 arg7 harg7 arg8 harg8 arg9 harg9 arg13 harg13 x0 x1 x2 x3 x4 x5 x6 x7 xs0 I1 I0 h1 h0]
  exact canon_figs I1 I0 a t g h k 128 le_rfl (by omega)

theorem tab_B (hc0 : ¬cond0_0 i) (h1 : chunkIn 1 x0 x1 x2 x3 x4 x5 x6 x7 xs0 = I1) (h0 : chunkIn 0 x0 x1 x2 x3 x4 x5 x6 x7 I1.dstNew = I0) : HoldsTab (out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xs0) xo9 I1 I0 := by
  intro r h k
  unfold out0_B_9
  rw [View.read_writes_junk_eq_canon, tabsB c i arg2 harg2 arg3 harg3 arg4 harg4 arg5 harg5 arg6 harg6 arg7 harg7 arg8 harg8 arg9 harg9 arg10 harg10 arg11 harg11 arg12 harg12 arg13 harg13 x0 x1 x2 x3 x4 x5 x6 x7 xo9 xo10 xs0 hc0, in1_B c arg2 harg2 arg3 harg3 arg4 harg4 arg5 harg5 arg6 harg6 arg7 harg7 arg8 harg8 arg9 harg9 arg13 harg13 x0 x1 x2 x3 x4 x5 x6 x7 xs0 I1 h1, in0_B c arg2 harg2 arg3 harg3 arg4 harg4 arg5 harg5 arg6 harg6 arg7 harg7 arg8 harg8 arg9 harg9 arg13 harg13 x0 x1 x2 x3 x4 x5 x6 x7 xs0 I1 I0 h1 h0]
  refine (canon_tabB arg11.view (harg11.unread xo9) I1 I0 r h k 64 le_rfl (by omega)).trans ?_
  rw [if_neg (by omega), Memref.IsWhole.read_unread]

theorem nw_B (hc0 : ¬cond0_0 i) (h1 : chunkIn 1 x0 x1 x2 x3 x4 x5 x6 x7 xs0 = I1) (h0 : chunkIn 0 x0 x1 x2 x3 x4 x5 x6 x7 I1.dstNew = I0) : HoldsNw (out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xs0) xo10 I1 I0 := by
  intro r k
  unfold out0_B_10
  rw [nwsB c i arg2 harg2 arg3 harg3 arg4 harg4 arg5 harg5 arg6 harg6 arg7 harg7 arg8 harg8 arg9 harg9 arg10 harg10 arg11 harg11 arg12 harg12 arg13 harg13 x0 x1 x2 x3 x4 x5 x6 x7 xo9 xo10 xs0 hc0, in1_B c arg2 harg2 arg3 harg3 arg4 harg4 arg5 harg5 arg6 harg6 arg7 harg7 arg8 harg8 arg9 harg9 arg13 harg13 x0 x1 x2 x3 x4 x5 x6 x7 xs0 I1 h1, in0_B c arg2 harg2 arg3 harg3 arg4 harg4 arg5 harg5 arg6 harg6 arg7 harg7 arg8 harg8 arg9 harg9 arg13 harg13 x0 x1 x2 x3 x4 x5 x6 x7 xs0 I1 I0 h1 h0]
  by_cases hr : r = 0
  · subst hr
    rw [if_pos rfl]
    refine (writes_nw arg12.view _ _ _ _ k).trans ?_
    refine congrArg (fun y : EReal => y + I0.dNw (ix2 0 k)) ?_
    rw [View.readCov_eq_canon']
    have hy : nwRect.toLoadRect.idx (ix3 (0 : Fin 1) (0 : Fin 1) k) = (ix3 0 0 k : S16x1x128.Idx) := (nwRect_emb k).symm
    show View.canon _ (nwRect.toLoadRect.idx (ix3 (0 : Fin 1) (0 : Fin 1) k)) = _
    rw [hy, nwRect_emb]
    refine (View.canon_cons_emb _ _ _ _).trans ((nwPiece_val _ _ k).trans ?_)
    refine congrArg (fun y : EReal => y + I1.dNw (ix2 0 k)) ?_
    show arg12.view.read (Elt Ideal) (harg12.unread xo10) (nwRect.toLoadRect.idx (ix3 (0 : Fin 1) (0 : Fin 1) k)) = _
    rw [hy, Memref.IsWhole.read_unread, ← nwRect_emb]
  · rw [if_neg hr]
    refine (writes_nw_skip arg12.view _ _ _ _ r k hr).trans ((writes_nw_skip arg12.view _ _ _ _ r k hr).trans ?_)
    show arg12.view.read (Elt Ideal) (harg12.unread xo10) (ix3 r 0 k) = _
    rw [Memref.IsWhole.read_unread]

theorem st_B (hc0 : ¬cond0_0 i) (h1 : chunkIn 1 x0 x1 x2 x3 x4 x5 x6 x7 xs0 = I1) (h0 : chunkIn 0 x0 x1 x2 x3 x4 x5 x6 x7 I1.dstNew = I0) : sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xs0 = I0.dstNew := by
  unfold sout0_B_0
  rw [View.read_writes_junk_eq_canon, stsB c i arg2 harg2 arg3 harg3 arg4 harg4 arg5 harg5 arg6 harg6 arg7 harg7 arg8 harg8 arg9 harg9 arg10 harg10 arg11 harg11 arg12 harg12 arg13 harg13 x0 x1 x2 x3 x4 x5 x6 x7 xo9 xo10 xs0 hc0, in0_B c arg2 harg2 arg3 harg3 arg4 harg4 arg5 harg5 arg6 harg6 arg7 harg7 arg8 harg8 arg9 harg9 arg13 harg13 x0 x1 x2 x3 x4 x5 x6 x7 xs0 I1 I0 h1 h0]
  exact canon_st _ _

end Cert.Proof
-- ==== Proof.Real.lean ====
/- One chunk of the backward kernel over the real numbers, for one head: the same quantities as in Chunk.lean, with
   the parts the program adds for the short format left out, because they vanish when nothing is rounded. -/
module

public import proofs.«01_k».proof.Proof.Lift

@[expose] public section

noncomputable section

namespace Cert.Proof

open Finset

/-- What one chunk of one head reads, as real numbers. Tokens come first, then channels; a state has the value channel
    first and the key channel second. -/
structure RH where
  t0 : Fin 128 → ℝ
  t1 : Fin 128 → ℝ
  w : Fin 128 → ℝ
  q : Fin 64 → Fin 128 → ℝ
  f : Fin 64 → Fin 128 → ℝ
  v : Fin 64 → Fin 128 → ℝ
  g : Fin 64 → Fin 128 → ℝ
  dy : Fin 64 → Fin 128 → ℝ
  st : Fin 128 → Fin 128 → ℝ
  dst : Fin 128 → Fin 128 → ℝ

namespace RH

/-- Ones on and below the diagonal. -/
def tri (t s : Fin 64) : ℝ := if s.val ≤ t.val then 1 else 0
/-- Ones on and below the diagonal within a block of sixteen tokens. -/
def triB (t s : Fin 64) : ℝ := if s.val ≤ t.val ∧ s.val / 16 = t.val / 16 then 1 else 0
/-- The row with number `r`. -/
def row (r : ℕ) (x : Fin 64 → Fin 128 → ℝ) (k : Fin 128) : ℝ := ∑ t : Fin 64, if t.val = r then x t k else 0
/-- A row put at place `r`, zero elsewhere. -/
def put (r : ℕ) (x : Fin 128 → ℝ) (t : Fin 64) (k : Fin 128) : ℝ := if t.val = r then x k else 0

variable (R : RH)

/-! ## The gates -/

def tMax (k : Fin 128) : ℝ := max (R.t0 k) (R.t1 k)
def w0 (k : Fin 128) : ℝ := if R.t1 k < R.t0 k then 1 else if R.t0 k = R.t1 k then 1/2 else 0
def w1 (k : Fin 128) : ℝ := if R.t0 k < R.t1 k then 1 else if R.t1 k = R.t0 k then 1/2 else 0
def e0 (k : Fin 128) : ℝ := Real.exp (R.t0 k - R.tMax k)
def e1 (k : Fin 128) : ℝ := Real.exp (R.t1 k - R.tMax k)
def eSum (k : Fin 128) : ℝ := R.e0 k + R.e1 k
def lb (k : Fin 128) : ℝ := R.e0 k / R.eSum k
def invSq (k : Fin 128) : ℝ := 1 / (R.eSum k * R.eSum k)
def rest (k : Fin 128) : ℝ := 1 - R.lb k
def sigF (t : Fin 64) (k : Fin 128) : ℝ := (1 + Real.exp (-R.f t k))⁻¹
def dSigF (t : Fin 64) (k : Fin 128) : ℝ := R.sigF t k * (1 - R.sigF t k)
def forget (t : Fin 64) (k : Fin 128) : ℝ := R.lb k + R.rest k * R.sigF t k
def key (t : Fin 64) (k : Fin 128) : ℝ := 1 - R.forget t k
def logF (t : Fin 64) (k : Fin 128) : ℝ := Real.log (R.forget t k)
def sigQ (t : Fin 64) (k : Fin 128) : ℝ := (1 + Real.exp (-R.q t k))⁻¹
def dSigQ (t : Fin 64) (k : Fin 128) : ℝ := R.sigQ t k * (1 - R.sigQ t k)
def qh (t : Fin 64) (k : Fin 128) : ℝ := R.q t k * R.sigQ t k * cScale

theorem e0_pos (k : Fin 128) : 0 < R.e0 k := Real.exp_pos _
theorem e1_pos (k : Fin 128) : 0 < R.e1 k := Real.exp_pos _
theorem eSum_pos (k : Fin 128) : 0 < R.eSum k := add_pos (R.e0_pos k) (R.e1_pos k)
theorem lb_pos (k : Fin 128) : 0 < R.lb k := div_pos (R.e0_pos k) (R.eSum_pos k)
theorem rest_pos (k : Fin 128) : 0 < R.rest k := by
  have h := R.eSum_pos k
  have : R.rest k = R.e1 k / R.eSum k := by unfold rest lb; rw [eq_div_iff h.ne']; field_simp; unfold eSum; ring
  rw [this]; exact div_pos (R.e1_pos k) h
theorem sigF_pos (t : Fin 64) (k : Fin 128) : 0 < R.sigF t k := inv_pos.mpr (by positivity)
theorem forget_pos (t : Fin 64) (k : Fin 128) : 0 < R.forget t k :=
  add_pos (R.lb_pos k) (mul_pos (R.rest_pos k) (R.sigF_pos t k))

/-! ## The decays, the scores and the output -/

def cum (t : Fin 64) (k : Fin 128) : ℝ := ∑ s, tri t s * R.logF s k
def cumBlk (t : Fin 64) (k : Fin 128) : ℝ := ∑ s, triB t s * R.logF s k
def lead (t : Fin 64) (k : Fin 128) : ℝ := R.cum t k - R.cumBlk t k
def expBlk (t : Fin 64) (k : Fin 128) : ℝ := Real.exp (R.cumBlk t k)
def qt (t : Fin 64) (k : Fin 128) : ℝ := R.qh t k * R.expBlk t k
def expNegBlk (t : Fin 64) (k : Fin 128) : ℝ := Real.exp (0 - R.cumBlk t k)
def kt (t : Fin 64) (k : Fin 128) : ℝ := R.key t k * R.expNegBlk t k
def dec0 (t : Fin 64) (k : Fin 128) : ℝ := Real.exp (R.lead t k)
def decAt (b r : ℕ) (t : Fin 64) (k : Fin 128) : ℝ := if b ≤ t.val / 16 then Real.exp (R.lead t k - row r R.cum k) else 0
def q0 (t : Fin 64) (k : Fin 128) : ℝ := R.qt t k * R.dec0 t k
def qAt (b r : ℕ) (t : Fin 64) (k : Fin 128) : ℝ := R.qt t k * R.decAt b r t k
def ktAt (b : ℕ) (s : Fin 64) (k : Fin 128) : ℝ := if s.val / 16 = b then R.kt s k else 0
def scoresAll (t s : Fin 64) : ℝ :=
  0 + (∑ k, R.q0 t k * R.ktAt 0 s k) + (∑ k, R.qAt 1 15 t k * R.ktAt 1 s k) + (∑ k, R.qAt 2 31 t k * R.ktAt 2 s k)
    + (∑ k, R.qAt 3 47 t k * R.ktAt 3 s k)
def scores (t s : Fin 64) : ℝ := if s.val ≤ t.val then R.scoresAll t s else 0
def oIn (t : Fin 64) (v : Fin 128) : ℝ := ∑ s, R.scores t s * R.v s v
def expCum (t : Fin 64) (k : Fin 128) : ℝ := Real.exp (R.cum t k)
def qg (t : Fin 64) (k : Fin 128) : ℝ := R.qh t k * R.expCum t k
def o (t : Fin 64) (v : Fin 128) : ℝ := R.oIn t v + ∑ k, R.qg t k * R.st v k
def last (k : Fin 128) : ℝ := row 63 R.cum k
def expLast (k : Fin 128) : ℝ := Real.exp (R.last k)
def decay (t : Fin 64) (k : Fin 128) : ℝ := Real.exp (R.last k - R.cum t k)
def kg (t : Fin 64) (k : Fin 128) : ℝ := R.key t k * R.decay t k

/-! ## The norm and the gate -/

def sq (t : Fin 64) (v : Fin 128) : ℝ := R.o t v * R.o t v
def msEps (t : Fin 64) : ℝ := (∑ v, R.sq t v) / 128 + cEps
def root (t : Fin 64) : ℝ := (Real.sqrt (R.msEps t))⁻¹
def rootQ (t : Fin 64) : ℝ := R.root t / R.msEps t
def rootD (t : Fin 64) : ℝ := -1/2 * R.rootQ t
def oNorm (t : Fin 64) (v : Fin 128) : ℝ := R.o t v * R.root t
def oW (t : Fin 64) (v : Fin 128) : ℝ := R.oNorm t v * R.w v
def sigG (t : Fin 64) (v : Fin 128) : ℝ := (1 + Real.exp (-R.g t v))⁻¹
def dSigG (t : Fin 64) (v : Fin 128) : ℝ := R.sigG t v * (1 - R.sigG t v)
def siluG (t : Fin 64) (v : Fin 128) : ℝ := R.g t v * R.sigG t v
def dSilu (t : Fin 64) (v : Fin 128) : ℝ := R.oW t v * R.dy t v
def dOW (t : Fin 64) (v : Fin 128) : ℝ := R.dy t v * R.siluG t v
def dG (t : Fin 64) (v : Fin 128) : ℝ := R.dSilu t v * R.sigG t v + R.g t v * R.dSilu t v * R.dSigG t v
def dNw (v : Fin 128) : ℝ := ∑ t, R.oNorm t v * R.dOW t v
def dNorm (t : Fin 64) (v : Fin 128) : ℝ := R.dOW t v * R.w v
def dON (t : Fin 64) (v : Fin 128) : ℝ := R.dNorm t v * R.root t
def dRoot (t : Fin 64) : ℝ := (∑ v, R.o t v * R.dNorm t v) * R.rootD t / 128
def dO (t : Fin 64) (v : Fin 128) : ℝ := R.dON t v + R.o t v * R.dRoot t + R.dRoot t * R.o t v

theorem msEps_pos (t : Fin 64) : 0 < R.msEps t :=
  add_pos_of_nonneg_of_pos (div_nonneg (sum_nonneg fun _ _ => mul_self_nonneg _) (by norm_num)) cEps_pos

/-! ## Backward through the state and the scores -/

def dKg1 (t : Fin 64) (v : Fin 128) : ℝ := ∑ k, R.kg t k * R.dst v k
def dKg (t : Fin 64) (k : Fin 128) : ℝ := ∑ v, R.v t v * R.dst v k
def dKeyIn (t : Fin 64) (k : Fin 128) : ℝ := R.dKg t k * R.decay t k
def dDec (t : Fin 64) (k : Fin 128) : ℝ := R.key t k * R.dKg t k * R.decay t k
def stDst (k : Fin 128) : ℝ := ∑ v, R.st v k * R.dst v k
def dstDec (v k : Fin 128) : ℝ := R.dst v k * R.expLast k
def dLast (k : Fin 128) : ℝ := (∑ t, R.dDec t k) + R.stDst k * R.expLast k
def dCumEnd (t : Fin 64) (k : Fin 128) : ℝ := 0 - R.dDec t k + put 63 R.dLast t k
def dQg (t : Fin 64) (k : Fin 128) : ℝ := ∑ v, R.dO t v * R.st v k
def dstNew (v k : Fin 128) : ℝ := R.dstDec v k + ∑ t, R.dO t v * R.qg t k
def dQhIn (t : Fin 64) (k : Fin 128) : ℝ := R.dQg t k * R.expCum t k
def dCumQ (t : Fin 64) (k : Fin 128) : ℝ := R.qh t k * R.dQg t k * R.expCum t k
def dV (s : Fin 64) (v : Fin 128) : ℝ := R.dKg1 s v + ∑ t, R.scores t s * R.dO t v
def dScores (t s : Fin 64) : ℝ := if s.val ≤ t.val then ∑ v, R.dO t v * R.v s v else 0
def dqAt (b : ℕ) (t : Fin 64) (k : Fin 128) : ℝ := ∑ s, R.dScores t s * R.ktAt b s k
def dkAt (b : ℕ) (qb : Fin 64 → Fin 128 → ℝ) (s : Fin 64) (k : Fin 128) : ℝ :=
  if s.val / 16 = b then ∑ t, R.dScores t s * qb t k else 0
def dLeadAt (b r : ℕ) (t : Fin 64) (k : Fin 128) : ℝ :=
  if b ≤ t.val / 16 then R.qt t k * R.dqAt b t k * R.decAt b r t k else 0
def dKt (s : Fin 64) (k : Fin 128) : ℝ :=
  R.dkAt 3 (R.qAt 3 47) s k + R.dkAt 2 (R.qAt 2 31) s k + R.dkAt 1 (R.qAt 1 15) s k + R.dkAt 0 R.q0 s k
def dQt (t : Fin 64) (k : Fin 128) : ℝ :=
  R.dqAt 3 t k * R.decAt 3 47 t k + R.dqAt 2 t k * R.decAt 2 31 t k + R.dqAt 1 t k * R.decAt 1 15 t k
    + R.dqAt 0 t k * R.dec0 t k
def dLead0 (t : Fin 64) (k : Fin 128) : ℝ := R.qt t k * R.dqAt 0 t k * R.dec0 t k
def dLead (t : Fin 64) (k : Fin 128) : ℝ := R.dLeadAt 3 47 t k + R.dLeadAt 2 31 t k + R.dLeadAt 1 15 t k + R.dLead0 t k
def dLeadRow (r b : ℕ) (t : Fin 64) (k : Fin 128) : ℝ := put r (fun k => ∑ t, (0 - R.dLeadAt b r t k)) t k
def dKey (t : Fin 64) (k : Fin 128) : ℝ := R.dKeyIn t k + R.dKt t k * R.expNegBlk t k
def dQh (t : Fin 64) (k : Fin 128) : ℝ := R.dQhIn t k + R.dQt t k * R.expBlk t k
def dBlkK (t : Fin 64) (k : Fin 128) : ℝ :=
  0 - R.key t k * R.dKt t k * R.expNegBlk t k + R.qh t k * R.dQt t k * R.expBlk t k
def dCum (t : Fin 64) (k : Fin 128) : ℝ :=
  R.dCumEnd t k + R.dCumQ t k + R.dLeadRow 47 3 t k + R.dLeadRow 31 2 t k + R.dLeadRow 15 1 t k + R.dLead t k
def dCumBlk (t : Fin 64) (k : Fin 128) : ℝ := R.dBlkK t k + (0 - R.dLead t k)
def dLogF (s : Fin 64) (k : Fin 128) : ℝ := (∑ t, triB t s * R.dCumBlk t k) + ∑ t, tri t s * R.dCum t k

/-! ## The gradients of the inputs -/

def dQs (t : Fin 64) (k : Fin 128) : ℝ := R.dQh t k * cScale
def dQ (t : Fin 64) (k : Fin 128) : ℝ := R.dQs t k * R.sigQ t k + R.q t k * R.dQs t k * R.dSigQ t k
def dForget (t : Fin 64) (k : Fin 128) : ℝ := R.dLogF t k / R.forget t k + (0 - R.dKey t k)
def dF (t : Fin 64) (k : Fin 128) : ℝ := R.rest k * R.dForget t k * R.dSigF t k
def dLb (k : Fin 128) : ℝ := (∑ t, R.dForget t k) + (0 - ∑ t, R.dForget t k * R.sigF t k)
def dSum (k : Fin 128) : ℝ := 0 - R.dLb k * R.invSq k * R.e0 k
def dE0 (k : Fin 128) : ℝ := (R.dLb k / R.eSum k + R.dSum k) * R.e0 k
def dE1 (k : Fin 128) : ℝ := R.dSum k * R.e1 k
def dMax (k : Fin 128) : ℝ := 0 - R.dE1 k + (0 - R.dE0 k)
def dT1 (k : Fin 128) : ℝ := R.dE1 k + R.dMax k * R.w1 k
def dT0 (k : Fin 128) : ℝ := R.dE0 k + R.dMax k * R.w0 k

end RH

end Cert.Proof
-- ==== Proof.LiftChunk.lean ====
/- The quantities of one chunk (Chunk.lean) on real inputs: each is an array of real numbers, the one of Real.lean. -/
module

public import proofs.«01_k».proof.Proof.Chunk
public import proofs.«01_k».proof.Proof.Real

@[expose] public section

noncomputable section

namespace Cert.Proof

open Idealize.ShloMosaic Idealize.ShloMosaic.ValueIdx Idealize.SL.Sem Cert.KernelIdeal Cert.KernelIdeal.Gen
open scoped BigOperators

theorem cast_S128_S1x1x128_E (x : S128.Idx → ℝ) (h : S128.ShapeCasts S1x1x128) :
    shapeCast S1x1x128 (E x : FVec Ideal S128 .f32) h = E fun j => x (ix1 (j 2)) := by
  funext j
  refine Idealize.ShloMosaic.shapeCast_apply _ h j (ix1 (j 2)) ?_
  rw [Shape.rowMajor_val_one, Shape.rowMajor_val_three]
  have h0 := (j 0).isLt; change (j 0).val < 1 at h0
  have h1 := (j 1).isLt; change (j 1).val < 1 at h1
  show (j 2).val = ((j 0).val * 1 + (j 1).val) * 128 + (j 2).val; omega

/-- The inputs of one chunk from those of its sixteen heads. -/
def lift (w : Fin 128 → ℝ) (R : Fin 16 → RH) : In where
  t0 := E fun i => (R (i 0)).t0 (i 2)
  t1 := E fun i => (R (i 0)).t1 (i 2)
  nw := E fun i => w (i 1)
  q := E fun i => (R (i 0)).q (i 1) (i 2)
  f := E fun i => (R (i 0)).f (i 1) (i 2)
  v := E fun i => (R (i 0)).v (i 1) (i 2)
  g := E fun i => (R (i 0)).g (i 1) (i 2)
  st := E fun i => (R (i 0)).st (i 1) (i 2)
  dy := E fun i => (R (i 0)).dy (i 1) (i 2)
  dst := E fun i => (R (i 0)).dst (i 1) (i 2)

namespace In

/-! ## The repeated combinations on real arrays -/

theorem fill0 (s : Shape) : fill s 0x00000000#32 = E fun _ => 0 := bc_zero
theorem fill1 (s : Shape) : fill s 0x3F800000#32 = E fun _ => 1 := bc_one
theorem fillHalf (s : Shape) : fill s 0x3F000000#32 = E fun _ => 1/2 := bc_half
theorem fillNegHalf (s : Shape) : fill s 0xBF000000#32 = E fun _ => -1/2 := bc_neg_half
theorem fillWidth (s : Shape) : fill s 0x43000000#32 = E fun _ => 128 := bc_width
theorem fillScale (s : Shape) : fill s 0x3DB504F3#32 = E fun _ => cScale := bc_scale
theorem fillEps (s : Shape) : fill s 0x358637BD#32 = E fun _ => cEps := bc_eps

theorem neg_E (x : S16x64x128.Idx → ℝ) : neg (E x) = E fun i => 0 - x i := by unfold neg; rw [fill0, subf_E]
theorem negRow_E (x : S16x1x128.Idx → ℝ) : negRow (E x) = E fun i => 0 - x i := by unfold negRow; rw [fill0, subf_E]
theorem spread_E (x : S16x1x128.Idx → ℝ) : spread (E x) = E fun i => x (ix3 (i 0) 0 (i 2)) := by
  unfold spread; rw [bc_S16x1x128_S16x64x128_E]
theorem spreadCol_E (x : S16x64x1.Idx → ℝ) : spreadCol (E x) = E fun i => x (ix3 (i 0) (i 1) 0) := by
  unfold spreadCol; rw [bc_S16x64x1_S16x64x128_E]
theorem sumT_E (x : S16x64x128.Idx → ℝ) : sumT (E x) = E fun i => ∑ t : Fin 64, x (ix3 (i 0) t (i 2)) := by
  refine (congrArg (fun y => shapeCast S16x1x128 y shapeCasts_S16x128_S16x1x128) (sum_S16x64x128_1_E reduces_S16x64x128_S16x128 (.inl rfl) rfl x)).trans ?_
  rw [cast_S16x128_S16x1x128_E]
theorem sumRow_E (x : S16x1x128.Idx → ℝ) : sumRow (E x) = E fun i => x (ix3 (i 0) 0 (i 2)) := by
  refine (congrArg (fun y => shapeCast S16x1x128 y shapeCasts_S16x128_S16x1x128) (sum_S16x1x128_1_E reduces_S16x1x128_S16x128 (.inl rfl) rfl x)).trans ?_
  rw [cast_S16x128_S16x1x128_E]
  refine E_inj fun i => ?_
  rw [Fin.sum_univ_one]
theorem sumSt_E (x : S16x128x128.Idx → ℝ) : sumSt (E x) = E fun i => ∑ t : Fin 128, x (ix3 (i 0) t (i 2)) := by
  refine (congrArg (fun y => shapeCast S16x1x128 y shapeCasts_S16x128_S16x1x128) (sum_S16x128x128_1_E reduces_S16x128x128_S16x128 (.inl rfl) rfl x)).trans ?_
  rw [cast_S16x128_S16x1x128_E]
theorem sumK_E (x : S16x64x128.Idx → ℝ) : sumK (E x) = E fun i => ∑ k : Fin 128, x (ix3 (i 0) (i 1) k) := by
  refine (congrArg (fun y => shapeCast S16x64x1 y shapeCasts_S16x64_S16x64x1) (sum_S16x64x128_2_E reduces_S16x64x128_S16x64 (.inl rfl) rfl x)).trans ?_
  rw [cast_S16x64_S16x64x1_E]
theorem sumCol_E (x : S16x64x1.Idx → ℝ) : sumCol (E x) = E fun i => x (ix3 (i 0) (i 1) 0) := by
  refine (congrArg (fun y => shapeCast S16x64x1 y shapeCasts_S16x64_S16x64x1) (sum_S16x64x1_2_E reduces_S16x64x1_S16x64 (.inl rfl) rfl x)).trans ?_
  rw [cast_S16x64_S16x64x1_E]
  refine E_inj fun i => ?_
  rw [Fin.sum_univ_one]
theorem mulSqT_E (m : S16x64x64.Idx → ℝ) (x : S16x64x128.Idx → ℝ) :
    mulSqT (E m) (E x) = E fun i => ∑ s : Fin 64, m (ix3 (i 0) (i 1) s) * x (ix3 (i 0) s (i 2)) := by
  unfold mulSqT; rw [truncf_E, truncf_E, matmul_nn64_E]
theorem mulTrT_E (m : S16x64x64.Idx → ℝ) (x : S16x64x128.Idx → ℝ) :
    mulTrT (E m) (E x) = E fun i => ∑ t : Fin 64, m (ix3 (i 0) t (i 1)) * x (ix3 (i 0) t (i 2)) := by
  unfold mulTrT; rw [truncf_E, truncf_E, matmul_tn64_E]
theorem mulTT_E (x y : S16x64x128.Idx → ℝ) :
    mulTT (E x) (E y) = E fun i => ∑ k : Fin 128, x (ix3 (i 0) (i 1) k) * y (ix3 (i 0) (i 2) k) := by
  unfold mulTT; rw [truncf_E, truncf_E, matmul_nt64_E]
theorem mulTStTr_E (x : S16x64x128.Idx → ℝ) (y : S16x128x128.Idx → ℝ) :
    mulTStTr (E x) (E y) = E fun i => ∑ k : Fin 128, x (ix3 (i 0) (i 1) k) * y (ix3 (i 0) (i 2) k) := by
  unfold mulTStTr; rw [truncf_E, truncf_E, matmul_nt128_E]
theorem mulTSt_E (x : S16x64x128.Idx → ℝ) (y : S16x128x128.Idx → ℝ) :
    mulTSt (E x) (E y) = E fun i => ∑ v : Fin 128, x (ix3 (i 0) (i 1) v) * y (ix3 (i 0) v (i 2)) := by
  unfold mulTSt; rw [truncf_E, truncf_E, matmul_nn128_E]
theorem mulTrTT_E (x y : S16x64x128.Idx → ℝ) :
    mulTrTT (E x) (E y) = E fun i => ∑ t : Fin 64, x (ix3 (i 0) t (i 1)) * y (ix3 (i 0) t (i 2)) := by
  unfold mulTrTT; rw [truncf_E, truncf_E, matmul_tn128_E]

/-- Nothing is lost: a real number keeps its value in the short format. -/
theorem lost_E (x : S16x64x128.Idx → ℝ) : lost (E x) = E fun _ => 0 := by
  unfold lost; rw [truncf_E, extf_E, subf_E]
  exact E_inj fun i => sub_self _
theorem mulSqT3_E (m : S16x64x64.Idx → ℝ) (x : S16x64x128.Idx → ℝ) :
    mulSqT3 (E m) (E x) = E fun i => ∑ s : Fin 64, m (ix3 (i 0) (i 1) s) * x (ix3 (i 0) s (i 2)) := by
  unfold mulSqT3; simp only [lost_E, mulSqT_E, addf_E, mul_zero, Finset.sum_const_zero, zero_add]
theorem mulTrT3_E (m : S16x64x64.Idx → ℝ) (x : S16x64x128.Idx → ℝ) :
    mulTrT3 (E m) (E x) = E fun i => ∑ t : Fin 64, m (ix3 (i 0) t (i 1)) * x (ix3 (i 0) t (i 2)) := by
  unfold mulTrT3; simp only [lost_E, mulTrT_E, addf_E, mul_zero, Finset.sum_const_zero, zero_add]

/-! ## The masks -/

/-- The block number of a row number, as `block` computes it at each place. -/
def blk (x : BitVec 32) : BitVec 32 := block ⟨0, ![]⟩ (fun _ => x) (fun a => a.elim0)
theorem block_apply (s : Shape) (r : IVec s 32) (j : s.Idx) : block s r j = blk (r j) := rfl
theorem blk_val : ∀ n : Fin 64, blk (BitVec.ofNat 32 n.val) = BitVec.ofNat 32 (n.val / 16) := by decide +kernel
theorem rows_apply (j : S64x128.Idx) : rows j = BitVec.ofNat 32 (j 0).val := by
  show BitVec.ofNat 32 _ = _; simp
theorem sqRow_apply (j : S64x64.Idx) : sqRow j = BitVec.ofNat 32 (j 0).val := by
  show BitVec.ofNat 32 _ = _; simp
theorem sqCol_apply (j : S64x64.Idx) : sqCol j = BitVec.ofNat 32 (j 1).val := by
  show BitVec.ofNat 32 _ = _; simp

theorem heads_M (m : S64x128.Idx → Prop) [DecidablePred m] : heads (M m) = M fun i => m (ix2 (i 1) (i 2)) := by
  unfold heads; rw [cast_S64x128_S1x64x128_M, bc_S1x64x128_S16x64x128_M]

theorem rowIs_15 : rowIs 15#32 = M fun i => (i 1).val = 15 := by
  have e : cmpi .eq rows (broadcast S64x128 15#32) = M fun j : S64x128.Idx => (j 0).val = 15 := by
    funext j
    show IntOp.cmpi _ (rows j) 15#32 = _
    rw [rows_apply]
    exact (by decide +kernel : ∀ n : Fin 64, IntOp.cmpi .eq (BitVec.ofNat 32 n.val) 15#32 = BitVec.ofBool (decide (n.val = 15))) (j 0)
  unfold rowIs; rw [e, heads_M]
theorem rowIs_31 : rowIs 31#32 = M fun i => (i 1).val = 31 := by
  have e : cmpi .eq rows (broadcast S64x128 31#32) = M fun j : S64x128.Idx => (j 0).val = 31 := by
    funext j
    show IntOp.cmpi _ (rows j) 31#32 = _
    rw [rows_apply]
    exact (by decide +kernel : ∀ n : Fin 64, IntOp.cmpi .eq (BitVec.ofNat 32 n.val) 31#32 = BitVec.ofBool (decide (n.val = 31))) (j 0)
  unfold rowIs; rw [e, heads_M]
theorem rowIs_47 : rowIs 47#32 = M fun i => (i 1).val = 47 := by
  have e : cmpi .eq rows (broadcast S64x128 47#32) = M fun j : S64x128.Idx => (j 0).val = 47 := by
    funext j
    show IntOp.cmpi _ (rows j) 47#32 = _
    rw [rows_apply]
    exact (by decide +kernel : ∀ n : Fin 64, IntOp.cmpi .eq (BitVec.ofNat 32 n.val) 47#32 = BitVec.ofBool (decide (n.val = 47))) (j 0)
  unfold rowIs; rw [e, heads_M]
theorem rowIs_63 : rowIs 63#32 = M fun i => (i 1).val = 63 := by
  have e : cmpi .eq rows (broadcast S64x128 63#32) = M fun j : S64x128.Idx => (j 0).val = 63 := by
    funext j
    show IntOp.cmpi _ (rows j) 63#32 = _
    rw [rows_apply]
    exact (by decide +kernel : ∀ n : Fin 64, IntOp.cmpi .eq (BitVec.ofNat 32 n.val) 63#32 = BitVec.ofBool (decide (n.val = 63))) (j 0)
  unfold rowIs; rw [e, heads_M]
theorem inBlock_0 : inBlock 0#32 = M fun i => (i 1).val / 16 = 0 := by
  have e : cmpi .eq (block S64x128 rows) (broadcast S64x128 0#32) = M fun j : S64x128.Idx => (j 0).val / 16 = 0 := by
    funext j
    show IntOp.cmpi _ (block S64x128 rows j) 0#32 = _
    rw [block_apply, rows_apply]
    exact (by decide +kernel : ∀ n : Fin 64, IntOp.cmpi .eq (blk (BitVec.ofNat 32 n.val)) 0#32 = BitVec.ofBool (decide ((n).val / 16 = 0))) (j 0)
  unfold inBlock; rw [e, heads_M]
theorem inBlock_1 : inBlock 1#32 = M fun i => (i 1).val / 16 = 1 := by
  have e : cmpi .eq (block S64x128 rows) (broadcast S64x128 1#32) = M fun j : S64x128.Idx => (j 0).val / 16 = 1 := by
    funext j
    show IntOp.cmpi _ (block S64x128 rows j) 1#32 = _
    rw [block_apply, rows_apply]
    exact (by decide +kernel : ∀ n : Fin 64, IntOp.cmpi .eq (blk (BitVec.ofNat 32 n.val)) 1#32 = BitVec.ofBool (decide ((n).val / 16 = 1))) (j 0)
  unfold inBlock; rw [e, heads_M]
theorem fromBlock_1 : fromBlock 1#32 = M fun i => 1 ≤ (i 1).val / 16 := by
  have e : cmpi .sge (block S64x128 rows) (broadcast S64x128 1#32) = M fun j : S64x128.Idx => 1 ≤ (j 0).val / 16 := by
    funext j
    show IntOp.cmpi _ (block S64x128 rows j) 1#32 = _
    rw [block_apply, rows_apply]
    exact (by decide +kernel : ∀ n : Fin 64, IntOp.cmpi .sge (blk (BitVec.ofNat 32 n.val)) 1#32 = BitVec.ofBool (decide (1 ≤ (n).val / 16))) (j 0)
  unfold fromBlock; rw [e, heads_M]
theorem inBlock_2 : inBlock 2#32 = M fun i => (i 1).val / 16 = 2 := by
  have e : cmpi .eq (block S64x128 rows) (broadcast S64x128 2#32) = M fun j : S64x128.Idx => (j 0).val / 16 = 2 := by
    funext j
    show IntOp.cmpi _ (block S64x128 rows j) 2#32 = _
    rw [block_apply, rows_apply]
    exact (by decide +kernel : ∀ n : Fin 64, IntOp.cmpi .eq (blk (BitVec.ofNat 32 n.val)) 2#32 = BitVec.ofBool (decide ((n).val / 16 = 2))) (j 0)
  unfold inBlock; rw [e, heads_M]
theorem fromBlock_2 : fromBlock 2#32 = M fun i => 2 ≤ (i 1).val / 16 := by
  have e : cmpi .sge (block S64x128 rows) (broadcast S64x128 2#32) = M fun j : S64x128.Idx => 2 ≤ (j 0).val / 16 := by
    funext j
    show IntOp.cmpi _ (block S64x128 rows j) 2#32 = _
    rw [block_apply, rows_apply]
    exact (by decide +kernel : ∀ n : Fin 64, IntOp.cmpi .sge (blk (BitVec.ofNat 32 n.val)) 2#32 = BitVec.ofBool (decide (2 ≤ (n).val / 16))) (j 0)
  unfold fromBlock; rw [e, heads_M]
theorem inBlock_3 : inBlock 3#32 = M fun i => (i 1).val / 16 = 3 := by
  have e : cmpi .eq (block S64x128 rows) (broadcast S64x128 3#32) = M fun j : S64x128.Idx => (j 0).val / 16 = 3 := by
    funext j
    show IntOp.cmpi _ (block S64x128 rows j) 3#32 = _
    rw [block_apply, rows_apply]
    exact (by decide +kernel : ∀ n : Fin 64, IntOp.cmpi .eq (blk (BitVec.ofNat 32 n.val)) 3#32 = BitVec.ofBool (decide ((n).val / 16 = 3))) (j 0)
  unfold inBlock; rw [e, heads_M]
theorem fromBlock_3 : fromBlock 3#32 = M fun i => 3 ≤ (i 1).val / 16 := by
  have e : cmpi .sge (block S64x128 rows) (broadcast S64x128 3#32) = M fun j : S64x128.Idx => 3 ≤ (j 0).val / 16 := by
    funext j
    show IntOp.cmpi _ (block S64x128 rows j) 3#32 = _
    rw [block_apply, rows_apply]
    exact (by decide +kernel : ∀ n : Fin 64, IntOp.cmpi .sge (blk (BitVec.ofNat 32 n.val)) 3#32 = BitVec.ofBool (decide (3 ≤ (n).val / 16))) (j 0)
  unfold fromBlock; rw [e, heads_M]

theorem lower_M : lower = M fun j => (j 1).val ≤ (j 0).val := by
  unfold lower; funext j
  show IntOp.cmpi .sle (sqCol j) (sqRow j) = _
  rw [sqCol_apply, sqRow_apply]
  exact (by decide +kernel : ∀ s t : Fin 64, IntOp.cmpi .sle (BitVec.ofNat 32 s.val) (BitVec.ofNat 32 t.val) = BitVec.ofBool (decide (s.val ≤ t.val))) (j 1) (j 0)
theorem lowerBlock_M : lowerBlock = M fun j => (j 1).val ≤ (j 0).val ∧ (j 1).val / 16 = (j 0).val / 16 := by
  funext j
  unfold lowerBlock
  show IntOp.andi (lower j) (IntOp.cmpi .eq (block S64x64 sqCol j) (block S64x64 sqRow j)) = _
  rw [lower_M, block_apply, block_apply, sqCol_apply, sqRow_apply, blk_val (j 1), blk_val (j 0)]
  exact (by decide +kernel : ∀ s t : Fin 64, IntOp.andi (BitVec.ofBool (decide (s.val ≤ t.val)))
    (IntOp.cmpi .eq (BitVec.ofNat 32 (s.val / 16)) (BitVec.ofNat 32 (t.val / 16))) = BitVec.ofBool (decide (s.val ≤ t.val ∧ s.val / 16 = t.val / 16))) (j 1) (j 0)
theorem triangle_M (m : S64x64.Idx → Prop) [DecidablePred m] :
    triangle (M m) = E fun i => if m (ix2 (i 1) (i 2)) then 1 else 0 := by
  unfold triangle; rw [fill1, fill0, select_E, cast_S64x64_S1x64x64_E, bc_S1x64x64_S16x64x64_E]
theorem triangle_lower : triangle lower = E fun i => RH.tri (i 1) (i 2) := by
  rw [lower_M, triangle_M]; rfl
theorem triangle_lowerBlock : triangle lowerBlock = E fun i => RH.triB (i 1) (i 2) := by
  rw [lowerBlock_M, triangle_M]; rfl
theorem lowerH_M : lowerH = M fun i => (i 2).val ≤ (i 1).val := by
  unfold lowerH; rw [lower_M, cast_S64x64_S1x64x64_M, bc_S1x64x64_S16x64x64_M]
theorem keep_E (m : S16x64x128.Idx → Prop) [DecidablePred m] (x : S16x64x128.Idx → ℝ) :
    keep (M m) (E x) = E fun i => if m i then x i else 0 := by unfold keep; rw [fill0, select_E]
theorem keepSq_E (x : S16x64x64.Idx → ℝ) : keepSq (E x) = E fun i => if (i 2).val ≤ (i 1).val then x i else 0 := by
  unfold keepSq; rw [lowerH_M, fill0, select_E]

theorem rowAt_15 (x : S16x64x128.Idx → ℝ) : rowAt 15#32 (E x) = E fun i => RH.row 15 (fun t k => x (ix3 (i 0) t k)) (i 2) := by
  unfold rowAt; rw [rowIs_15, keep_E, sumT_E]; rfl
theorem atRow_15 (x : S16x1x128.Idx → ℝ) : atRow 15#32 (E x) = E fun i => RH.put 15 (fun k => x (ix3 (i 0) 0 k)) (i 1) (i 2) := by
  unfold atRow; rw [rowIs_15, spread_E, keep_E]; rfl
theorem rowAt_31 (x : S16x64x128.Idx → ℝ) : rowAt 31#32 (E x) = E fun i => RH.row 31 (fun t k => x (ix3 (i 0) t k)) (i 2) := by
  unfold rowAt; rw [rowIs_31, keep_E, sumT_E]; rfl
theorem atRow_31 (x : S16x1x128.Idx → ℝ) : atRow 31#32 (E x) = E fun i => RH.put 31 (fun k => x (ix3 (i 0) 0 k)) (i 1) (i 2) := by
  unfold atRow; rw [rowIs_31, spread_E, keep_E]; rfl
theorem rowAt_47 (x : S16x64x128.Idx → ℝ) : rowAt 47#32 (E x) = E fun i => RH.row 47 (fun t k => x (ix3 (i 0) t k)) (i 2) := by
  unfold rowAt; rw [rowIs_47, keep_E, sumT_E]; rfl
theorem atRow_47 (x : S16x1x128.Idx → ℝ) : atRow 47#32 (E x) = E fun i => RH.put 47 (fun k => x (ix3 (i 0) 0 k)) (i 1) (i 2) := by
  unfold atRow; rw [rowIs_47, spread_E, keep_E]; rfl
theorem rowAt_63 (x : S16x64x128.Idx → ℝ) : rowAt 63#32 (E x) = E fun i => RH.row 63 (fun t k => x (ix3 (i 0) t k)) (i 2) := by
  unfold rowAt; rw [rowIs_63, keep_E, sumT_E]; rfl
theorem atRow_63 (x : S16x1x128.Idx → ℝ) : atRow 63#32 (E x) = E fun i => RH.put 63 (fun k => x (ix3 (i 0) 0 k)) (i 1) (i 2) := by
  unfold atRow; rw [rowIs_63, spread_E, keep_E]; rfl

/-! ## The quantities of a chunk -/

variable (w : Fin 128 → ℝ) (R : Fin 16 → RH)

/-- A head's inputs with the norm weight, which all heads share. -/
def one (h : Fin 16) : RH := { R h with w := w }

theorem l_t0 : (lift w R).t0 = E fun i => (one w R (i 0)).t0 (i 2) := rfl
theorem l_t1 : (lift w R).t1 = E fun i => (one w R (i 0)).t1 (i 2) := rfl
theorem l_q : (lift w R).q = E fun i => (one w R (i 0)).q (i 1) (i 2) := rfl
theorem l_f : (lift w R).f = E fun i => (one w R (i 0)).f (i 1) (i 2) := rfl
theorem l_v : (lift w R).v = E fun i => (one w R (i 0)).v (i 1) (i 2) := rfl
theorem l_g : (lift w R).g = E fun i => (one w R (i 0)).g (i 1) (i 2) := rfl
theorem l_st : (lift w R).st = E fun i => (one w R (i 0)).st (i 1) (i 2) := rfl
theorem l_dy : (lift w R).dy = E fun i => (one w R (i 0)).dy (i 1) (i 2) := rfl
theorem l_dst : (lift w R).dst = E fun i => (one w R (i 0)).dst (i 1) (i 2) := rfl
theorem l_nw : (lift w R).nw = E fun i => w (i 1) := rfl
theorem l_tMax : (lift w R).tMax = E fun i => (one w R (i 0)).tMax (i 2) := by
  unfold In.tMax; simp only [l_t0, l_t1, addf_E, subf_E, mulf_E, fill0, fill1, fillScale, spread_E, neg_E, negRow_E, sumT_E, sumRow_E, maximumf_E]; rfl
theorem l_w0 : (lift w R).w0 = E fun i => (one w R (i 0)).w0 (i 2) := by
  unfold In.w0; simp only [l_t0, l_t1, addf_E, subf_E, mulf_E, fill0, fill1, fillScale, spread_E, neg_E, negRow_E, sumT_E, sumRow_E, cmpf_gt_E, cmpf_eq_E, select_E, fillHalf]; rfl
theorem l_w1 : (lift w R).w1 = E fun i => (one w R (i 0)).w1 (i 2) := by
  unfold In.w1; simp only [l_t0, l_t1, addf_E, subf_E, mulf_E, fill0, fill1, fillScale, spread_E, neg_E, negRow_E, sumT_E, sumRow_E, cmpf_gt_E, cmpf_eq_E, select_E, fillHalf]; rfl
theorem l_e0 : (lift w R).e0 = E fun i => (one w R (i 0)).e0 (i 2) := by
  unfold In.e0; simp only [l_t0, l_tMax, addf_E, subf_E, mulf_E, fill0, fill1, fillScale, spread_E, neg_E, negRow_E, sumT_E, sumRow_E, exp_E]; rfl
theorem l_e1 : (lift w R).e1 = E fun i => (one w R (i 0)).e1 (i 2) := by
  unfold In.e1; simp only [l_t1, l_tMax, addf_E, subf_E, mulf_E, fill0, fill1, fillScale, spread_E, neg_E, negRow_E, sumT_E, sumRow_E, exp_E]; rfl
theorem l_eSum : (lift w R).eSum = E fun i => (one w R (i 0)).eSum (i 2) := by
  unfold In.eSum; simp only [l_e0, l_e1, addf_E, subf_E, mulf_E, fill0, fill1, fillScale, spread_E, neg_E, negRow_E, sumT_E, sumRow_E]; rfl
theorem l_lb : (lift w R).lb = E fun i => (one w R (i 0)).lb (i 2) := by
  unfold In.lb; simp only [l_e0, l_eSum, addf_E, subf_E, mulf_E, fill0, fill1, fillScale, spread_E, neg_E, negRow_E, sumT_E, sumRow_E, divf_E _ _ (fun i : S16x1x128.Idx => ((one w R (i 0)).eSum_pos (i 2)).ne')]; rfl
theorem l_invSq : (lift w R).invSq = E fun i => (one w R (i 0)).invSq (i 2) := by
  unfold In.invSq; simp only [l_eSum, addf_E, subf_E, mulf_E, fill0, fill1, fillScale, spread_E, neg_E, negRow_E, sumT_E, sumRow_E, divf_E _ _ (fun i : S16x1x128.Idx => (mul_pos ((one w R (i 0)).eSum_pos (i 2)) ((one w R (i 0)).eSum_pos (i 2))).ne')]; rfl
theorem l_rest : (lift w R).rest = E fun i => (one w R (i 0)).rest (i 2) := by
  unfold In.rest; simp only [l_lb, addf_E, subf_E, mulf_E, fill0, fill1, fillScale, spread_E, neg_E, negRow_E, sumT_E, sumRow_E]; rfl
theorem l_sigF : (lift w R).sigF = E fun i => (one w R (i 0)).sigF (i 1) (i 2) := by
  unfold In.sigF; simp only [l_f, addf_E, subf_E, mulf_E, fill0, fill1, fillScale, spread_E, neg_E, negRow_E, sumT_E, sumRow_E, logistic_E]; rfl
theorem l_dSigF : (lift w R).dSigF = E fun i => (one w R (i 0)).dSigF (i 1) (i 2) := by
  unfold In.dSigF; simp only [l_sigF, addf_E, subf_E, mulf_E, fill0, fill1, fillScale, spread_E, neg_E, negRow_E, sumT_E, sumRow_E]; rfl
theorem l_forget : (lift w R).forget = E fun i => (one w R (i 0)).forget (i 1) (i 2) := by
  unfold In.forget; simp only [l_lb, l_rest, l_sigF, addf_E, subf_E, mulf_E, fill0, fill1, fillScale, spread_E, neg_E, negRow_E, sumT_E, sumRow_E]; rfl
theorem l_key : (lift w R).key = E fun i => (one w R (i 0)).key (i 1) (i 2) := by
  unfold In.key; simp only [l_forget, addf_E, subf_E, mulf_E, fill0, fill1, fillScale, spread_E, neg_E, negRow_E, sumT_E, sumRow_E]; rfl
theorem l_logF : (lift w R).logF = E fun i => (one w R (i 0)).logF (i 1) (i 2) := by
  unfold In.logF; simp only [l_forget, addf_E, subf_E, mulf_E, fill0, fill1, fillScale, spread_E, neg_E, negRow_E, sumT_E, sumRow_E, log_E _ (fun i : S16x64x128.Idx => (one w R (i 0)).forget_pos (i 1) (i 2))]; rfl
theorem l_sigQ : (lift w R).sigQ = E fun i => (one w R (i 0)).sigQ (i 1) (i 2) := by
  unfold In.sigQ; simp only [l_q, addf_E, subf_E, mulf_E, fill0, fill1, fillScale, spread_E, neg_E, negRow_E, sumT_E, sumRow_E, logistic_E]; rfl
theorem l_dSigQ : (lift w R).dSigQ = E fun i => (one w R (i 0)).dSigQ (i 1) (i 2) := by
  unfold In.dSigQ; simp only [l_sigQ, addf_E, subf_E, mulf_E, fill0, fill1, fillScale, spread_E, neg_E, negRow_E, sumT_E, sumRow_E]; rfl
theorem l_qh : (lift w R).qh = E fun i => (one w R (i 0)).qh (i 1) (i 2) := by
  unfold In.qh; simp only [l_q, l_sigQ, addf_E, subf_E, mulf_E, fill0, fill1, fillScale, spread_E, neg_E, negRow_E, sumT_E, sumRow_E]; rfl
theorem l_cum : (lift w R).cum = E fun i => (one w R (i 0)).cum (i 1) (i 2) := by
  unfold In.cum; simp only [l_logF, addf_E, subf_E, mulf_E, fill0, fill1, fillScale, spread_E, neg_E, negRow_E, sumT_E, sumRow_E, triangle_lower, mulSqT3_E]; rfl
theorem l_cumBlk : (lift w R).cumBlk = E fun i => (one w R (i 0)).cumBlk (i 1) (i 2) := by
  unfold In.cumBlk; simp only [l_logF, addf_E, subf_E, mulf_E, fill0, fill1, fillScale, spread_E, neg_E, negRow_E, sumT_E, sumRow_E, triangle_lowerBlock, mulSqT3_E]; rfl
theorem l_lead : (lift w R).lead = E fun i => (one w R (i 0)).lead (i 1) (i 2) := by
  unfold In.lead; simp only [l_cum, l_cumBlk, addf_E, subf_E, mulf_E, fill0, fill1, fillScale, spread_E, neg_E, negRow_E, sumT_E, sumRow_E]; rfl
theorem l_expBlk : (lift w R).expBlk = E fun i => (one w R (i 0)).expBlk (i 1) (i 2) := by
  unfold In.expBlk; simp only [l_cumBlk, addf_E, subf_E, mulf_E, fill0, fill1, fillScale, spread_E, neg_E, negRow_E, sumT_E, sumRow_E, exp_E]; rfl
theorem l_qt : (lift w R).qt = E fun i => (one w R (i 0)).qt (i 1) (i 2) := by
  unfold In.qt; simp only [l_qh, l_expBlk, addf_E, subf_E, mulf_E, fill0, fill1, fillScale, spread_E, neg_E, negRow_E, sumT_E, sumRow_E]; rfl
theorem l_expNegBlk : (lift w R).expNegBlk = E fun i => (one w R (i 0)).expNegBlk (i 1) (i 2) := by
  unfold In.expNegBlk; simp only [l_cumBlk, addf_E, subf_E, mulf_E, fill0, fill1, fillScale, spread_E, neg_E, negRow_E, sumT_E, sumRow_E, exp_E]; rfl
theorem l_kt : (lift w R).kt = E fun i => (one w R (i 0)).kt (i 1) (i 2) := by
  unfold In.kt; simp only [l_key, l_expNegBlk, addf_E, subf_E, mulf_E, fill0, fill1, fillScale, spread_E, neg_E, negRow_E, sumT_E, sumRow_E]; rfl
theorem l_dec0 : (lift w R).dec0 = E fun i => (one w R (i 0)).dec0 (i 1) (i 2) := by
  unfold In.dec0; simp only [l_lead, addf_E, subf_E, mulf_E, fill0, fill1, fillScale, spread_E, neg_E, negRow_E, sumT_E, sumRow_E, exp_E]; rfl
theorem l_dec1 : (lift w R).dec1 = E fun i => (one w R (i 0)).decAt 1 15 (i 1) (i 2) := by
  unfold In.dec1 In.decAt; simp only [l_cum, l_lead, rowAt_15, fromBlock_1, exp_select_E, addf_E, subf_E, mulf_E, fill0, fill1, fillScale, spread_E, neg_E, negRow_E, sumT_E, sumRow_E]; rfl
theorem l_dec2 : (lift w R).dec2 = E fun i => (one w R (i 0)).decAt 2 31 (i 1) (i 2) := by
  unfold In.dec2 In.decAt; simp only [l_cum, l_lead, rowAt_31, fromBlock_2, exp_select_E, addf_E, subf_E, mulf_E, fill0, fill1, fillScale, spread_E, neg_E, negRow_E, sumT_E, sumRow_E]; rfl
theorem l_dec3 : (lift w R).dec3 = E fun i => (one w R (i 0)).decAt 3 47 (i 1) (i 2) := by
  unfold In.dec3 In.decAt; simp only [l_cum, l_lead, rowAt_47, fromBlock_3, exp_select_E, addf_E, subf_E, mulf_E, fill0, fill1, fillScale, spread_E, neg_E, negRow_E, sumT_E, sumRow_E]; rfl
theorem l_q0 : (lift w R).q0 = E fun i => (one w R (i 0)).q0 (i 1) (i 2) := by
  unfold In.q0; simp only [l_qt, l_dec0, addf_E, subf_E, mulf_E, fill0, fill1, fillScale, spread_E, neg_E, negRow_E, sumT_E, sumRow_E]; rfl
theorem l_q1 : (lift w R).q1 = E fun i => (one w R (i 0)).qAt 1 15 (i 1) (i 2) := by
  unfold In.q1; simp only [l_qt, l_dec1, addf_E, subf_E, mulf_E, fill0, fill1, fillScale, spread_E, neg_E, negRow_E, sumT_E, sumRow_E]; rfl
theorem l_q2 : (lift w R).q2 = E fun i => (one w R (i 0)).qAt 2 31 (i 1) (i 2) := by
  unfold In.q2; simp only [l_qt, l_dec2, addf_E, subf_E, mulf_E, fill0, fill1, fillScale, spread_E, neg_E, negRow_E, sumT_E, sumRow_E]; rfl
theorem l_q3 : (lift w R).q3 = E fun i => (one w R (i 0)).qAt 3 47 (i 1) (i 2) := by
  unfold In.q3; simp only [l_qt, l_dec3, addf_E, subf_E, mulf_E, fill0, fill1, fillScale, spread_E, neg_E, negRow_E, sumT_E, sumRow_E]; rfl
theorem l_ktAt_0 : (lift w R).ktAt 0#32 = E fun i => (one w R (i 0)).ktAt 0 (i 1) (i 2) := by
  unfold In.ktAt; simp only [l_kt, addf_E, subf_E, mulf_E, fill0, fill1, fillScale, spread_E, neg_E, negRow_E, sumT_E, sumRow_E, inBlock_0, keep_E]; rfl
theorem l_ktAt_1 : (lift w R).ktAt 1#32 = E fun i => (one w R (i 0)).ktAt 1 (i 1) (i 2) := by
  unfold In.ktAt; simp only [l_kt, addf_E, subf_E, mulf_E, fill0, fill1, fillScale, spread_E, neg_E, negRow_E, sumT_E, sumRow_E, inBlock_1, keep_E]; rfl
theorem l_ktAt_2 : (lift w R).ktAt 2#32 = E fun i => (one w R (i 0)).ktAt 2 (i 1) (i 2) := by
  unfold In.ktAt; simp only [l_kt, addf_E, subf_E, mulf_E, fill0, fill1, fillScale, spread_E, neg_E, negRow_E, sumT_E, sumRow_E, inBlock_2, keep_E]; rfl
theorem l_ktAt_3 : (lift w R).ktAt 3#32 = E fun i => (one w R (i 0)).ktAt 3 (i 1) (i 2) := by
  unfold In.ktAt; simp only [l_kt, addf_E, subf_E, mulf_E, fill0, fill1, fillScale, spread_E, neg_E, negRow_E, sumT_E, sumRow_E, inBlock_3, keep_E]; rfl
theorem l_scoresAll : (lift w R).scoresAll = E fun i => (one w R (i 0)).scoresAll (i 1) (i 2) := by
  unfold In.scoresAll; simp only [l_q0, l_q1, l_q2, l_q3, l_ktAt_0, l_ktAt_1, l_ktAt_2, l_ktAt_3, addf_E, subf_E, mulf_E, fill0, fill1, fillScale, spread_E, neg_E, negRow_E, sumT_E, sumRow_E, mulTT_E]; rfl
theorem l_scores : (lift w R).scores = E fun i => (one w R (i 0)).scores (i 1) (i 2) := by
  unfold In.scores; simp only [l_scoresAll, addf_E, subf_E, mulf_E, fill0, fill1, fillScale, spread_E, neg_E, negRow_E, sumT_E, sumRow_E, keepSq_E]; rfl
theorem l_oIn : (lift w R).oIn = E fun i => (one w R (i 0)).oIn (i 1) (i 2) := by
  unfold In.oIn; simp only [l_scores, l_v, addf_E, subf_E, mulf_E, fill0, fill1, fillScale, spread_E, neg_E, negRow_E, sumT_E, sumRow_E, mulSqT_E]; rfl
theorem l_expCum : (lift w R).expCum = E fun i => (one w R (i 0)).expCum (i 1) (i 2) := by
  unfold In.expCum; simp only [l_cum, addf_E, subf_E, mulf_E, fill0, fill1, fillScale, spread_E, neg_E, negRow_E, sumT_E, sumRow_E, exp_E]; rfl
theorem l_qg : (lift w R).qg = E fun i => (one w R (i 0)).qg (i 1) (i 2) := by
  unfold In.qg; simp only [l_qh, l_expCum, addf_E, subf_E, mulf_E, fill0, fill1, fillScale, spread_E, neg_E, negRow_E, sumT_E, sumRow_E]; rfl
theorem l_o : (lift w R).o = E fun i => (one w R (i 0)).o (i 1) (i 2) := by
  unfold In.o; simp only [l_oIn, l_qg, l_st, addf_E, subf_E, mulf_E, fill0, fill1, fillScale, spread_E, neg_E, negRow_E, sumT_E, sumRow_E, mulTStTr_E]; rfl
theorem l_last : (lift w R).last = E fun i => (one w R (i 0)).last (i 2) := by
  unfold In.last; simp only [l_cum, addf_E, subf_E, mulf_E, fill0, fill1, fillScale, spread_E, neg_E, negRow_E, sumT_E, sumRow_E, rowAt_63]; rfl
theorem l_expLast : (lift w R).expLast = E fun i => (one w R (i 0)).expLast (i 2) := by
  unfold In.expLast; simp only [l_last, addf_E, subf_E, mulf_E, fill0, fill1, fillScale, spread_E, neg_E, negRow_E, sumT_E, sumRow_E, exp_E]; rfl
theorem l_decay : (lift w R).decay = E fun i => (one w R (i 0)).decay (i 1) (i 2) := by
  unfold In.decay; simp only [l_last, l_cum, addf_E, subf_E, mulf_E, fill0, fill1, fillScale, spread_E, neg_E, negRow_E, sumT_E, sumRow_E, exp_E]; rfl
theorem l_kg : (lift w R).kg = E fun i => (one w R (i 0)).kg (i 1) (i 2) := by
  unfold In.kg; simp only [l_key, l_decay, addf_E, subf_E, mulf_E, fill0, fill1, fillScale, spread_E, neg_E, negRow_E, sumT_E, sumRow_E]; rfl
theorem l_sq : (lift w R).sq = E fun i => (one w R (i 0)).sq (i 1) (i 2) := by
  unfold In.sq; simp only [l_o, addf_E, subf_E, mulf_E, fill0, fill1, fillScale, spread_E, neg_E, negRow_E, sumT_E, sumRow_E]; rfl
theorem l_msEps : (lift w R).msEps = E fun i => (one w R (i 0)).msEps (i 1) := by
  unfold In.msEps; simp only [l_sq, addf_E, subf_E, mulf_E, fill0, fill1, fillScale, spread_E, neg_E, negRow_E, sumT_E, sumRow_E, sumK_E, fillWidth, fillEps, divf_E _ _ (fun i : S16x64x1.Idx => (by norm_num : (128:ℝ) ≠ 0))]; rfl
theorem l_root : (lift w R).root = E fun i => (one w R (i 0)).root (i 1) := by
  unfold In.root; simp only [l_msEps, addf_E, subf_E, mulf_E, fill0, fill1, fillScale, spread_E, neg_E, negRow_E, sumT_E, sumRow_E, rsqrt_E _ (fun i : S16x64x1.Idx => (one w R (i 0)).msEps_pos (i 1))]; rfl
theorem l_rootQ : (lift w R).rootQ = E fun i => (one w R (i 0)).rootQ (i 1) := by
  unfold In.rootQ; simp only [l_root, l_msEps, addf_E, subf_E, mulf_E, fill0, fill1, fillScale, spread_E, neg_E, negRow_E, sumT_E, sumRow_E, divf_E _ _ (fun i : S16x64x1.Idx => ((one w R (i 0)).msEps_pos (i 1)).ne')]; rfl
theorem l_rootD : (lift w R).rootD = E fun i => (one w R (i 0)).rootD (i 1) := by
  unfold In.rootD; simp only [l_rootQ, addf_E, subf_E, mulf_E, fill0, fill1, fillScale, spread_E, neg_E, negRow_E, sumT_E, sumRow_E, fillNegHalf]; rfl
theorem l_oNorm : (lift w R).oNorm = E fun i => (one w R (i 0)).oNorm (i 1) (i 2) := by
  unfold In.oNorm; simp only [l_o, l_root, addf_E, subf_E, mulf_E, fill0, fill1, fillScale, spread_E, neg_E, negRow_E, sumT_E, sumRow_E, spreadCol_E]; rfl
theorem l_weight : (lift w R).weight = E fun i => (one w R (i 0)).w (i 2) := by
  unfold In.weight; simp only [l_nw, cast_S1x128_S1x1x128_E, bc_S1x1x128_S16x64x128_E]; rfl
theorem l_oW : (lift w R).oW = E fun i => (one w R (i 0)).oW (i 1) (i 2) := by
  unfold In.oW; simp only [l_oNorm, l_weight, addf_E, subf_E, mulf_E, fill0, fill1, fillScale, spread_E, neg_E, negRow_E, sumT_E, sumRow_E]; rfl
theorem l_sigG : (lift w R).sigG = E fun i => (one w R (i 0)).sigG (i 1) (i 2) := by
  unfold In.sigG; simp only [l_g, addf_E, subf_E, mulf_E, fill0, fill1, fillScale, spread_E, neg_E, negRow_E, sumT_E, sumRow_E, logistic_E]; rfl
theorem l_dSigG : (lift w R).dSigG = E fun i => (one w R (i 0)).dSigG (i 1) (i 2) := by
  unfold In.dSigG; simp only [l_sigG, addf_E, subf_E, mulf_E, fill0, fill1, fillScale, spread_E, neg_E, negRow_E, sumT_E, sumRow_E]; rfl
theorem l_siluG : (lift w R).siluG = E fun i => (one w R (i 0)).siluG (i 1) (i 2) := by
  unfold In.siluG; simp only [l_g, l_sigG, addf_E, subf_E, mulf_E, fill0, fill1, fillScale, spread_E, neg_E, negRow_E, sumT_E, sumRow_E]; rfl
theorem l_dSilu : (lift w R).dSilu = E fun i => (one w R (i 0)).dSilu (i 1) (i 2) := by
  unfold In.dSilu; simp only [l_oW, l_dy, addf_E, subf_E, mulf_E, fill0, fill1, fillScale, spread_E, neg_E, negRow_E, sumT_E, sumRow_E]; rfl
theorem l_dOW : (lift w R).dOW = E fun i => (one w R (i 0)).dOW (i 1) (i 2) := by
  unfold In.dOW; simp only [l_dy, l_siluG, addf_E, subf_E, mulf_E, fill0, fill1, fillScale, spread_E, neg_E, negRow_E, sumT_E, sumRow_E]; rfl
theorem l_dG : (lift w R).dG = E fun i => (one w R (i 0)).dG (i 1) (i 2) := by
  unfold In.dG; simp only [l_dSilu, l_sigG, l_g, l_dSigG, addf_E, subf_E, mulf_E, fill0, fill1, fillScale, spread_E, neg_E, negRow_E, sumT_E, sumRow_E]; rfl
theorem l_dNwRaw : (lift w R).dNwRaw = E fun i => ∑ h : Fin 16, ∑ t : Fin 64, (one w R h).oNorm t (i 0) * (one w R h).dOW t (i 0) := by
  unfold In.dNwRaw; rw [l_oNorm, l_dOW, mulf_E]
  exact sum_S16x64x128_E reduces_S16x64x128_S128 (.inl rfl) rfl _
theorem l_dNw : (lift w R).dNw = E fun i => ∑ h : Fin 16, (one w R h).dNw (i 1) := by
  unfold In.dNw; rw [l_dNwRaw, cast_S128_S1x1x128_E]
  refine (congrArg (fun y => shapeCast S1x128 y shapeCasts_S128_S1x128) (sum_S1x1x128_E reduces_S1x1x128_S128 (.inl rfl) rfl _)).trans ?_
  rw [cast_S128_S1x128_E]; rfl
theorem l_dNorm : (lift w R).dNorm = E fun i => (one w R (i 0)).dNorm (i 1) (i 2) := by
  unfold In.dNorm; simp only [l_dOW, l_weight, addf_E, subf_E, mulf_E, fill0, fill1, fillScale, spread_E, neg_E, negRow_E, sumT_E, sumRow_E]; rfl
theorem l_dON : (lift w R).dON = E fun i => (one w R (i 0)).dON (i 1) (i 2) := by
  unfold In.dON; simp only [l_dNorm, l_root, addf_E, subf_E, mulf_E, fill0, fill1, fillScale, spread_E, neg_E, negRow_E, sumT_E, sumRow_E, spreadCol_E]; rfl
theorem l_dRoot : (lift w R).dRoot = E fun i => (one w R (i 0)).dRoot (i 1) := by
  unfold In.dRoot; simp only [l_o, l_dNorm, l_rootD, addf_E, subf_E, mulf_E, fill0, fill1, fillScale, spread_E, neg_E, negRow_E, sumT_E, sumRow_E, sumK_E, fillWidth, divf_E _ _ (fun i : S16x64x1.Idx => (by norm_num : (128:ℝ) ≠ 0))]; rfl
theorem l_dRootT : (lift w R).dRootT = E fun i => (one w R (i 0)).dRoot (i 1) := by
  unfold In.dRootT; simp only [l_dRoot, addf_E, subf_E, mulf_E, fill0, fill1, fillScale, spread_E, neg_E, negRow_E, sumT_E, sumRow_E, sumCol_E, spreadCol_E]
theorem l_dO : (lift w R).dO = E fun i => (one w R (i 0)).dO (i 1) (i 2) := by
  unfold In.dO; simp only [l_dON, l_o, l_dRootT, addf_E, subf_E, mulf_E, fill0, fill1, fillScale, spread_E, neg_E, negRow_E, sumT_E, sumRow_E]; rfl
theorem l_dKg1 : (lift w R).dKg1 = E fun i => (one w R (i 0)).dKg1 (i 1) (i 2) := by
  unfold In.dKg1; simp only [l_kg, l_dst, addf_E, subf_E, mulf_E, fill0, fill1, fillScale, spread_E, neg_E, negRow_E, sumT_E, sumRow_E, mulTStTr_E]; rfl
theorem l_dKg : (lift w R).dKg = E fun i => (one w R (i 0)).dKg (i 1) (i 2) := by
  unfold In.dKg; simp only [l_v, l_dst, addf_E, subf_E, mulf_E, fill0, fill1, fillScale, spread_E, neg_E, negRow_E, sumT_E, sumRow_E, mulTSt_E]; rfl
theorem l_dKeyIn : (lift w R).dKeyIn = E fun i => (one w R (i 0)).dKeyIn (i 1) (i 2) := by
  unfold In.dKeyIn; simp only [l_dKg, l_decay, addf_E, subf_E, mulf_E, fill0, fill1, fillScale, spread_E, neg_E, negRow_E, sumT_E, sumRow_E]; rfl
theorem l_dDec : (lift w R).dDec = E fun i => (one w R (i 0)).dDec (i 1) (i 2) := by
  unfold In.dDec; simp only [l_key, l_dKg, l_decay, addf_E, subf_E, mulf_E, fill0, fill1, fillScale, spread_E, neg_E, negRow_E, sumT_E, sumRow_E]; rfl
theorem l_stDst : (lift w R).stDst = E fun i => (one w R (i 0)).stDst (i 2) := by
  unfold In.stDst; simp only [l_st, l_dst, addf_E, subf_E, mulf_E, fill0, fill1, fillScale, spread_E, neg_E, negRow_E, sumT_E, sumRow_E, sumSt_E]; rfl
theorem l_dstDec : (lift w R).dstDec = E fun i => (one w R (i 0)).dstDec (i 1) (i 2) := by
  unfold In.dstDec; simp only [l_dst, l_expLast, addf_E, subf_E, mulf_E, fill0, fill1, fillScale, spread_E, neg_E, negRow_E, sumT_E, sumRow_E, bc_S16x1x128_S16x128x128_E]; rfl
theorem l_dLast : (lift w R).dLast = E fun i => (one w R (i 0)).dLast (i 2) := by
  unfold In.dLast; simp only [l_dDec, l_stDst, l_expLast, addf_E, subf_E, mulf_E, fill0, fill1, fillScale, spread_E, neg_E, negRow_E, sumT_E, sumRow_E]; rfl
theorem l_dCumEnd : (lift w R).dCumEnd = E fun i => (one w R (i 0)).dCumEnd (i 1) (i 2) := by
  unfold In.dCumEnd; simp only [l_dDec, l_dLast, addf_E, subf_E, mulf_E, fill0, fill1, fillScale, spread_E, neg_E, negRow_E, sumT_E, sumRow_E, atRow_63]; rfl
theorem l_dQg : (lift w R).dQg = E fun i => (one w R (i 0)).dQg (i 1) (i 2) := by
  unfold In.dQg; simp only [l_dO, l_st, addf_E, subf_E, mulf_E, fill0, fill1, fillScale, spread_E, neg_E, negRow_E, sumT_E, sumRow_E, mulTSt_E]; rfl
theorem l_dstNew : (lift w R).dstNew = E fun i => (one w R (i 0)).dstNew (i 1) (i 2) := by
  unfold In.dstNew; simp only [l_dstDec, l_dO, l_qg, addf_E, subf_E, mulf_E, fill0, fill1, fillScale, spread_E, neg_E, negRow_E, sumT_E, sumRow_E, mulTrTT_E]; rfl
theorem l_dQhIn : (lift w R).dQhIn = E fun i => (one w R (i 0)).dQhIn (i 1) (i 2) := by
  unfold In.dQhIn; simp only [l_dQg, l_expCum, addf_E, subf_E, mulf_E, fill0, fill1, fillScale, spread_E, neg_E, negRow_E, sumT_E, sumRow_E]; rfl
theorem l_dCumQ : (lift w R).dCumQ = E fun i => (one w R (i 0)).dCumQ (i 1) (i 2) := by
  unfold In.dCumQ; simp only [l_qh, l_dQg, l_expCum, addf_E, subf_E, mulf_E, fill0, fill1, fillScale, spread_E, neg_E, negRow_E, sumT_E, sumRow_E]; rfl
theorem l_dV : (lift w R).dV = E fun i => (one w R (i 0)).dV (i 1) (i 2) := by
  unfold In.dV; simp only [l_dKg1, l_scores, l_dO, addf_E, subf_E, mulf_E, fill0, fill1, fillScale, spread_E, neg_E, negRow_E, sumT_E, sumRow_E, mulTrT_E]; rfl
theorem l_dScores : (lift w R).dScores = E fun i => (one w R (i 0)).dScores (i 1) (i 2) := by
  unfold In.dScores; simp only [l_dO, l_v, addf_E, subf_E, mulf_E, fill0, fill1, fillScale, spread_E, neg_E, negRow_E, sumT_E, sumRow_E, mulTT_E, keepSq_E]; rfl
theorem l_dqAt_0 : (lift w R).dqAt 0#32 = E fun i => (one w R (i 0)).dqAt 0 (i 1) (i 2) := by
  unfold In.dqAt; simp only [l_dScores, l_ktAt_0, addf_E, subf_E, mulf_E, fill0, fill1, fillScale, spread_E, neg_E, negRow_E, sumT_E, sumRow_E, mulSqT_E]; rfl
theorem l_dqAt_1 : (lift w R).dqAt 1#32 = E fun i => (one w R (i 0)).dqAt 1 (i 1) (i 2) := by
  unfold In.dqAt; simp only [l_dScores, l_ktAt_1, addf_E, subf_E, mulf_E, fill0, fill1, fillScale, spread_E, neg_E, negRow_E, sumT_E, sumRow_E, mulSqT_E]; rfl
theorem l_dqAt_2 : (lift w R).dqAt 2#32 = E fun i => (one w R (i 0)).dqAt 2 (i 1) (i 2) := by
  unfold In.dqAt; simp only [l_dScores, l_ktAt_2, addf_E, subf_E, mulf_E, fill0, fill1, fillScale, spread_E, neg_E, negRow_E, sumT_E, sumRow_E, mulSqT_E]; rfl
theorem l_dqAt_3 : (lift w R).dqAt 3#32 = E fun i => (one w R (i 0)).dqAt 3 (i 1) (i 2) := by
  unfold In.dqAt; simp only [l_dScores, l_ktAt_3, addf_E, subf_E, mulf_E, fill0, fill1, fillScale, spread_E, neg_E, negRow_E, sumT_E, sumRow_E, mulSqT_E]; rfl
theorem l_dkAt_0 : (lift w R).dkAt 0#32 (lift w R).q0 = E fun i => (one w R (i 0)).dkAt 0 (one w R (i 0)).q0 (i 1) (i 2) := by
  unfold In.dkAt; simp only [l_dScores, l_q0, mulTrT_E, inBlock_0, keep_E]; rfl
theorem l_dkAt_1 : (lift w R).dkAt 1#32 (lift w R).q1 = E fun i => (one w R (i 0)).dkAt 1 ((one w R (i 0)).qAt 1 15) (i 1) (i 2) := by
  unfold In.dkAt; simp only [l_dScores, l_q1, mulTrT_E, inBlock_1, keep_E]; rfl
theorem l_dkAt_2 : (lift w R).dkAt 2#32 (lift w R).q2 = E fun i => (one w R (i 0)).dkAt 2 ((one w R (i 0)).qAt 2 31) (i 1) (i 2) := by
  unfold In.dkAt; simp only [l_dScores, l_q2, mulTrT_E, inBlock_2, keep_E]; rfl
theorem l_dkAt_3 : (lift w R).dkAt 3#32 (lift w R).q3 = E fun i => (one w R (i 0)).dkAt 3 ((one w R (i 0)).qAt 3 47) (i 1) (i 2) := by
  unfold In.dkAt; simp only [l_dScores, l_q3, mulTrT_E, inBlock_3, keep_E]; rfl
theorem l_dLeadAt_1 : (lift w R).dLeadAt 1#32 (lift w R).dec1 = E fun i => (one w R (i 0)).dLeadAt 1 15 (i 1) (i 2) := by
  unfold In.dLeadAt; simp only [l_qt, l_dqAt_1, l_dec1, mulf_E, fromBlock_1, keep_E]; rfl
theorem l_dLeadAt_2 : (lift w R).dLeadAt 2#32 (lift w R).dec2 = E fun i => (one w R (i 0)).dLeadAt 2 31 (i 1) (i 2) := by
  unfold In.dLeadAt; simp only [l_qt, l_dqAt_2, l_dec2, mulf_E, fromBlock_2, keep_E]; rfl
theorem l_dLeadAt_3 : (lift w R).dLeadAt 3#32 (lift w R).dec3 = E fun i => (one w R (i 0)).dLeadAt 3 47 (i 1) (i 2) := by
  unfold In.dLeadAt; simp only [l_qt, l_dqAt_3, l_dec3, mulf_E, fromBlock_3, keep_E]; rfl
theorem l_dKt : (lift w R).dKt = E fun i => (one w R (i 0)).dKt (i 1) (i 2) := by
  unfold In.dKt; simp only [l_dkAt_0, l_dkAt_1, l_dkAt_2, l_dkAt_3, addf_E, subf_E, mulf_E, fill0, fill1, fillScale, spread_E, neg_E, negRow_E, sumT_E, sumRow_E]; rfl
theorem l_dQt : (lift w R).dQt = E fun i => (one w R (i 0)).dQt (i 1) (i 2) := by
  unfold In.dQt; simp only [l_dqAt_0, l_dqAt_1, l_dqAt_2, l_dqAt_3, l_dec0, l_dec1, l_dec2, l_dec3, addf_E, subf_E, mulf_E, fill0, fill1, fillScale, spread_E, neg_E, negRow_E, sumT_E, sumRow_E]; rfl
theorem l_dLead0 : (lift w R).dLead0 = E fun i => (one w R (i 0)).dLead0 (i 1) (i 2) := by
  unfold In.dLead0; simp only [l_qt, l_dqAt_0, l_dec0, addf_E, subf_E, mulf_E, fill0, fill1, fillScale, spread_E, neg_E, negRow_E, sumT_E, sumRow_E]; rfl
theorem l_dLead : (lift w R).dLead = E fun i => (one w R (i 0)).dLead (i 1) (i 2) := by
  unfold In.dLead; simp only [l_dLeadAt_1, l_dLeadAt_2, l_dLeadAt_3, l_dLead0, addf_E, subf_E, mulf_E, fill0, fill1, fillScale, spread_E, neg_E, negRow_E, sumT_E, sumRow_E]; rfl
theorem l_dLeadRow_1 : (lift w R).dLeadRow 15#32 1#32 (lift w R).dec1 = E fun i => (one w R (i 0)).dLeadRow 15 1 (i 1) (i 2) := by
  unfold In.dLeadRow; simp only [l_dLeadAt_1, neg_E, sumT_E, sumRow_E, atRow_15]; rfl
theorem l_dLeadRow_2 : (lift w R).dLeadRow 31#32 2#32 (lift w R).dec2 = E fun i => (one w R (i 0)).dLeadRow 31 2 (i 1) (i 2) := by
  unfold In.dLeadRow; simp only [l_dLeadAt_2, neg_E, sumT_E, sumRow_E, atRow_31]; rfl
theorem l_dLeadRow_3 : (lift w R).dLeadRow 47#32 3#32 (lift w R).dec3 = E fun i => (one w R (i 0)).dLeadRow 47 3 (i 1) (i 2) := by
  unfold In.dLeadRow; simp only [l_dLeadAt_3, neg_E, sumT_E, sumRow_E, atRow_47]; rfl
theorem l_dKey : (lift w R).dKey = E fun i => (one w R (i 0)).dKey (i 1) (i 2) := by
  unfold In.dKey; simp only [l_dKeyIn, l_dKt, l_expNegBlk, addf_E, subf_E, mulf_E, fill0, fill1, fillScale, spread_E, neg_E, negRow_E, sumT_E, sumRow_E]; rfl
theorem l_dQh : (lift w R).dQh = E fun i => (one w R (i 0)).dQh (i 1) (i 2) := by
  unfold In.dQh; simp only [l_dQhIn, l_dQt, l_expBlk, addf_E, subf_E, mulf_E, fill0, fill1, fillScale, spread_E, neg_E, negRow_E, sumT_E, sumRow_E]; rfl
theorem l_dBlkK : (lift w R).dBlkK = E fun i => (one w R (i 0)).dBlkK (i 1) (i 2) := by
  unfold In.dBlkK; simp only [l_key, l_dKt, l_expNegBlk, l_qh, l_dQt, l_expBlk, addf_E, subf_E, mulf_E, fill0, fill1, fillScale, spread_E, neg_E, negRow_E, sumT_E, sumRow_E]; rfl
theorem l_dCum : (lift w R).dCum = E fun i => (one w R (i 0)).dCum (i 1) (i 2) := by
  unfold In.dCum; simp only [l_dCumEnd, l_dCumQ, l_dLeadRow_1, l_dLeadRow_2, l_dLeadRow_3, l_dLead, addf_E, subf_E, mulf_E, fill0, fill1, fillScale, spread_E, neg_E, negRow_E, sumT_E, sumRow_E]; rfl
theorem l_dCumBlk : (lift w R).dCumBlk = E fun i => (one w R (i 0)).dCumBlk (i 1) (i 2) := by
  unfold In.dCumBlk; simp only [l_dBlkK, l_dLead, addf_E, subf_E, mulf_E, fill0, fill1, fillScale, spread_E, neg_E, negRow_E, sumT_E, sumRow_E]; rfl
theorem l_dLogF : (lift w R).dLogF = E fun i => (one w R (i 0)).dLogF (i 1) (i 2) := by
  unfold In.dLogF; simp only [l_dCumBlk, l_dCum, addf_E, subf_E, mulf_E, fill0, fill1, fillScale, spread_E, neg_E, negRow_E, sumT_E, sumRow_E, triangle_lower, triangle_lowerBlock, mulTrT3_E]; rfl
theorem l_dQs : (lift w R).dQs = E fun i => (one w R (i 0)).dQs (i 1) (i 2) := by
  unfold In.dQs; simp only [l_dQh, addf_E, subf_E, mulf_E, fill0, fill1, fillScale, spread_E, neg_E, negRow_E, sumT_E, sumRow_E]; rfl
theorem l_dQ : (lift w R).dQ = E fun i => (one w R (i 0)).dQ (i 1) (i 2) := by
  unfold In.dQ; simp only [l_dQs, l_sigQ, l_q, l_dSigQ, addf_E, subf_E, mulf_E, fill0, fill1, fillScale, spread_E, neg_E, negRow_E, sumT_E, sumRow_E]; rfl
theorem l_dForget : (lift w R).dForget = E fun i => (one w R (i 0)).dForget (i 1) (i 2) := by
  unfold In.dForget; simp only [l_dLogF, l_forget, l_dKey, addf_E, subf_E, mulf_E, fill0, fill1, fillScale, spread_E, neg_E, negRow_E, sumT_E, sumRow_E, divf_E _ _ (fun i : S16x64x128.Idx => ((one w R (i 0)).forget_pos (i 1) (i 2)).ne')]; rfl
theorem l_dF : (lift w R).dF = E fun i => (one w R (i 0)).dF (i 1) (i 2) := by
  unfold In.dF; simp only [l_rest, l_dForget, l_dSigF, addf_E, subf_E, mulf_E, fill0, fill1, fillScale, spread_E, neg_E, negRow_E, sumT_E, sumRow_E]; rfl
theorem l_dLb : (lift w R).dLb = E fun i => (one w R (i 0)).dLb (i 2) := by
  unfold In.dLb; simp only [l_dForget, l_sigF, addf_E, subf_E, mulf_E, fill0, fill1, fillScale, spread_E, neg_E, negRow_E, sumT_E, sumRow_E]; rfl
theorem l_dSum : (lift w R).dSum = E fun i => (one w R (i 0)).dSum (i 2) := by
  unfold In.dSum; simp only [l_dLb, l_invSq, l_e0, addf_E, subf_E, mulf_E, fill0, fill1, fillScale, spread_E, neg_E, negRow_E, sumT_E, sumRow_E]; rfl
theorem l_dE0 : (lift w R).dE0 = E fun i => (one w R (i 0)).dE0 (i 2) := by
  unfold In.dE0; simp only [l_dLb, l_eSum, l_dSum, l_e0, addf_E, subf_E, mulf_E, fill0, fill1, fillScale, spread_E, neg_E, negRow_E, sumT_E, sumRow_E, divf_E _ _ (fun i : S16x1x128.Idx => ((one w R (i 0)).eSum_pos (i 2)).ne')]; rfl
theorem l_dE1 : (lift w R).dE1 = E fun i => (one w R (i 0)).dE1 (i 2) := by
  unfold In.dE1; simp only [l_dSum, l_e1, addf_E, subf_E, mulf_E, fill0, fill1, fillScale, spread_E, neg_E, negRow_E, sumT_E, sumRow_E]; rfl
theorem l_dMax : (lift w R).dMax = E fun i => (one w R (i 0)).dMax (i 2) := by
  unfold In.dMax; simp only [l_dE0, l_dE1, addf_E, subf_E, mulf_E, fill0, fill1, fillScale, spread_E, neg_E, negRow_E, sumT_E, sumRow_E]; rfl
theorem l_dT1 : (lift w R).dT1 = E fun i => (one w R (i 0)).dT1 (i 2) := by
  unfold In.dT1; simp only [l_dE1, l_dMax, l_w1, addf_E, subf_E, mulf_E, fill0, fill1, fillScale, spread_E, neg_E, negRow_E, sumT_E, sumRow_E]; rfl
theorem l_dT0 : (lift w R).dT0 = E fun i => (one w R (i 0)).dT0 (i 2) := by
  unfold In.dT0; simp only [l_dE0, l_dMax, l_w0, addf_E, subf_E, mulf_E, fill0, fill1, fillScale, spread_E, neg_E, negRow_E, sumT_E, sumRow_E]; rfl

end In

end Cert.Proof
-- ==== Proof.ChunkMath.lean ====
/- The backward pass of one chunk without its blocks of sixteen tokens: the decays between two tokens of the chunk
   instead of the factors the kernel multiplies. -/
module

public import proofs.«01_k».proof.Proof.Real

@[expose] public section

noncomputable section

namespace Cert.Proof

open Finset
open scoped BigOperators

namespace RH

variable (R : RH)

/-! ## Sums the kernel writes with masks -/

/-- The decay rates of the blocks before block `b`. -/
def before (b : ℕ) (k : Fin 128) : ℝ := ∑ s : Fin 64, if s.val / 16 < b then R.logF s k else 0

theorem lead_eq (t : Fin 64) (k : Fin 128) : R.lead t k = R.before (t.val / 16) k := by
  unfold lead cum cumBlk before
  rw [← sum_sub_distrib]
  refine sum_congr rfl fun s _ => ?_
  unfold tri triB
  by_cases h1 : s.val / 16 < t.val / 16
  · rw [if_pos (by omega), if_neg (by omega), if_pos h1]; ring
  · by_cases h2 : s.val ≤ t.val
    · rw [if_pos h2, if_pos ⟨h2, by omega⟩, if_neg h1]; ring
    · rw [if_neg h2, if_neg (by omega), if_neg h1]; ring

theorem row_eq (r : ℕ) (hr : r < 64) (x : Fin 64 → Fin 128 → ℝ) (k : Fin 128) : row r x k = x ⟨r, hr⟩ k := by
  unfold row
  rw [sum_eq_single (⟨r, hr⟩ : Fin 64) (fun t _ h => if_neg fun e => h (Fin.ext e)) fun h => absurd (mem_univ _) h]
  exact if_pos rfl

theorem row_before (b : ℕ) (hb : 0 < b) (hb' : b < 4) (k : Fin 128) : row (16 * b - 1) R.cum k = R.before b k := by
  rw [row_eq (16 * b - 1) (by omega)]
  unfold cum before
  refine sum_congr rfl fun s _ => ?_
  unfold tri
  by_cases h : s.val / 16 < b
  · rw [if_pos (by show s.val ≤ 16 * b - 1; omega), if_pos h, one_mul]
  · rw [if_neg (by show ¬ s.val ≤ 16 * b - 1; omega), if_neg h, zero_mul]

theorem before_zero (k : Fin 128) : R.before 0 k = 0 := sum_eq_zero fun s _ => if_neg (by omega)

/-- The factor that takes block `b`'s reference point to token `t`. -/
def hop (b : ℕ) (t : Fin 64) (k : Fin 128) : ℝ := if b ≤ t.val / 16 then Real.exp (R.lead t k - R.before b k) else 0

theorem dec0_eq (t : Fin 64) (k : Fin 128) : R.dec0 t k = R.hop 0 t k := by
  unfold dec0 hop; rw [if_pos (Nat.zero_le _), before_zero, sub_zero]

theorem decAt_eq (b : ℕ) (hb : 0 < b) (hb' : b < 4) (t : Fin 64) (k : Fin 128) : R.decAt b (16 * b - 1) t k = R.hop b t k := by
  unfold decAt hop; rw [row_before R b hb hb']

/-- The decay from token `s` to token `t`. -/
def rel (t s : Fin 64) (k : Fin 128) : ℝ := Real.exp (R.cum t k - R.cum s k)

theorem hop_rel (t s : Fin 64) (k : Fin 128) (h : s.val ≤ t.val) :
    R.expBlk t k * R.hop (s.val / 16) t k * R.expNegBlk s k = R.rel t s k := by
  unfold hop expBlk expNegBlk rel
  rw [if_pos (by omega), ← Real.exp_add, ← Real.exp_add]
  refine congrArg Real.exp ?_
  have ht : R.lead t k = R.cum t k - R.cumBlk t k := rfl
  have hs : R.cum s k - R.cumBlk s k = R.before (s.val / 16) k := R.lead_eq s k
  rw [ht, ← hs]; ring

/-- The queries of block `b`. -/
def qB (b : ℕ) (t : Fin 64) (k : Fin 128) : ℝ := R.qt t k * R.hop b t k

theorem q0_eq : R.q0 = R.qB 0 := by funext t k; unfold q0 qB; rw [dec0_eq]
theorem q1_eq : R.qAt 1 15 = R.qB 1 := by funext t k; unfold qAt qB; rw [← decAt_eq R 1 (by omega) (by omega)]
theorem q2_eq : R.qAt 2 31 = R.qB 2 := by funext t k; unfold qAt qB; rw [← decAt_eq R 2 (by omega) (by omega)]
theorem q3_eq : R.qAt 3 47 = R.qB 3 := by funext t k; unfold qAt qB; rw [← decAt_eq R 3 (by omega) (by omega)]

/-- Of four terms of which only one is there. -/
theorem pick (s : Fin 64) (F : ℕ → ℝ) :
    (if s.val / 16 = 0 then F 0 else 0) + (if s.val / 16 = 1 then F 1 else 0) + (if s.val / 16 = 2 then F 2 else 0)
      + (if s.val / 16 = 3 then F 3 else 0) = F (s.val / 16) := by
  have : s.val / 16 = 0 ∨ s.val / 16 = 1 ∨ s.val / 16 = 2 ∨ s.val / 16 = 3 := by omega
  rcases this with h | h | h | h <;> rw [h] <;> simp

theorem term_eq (b : ℕ) (t s : Fin 64) :
    (∑ k, R.qB b t k * R.ktAt b s k) = if s.val / 16 = b then ∑ k, R.qB b t k * R.kt s k else 0 := by
  unfold ktAt
  by_cases h : s.val / 16 = b
  · simp only [if_pos h]
  · simp only [if_neg h, mul_zero, sum_const_zero]

theorem scores_eq (t s : Fin 64) :
    R.scores t s = if s.val ≤ t.val then ∑ k, R.qh t k * R.key s k * R.rel t s k else 0 := by
  unfold scores
  by_cases h : s.val ≤ t.val
  · rw [if_pos h, if_pos h]
    unfold scoresAll
    rw [q0_eq, q1_eq, q2_eq, q3_eq, term_eq, term_eq, term_eq, term_eq, zero_add, pick s fun b => ∑ k, R.qB b t k * R.kt s k]
    refine sum_congr rfl fun k _ => ?_
    rw [← hop_rel R t s k h]
    unfold qB qt kt; ring
  · rw [if_neg h, if_neg h]

theorem dqAt_eq (b : ℕ) (t : Fin 64) (k : Fin 128) :
    R.dqAt b t k = ∑ s : Fin 64, if s.val / 16 = b then R.dScores t s * R.kt s k else 0 := by
  unfold dqAt ktAt
  refine sum_congr rfl fun s _ => ?_
  by_cases h : s.val / 16 = b
  · rw [if_pos h, if_pos h]
  · rw [if_neg h, if_neg h, mul_zero]

/-- What a token's query gets from the keys of the chunk. -/
def inQ (t : Fin 64) (k : Fin 128) : ℝ := ∑ s, R.dScores t s * (R.key s k * R.rel t s k)
/-- What a token's key gets from the queries of the chunk. -/
def inK (s : Fin 64) (k : Fin 128) : ℝ := ∑ t, R.dScores t s * (R.qh t k * R.rel t s k)

theorem dScores_zero (t s : Fin 64) (h : ¬ s.val ≤ t.val) : R.dScores t s = 0 := if_neg h

theorem term_rel (t s : Fin 64) (k : Fin 128) :
    R.dScores t s * R.kt s k * R.hop (s.val / 16) t k * R.expBlk t k = R.dScores t s * (R.key s k * R.rel t s k) := by
  by_cases h : s.val ≤ t.val
  · rw [← hop_rel R t s k h]; unfold kt; ring
  · rw [dScores_zero R t s h]; ring

theorem dQt_sum (t : Fin 64) (k : Fin 128) :
    R.dQt t k = ∑ s : Fin 64, R.dScores t s * R.kt s k * R.hop (s.val / 16) t k := by
  unfold dQt
  rw [show R.decAt 3 47 t k = R.hop 3 t k from decAt_eq R 3 (by omega) (by omega) t k,
    show R.decAt 2 31 t k = R.hop 2 t k from decAt_eq R 2 (by omega) (by omega) t k,
    show R.decAt 1 15 t k = R.hop 1 t k from decAt_eq R 1 (by omega) (by omega) t k, dec0_eq,
    dqAt_eq, dqAt_eq, dqAt_eq, dqAt_eq, sum_mul, sum_mul, sum_mul, sum_mul, ← sum_add_distrib, ← sum_add_distrib, ← sum_add_distrib]
  refine sum_congr rfl fun s _ => ?_
  rw [← pick s fun b => R.dScores t s * R.kt s k * R.hop b t k]
  simp only [ite_mul, zero_mul]; ring

theorem dQt_eq (t : Fin 64) (k : Fin 128) : R.dQt t k * R.expBlk t k = R.inQ t k := by
  rw [dQt_sum, sum_mul]
  exact sum_congr rfl fun s _ => term_rel R t s k

theorem dKt_sum (s : Fin 64) (k : Fin 128) : R.dKt s k = ∑ t, R.dScores t s * R.qB (s.val / 16) t k := by
  unfold dKt dkAt
  rw [q0_eq, q1_eq, q2_eq, q3_eq, ← pick s fun b => ∑ t, R.dScores t s * R.qB b t k]
  ring

theorem dKt_eq (s : Fin 64) (k : Fin 128) : R.dKt s k * R.expNegBlk s k = R.inK s k := by
  rw [dKt_sum, sum_mul]
  refine sum_congr rfl fun t _ => ?_
  by_cases h : s.val ≤ t.val
  · rw [← hop_rel R t s k h]; unfold qB qt; ring
  · rw [dScores_zero R t s h]; ring

theorem dQh_eq (t : Fin 64) (k : Fin 128) : R.dQh t k = R.dQg t k * R.expCum t k + R.inQ t k := by
  unfold dQh; rw [dQt_eq]; rfl

theorem dKey_eq (s : Fin 64) (k : Fin 128) : R.dKey s k = R.dKg s k * R.decay s k + R.inK s k := by
  unfold dKey; rw [dKt_eq]; rfl

theorem dLeadAt_eq (b r : ℕ) (t : Fin 64) (k : Fin 128) (h : R.decAt b r t k = R.hop b t k) :
    R.dLeadAt b r t k = R.qt t k * R.dqAt b t k * R.hop b t k := by
  unfold dLeadAt
  rw [h]
  by_cases c : b ≤ t.val / 16
  · rw [if_pos c]
  · rw [if_neg c]; unfold hop; rw [if_neg c, mul_zero]

theorem dLead_eq (t : Fin 64) (k : Fin 128) : R.dLead t k = R.qh t k * R.inQ t k := by
  unfold dLead dLead0
  rw [dLeadAt_eq R 3 47 t k (decAt_eq R 3 (by omega) (by omega) t k), dLeadAt_eq R 2 31 t k (decAt_eq R 2 (by omega) (by omega) t k),
    dLeadAt_eq R 1 15 t k (decAt_eq R 1 (by omega) (by omega) t k), dec0_eq, ← dQt_eq]
  unfold dQt
  rw [show R.decAt 3 47 t k = R.hop 3 t k from decAt_eq R 3 (by omega) (by omega) t k,
    show R.decAt 2 31 t k = R.hop 2 t k from decAt_eq R 2 (by omega) (by omega) t k,
    show R.decAt 1 15 t k = R.hop 1 t k from decAt_eq R 1 (by omega) (by omega) t k, dec0_eq]
  unfold qt; ring

/-- What the reference point of block `b` gets: the terms of the block's keys. -/
theorem leadRow_eq (b r : ℕ) (k : Fin 128) (h : ∀ t, R.decAt b r t k = R.hop b t k) :
    (∑ t, (0 - R.dLeadAt b r t k)) = -∑ s : Fin 64, if s.val / 16 = b then R.key s k * R.inK s k else 0 := by
  rw [← sum_neg_distrib]
  have e : ∀ t, 0 - R.dLeadAt b r t k
      = ∑ s : Fin 64, -(if s.val / 16 = b then R.key s k * (R.dScores t s * (R.qh t k * R.rel t s k)) else 0) := by
    intro t
    rw [dLeadAt_eq R b r t k (h t), dqAt_eq, zero_sub, sum_neg_distrib, mul_sum, sum_mul]
    refine congrArg _ (sum_congr rfl fun s _ => ?_)
    by_cases c : s.val / 16 = b
    · rw [if_pos c, if_pos c]
      have := term_rel R t s k
      rw [c] at this
      unfold qt
      linear_combination (R.qh t k) * this
    · rw [if_neg c, if_neg c, mul_zero, zero_mul]
  rw [sum_congr rfl fun t _ => e t, sum_comm]
  refine sum_congr rfl fun s _ => ?_
  rw [sum_neg_distrib]
  by_cases c : s.val / 16 = b
  · simp only [if_pos c]; unfold inK; rw [mul_sum]
  · simp only [if_neg c, sum_const_zero]

theorem sum_put (r : ℕ) (hr : r < 64) (x : Fin 128 → ℝ) (s : Fin 64) (k : Fin 128) :
    (∑ t, tri t s * put r x t k) = if s.val ≤ r then x k else 0 := by
  rw [sum_eq_single (⟨r, hr⟩ : Fin 64)]
  · unfold put tri
    rw [if_pos rfl]
    by_cases h : s.val ≤ r
    · rw [if_pos h, if_pos h, one_mul]
    · rw [if_neg h, if_neg h, zero_mul]
  · intro t _ h
    unfold put
    rw [if_neg fun e => h (Fin.ext e), mul_zero]
  · exact fun h => absurd (mem_univ _) h

theorem split_after (Y : Fin 64 → ℝ) (s : Fin 64) :
    (∑ t, tri t s * Y t) = (∑ t, triB t s * Y t)
      + (if s.val ≤ 47 then ∑ t : Fin 64, if t.val / 16 = 3 then Y t else 0 else 0)
      + (if s.val ≤ 31 then ∑ t : Fin 64, if t.val / 16 = 2 then Y t else 0 else 0)
      + (if s.val ≤ 15 then ∑ t : Fin 64, if t.val / 16 = 1 then Y t else 0 else 0) := by
  have c (b : ℕ) (p : Prop) [Decidable p] : (if p then ∑ t : Fin 64, if t.val / 16 = b then Y t else 0 else 0)
      = ∑ t : Fin 64, if p ∧ t.val / 16 = b then Y t else 0 := by
    by_cases h : p
    · simp only [h, if_true, true_and]
    · simp only [h, false_and, if_false, sum_const_zero]
  rw [c, c, c, ← sum_add_distrib, ← sum_add_distrib, ← sum_add_distrib]
  refine sum_congr rfl fun t _ => ?_
  unfold tri triB
  have hs := s.isLt
  have ht := t.isLt
  by_cases h : s.val ≤ t.val
  · by_cases h' : s.val / 16 = t.val / 16
    · rw [if_pos h, if_pos ⟨h, h'⟩, if_neg (by omega), if_neg (by omega), if_neg (by omega)]; ring
    · rw [if_pos h, if_neg (by omega)]
      have : t.val / 16 = 1 ∨ t.val / 16 = 2 ∨ t.val / 16 = 3 := by omega
      rcases this with e | e | e
      · rw [if_neg (by omega), if_neg (by omega), if_pos (by omega)]; ring
      · rw [if_neg (by omega), if_pos (by omega), if_neg (by omega)]; ring
      · rw [if_pos (by omega), if_neg (by omega), if_neg (by omega)]; ring
  · rw [if_neg h, if_neg (by omega), if_neg (by omega), if_neg (by omega), if_neg (by omega)]; ring

/-- The gradient of the decay rates: what comes after the token within the chunk, and what the state carries on. -/
theorem dLogF_eq (s : Fin 64) (k : Fin 128) :
    R.dLogF s k = (∑ t, tri t s * (R.qh t k * R.dQh t k - R.key t k * R.dKey t k))
      + ((∑ t, R.key t k * (R.dKg t k * R.decay t k)) + R.stDst k * R.expLast k) := by
  have hB : ∀ t, R.dCumBlk t k = -(R.key t k * R.inK t k) := by
    intro t
    unfold dCumBlk dBlkK
    rw [dLead_eq, ← dQt_eq, ← dKt_eq]; ring
  have hC : ∀ t, R.dCum t k = (R.qh t k * R.dQh t k - R.key t k * R.dKey t k) + R.key t k * R.inK t k
      + put 63 R.dLast t k + R.dLeadRow 47 3 t k + R.dLeadRow 31 2 t k + R.dLeadRow 15 1 t k := by
    intro t
    unfold dCum dCumEnd dCumQ dDec
    rw [dLead_eq, dQh_eq, dKey_eq]; ring
  have hR (b : ℕ) (hb : 0 < b) (hb' : b < 4) : (∑ t, tri t s * R.dLeadRow (16 * b - 1) b t k)
      = if s.val ≤ 16 * b - 1 then -∑ s : Fin 64, (if s.val / 16 = b then R.key s k * R.inK s k else 0) else 0 := by
    unfold dLeadRow
    rw [sum_put (16 * b - 1) (by omega), leadRow_eq R b (16 * b - 1) k fun t => decAt_eq R b hb hb' t k]
  have h3 := hR 3 (by omega) (by omega)
  have h2 := hR 2 (by omega) (by omega)
  have h1 := hR 1 (by omega) (by omega)
  norm_num at h1 h2 h3
  unfold dLogF
  simp only [hB, hC, mul_add, sum_add_distrib, mul_neg, sum_neg_distrib]
  rw [h1, h2, h3, sum_put 63 (by omega), if_pos (by omega), split_after (fun t => R.key t k * R.inK t k) s]
  unfold dLast dDec
  have e : ∀ (p : Prop) [Decidable p] (x : ℝ), (if p then -x else 0) = -(if p then x else 0) := by
    intro p _ x; by_cases h : p
    · rw [if_pos h, if_pos h]
    · rw [if_neg h, if_neg h, neg_zero]
  simp only [e, mul_assoc]
  ring

end RH

end Cert.Proof
-- ==== Proof.Head.lean ====
/- One head of the mixer over all tokens, and its gradient: the sums over all pairs of tokens, and how the chunks with
   their carried states give the same numbers. -/
module

public import proofs.«01_k».proof.Proof.ChunkMath

@[expose] public section

noncomputable section

namespace Cert.Proof

open Finset
open scoped BigOperators

/-- One head's columns, by token. -/
structure Hd where
  t0 : Fin 128 → ℝ
  t1 : Fin 128 → ℝ
  w : Fin 128 → ℝ
  q : ℕ → Fin 128 → ℝ
  f : ℕ → Fin 128 → ℝ
  v : ℕ → Fin 128 → ℝ
  g : ℕ → Fin 128 → ℝ
  dy : ℕ → Fin 128 → ℝ

namespace Hd

variable (H : Hd)

/-! ## Forward -/

def eSum (k : Fin 128) : ℝ := Real.exp (H.t0 k) + Real.exp (H.t1 k)
def lb (k : Fin 128) : ℝ := Real.exp (H.t0 k) / H.eSum k
def rest (k : Fin 128) : ℝ := 1 - H.lb k
def sigF (t : ℕ) (k : Fin 128) : ℝ := (1 + Real.exp (-H.f t k))⁻¹
def forget (t : ℕ) (k : Fin 128) : ℝ := H.lb k + H.rest k * H.sigF t k
def key (t : ℕ) (k : Fin 128) : ℝ := 1 - H.forget t k
def logF (t : ℕ) (k : Fin 128) : ℝ := Real.log (H.forget t k)
def sigQ (t : ℕ) (k : Fin 128) : ℝ := (1 + Real.exp (-H.q t k))⁻¹
def qh (t : ℕ) (k : Fin 128) : ℝ := H.q t k * H.sigQ t k * cScale
/-- The sum of the first `m` decay rates. -/
def S (m : ℕ) (k : Fin 128) : ℝ := ∑ u ∈ range m, H.logF u k
/-- The decay from token `s` to token `t`. -/
def rel (t s : ℕ) (k : Fin 128) : ℝ := if s ≤ t then Real.exp (H.S (t + 1) k - H.S (s + 1) k) else 0
def scores (t s : ℕ) : ℝ := ∑ k, H.qh t k * H.key s k * H.rel t s k
def o (t : ℕ) (v : Fin 128) : ℝ := ∑ s ∈ range 8192, H.scores t s * H.v s v

/-! ## The norm and the gate -/

def msEps (t : ℕ) : ℝ := (∑ v, H.o t v * H.o t v) / 128 + cEps
def root (t : ℕ) : ℝ := (Real.sqrt (H.msEps t))⁻¹
def rootD (t : ℕ) : ℝ := -1/2 * (H.root t / H.msEps t)
def oNorm (t : ℕ) (v : Fin 128) : ℝ := H.o t v * H.root t
def oW (t : ℕ) (v : Fin 128) : ℝ := H.oNorm t v * H.w v
def sigG (t : ℕ) (v : Fin 128) : ℝ := (1 + Real.exp (-H.g t v))⁻¹
def dSilu (t : ℕ) (v : Fin 128) : ℝ := H.oW t v * H.dy t v
def dOW (t : ℕ) (v : Fin 128) : ℝ := H.dy t v * (H.g t v * H.sigG t v)
def dG (t : ℕ) (v : Fin 128) : ℝ := H.dSilu t v * H.sigG t v + H.g t v * H.dSilu t v * (H.sigG t v * (1 - H.sigG t v))
def dNwAt (t : ℕ) (v : Fin 128) : ℝ := H.oNorm t v * H.dOW t v
def dNorm (t : ℕ) (v : Fin 128) : ℝ := H.dOW t v * H.w v
def dRoot (t : ℕ) : ℝ := (∑ v, H.o t v * H.dNorm t v) * H.rootD t / 128
def dO (t : ℕ) (v : Fin 128) : ℝ := H.dNorm t v * H.root t + H.o t v * H.dRoot t + H.dRoot t * H.o t v

/-! ## Backward through the scores -/

def dS (t s : ℕ) : ℝ := ∑ v, H.dO t v * H.v s v
def dV (s : ℕ) (v : Fin 128) : ℝ := ∑ t ∈ range 8192, H.scores t s * H.dO t v
def dQh (t : ℕ) (k : Fin 128) : ℝ := ∑ s ∈ range 8192, H.dS t s * (H.key s k * H.rel t s k)
def dKey (s : ℕ) (k : Fin 128) : ℝ := ∑ t ∈ range 8192, H.dS t s * (H.qh t k * H.rel t s k)
def dLogF (r : ℕ) (k : Fin 128) : ℝ := ∑ t ∈ Ico r 8192, (H.qh t k * H.dQh t k - H.key t k * H.dKey t k)
def dQs (t : ℕ) (k : Fin 128) : ℝ := H.dQh t k * cScale
def dQ (t : ℕ) (k : Fin 128) : ℝ := H.dQs t k * H.sigQ t k + H.q t k * H.dQs t k * (H.sigQ t k * (1 - H.sigQ t k))
def dForget (t : ℕ) (k : Fin 128) : ℝ := H.dLogF t k / H.forget t k - H.dKey t k
def dF (t : ℕ) (k : Fin 128) : ℝ := H.rest k * H.dForget t k * (H.sigF t k * (1 - H.sigF t k))
def dLb (k : Fin 128) : ℝ := ∑ t ∈ range 8192, (H.dForget t k - H.dForget t k * H.sigF t k)
/-- The derivative of the softmax of the two rows. -/
def soft (k : Fin 128) : ℝ := Real.exp (H.t0 k) * Real.exp (H.t1 k) / (H.eSum k * H.eSum k)
def dT0 (k : Fin 128) : ℝ := H.dLb k * H.soft k
def dT1 (k : Fin 128) : ℝ := -(H.dLb k * H.soft k)

/-! ## The chunks -/

/-- The state before chunk `n`. -/
def st (n : ℕ) (v k : Fin 128) : ℝ := ∑ s ∈ range (64 * n), H.key s k * Real.exp (H.S (64 * n) k - H.S (s + 1) k) * H.v s v
/-- The gradient of the state before chunk `n`. -/
def D (n : ℕ) (v k : Fin 128) : ℝ := ∑ t ∈ Ico (64 * n) 8192, H.dO t v * (H.qh t k * Real.exp (H.S (t + 1) k - H.S (64 * n) k))

/-- What chunk `n` reads. -/
def chunk (n : ℕ) : RH where
  t0 := H.t0
  t1 := H.t1
  w := H.w
  q t := H.q (64 * n + t.val)
  f t := H.f (64 * n + t.val)
  v t := H.v (64 * n + t.val)
  g t := H.g (64 * n + t.val)
  dy t := H.dy (64 * n + t.val)
  st := H.st n
  dst := H.D (n + 1)

theorem eSum_pos (k : Fin 128) : 0 < H.eSum k := add_pos (Real.exp_pos _) (Real.exp_pos _)

theorem c_e0 (n : ℕ) (k : Fin 128) : (H.chunk n).e0 k = Real.exp (H.t0 k) * Real.exp (-max (H.t0 k) (H.t1 k)) := by
  rw [← Real.exp_add]; rfl
theorem c_e1 (n : ℕ) (k : Fin 128) : (H.chunk n).e1 k = Real.exp (H.t1 k) * Real.exp (-max (H.t0 k) (H.t1 k)) := by
  rw [← Real.exp_add]; rfl
theorem c_eSum (n : ℕ) (k : Fin 128) : (H.chunk n).eSum k = H.eSum k * Real.exp (-max (H.t0 k) (H.t1 k)) := by
  unfold RH.eSum eSum; rw [c_e0, c_e1]; ring

theorem c_lb (n : ℕ) (k : Fin 128) : (H.chunk n).lb k = H.lb k := by
  unfold RH.lb lb
  rw [c_e0, c_eSum, mul_div_mul_right _ _ (Real.exp_pos _).ne']
theorem c_rest (n : ℕ) (k : Fin 128) : (H.chunk n).rest k = H.rest k := by unfold RH.rest rest; rw [c_lb]
theorem c_sigF (n : ℕ) (t : Fin 64) (k : Fin 128) : (H.chunk n).sigF t k = H.sigF (64 * n + t.val) k := rfl
theorem c_forget (n : ℕ) (t : Fin 64) (k : Fin 128) : (H.chunk n).forget t k = H.forget (64 * n + t.val) k := by
  unfold RH.forget forget; rw [c_lb, c_rest, c_sigF]
theorem c_key (n : ℕ) (t : Fin 64) (k : Fin 128) : (H.chunk n).key t k = H.key (64 * n + t.val) k := by
  unfold RH.key key; rw [c_forget]
theorem c_logF (n : ℕ) (t : Fin 64) (k : Fin 128) : (H.chunk n).logF t k = H.logF (64 * n + t.val) k := by
  unfold RH.logF logF; rw [c_forget]
theorem c_qh (n : ℕ) (t : Fin 64) (k : Fin 128) : (H.chunk n).qh t k = H.qh (64 * n + t.val) k := rfl

/-! ## Sums over the tokens, split at a chunk -/

theorem sum_chunk (n : ℕ) (F : ℕ → ℝ) : ∑ t ∈ range (64 * (n + 1)), F t = ∑ t ∈ range (64 * n), F t + ∑ t : Fin 64, F (64 * n + t.val) := by
  rw [show 64 * (n + 1) = 64 * n + 64 by ring, sum_range_add, sum_range (fun x => F (64 * n + x))]

theorem sum_chunks (F : ℕ → ℝ) (m : ℕ) : ∑ t ∈ range (64 * m), F t = ∑ n ∈ range m, ∑ t : Fin 64, F (64 * n + t.val) := by
  induction m with
  | zero => simp
  | succ m ih => rw [sum_chunk, ih, sum_range_succ]

theorem sum_split (a : ℕ) (ha : a ≤ 8192) (F : ℕ → ℝ) : ∑ t ∈ range 8192, F t = ∑ t ∈ range a, F t + ∑ t ∈ Ico a 8192, F t :=
  (sum_range_add_sum_Ico F ha).symm

theorem sum_three (n : ℕ) (hn : n < 128) (F : ℕ → ℝ) :
    ∑ t ∈ range 8192, F t = ∑ t ∈ range (64 * n), F t + ∑ t : Fin 64, F (64 * n + t.val) + ∑ t ∈ Ico (64 * (n + 1)) 8192, F t := by
  rw [sum_split (64 * (n + 1)) (by omega), sum_chunk]

theorem sum_after (n : ℕ) (hn : n < 128) (F : ℕ → ℝ) :
    ∑ t ∈ Ico (64 * n) 8192, F t = ∑ t : Fin 64, F (64 * n + t.val) + ∑ t ∈ Ico (64 * (n + 1)) 8192, F t := by
  have h1 := sum_three n hn F
  have h2 := sum_split (64 * n) (by omega) F
  linarith

theorem tri_before (t : Fin 64) (F : ℕ → ℝ) : ∑ s : Fin 64, RH.tri t s * F s.val = ∑ s ∈ range (t.val + 1), F s := by
  have e0 : ∑ s : Fin 64, RH.tri t s * F s.val = ∑ s ∈ range 64, (if s ≤ t.val then (1 : ℝ) else 0) * F s :=
    (sum_range fun s => (if s ≤ t.val then (1 : ℝ) else 0) * F s).symm
  rw [e0, ← sum_range_add_sum_Ico _ (show t.val + 1 ≤ 64 by omega)]
  have e : ∑ s ∈ Ico (t.val + 1) 64, (if s ≤ t.val then (1 : ℝ) else 0) * F s = 0 :=
    sum_eq_zero fun s hs => by rw [if_neg (by rw [mem_Ico] at hs; omega), zero_mul]
  rw [e, add_zero]
  exact sum_congr rfl fun s hs => by rw [if_pos (by rw [mem_range] at hs; omega), one_mul]

theorem tri_after (n : ℕ) (hn : n < 128) (s : Fin 64) (F : ℕ → ℝ) :
    ∑ t ∈ Ico (64 * n + s.val) 8192, F t = ∑ t : Fin 64, RH.tri t s * F (64 * n + t.val) + ∑ t ∈ Ico (64 * (n + 1)) 8192, F t := by
  have h := sum_after n hn fun t => if 64 * n + s.val ≤ t then F t else 0
  have h1 : ∑ t ∈ Ico (64 * n) 8192, (if 64 * n + s.val ≤ t then F t else 0) = ∑ t ∈ Ico (64 * n + s.val) 8192, F t := by
    rw [← sum_filter]
    refine sum_congr ?_ fun _ _ => rfl
    ext t; simp only [mem_filter, mem_Ico]; omega
  have h2 : ∑ t ∈ Ico (64 * (n + 1)) 8192, (if 64 * n + s.val ≤ t then F t else 0) = ∑ t ∈ Ico (64 * (n + 1)) 8192, F t :=
    sum_congr rfl fun t ht => if_pos (by rw [mem_Ico] at ht; omega)
  rw [← h1, h, h2]
  refine congrArg (· + _) (sum_congr rfl fun t _ => ?_)
  unfold RH.tri
  by_cases c : s.val ≤ t.val
  · rw [if_pos (by omega), if_pos c, one_mul]
  · rw [if_neg (by omega), if_neg c, zero_mul]

/-! ## The decays of a chunk -/

theorem c_cum (n : ℕ) (t : Fin 64) (k : Fin 128) : (H.chunk n).cum t k = H.S (64 * n + t.val + 1) k - H.S (64 * n) k := by
  unfold RH.cum S
  rw [sum_congr rfl fun s _ => congrArg (RH.tri t s * ·) (H.c_logF n s k), tri_before t fun s => H.logF (64 * n + s) k,
    show 64 * n + t.val + 1 = 64 * n + (t.val + 1) by ring, sum_range_add (fun u => H.logF u k) (64 * n) (t.val + 1), add_sub_cancel_left]

theorem c_last (n : ℕ) (k : Fin 128) : (H.chunk n).last k = H.S (64 * (n + 1)) k - H.S (64 * n) k := by
  unfold RH.last
  rw [RH.row_eq 63 (by omega), c_cum]; rfl

theorem c_rel (n : ℕ) (t s : Fin 64) (k : Fin 128) (h : s.val ≤ t.val) :
    (H.chunk n).rel t s k = H.rel (64 * n + t.val) (64 * n + s.val) k := by
  unfold RH.rel rel
  rw [if_pos (by omega), c_cum, c_cum]; congr 1; ring

theorem rel_zero (t s : ℕ) (k : Fin 128) (h : t < s) : H.rel t s k = 0 := if_neg (by omega)
theorem scores_zero (t s : ℕ) (h : t < s) : H.scores t s = 0 :=
  sum_eq_zero fun k _ => by rw [rel_zero H t s k h, mul_zero]

theorem c_scores (n : ℕ) (t s : Fin 64) : (H.chunk n).scores t s = H.scores (64 * n + t.val) (64 * n + s.val) := by
  rw [RH.scores_eq]
  by_cases h : s.val ≤ t.val
  · rw [if_pos h]
    exact sum_congr rfl fun k _ => by rw [c_qh, c_key, c_rel H n t s k h]
  · rw [if_neg h, scores_zero H _ _ (by omega)]

theorem c_qg (n : ℕ) (t : Fin 64) (k : Fin 128) :
    (H.chunk n).qg t k = H.qh (64 * n + t.val) k * Real.exp (H.S (64 * n + t.val + 1) k - H.S (64 * n) k) := by
  unfold RH.qg RH.expCum; rw [c_qh, c_cum]

theorem rel_before (n : ℕ) (t s : ℕ) (k : Fin 128) (h : s < 64 * n) (h' : 64 * n ≤ t) :
    H.rel t s k = Real.exp (H.S (t + 1) k - H.S (64 * n) k) * Real.exp (H.S (64 * n) k - H.S (s + 1) k) := by
  unfold rel; rw [if_pos (by omega), ← Real.exp_add]; congr 1; ring

theorem c_o (n : ℕ) (hn : n < 128) (t : Fin 64) (v : Fin 128) : (H.chunk n).o t v = H.o (64 * n + t.val) v := by
  unfold RH.o RH.oIn o
  rw [sum_three n hn]
  have h3 : ∑ s ∈ Ico (64 * (n + 1)) 8192, H.scores (64 * n + t.val) s * H.v s v = 0 :=
    sum_eq_zero fun s hs => by rw [mem_Ico] at hs; rw [scores_zero H _ _ (by omega), zero_mul]
  have h1 : ∑ s ∈ range (64 * n), H.scores (64 * n + t.val) s * H.v s v = ∑ k, (H.chunk n).qg t k * H.st n v k := by
    unfold st scores
    simp only [sum_mul, mul_sum]
    rw [sum_comm]
    refine sum_congr rfl fun k _ => sum_congr rfl fun s hs => ?_
    rw [mem_range] at hs
    rw [c_qg, rel_before H n _ s k hs (by omega)]; ring
  rw [h3, h1, add_zero, add_comm]
  exact congrArg₂ (· + ·) rfl (sum_congr rfl fun s _ => by rw [c_scores]; rfl)

/-! ## The norm and the gate of a chunk -/

theorem c_msEps (n : ℕ) (hn : n < 128) (t : Fin 64) : (H.chunk n).msEps t = H.msEps (64 * n + t.val) := by
  unfold RH.msEps msEps RH.sq; simp only [c_o H n hn]
theorem c_root (n : ℕ) (hn : n < 128) (t : Fin 64) : (H.chunk n).root t = H.root (64 * n + t.val) := by
  unfold RH.root root; rw [c_msEps H n hn]
theorem c_rootD (n : ℕ) (hn : n < 128) (t : Fin 64) : (H.chunk n).rootD t = H.rootD (64 * n + t.val) := by
  unfold RH.rootD rootD RH.rootQ; rw [c_msEps H n hn, c_root H n hn]
theorem c_oNorm (n : ℕ) (hn : n < 128) (t : Fin 64) (v : Fin 128) : (H.chunk n).oNorm t v = H.oNorm (64 * n + t.val) v := by
  unfold RH.oNorm oNorm; rw [c_o H n hn, c_root H n hn]
theorem c_dOW (n : ℕ) (t : Fin 64) (v : Fin 128) : (H.chunk n).dOW t v = H.dOW (64 * n + t.val) v := rfl
theorem c_dSilu (n : ℕ) (hn : n < 128) (t : Fin 64) (v : Fin 128) : (H.chunk n).dSilu t v = H.dSilu (64 * n + t.val) v := by
  unfold RH.dSilu dSilu RH.oW oW; rw [c_oNorm H n hn]; rfl
theorem c_dG (n : ℕ) (hn : n < 128) (t : Fin 64) (v : Fin 128) : (H.chunk n).dG t v = H.dG (64 * n + t.val) v := by
  unfold RH.dG dG; rw [c_dSilu H n hn]; rfl
theorem c_dNw (n : ℕ) (hn : n < 128) (v : Fin 128) : (H.chunk n).dNw v = ∑ t : Fin 64, H.dNwAt (64 * n + t.val) v := by
  unfold RH.dNw dNwAt; exact sum_congr rfl fun t _ => by rw [c_oNorm H n hn, c_dOW]
theorem c_dNorm (n : ℕ) (t : Fin 64) (v : Fin 128) : (H.chunk n).dNorm t v = H.dNorm (64 * n + t.val) v := rfl
theorem c_dRoot (n : ℕ) (hn : n < 128) (t : Fin 64) : (H.chunk n).dRoot t = H.dRoot (64 * n + t.val) := by
  unfold RH.dRoot dRoot; rw [c_rootD H n hn]; simp only [c_o H n hn, c_dNorm]
theorem c_dO (n : ℕ) (hn : n < 128) (t : Fin 64) (v : Fin 128) : (H.chunk n).dO t v = H.dO (64 * n + t.val) v := by
  unfold RH.dO dO RH.dON; rw [c_dNorm, c_root H n hn, c_o H n hn, c_dRoot H n hn]

/-! ## The carried gradient -/

theorem D_end (v k : Fin 128) : H.D 128 v k = 0 := by unfold D; rw [Ico_self]; rfl

theorem c_dstNew (n : ℕ) (hn : n < 128) (v k : Fin 128) : (H.chunk n).dstNew v k = H.D n v k := by
  unfold RH.dstNew RH.dstDec RH.expLast D
  rw [c_last, sum_after n hn, add_comm]
  refine congrArg₂ (· + ·) ?_ ?_
  · exact sum_congr rfl fun t _ => by rw [c_dO H n hn, c_qg]
  · show (∑ t ∈ Ico (64 * (n + 1)) 8192, _) * _ = _
    rw [sum_mul]
    refine sum_congr rfl fun t _ => ?_
    rw [show H.S (t + 1) k - H.S (64 * n) k = (H.S (t + 1) k - H.S (64 * (n + 1)) k) + (H.S (64 * (n + 1)) k - H.S (64 * n) k) by ring, Real.exp_add]
    ring

/-! ## The gradients of values, queries and keys -/

theorem c_dV (n : ℕ) (hn : n < 128) (s : Fin 64) (v : Fin 128) : (H.chunk n).dV s v = H.dV (64 * n + s.val) v := by
  unfold RH.dV RH.dKg1 dV
  rw [sum_three n hn]
  have h1 : ∑ t ∈ range (64 * n), H.scores t (64 * n + s.val) * H.dO t v = 0 :=
    sum_eq_zero fun t ht => by rw [mem_range] at ht; rw [scores_zero H _ _ (by omega), zero_mul]
  have h3 : ∑ t ∈ Ico (64 * (n + 1)) 8192, H.scores t (64 * n + s.val) * H.dO t v = ∑ k, (H.chunk n).kg s k * H.D (n + 1) v k := by
    unfold D scores
    simp only [sum_mul, mul_sum]
    rw [sum_comm]
    refine sum_congr rfl fun k _ => sum_congr rfl fun t ht => ?_
    rw [mem_Ico] at ht
    unfold RH.kg RH.decay
    rw [c_key, c_last, c_cum, rel_before H (n + 1) t (64 * n + s.val) k (by omega) ht.1,
      show H.S (64 * (n + 1)) k - H.S (64 * n) k - (H.S (64 * n + s.val + 1) k - H.S (64 * n) k) = H.S (64 * (n + 1)) k - H.S (64 * n + s.val + 1) k by ring]
    ring
  rw [h1, h3, zero_add, add_comm]
  exact congrArg₂ (· + ·) (sum_congr rfl fun t _ => by rw [c_scores, c_dO H n hn]) rfl

theorem c_dScores (n : ℕ) (hn : n < 128) (t s : Fin 64) (h : s.val ≤ t.val) :
    (H.chunk n).dScores t s = H.dS (64 * n + t.val) (64 * n + s.val) := by
  unfold RH.dScores dS; rw [if_pos h]
  exact sum_congr rfl fun v _ => by rw [c_dO H n hn]; rfl

theorem c_dQh (n : ℕ) (hn : n < 128) (t : Fin 64) (k : Fin 128) : (H.chunk n).dQh t k = H.dQh (64 * n + t.val) k := by
  rw [RH.dQh_eq]
  unfold dQh
  rw [sum_three n hn]
  have h3 : ∑ s ∈ Ico (64 * (n + 1)) 8192, H.dS (64 * n + t.val) s * (H.key s k * H.rel (64 * n + t.val) s k) = 0 :=
    sum_eq_zero fun s hs => by rw [mem_Ico] at hs; rw [rel_zero H _ _ k (by omega), mul_zero, mul_zero]
  have h1 : ∑ s ∈ range (64 * n), H.dS (64 * n + t.val) s * (H.key s k * H.rel (64 * n + t.val) s k) = (H.chunk n).dQg t k * (H.chunk n).expCum t k := by
    unfold RH.dQg RH.expCum
    rw [c_cum]
    show _ = (∑ v, (H.chunk n).dO t v * H.st n v k) * _
    unfold st dS
    simp only [sum_mul, mul_sum]
    rw [sum_comm]
    refine sum_congr rfl fun v _ => sum_congr rfl fun s hs => ?_
    rw [mem_range] at hs
    rw [c_dO H n hn, rel_before H n _ s k hs (by omega)]; ring
  rw [h3, h1, add_zero]
  refine congrArg₂ (· + ·) rfl ?_
  unfold RH.inQ
  refine sum_congr rfl fun s _ => ?_
  by_cases h : s.val ≤ t.val
  · rw [c_dScores H n hn t s h, c_key, c_rel H n t s k h]
  · rw [RH.dScores_zero _ t s h, rel_zero H _ _ k (by omega)]; ring

theorem c_dKg (n : ℕ) (s : Fin 64) (k : Fin 128) :
    (H.chunk n).dKg s k * (H.chunk n).decay s k
      = ∑ t ∈ Ico (64 * (n + 1)) 8192, H.dS t (64 * n + s.val) * (H.qh t k * H.rel t (64 * n + s.val) k) := by
  unfold RH.dKg RH.decay
  rw [c_last, c_cum]
  show (∑ v, H.v (64 * n + s.val) v * H.D (n + 1) v k) * _ = _
  unfold D dS
  simp only [sum_mul, mul_sum]
  rw [sum_comm]
  refine sum_congr rfl fun t ht => sum_congr rfl fun v _ => ?_
  rw [mem_Ico] at ht
  rw [rel_before H (n + 1) t (64 * n + s.val) k (by omega) ht.1,
    show H.S (64 * (n + 1)) k - H.S (64 * n) k - (H.S (64 * n + s.val + 1) k - H.S (64 * n) k) = H.S (64 * (n + 1)) k - H.S (64 * n + s.val + 1) k by ring]
  ring

theorem c_dKey (n : ℕ) (hn : n < 128) (s : Fin 64) (k : Fin 128) : (H.chunk n).dKey s k = H.dKey (64 * n + s.val) k := by
  rw [RH.dKey_eq, c_dKg]
  unfold dKey
  rw [sum_three n hn]
  have h1 : ∑ t ∈ range (64 * n), H.dS t (64 * n + s.val) * (H.qh t k * H.rel t (64 * n + s.val) k) = 0 :=
    sum_eq_zero fun t ht => by rw [mem_range] at ht; rw [rel_zero H _ _ k (by omega), mul_zero, mul_zero]
  rw [h1, zero_add, add_comm]
  refine congrArg₂ (· + ·) ?_ rfl
  unfold RH.inK
  refine sum_congr rfl fun t _ => ?_
  by_cases h : s.val ≤ t.val
  · rw [c_dScores H n hn t s h, c_qh, c_rel H n t s k h]
  · rw [RH.dScores_zero _ t s h, rel_zero H _ _ k (by omega)]; ring

/-! ## The gradient of the decay rates -/

/-- The states before and after a chunk. -/
theorem st_next (n : ℕ) (v k : Fin 128) :
    H.st (n + 1) v k = H.st n v k * (H.chunk n).expLast k + ∑ s : Fin 64, (H.chunk n).key s k * (H.chunk n).decay s k * H.v (64 * n + s.val) v := by
  unfold st
  rw [sum_chunk, sum_mul]
  unfold RH.expLast RH.decay
  refine congrArg₂ (· + ·) ?_ ?_
  · refine sum_congr rfl fun s _ => ?_
    rw [c_last, show H.S (64 * (n + 1)) k - H.S (s + 1) k = (H.S (64 * n) k - H.S (s + 1) k) + (H.S (64 * (n + 1)) k - H.S (64 * n) k) by ring, Real.exp_add]
    ring
  · refine sum_congr rfl fun s _ => ?_
    rw [c_key, c_last, c_cum, show H.S (64 * (n + 1)) k - H.S (64 * n) k - (H.S (64 * n + s.val + 1) k - H.S (64 * n) k) = H.S (64 * (n + 1)) k - H.S (64 * n + s.val + 1) k by ring]

/-- What the state carries on is what comes after it. -/
theorem carried (m : ℕ) (hm : m ≤ 128) (k : Fin 128) :
    ∑ v, H.D m v k * H.st m v k = ∑ t ∈ Ico (64 * m) 8192, (H.qh t k * H.dQh t k - H.key t k * H.dKey t k) := by
  let P : ℕ → ℕ → ℝ := fun t s => H.dS t s * (H.qh t k * H.key s k * H.rel t s k)
  have hq : ∀ t, H.qh t k * H.dQh t k = ∑ s ∈ range 8192, P t s := by
    intro t; unfold dQh; rw [mul_sum]; exact sum_congr rfl fun s _ => by show _ = H.dS t s * _; ring
  have hk : ∀ s, H.key s k * H.dKey s k = ∑ t ∈ range 8192, P t s := by
    intro s; unfold dKey; rw [mul_sum]; exact sum_congr rfl fun t _ => by show _ = H.dS t s * _; ring
  have hz : ∀ s ∈ Ico (64 * m) 8192, ∑ t ∈ range (64 * m), P t s = 0 := fun s hs => sum_eq_zero fun t ht => by
    rw [mem_Ico] at hs; rw [mem_range] at ht
    show H.dS t s * _ = 0
    rw [rel_zero H t s k (by omega), mul_zero, mul_zero]
  have ha : 64 * m ≤ 8192 := by omega
  rw [sum_sub_distrib, sum_congr rfl fun t _ => (hq t).trans (sum_split (64 * m) ha _), sum_congr rfl fun s _ => (hk s).trans (sum_split (64 * m) ha fun t => P t s),
    sum_add_distrib, sum_add_distrib, sum_congr rfl hz, sum_const_zero, zero_add, sum_comm (s := Ico (64 * m) 8192) (t := Ico (64 * m) 8192), add_sub_cancel_right]
  unfold D st
  simp only [sum_mul_sum]
  rw [sum_comm]
  refine sum_congr rfl fun t ht => ?_
  rw [sum_comm]
  refine sum_congr rfl fun s hs => ?_
  rw [mem_Ico] at ht; rw [mem_range] at hs
  show _ = H.dS t s * _
  unfold dS
  rw [rel_before H m t s k hs ht.1, sum_mul]
  exact sum_congr rfl fun v _ => by ring

theorem c_dLogF (n : ℕ) (hn : n < 128) (s : Fin 64) (k : Fin 128) : (H.chunk n).dLogF s k = H.dLogF (64 * n + s.val) k := by
  rw [RH.dLogF_eq]
  unfold dLogF
  rw [tri_after n hn]
  refine congrArg₂ (· + ·) ?_ ?_
  · exact sum_congr rfl fun t _ => by rw [c_qh, c_dQh H n hn, c_key, c_dKey H n hn]
  · rw [← carried H (n + 1) (by omega)]
    simp only [st_next H n, mul_add, sum_add_distrib]
    rw [add_comm]
    refine congrArg₂ (· + ·) ?_ ?_
    · unfold RH.stDst
      rw [sum_mul]
      exact sum_congr rfl fun v _ => by show H.st n v k * H.D (n + 1) v k * _ = _; ring
    · simp only [mul_sum]
      rw [sum_comm]
      refine sum_congr rfl fun t _ => ?_
      unfold RH.dKg
      rw [sum_mul, mul_sum]
      exact sum_congr rfl fun v _ => by show _ * (H.v _ v * H.D (n + 1) v k * _) = _; ring

/-! ## The gradients of the inputs -/

theorem c_dQ (n : ℕ) (hn : n < 128) (t : Fin 64) (k : Fin 128) : (H.chunk n).dQ t k = H.dQ (64 * n + t.val) k := by
  unfold RH.dQ dQ RH.dQs dQs; rw [c_dQh H n hn]; rfl
theorem c_dForget (n : ℕ) (hn : n < 128) (t : Fin 64) (k : Fin 128) : (H.chunk n).dForget t k = H.dForget (64 * n + t.val) k := by
  unfold RH.dForget dForget; rw [c_dLogF H n hn, c_forget, c_dKey H n hn]; ring
theorem c_dF (n : ℕ) (hn : n < 128) (t : Fin 64) (k : Fin 128) : (H.chunk n).dF t k = H.dF (64 * n + t.val) k := by
  unfold RH.dF dF; rw [c_rest, c_dForget H n hn]; rfl
theorem c_dLb (n : ℕ) (hn : n < 128) (k : Fin 128) :
    (H.chunk n).dLb k = ∑ t : Fin 64, (H.dForget (64 * n + t.val) k - H.dForget (64 * n + t.val) k * H.sigF (64 * n + t.val) k) := by
  unfold RH.dLb
  rw [sum_sub_distrib]; simp only [c_dForget H n hn, c_sigF]; ring

theorem c_dE0 (n : ℕ) (k : Fin 128) : (H.chunk n).dE0 k = (H.chunk n).dLb k * H.soft k := by
  have h1 := H.eSum_pos k
  have h2 := Real.exp_pos (-max (H.t0 k) (H.t1 k))
  unfold RH.dE0 RH.dSum RH.invSq soft
  rw [c_eSum, c_e0]
  have : Real.exp (H.t1 k) = H.eSum k - Real.exp (H.t0 k) := by unfold eSum; ring
  rw [this]
  field_simp
  ring
theorem c_dE1 (n : ℕ) (k : Fin 128) : (H.chunk n).dE1 k = -((H.chunk n).dLb k * H.soft k) := by
  have h1 := H.eSum_pos k
  have h2 := Real.exp_pos (-max (H.t0 k) (H.t1 k))
  unfold RH.dE1 RH.dSum RH.invSq soft
  rw [c_eSum, c_e0, c_e1]
  field_simp
  ring
theorem c_dMax (n : ℕ) (k : Fin 128) : (H.chunk n).dMax k = 0 := by unfold RH.dMax; rw [c_dE0, c_dE1]; ring
theorem c_dT0 (n : ℕ) (k : Fin 128) : (H.chunk n).dT0 k = (H.chunk n).dLb k * H.soft k := by unfold RH.dT0; rw [c_dMax, c_dE0]; ring
theorem c_dT1 (n : ℕ) (k : Fin 128) : (H.chunk n).dT1 k = -((H.chunk n).dLb k * H.soft k) := by unfold RH.dT1; rw [c_dMax, c_dE1]; ring

/-! ## Sums over the chunks -/

theorem all_dLb (k : Fin 128) : ∑ n ∈ range 128, (H.chunk n).dLb k = H.dLb k := by
  unfold dLb
  rw [show 8192 = 64 * 128 from rfl, sum_chunks]
  exact sum_congr rfl fun n hn => c_dLb H n (mem_range.mp hn) k
theorem all_dT0 (k : Fin 128) : ∑ n ∈ range 128, (H.chunk n).dT0 k = H.dT0 k := by
  unfold dT0; rw [← all_dLb, sum_mul]; exact sum_congr rfl fun n _ => c_dT0 H n k
theorem all_dT1 (k : Fin 128) : ∑ n ∈ range 128, (H.chunk n).dT1 k = H.dT1 k := by
  unfold dT1; rw [← all_dLb, sum_mul, ← sum_neg_distrib]; exact sum_congr rfl fun n _ => c_dT1 H n k
theorem all_dNw (v : Fin 128) : ∑ n ∈ range 128, (H.chunk n).dNw v = ∑ t ∈ range 8192, H.dNwAt t v := by
  rw [show 8192 = 64 * 128 from rfl, sum_chunks]
  exact sum_congr rfl fun n hn => c_dNw H n (mem_range.mp hn) v

end Hd

end Cert.Proof
-- ==== Proof.Sweep.lean ====
/- The backward sweep over the grid: what the outputs hold after each point, in terms of the heads' own sums. -/
module

public import proofs.«01_k».proof.Proof.Point
public import proofs.«01_k».proof.Proof.LiftChunk
public import proofs.«01_k».proof.Proof.Head

@[expose] public section

noncomputable section

namespace Cert.Proof

open Idealize.ShloMosaic Idealize.ShloMosaic.ValueIdx Idealize.SL.Sem Cert.KernelIdeal Cert.KernelIdeal.Gen
open scoped BigOperators

/-- What all heads read at chunk `n`. -/
def IN (w : Fin 128 → ℝ) (H : Fin 16 → Hd) (n : ℕ) : In := lift w fun h => (H h).chunk n

section Nodes

variable (w : Fin 128 → ℝ) (H : Fin 16 → Hd) (hw : ∀ h, (H h).w = w) (n : ℕ)

include hw in
theorem one_chunk (h : Fin 16) : In.one w (fun h => (H h).chunk n) h = (H h).chunk n := by
  unfold In.one; rw [← hw h]; rfl

include hw in
theorem IN_dstNew (hn : n < 128) : (IN w H n).dstNew = E fun i => (H (i 0)).D n (i 1) (i 2) := by
  refine (In.l_dstNew w _).trans (congrArg E (funext fun i => ?_))
  exact (congrArg (fun R : RH => R.dstNew (i 1) (i 2)) (one_chunk w H hw n (i 0))).trans ((H (i 0)).c_dstNew n hn _ _)

theorem IN_dst_last : (IN w H 127).dst = fun _ => (0 : EReal) := by
  funext i
  exact congrArg (fun x : ℝ => (x : EReal)) ((H (i 0)).D_end (i 1) (i 2))

/-- One chunk's part of the table's gradient. -/
def tabPart (n : ℕ) (r : Fin 2) (h : Fin 16) (k : Fin 128) : ℝ := if r.val = 0 then ((H h).chunk n).dT0 k else ((H h).chunk n).dT1 k

include hw in
theorem IN_dT (r : Fin 2) (h : Fin 16) (k : Fin 128) : dT (IN w H n) r (ix3 h 0 k) = ((tabPart H n r h k : ℝ) : EReal) := by
  unfold dT tabPart
  by_cases e : r.val = 0
  · rw [if_pos e, if_pos e]
    refine (congrFun (In.l_dT0 w _) (ix3 h 0 k)).trans ?_
    exact congrArg (fun R : RH => ((R.dT0 k : ℝ) : EReal)) (one_chunk w H hw n h)
  · rw [if_neg e, if_neg e]
    refine (congrFun (In.l_dT1 w _) (ix3 h 0 k)).trans ?_
    exact congrArg (fun R : RH => ((R.dT1 k : ℝ) : EReal)) (one_chunk w H hw n h)

include hw in
theorem IN_dNw (k : Fin 128) : (IN w H n).dNw (ix2 0 k) = ((∑ h : Fin 16, ((H h).chunk n).dNw k : ℝ) : EReal) := by
  refine (congrFun (In.l_dNw w _) (ix2 0 k)).trans ?_
  refine congrArg (fun x : ℝ => (x : EReal)) (Finset.sum_congr rfl fun h _ => ?_)
  exact congrArg (fun R : RH => R.dNw k) (one_chunk w H hw n h)

end Nodes

variable (m : (ℓ : Loc nD τ sig) → Buf (Elt Ideal) ℓ) (c : Dev nD)

theorem cfg0_N : cfg0.N = 64 := rfl

/-- The two chunks of the point read the two chunks of the heads, given the right carried gradient. -/
def Reads (w : Fin 128 → ℝ) (H : Fin 16 → Hd) : Prop :=
  ∀ (t : Fin cfg0.N) (a : Fin 2), chunkIn a (iblk m c 0 t) (iblk m c 1 t) (iblk m c 2 t) (iblk m c 3 t) (iblk m c 4 t) (iblk m c 5 t) (iblk m c 6 t) (iblk m c 7 t)
    (IN w H (2 * (63 - t.val) + a.val)).dst = IN w H (2 * (63 - t.val) + a.val)

/-- What the four outputs hold after point `t`. -/
structure After (w : Fin 128 → ℝ) (H : Fin 16 → Hd) (t : ℕ)
    (o : Vec Ideal S128x8192 .bf16 × Vec Ideal S2x2048 .f32 × Vec Ideal S16x1x128 .f32 × Vec Ideal S16x128x128 .f32) : Prop where
  fig : HoldsFig o.1 (IN w H (2 * (63 - t) + 1)) (IN w H (2 * (63 - t)))
  tab : ∀ r h k, (o.2.1 (ix2 r (tcol h k)) : EReal) = ((∑ n ∈ Finset.Ico (2 * (63 - t)) 128, tabPart H n r h k : ℝ) : EReal)
  nw : ∀ r k, (o.2.2.1 (ix3 r 0 k) : EReal) = ((if r = 0 then ∑ n ∈ Finset.Ico (2 * (63 - t)) 128, ∑ h : Fin 16, ((H h).chunk n).dNw k else 0 : ℝ) : EReal)
  st : o.2.2.2 = E (φ := .f32) fun i => (H (i 0)).D (2 * (63 - t)) (i 1) (i 2)

theorem two_more (a : ℕ) (ha : a + 2 ≤ 128) (F : ℕ → ℝ) :
    ∑ n ∈ Finset.Ico a 128, F n = ∑ n ∈ Finset.Ico (a + 2) 128, F n + F (a + 1) + F a := by
  rw [Finset.sum_eq_sum_Ico_succ_bot (by omega), Finset.sum_eq_sum_Ico_succ_bot (show a + 1 < 128 by omega)]; ring

/-- One point over what the point before left. -/
theorem after_of (w : Fin 128 → ℝ) (H : Fin 16 → Hd) (hw : ∀ h, (H h).w = w) (a : ℕ) (ha : a + 2 ≤ 128)
    (pt : S2x2048.Idx → EReal) (pn : S16x1x128.Idx → EReal)
    (hpt : ∀ r h k, pt (ix2 r (tcol h k)) = ((∑ n ∈ Finset.Ico (a + 2) 128, tabPart H n r h k : ℝ) : EReal))
    (hpn : ∀ r k, pn (ix3 r 0 k) = ((if r = 0 then ∑ n ∈ Finset.Ico (a + 2) 128, ∑ h : Fin 16, ((H h).chunk n).dNw k else 0 : ℝ) : EReal))
    (o9 : Vec Ideal S2x2048 .f32) (o10 : Vec Ideal S16x1x128 .f32)
    (h9 : HoldsTab o9 pt (IN w H (a + 1)) (IN w H a)) (h10 : HoldsNw o10 pn (IN w H (a + 1)) (IN w H a)) :
    (∀ r h k, (o9 (ix2 r (tcol h k)) : EReal) = ((∑ n ∈ Finset.Ico a 128, tabPart H n r h k : ℝ) : EReal)) ∧
    (∀ r k, (o10 (ix3 r 0 k) : EReal) = ((if r = 0 then ∑ n ∈ Finset.Ico a 128, ∑ h : Fin 16, ((H h).chunk n).dNw k else 0 : ℝ) : EReal)) := by
  refine ⟨fun r h k => ?_, fun r k => ?_⟩
  · rw [h9 r h k, hpt, IN_dT w H hw, IN_dT w H hw, two_more a ha, EReal.coe_add, EReal.coe_add]
  · rw [h10 r k, hpn, hpn]
    by_cases hr : r = 0
    · rw [if_pos hr, if_pos hr, if_pos rfl, IN_dNw w H hw, IN_dNw w H hw, two_more a ha, EReal.coe_add, EReal.coe_add]
    · rw [if_neg hr, if_neg hr, if_neg hr]

/-! ## One point of the grid -/

variable (t : Fin cfg0.N) (I1 I0 : In)

theorem point_A (h0 : t.val % 64 = 0)
    (h1 : chunkIn 1 (iblk m c 0 t) (iblk m c 1 t) (iblk m c 2 t) (iblk m c 3 t) (iblk m c 4 t) (iblk m c 5 t) (iblk m c 6 t) (iblk m c 7 t) (fun _ => (0 : EReal)) = I1)
    (h2 : chunkIn 0 (iblk m c 0 t) (iblk m c 1 t) (iblk m c 2 t) (iblk m c 3 t) (iblk m c 4 t) (iblk m c 5 t) (iblk m c 6 t) (iblk m c 7 t) I1.dstNew = I0) :
    HoldsFig (outsAt0 m c t.val t.isLt).1 I1 I0 ∧ HoldsTab (outsAt0 m c t.val t.isLt).2.1 (fun _ => 0) I1 I0 ∧ HoldsNw (outsAt0 m c t.val t.isLt).2.2.1 (fun _ => 0) I1 I0 ∧ (outsAt0 m c t.val t.isLt).2.2.2 = I0.dstNew := by
  rw [outsAt0_A m c t h0]
  dsimp only
  exact ⟨fig_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) I1 I0 ((hcond0_0 t).mpr h0) h1 h2,
    tab_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) I1 I0 ((hcond0_0 t).mpr h0) h1 h2,
    nw_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) I1 I0 ((hcond0_0 t).mpr h0) h1 h2,
    st_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) I1 I0 ((hcond0_0 t).mpr h0) h1 h2⟩

theorem point_B (h0 : ¬t.val % 64 = 0)
    (h1 : chunkIn 1 (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2 = I1)
    (h2 : chunkIn 0 (iblk m c 0 t) (iblk m c 1 t) (iblk m c 2 t) (iblk m c 3 t) (iblk m c 4 t) (iblk m c 5 t) (iblk m c 6 t) (iblk m c 7 t) I1.dstNew = I0) :
    HoldsFig (outsAt0 m c t.val t.isLt).1 I1 I0 ∧ HoldsTab (outsAt0 m c t.val t.isLt).2.1 (outsAt0 m c (t.val - 1) (Nat.lt_of_le_of_lt (Nat.sub_le _ _) t.isLt)).2.1 I1 I0 ∧ HoldsNw (outsAt0 m c t.val t.isLt).2.2.1 (outsAt0 m c (t.val - 1) (Nat.lt_of_le_of_lt (Nat.sub_le _ _) t.isLt)).2.2.1 I1 I0 ∧ (outsAt0 m c t.val t.isLt).2.2.2 = I0.dstNew := by
  rw [outsAt0_B m c t h0]
  dsimp only
  exact ⟨fig_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 I1 I0 (fun h => h0 ((hcond0_0 t).mp h)) h1 h2,
    tab_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 I1 I0 (fun h => h0 ((hcond0_0 t).mp h)) h1 h2,
    nw_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 I1 I0 (fun h => h0 ((hcond0_0 t).mp h)) h1 h2,
    st_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 I1 I0 (fun h => h0 ((hcond0_0 t).mp h)) h1 h2⟩

/-! ## The whole sweep -/

/-- A point whose stores are those of chunks `a + 1` and `a`. -/
theorem after_point (w : Fin 128 → ℝ) (H : Fin 16 → Hd) (hw : ∀ h, (H h).w = w) (n a : ℕ) (hn : 2 * (63 - n) = a) (ha : a + 2 ≤ 128)
    (o : Vec Ideal S128x8192 .bf16 × Vec Ideal S2x2048 .f32 × Vec Ideal S16x1x128 .f32 × Vec Ideal S16x128x128 .f32)
    (pt : S2x2048.Idx → EReal) (pn : S16x1x128.Idx → EReal)
    (hpt : ∀ r h k, pt (ix2 r (tcol h k)) = ((∑ n ∈ Finset.Ico (a + 2) 128, tabPart H n r h k : ℝ) : EReal))
    (hpn : ∀ r k, pn (ix3 r 0 k) = ((if r = 0 then ∑ n ∈ Finset.Ico (a + 2) 128, ∑ h : Fin 16, ((H h).chunk n).dNw k else 0 : ℝ) : EReal))
    (P : HoldsFig o.1 (IN w H (a + 1)) (IN w H a) ∧ HoldsTab o.2.1 pt (IN w H (a + 1)) (IN w H a) ∧ HoldsNw o.2.2.1 pn (IN w H (a + 1)) (IN w H a)
      ∧ o.2.2.2 = (IN w H a).dstNew) : After w H n o := by
  have A := after_of w H hw a ha pt pn hpt hpn _ _ P.2.1 P.2.2.1
  subst hn
  exact ⟨P.1, A.1, A.2, P.2.2.2.trans (IN_dstNew w H hw _ (by omega))⟩

theorem sweep (w : Fin 128 → ℝ) (H : Fin 16 → Hd) (hw : ∀ h, (H h).w = w) (hr : Reads m c w H) (n : ℕ) :
    ∀ hn : n < cfg0.N, After w H n (outsAt0 m c n hn) := by
  induction n with
  | zero =>
    intro hn
    have h1 := hr ⟨0, hn⟩ 1
    have h0 := hr ⟨0, hn⟩ 0
    change chunkIn 1 _ _ _ _ _ _ _ _ (IN w H 127).dst = IN w H 127 at h1
    change chunkIn 0 _ _ _ _ _ _ _ _ (IN w H 126).dst = IN w H 126 at h0
    rw [IN_dst_last] at h1
    have hd : (IN w H 127).dstNew = (IN w H 126).dst := IN_dstNew w H hw 127 (by omega)
    rw [← hd] at h0
    exact after_point w H hw 0 126 rfl (by omega) _ (fun _ => 0) (fun _ => 0) (fun r h k => by simp) (fun r k => by simp)
      (point_A m c ⟨0, hn⟩ _ _ rfl h1 h0)
  | succ n ih =>
    intro hn
    have hN := cfg0_N
    have P := ih (by omega)
    generalize ht : (⟨n + 1, hn⟩ : Fin cfg0.N) = t
    have htv : t.val = n + 1 := by rw [← ht]
    have h1 := hr t 1
    have h0 := hr t 0
    have e1 : 2 * (63 - n) = 2 * (63 - (n + 1)) + 2 := by omega
    rw [htv] at h1 h0
    generalize ha : 2 * (63 - (n + 1)) = a at h1 h0 e1
    have ha2 : a + 2 ≤ 128 := by omega
    change chunkIn 1 _ _ _ _ _ _ _ _ (IN w H (a + 1)).dst = IN w H (a + 1) at h1
    change chunkIn 0 _ _ _ _ _ _ _ _ (IN w H a).dst = IN w H a at h0
    have hd : (IN w H (a + 1)).dstNew = (IN w H a).dst := IN_dstNew w H hw (a + 1) (by omega)
    rw [← hd] at h0
    have hq : outsAt0 m c (t.val - 1) (Nat.lt_of_le_of_lt (Nat.sub_le _ _) t.isLt) = outsAt0 m c n (by omega) := by
      congr 1; omega
    have hp : (IN w H (a + 1)).dst = (outsAt0 m c (t.val - 1) (Nat.lt_of_le_of_lt (Nat.sub_le _ _) t.isLt)).2.2.2 := by rw [hq, P.st, e1]; rfl
    rw [hp] at h1
    have h00 : ¬t.val % 64 = 0 := by omega
    have hnt : outsAt0 m c (n + 1) hn = outsAt0 m c t.val t.isLt := by subst ht; rfl
    rw [hnt]
    exact after_point w H hw (n + 1) a ha ha2 _ _ _ (fun r h k => by rw [hq, P.tab, e1]) (fun r k => by rw [hq, P.nw, e1])
      (point_B m c t _ _ h00 h1 h0)

end Cert.Proof
-- ==== Proof.Nums.lean ====
/- The numbers of the four arguments, and the sixteen heads they make. -/
module

public import proofs.«01_k».proof.Proof.Head
public import proofs.«01_k».proof.Proof.Readout

@[expose] public section

noncomputable section

namespace Cert.Proof

open Idealize.ShloMosaic Idealize.ShloMosaic.ValueIdx
open scoped BigOperators

/-- The numbers of the projection, of the table, of the norm's weight and of the gradient that comes in. -/
structure Nums where
  r0 : Fin 8192 → Fin 8192 → ℝ
  r1 : Fin 2 → Fin 2048 → ℝ
  r2 : Fin 128 → ℝ
  r3 : Fin 8192 → Fin 2048 → ℝ

/-- A token's row. -/
def tok (t : ℕ) : Fin 8192 := ⟨t % 8192, Nat.mod_lt _ (by omega)⟩

theorem tok_val (t : Fin 8192) : tok t.val = t := Fin.ext (Nat.mod_eq_of_lt t.isLt)

/-- The head of a column of a table. -/
def hOf (c : Fin 2048) : Fin 16 := ⟨c.val / 128, by omega⟩

/-- The channel of a column of a table. -/
def kOf (c : Fin 2048) : Fin 128 := ⟨c.val % 128, by omega⟩

theorem tcol_of (c : Fin 2048) : tcol (hOf c) (kOf c) = c := by
  refine Fin.ext ?_
  show 128 * (c.val / 128) + c.val % 128 = c.val; omega

theorem hOf_tcol (h : Fin 16) (k : Fin 128) : hOf (tcol h k) = h := by
  refine Fin.ext ?_
  show (128 * h.val + k.val) / 128 = h.val; omega

theorem kOf_tcol (h : Fin 16) (k : Fin 128) : kOf (tcol h k) = k := by
  refine Fin.ext ?_
  show (128 * h.val + k.val) % 128 = k.val; omega

/-- The quantities with index pairs of tokens: what each pair adds to the gradient of the decay rates. -/
def Hd.pair (H : Hd) (t s : ℕ) (k : Fin 128) : ℝ := H.qh t k * H.key s k * H.dS t s * H.rel t s k

theorem Hd.pair_row (H : Hd) (t : ℕ) (k : Fin 128) : ∑ s ∈ Finset.range 8192, H.pair t s k = H.qh t k * H.dQh t k := by
  unfold Hd.dQh
  rw [Finset.mul_sum]
  exact Finset.sum_congr rfl fun s _ => by unfold Hd.pair; ring

theorem Hd.pair_col (H : Hd) (s : ℕ) (k : Fin 128) : ∑ t ∈ Finset.range 8192, H.pair t s k = H.key s k * H.dKey s k := by
  unfold Hd.dKey
  rw [Finset.mul_sum]
  exact Finset.sum_congr rfl fun t _ => by unfold Hd.pair; ring

theorem Hd.pair_masked (H : Hd) (t s : ℕ) (k : Fin 128) : (if s ≤ t then H.qh t k * H.key s k * H.dS t s * H.rel t s k else 0) = H.pair t s k := by
  unfold Hd.pair
  by_cases h : s ≤ t
  · rw [if_pos h]
  · rw [if_neg h, show H.rel t s k = 0 from if_neg h, mul_zero]

theorem Hd.pair_rest (H : Hd) (t : ℕ) (k : Fin 128) :
    -∑ u ∈ Finset.range 8192, H.pair u t k + ∑ s ∈ Finset.range 8192, H.pair t s k = H.qh t k * H.dQh t k - H.key t k * H.dKey t k := by
  rw [H.pair_row, H.pair_col, neg_add_eq_sub]

theorem Hd.dLb_parts (H : Hd) (k : Fin 128) :
    ∑ t ∈ Finset.range 8192, H.dForget t k + -∑ t ∈ Finset.range 8192, H.dForget t k * H.sigF t k = H.dLb k := by
  unfold Hd.dLb
  rw [Finset.sum_sub_distrib, sub_eq_add_neg]

theorem Hd.dT1_parts (H : Hd) (k : Fin 128) :
    -(H.dLb k * (1 / (H.eSum k * H.eSum k)) * Real.exp (H.t0 k)) * Real.exp (H.t1 k) = H.dT1 k := by
  unfold Hd.dT1 Hd.soft; ring

theorem Hd.dT0_parts (H : Hd) (k : Fin 128) :
    -(H.dLb k * (1 / (H.eSum k * H.eSum k)) * Real.exp (H.t0 k)) * Real.exp (H.t0 k) + H.dLb k / H.eSum k * Real.exp (H.t0 k) = H.dT0 k := by
  have h := (H.eSum_pos k).ne'
  have e : Real.exp (H.t1 k) = H.eSum k - Real.exp (H.t0 k) := by unfold Hd.eSum; ring
  unfold Hd.dT0 Hd.soft
  rw [e]
  field_simp
  ring

theorem Hd.forget_pos (H : Hd) (t : ℕ) (k : Fin 128) : 0 < H.forget t k := by
  have h0 := Real.exp_pos (H.t0 k)
  have h1 := Real.exp_pos (H.t1 k)
  have hs : 0 < H.sigF t k := inv_pos.2 (add_pos one_pos (Real.exp_pos _))
  have hl : 0 < H.lb k := div_pos h0 (H.eSum_pos k)
  have hr : 0 < H.rest k := sub_pos.2 ((div_lt_one (H.eSum_pos k)).2 (by unfold Hd.eSum; linarith))
  exact add_pos hl (mul_pos hr hs)

theorem Hd.msEps_pos (H : Hd) (t : ℕ) : 0 < H.msEps t :=
  add_pos_of_nonneg_of_pos (div_nonneg (Finset.sum_nonneg fun _ _ => mul_self_nonneg _) (by norm_num)) cEps_pos

namespace Nums

variable (A : Nums)

/-- One head. -/
def hd (h : Fin 16) : Hd where
  t0 k := A.r1 0 (tcol h k)
  t1 k := A.r1 1 (tcol h k)
  w k := A.r2 k
  q t k := A.r0 (tok t) (col 0 h k)
  f t k := A.r0 (tok t) (col 1 h k)
  v t k := A.r0 (tok t) (col 2 h k)
  g t k := A.r0 (tok t) (col 3 h k)
  dy t k := A.r3 (tok t) (tcol h k)

def X0 : (⟨2, ![8192, 8192]⟩ : Shape).Idx → EReal := fun i => ((A.r0 (i 0) (i 1) : ℝ) : EReal)
def X1 : (⟨2, ![2, 2048]⟩ : Shape).Idx → EReal := fun i => ((A.r1 (i 0) (i 1) : ℝ) : EReal)
def X2 : (⟨2, ![1, 128]⟩ : Shape).Idx → EReal := fun i => ((A.r2 (i 1) : ℝ) : EReal)
def X3 : (⟨2, ![8192, 2048]⟩ : Shape).Idx → EReal := fun i => ((A.r3 (i 0) (i 1) : ℝ) : EReal)

end Nums

end Cert.Proof

end
-- ==== Proof.Ref.lean ====
/- What every operation of the reference leaves, as numbers of the sixteen heads. -/
module

public import proofs.«01_k».proof.Proof.Gen.ReferenceIdeal.Read
public import proofs.«01_k».proof.Proof.Nums
public import proofs.«01_k».proof.Proof.Lift

@[expose] public section

noncomputable section

namespace Cert.Proof

open Idealize.ShloMosaic Idealize.ShloMosaic.ValueIdx Idealize.SL.Sem Cert.ReferenceIdeal Cert.ReferenceIdeal.Gen Cert.ReferenceIdeal.Read
open scoped BigOperators

/-! ## One operation on numbers -/

section
variable {x y : Ideal .f32} {a b : ℝ}

theorem r_add (hx : x = (a : EReal)) (hy : y = (b : EReal)) : FloatOps.addf x y = ((a + b : ℝ) : EReal) := by
  rw [hx, hy]; exact (EReal.coe_add _ _).symm
theorem r_sub (hx : x = (a : EReal)) (hy : y = (b : EReal)) : FloatOps.subf x y = ((a - b : ℝ) : EReal) := by
  rw [hx, hy]; exact (EReal.coe_sub _ _).symm
theorem r_mul (hx : x = (a : EReal)) (hy : y = (b : EReal)) : FloatOps.mulf x y = ((a * b : ℝ) : EReal) := by
  rw [hx, hy]; exact (EReal.coe_mul _ _).symm
theorem r_neg (hx : x = (a : EReal)) : FloatOps.hostNegf x = ((-a : ℝ) : EReal) := by
  rw [hx]; exact (EReal.coe_neg _).symm
theorem r_exp (hx : x = (a : EReal)) : FloatOps.hostUnary .exp x = ((Real.exp a : ℝ) : EReal) := by
  rw [hx]; exact Ideal.exp_coe _
theorem r_log (h : 0 < a) (hx : x = (a : EReal)) : FloatOps.hostUnary .log x = ((Real.log a : ℝ) : EReal) := by
  rw [hx]
  refine (Ideal.log_coe _).trans ?_
  rw [if_neg (not_le.2 h)]
theorem r_rsqrt (h : 0 < a) (hx : x = (a : EReal)) : FloatOps.hostUnary .rsqrt x = (((Real.sqrt a)⁻¹ : ℝ) : EReal) := by
  rw [hx]
  refine (Ideal.rsqrt_coe _).trans ?_
  rw [if_neg h.le.not_gt, if_neg h.ne']
theorem r_div (h : b ≠ 0) (hx : x = (a : EReal)) (hy : y = (b : EReal)) : FloatOps.hostDivf x y = ((a / b : ℝ) : EReal) := by
  rw [hx, hy]
  refine (Ideal.div_coe h _).trans ?_
  rw [← EReal.coe_mul, mul_one_div]
/-- One over one plus an exponential. -/
theorem r_inv {c : ℝ} (hx : x = ((1 : ℝ) : EReal)) (hy : y = ((1 + Real.exp c : ℝ) : EReal)) :
    FloatOps.hostDivf x y = (((1 + Real.exp c)⁻¹ : ℝ) : EReal) :=
  (r_div (add_pos one_pos (Real.exp_pos c)).ne' hx hy).trans (by rw [one_div])
theorem r_select {p : BitVec 1} {P : Prop} [Decidable P] (hp : p = BitVec.ofBool (decide P)) (hx : x = (a : EReal)) (hy : y = (b : EReal)) :
    Scalar.select p x y = (((if P then a else b) : ℝ) : EReal) := by
  rw [hp, hx, hy]
  by_cases h : P <;> simp only [h, if_true, if_false, decide_true, decide_false] <;> rfl
end

theorem r_sum {n : ℕ} {z : Ideal .f32} {f : Fin n → Ideal .f32} {g : Fin n → ℝ} (hz : z = ((0 : ℝ) : EReal)) (hf : ∀ k, f k = (g k : EReal)) :
    z + ∑ k, f k = ((∑ k, g k : ℝ) : EReal) := by
  rw [hz, coe_sum]
  exact (zero_add (∑ k, f k : EReal)).trans (Finset.sum_congr rfl fun k _ => hf k)
theorem r_sum_range {z : Ideal .f32} {f : Fin 8192 → Ideal .f32} (g : ℕ → ℝ) (hz : z = ((0 : ℝ) : EReal)) (hf : ∀ k, f k = (g k.val : EReal)) :
    z + ∑ k, f k = ((∑ t ∈ Finset.range 8192, g t : ℝ) : EReal) := by
  rw [Finset.sum_range]; exact r_sum hz hf
theorem r_sum_one {z : Ideal .f32} {f : Fin 1 → Ideal .f32} {a : ℝ} (hz : z = ((0 : ℝ) : EReal)) (hf : f 0 = (a : EReal)) :
    z + ∑ k, f k = (a : EReal) := by
  rw [hz, Fin.sum_univ_one, hf]; exact zero_add (a : EReal)
theorem r_dot {n : ℕ} {f g : Fin n → Ideal .f32} {a b : Fin n → ℝ} (hf : ∀ k, f k = (a k : EReal)) (hg : ∀ k, g k = (b k : EReal)) :
    (∑ k, f k * g k : EReal) = ((∑ k, a k * b k : ℝ) : EReal) := by
  rw [coe_sum]
  exact Finset.sum_congr rfl fun k _ => by rw [hf, hg]; exact (EReal.coe_mul _ _).symm

/-! ## Reshapes, as columns and heads -/

theorem to_heads (G : Fin 16 → ℕ → Fin 128 → ℝ) (a : Fin 8192) (h : Fin 16) (k : Fin 128) :
    G (hOf ⟨((a.val * 16 + h.val) * 128 + k.val) % 2048, by omega⟩) (((a.val * 16 + h.val) * 128 + k.val) / 2048)
      (kOf ⟨((a.val * 16 + h.val) * 128 + k.val) % 2048, by omega⟩) = G h a.val k := by
  rw [show hOf ⟨((a.val * 16 + h.val) * 128 + k.val) % 2048, by omega⟩ = h from Fin.ext (by show (((a.val * 16 + h.val) * 128 + k.val) % 2048) / 128 = h.val; omega),
    show kOf ⟨((a.val * 16 + h.val) * 128 + k.val) % 2048, by omega⟩ = k from Fin.ext (by show (((a.val * 16 + h.val) * 128 + k.val) % 2048) % 128 = k.val; omega),
    show ((a.val * 16 + h.val) * 128 + k.val) / 2048 = a.val by omega]
theorem to_columns (G : Fin 16 → ℕ → Fin 128 → ℝ) (a : Fin 8192) (c : Fin 2048) :
    G ⟨(a.val * 2048 + c.val) / 128 % 16, by omega⟩ ((a.val * 2048 + c.val) / 2048) ⟨(a.val * 2048 + c.val) % 128, by omega⟩ = G (hOf c) a.val (kOf c) := by
  rw [show (⟨(a.val * 2048 + c.val) / 128 % 16, by omega⟩ : Fin 16) = hOf c from Fin.ext (by show (a.val * 2048 + c.val) / 128 % 16 = c.val / 128; omega),
    show (⟨(a.val * 2048 + c.val) % 128, by omega⟩ : Fin 128) = kOf c from Fin.ext (by show (a.val * 2048 + c.val) % 128 = c.val % 128; omega),
    show (a.val * 2048 + c.val) / 2048 = a.val by omega]
theorem of_rows (G : Fin 16 → ℕ → Fin 128 → ℝ) (a : Fin 8192) (z : Fin 1) (h : Fin 16) (k : Fin 128) :
    G ⟨(((a.val * 1 + z.val) * 16 + h.val) * 128 + k.val) / 128 % 16, by omega⟩ ((((a.val * 1 + z.val) * 16 + h.val) * 128 + k.val) / 2048)
      ⟨(((a.val * 1 + z.val) * 16 + h.val) * 128 + k.val) % 128, by omega⟩ = G h a.val k := by
  rw [show (⟨(((a.val * 1 + z.val) * 16 + h.val) * 128 + k.val) / 128 % 16, by omega⟩ : Fin 16) = h from Fin.ext (by show (((a.val * 1 + z.val) * 16 + h.val) * 128 + k.val) / 128 % 16 = h.val; omega),
    show (⟨(((a.val * 1 + z.val) * 16 + h.val) * 128 + k.val) % 128, by omega⟩ : Fin 128) = k from Fin.ext (by show (((a.val * 1 + z.val) * 16 + h.val) * 128 + k.val) % 128 = k.val; omega),
    show (((a.val * 1 + z.val) * 16 + h.val) * 128 + k.val) / 2048 = a.val by omega]
theorem of_cols (G : Fin 16 → ℕ → Fin 128 → ℝ) (z : Fin 1) (a : Fin 8192) (h : Fin 16) (k : Fin 128) :
    G ⟨(((z.val * 8192 + a.val) * 16 + h.val) * 128 + k.val) / 128 % 16, by omega⟩ ((((z.val * 8192 + a.val) * 16 + h.val) * 128 + k.val) / 2048)
      ⟨(((z.val * 8192 + a.val) * 16 + h.val) * 128 + k.val) % 128, by omega⟩ = G h a.val k := by
  rw [show (⟨(((z.val * 8192 + a.val) * 16 + h.val) * 128 + k.val) / 128 % 16, by omega⟩ : Fin 16) = h from Fin.ext (by show (((z.val * 8192 + a.val) * 16 + h.val) * 128 + k.val) / 128 % 16 = h.val; omega),
    show (⟨(((z.val * 8192 + a.val) * 16 + h.val) * 128 + k.val) % 128, by omega⟩ : Fin 128) = k from Fin.ext (by show (((z.val * 8192 + a.val) * 16 + h.val) * 128 + k.val) % 128 = k.val; omega),
    show (((z.val * 8192 + a.val) * 16 + h.val) * 128 + k.val) / 2048 = a.val by omega]
theorem of_lone (G : Fin 16 → Fin 128 → ℝ) (z : Fin 1) (h : Fin 16) (k : Fin 128) :
    G ⟨((z.val * 16 + h.val) * 128 + k.val) / 128, by omega⟩ ⟨((z.val * 16 + h.val) * 128 + k.val) % 128, by omega⟩ = G h k := by
  rw [show (⟨((z.val * 16 + h.val) * 128 + k.val) / 128, by omega⟩ : Fin 16) = h from Fin.ext (by show ((z.val * 16 + h.val) * 128 + k.val) / 128 = h.val; omega),
    show (⟨((z.val * 16 + h.val) * 128 + k.val) % 128, by omega⟩ : Fin 128) = k from Fin.ext (by show ((z.val * 16 + h.val) * 128 + k.val) % 128 = k.val; omega)]
theorem of_last (G : Fin 16 → ℕ → ℝ) (a : Fin 8192) (h : Fin 16) (z : Fin 1) :
    G ⟨((a.val * 16 + h.val) * 1 + z.val) % 16, by omega⟩ (((a.val * 16 + h.val) * 1 + z.val) / 16) = G h a.val := by
  rw [show (⟨((a.val * 16 + h.val) * 1 + z.val) % 16, by omega⟩ : Fin 16) = h from Fin.ext (by show ((a.val * 16 + h.val) * 1 + z.val) % 16 = h.val; omega),
    show ((a.val * 16 + h.val) * 1 + z.val) / 16 = a.val by omega]
theorem of_line (G : Fin 16 → Fin 128 → ℝ) (z : Fin 1) (c : Fin 2048) :
    G (hOf ⟨z.val * 2048 + c.val, by omega⟩) (kOf ⟨z.val * 2048 + c.val, by omega⟩) = G (hOf c) (kOf c) := by
  rw [show (⟨z.val * 2048 + c.val, by omega⟩ : Fin 2048) = c from Fin.ext (by show z.val * 2048 + c.val = c.val; omega)]
theorem of_point (G : Fin 128 → ℝ) (z y : Fin 1) (k : Fin 128) : G ⟨((z.val * 1 + y.val) * 128 + k.val) % 128, by omega⟩ = G k := by
  rw [show (⟨((z.val * 1 + y.val) * 128 + k.val) % 128, by omega⟩ : Fin 128) = k from Fin.ext (by show ((z.val * 1 + y.val) * 128 + k.val) % 128 = k.val; omega)]

/-! ## The masks -/

theorem sge_small (a b : ℕ) (ha : a < 8192) (hb : b < 8192) :
    IntOp.cmpi .sge (BitVec.ofNat 32 a) (BitVec.ofNat 32 b) = BitVec.ofBool (decide (b ≤ a)) := by
  have ea : (BitVec.ofNat 32 a).toInt = a := by
    rw [BitVec.toInt_eq_toNat_of_lt (by rw [BitVec.toNat_ofNat]; omega), BitVec.toNat_ofNat]; omega
  have eb : (BitVec.ofNat 32 b).toInt = b := by
    rw [BitVec.toInt_eq_toNat_of_lt (by rw [BitVec.toNat_ofNat]; omega), BitVec.toNat_ofNat]; omega
  show BitVec.ofBool (BitVec.sle (BitVec.ofNat 32 b) (BitVec.ofNat 32 a)) = _
  refine congrArg _ ?_
  rw [BitVec.sle, ea, eb]
  exact decide_eq_decide.2 (by omega)

theorem b_v55 (i : S8192x8192.Idx) : val_main_v55 (F := Ideal) i = BitVec.ofBool (decide ((i 1).val ≤ (i 0).val)) := by
  rw [val_main_v55_apply, val_main_v53_apply, val_main_v54_apply, val_main_v51_apply, val_main_v52_apply, val_main_v50_apply, val_main_v50_apply]
  exact sge_small _ _ (i 0).isLt (i 1).isLt

theorem b_v48 (i : S8192x8192.Idx) : val_main_v48 (F := Ideal) i = BitVec.ofBool (decide ((i 1).val ≤ (i 0).val)) := by
  rw [val_main_v48_apply, val_main_v46_apply, val_main_v47_apply, val_main_v44_apply, val_main_v45_apply, val_main_v43_apply, val_main_v43_apply]
  exact sge_small _ _ (i 0).isLt (i 1).isLt

theorem b_v58_1 (i : S8192x8192x16x128.Idx) : val_main_v58_1 (F := Ideal) i = BitVec.ofBool (decide ((i 1).val ≤ (i 0).val)) := by
  rw [val_main_v58_1_apply, val_main_v56_apply]; exact b_v55 _

theorem b_v65_1 (i : S8192x8192x16x128.Idx) : val_main_v65_1 (F := Ideal) i = BitVec.ofBool (decide ((i 1).val ≤ (i 0).val)) := by
  rw [val_main_v65_1_apply, val_main_v49_apply]; exact b_v48 _

/-! ## The operations -/

theorem lit_bot : (Scalar.ofBits .f32 0xFF800000#32 : Ideal .f32) = (⊥ : EReal) := by
  simp [Scalar.ofBits, Ideal.ofBits, Ideal.ieee]

variable (A : Nums)

theorem Nums.forget_pos (h : Fin 16) (t : ℕ) (k : Fin 128) : 0 < (A.hd h).forget t k := Hd.forget_pos _ t k

theorem msEps_pos (H : Hd) (t : ℕ) : 0 < H.msEps t := H.msEps_pos t

theorem r_v0 (i : Cert.ReferenceIdeal.S8192x2048.Idx) : val_main_v0 (F := Ideal) A.X0 i = (((A.hd (hOf (i 1))).q (i 0).val (kOf (i 1)) : ℝ) : EReal) := by
  refine (val_main_v0_apply (F := Ideal) A.X0 i).trans ?_
  refine congrArg (fun x : ℝ => (x : EReal)) (congrArg₂ A.r0 (tok_val (i 0)).symm (Fin.ext ?_))
  show (i 1).val = 2048 * 0 + 128 * ((i 1).val / 128) + (i 1).val % 128
  omega

theorem r_v1 (i : Cert.ReferenceIdeal.S8192x2048.Idx) : val_main_v1 (F := Ideal) A.X0 i = (((A.hd (hOf (i 1))).f (i 0).val (kOf (i 1)) : ℝ) : EReal) := by
  refine (val_main_v1_apply (F := Ideal) A.X0 i).trans ?_
  refine congrArg (fun x : ℝ => (x : EReal)) (congrArg₂ A.r0 (tok_val (i 0)).symm (Fin.ext ?_))
  show 2048 + (i 1).val = 2048 * 1 + 128 * ((i 1).val / 128) + (i 1).val % 128
  omega

theorem r_v2 (i : Cert.ReferenceIdeal.S8192x2048.Idx) : val_main_v2 (F := Ideal) A.X0 i = (((A.hd (hOf (i 1))).v (i 0).val (kOf (i 1)) : ℝ) : EReal) := by
  refine (val_main_v2_apply (F := Ideal) A.X0 i).trans ?_
  refine congrArg (fun x : ℝ => (x : EReal)) (congrArg₂ A.r0 (tok_val (i 0)).symm (Fin.ext ?_))
  show 4096 + (i 1).val = 2048 * 2 + 128 * ((i 1).val / 128) + (i 1).val % 128
  omega

theorem r_v3 (i : Cert.ReferenceIdeal.S8192x2048.Idx) : val_main_v3 (F := Ideal) A.X0 i = (((A.hd (hOf (i 1))).g (i 0).val (kOf (i 1)) : ℝ) : EReal) := by
  refine (val_main_v3_apply (F := Ideal) A.X0 i).trans ?_
  refine congrArg (fun x : ℝ => (x : EReal)) (congrArg₂ A.r0 (tok_val (i 0)).symm (Fin.ext ?_))
  show 6144 + (i 1).val = 2048 * 3 + 128 * ((i 1).val / 128) + (i 1).val % 128
  omega

theorem r_v4 (i : Cert.ReferenceIdeal.S1x2048.Idx) : val_main_v4 (F := Ideal) A.X1 i = (((A.hd (hOf (i 1))).t0 (kOf (i 1)) : ℝ) : EReal) := by
  refine (val_main_v4_apply (F := Ideal) A.X1 i).trans ?_
  refine congrArg (fun x : ℝ => (x : EReal)) (congrArg₂ A.r1 (Fin.ext ?_) (tcol_of (i 1)).symm)
  have h : (i 0).val < 1 := (i 0).isLt
  show (i 0).val = 0
  omega

theorem r_v5 (i : Cert.ReferenceIdeal.S2048.Idx) : val_main_v5 (F := Ideal) A.X1 i = (((A.hd (hOf (i 0))).t0 (kOf (i 0)) : ℝ) : EReal) := by
  refine ((val_main_v5_apply (F := Ideal) A.X1 i).trans (r_v4 A (idx_main_v5 i))).trans ?_
  have e : idx_main_v5 i 1 = i 0 := Fin.ext (Nat.mod_eq_of_lt (i 0).isLt)
  rw [e]

theorem r_v6 (i : Cert.ReferenceIdeal.S1x2048.Idx) : val_main_v6 (F := Ideal) A.X1 i = (((A.hd (hOf (i 1))).t1 (kOf (i 1)) : ℝ) : EReal) := by
  refine (val_main_v6_apply (F := Ideal) A.X1 i).trans ?_
  refine congrArg (fun x : ℝ => (x : EReal)) (congrArg₂ A.r1 (Fin.ext ?_) (tcol_of (i 1)).symm)
  have h : (i 0).val < 1 := (i 0).isLt
  show 1 + (i 0).val = 1
  omega

theorem r_v7 (i : Cert.ReferenceIdeal.S2048.Idx) : val_main_v7 (F := Ideal) A.X1 i = (((A.hd (hOf (i 0))).t1 (kOf (i 0)) : ℝ) : EReal) := by
  refine ((val_main_v7_apply (F := Ideal) A.X1 i).trans (r_v6 A (idx_main_v7 i))).trans ?_
  have e : idx_main_v7 i 1 = i 0 := Fin.ext (Nat.mod_eq_of_lt (i 0).isLt)
  rw [e]

theorem r_call0_v0 (i : Cert.ReferenceIdeal.S8192x2048.Idx) : val_main_call0_v0 (F := Ideal) A.X0 i = ((-(A.hd (hOf (i 1))).q (i 0).val (kOf (i 1)) : ℝ) : EReal) :=
  (val_main_call0_v0_apply (F := Ideal) A.X0 i).trans (r_neg (r_v0 A i))

theorem r_call0_v1 (i : Cert.ReferenceIdeal.S8192x2048.Idx) : val_main_call0_v1 (F := Ideal) A.X0 i = ((Real.exp (-(A.hd (hOf (i 1))).q (i 0).val (kOf (i 1))) : ℝ) : EReal) :=
  (val_main_call0_v1_apply (F := Ideal) A.X0 i).trans (r_exp (r_call0_v0 A i))

theorem r_call0_v2 (i : Cert.ReferenceIdeal.S8192x2048.Idx) : val_main_call0_v2 (F := Ideal) i = (((1:ℝ) : ℝ) : EReal) :=
  (val_main_call0_v2_apply (F := Ideal) i).trans lit_one

theorem r_call0_v3 (i : Cert.ReferenceIdeal.S8192x2048.Idx) : val_main_call0_v3 (F := Ideal) A.X0 i = ((1 + Real.exp (-(A.hd (hOf (i 1))).q (i 0).val (kOf (i 1))) : ℝ) : EReal) :=
  (val_main_call0_v3_apply (F := Ideal) A.X0 i).trans (r_add (r_call0_v2 i) (r_call0_v1 A i))

theorem r_call0_v4 (i : Cert.ReferenceIdeal.S8192x2048.Idx) : val_main_call0_v4 (F := Ideal) i = (((1:ℝ) : ℝ) : EReal) :=
  (val_main_call0_v4_apply (F := Ideal) i).trans lit_one

theorem r_v8_2 (i : Cert.ReferenceIdeal.S8192x2048.Idx) : val_main_v8_2 (F := Ideal) A.X0 i = (((A.hd (hOf (i 1))).sigQ (i 0).val (kOf (i 1)) : ℝ) : EReal) :=
  (val_main_v8_2_apply (F := Ideal) A.X0 i).trans (r_inv (r_call0_v4 i) (r_call0_v3 A i))

theorem r_call0_v6 (i : Cert.ReferenceIdeal.S8192x2048.Idx) : val_main_call0_v6 (F := Ideal) i = (((1:ℝ) : ℝ) : EReal) :=
  (val_main_call0_v6_apply (F := Ideal) i).trans lit_one

theorem r_call0_v7 (i : Cert.ReferenceIdeal.S8192x2048.Idx) : val_main_call0_v7 (F := Ideal) A.X0 i = ((1 - (A.hd (hOf (i 1))).sigQ (i 0).val (kOf (i 1)) : ℝ) : EReal) :=
  (val_main_call0_v7_apply (F := Ideal) A.X0 i).trans (r_sub (r_call0_v6 i) (r_v8_2 A i))

theorem r_v8_1 (i : Cert.ReferenceIdeal.S8192x2048.Idx) : val_main_v8_1 (F := Ideal) A.X0 i = (((A.hd (hOf (i 1))).sigQ (i 0).val (kOf (i 1)) * (1 - (A.hd (hOf (i 1))).sigQ (i 0).val (kOf (i 1))) : ℝ) : EReal) :=
  (val_main_v8_1_apply (F := Ideal) A.X0 i).trans (r_mul (r_v8_2 A i) (r_call0_v7 A i))

theorem r_v8_0 (i : Cert.ReferenceIdeal.S8192x2048.Idx) : val_main_v8_0 (F := Ideal) A.X0 i = (((A.hd (hOf (i 1))).q (i 0).val (kOf (i 1)) * (A.hd (hOf (i 1))).sigQ (i 0).val (kOf (i 1)) : ℝ) : EReal) :=
  (val_main_v8_0_apply (F := Ideal) A.X0 i).trans (r_mul (r_v0 A i) (r_v8_2 A i))

theorem r_v9 (i : Cert.ReferenceIdeal.S8192x2048.Idx) : val_main_v9 (F := Ideal) i = ((cScale : ℝ) : EReal) :=
  (val_main_v9_apply (F := Ideal) i).trans lit_scale

theorem r_v10 (i : Cert.ReferenceIdeal.S8192x2048.Idx) : val_main_v10 (F := Ideal) A.X0 i = (((A.hd (hOf (i 1))).qh (i 0).val (kOf (i 1)) : ℝ) : EReal) :=
  (val_main_v10_apply (F := Ideal) A.X0 i).trans (r_mul (r_v8_0 A i) (r_v9 i))

theorem r_v11 (i : Cert.ReferenceIdeal.S8192x16x128.Idx) : val_main_v11 (F := Ideal) A.X0 i = (((A.hd (i 1)).qh (i 0).val (i 2) : ℝ) : EReal) :=
  ((val_main_v11_apply (F := Ideal) A.X0 i).trans (r_v10 A (idx_main_v11 i))).trans (congrArg _ (to_heads (fun h t_ k => (A.hd h).qh t_ k) (i 0) (i 1) (i 2)))

theorem r_v12 (i : Cert.ReferenceIdeal.S2048.Idx) : val_main_v12 (F := Ideal) A.X1 i = ((Real.exp ((A.hd (hOf (i 0))).t0 (kOf (i 0))) : ℝ) : EReal) :=
  (val_main_v12_apply (F := Ideal) A.X1 i).trans (r_exp (r_v5 A i))

theorem r_v13 (i : Cert.ReferenceIdeal.S2048.Idx) : val_main_v13 (F := Ideal) A.X1 i = ((Real.exp ((A.hd (hOf (i 0))).t0 (kOf (i 0))) : ℝ) : EReal) :=
  (val_main_v13_apply (F := Ideal) A.X1 i).trans (r_exp (r_v5 A i))

theorem r_v14 (i : Cert.ReferenceIdeal.S2048.Idx) : val_main_v14 (F := Ideal) A.X1 i = ((Real.exp ((A.hd (hOf (i 0))).t1 (kOf (i 0))) : ℝ) : EReal) :=
  (val_main_v14_apply (F := Ideal) A.X1 i).trans (r_exp (r_v7 A i))

theorem r_v15 (i : Cert.ReferenceIdeal.S2048.Idx) : val_main_v15 (F := Ideal) A.X1 i = (((A.hd (hOf (i 0))).eSum (kOf (i 0)) : ℝ) : EReal) :=
  (val_main_v15_apply (F := Ideal) A.X1 i).trans (r_add (r_v13 A i) (r_v14 A i))

theorem r_v16 (i : Cert.ReferenceIdeal.S2048.Idx) : val_main_v16 (F := Ideal) A.X1 i = (((A.hd (hOf (i 0))).lb (kOf (i 0)) : ℝ) : EReal) :=
  (val_main_v16_apply (F := Ideal) A.X1 i).trans (r_div (Hd.eSum_pos _ _).ne' (r_v12 A i) (r_v15 A i))

theorem r_v17 (i : Cert.ReferenceIdeal.S2048.Idx) : val_main_v17 (F := Ideal) A.X1 i = (((A.hd (hOf (i 0))).eSum (kOf (i 0)) * (A.hd (hOf (i 0))).eSum (kOf (i 0)) : ℝ) : EReal) :=
  (val_main_v17_apply (F := Ideal) A.X1 i).trans (r_mul (r_v15 A i) (r_v15 A i))

theorem r_v18 (i : Cert.ReferenceIdeal.S2048.Idx) : val_main_v18 (F := Ideal) i = (((1:ℝ) : ℝ) : EReal) :=
  (val_main_v18_apply (F := Ideal) i).trans lit_one

theorem r_v19 (i : Cert.ReferenceIdeal.S2048.Idx) : val_main_v19 (F := Ideal) A.X1 i = ((1 / ((A.hd (hOf (i 0))).eSum (kOf (i 0)) * (A.hd (hOf (i 0))).eSum (kOf (i 0))) : ℝ) : EReal) :=
  (val_main_v19_apply (F := Ideal) A.X1 i).trans (r_div (mul_pos (Hd.eSum_pos _ _) (Hd.eSum_pos _ _)).ne' (r_v18 i) (r_v17 A i))

theorem r_v20 (i : Cert.ReferenceIdeal.S2048.Idx) : val_main_v20 (F := Ideal) i = (((1:ℝ) : ℝ) : EReal) :=
  (val_main_v20_apply (F := Ideal) i).trans lit_one

theorem r_v21 (i : Cert.ReferenceIdeal.S2048.Idx) : val_main_v21 (F := Ideal) A.X1 i = (((A.hd (hOf (i 0))).rest (kOf (i 0)) : ℝ) : EReal) :=
  (val_main_v21_apply (F := Ideal) A.X1 i).trans (r_sub (r_v20 i) (r_v16 A i))

theorem r_v22 (i : Cert.ReferenceIdeal.S8192x2048.Idx) : val_main_v22 (F := Ideal) A.X0 i = ((-(A.hd (hOf (i 1))).f (i 0).val (kOf (i 1)) : ℝ) : EReal) :=
  (val_main_v22_apply (F := Ideal) A.X0 i).trans (r_neg (r_v1 A i))

theorem r_v23 (i : Cert.ReferenceIdeal.S8192x2048.Idx) : val_main_v23 (F := Ideal) A.X0 i = ((Real.exp (-(A.hd (hOf (i 1))).f (i 0).val (kOf (i 1))) : ℝ) : EReal) :=
  (val_main_v23_apply (F := Ideal) A.X0 i).trans (r_exp (r_v22 A i))

theorem r_v24 (i : Cert.ReferenceIdeal.S8192x2048.Idx) : val_main_v24 (F := Ideal) i = (((1:ℝ) : ℝ) : EReal) :=
  (val_main_v24_apply (F := Ideal) i).trans lit_one

theorem r_v25 (i : Cert.ReferenceIdeal.S8192x2048.Idx) : val_main_v25 (F := Ideal) A.X0 i = ((1 + Real.exp (-(A.hd (hOf (i 1))).f (i 0).val (kOf (i 1))) : ℝ) : EReal) :=
  (val_main_v25_apply (F := Ideal) A.X0 i).trans (r_add (r_v24 i) (r_v23 A i))

theorem r_v26 (i : Cert.ReferenceIdeal.S8192x2048.Idx) : val_main_v26 (F := Ideal) i = (((1:ℝ) : ℝ) : EReal) :=
  (val_main_v26_apply (F := Ideal) i).trans lit_one

theorem r_v27 (i : Cert.ReferenceIdeal.S8192x2048.Idx) : val_main_v27 (F := Ideal) A.X0 i = (((A.hd (hOf (i 1))).sigF (i 0).val (kOf (i 1)) : ℝ) : EReal) :=
  (val_main_v27_apply (F := Ideal) A.X0 i).trans (r_inv (r_v26 i) (r_v25 A i))

theorem r_v28 (i : Cert.ReferenceIdeal.S8192x2048.Idx) : val_main_v28 (F := Ideal) i = (((1:ℝ) : ℝ) : EReal) :=
  (val_main_v28_apply (F := Ideal) i).trans lit_one

theorem r_v29 (i : Cert.ReferenceIdeal.S8192x2048.Idx) : val_main_v29 (F := Ideal) A.X0 i = ((1 - (A.hd (hOf (i 1))).sigF (i 0).val (kOf (i 1)) : ℝ) : EReal) :=
  (val_main_v29_apply (F := Ideal) A.X0 i).trans (r_sub (r_v28 i) (r_v27 A i))

theorem r_v30 (i : Cert.ReferenceIdeal.S8192x2048.Idx) : val_main_v30 (F := Ideal) A.X0 i = (((A.hd (hOf (i 1))).sigF (i 0).val (kOf (i 1)) * (1 - (A.hd (hOf (i 1))).sigF (i 0).val (kOf (i 1))) : ℝ) : EReal) :=
  (val_main_v30_apply (F := Ideal) A.X0 i).trans (r_mul (r_v27 A i) (r_v29 A i))

theorem r_v31 (i : Cert.ReferenceIdeal.S1x2048.Idx) : val_main_v31 (F := Ideal) A.X1 i = (((A.hd (hOf (i 1))).rest (kOf (i 1)) : ℝ) : EReal) :=
  (val_main_v31_apply (F := Ideal) A.X1 i).trans (r_v21 A (idx_main_v31 i))

theorem r_v32 (i : Cert.ReferenceIdeal.S8192x2048.Idx) : val_main_v32 (F := Ideal) A.X1 i = (((A.hd (hOf (i 1))).rest (kOf (i 1)) : ℝ) : EReal) :=
  (val_main_v32_apply (F := Ideal) A.X1 i).trans (r_v31 A (idx_main_v32 i))

theorem r_v33 (i : Cert.ReferenceIdeal.S8192x2048.Idx) : val_main_v33 (F := Ideal) A.X0 A.X1 i = (((A.hd (hOf (i 1))).rest (kOf (i 1)) * (A.hd (hOf (i 1))).sigF (i 0).val (kOf (i 1)) : ℝ) : EReal) :=
  (val_main_v33_apply (F := Ideal) A.X0 A.X1 i).trans (r_mul (r_v32 A i) (r_v27 A i))

theorem r_v34 (i : Cert.ReferenceIdeal.S1x2048.Idx) : val_main_v34 (F := Ideal) A.X1 i = (((A.hd (hOf (i 1))).lb (kOf (i 1)) : ℝ) : EReal) :=
  (val_main_v34_apply (F := Ideal) A.X1 i).trans (r_v16 A (idx_main_v34 i))

theorem r_v35 (i : Cert.ReferenceIdeal.S8192x2048.Idx) : val_main_v35 (F := Ideal) A.X1 i = (((A.hd (hOf (i 1))).lb (kOf (i 1)) : ℝ) : EReal) :=
  (val_main_v35_apply (F := Ideal) A.X1 i).trans (r_v34 A (idx_main_v35 i))

theorem r_v36 (i : Cert.ReferenceIdeal.S8192x2048.Idx) : val_main_v36 (F := Ideal) A.X0 A.X1 i = (((A.hd (hOf (i 1))).forget (i 0).val (kOf (i 1)) : ℝ) : EReal) :=
  (val_main_v36_apply (F := Ideal) A.X0 A.X1 i).trans (r_add (r_v35 A i) (r_v33 A i))

theorem r_v37 (i : Cert.ReferenceIdeal.S8192x2048.Idx) : val_main_v37 (F := Ideal) i = (((1:ℝ) : ℝ) : EReal) :=
  (val_main_v37_apply (F := Ideal) i).trans lit_one

theorem r_v38 (i : Cert.ReferenceIdeal.S8192x2048.Idx) : val_main_v38 (F := Ideal) A.X0 A.X1 i = (((A.hd (hOf (i 1))).key (i 0).val (kOf (i 1)) : ℝ) : EReal) :=
  (val_main_v38_apply (F := Ideal) A.X0 A.X1 i).trans (r_sub (r_v37 i) (r_v36 A i))

theorem r_v39 (i : Cert.ReferenceIdeal.S8192x16x128.Idx) : val_main_v39 (F := Ideal) A.X0 A.X1 i = (((A.hd (i 1)).key (i 0).val (i 2) : ℝ) : EReal) :=
  ((val_main_v39_apply (F := Ideal) A.X0 A.X1 i).trans (r_v38 A (idx_main_v39 i))).trans (congrArg _ (to_heads (fun h t_ k => (A.hd h).key t_ k) (i 0) (i 1) (i 2)))

theorem r_v40 (i : Cert.ReferenceIdeal.S8192x2048.Idx) : val_main_v40 (F := Ideal) A.X0 A.X1 i = (((A.hd (hOf (i 1))).logF (i 0).val (kOf (i 1)) : ℝ) : EReal) :=
  (val_main_v40_apply (F := Ideal) A.X0 A.X1 i).trans (r_log (A.forget_pos _ _ _) (r_v36 A i))

theorem r_v41 (i : Cert.ReferenceIdeal.S8192x16x128.Idx) : val_main_v41 (F := Ideal) A.X0 A.X1 i = (((A.hd (i 1)).logF (i 0).val (i 2) : ℝ) : EReal) :=
  ((val_main_v41_apply (F := Ideal) A.X0 A.X1 i).trans (r_v40 A (idx_main_v41 i))).trans (congrArg _ (to_heads (fun h t_ k => (A.hd h).logF t_ k) (i 0) (i 1) (i 2)))

theorem r_v42 (i : Cert.ReferenceIdeal.S8192x16x128.Idx) : val_main_v42 (F := Ideal) A.X0 i = (((A.hd (i 1)).v (i 0).val (i 2) : ℝ) : EReal) :=
  ((val_main_v42_apply (F := Ideal) A.X0 i).trans (r_v2 A (idx_main_v42 i))).trans (congrArg _ (to_heads (fun h t_ k => (A.hd h).v t_ k) (i 0) (i 1) (i 2)))

theorem r_v57 (i : Cert.ReferenceIdeal.S1x8192x16x128.Idx) : val_main_v57 (F := Ideal) A.X0 A.X1 i = (((A.hd (i 2)).logF (i 1).val (i 3) : ℝ) : EReal) :=
  (val_main_v57_apply (F := Ideal) A.X0 A.X1 i).trans (r_v41 A (idx_main_v57 i))

theorem r_call1_v2 (i : Cert.ReferenceIdeal.S8192x8192x16x128.Idx) : val_main_call1_v2 (F := Ideal) A.X0 A.X1 i = (((A.hd (i 2)).logF (i 1).val (i 3) : ℝ) : EReal) :=
  (val_main_call1_v2_apply (F := Ideal) A.X0 A.X1 i).trans (r_v57 A (idx_main_call1_v2 i))

theorem r_call1_v3 (i : Cert.ReferenceIdeal.S8192x8192x16x128.Idx) : val_main_call1_v3 (F := Ideal) i = (((0:ℝ) : ℝ) : EReal) :=
  (val_main_call1_v3_apply (F := Ideal) i).trans lit_zero

theorem r_v58_0 (i : Cert.ReferenceIdeal.S8192x8192x16x128.Idx) : val_main_v58_0 (F := Ideal) A.X0 A.X1 i = ((if (i 1).val ≤ (i 0).val then (A.hd (i 2)).logF (i 1).val (i 3) else 0 : ℝ) : EReal) :=
  (val_main_v58_0_apply (F := Ideal) A.X0 A.X1 i).trans (r_select (b_v58_1 i) (r_call1_v2 A i) (r_call1_v3 i))

theorem sum_until (F : ℕ → ℝ) (t : ℕ) (ht : t < 8192) : (∑ s : Fin 8192, if s.val ≤ t then F s.val else 0) = ∑ s ∈ Finset.range (t + 1), F s := by
  rw [← Finset.sum_range (n := 8192) fun s => if s ≤ t then F s else 0, ← Finset.sum_filter]
  refine Finset.sum_congr ?_ fun _ _ => rfl
  ext s; simp only [Finset.mem_filter, Finset.mem_range]; omega

theorem r_v59 (i : Cert.ReferenceIdeal.S8192x16x128.Idx) : val_main_v59 (F := Ideal) A.X0 A.X1 i = (((A.hd (i 1)).S ((i 0).val + 1) (i 2) : ℝ) : EReal) :=
  (val_main_v59_apply A.X0 A.X1 i).trans ((r_sum lit_zero fun k => r_v58_0 A (idx_main_v59 i k)).trans
    (congrArg _ (sum_until (fun u => (A.hd (i 1)).logF u (i 2)) (i 0).val (i 0).isLt)))

theorem r_v60 (i : Cert.ReferenceIdeal.S8192x1x16x128.Idx) : val_main_v60 (F := Ideal) A.X0 A.X1 i = (((A.hd (i 2)).S ((i 0).val + 1) (i 3) : ℝ) : EReal) :=
  (val_main_v60_apply (F := Ideal) A.X0 A.X1 i).trans (r_v59 A (idx_main_v60 i))

theorem r_v61 (i : Cert.ReferenceIdeal.S1x8192x16x128.Idx) : val_main_v61 (F := Ideal) A.X0 A.X1 i = (((A.hd (i 2)).S ((i 1).val + 1) (i 3) : ℝ) : EReal) :=
  (val_main_v61_apply (F := Ideal) A.X0 A.X1 i).trans (r_v59 A (idx_main_v61 i))

theorem r_v62 (i : Cert.ReferenceIdeal.S8192x8192x16x128.Idx) : val_main_v62 (F := Ideal) A.X0 A.X1 i = (((A.hd (i 2)).S ((i 0).val + 1) (i 3) : ℝ) : EReal) :=
  (val_main_v62_apply (F := Ideal) A.X0 A.X1 i).trans (r_v60 A (idx_main_v62 i))

theorem r_v63 (i : Cert.ReferenceIdeal.S8192x8192x16x128.Idx) : val_main_v63 (F := Ideal) A.X0 A.X1 i = (((A.hd (i 2)).S ((i 1).val + 1) (i 3) : ℝ) : EReal) :=
  (val_main_v63_apply (F := Ideal) A.X0 A.X1 i).trans (r_v61 A (idx_main_v63 i))

theorem r_v64 (i : Cert.ReferenceIdeal.S8192x8192x16x128.Idx) : val_main_v64 (F := Ideal) A.X0 A.X1 i = (((A.hd (i 2)).S ((i 0).val + 1) (i 3) - (A.hd (i 2)).S ((i 1).val + 1) (i 3) : ℝ) : EReal) :=
  (val_main_v64_apply (F := Ideal) A.X0 A.X1 i).trans (r_sub (r_v62 A i) (r_v63 A i))

theorem r_v66 (i : Cert.ReferenceIdeal.S8192x8192x16x128.Idx) : val_main_v66 (F := Ideal) A.X0 A.X1 i = (((A.hd (i 2)).rel (i 0).val (i 1).val (i 3) : ℝ) : EReal) := by
  rw [val_main_v66_apply, val_main_v65_0_apply, b_v65_1, r_v64, val_main_call2_v2_apply]
  unfold Hd.rel
  by_cases h : (i 1).val ≤ (i 0).val <;> simp only [h, if_true, if_false, decide_true, decide_false]
  · exact Ideal.exp_coe _
  · show Ideal.exp (val_main_call2_v0 (F := Ideal) (idx_main_call2_v2 i)) = ((0 : ℝ) : EReal)
    exact ((congrArg Ideal.exp ((val_main_call2_v0_apply (F := Ideal) _).trans lit_bot)).trans Ideal.exp_bot).trans EReal.coe_zero.symm

theorem r_v67 (i : Cert.ReferenceIdeal.S8192x1x16x128.Idx) : val_main_v67 (F := Ideal) A.X0 i = (((A.hd (i 2)).qh (i 0).val (i 3) : ℝ) : EReal) :=
  (val_main_v67_apply (F := Ideal) A.X0 i).trans (r_v11 A (idx_main_v67 i))

theorem r_v68 (i : Cert.ReferenceIdeal.S1x8192x16x128.Idx) : val_main_v68 (F := Ideal) A.X0 A.X1 i = (((A.hd (i 2)).key (i 1).val (i 3) : ℝ) : EReal) :=
  (val_main_v68_apply (F := Ideal) A.X0 A.X1 i).trans (r_v39 A (idx_main_v68 i))

theorem r_v69 (i : Cert.ReferenceIdeal.S8192x8192x16x128.Idx) : val_main_v69 (F := Ideal) A.X0 i = (((A.hd (i 2)).qh (i 0).val (i 3) : ℝ) : EReal) :=
  (val_main_v69_apply (F := Ideal) A.X0 i).trans (r_v67 A (idx_main_v69 i))

theorem r_v70 (i : Cert.ReferenceIdeal.S8192x8192x16x128.Idx) : val_main_v70 (F := Ideal) A.X0 A.X1 i = (((A.hd (i 2)).key (i 1).val (i 3) : ℝ) : EReal) :=
  (val_main_v70_apply (F := Ideal) A.X0 A.X1 i).trans (r_v68 A (idx_main_v70 i))

theorem r_v71 (i : Cert.ReferenceIdeal.S8192x8192x16x128.Idx) : val_main_v71 (F := Ideal) A.X0 A.X1 i = (((A.hd (i 2)).qh (i 0).val (i 3) * (A.hd (i 2)).key (i 1).val (i 3) : ℝ) : EReal) :=
  (val_main_v71_apply (F := Ideal) A.X0 A.X1 i).trans (r_mul (r_v69 A i) (r_v70 A i))

theorem r_v72 (i : Cert.ReferenceIdeal.S8192x8192x16x128.Idx) : val_main_v72 (F := Ideal) A.X0 A.X1 i = (((A.hd (i 2)).qh (i 0).val (i 3) * (A.hd (i 2)).key (i 1).val (i 3) * (A.hd (i 2)).rel (i 0).val (i 1).val (i 3) : ℝ) : EReal) :=
  (val_main_v72_apply (F := Ideal) A.X0 A.X1 i).trans (r_mul (r_v71 A i) (r_v66 A i))

theorem r_v73 (i : Cert.ReferenceIdeal.S8192x8192x16.Idx) : val_main_v73 (F := Ideal) A.X0 A.X1 i = (((A.hd (i 2)).scores (i 0).val (i 1).val : ℝ) : EReal) :=
  (val_main_v73_apply A.X0 A.X1 i).trans (r_sum lit_zero fun k => (r_v72 A (idx_main_v73 i k)))

theorem r_v74 (i : Cert.ReferenceIdeal.S16x128x8192.Idx) : val_main_v74 (F := Ideal) A.X0 A.X1 i = (((A.hd (i 0)).o (i 2).val (i 1) : ℝ) : EReal) :=
  ((val_main_v74_apply A.X0 A.X1 i).trans (r_dot (fun k => r_v42 A (lidx_main_v74 i k)) fun k => r_v73 A (ridx_main_v74 i k))).trans
    (congrArg _ (by
      unfold Hd.o
      rw [Finset.sum_range (n := 8192)]
      exact Finset.sum_congr rfl fun k _ => mul_comm _ _))

theorem r_v75 (i : Cert.ReferenceIdeal.S8192x16x128.Idx) : val_main_v75 (F := Ideal) A.X0 A.X1 i = (((A.hd (i 1)).o (i 0).val (i 2) : ℝ) : EReal) :=
  (val_main_v75_apply (F := Ideal) A.X0 A.X1 i).trans (r_v74 A (idx_main_v75 i))

theorem r_v76 (i : Cert.ReferenceIdeal.S16x128.Idx) : val_main_v76 (F := Ideal) A.X2 i = (((A.hd (i 0)).w (i 1) : ℝ) : EReal) :=
  val_main_v76_apply (F := Ideal) A.X2 i

theorem r_v77 (i : Cert.ReferenceIdeal.S8192x16x128.Idx) : val_main_v77 (F := Ideal) A.X0 A.X1 i = (((A.hd (i 1)).o (i 0).val (i 2) * (A.hd (i 1)).o (i 0).val (i 2) : ℝ) : EReal) :=
  (val_main_v77_apply (F := Ideal) A.X0 A.X1 i).trans (r_mul (r_v75 A i) (r_v75 A i))

theorem r_v78 (i : Cert.ReferenceIdeal.S8192x16.Idx) : val_main_v78 (F := Ideal) A.X0 A.X1 i = ((∑ k, (A.hd (i 1)).o (i 0).val k * (A.hd (i 1)).o (i 0).val k : ℝ) : EReal) :=
  (val_main_v78_apply A.X0 A.X1 i).trans (r_sum lit_zero fun k => (r_v77 A (idx_main_v78 i k)))

theorem r_v79 (i : Cert.ReferenceIdeal.S8192x16x1.Idx) : val_main_v79 (F := Ideal) A.X0 A.X1 i = ((∑ k, (A.hd (i 1)).o (i 0).val k * (A.hd (i 1)).o (i 0).val k : ℝ) : EReal) :=
  (val_main_v79_apply (F := Ideal) A.X0 A.X1 i).trans (r_v78 A (idx_main_v79 i))

theorem r_v80 (i : Cert.ReferenceIdeal.S8192x16x1.Idx) : val_main_v80 (F := Ideal) i = (((128:ℝ) : ℝ) : EReal) :=
  (val_main_v80_apply (F := Ideal) i).trans lit_width

theorem r_v81 (i : Cert.ReferenceIdeal.S8192x16x1.Idx) : val_main_v81 (F := Ideal) A.X0 A.X1 i = (((∑ k, (A.hd (i 1)).o (i 0).val k * (A.hd (i 1)).o (i 0).val k) / 128 : ℝ) : EReal) :=
  (val_main_v81_apply (F := Ideal) A.X0 A.X1 i).trans (r_div (by norm_num) (r_v79 A i) (r_v80 i))

theorem r_v82 (i : Cert.ReferenceIdeal.S8192x16x1.Idx) : val_main_v82 (F := Ideal) i = ((cEps : ℝ) : EReal) :=
  (val_main_v82_apply (F := Ideal) i).trans lit_eps

theorem r_v83 (i : Cert.ReferenceIdeal.S8192x16x1.Idx) : val_main_v83 (F := Ideal) A.X0 A.X1 i = (((A.hd (i 1)).msEps (i 0).val : ℝ) : EReal) :=
  (val_main_v83_apply (F := Ideal) A.X0 A.X1 i).trans (r_add (r_v81 A i) (r_v82 i))

theorem r_v84 (i : Cert.ReferenceIdeal.S8192x16x1.Idx) : val_main_v84 (F := Ideal) A.X0 A.X1 i = (((A.hd (i 1)).root (i 0).val : ℝ) : EReal) :=
  (val_main_v84_apply (F := Ideal) A.X0 A.X1 i).trans (r_rsqrt (msEps_pos _ _) (r_v83 A i))

theorem r_v85 (i : Cert.ReferenceIdeal.S8192x16x1.Idx) : val_main_v85 (F := Ideal) A.X0 A.X1 i = (((A.hd (i 1)).root (i 0).val / (A.hd (i 1)).msEps (i 0).val : ℝ) : EReal) :=
  (val_main_v85_apply (F := Ideal) A.X0 A.X1 i).trans (r_div (msEps_pos _ _).ne' (r_v84 A i) (r_v83 A i))

theorem r_v86 (i : Cert.ReferenceIdeal.S8192x16x1.Idx) : val_main_v86 (F := Ideal) i = (((-1/2:ℝ) : ℝ) : EReal) :=
  (val_main_v86_apply (F := Ideal) i).trans lit_neg_half

theorem r_v87 (i : Cert.ReferenceIdeal.S8192x16x1.Idx) : val_main_v87 (F := Ideal) A.X0 A.X1 i = (((A.hd (i 1)).rootD (i 0).val : ℝ) : EReal) :=
  (val_main_v87_apply (F := Ideal) A.X0 A.X1 i).trans (r_mul (r_v86 i) (r_v85 A i))

theorem r_v88 (i : Cert.ReferenceIdeal.S8192x16x128.Idx) : val_main_v88 (F := Ideal) A.X0 A.X1 i = (((A.hd (i 1)).root (i 0).val : ℝ) : EReal) :=
  (val_main_v88_apply (F := Ideal) A.X0 A.X1 i).trans (r_v84 A (idx_main_v88 i))

theorem r_v89 (i : Cert.ReferenceIdeal.S8192x16x128.Idx) : val_main_v89 (F := Ideal) A.X0 A.X1 i = (((A.hd (i 1)).oNorm (i 0).val (i 2) : ℝ) : EReal) :=
  (val_main_v89_apply (F := Ideal) A.X0 A.X1 i).trans (r_mul (r_v75 A i) (r_v88 A i))

theorem r_v90 (i : Cert.ReferenceIdeal.S1x16x128.Idx) : val_main_v90 (F := Ideal) A.X2 i = (((A.hd (i 1)).w (i 2) : ℝ) : EReal) :=
  (val_main_v90_apply (F := Ideal) A.X2 i).trans (r_v76 A (idx_main_v90 i))

theorem r_v91 (i : Cert.ReferenceIdeal.S8192x16x128.Idx) : val_main_v91 (F := Ideal) A.X2 i = (((A.hd (i 1)).w (i 2) : ℝ) : EReal) :=
  (val_main_v91_apply (F := Ideal) A.X2 i).trans (r_v90 A (idx_main_v91 i))

theorem r_v92 (i : Cert.ReferenceIdeal.S8192x16x128.Idx) : val_main_v92 (F := Ideal) A.X0 A.X1 A.X2 i = (((A.hd (i 1)).oW (i 0).val (i 2) : ℝ) : EReal) :=
  (val_main_v92_apply (F := Ideal) A.X0 A.X1 A.X2 i).trans (r_mul (r_v89 A i) (r_v91 A i))

theorem r_v93 (i : Cert.ReferenceIdeal.S8192x16x128.Idx) : val_main_v93 (F := Ideal) A.X0 i = (((A.hd (i 1)).g (i 0).val (i 2) : ℝ) : EReal) :=
  ((val_main_v93_apply (F := Ideal) A.X0 i).trans (r_v3 A (idx_main_v93 i))).trans (congrArg _ (to_heads (fun h t_ k => (A.hd h).g t_ k) (i 0) (i 1) (i 2)))

theorem r_call3_v0 (i : Cert.ReferenceIdeal.S8192x16x128.Idx) : val_main_call3_v0 (F := Ideal) A.X0 i = ((-(A.hd (i 1)).g (i 0).val (i 2) : ℝ) : EReal) :=
  (val_main_call3_v0_apply (F := Ideal) A.X0 i).trans (r_neg (r_v93 A i))

theorem r_call3_v1 (i : Cert.ReferenceIdeal.S8192x16x128.Idx) : val_main_call3_v1 (F := Ideal) A.X0 i = ((Real.exp (-(A.hd (i 1)).g (i 0).val (i 2)) : ℝ) : EReal) :=
  (val_main_call3_v1_apply (F := Ideal) A.X0 i).trans (r_exp (r_call3_v0 A i))

theorem r_call3_v2 (i : Cert.ReferenceIdeal.S8192x16x128.Idx) : val_main_call3_v2 (F := Ideal) i = (((1:ℝ) : ℝ) : EReal) :=
  (val_main_call3_v2_apply (F := Ideal) i).trans lit_one

theorem r_call3_v3 (i : Cert.ReferenceIdeal.S8192x16x128.Idx) : val_main_call3_v3 (F := Ideal) A.X0 i = ((1 + Real.exp (-(A.hd (i 1)).g (i 0).val (i 2)) : ℝ) : EReal) :=
  (val_main_call3_v3_apply (F := Ideal) A.X0 i).trans (r_add (r_call3_v2 i) (r_call3_v1 A i))

theorem r_call3_v4 (i : Cert.ReferenceIdeal.S8192x16x128.Idx) : val_main_call3_v4 (F := Ideal) i = (((1:ℝ) : ℝ) : EReal) :=
  (val_main_call3_v4_apply (F := Ideal) i).trans lit_one

theorem r_v94_2 (i : Cert.ReferenceIdeal.S8192x16x128.Idx) : val_main_v94_2 (F := Ideal) A.X0 i = (((A.hd (i 1)).sigG (i 0).val (i 2) : ℝ) : EReal) :=
  (val_main_v94_2_apply (F := Ideal) A.X0 i).trans (r_inv (r_call3_v4 i) (r_call3_v3 A i))

theorem r_call3_v6 (i : Cert.ReferenceIdeal.S8192x16x128.Idx) : val_main_call3_v6 (F := Ideal) i = (((1:ℝ) : ℝ) : EReal) :=
  (val_main_call3_v6_apply (F := Ideal) i).trans lit_one

theorem r_call3_v7 (i : Cert.ReferenceIdeal.S8192x16x128.Idx) : val_main_call3_v7 (F := Ideal) A.X0 i = ((1 - (A.hd (i 1)).sigG (i 0).val (i 2) : ℝ) : EReal) :=
  (val_main_call3_v7_apply (F := Ideal) A.X0 i).trans (r_sub (r_call3_v6 i) (r_v94_2 A i))

theorem r_v94_1 (i : Cert.ReferenceIdeal.S8192x16x128.Idx) : val_main_v94_1 (F := Ideal) A.X0 i = (((A.hd (i 1)).sigG (i 0).val (i 2) * (1 - (A.hd (i 1)).sigG (i 0).val (i 2)) : ℝ) : EReal) :=
  (val_main_v94_1_apply (F := Ideal) A.X0 i).trans (r_mul (r_v94_2 A i) (r_call3_v7 A i))

theorem r_v94_0 (i : Cert.ReferenceIdeal.S8192x16x128.Idx) : val_main_v94_0 (F := Ideal) A.X0 i = (((A.hd (i 1)).g (i 0).val (i 2) * (A.hd (i 1)).sigG (i 0).val (i 2) : ℝ) : EReal) :=
  (val_main_v94_0_apply (F := Ideal) A.X0 i).trans (r_mul (r_v93 A i) (r_v94_2 A i))

theorem r_v97 (i : Cert.ReferenceIdeal.S8192x2048.Idx) : val_main_v97 (F := Ideal) A.X3 i = (((A.hd (hOf (i 1))).dy (i 0).val (kOf (i 1)) : ℝ) : EReal) := by
  refine (val_main_v97_apply (F := Ideal) A.X3 i).trans ?_
  exact congrArg (fun x : ℝ => (x : EReal)) (congrArg₂ A.r3 (tok_val (i 0)).symm (tcol_of (i 1)).symm)

theorem r_v98 (i : Cert.ReferenceIdeal.S8192x16x128.Idx) : val_main_v98 (F := Ideal) A.X3 i = (((A.hd (i 1)).dy (i 0).val (i 2) : ℝ) : EReal) :=
  ((val_main_v98_apply (F := Ideal) A.X3 i).trans (r_v97 A (idx_main_v98 i))).trans (congrArg _ (to_heads (fun h t_ k => (A.hd h).dy t_ k) (i 0) (i 1) (i 2)))

theorem r_v99 (i : Cert.ReferenceIdeal.S8192x16x128.Idx) : val_main_v99 (F := Ideal) A.X0 A.X1 A.X2 A.X3 i = (((A.hd (i 1)).dSilu (i 0).val (i 2) : ℝ) : EReal) :=
  (val_main_v99_apply (F := Ideal) A.X0 A.X1 A.X2 A.X3 i).trans (r_mul (r_v92 A i) (r_v98 A i))

theorem r_v100 (i : Cert.ReferenceIdeal.S8192x16x128.Idx) : val_main_v100 (F := Ideal) A.X0 A.X3 i = (((A.hd (i 1)).dOW (i 0).val (i 2) : ℝ) : EReal) :=
  (val_main_v100_apply (F := Ideal) A.X0 A.X3 i).trans (r_mul (r_v98 A i) (r_v94_0 A i))

theorem r_call4_v0 (i : Cert.ReferenceIdeal.S8192x16x128.Idx) : val_main_call4_v0 (F := Ideal) A.X0 A.X1 A.X2 A.X3 i = (((A.hd (i 1)).g (i 0).val (i 2) * (A.hd (i 1)).dSilu (i 0).val (i 2) : ℝ) : EReal) :=
  (val_main_call4_v0_apply (F := Ideal) A.X0 A.X1 A.X2 A.X3 i).trans (r_mul (r_v93 A i) (r_v99 A i))

theorem r_call4_v1 (i : Cert.ReferenceIdeal.S8192x16x128.Idx) : val_main_call4_v1 (F := Ideal) A.X0 A.X1 A.X2 A.X3 i = (((A.hd (i 1)).dSilu (i 0).val (i 2) * (A.hd (i 1)).sigG (i 0).val (i 2) : ℝ) : EReal) :=
  (val_main_call4_v1_apply (F := Ideal) A.X0 A.X1 A.X2 A.X3 i).trans (r_mul (r_v99 A i) (r_v94_2 A i))

theorem r_call4_v2 (i : Cert.ReferenceIdeal.S8192x16x128.Idx) : val_main_call4_v2 (F := Ideal) A.X0 A.X1 A.X2 A.X3 i = (((A.hd (i 1)).g (i 0).val (i 2) * (A.hd (i 1)).dSilu (i 0).val (i 2) * ((A.hd (i 1)).sigG (i 0).val (i 2) * (1 - (A.hd (i 1)).sigG (i 0).val (i 2))) : ℝ) : EReal) :=
  (val_main_call4_v2_apply (F := Ideal) A.X0 A.X1 A.X2 A.X3 i).trans (r_mul (r_call4_v0 A i) (r_v94_1 A i))

theorem r_v101 (i : Cert.ReferenceIdeal.S8192x16x128.Idx) : val_main_v101 (F := Ideal) A.X0 A.X1 A.X2 A.X3 i = (((A.hd (i 1)).dG (i 0).val (i 2) : ℝ) : EReal) :=
  (val_main_v101_apply (F := Ideal) A.X0 A.X1 A.X2 A.X3 i).trans (r_add (r_call4_v1 A i) (r_call4_v2 A i))

theorem r_v102 (i : Cert.ReferenceIdeal.S8192x2048.Idx) : val_main_v102 (F := Ideal) A.X0 A.X1 A.X2 A.X3 i = (((A.hd (hOf (i 1))).dG (i 0).val (kOf (i 1)) : ℝ) : EReal) :=
  ((val_main_v102_apply (F := Ideal) A.X0 A.X1 A.X2 A.X3 i).trans (r_v101 A (idx_main_v102 i))).trans (congrArg _ (to_columns (fun h t_ k => (A.hd h).dG t_ k) (i 0) (i 1)))

theorem r_v103 (i : Cert.ReferenceIdeal.S8192x16x128.Idx) : val_main_v103 (F := Ideal) A.X0 A.X1 A.X3 i = (((A.hd (i 1)).dNwAt (i 0).val (i 2) : ℝ) : EReal) :=
  (val_main_v103_apply (F := Ideal) A.X0 A.X1 A.X3 i).trans (r_mul (r_v89 A i) (r_v100 A i))

theorem r_v104 (i : Cert.ReferenceIdeal.S16x128.Idx) : val_main_v104 (F := Ideal) A.X0 A.X1 A.X3 i = ((∑ t ∈ Finset.range 8192, (A.hd (i 0)).dNwAt t (i 1) : ℝ) : EReal) :=
  (val_main_v104_apply A.X0 A.X1 A.X3 i).trans (r_sum_range (fun t => (A.hd (i 0)).dNwAt t (i 1)) lit_zero fun k => (r_v103 A (idx_main_v104 i k)))

theorem r_v105 (i : Cert.ReferenceIdeal.S1x16x128.Idx) : val_main_v105 (F := Ideal) A.X0 A.X1 A.X3 i = ((∑ t ∈ Finset.range 8192, (A.hd (i 1)).dNwAt t (i 2) : ℝ) : EReal) :=
  ((val_main_v105_apply (F := Ideal) A.X0 A.X1 A.X3 i).trans (r_v104 A (idx_main_v105 i))).trans (congrArg _ (of_lone (fun h k => ∑ t ∈ Finset.range 8192, (A.hd h).dNwAt t k) (i 0) (i 1) (i 2)))

theorem r_v106 (i : Cert.ReferenceIdeal.S8192x16x128.Idx) : val_main_v106 (F := Ideal) A.X2 i = (((A.hd (i 1)).w (i 2) : ℝ) : EReal) :=
  (val_main_v106_apply (F := Ideal) A.X2 i).trans (r_v90 A (idx_main_v106 i))

theorem r_v107 (i : Cert.ReferenceIdeal.S8192x16x128.Idx) : val_main_v107 (F := Ideal) A.X0 A.X2 A.X3 i = (((A.hd (i 1)).dNorm (i 0).val (i 2) : ℝ) : EReal) :=
  (val_main_v107_apply (F := Ideal) A.X0 A.X2 A.X3 i).trans (r_mul (r_v100 A i) (r_v106 A i))

theorem r_v108 (i : Cert.ReferenceIdeal.S16x128.Idx) : val_main_v108 (F := Ideal) A.X0 A.X1 A.X3 i = ((∑ t ∈ Finset.range 8192, (A.hd (i 0)).dNwAt t (i 1) : ℝ) : EReal) :=
  (val_main_v108_apply A.X0 A.X1 A.X3 i).trans (r_sum_one lit_zero (r_v105 A (idx_main_v108 i 0)))

theorem r_v109 (i : Cert.ReferenceIdeal.S8192x16x128.Idx) : val_main_v109 (F := Ideal) A.X0 A.X1 A.X2 A.X3 i = (((A.hd (i 1)).o (i 0).val (i 2) * (A.hd (i 1)).dNorm (i 0).val (i 2) : ℝ) : EReal) :=
  (val_main_v109_apply (F := Ideal) A.X0 A.X1 A.X2 A.X3 i).trans (r_mul (r_v75 A i) (r_v107 A i))

theorem r_v110 (i : Cert.ReferenceIdeal.S8192x16.Idx) : val_main_v110 (F := Ideal) A.X0 A.X1 A.X2 A.X3 i = ((∑ k, (A.hd (i 1)).o (i 0).val k * (A.hd (i 1)).dNorm (i 0).val k : ℝ) : EReal) :=
  (val_main_v110_apply A.X0 A.X1 A.X2 A.X3 i).trans (r_sum lit_zero fun k => (r_v109 A (idx_main_v110 i k)))

theorem r_v111 (i : Cert.ReferenceIdeal.S8192x16x1.Idx) : val_main_v111 (F := Ideal) A.X0 A.X1 A.X2 A.X3 i = ((∑ k, (A.hd (i 1)).o (i 0).val k * (A.hd (i 1)).dNorm (i 0).val k : ℝ) : EReal) :=
  ((val_main_v111_apply (F := Ideal) A.X0 A.X1 A.X2 A.X3 i).trans (r_v110 A (idx_main_v111 i))).trans (congrArg _ (of_last (fun h t_ => ∑ k, (A.hd h).o t_ k * (A.hd h).dNorm t_ k) (i 0) (i 1) (i 2)))

theorem r_v112 (i : Cert.ReferenceIdeal.S8192x16x128.Idx) : val_main_v112 (F := Ideal) A.X0 A.X1 i = (((A.hd (i 1)).root (i 0).val : ℝ) : EReal) :=
  (val_main_v112_apply (F := Ideal) A.X0 A.X1 i).trans (r_v84 A (idx_main_v112 i))

theorem r_v113 (i : Cert.ReferenceIdeal.S8192x16x128.Idx) : val_main_v113 (F := Ideal) A.X0 A.X1 A.X2 A.X3 i = (((A.hd (i 1)).dNorm (i 0).val (i 2) * (A.hd (i 1)).root (i 0).val : ℝ) : EReal) :=
  (val_main_v113_apply (F := Ideal) A.X0 A.X1 A.X2 A.X3 i).trans (r_mul (r_v107 A i) (r_v112 A i))

theorem r_v114 (i : Cert.ReferenceIdeal.S8192x16x1.Idx) : val_main_v114 (F := Ideal) A.X0 A.X1 A.X2 A.X3 i = (((∑ k, (A.hd (i 1)).o (i 0).val k * (A.hd (i 1)).dNorm (i 0).val k) * (A.hd (i 1)).rootD (i 0).val : ℝ) : EReal) :=
  (val_main_v114_apply (F := Ideal) A.X0 A.X1 A.X2 A.X3 i).trans (r_mul (r_v111 A i) (r_v87 A i))

theorem r_v115 (i : Cert.ReferenceIdeal.S8192x16x1.Idx) : val_main_v115 (F := Ideal) i = (((128:ℝ) : ℝ) : EReal) :=
  (val_main_v115_apply (F := Ideal) i).trans lit_width

theorem r_v116 (i : Cert.ReferenceIdeal.S8192x16x1.Idx) : val_main_v116 (F := Ideal) A.X0 A.X1 A.X2 A.X3 i = (((A.hd (i 1)).dRoot (i 0).val : ℝ) : EReal) :=
  (val_main_v116_apply (F := Ideal) A.X0 A.X1 A.X2 A.X3 i).trans (r_div (by norm_num) (r_v114 A i) (r_v115 i))

theorem r_v117 (i : Cert.ReferenceIdeal.S8192x16.Idx) : val_main_v117 (F := Ideal) A.X0 A.X1 A.X2 A.X3 i = (((A.hd (i 1)).dRoot (i 0).val : ℝ) : EReal) :=
  (val_main_v117_apply A.X0 A.X1 A.X2 A.X3 i).trans (r_sum_one lit_zero (r_v116 A (idx_main_v117 i 0)))

theorem r_v118 (i : Cert.ReferenceIdeal.S8192x16x128.Idx) : val_main_v118 (F := Ideal) A.X0 A.X1 A.X2 A.X3 i = (((A.hd (i 1)).dRoot (i 0).val : ℝ) : EReal) :=
  (val_main_v118_apply (F := Ideal) A.X0 A.X1 A.X2 A.X3 i).trans (r_v117 A (idx_main_v118 i))

theorem r_v119 (i : Cert.ReferenceIdeal.S8192x16x128.Idx) : val_main_v119 (F := Ideal) A.X0 A.X1 A.X2 A.X3 i = (((A.hd (i 1)).o (i 0).val (i 2) * (A.hd (i 1)).dRoot (i 0).val : ℝ) : EReal) :=
  (val_main_v119_apply (F := Ideal) A.X0 A.X1 A.X2 A.X3 i).trans (r_mul (r_v75 A i) (r_v118 A i))

theorem r_v120 (i : Cert.ReferenceIdeal.S8192x16x128.Idx) : val_main_v120 (F := Ideal) A.X0 A.X1 A.X2 A.X3 i = (((A.hd (i 1)).dNorm (i 0).val (i 2) * (A.hd (i 1)).root (i 0).val + (A.hd (i 1)).o (i 0).val (i 2) * (A.hd (i 1)).dRoot (i 0).val : ℝ) : EReal) :=
  (val_main_v120_apply (F := Ideal) A.X0 A.X1 A.X2 A.X3 i).trans (r_add (r_v113 A i) (r_v119 A i))

theorem r_v121 (i : Cert.ReferenceIdeal.S8192x16x128.Idx) : val_main_v121 (F := Ideal) A.X0 A.X1 A.X2 A.X3 i = (((A.hd (i 1)).dRoot (i 0).val * (A.hd (i 1)).o (i 0).val (i 2) : ℝ) : EReal) :=
  (val_main_v121_apply (F := Ideal) A.X0 A.X1 A.X2 A.X3 i).trans (r_mul (r_v118 A i) (r_v75 A i))

theorem r_v122 (i : Cert.ReferenceIdeal.S8192x16x128.Idx) : val_main_v122 (F := Ideal) A.X0 A.X1 A.X2 A.X3 i = (((A.hd (i 1)).dO (i 0).val (i 2) : ℝ) : EReal) :=
  (val_main_v122_apply (F := Ideal) A.X0 A.X1 A.X2 A.X3 i).trans (r_add (r_v120 A i) (r_v121 A i))

theorem r_v123 (i : Cert.ReferenceIdeal.S128.Idx) : val_main_v123 (F := Ideal) A.X0 A.X1 A.X3 i = ((∑ h, ∑ t ∈ Finset.range 8192, (A.hd h).dNwAt t (i 0) : ℝ) : EReal) :=
  (val_main_v123_apply A.X0 A.X1 A.X3 i).trans (r_sum lit_zero fun k => (r_v108 A (idx_main_v123 i k)))

theorem r_v124 (i : Cert.ReferenceIdeal.S1x128.Idx) : val_main_v124 (F := Ideal) A.X0 A.X1 A.X3 i = ((∑ h, ∑ t ∈ Finset.range 8192, (A.hd h).dNwAt t (i 1) : ℝ) : EReal) :=
  (val_main_v124_apply (F := Ideal) A.X0 A.X1 A.X3 i).trans (r_v123 A (idx_main_v124 i))

theorem r_v125 (i : Cert.ReferenceIdeal.S16x128x8192.Idx) : val_main_v125 (F := Ideal) A.X0 A.X1 A.X2 A.X3 i = (((A.hd (i 0)).dO (i 2).val (i 1) : ℝ) : EReal) :=
  (val_main_v125_apply (F := Ideal) A.X0 A.X1 A.X2 A.X3 i).trans (r_v122 A (idx_main_v125 i))

theorem r_v126 (i : Cert.ReferenceIdeal.S16x8192x8192.Idx) : val_main_v126 (F := Ideal) A.X0 A.X1 A.X2 A.X3 i = (((A.hd (i 0)).dS (i 1).val (i 2).val : ℝ) : EReal) :=
  (val_main_v126_apply A.X0 A.X1 A.X2 A.X3 i).trans (r_dot (fun k => (r_v125 A (lidx_main_v126 i k))) fun k => (r_v42 A (ridx_main_v126 i k)))

theorem r_v127 (i : Cert.ReferenceIdeal.S8192x8192x16.Idx) : val_main_v127 (F := Ideal) A.X0 A.X1 A.X2 A.X3 i = (((A.hd (i 2)).dS (i 0).val (i 1).val : ℝ) : EReal) :=
  (val_main_v127_apply (F := Ideal) A.X0 A.X1 A.X2 A.X3 i).trans (r_v126 A (idx_main_v127 i))

theorem r_v128 (i : Cert.ReferenceIdeal.S16x128x8192.Idx) : val_main_v128 (F := Ideal) A.X0 A.X1 A.X2 A.X3 i = (((A.hd (i 0)).dV (i 2).val (i 1) : ℝ) : EReal) :=
  ((val_main_v128_apply A.X0 A.X1 A.X2 A.X3 i).trans (r_dot (fun k => r_v125 A (lidx_main_v128 i k)) fun k => r_v73 A (ridx_main_v128 i k))).trans
    (congrArg _ (by
      unfold Hd.dV
      rw [Finset.sum_range (n := 8192)]
      exact Finset.sum_congr rfl fun k _ => mul_comm _ _))

theorem r_v129 (i : Cert.ReferenceIdeal.S8192x16x128.Idx) : val_main_v129 (F := Ideal) A.X0 A.X1 A.X2 A.X3 i = (((A.hd (i 1)).dV (i 0).val (i 2) : ℝ) : EReal) :=
  (val_main_v129_apply (F := Ideal) A.X0 A.X1 A.X2 A.X3 i).trans (r_v128 A (idx_main_v129 i))

theorem r_v130 (i : Cert.ReferenceIdeal.S8192x8192x16x128.Idx) : val_main_v130 (F := Ideal) A.X0 A.X1 A.X2 A.X3 i = (((A.hd (i 2)).dS (i 0).val (i 1).val : ℝ) : EReal) :=
  (val_main_v130_apply (F := Ideal) A.X0 A.X1 A.X2 A.X3 i).trans (r_v127 A (idx_main_v130 i))

theorem r_v131 (i : Cert.ReferenceIdeal.S8192x8192x16x128.Idx) : val_main_v131 (F := Ideal) A.X0 A.X1 A.X2 A.X3 i = (((A.hd (i 2)).qh (i 0).val (i 3) * (A.hd (i 2)).key (i 1).val (i 3) * (A.hd (i 2)).dS (i 0).val (i 1).val : ℝ) : EReal) :=
  (val_main_v131_apply (F := Ideal) A.X0 A.X1 A.X2 A.X3 i).trans (r_mul (r_v71 A i) (r_v130 A i))

theorem r_v132 (i : Cert.ReferenceIdeal.S8192x8192x16x128.Idx) : val_main_v132 (F := Ideal) A.X0 A.X1 A.X2 A.X3 i = (((A.hd (i 2)).dS (i 0).val (i 1).val * (A.hd (i 2)).rel (i 0).val (i 1).val (i 3) : ℝ) : EReal) :=
  (val_main_v132_apply (F := Ideal) A.X0 A.X1 A.X2 A.X3 i).trans (r_mul (r_v130 A i) (r_v66 A i))

theorem r_v133 (i : Cert.ReferenceIdeal.S8192x8192x16x128.Idx) : val_main_v133 (F := Ideal) A.X0 i = (((A.hd (i 2)).qh (i 0).val (i 3) : ℝ) : EReal) :=
  (val_main_v133_apply (F := Ideal) A.X0 i).trans (r_v67 A (idx_main_v133 i))

theorem r_v134 (i : Cert.ReferenceIdeal.S8192x8192x16x128.Idx) : val_main_v134 (F := Ideal) A.X0 A.X1 A.X2 A.X3 i = (((A.hd (i 2)).qh (i 0).val (i 3) * ((A.hd (i 2)).dS (i 0).val (i 1).val * (A.hd (i 2)).rel (i 0).val (i 1).val (i 3)) : ℝ) : EReal) :=
  (val_main_v134_apply (F := Ideal) A.X0 A.X1 A.X2 A.X3 i).trans (r_mul (r_v133 A i) (r_v132 A i))

theorem r_v135 (i : Cert.ReferenceIdeal.S8192x16x128.Idx) : val_main_v135 (F := Ideal) A.X0 A.X1 A.X2 A.X3 i = (((A.hd (i 1)).dKey (i 0).val (i 2) : ℝ) : EReal) :=
  ((val_main_v135_apply A.X0 A.X1 A.X2 A.X3 i).trans (r_sum lit_zero fun k => r_v134 A (idx_main_v135 i k))).trans
    (congrArg _ (by
      unfold Hd.dKey
      rw [Finset.sum_range (n := 8192)]
      exact Finset.sum_congr rfl fun k _ => mul_left_comm _ _ _))

theorem r_v136 (i : Cert.ReferenceIdeal.S1x8192x16x128.Idx) : val_main_v136 (F := Ideal) A.X0 A.X1 A.X2 A.X3 i = (((A.hd (i 2)).dKey (i 1).val (i 3) : ℝ) : EReal) :=
  ((val_main_v136_apply (F := Ideal) A.X0 A.X1 A.X2 A.X3 i).trans (r_v135 A (idx_main_v136 i))).trans (congrArg _ (of_cols (fun h t_ k => (A.hd h).dKey t_ k) (i 0) (i 1) (i 2) (i 3)))

theorem r_v137 (i : Cert.ReferenceIdeal.S8192x8192x16x128.Idx) : val_main_v137 (F := Ideal) A.X0 A.X1 i = (((A.hd (i 2)).key (i 1).val (i 3) : ℝ) : EReal) :=
  (val_main_v137_apply (F := Ideal) A.X0 A.X1 i).trans (r_v68 A (idx_main_v137 i))

theorem r_v138 (i : Cert.ReferenceIdeal.S8192x8192x16x128.Idx) : val_main_v138 (F := Ideal) A.X0 A.X1 A.X2 A.X3 i = (((A.hd (i 2)).dS (i 0).val (i 1).val * (A.hd (i 2)).rel (i 0).val (i 1).val (i 3) * (A.hd (i 2)).key (i 1).val (i 3) : ℝ) : EReal) :=
  (val_main_v138_apply (F := Ideal) A.X0 A.X1 A.X2 A.X3 i).trans (r_mul (r_v132 A i) (r_v137 A i))

theorem r_v139 (i : Cert.ReferenceIdeal.S8192x16x128.Idx) : val_main_v139 (F := Ideal) A.X0 A.X1 A.X2 A.X3 i = (((A.hd (i 1)).dQh (i 0).val (i 2) : ℝ) : EReal) :=
  ((val_main_v139_apply A.X0 A.X1 A.X2 A.X3 i).trans (r_sum lit_zero fun k => r_v138 A (idx_main_v139 i k))).trans
    (congrArg _ (by
      unfold Hd.dQh
      rw [Finset.sum_range (n := 8192)]
      exact Finset.sum_congr rfl fun k _ => (mul_assoc _ _ _).trans (congrArg _ (mul_comm _ _))))

theorem r_v140 (i : Cert.ReferenceIdeal.S8192x1x16x128.Idx) : val_main_v140 (F := Ideal) A.X0 A.X1 A.X2 A.X3 i = (((A.hd (i 2)).dQh (i 0).val (i 3) : ℝ) : EReal) :=
  ((val_main_v140_apply (F := Ideal) A.X0 A.X1 A.X2 A.X3 i).trans (r_v139 A (idx_main_v140 i))).trans (congrArg _ (of_rows (fun h t_ k => (A.hd h).dQh t_ k) (i 0) (i 1) (i 2) (i 3)))

theorem r_v141 (i : Cert.ReferenceIdeal.S8192x16x128.Idx) : val_main_v141 (F := Ideal) A.X0 A.X1 A.X2 A.X3 i = (((A.hd (i 1)).dKey (i 0).val (i 2) : ℝ) : EReal) :=
  (val_main_v141_apply A.X0 A.X1 A.X2 A.X3 i).trans (r_sum_one lit_zero (r_v136 A (idx_main_v141 i 0)))

theorem r_v142 (i : Cert.ReferenceIdeal.S8192x16x128.Idx) : val_main_v142 (F := Ideal) A.X0 A.X1 A.X2 A.X3 i = (((A.hd (i 1)).dQh (i 0).val (i 2) : ℝ) : EReal) :=
  (val_main_v142_apply A.X0 A.X1 A.X2 A.X3 i).trans (r_sum_one lit_zero (r_v140 A (idx_main_v142 i 0)))

theorem r_v143 (i : Cert.ReferenceIdeal.S8192x8192x16x128.Idx) : val_main_v143 (F := Ideal) A.X0 A.X1 A.X2 A.X3 i = (((A.hd (i 2)).qh (i 0).val (i 3) * (A.hd (i 2)).key (i 1).val (i 3) * (A.hd (i 2)).dS (i 0).val (i 1).val * (A.hd (i 2)).rel (i 0).val (i 1).val (i 3) : ℝ) : EReal) :=
  (val_main_v143_apply (F := Ideal) A.X0 A.X1 A.X2 A.X3 i).trans (r_mul (r_v131 A i) (r_v66 A i))

theorem r_call5_v0 (i : Cert.ReferenceIdeal.S8192x8192x16x128.Idx) : val_main_call5_v0 (F := Ideal) i = (((0:ℝ) : ℝ) : EReal) :=
  (val_main_call5_v0_apply (F := Ideal) i).trans lit_zero

theorem r_v144 (i : Cert.ReferenceIdeal.S8192x8192x16x128.Idx) : val_main_v144 (F := Ideal) A.X0 A.X1 A.X2 A.X3 i = (((A.hd (i 2)).pair (i 0).val (i 1).val (i 3) : ℝ) : EReal) :=
  ((val_main_v144_apply (F := Ideal) A.X0 A.X1 A.X2 A.X3 i).trans (r_select (b_v65_1 i) (r_v143 A i) (r_call5_v0 i))).trans
    (congrArg _ (Hd.pair_masked _ _ _ _))

theorem r_v145 (i : Cert.ReferenceIdeal.S8192x16x128.Idx) : val_main_v145 (F := Ideal) A.X0 A.X1 A.X2 A.X3 i = ((∑ s ∈ Finset.range 8192, (A.hd (i 1)).pair (i 0).val s (i 2) : ℝ) : EReal) :=
  (val_main_v145_apply A.X0 A.X1 A.X2 A.X3 i).trans (r_sum_range (fun s => (A.hd (i 1)).pair (i 0).val s (i 2)) lit_zero fun k => (r_v144 A (idx_main_v145 i k)))

theorem r_v146 (i : Cert.ReferenceIdeal.S8192x1x16x128.Idx) : val_main_v146 (F := Ideal) A.X0 A.X1 A.X2 A.X3 i = ((∑ s ∈ Finset.range 8192, (A.hd (i 2)).pair (i 0).val s (i 3) : ℝ) : EReal) :=
  ((val_main_v146_apply (F := Ideal) A.X0 A.X1 A.X2 A.X3 i).trans (r_v145 A (idx_main_v146 i))).trans (congrArg _ (of_rows (fun h t_ k => ∑ s ∈ Finset.range 8192, (A.hd h).pair t_ s k) (i 0) (i 1) (i 2) (i 3)))

theorem r_v147 (i : Cert.ReferenceIdeal.S8192x8192x16x128.Idx) : val_main_v147 (F := Ideal) A.X0 A.X1 A.X2 A.X3 i = ((-(A.hd (i 2)).pair (i 0).val (i 1).val (i 3) : ℝ) : EReal) :=
  (val_main_v147_apply (F := Ideal) A.X0 A.X1 A.X2 A.X3 i).trans (r_neg (r_v144 A i))

theorem r_v148 (i : Cert.ReferenceIdeal.S8192x16x128.Idx) : val_main_v148 (F := Ideal) A.X0 A.X1 A.X2 A.X3 i = ((-∑ t ∈ Finset.range 8192, (A.hd (i 1)).pair t (i 0).val (i 2) : ℝ) : EReal) :=
  ((val_main_v148_apply A.X0 A.X1 A.X2 A.X3 i).trans (r_sum lit_zero fun k => r_v147 A (idx_main_v148 i k))).trans
    (congrArg _ (by
      rw [Finset.sum_range (n := 8192), ← Finset.sum_neg_distrib]; rfl))

theorem r_v149 (i : Cert.ReferenceIdeal.S1x8192x16x128.Idx) : val_main_v149 (F := Ideal) A.X0 A.X1 A.X2 A.X3 i = ((-∑ t ∈ Finset.range 8192, (A.hd (i 2)).pair t (i 1).val (i 3) : ℝ) : EReal) :=
  ((val_main_v149_apply (F := Ideal) A.X0 A.X1 A.X2 A.X3 i).trans (r_v148 A (idx_main_v149 i))).trans (congrArg _ (of_cols (fun h t_ k => -∑ t ∈ Finset.range 8192, (A.hd h).pair t t_ k) (i 0) (i 1) (i 2) (i 3)))

theorem r_v150 (i : Cert.ReferenceIdeal.S8192x16x128.Idx) : val_main_v150 (F := Ideal) A.X0 A.X1 A.X2 A.X3 i = ((-∑ t ∈ Finset.range 8192, (A.hd (i 1)).pair t (i 0).val (i 2) : ℝ) : EReal) :=
  (val_main_v150_apply A.X0 A.X1 A.X2 A.X3 i).trans (r_sum_one lit_zero (r_v149 A (idx_main_v150 i 0)))

theorem r_v151 (i : Cert.ReferenceIdeal.S8192x16x128.Idx) : val_main_v151 (F := Ideal) A.X0 A.X1 A.X2 A.X3 i = ((∑ s ∈ Finset.range 8192, (A.hd (i 1)).pair (i 0).val s (i 2) : ℝ) : EReal) :=
  (val_main_v151_apply A.X0 A.X1 A.X2 A.X3 i).trans (r_sum_one lit_zero (r_v146 A (idx_main_v151 i 0)))

theorem r_v152 (i : Cert.ReferenceIdeal.S8192x16x128.Idx) : val_main_v152 (F := Ideal) A.X0 A.X1 A.X2 A.X3 i = (((A.hd (i 1)).qh (i 0).val (i 2) * (A.hd (i 1)).dQh (i 0).val (i 2) - (A.hd (i 1)).key (i 0).val (i 2) * (A.hd (i 1)).dKey (i 0).val (i 2) : ℝ) : EReal) :=
  ((val_main_v152_apply (F := Ideal) A.X0 A.X1 A.X2 A.X3 i).trans (r_add (r_v150 A i) (r_v151 A i))).trans
    (congrArg _ (Hd.pair_rest _ _ _))

theorem r_v153 (i : Cert.ReferenceIdeal.S8192x8192x16x128.Idx) : val_main_v153 (F := Ideal) A.X0 A.X1 A.X2 A.X3 i = (((A.hd (i 2)).qh (i 0).val (i 3) * (A.hd (i 2)).dQh (i 0).val (i 3) - (A.hd (i 2)).key (i 0).val (i 3) * (A.hd (i 2)).dKey (i 0).val (i 3) : ℝ) : EReal) :=
  (val_main_v153_apply (F := Ideal) A.X0 A.X1 A.X2 A.X3 i).trans (r_v152 A (idx_main_v153 i))

theorem r_call6_v0 (i : Cert.ReferenceIdeal.S8192x8192x16x128.Idx) : val_main_call6_v0 (F := Ideal) i = (((0:ℝ) : ℝ) : EReal) :=
  (val_main_call6_v0_apply (F := Ideal) i).trans lit_zero

theorem r_call6_v1 (i : Cert.ReferenceIdeal.S8192x8192x16x128.Idx) : val_main_call6_v1 (F := Ideal) A.X0 A.X1 A.X2 A.X3 i = ((if (i 1).val ≤ (i 0).val then (A.hd (i 2)).qh (i 0).val (i 3) * (A.hd (i 2)).dQh (i 0).val (i 3) - (A.hd (i 2)).key (i 0).val (i 3) * (A.hd (i 2)).dKey (i 0).val (i 3) else 0 : ℝ) : EReal) :=
  (val_main_call6_v1_apply (F := Ideal) A.X0 A.X1 A.X2 A.X3 i).trans (r_select (b_v58_1 i) (r_v153 A i) (r_call6_v0 i))

theorem sum_from (F : ℕ → ℝ) (s : ℕ) : (∑ t : Fin 8192, if s ≤ t.val then F t.val else 0) = ∑ t ∈ Finset.Ico s 8192, F t := by
  rw [← Finset.sum_range (n := 8192) fun t => if s ≤ t then F t else 0, ← Finset.sum_filter]
  refine Finset.sum_congr ?_ fun _ _ => rfl
  ext t; simp only [Finset.mem_filter, Finset.mem_range, Finset.mem_Ico]; omega

theorem r_call6_v2 (i : Cert.ReferenceIdeal.S8192x16x128.Idx) : val_main_call6_v2 (F := Ideal) A.X0 A.X1 A.X2 A.X3 i = (((A.hd (i 1)).dLogF (i 0).val (i 2) : ℝ) : EReal) :=
  ((val_main_call6_v2_apply A.X0 A.X1 A.X2 A.X3 i).trans (r_sum lit_zero fun k => r_call6_v1 A (idx_main_call6_v2 i k))).trans
    (congrArg _ (sum_from (fun t => (A.hd (i 1)).qh t (i 2) * (A.hd (i 1)).dQh t (i 2) - (A.hd (i 1)).key t (i 2) * (A.hd (i 1)).dKey t (i 2)) (i 0).val))

theorem r_v154 (i : Cert.ReferenceIdeal.S1x8192x16x128.Idx) : val_main_v154 (F := Ideal) A.X0 A.X1 A.X2 A.X3 i = (((A.hd (i 2)).dLogF (i 1).val (i 3) : ℝ) : EReal) :=
  (val_main_v154_apply (F := Ideal) A.X0 A.X1 A.X2 A.X3 i).trans (r_call6_v2 A (idx_main_v154 i))

theorem r_v155 (i : Cert.ReferenceIdeal.S8192x16x128.Idx) : val_main_v155 (F := Ideal) A.X0 A.X1 A.X2 A.X3 i = (((A.hd (i 1)).dLogF (i 0).val (i 2) : ℝ) : EReal) :=
  (val_main_v155_apply A.X0 A.X1 A.X2 A.X3 i).trans (r_sum_one lit_zero (r_v154 A (idx_main_v155 i 0)))

theorem r_v156 (i : Cert.ReferenceIdeal.S8192x2048.Idx) : val_main_v156 (F := Ideal) A.X0 A.X1 A.X2 A.X3 i = (((A.hd (hOf (i 1))).dV (i 0).val (kOf (i 1)) : ℝ) : EReal) :=
  ((val_main_v156_apply (F := Ideal) A.X0 A.X1 A.X2 A.X3 i).trans (r_v129 A (idx_main_v156 i))).trans (congrArg _ (to_columns (fun h t_ k => (A.hd h).dV t_ k) (i 0) (i 1)))

theorem r_v157 (i : Cert.ReferenceIdeal.S8192x2048.Idx) : val_main_v157 (F := Ideal) A.X0 A.X1 A.X2 A.X3 i = (((A.hd (hOf (i 1))).dLogF (i 0).val (kOf (i 1)) : ℝ) : EReal) :=
  ((val_main_v157_apply (F := Ideal) A.X0 A.X1 A.X2 A.X3 i).trans (r_v155 A (idx_main_v157 i))).trans (congrArg _ (to_columns (fun h t_ k => (A.hd h).dLogF t_ k) (i 0) (i 1)))

theorem r_v158 (i : Cert.ReferenceIdeal.S8192x2048.Idx) : val_main_v158 (F := Ideal) A.X0 A.X1 A.X2 A.X3 i = (((A.hd (hOf (i 1))).dLogF (i 0).val (kOf (i 1)) / (A.hd (hOf (i 1))).forget (i 0).val (kOf (i 1)) : ℝ) : EReal) :=
  (val_main_v158_apply (F := Ideal) A.X0 A.X1 A.X2 A.X3 i).trans (r_div (A.forget_pos _ _ _).ne' (r_v157 A i) (r_v36 A i))

theorem r_v159 (i : Cert.ReferenceIdeal.S8192x2048.Idx) : val_main_v159 (F := Ideal) A.X0 A.X1 A.X2 A.X3 i = (((A.hd (hOf (i 1))).dKey (i 0).val (kOf (i 1)) : ℝ) : EReal) :=
  ((val_main_v159_apply (F := Ideal) A.X0 A.X1 A.X2 A.X3 i).trans (r_v141 A (idx_main_v159 i))).trans (congrArg _ (to_columns (fun h t_ k => (A.hd h).dKey t_ k) (i 0) (i 1)))

theorem r_v160 (i : Cert.ReferenceIdeal.S8192x2048.Idx) : val_main_v160 (F := Ideal) A.X0 A.X1 A.X2 A.X3 i = ((-(A.hd (hOf (i 1))).dKey (i 0).val (kOf (i 1)) : ℝ) : EReal) :=
  (val_main_v160_apply (F := Ideal) A.X0 A.X1 A.X2 A.X3 i).trans (r_neg (r_v159 A i))

theorem r_v161 (i : Cert.ReferenceIdeal.S8192x2048.Idx) : val_main_v161 (F := Ideal) A.X0 A.X1 A.X2 A.X3 i = (((A.hd (hOf (i 1))).dForget (i 0).val (kOf (i 1)) : ℝ) : EReal) :=
  ((val_main_v161_apply (F := Ideal) A.X0 A.X1 A.X2 A.X3 i).trans (r_add (r_v158 A i) (r_v160 A i))).trans (congrArg _ (sub_eq_add_neg _ _).symm)

theorem r_v162 (i : Cert.ReferenceIdeal.S2048.Idx) : val_main_v162 (F := Ideal) A.X0 A.X1 A.X2 A.X3 i = ((∑ t ∈ Finset.range 8192, (A.hd (hOf (i 0))).dForget t (kOf (i 0)) : ℝ) : EReal) :=
  (val_main_v162_apply A.X0 A.X1 A.X2 A.X3 i).trans (r_sum_range (fun t => (A.hd (hOf (i 0))).dForget t (kOf (i 0))) lit_zero fun k => (r_v161 A (idx_main_v162 i k)))

theorem r_v163 (i : Cert.ReferenceIdeal.S1x2048.Idx) : val_main_v163 (F := Ideal) A.X0 A.X1 A.X2 A.X3 i = ((∑ t ∈ Finset.range 8192, (A.hd (hOf (i 1))).dForget t (kOf (i 1)) : ℝ) : EReal) :=
  ((val_main_v163_apply (F := Ideal) A.X0 A.X1 A.X2 A.X3 i).trans (r_v162 A (idx_main_v163 i))).trans (congrArg _ (of_line (fun h k => ∑ t ∈ Finset.range 8192, (A.hd h).dForget t k) (i 0) (i 1)))

theorem r_v164 (i : Cert.ReferenceIdeal.S2048.Idx) : val_main_v164 (F := Ideal) A.X0 A.X1 A.X2 A.X3 i = ((∑ t ∈ Finset.range 8192, (A.hd (hOf (i 0))).dForget t (kOf (i 0)) : ℝ) : EReal) :=
  (val_main_v164_apply A.X0 A.X1 A.X2 A.X3 i).trans (r_sum_one lit_zero (r_v163 A (idx_main_v164 i 0)))

theorem r_v165 (i : Cert.ReferenceIdeal.S8192x2048.Idx) : val_main_v165 (F := Ideal) A.X1 i = (((A.hd (hOf (i 1))).rest (kOf (i 1)) : ℝ) : EReal) :=
  (val_main_v165_apply (F := Ideal) A.X1 i).trans (r_v31 A (idx_main_v165 i))

theorem r_v166 (i : Cert.ReferenceIdeal.S8192x2048.Idx) : val_main_v166 (F := Ideal) A.X0 A.X1 A.X2 A.X3 i = (((A.hd (hOf (i 1))).rest (kOf (i 1)) * (A.hd (hOf (i 1))).dForget (i 0).val (kOf (i 1)) : ℝ) : EReal) :=
  (val_main_v166_apply (F := Ideal) A.X0 A.X1 A.X2 A.X3 i).trans (r_mul (r_v165 A i) (r_v161 A i))

theorem r_v167 (i : Cert.ReferenceIdeal.S8192x2048.Idx) : val_main_v167 (F := Ideal) A.X0 A.X1 A.X2 A.X3 i = (((A.hd (hOf (i 1))).dForget (i 0).val (kOf (i 1)) * (A.hd (hOf (i 1))).sigF (i 0).val (kOf (i 1)) : ℝ) : EReal) :=
  (val_main_v167_apply (F := Ideal) A.X0 A.X1 A.X2 A.X3 i).trans (r_mul (r_v161 A i) (r_v27 A i))

theorem r_v168 (i : Cert.ReferenceIdeal.S2048.Idx) : val_main_v168 (F := Ideal) A.X0 A.X1 A.X2 A.X3 i = ((∑ t ∈ Finset.range 8192, (A.hd (hOf (i 0))).dForget t (kOf (i 0)) * (A.hd (hOf (i 0))).sigF t (kOf (i 0)) : ℝ) : EReal) :=
  (val_main_v168_apply A.X0 A.X1 A.X2 A.X3 i).trans (r_sum_range (fun t => (A.hd (hOf (i 0))).dForget t (kOf (i 0)) * (A.hd (hOf (i 0))).sigF t (kOf (i 0))) lit_zero fun k => (r_v167 A (idx_main_v168 i k)))

theorem r_v169 (i : Cert.ReferenceIdeal.S1x2048.Idx) : val_main_v169 (F := Ideal) A.X0 A.X1 A.X2 A.X3 i = ((∑ t ∈ Finset.range 8192, (A.hd (hOf (i 1))).dForget t (kOf (i 1)) * (A.hd (hOf (i 1))).sigF t (kOf (i 1)) : ℝ) : EReal) :=
  ((val_main_v169_apply (F := Ideal) A.X0 A.X1 A.X2 A.X3 i).trans (r_v168 A (idx_main_v169 i))).trans (congrArg _ (of_line (fun h k => ∑ t ∈ Finset.range 8192, (A.hd h).dForget t k * (A.hd h).sigF t k) (i 0) (i 1)))

theorem r_v170 (i : Cert.ReferenceIdeal.S2048.Idx) : val_main_v170 (F := Ideal) A.X0 A.X1 A.X2 A.X3 i = ((∑ t ∈ Finset.range 8192, (A.hd (hOf (i 0))).dForget t (kOf (i 0)) * (A.hd (hOf (i 0))).sigF t (kOf (i 0)) : ℝ) : EReal) :=
  (val_main_v170_apply A.X0 A.X1 A.X2 A.X3 i).trans (r_sum_one lit_zero (r_v169 A (idx_main_v170 i 0)))

theorem r_v171 (i : Cert.ReferenceIdeal.S8192x2048.Idx) : val_main_v171 (F := Ideal) A.X0 A.X1 A.X2 A.X3 i = (((A.hd (hOf (i 1))).dF (i 0).val (kOf (i 1)) : ℝ) : EReal) :=
  (val_main_v171_apply (F := Ideal) A.X0 A.X1 A.X2 A.X3 i).trans (r_mul (r_v166 A i) (r_v30 A i))

theorem r_v172 (i : Cert.ReferenceIdeal.S2048.Idx) : val_main_v172 (F := Ideal) A.X0 A.X1 A.X2 A.X3 i = ((-(∑ t ∈ Finset.range 8192, (A.hd (hOf (i 0))).dForget t (kOf (i 0)) * (A.hd (hOf (i 0))).sigF t (kOf (i 0))) : ℝ) : EReal) :=
  (val_main_v172_apply (F := Ideal) A.X0 A.X1 A.X2 A.X3 i).trans (r_neg (r_v170 A i))

theorem r_v173 (i : Cert.ReferenceIdeal.S2048.Idx) : val_main_v173 (F := Ideal) A.X0 A.X1 A.X2 A.X3 i = (((A.hd (hOf (i 0))).dLb (kOf (i 0)) : ℝ) : EReal) :=
  ((val_main_v173_apply (F := Ideal) A.X0 A.X1 A.X2 A.X3 i).trans (r_add (r_v164 A i) (r_v172 A i))).trans
    (congrArg _ (Hd.dLb_parts _ _))

theorem r_v174 (i : Cert.ReferenceIdeal.S2048.Idx) : val_main_v174 (F := Ideal) A.X0 A.X1 A.X2 A.X3 i = (((A.hd (hOf (i 0))).dLb (kOf (i 0)) * (1 / ((A.hd (hOf (i 0))).eSum (kOf (i 0)) * (A.hd (hOf (i 0))).eSum (kOf (i 0)))) : ℝ) : EReal) :=
  (val_main_v174_apply (F := Ideal) A.X0 A.X1 A.X2 A.X3 i).trans (r_mul (r_v173 A i) (r_v19 A i))

theorem r_v175 (i : Cert.ReferenceIdeal.S2048.Idx) : val_main_v175 (F := Ideal) A.X0 A.X1 A.X2 A.X3 i = (((A.hd (hOf (i 0))).dLb (kOf (i 0)) * (1 / ((A.hd (hOf (i 0))).eSum (kOf (i 0)) * (A.hd (hOf (i 0))).eSum (kOf (i 0)))) * Real.exp ((A.hd (hOf (i 0))).t0 (kOf (i 0))) : ℝ) : EReal) :=
  (val_main_v175_apply (F := Ideal) A.X0 A.X1 A.X2 A.X3 i).trans (r_mul (r_v174 A i) (r_v12 A i))

theorem r_v176 (i : Cert.ReferenceIdeal.S2048.Idx) : val_main_v176 (F := Ideal) A.X0 A.X1 A.X2 A.X3 i = ((-((A.hd (hOf (i 0))).dLb (kOf (i 0)) * (1 / ((A.hd (hOf (i 0))).eSum (kOf (i 0)) * (A.hd (hOf (i 0))).eSum (kOf (i 0)))) * Real.exp ((A.hd (hOf (i 0))).t0 (kOf (i 0)))) : ℝ) : EReal) :=
  (val_main_v176_apply (F := Ideal) A.X0 A.X1 A.X2 A.X3 i).trans (r_neg (r_v175 A i))

theorem r_v177 (i : Cert.ReferenceIdeal.S2048.Idx) : val_main_v177 (F := Ideal) A.X0 A.X1 A.X2 A.X3 i = (((A.hd (hOf (i 0))).dLb (kOf (i 0)) / (A.hd (hOf (i 0))).eSum (kOf (i 0)) : ℝ) : EReal) :=
  (val_main_v177_apply (F := Ideal) A.X0 A.X1 A.X2 A.X3 i).trans (r_div (Hd.eSum_pos _ _).ne' (r_v173 A i) (r_v15 A i))

theorem r_v178 (i : Cert.ReferenceIdeal.S2048.Idx) : val_main_v178 (F := Ideal) A.X0 A.X1 A.X2 A.X3 i = (((A.hd (hOf (i 0))).dT1 (kOf (i 0)) : ℝ) : EReal) :=
  ((val_main_v178_apply (F := Ideal) A.X0 A.X1 A.X2 A.X3 i).trans (r_mul (r_v176 A i) (r_v14 A i))).trans
    (congrArg _ (Hd.dT1_parts _ _))

theorem r_v179 (i : Cert.ReferenceIdeal.S2048.Idx) : val_main_v179 (F := Ideal) A.X0 A.X1 A.X2 A.X3 i = ((-((A.hd (hOf (i 0))).dLb (kOf (i 0)) * (1 / ((A.hd (hOf (i 0))).eSum (kOf (i 0)) * (A.hd (hOf (i 0))).eSum (kOf (i 0)))) * Real.exp ((A.hd (hOf (i 0))).t0 (kOf (i 0)))) * Real.exp ((A.hd (hOf (i 0))).t0 (kOf (i 0))) : ℝ) : EReal) :=
  (val_main_v179_apply (F := Ideal) A.X0 A.X1 A.X2 A.X3 i).trans (r_mul (r_v176 A i) (r_v13 A i))

theorem r_v180 (i : Cert.ReferenceIdeal.S2048.Idx) : val_main_v180 (F := Ideal) A.X0 A.X1 A.X2 A.X3 i = (((A.hd (hOf (i 0))).dLb (kOf (i 0)) / (A.hd (hOf (i 0))).eSum (kOf (i 0)) * Real.exp ((A.hd (hOf (i 0))).t0 (kOf (i 0))) : ℝ) : EReal) :=
  (val_main_v180_apply (F := Ideal) A.X0 A.X1 A.X2 A.X3 i).trans (r_mul (r_v177 A i) (r_v12 A i))

theorem r_v181 (i : Cert.ReferenceIdeal.S2048.Idx) : val_main_v181 (F := Ideal) A.X0 A.X1 A.X2 A.X3 i = (((A.hd (hOf (i 0))).dT0 (kOf (i 0)) : ℝ) : EReal) :=
  ((val_main_v181_apply (F := Ideal) A.X0 A.X1 A.X2 A.X3 i).trans (r_add (r_v179 A i) (r_v180 A i))).trans
    (congrArg _ (Hd.dT0_parts _ _))

theorem r_v182 (i : Cert.ReferenceIdeal.S8192x2048.Idx) : val_main_v182 (F := Ideal) A.X0 A.X1 A.X2 A.X3 i = (((A.hd (hOf (i 1))).dQh (i 0).val (kOf (i 1)) : ℝ) : EReal) :=
  ((val_main_v182_apply (F := Ideal) A.X0 A.X1 A.X2 A.X3 i).trans (r_v142 A (idx_main_v182 i))).trans (congrArg _ (to_columns (fun h t_ k => (A.hd h).dQh t_ k) (i 0) (i 1)))

theorem r_v183 (i : Cert.ReferenceIdeal.S8192x2048.Idx) : val_main_v183 (F := Ideal) i = ((cScale : ℝ) : EReal) :=
  (val_main_v183_apply (F := Ideal) i).trans lit_scale

theorem r_v184 (i : Cert.ReferenceIdeal.S8192x2048.Idx) : val_main_v184 (F := Ideal) A.X0 A.X1 A.X2 A.X3 i = (((A.hd (hOf (i 1))).dQs (i 0).val (kOf (i 1)) : ℝ) : EReal) :=
  (val_main_v184_apply (F := Ideal) A.X0 A.X1 A.X2 A.X3 i).trans (r_mul (r_v182 A i) (r_v183 i))

theorem r_call7_v0 (i : Cert.ReferenceIdeal.S8192x2048.Idx) : val_main_call7_v0 (F := Ideal) A.X0 A.X1 A.X2 A.X3 i = (((A.hd (hOf (i 1))).q (i 0).val (kOf (i 1)) * (A.hd (hOf (i 1))).dQs (i 0).val (kOf (i 1)) : ℝ) : EReal) :=
  (val_main_call7_v0_apply (F := Ideal) A.X0 A.X1 A.X2 A.X3 i).trans (r_mul (r_v0 A i) (r_v184 A i))

theorem r_call7_v1 (i : Cert.ReferenceIdeal.S8192x2048.Idx) : val_main_call7_v1 (F := Ideal) A.X0 A.X1 A.X2 A.X3 i = (((A.hd (hOf (i 1))).dQs (i 0).val (kOf (i 1)) * (A.hd (hOf (i 1))).sigQ (i 0).val (kOf (i 1)) : ℝ) : EReal) :=
  (val_main_call7_v1_apply (F := Ideal) A.X0 A.X1 A.X2 A.X3 i).trans (r_mul (r_v184 A i) (r_v8_2 A i))

theorem r_call7_v2 (i : Cert.ReferenceIdeal.S8192x2048.Idx) : val_main_call7_v2 (F := Ideal) A.X0 A.X1 A.X2 A.X3 i = (((A.hd (hOf (i 1))).q (i 0).val (kOf (i 1)) * (A.hd (hOf (i 1))).dQs (i 0).val (kOf (i 1)) * ((A.hd (hOf (i 1))).sigQ (i 0).val (kOf (i 1)) * (1 - (A.hd (hOf (i 1))).sigQ (i 0).val (kOf (i 1)))) : ℝ) : EReal) :=
  (val_main_call7_v2_apply (F := Ideal) A.X0 A.X1 A.X2 A.X3 i).trans (r_mul (r_call7_v0 A i) (r_v8_1 A i))

theorem r_v185 (i : Cert.ReferenceIdeal.S8192x2048.Idx) : val_main_v185 (F := Ideal) A.X0 A.X1 A.X2 A.X3 i = (((A.hd (hOf (i 1))).dQ (i 0).val (kOf (i 1)) : ℝ) : EReal) :=
  (val_main_v185_apply (F := Ideal) A.X0 A.X1 A.X2 A.X3 i).trans (r_add (r_call7_v1 A i) (r_call7_v2 A i))

theorem r_v188 (i : Cert.ReferenceIdeal.S1x2048.Idx) : val_main_v188 (F := Ideal) A.X0 A.X1 A.X2 A.X3 i = (((A.hd (hOf (i 1))).dT0 (kOf (i 1)) : ℝ) : EReal) :=
  (val_main_v188_apply (F := Ideal) A.X0 A.X1 A.X2 A.X3 i).trans (r_v181 A (idx_main_v188 i))

theorem r_v189 (i : Cert.ReferenceIdeal.S1x2048.Idx) : val_main_v189 (F := Ideal) A.X0 A.X1 A.X2 A.X3 i = (((A.hd (hOf (i 1))).dT1 (kOf (i 1)) : ℝ) : EReal) :=
  (val_main_v189_apply (F := Ideal) A.X0 A.X1 A.X2 A.X3 i).trans (r_v178 A (idx_main_v189 i))

theorem r_v191 (i : Cert.ReferenceIdeal.S1x1x128.Idx) : val_main_v191 (F := Ideal) A.X0 A.X1 A.X3 i = ((∑ h, ∑ t ∈ Finset.range 8192, (A.hd h).dNwAt t (i 2) : ℝ) : EReal) :=
  ((val_main_v191_apply (F := Ideal) A.X0 A.X1 A.X3 i).trans (r_v124 A (idx_main_v191 i))).trans (congrArg _ (of_point (fun k => ∑ h, ∑ t ∈ Finset.range 8192, (A.hd h).dNwAt t k) (i 0) (i 1) (i 2)))

end Cert.Proof

end
-- ==== Proof.Host.lean ====
/- The states the host computes before the kernel runs: what each chunk of tokens finds. -/
module

public import proofs.«01_k».proof.Proof.Gen.KernelIdeal.Value
public import proofs.«01_k».proof.Proof.Ref
public import Idealize.ShloMosaic.Lib.Claim

@[expose] public section

noncomputable section

namespace Cert.Proof

open Idealize.ShloMosaic Idealize.ShloMosaic.TcCoe Idealize.ShloMosaic.ValueIdx Idealize.SL.Sem Cert.KernelIdeal Cert.KernelIdeal.Gen
open scoped BigOperators

/-- The tokens before a chunk, as a mask over chunks and tokens. -/
def cut : IVec S128x8192x16x128 1 :=
  broadcastInDim S128x8192x16x128 ![0, 1, 2, 3] bcast_S128x8192x1x1_S128x8192x16x128_0_1_2_3
    (broadcastInDim S128x8192x1x1 ![0, 1] bcast_S128x8192_S128x8192x1x1_0_1
      (cmpi .slt (broadcastInDim S128x8192 ![0, 1] bcast_S1x8192_S128x8192_0_1 (broadcastInDim S1x8192 ![1] bcast_S8192_S1x8192_1 (iotaInDim S8192 32 0)))
        (broadcastInDim S128x8192 ![0, 1] bcast_S128x1_S128x8192_0_1
          (muli (broadcastInDim S128x1 ![] bcast_S_S128x1 (constantI S_ 32 64#32)) (broadcastInDim S128x1 ![0] bcast_S128_S128x1_0 (iotaInDim S128 32 0))))))

/-- An array over tokens, repeated for every chunk. -/
def perChunk (x : FVec Ideal S8192x16x128 .f32) : FVec Ideal S128x8192x16x128 .f32 :=
  broadcastInDim S128x8192x16x128 ![0, 1, 2, 3] bcast_S1x8192x16x128_S128x8192x16x128_0_1_2_3
    (broadcastInDim S1x8192x16x128 ![1, 2, 3] bcast_S8192x16x128_S1x8192x16x128_1_2_3 x)

/-- The sum of the decay rates before each chunk. -/
def before (lf : FVec Ideal S8192x16x128 .f32) : FVec Ideal S128x16x128 .f32 :=
  Host.reduceAdd (select cut (perChunk lf) (broadcastInDim S128x8192x16x128 ![] bcast_S_S128x8192x16x128 (constant (F := Ideal) S_ .f32 0x00000000#32)))
    (constant (F := Ideal) S_ .f32 0x00000000#32) reducesTo_S128x8192x16x128_S128x16x128_d1 h_S_

/-- The decay from each token to each chunk. -/
def decay (lf sm : FVec Ideal S8192x16x128 .f32) : FVec Ideal S128x8192x16x128 .f32 :=
  Host.exp (select cut
    (subf (broadcastInDim S128x8192x16x128 ![0, 1, 2, 3] bcast_S128x1x16x128_S128x8192x16x128_0_1_2_3
        (broadcastInDim S128x1x16x128 ![0, 2, 3] bcast_S128x16x128_S128x1x16x128_0_2_3 (before lf))) (perChunk sm))
    (broadcastInDim S128x8192x16x128 ![] bcast_S_S128x8192x16x128 (constant (F := Ideal) S_ .f32 0xFF800000#32)))

/-- The states of all heads and chunks. -/
def states (v key lf sm : FVec Ideal S8192x16x128 .f32) : FVec Ideal S16x128x128x128 .f32 :=
  transpose S16x128x128x128 [0, 2, 1, 3]
    (Host.dotGeneral dot_S8192x16x128_S128x8192x16x128_S16x128x128x128_0_1_2_03_1_2 none v (mulf (perChunk key) (decay lf sm)))
    transposes_S16x128x128x128_S16x128x128x128_0_2_1_3

variable (m : (ℓ : Loc nD τ sig) → Buf (Elt Ideal) ℓ) (c : Dev nD)

set_option maxRecDepth 20000 in
theorem V_states :
    V m c main_v65 = states (ReferenceIdeal.Read.val_main_v42 (F := Ideal) (m ((c : Thread nD τ).loc main_arg0)))
      (ReferenceIdeal.Read.val_main_v39 (F := Ideal) (m ((c : Thread nD τ).loc main_arg0)) (m ((c : Thread nD τ).loc main_arg1)))
      (ReferenceIdeal.Read.val_main_v41 (F := Ideal) (m ((c : Thread nD τ).loc main_arg0)) (m ((c : Thread nD τ).loc main_arg1)))
      (ReferenceIdeal.Read.val_main_v59 (F := Ideal) (m ((c : Thread nD τ).loc main_arg0)) (m ((c : Thread nD τ).loc main_arg1))) := by
  entry_read
  unfold states decay perChunk before cut
  rfl

end Cert.Proof

end
-- ==== Proof.States.lean ====
/- The states the host computes before the kernel runs, as numbers of the sixteen heads. -/
module

public import proofs.«01_k».proof.Proof.Host
public import Idealize.ShloMosaic.Lib.WordCmp

@[expose] public section

noncomputable section

namespace Cert.Proof

open Idealize.ShloMosaic Idealize.ShloMosaic.TcCoe Idealize.ShloMosaic.ValueIdx Idealize.SL.Sem Cert.KernelIdeal Cert.KernelIdeal.Gen
open scoped BigOperators

theorem one_times (a : ℕ) (n : Fin a) (ha : a ≠ 1) : n.val = if a = 1 then 0 else n.val := by rw [if_neg ha]

theorem cut_at (n : Fin 128) (s : Fin 8192) (h : Fin 16) (k : Fin 128) :
    cut (ix4 n s h k) = BitVec.ofBool (decide (s.val < 64 * n.val)) := by
  unfold cut
  refine (broadcastInDim_apply _ _ _ _ (ix4 n s 0 0) fun a => match a with | ⟨0, _⟩ => rfl | ⟨1, _⟩ => rfl | ⟨2, _⟩ => rfl | ⟨3, _⟩ => rfl).trans ?_
  refine (broadcastInDim_apply _ _ _ _ (ix2 n s) fun a => match a with | ⟨0, _⟩ => rfl | ⟨1, _⟩ => rfl).trans ?_
  have e1 : broadcastInDim S128x8192 ![0, 1] bcast_S1x8192_S128x8192_0_1 (broadcastInDim S1x8192 ![1] bcast_S8192_S1x8192_1 (iotaInDim S8192 32 0)) (ix2 n s)
      = BitVec.ofNat 32 s.val := by
    refine (broadcastInDim_apply _ _ _ _ (ix2 0 s) fun a => match a with | ⟨0, _⟩ => rfl | ⟨1, _⟩ => rfl).trans ?_
    exact (broadcastInDim_apply _ _ _ _ (ix1 s) fun a => match a with | ⟨0, _⟩ => rfl).trans rfl
  have e2 : broadcastInDim S128x8192 ![0, 1] bcast_S128x1_S128x8192_0_1
      (muli (broadcastInDim S128x1 ![] bcast_S_S128x1 (constantI S_ 32 64#32)) (broadcastInDim S128x1 ![0] bcast_S128_S128x1_0 (iotaInDim S128 32 0))) (ix2 n s)
      = BitVec.ofNat 32 (64 * n.val) := by
    refine (broadcastInDim_apply _ _ _ _ (ix2 n 0) fun a => match a with | ⟨0, _⟩ => rfl | ⟨1, _⟩ => rfl).trans ?_
    have e3 : broadcastInDim S128x1 ![0] bcast_S128_S128x1_0 (iotaInDim S128 32 0) (ix2 n 0) = BitVec.ofNat 32 n.val :=
      (broadcastInDim_apply _ _ _ _ (ix1 n) fun a => match a with | ⟨0, _⟩ => rfl).trans rfl
    have e4 : broadcastInDim S128x1 ![] bcast_S_S128x1 (constantI S_ 32 64#32) (ix2 n 0) = 64#32 := rfl
    show IntOp.muli _ _ = _
    rw [e3, e4]
    exact (BitVec.ofNat_mul 64 n.val).symm
  show IntOp.cmpi .slt _ _ = _
  rw [e1, e2]
  exact WordCmp.cmpi_slt_ofNat (by have := s.isLt; omega) (by have := n.isLt; omega)

theorem perChunk_at (x : FVec Ideal S8192x16x128 .f32) (n : Fin 128) (s : Fin 8192) (h : Fin 16) (k : Fin 128) :
    perChunk x (ix4 n s h k) = x (ix3 s h k) := by
  unfold perChunk
  refine (broadcastInDim_apply _ _ _ _ (ix4 0 s h k) fun a => match a with | ⟨0, _⟩ => rfl | ⟨1, _⟩ => rfl | ⟨2, _⟩ => rfl | ⟨3, _⟩ => rfl).trans ?_
  exact broadcastInDim_apply _ _ _ _ (ix3 s h k) fun a => match a with | ⟨0, _⟩ => rfl | ⟨1, _⟩ => rfl | ⟨2, _⟩ => rfl

theorem sum_before (F : ℕ → ℝ) (n : Fin 128) : (∑ s : Fin 8192, if s.val < 64 * n.val then F s.val else 0) = ∑ s ∈ Finset.range (64 * n.val), F s := by
  rw [← Finset.sum_range (n := 8192) fun s => if s < 64 * n.val then F s else 0, ← Finset.sum_filter]
  refine Finset.sum_congr ?_ fun _ _ => rfl
  have := n.isLt
  ext s; simp only [Finset.mem_filter, Finset.mem_range]; omega

section
variable {lf sm key v : FVec Ideal S8192x16x128 .f32} {H : Fin 16 → Hd}
  (hlf : ∀ s h k, lf (ix3 s h k) = (((H h).logF s.val k : ℝ) : EReal))
  (hsm : ∀ s h k, sm (ix3 s h k) = (((H h).S (s.val + 1) k : ℝ) : EReal))
  (hkey : ∀ s h k, key (ix3 s h k) = (((H h).key s.val k : ℝ) : EReal))
  (hv : ∀ s h k, v (ix3 s h k) = (((H h).v s.val k : ℝ) : EReal))

include hlf in
theorem before_at (n : Fin 128) (h : Fin 16) (k : Fin 128) : before lf (ix3 n h k) = (((H h).S (64 * n.val) k : ℝ) : EReal) := by
  unfold before
  simp only [Host.reduceAdd, Ideal.hostReduceAdd_def]
  rw [Ideal.hostReduceAdd_single reducesTo_S128x8192x16x128_S128x16x128_d1 (by decide)]
  refine (r_sum (g := fun s : Fin 8192 => if s.val < 64 * n.val then (H h).logF s.val k else 0) lit_zero fun s => ?_).trans
    (congrArg _ (sum_before (fun u => (H h).logF u k) n))
  refine (congrArg _ (show _ = ix4 n s h k from funext fun a => Fin.ext (by match a with | ⟨0, _⟩ => rfl | ⟨1, _⟩ => rfl | ⟨2, _⟩ => rfl | ⟨3, _⟩ => rfl))).trans ?_
  exact r_select (cut_at n s h k) ((perChunk_at lf n s h k).trans (hlf s h k)) lit_zero

include hlf hsm in
theorem decay_at (n : Fin 128) (s : Fin 8192) (h : Fin 16) (k : Fin 128) :
    decay lf sm (ix4 n s h k) = (((if s.val < 64 * n.val then Real.exp ((H h).S (64 * n.val) k - (H h).S (s.val + 1) k) else 0 : ℝ)) : EReal) := by
  have e1 : broadcastInDim S128x8192x16x128 ![0, 1, 2, 3] bcast_S128x1x16x128_S128x8192x16x128_0_1_2_3
      (broadcastInDim S128x1x16x128 ![0, 2, 3] bcast_S128x16x128_S128x1x16x128_0_2_3 (before lf)) (ix4 n s h k) = (((H h).S (64 * n.val) k : ℝ) : EReal) := by
    refine (broadcastInDim_apply _ _ _ _ (ix4 n 0 h k) fun a => match a with | ⟨0, _⟩ => rfl | ⟨1, _⟩ => rfl | ⟨2, _⟩ => rfl | ⟨3, _⟩ => rfl).trans ?_
    exact (broadcastInDim_apply _ _ _ _ (ix3 n h k) fun a => match a with | ⟨0, _⟩ => rfl | ⟨1, _⟩ => rfl | ⟨2, _⟩ => rfl).trans (before_at hlf n h k)
  have e2 := r_sub e1 ((perChunk_at sm n s h k).trans (hsm s h k))
  unfold decay
  show FloatOps.hostUnary .exp (Scalar.select (cut (ix4 n s h k)) _ _) = _
  rw [cut_at]
  by_cases hs : s.val < 64 * n.val
  · rw [if_pos hs]
    simp only [hs, decide_true]
    exact r_exp e2
  · rw [if_neg hs]
    simp only [hs, decide_false]
    refine (congrArg _ (show _ = (⊥ : EReal) from lit_bot)).trans ?_
    exact Ideal.exp_bot

theorem dot_at (x : FVec Ideal S8192x16x128 .f32) (y : FVec Ideal S128x8192x16x128 .f32) (h : Fin 16) (w : Fin 128) (n k : Fin 128) :
    Host.dotGeneral dot_S8192x16x128_S128x8192x16x128_S16x128x128x128_0_1_2_03_1_2 none x y (ix4 h w n k)
      = ∑ s : Fin 8192, x (ix3 s h w) * y (ix4 n s h k) := by
  simp only [Host.dotGeneral]
  rw [Ideal.dotGeneral_apply, ← Equiv.sum_comp (contrEquiv1 dot_S8192x16x128_S128x8192x16x128_S16x128x128x128_0_1_2_03_1_2 8192 rfl rfl).symm]
  refine Finset.sum_congr rfl fun s _ => ?_
  have hs := contrEquiv1_symm_val dot_S8192x16x128_S128x8192x16x128_S16x128x128x128_0_1_2_03_1_2 8192 rfl rfl s
  refine congrArg₂ (· * ·) (congrArg x (funext fun a => Fin.ext ?_)) (congrArg y (funext fun a => Fin.ext ?_))
  · match a with
    | ⟨0, _⟩ => exact (DotDims.lhsIdx_val_of_single _ rfl _ _).trans hs
    | ⟨1, _⟩ => rfl
    | ⟨2, _⟩ => rfl
  · match a with
    | ⟨0, _⟩ => rfl
    | ⟨1, _⟩ => exact (DotDims.rhsIdx_val_of_single _ rfl _ _).trans hs
    | ⟨2, _⟩ => rfl
    | ⟨3, _⟩ => rfl

include hlf hsm hkey hv in
theorem states_at (h : Fin 16) (n w k : Fin 128) : states v key lf sm (ix4 h n w k) = (((H h).st n.val w k : ℝ) : EReal) := by
  unfold states
  refine (transpose_apply _ _ _ _ (ix4 h w n k) fun b => match b with | ⟨0, _⟩ => rfl | ⟨1, _⟩ => rfl | ⟨2, _⟩ => rfl | ⟨3, _⟩ => rfl).trans ?_
  refine (dot_at _ _ h w n k).trans ((r_dot (fun s => hv s h w) fun s =>
    r_mul ((perChunk_at key n s h k).trans (hkey s h k)) (decay_at hlf hsm n s h k)).trans (congrArg _ ?_))
  unfold Hd.st
  rw [← sum_before (fun s => (H h).key s k * Real.exp ((H h).S (64 * n.val) k - (H h).S (s + 1) k) * (H h).v s w) n]
  refine Finset.sum_congr rfl fun s _ => ?_
  by_cases hs : s.val < 64 * n.val
  · rw [if_pos hs, if_pos hs]; ring
  · rw [if_neg hs, if_neg hs, mul_zero, mul_zero]

end

/-- The states of a run on arrays of real numbers. -/
theorem V_states_at (m : (ℓ : Loc nD τ sig) → Buf (Elt Ideal) ℓ) (c : Dev nD) (A : Nums)
    (h0 : m ((c : Thread nD τ).loc main_arg0) = A.X0) (h1 : m ((c : Thread nD τ).loc main_arg1) = A.X1) (h : Fin 16) (n w k : Fin 128) :
    V m c main_v65 (ix4 h n w k) = (((A.hd h).st n.val w k : ℝ) : EReal) := by
  rw [V_states, h0, h1]
  exact states_at (H := A.hd) (fun s h k => r_v41 A (ix3 s h k)) (fun s h k => r_v59 A (ix3 s h k)) (fun s h k => r_v39 A (ix3 s h k))
    (fun s h k => r_v42 A (ix3 s h k)) h n w k

end Cert.Proof

end
-- ==== Proof.Blocks.lean ====
/- The kernel's blocks, as parts of the whole arrays. -/
module

public import proofs.«01_k».proof.Proof.Gen.KernelIdeal.Value
public import proofs.«01_k».proof.Proof.Sweep
public import proofs.«01_k».proof.Proof.States
public import Idealize.ShloMosaic.Lib.Pipeline.ValueKit.Geometry

@[expose] public section

noncomputable section

namespace Cert.Proof

open Idealize.ShloMosaic Idealize.ShloMosaic.TcCoe Idealize.ShloMosaic.ValueIdx Idealize.SL.Sem Cert.KernelIdeal Cert.KernelIdeal.Gen
open scoped BigOperators

/-! ## Where the blocks lie -/

theorem ix_0 : ∀ t : Fin cfg0.N, win0_0.index t = ![63 - t.val, 0] := (by decide +kernel : ∀ t : Fin grid0.N, _)
theorem ix_1 : ∀ t : Fin cfg0.N, win0_1.index t = ![63 - t.val, 1] := (by decide +kernel : ∀ t : Fin grid0.N, _)
theorem ix_2 : ∀ t : Fin cfg0.N, win0_2.index t = ![63 - t.val, 2] := (by decide +kernel : ∀ t : Fin grid0.N, _)
theorem ix_3 : ∀ t : Fin cfg0.N, win0_3.index t = ![63 - t.val, 3] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 63 - t.val, 0, 0] := (by decide +kernel : ∀ t : Fin grid0.N, _)
theorem ix_7 : ∀ t : Fin cfg0.N, win0_7.index t = ![63 - t.val, 0] := (by decide +kernel : ∀ t : Fin grid0.N, _)
theorem ix_8 : ∀ t : Fin cfg0.N, win0_8.index t = ![63 - t.val, 0] := (by decide +kernel : ∀ t : Fin grid0.N, _)

variable (m : (ℓ : Loc nD τ sig) → Buf (Elt Ideal) ℓ) (c : Dev nD)

/-- The row of the whole arrays that is row `p` of the block of point `t`. -/
def brow (t : Fin cfg0.N) (p : Fin 128) : Fin 8192 := ⟨128 * (63 - t.val) + p.val, by omega⟩

theorem rd_0 (t : Fin cfg0.N) (p : Fin 128) (j : Fin 2048) :
    iblk m c 0 t (ix2 p j) = V m c main_arg0 (ix2 (brow t p) (⟨j.val, by omega⟩ : Fin 8192)) := by
  unfold brow
  blk_simp [iblk]
  exact congrArg (V m c main_arg0) (by
    blk_ext [ix_0]
    show (63 - t.val) * 128 + p.val = 128 * (63 - t.val) + p.val; omega)
theorem rd_1 (t : Fin cfg0.N) (p : Fin 128) (j : Fin 2048) :
    iblk m c 1 t (ix2 p j) = V m c main_arg0 (ix2 (brow t p) (⟨2048 + j.val, by omega⟩ : Fin 8192)) := by
  unfold brow
  blk_simp [iblk]
  exact congrArg (V m c main_arg0) (by
    blk_ext [ix_1]
    show (63 - t.val) * 128 + p.val = 128 * (63 - t.val) + p.val; omega)
theorem rd_2 (t : Fin cfg0.N) (p : Fin 128) (j : Fin 2048) :
    iblk m c 2 t (ix2 p j) = V m c main_arg0 (ix2 (brow t p) (⟨2048 * 2 + j.val, by omega⟩ : Fin 8192)) := by
  unfold brow
  blk_simp [iblk]
  exact congrArg (V m c main_arg0) (by
    blk_ext [ix_2]
    show (63 - t.val) * 128 + p.val = 128 * (63 - t.val) + p.val; omega)
theorem rd_3 (t : Fin cfg0.N) (p : Fin 128) (j : Fin 2048) :
    iblk m c 3 t (ix2 p j) = V m c main_arg0 (ix2 (brow t p) (⟨2048 * 3 + j.val, by omega⟩ : Fin 8192)) := by
  unfold brow
  blk_simp [iblk]
  exact congrArg (V m c main_arg0) (by
    blk_ext [ix_3]
    show (63 - t.val) * 128 + p.val = 128 * (63 - t.val) + p.val; omega)
theorem rd_4 (t : Fin cfg0.N) (r : Fin 2) (j : Fin 2048) : iblk m c 4 t (ix2 r j) = V m c main_arg1 (ix2 r j) := by
  blk_simp [iblk]
  exact congrArg (V m c main_arg1) (by blk_ext [ix_4])
theorem rd_5 (t : Fin cfg0.N) (r : Fin 1) (j : Fin 128) : iblk m c 5 t (ix2 r j) = V m c main_arg2 (ix2 r j) := by
  blk_simp [iblk]
  exact congrArg (V m c main_arg2) (by blk_ext [ix_5])
theorem rd_6 (t : Fin cfg0.N) (h : Fin 16) (a : Fin 2) (v k : Fin 128) :
    iblk m c 6 t (ix4 h a v k) = V m c main_v65 (ix4 h (⟨2 * (63 - t.val) + a.val, by omega⟩ : Fin 128) v k) := by
  blk_simp [iblk]
  exact congrArg (V m c main_v65) (by
    blk_ext [ix_6]
    show (63 - t.val) * 2 + a.val = 2 * (63 - t.val) + a.val; omega)
theorem rd_7 (t : Fin cfg0.N) (p : Fin 128) (j : Fin 2048) : iblk m c 7 t (ix2 p j) = V m c main_arg3 (ix2 (brow t p) j) := by
  unfold brow
  blk_simp [iblk]
  exact congrArg (V m c main_arg3) (by
    blk_ext [ix_7]
    show (63 - t.val) * 128 + p.val = 128 * (63 - t.val) + p.val; omega)

end Cert.Proof

end
-- ==== Proof.Arrays.lean ====
/- What the kernel reads and writes, as whole arrays. -/
module

public import proofs.«01_k».proof.Proof.Gen.KernelIdeal.Value
public import proofs.«01_k».proof.Proof.Blocks

@[expose] public section

noncomputable section

namespace Cert.Proof

open Idealize.ShloMosaic Idealize.ShloMosaic.TcCoe Idealize.ShloMosaic.ValueIdx Idealize.SL.Sem Cert.KernelIdeal Cert.KernelIdeal.Gen
open scoped BigOperators

variable (m : (ℓ : Loc nD τ sig) → Buf (Elt Ideal) ℓ) (c : Dev nD)

/-! ## What the chunks of a point read -/

/-- The blocks' parts are a chunk's inputs. -/
theorem chunkIn_eq (a : Fin 2) (x0 x1 x2 x3 : Vec Ideal S128x2048 .f32) (x4 : Vec Ideal S2x2048 .f32) (x5 : Vec Ideal S1x128 .f32)
    (x6 : Vec Ideal S16x2x128x128 .f32) (x7 : Vec Ideal S128x2048 .bf16) (I : In)
    (h0 : (fun i => x4 (atTab 0 (i 0) (i 2))) = I.t0) (h1 : (fun i => x4 (atTab 1 (i 0) (i 2))) = I.t1) (hn : x5 = I.nw)
    (hq : (fun i => x0 (at2 a (i 0) (i 1) (i 2))) = I.q) (hf : (fun i => x1 (at2 a (i 0) (i 1) (i 2))) = I.f)
    (hv : (fun i => x2 (at2 a (i 0) (i 1) (i 2))) = I.v) (hg : (fun i => x3 (at2 a (i 0) (i 1) (i 2))) = I.g)
    (hs : (fun i => x6 (ix4 (i 0) a (i 1) (i 2))) = I.st) (hy : (fun i => x7 (at2 a (i 0) (i 1) (i 2))) = I.dy) :
    chunkIn a x0 x1 x2 x3 x4 x5 x6 x7 I.dst = I := by
  unfold chunkIn
  rw [h0, h1, hn, hq, hf, hv, hg, hs, hy]

section
variable (A : Nums) (h0 : m ((c : Thread nD τ).loc main_arg0) = A.X0) (h1 : m ((c : Thread nD τ).loc main_arg1) = A.X1)
  (h2 : m ((c : Thread nD τ).loc main_arg2) = A.X2) (h3 : m ((c : Thread nD τ).loc main_arg3) = A.X3)

include h0 in
theorem V0_at (t : Fin 8192) (j : Fin 8192) : V m c main_arg0 (ix2 t j) = ((A.r0 t j : ℝ) : EReal) := by
  rw [V_main_arg0, h0]; rfl
include h1 in
theorem V1_at (r : Fin 2) (j : Fin 2048) : V m c main_arg1 (ix2 r j) = ((A.r1 r j : ℝ) : EReal) := by
  rw [V_main_arg1, h1]; rfl
include h2 in
theorem V2_at (r : Fin 1) (j : Fin 128) : V m c main_arg2 (ix2 r j) = ((A.r2 j : ℝ) : EReal) := by
  rw [V_main_arg2, h2]; rfl
include h3 in
theorem V3_at (t : Fin 8192) (j : Fin 2048) : V m c main_arg3 (ix2 t j) = ((A.r3 t j : ℝ) : EReal) := by
  rw [V_main_arg3, h3]; rfl

/-- The row of token `s` of half `a`. -/
theorem brow_row (t : Fin cfg0.N) (a : Fin 2) (s : Fin 64) : brow t (row a s) = tok (64 * (2 * (63 - t.val) + a.val) + s.val) := by
  refine Fin.ext ?_
  have := t.isLt
  change 128 * (63 - t.val) + (64 * a.val + s.val) = (64 * (2 * (63 - t.val) + a.val) + s.val) % 8192
  have := a.isLt; have := s.isLt
  omega

include h0 in
theorem read_seg (t : Fin cfg0.N) (a : Fin 2) (s : Fin 64) (g : Fin 4) (h : Fin 16) (k : Fin 128) (j : Fin 8192) (hj : j.val = (col g h k).val) :
    V m c main_arg0 (ix2 (brow t (row a s)) j) = ((A.r0 (tok (64 * (2 * (63 - t.val) + a.val) + s.val)) (col g h k) : ℝ) : EReal) := by
  rw [brow_row, Fin.ext hj]; exact V0_at m c A h0 _ _

include h3 in
theorem read_dyAt (t : Fin cfg0.N) (a : Fin 2) (s : Fin 64) (j : Fin 2048) :
    V m c main_arg3 (ix2 (brow t (row a s)) j) = ((A.r3 (tok (64 * (2 * (63 - t.val) + a.val) + s.val)) j : ℝ) : EReal) := by
  rw [brow_row]; exact V3_at m c A h3 _ _

theorem seg_col (g : Fin 4) (h : Fin 16) (k : Fin 128) (n : ℕ) (hn : n = 2048 * g.val + (tcol h k).val) : n = (col g h k).val := by
  subst hn
  show 2048 * g.val + (128 * h.val + k.val) = 2048 * g.val + 128 * h.val + k.val; omega

/-- What one chunk of a head's tokens reads. -/
abbrev J (n : ℕ) : In := IN A.r2 A.hd n

variable (t : Fin cfg0.N) (a : Fin 2)

include h1 in
theorem read_t0 : (fun i => iblk m c 4 t (atTab 0 (i 0) (i 2)) : FVec Ideal S16x1x128 .f32) = (J A (2 * (63 - t.val) + a.val)).t0 :=
  funext fun i => (rd_4 m c t 0 (tcol (i 0) (i 2))).trans (V1_at m c A h1 0 (tcol (i 0) (i 2)))
include h1 in
theorem read_t1 : (fun i => iblk m c 4 t (atTab 1 (i 0) (i 2)) : FVec Ideal S16x1x128 .f32) = (J A (2 * (63 - t.val) + a.val)).t1 :=
  funext fun i => (rd_4 m c t 1 (tcol (i 0) (i 2))).trans (V1_at m c A h1 1 (tcol (i 0) (i 2)))
include h2 in
theorem read_nw : (iblk m c 5 t : FVec Ideal S1x128 .f32) = (J A (2 * (63 - t.val) + a.val)).nw := by
  funext i
  obtain ⟨r, j, rfl⟩ : ∃ (r : Fin 1) (j : Fin 128), i = ix2 r j := ⟨i 0, i 1, funext fun b => Fin.ext (by match b with | ⟨0, _⟩ => rfl | ⟨1, _⟩ => rfl)⟩
  exact (rd_5 m c t r j).trans (V2_at m c A h2 r j)
include h0 in
theorem read_q : (fun i => iblk m c 0 t (at2 a (i 0) (i 1) (i 2)) : FVec Ideal S16x64x128 .f32) = (J A (2 * (63 - t.val) + a.val)).q :=
  funext fun i => (rd_0 m c t (row a (i 1)) (tcol (i 0) (i 2))).trans (read_seg m c A h0 t a (i 1) 0 (i 0) (i 2) _ (seg_col 0 (i 0) (i 2) _ (Nat.zero_add _).symm))
include h0 in
theorem read_f : (fun i => iblk m c 1 t (at2 a (i 0) (i 1) (i 2)) : FVec Ideal S16x64x128 .f32) = (J A (2 * (63 - t.val) + a.val)).f :=
  funext fun i => (rd_1 m c t (row a (i 1)) (tcol (i 0) (i 2))).trans (read_seg m c A h0 t a (i 1) 1 (i 0) (i 2) _ (seg_col 1 (i 0) (i 2) _ rfl))
include h0 in
theorem read_v : (fun i => iblk m c 2 t (at2 a (i 0) (i 1) (i 2)) : FVec Ideal S16x64x128 .f32) = (J A (2 * (63 - t.val) + a.val)).v :=
  funext fun i => (rd_2 m c t (row a (i 1)) (tcol (i 0) (i 2))).trans (read_seg m c A h0 t a (i 1) 2 (i 0) (i 2) _ (seg_col 2 (i 0) (i 2) _ rfl))
include h0 in
theorem read_g : (fun i => iblk m c 3 t (at2 a (i 0) (i 1) (i 2)) : FVec Ideal S16x64x128 .f32) = (J A (2 * (63 - t.val) + a.val)).g :=
  funext fun i => (rd_3 m c t (row a (i 1)) (tcol (i 0) (i 2))).trans (read_seg m c A h0 t a (i 1) 3 (i 0) (i 2) _ (seg_col 3 (i 0) (i 2) _ rfl))
include h0 h1 in
theorem read_st : (fun i => iblk m c 6 t (ix4 (i 0) a (i 1) (i 2)) : FVec Ideal S16x128x128 .f32) = (J A (2 * (63 - t.val) + a.val)).st :=
  funext fun i => (rd_6 m c t (i 0) a (i 1) (i 2)).trans (V_states_at m c A h0 h1 (i 0) _ (i 1) (i 2))
include h3 in
theorem read_dy : (fun i => iblk m c 7 t (at2 a (i 0) (i 1) (i 2)) : FVec Ideal S16x64x128 .f32) = (J A (2 * (63 - t.val) + a.val)).dy :=
  funext fun i => (rd_7 m c t (row a (i 1)) (tcol (i 0) (i 2))).trans (read_dyAt m c A h3 t a (i 1) (tcol (i 0) (i 2)))

include h0 h1 h2 h3 in
theorem reads : Reads m c A.r2 A.hd := fun t a =>
  chunkIn_eq a (iblk m c 0 t) (iblk m c 1 t) (iblk m c 2 t) (iblk m c 3 t) (iblk m c 4 t) (iblk m c 5 t) (iblk m c 6 t) (iblk m c 7 t)
    (IN A.r2 A.hd (2 * (63 - t.val) + a.val)) (read_t0 m c A h1 t a) (read_t1 m c A h1 t a) (read_nw m c A h2 t a) (read_q m c A h0 t a) (read_f m c A h0 t a)
    (read_v m c A h0 t a) (read_g m c A h0 t a) (read_st m c A h0 h1 t a) (read_dy m c A h3 t a)

end

end Cert.Proof

end
-- ==== Proof.RefOut.lean ====
/- The three results of the reference, as numbers of the sixteen heads. -/
module

public import proofs.«01_k».proof.Proof.Ref

@[expose] public section

noncomputable section

namespace Cert.Proof

open Idealize.ShloMosaic Idealize.ShloMosaic.ValueIdx Idealize.SL.Sem Cert.ReferenceIdeal Cert.ReferenceIdeal.Gen Cert.ReferenceIdeal.Read

/-- The gradient of the projection, by segment. -/
def Hd.fig (H : Hd) (g : ℕ) (t : ℕ) (k : Fin 128) : ℝ :=
  if g = 0 then H.dQ t k else if g = 1 then H.dF t k else if g = 2 then H.dV t k else H.dG t k

theorem Hd.fig_0 (H : Hd) (t : ℕ) (k : Fin 128) : H.fig 0 t k = H.dQ t k := by simp [Hd.fig]
theorem Hd.fig_1 (H : Hd) (t : ℕ) (k : Fin 128) : H.fig 1 t k = H.dF t k := by simp [Hd.fig]
theorem Hd.fig_2 (H : Hd) (t : ℕ) (k : Fin 128) : H.fig 2 t k = H.dV t k := by simp [Hd.fig]
theorem Hd.fig_3 (H : Hd) (t : ℕ) (k : Fin 128) : H.fig 3 t k = H.dG t k := by simp [Hd.fig]

/-- The gradient of the table, by row. -/
def Hd.tab (H : Hd) (r : ℕ) (k : Fin 128) : ℝ := if r = 0 then H.dT0 k else H.dT1 k

variable (A : Nums)

/-- A piece of columns of the joined array. -/
theorem piece_fig (x0 x1 x2 x3 : S8192x2048.Idx → Ideal .f32) (h4) (g : Fin 4) (t : Fin 8192) (h : Fin 16) (k : Fin 128) :
    concatenate S8192x8192 1 [⟨S8192x2048, x0⟩, ⟨S8192x2048, x1⟩, ⟨S8192x2048, x2⟩, ⟨S8192x2048, x3⟩] h4 (ix2 t (col g h k))
      = ![x0, x1, x2, x3] g (ix2 t (tcol h k)) := by
  refine concatenate_apply_piece (t := S8192x8192) 1 _ h4 (ix2 t (col g h k)) g.val (by show g.val < 4; omega) S8192x2048 (![x0, x1, x2, x3] g) ?_ rfl (2048 * g.val) ?_ (ix2 t (tcol h k)) ?_ ?_
  · match g with
    | ⟨0, _⟩ => rfl
    | ⟨1, _⟩ => rfl
    | ⟨2, _⟩ => rfl
    | ⟨3, _⟩ => rfl
  · match g with
    | ⟨0, _⟩ => exact (Nat.mul_zero 2048).symm
    | ⟨1, _⟩ => exact (by decide : 2048 + 0 = 2048 * 1)
    | ⟨2, _⟩ => exact (by decide : 2048 + (2048 + 0) = 2048 * 2)
    | ⟨3, _⟩ => exact (by decide : 2048 + (2048 + (2048 + 0)) = 2048 * 3)
  · intro b hb
    match b with
    | ⟨0, _⟩ => rfl
    | ⟨1, _⟩ => exact absurd rfl hb
  · show 2048 * g.val + (128 * h.val + k.val) = 2048 * g.val + 128 * h.val + k.val; omega

theorem ref_fig (g : Fin 4) (t : Fin 8192) (h : Fin 16) (k : Fin 128) :
    val_main_v187 (F := Ideal) A.X0 A.X1 A.X2 A.X3 (ix2 t (col g h k)) = (((A.hd h).fig g.val t.val k : ℝ) : EReal) := by
  refine (val_main_v187_apply (F := Ideal) A.X0 A.X1 A.X2 A.X3 _).trans ?_
  show val_main_v186 (F := Ideal) A.X0 A.X1 A.X2 A.X3 (ix2 t (col g h k)) = _
  unfold val_main_v186
  refine (piece_fig _ _ _ _ _ g t h k).trans ?_
  match g with
  | ⟨0, _⟩ => refine (r_v185 A (ix2 t (tcol h k))).trans ?_; exact congrArg (fun x : ℝ => (x : EReal)) ((congrArg₂ (fun a b => (A.hd a).dQ t.val b) (hOf_tcol h k) (kOf_tcol h k)).trans (Hd.fig_0 _ _ _).symm)
  | ⟨1, _⟩ => refine (r_v171 A (ix2 t (tcol h k))).trans ?_; exact congrArg (fun x : ℝ => (x : EReal)) ((congrArg₂ (fun a b => (A.hd a).dF t.val b) (hOf_tcol h k) (kOf_tcol h k)).trans (Hd.fig_1 _ _ _).symm)
  | ⟨2, _⟩ => refine (r_v156 A (ix2 t (tcol h k))).trans ?_; exact congrArg (fun x : ℝ => (x : EReal)) ((congrArg₂ (fun a b => (A.hd a).dV t.val b) (hOf_tcol h k) (kOf_tcol h k)).trans (Hd.fig_2 _ _ _).symm)
  | ⟨3, _⟩ => refine (r_v102 A (ix2 t (tcol h k))).trans ?_; exact congrArg (fun x : ℝ => (x : EReal)) ((congrArg₂ (fun a b => (A.hd a).dG t.val b) (hOf_tcol h k) (kOf_tcol h k)).trans (Hd.fig_3 _ _ _).symm)

theorem ref_tab (r : Fin 2) (h : Fin 16) (k : Fin 128) :
    val_main_v190 (F := Ideal) A.X0 A.X1 A.X2 A.X3 (ix2 r (tcol h k)) = (((A.hd h).tab r.val k : ℝ) : EReal) := by
  unfold val_main_v190
  match r with
  | ⟨0, _⟩ =>
    refine (concatenate_pair_apply_left (t := S2x2048) (s₁ := S1x2048) (s₂ := S1x2048) 0 _ _ _ _ rfl (ix2 0 (tcol h k)) fun b => ?_).trans ?_
    · match b with
      | ⟨0, _⟩ => rfl
      | ⟨1, _⟩ => rfl
    · refine (r_v188 A (ix2 0 (tcol h k))).trans ?_
      exact congrArg (fun x : ℝ => (x : EReal)) (congrArg₂ (fun a b => (A.hd a).dT0 b) (hOf_tcol h k) (kOf_tcol h k))
  | ⟨1, _⟩ =>
    refine (concatenate_pair_apply_right (t := S2x2048) (s₁ := S1x2048) (s₂ := S1x2048) 0 _ _ _ _ rfl rfl (ix2 0 (tcol h k)) (fun b hb => ?_) rfl).trans ?_
    · match b with
      | ⟨0, _⟩ => exact absurd rfl hb
      | ⟨1, _⟩ => rfl
    · refine (r_v189 A (ix2 0 (tcol h k))).trans ?_
      exact congrArg (fun x : ℝ => (x : EReal)) (congrArg₂ (fun a b => (A.hd a).dT1 b) (hOf_tcol h k) (kOf_tcol h k))

theorem ref_nw (r : Fin 16) (k : Fin 128) :
    val_main_v193 (F := Ideal) A.X0 A.X1 A.X3 (ix3 r 0 k) = (((if r = 0 then ∑ h, ∑ t ∈ Finset.range 8192, (A.hd h).dNwAt t k else 0) : ℝ) : EReal) := by
  unfold val_main_v193
  by_cases e : r = 0
  · subst e
    rw [if_pos rfl]
    refine (concatenate_pair_apply_left (t := S16x1x128) (s₁ := S1x1x128) (s₂ := S15x1x128) 0 _ _ _ _ rfl (ix3 0 0 k) fun b => ?_).trans (r_v191 A (ix3 0 0 k))
    match b with
    | ⟨0, _⟩ => rfl
    | ⟨1, _⟩ => rfl
    | ⟨2, _⟩ => rfl
  · have hr : r.val ≠ 0 := fun c => e (Fin.ext c)
    rw [if_neg e]
    refine (concatenate_pair_apply_right (t := S16x1x128) (s₁ := S1x1x128) (s₂ := S15x1x128) 0 _ _ _ _ rfl rfl (ix3 ⟨r.val - 1, by omega⟩ 0 k) (fun b hb => ?_) ?_).trans
      ((val_main_v192_apply (F := Ideal) _).trans lit_zero)
    · match b with
      | ⟨0, _⟩ => exact absurd rfl hb
      | ⟨1, _⟩ => rfl
      | ⟨2, _⟩ => rfl
    · show (r.val - 1) + 1 = r.val; omega

end Cert.Proof

end
-- ==== Proof.Results.lean ====
/- The three arrays the kernel returns are the reference's. -/
module

public import proofs.«01_k».proof.Proof.Arrays
public import proofs.«01_k».proof.Proof.RefOut
public import Idealize.ShloMosaic.Lib.Pipeline.ValueKit.Geometry

@[expose] public section

noncomputable section

namespace Cert.Proof

open Idealize.ShloMosaic Idealize.ShloMosaic.TcCoe Idealize.ShloMosaic.ValueIdx Idealize.SL.Sem Cert.KernelIdeal Cert.KernelIdeal.Gen Cert.KernelIdeal.Value
open scoped BigOperators

/-! ## From chunks to tokens -/

section
variable (A : Nums)

theorem seg_fig (n : ℕ) (hn : n < 128) (g : Fin 4) (h : Fin 16) (s : Fin 64) (k : Fin 128) :
    seg (IN A.r2 A.hd n) g.val (ix3 h s k) = (((A.hd h).fig g.val (64 * n + s.val) k : ℝ) : EReal) := by
  have hw : ∀ h, (A.hd h).w = A.r2 := fun _ => rfl
  match g with
  | ⟨0, _⟩ => exact (congrFun (In.l_dQ A.r2 _) (ix3 h s k)).trans (congrArg (fun x : ℝ => (x : EReal))
      ((congrArg (fun R : RH => R.dQ s k) (one_chunk A.r2 A.hd hw n h)).trans (((A.hd h).c_dQ n hn s k).trans (Hd.fig_0 _ _ _).symm)))
  | ⟨1, _⟩ => exact (congrFun (In.l_dF A.r2 _) (ix3 h s k)).trans (congrArg (fun x : ℝ => (x : EReal))
      ((congrArg (fun R : RH => R.dF s k) (one_chunk A.r2 A.hd hw n h)).trans (((A.hd h).c_dF n hn s k).trans (Hd.fig_1 _ _ _).symm)))
  | ⟨2, _⟩ => exact (congrFun (In.l_dV A.r2 _) (ix3 h s k)).trans (congrArg (fun x : ℝ => (x : EReal))
      ((congrArg (fun R : RH => R.dV s k) (one_chunk A.r2 A.hd hw n h)).trans (((A.hd h).c_dV n hn s k).trans (Hd.fig_2 _ _ _).symm)))
  | ⟨3, _⟩ => exact (congrFun (In.l_dG A.r2 _) (ix3 h s k)).trans (congrArg (fun x : ℝ => (x : EReal))
      ((congrArg (fun R : RH => R.dG s k) (one_chunk A.r2 A.hd hw n h)).trans (((A.hd h).c_dG n hn s k).trans (Hd.fig_3 _ _ _).symm)))

theorem tab_all (r : Fin 2) (h : Fin 16) (k : Fin 128) : ∑ n ∈ Finset.Ico 0 128, tabPart A.hd n r h k = (A.hd h).tab r.val k := by
  rw [← Finset.range_eq_Ico]
  match r with
  | ⟨0, _⟩ => exact (A.hd h).all_dT0 k
  | ⟨1, _⟩ => exact (A.hd h).all_dT1 k

theorem nw_all (k : Fin 128) : ∑ n ∈ Finset.Ico 0 128, ∑ h : Fin 16, ((A.hd h).chunk n).dNw k = ∑ h, ∑ t ∈ Finset.range 8192, (A.hd h).dNwAt t k := by
  rw [← Finset.range_eq_Ico, Finset.sum_comm]
  exact Finset.sum_congr rfl fun h _ => (A.hd h).all_dNw k

/-- Every column of the projection is one of a segment. -/
theorem col_of (j : Fin 8192) : ∃ g h k, j = col g h k :=
  ⟨⟨j.val / 2048, by omega⟩, ⟨j.val % 2048 / 128, by omega⟩, ⟨j.val % 128, by omega⟩, Fin.ext (by
    show j.val = 2048 * (j.val / 2048) + 128 * (j.val % 2048 / 128) + j.val % 128; omega)⟩

theorem row_of (p : Fin 128) : ∃ a s, p = row a s :=
  ⟨⟨p.val / 64, by omega⟩, ⟨p.val % 64, by omega⟩, Fin.ext (by show p.val = 64 * (p.val / 64) + p.val % 64; omega)⟩

theorem ix2_of {a b : ℕ} (y : (⟨2, ![a, b]⟩ : Shape).Idx) : ∃ (p : Fin a) (q : Fin b), y = ix2 p q :=
  ⟨y 0, y 1, funext fun x => Fin.ext (by match x with | ⟨0, _⟩ => rfl | ⟨1, _⟩ => rfl)⟩

theorem ix3_of {a b c : ℕ} (y : (⟨3, ![a, b, c]⟩ : Shape).Idx) : ∃ (p : Fin a) (q : Fin b) (r : Fin c), y = ix3 p q r :=
  ⟨y 0, y 1, y 2, funext fun x => Fin.ext (by match x with | ⟨0, _⟩ => rfl | ⟨1, _⟩ => rfl | ⟨2, _⟩ => rfl)⟩

end

/-! ## The blocks of the results -/

section
variable (A : Nums) (t : ℕ) (ht : t < 64)
  (o : Vec Ideal S128x8192 .bf16 × Vec Ideal S2x2048 .f32 × Vec Ideal S16x1x128 .f32 × Vec Ideal S16x128x128 .f32)
  (P : After A.r2 A.hd t o)

include ht P in
theorem fig_block (p : Fin 128) (j : Fin 8192) (T : Fin 8192) (hT : T.val = 128 * (63 - t) + p.val) :
    o.1 (ix2 p j) = ReferenceIdeal.Read.val_main_v187 (F := Ideal) A.X0 A.X1 A.X2 A.X3 (ix2 T j) := by
  obtain ⟨g, h, k, rfl⟩ := col_of j
  obtain ⟨a, s, rfl⟩ := row_of p
  refine (P.fig a s g h k).trans (Eq.trans ?_ (ref_fig A g T h k).symm)
  have hT' : T.val = 64 * (2 * (63 - t) + a.val) + s.val := by
    change T.val = 128 * (63 - t) + (64 * a.val + s.val) at hT; omega
  rw [hT']
  by_cases ha : a = 1
  · subst ha
    rw [if_pos rfl]
    exact seg_fig A _ (by omega) g h s k
  · have h0 : a.val = 0 := by have := Fin.val_ne_of_ne ha; have := a.isLt; change a.val ≠ 1 at *; omega
    rw [if_neg ha, h0]
    exact seg_fig A _ (by omega) g h s k
end

section
variable (A : Nums)
  (o : Vec Ideal S128x8192 .bf16 × Vec Ideal S2x2048 .f32 × Vec Ideal S16x1x128 .f32 × Vec Ideal S16x128x128 .f32)
  (P : After A.r2 A.hd 63 o)

include P in
theorem tab_last (r : Fin 2) (j : Fin 2048) : o.2.1 (ix2 r j) = ReferenceIdeal.Read.val_main_v190 (F := Ideal) A.X0 A.X1 A.X2 A.X3 (ix2 r j) := by
  rw [← tcol_of j]
  exact (P.tab r _ _).trans ((congrArg (fun x : ℝ => (x : EReal)) (tab_all A r (hOf j) (kOf j))).trans (ref_tab A r _ _).symm)

include P in
theorem nw_last (r : Fin 16) (z : Fin 1) (k : Fin 128) :
    o.2.2.1 (ix3 r z k) = ReferenceIdeal.Read.val_main_v193 (F := Ideal) A.X0 A.X1 A.X3 (ix3 r z k) := by
  obtain rfl : z = 0 := Subsingleton.elim _ _
  refine (P.nw r k).trans (Eq.trans (congrArg (fun x : ℝ => (x : EReal)) ?_) (ref_nw A r k).symm)
  by_cases e : r = 0
  · rw [if_pos e, if_pos e]; exact nw_all A k
  · rw [if_neg e, if_neg e]

end

/-! ## The arrays after the run -/

/-- The last point. -/
def lastPt : Fin cfg0.N := ⟨63, by decide⟩

theorem whole_9 : (cfg0.win 9).WholeAt lastPt := by decide +kernel
theorem whole_10 : (cfg0.win 10).WholeAt lastPt := by decide +kernel

section
variable (m : (ℓ : Loc nD τ sig) → Buf (Elt Ideal) ℓ) (c : Dev nD)
variable (A : Nums) (h0 : m ((c : Thread nD τ).loc main_arg0) = A.X0) (h1 : m ((c : Thread nD τ).loc main_arg1) = A.X1)
  (h2 : m ((c : Thread nD τ).loc main_arg2) = A.X2) (h3 : m ((c : Thread nD τ).loc main_arg3) = A.X3)

include h0 h1 h2 h3 in
theorem after_at (t : Fin cfg0.N) : After A.r2 A.hd t.val (outsAt0 m c t.val t.isLt) :=
  sweep m c A.r2 A.hd (fun _ => rfl) (reads m c A h0 h1 h2 h3) t.val t.isLt

include h0 h1 h2 h3 in
theorem final_fig : (dats m 0 c).arrAt 8 cfg0.N = ReferenceIdeal.Read.val_main_v187 (F := Ideal) A.X0 A.X1 A.X2 A.X3 := by
  refine (dats m 0 c).arrAt_eq_of_covers 8 _ (by decide +kernel) fun t hf y => ?_
  blk_simp
  rw [after0_8]
  obtain ⟨p, j, rfl⟩ := ix2_of y
  refine (fig_block A t.val t.isLt _ (after_at m c A h0 h1 h2 h3 t) p j (brow t p) rfl).trans (congrArg _ ?_)
  unfold brow
  blk_ext [ix_8]
  show 128 * (63 - t.val) + p.val = (63 - t.val) * 128 + p.val; omega

include h0 h1 h2 h3 in
theorem final_tab : (dats m 0 c).arrAt 9 cfg0.N = ReferenceIdeal.Read.val_main_v190 (F := Ideal) A.X0 A.X1 A.X2 A.X3 := by
  refine (dats m 0 c).arrAt_eq_of_after_last 9 lastPt whole_9 _ fun j => ?_
  blk_simp
  rw [after0_9]
  obtain ⟨r, k, rfl⟩ := ix2_of j
  exact tab_last A _ (after_at m c A h0 h1 h2 h3 lastPt) r k

include h0 h1 h2 h3 in
theorem final_nw : (dats m 0 c).arrAt 10 cfg0.N = ReferenceIdeal.Read.val_main_v193 (F := Ideal) A.X0 A.X1 A.X3 := by
  refine (dats m 0 c).arrAt_eq_of_after_last 10 lastPt whole_10 _ fun j => ?_
  blk_simp
  rw [after0_10]
  obtain ⟨r, z, k, rfl⟩ := ix3_of j
  exact nw_last A _ (after_at m c A h0 h1 h2 h3 lastPt) r z k

end

end Cert.Proof

end
-- ==== Proof.Equal.lean ====
/- On finite arguments the kernel and the reference return the same three arrays. -/
module

public import proofs.«01_k».proof.Defs
public import proofs.«01_k».proof.Proof.Gen.Pre_finite
public import proofs.«01_k».proof.Proof.Gen.ReferenceIdeal.Run
public import proofs.«01_k».proof.Proof.Gen.ReferenceIdeal.Read
public import proofs.«01_k».proof.Proof.Results
public import Idealize.ShloMosaic.Lib.Claim

@[expose] public section

noncomputable section

namespace Cert.Proof

open Idealize.ShloMosaic Idealize.ShloMosaic.TcCoe Idealize.ShloMosaic.ValueIdx Idealize.SL.Sem

/-! ## Finite arguments are arrays of real numbers -/

theorem lit_top : (Scalar.ofBits .f32 0x7F800000#32 : Ideal .f32) = (⊤ : EReal) := by
  simp [Scalar.ofBits, Ideal.ofBits, Ideal.ieee]

/-- A value of finite size is a real number. -/
theorem real_of (x : EReal) (h : Ideal.cmp .olt (max x (-x)) (⊤ : EReal) = 1#1) : x = ((x.toReal : ℝ) : EReal) := by
  have h' : max x (-x) < ⊤ := by
    by_contra hc
    simp [Ideal.cmp, hc] at h
  refine (EReal.coe_toReal (fun e => ?_) (fun e => ?_)).symm
  · rw [e] at h'; exact absurd h' (by simp)
  · rw [e] at h'; exact absurd h' (by simp)

theorem real_at {s : Shape} (x y : FVec Ideal s .f32) (hy : ∀ i, y i = (⊤ : EReal)) (h : cmpf .olt (Host.absf x) y = fun _ => 1#1) (i : s.Idx) :
    x i = (((x i : EReal).toReal : ℝ) : EReal) := by
  have e := congrFun h i
  refine real_of (x i) ?_
  rw [← hy i]
  exact e

/-- The numbers of finite arguments. -/
theorem nums_of (x0 : FVec Ideal Pre_finite.S8192x8192 .f32) (x1 : FVec Ideal Pre_finite.S2x2048 .f32) (x2 : FVec Ideal Pre_finite.S1x128 .f32)
    (x3 : FVec Ideal Pre_finite.S8192x2048 .bf16) (h0 : (Pre_finite.fn (F := Ideal) x0 x1 x2 x3).1 = fun _ => 1#1)
    (h1 : (Pre_finite.fn (F := Ideal) x0 x1 x2 x3).2.1 = fun _ => 1#1) (h2 : (Pre_finite.fn (F := Ideal) x0 x1 x2 x3).2.2.1 = fun _ => 1#1)
    (h3 : (Pre_finite.fn (F := Ideal) x0 x1 x2 x3).2.2.2 = fun _ => 1#1) :
    ∃ A : Nums, x0 = A.X0 ∧ x1 = A.X1 ∧ x2 = A.X2 ∧ x3 = A.X3 := by
  refine ⟨⟨fun t j => (x0 (ix2 t j) : EReal).toReal, fun r j => (x1 (ix2 r j) : EReal).toReal, fun j => (x2 (ix2 0 j) : EReal).toReal,
    fun t j => (x3 (ix2 t j) : EReal).toReal⟩, ?_, ?_, ?_, ?_⟩
  · funext i; obtain ⟨p, q, rfl⟩ := ix2_of i
    exact real_at x0 _ (fun _ => lit_top) h0 _
  · funext i; obtain ⟨p, q, rfl⟩ := ix2_of i
    exact real_at x1 _ (fun _ => lit_top) h1 _
  · funext i; obtain ⟨p, q, rfl⟩ := ix2_of i
    obtain rfl : p = 0 := Subsingleton.elim _ _
    exact real_at x2 _ (fun _ => lit_top) h2 _
  · funext i; obtain ⟨p, q, rfl⟩ := ix2_of i
    exact real_at (extf .f32 x3 (by decide)) _ (fun _ => lit_top) h3 _

theorem equal_results : Cert.algebraic_KernelIdeal_ReferenceIdeal_pre_finite := by
  intro m g m' g' hpre hargs
  have hn : ∀ c : Dev Cert.KernelIdeal.nD, ∃ A : Nums,
      m ((c : Thread Cert.KernelIdeal.nD Cert.KernelIdeal.τ).loc Cert.KernelIdeal.main_arg0) = A.X0
      ∧ m ((c : Thread Cert.KernelIdeal.nD Cert.KernelIdeal.τ).loc Cert.KernelIdeal.main_arg1) = A.X1
      ∧ m ((c : Thread Cert.KernelIdeal.nD Cert.KernelIdeal.τ).loc Cert.KernelIdeal.main_arg2) = A.X2
      ∧ m ((c : Thread Cert.KernelIdeal.nD Cert.KernelIdeal.τ).loc Cert.KernelIdeal.main_arg3) = A.X3 := fun c =>
    nums_of _ _ _ _ (hpre c).1 (hpre c).2.1 (hpre c).2.2.1 (hpre c).2.2.2
  choose A e0 e1 e2 e3 using hn
  refine ⟨fun c => ReferenceIdeal.Read.val_main_v187 (F := Ideal) (A c).X0 (A c).X1 (A c).X2 (A c).X3,
    fun c => ReferenceIdeal.Read.val_main_v190 (F := Ideal) (A c).X0 (A c).X1 (A c).X2 (A c).X3,
    fun c => ReferenceIdeal.Read.val_main_v193 (F := Ideal) (A c).X0 (A c).X1 (A c).X3, ?_, ?_⟩
  · refine (θ_run _ _ _).mono (fun r h c => ?_) (Cert.KernelIdeal.Value.run_blocks m g)
    obtain ⟨h8, h9, h10, k⟩ := h c
    exact ⟨h8.trans (final_fig m c (A c) (e0 c) (e1 c) (e2 c) (e3 c)), h9.trans (final_tab m c (A c) (e0 c) (e1 c) (e2 c) (e3 c)),
      h10.trans (final_nw m c (A c) (e0 c) (e1 c) (e2 c) (e3 c)), k⟩
  · refine (θ_run _ _ _).mono (fun r h c => ?_) (Cert.ReferenceIdeal.Value.run m' g')
    obtain ⟨h0, h1, h2, k⟩ := h c
    have a0 := (hargs c).1.trans (e0 c)
    have a1 := (hargs c).2.1.trans (e1 c)
    have a2 := (hargs c).2.2.1.trans (e2 c)
    have a3 := (hargs c).2.2.2.trans (e3 c)
    refine ⟨h0.trans ((ReferenceIdeal.Read.val_main_v187_eq (StableHlo.launchContents m' c)).trans ?_), h1.trans ((ReferenceIdeal.Read.val_main_v190_eq (StableHlo.launchContents m' c)).trans ?_),
      h2.trans ((ReferenceIdeal.Read.val_main_v193_eq (StableHlo.launchContents m' c)).trans ?_), k⟩
    · rw [StableHlo.launchContents_devRef, StableHlo.launchContents_devRef, StableHlo.launchContents_devRef, StableHlo.launchContents_devRef, a0, a1, a2, a3]
    · rw [StableHlo.launchContents_devRef, StableHlo.launchContents_devRef, StableHlo.launchContents_devRef, StableHlo.launchContents_devRef, a0, a1, a2, a3]
    · rw [StableHlo.launchContents_devRef, StableHlo.launchContents_devRef, StableHlo.launchContents_devRef, a0, a1, a3]

end Cert.Proof

end
-- ==== Proof.Tile.lean ====
/- What the products share: the pairs that index a matrix. -/
module

public import Idealize.ShloMosaic.Lib.Pipeline.ValueKit.Geometry
public import Idealize.ShloMosaic.Lib.Pipeline.ValueKit.Acc
public import Idealize.ShloMosaic.Lib.Pointwise.Contract
public import Idealize.ShloMosaic.PureOps.Ideal.Laws
public import Idealize.ShloMosaic.Lib.Pipeline.ReadBack

@[expose] public section

namespace Cert.Proof.Tile

open Idealize.ShloMosaic

/-- Every index of a matrix is a pair of a row and a column. -/
theorem pair_of {a b : ℕ} (y : (⟨2, ![a, b]⟩ : Shape).Idx) : ∃ (p : Fin a) (q : Fin b), y = ix2 p q :=
  ⟨y 0, y 1, by funext d; match d with | 0 => rfl | 1 => rfl⟩

/-- The zero a product starts from. -/
theorem zero_at (s : Shape) (i : s.Idx) : constant (F := Ideal) s .f32 0x00000000#32 i = 0 := Ideal.ofBits_zero_f32

end Cert.Proof.Tile

end
-- ==== Proof.DAct.lean ====
/- The product `d_act`: every block of the output is one product of a block of rows of each operand. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel2.Frame
public import proofs.«01_k».proof.Proof.Tile
public import Idealize.ShloMosaic.Lib.Quiescent

@[expose] public section

noncomputable section

namespace Cert.Proof.DAct

open Idealize.ShloMosaic Idealize.ShloMosaic.TcCoe Idealize.SL.Sem Cert.Kernel2Ideal Cert.Kernel2Ideal.Gen
open scoped BigOperators

theorem tile (x : FVec Ideal S1024x2048 .bf16) (y : FVec Ideal S1408x2048 .bf16) (p : Fin 1024) (q : Fin 1408) :
    k0_pay1 (F := Ideal) x y (ix2 p q) = ∑ k : Fin 2048, x (ix2 p k) * y (ix2 q k) := by
  show Idealize.ShloMosaic.matmul dot_S1024x2048_S1408x2048_S1024x1408_1_1_0_0_n_n none x y (constant S1024x1408 .f32 0x00000000#32) (ix2 p q) = _
  simp only [pointwise]
  rw [Tile.zero_at, zero_add]

theorem ix_0 : ∀ t : Fin cfg0.N, win0_0.index t = ![t.val % 8, 0] := (by decide +kernel : ∀ t : Fin grid0.N, _)
theorem ix_1 : ∀ t : Fin cfg0.N, win0_1.index t = ![t.val / 8, 0] := (by decide +kernel : ∀ t : Fin grid0.N, _)
theorem ix_2 : ∀ t : Fin cfg0.N, win0_2.index t = ![t.val % 8, t.val / 8] := (by decide +kernel : ∀ t : Fin grid0.N, _)

variable (m : (ℓ : Loc nD τ sig) → Buf (Elt Ideal) ℓ) (c : Dev nD)

theorem final : (dats m 0 c).arrAt 2 cfg0.N = Reference2Ideal.Read.val_main_v5 (F := Ideal) (V m c main_arg0) (V m c main_arg1) := by
  refine (dats m 0 c).arrAt_eq_of_covers 2 _ (by decide +kernel) fun t hf y => ?_
  blk_simp
  rw [after0_2]
  unfold outsAt0
  frame_out
  obtain ⟨p, j, rfl⟩ := Tile.pair_of y
  rw [tile]
  refine Eq.symm ((Reference2Ideal.Read.val_main_v4_apply _ _ _).trans ?_)
  refine Finset.sum_congr rfl fun k _ => ?_
  refine congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run _ _ _).mono (fun _ h => ⟨fun c => (h c).2, sem_eq_zero_of_no_sems rfl _⟩) (Cert.Reference2Ideal.Value.run m ρ)

/-- Both programs leave the reference's product in the result. -/
theorem equal_results : Cert.algebraic_Kernel2Ideal_Reference2Ideal := by
  intro m g m' g' _ hargs
  refine ⟨fun c => Reference2Ideal.Read.val_main_v5 (F := Ideal) (V m c main_arg0) (V m c main_arg1), ?_, ?_⟩
  · exact (θ_run _ _ _).mono (fun r h c => ⟨(h c).1.trans (final m c), (h c).2⟩) (Cert.Kernel2Ideal.Value.run_blocks m g)
  · refine (θ_run _ _ _).mono (fun r h c => ⟨(h c).1.trans ((Reference2Ideal.Read.val_main_v5_eq _ _).trans ?_), (h c).2⟩) (Cert.Reference2Ideal.Value.run m' g')
    have a0 : m' ((c.tc : Thread Cert.Reference2Ideal.nD Cert.Reference2Ideal.τ).loc Cert.Reference2Ideal.main_arg0) = V m c main_arg0 := (hargs c).1
    have a1 : m' ((c.tc : Thread Cert.Reference2Ideal.nD Cert.Reference2Ideal.τ).loc Cert.Reference2Ideal.main_arg1) = V m c main_arg1 := (hargs c).2
    rw [a0, a1]

end Cert.Proof.DAct

end
-- ==== Proof.DGate.lean ====
/- The product `g_ffn_up_gate`: every block of the output adds up four products over 2048 steps each. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel3.Frame
public import proofs.«01_k».proof.Proof.Tile
public import Idealize.ShloMosaic.Lib.Quiescent

@[expose] public section

noncomputable section

namespace Cert.Proof.DGate

open Idealize.ShloMosaic Idealize.ShloMosaic.TcCoe Idealize.SL.Sem Cert.Kernel3Ideal Cert.Kernel3Ideal.Gen
open scoped BigOperators

/-- The product of one run of steps. -/
def part (x : FVec Ideal S2048x1024 .bf16) (y : FVec Ideal S2048x1408 .bf16) (j : S1024x1408.Idx) : EReal :=
  ∑ k : Fin 2048, x (ix2 k (j 0)) * y (ix2 k (j 1))

theorem part_at (x : FVec Ideal S2048x1024 .bf16) (y : FVec Ideal S2048x1408 .bf16) (j : S1024x1408.Idx) :
    k0_pay1 (F := Ideal) x y j = part x y j := by
  obtain ⟨p, q, rfl⟩ := Tile.pair_of j
  show Idealize.ShloMosaic.matmul dot_S2048x1024_S2048x1408_S1024x1408_0_0_1_1_n_n none x y (constant S1024x1408 .f32 0x00000000#32) (ix2 p q) = _
  simp only [pointwise]
  rw [Tile.zero_at, zero_add]
  rfl

theorem first_at (x : FVec Ideal S2048x1024 .bf16) (y : FVec Ideal S2048x1408 .bf16) (j : S1024x1408.Idx) :
    k0_pay2 (F := Ideal) x y j = part x y j := by
  rw [← part_at]; unfold k0_pay2; rw [shapeCast_self]

theorem next_at (x : FVec Ideal S2048x1024 .bf16) (y : FVec Ideal S2048x1408 .bf16) (z : FVec Ideal S1024x1408 .f32) (j : S1024x1408.Idx) :
    k0_pay3 (F := Ideal) x y z j = z j + part x y j := by
  rw [← part_at]; unfold k0_pay3; rw [shapeCast_self]; rfl

theorem ix_0 : ∀ t : Fin cfg0.N, win0_0.index t = ![t.val % 4, t.val / 4 % 2] := (by decide +kernel : ∀ t : Fin grid0.N, _)
theorem ix_1 : ∀ t : Fin cfg0.N, win0_1.index t = ![t.val % 4, t.val / 8] := (by decide +kernel : ∀ t : Fin grid0.N, _)
theorem ix_2 : ∀ t : Fin cfg0.N, win0_2.index t = ![t.val / 4 % 2, t.val / 8] := (by decide +kernel : ∀ t : Fin grid0.N, _)

variable (m : (ℓ : Loc nD τ sig) → Buf (Elt Ideal) ℓ) (c : Dev nD)

/-- One grid point's share of an element of its block. -/
def term (t : Fin cfg0.N) (j : S1024x1408.Idx) : EReal :=
  part (iblk m c 0 t) (iblk m c 1 t) j

theorem acc_eq (t : Fin cfg0.N) (h : t.val % 4 = 3) (j : S1024x1408.Idx) :
    (outsAt0 m c t.val t.isLt).2 j
      = 0 + ∑ s : Fin 4, term m c ⟨4 * (t.val / 4) + s, by have := t.isLt; have := s.isLt; omega⟩ j := by
  rw [Pipeline.eq_sum_fin_of_reset_step_apply_of_flush (fun n h => (outsAt0 m c n h).2) 4 (fun _ => (0 : EReal)) (term m c)
    (fun t h j => by
      rw [outsAt0_A m c t h (by omega) (by omega)]; frame_out; rw [first_at, zero_add, term])
    (fun t h j => by
      by_cases h3 : t.val % 4 = 3
      · rw [outsAt0_C m c t h (by omega) h3]; frame_out; rw [next_at, term]; exact congrArg (· + _) (congrFun (read_unread_whole cc0_scratch0 _ _) j)
      · rw [outsAt0_B m c t h (by omega) h3]; frame_out; rw [next_at, term]; exact congrArg (· + _) (congrFun (read_unread_whole cc0_scratch0 _ _) j)) t h j]

theorem out_eq (t : Fin cfg0.N) (h : t.val % 4 = 3) (j : S1024x1408.Idx) :
    (outsAt0 m c t.val t.isLt).1 j = (outsAt0 m c t.val t.isLt).2 j := by
  rw [outsAt0_C m c t (by omega) (by omega) h]
  frame_out
  rfl

/-- The reference's element: one sum over all steps. -/
theorem ref_at (x0 : FVec Ideal S8192x2048 .bf16) (x1 : FVec Ideal S8192x5632 .bf16) (i : S2048x5632.Idx) :
    Reference3Ideal.Read.val_main_v6 (F := Ideal) x0 x1 i = ∑ k : Fin 8192, x0 (ix2 k (i 0)) * x1 (ix2 k (i 1)) := by
  show Reference3Ideal.Read.val_main_v5 (F := Ideal) x0 x1 i = _
  rw [Reference3Ideal.Read.val_main_v5_apply, Reference3Ideal.Read.val_main_v4_apply]
  refine Finset.sum_congr rfl fun k _ => (mul_comm _ _).trans (congrArg₂ (· * ·) (congrArg x0 ?_) (congrArg x1 ?_))
  · funext d; match d with | 0 => rfl | 1 => rfl
  · funext d; match d with | 0 => rfl | 1 => rfl

theorem final : (dats m 0 c).arrAt 2 cfg0.N = Reference3Ideal.Read.val_main_v6 (F := Ideal) (V m c main_arg0) (V m c main_arg1) := by
  refine (dats m 0 c).arrAt_eq_of_covers 2 _ (by decide +kernel) fun t hf y => ?_
  have h3 := (flush0_2 t).mp hf
  have hN := lt_of_lt_of_eq t.isLt (show cfg0.N = 32 from N_0)
  blk_simp
  obtain ⟨p, j, rfl⟩ := Tile.pair_of y
  rw [after0_2, out_eq m c t h3, acc_eq m c t h3, zero_add]
  refine Eq.symm ((ref_at _ _ _).trans ?_)
  refine (Fin.sum_mul_add_congr fun s k hl => ?_).symm
  refine congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run _ _ _).mono (fun _ h => ⟨fun c => (h c).2, sem_eq_zero_of_no_sems rfl _⟩) (Cert.Reference3Ideal.Value.run m ρ)

/-- Both programs leave the reference's product in the result. -/
theorem equal_results : Cert.algebraic_Kernel3Ideal_Reference3Ideal := by
  intro m g m' g' _ hargs
  refine ⟨fun c => Reference3Ideal.Read.val_main_v6 (F := Ideal) (V m c main_arg0) (V m c main_arg1), ?_, ?_⟩
  · exact (θ_run _ _ _).mono (fun r h c => ⟨(h c).1.trans (final m c), (h c).2⟩) (Cert.Kernel3Ideal.Value.run_blocks m g)
  · refine (θ_run _ _ _).mono (fun r h c => ⟨(h c).1.trans ((Reference3Ideal.Read.val_main_v6_eq _ _).trans ?_), (h c).2⟩) (Cert.Reference3Ideal.Value.run m' g')
    have a0 : m' ((c.tc : Thread Cert.Reference3Ideal.nD Cert.Reference3Ideal.τ).loc Cert.Reference3Ideal.main_arg0) = V m c main_arg0 := (hargs c).1
    have a1 : m' ((c.tc : Thread Cert.Reference3Ideal.nD Cert.Reference3Ideal.τ).loc Cert.Reference3Ideal.main_arg1) = V m c main_arg1 := (hargs c).2
    rw [a0, a1]

end Cert.Proof.DGate

end
-- ==== Proof.DH2.lean ====
/- The product `d_h2`: every block of the output adds up eight products, four with one operand and four with the other. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel4.Frame
public import proofs.«01_k».proof.Proof.Tile
public import Idealize.ShloMosaic.Lib.Quiescent

@[expose] public section

noncomputable section

namespace Cert.Proof.DH2

open Idealize.ShloMosaic Idealize.ShloMosaic.TcCoe Idealize.SL.Sem Cert.Kernel4Ideal Cert.Kernel4Ideal.Gen
open scoped BigOperators

/-- The product over one block of the contracted axis. -/
def part (x : FVec Ideal S1024x1408 .bf16) (y : FVec Ideal S1024x1408 .bf16) (j : S1024x1024.Idx) : EReal :=
  ∑ k : Fin 1408, x (ix2 (j 0) k) * y (ix2 (j 1) k)

theorem start_at (j : S1024x1024.Idx) : k0_pay1 (F := Ideal) j = 0 := by
  unfold k0_pay1; rw [shapeCast_self]; exact Tile.zero_at S1024x1024 j

theorem next_at (z : FVec Ideal S1024x1024 .f32) (x : FVec Ideal S1024x1408 .bf16) (y : FVec Ideal S1024x1408 .bf16) (j : S1024x1024.Idx) :
    k0_pay2 (F := Ideal) z x y j = z j + part x y j := by
  unfold k0_pay2; rw [shapeCast_self]
  refine congrArg (z j + ·) ?_
  obtain ⟨p, q, rfl⟩ := Tile.pair_of j
  simp only [pointwise]
  rw [Tile.zero_at, zero_add]
  rfl

theorem next_at' (z : FVec Ideal S1024x1024 .f32) (x : FVec Ideal S1024x1408 .bf16) (y : FVec Ideal S1024x1408 .bf16) (j : S1024x1024.Idx) :
    k0_pay3 (F := Ideal) z x y j = z j + part x y j := next_at z x y j

theorem ix_0 : ∀ t : Fin cfg0.N, win0_0.index t = ![t.val / 8 % 8, min (t.val % 8) 3] := (by decide +kernel : ∀ t : Fin grid0.N, _)
theorem ix_1 : ∀ t : Fin cfg0.N, win0_1.index t = ![t.val / 8 % 8, t.val % 8 - 4] := (by decide +kernel : ∀ t : Fin grid0.N, _)
theorem ix_2 : ∀ t : Fin cfg0.N, win0_2.index t = ![t.val / 64, t.val % 8] := (by decide +kernel : ∀ t : Fin grid0.N, _)
theorem ix_3 : ∀ t : Fin cfg0.N, win0_3.index t = ![t.val / 8 % 8, t.val / 64] := (by decide +kernel : ∀ t : Fin grid0.N, _)

variable (m : (ℓ : Loc nD τ sig) → Buf (Elt Ideal) ℓ) (c : Dev nD)

/-- The first operand of a grid point's product: the first four points of a run read one array, the others the other. -/
def side (t : Fin cfg0.N) : FVec Ideal S1024x1408 .bf16 := if t.val % 8 ≤ 3 then iblk m c 0 t else iblk m c 1 t

/-- One grid point's share of an element of its block. -/
def term (t : Fin cfg0.N) (j : S1024x1024.Idx) : EReal := part (side m c t) (iblk m c 2 t) j

theorem term_lo (t : Fin cfg0.N) (j : S1024x1024.Idx) (h : t.val % 8 ≤ 3) : term m c t j = part (iblk m c 0 t) (iblk m c 2 t) j := by
  unfold term side; rw [if_pos h]
theorem term_hi (t : Fin cfg0.N) (j : S1024x1024.Idx) (h : ¬ t.val % 8 ≤ 3) : term m c t j = part (iblk m c 1 t) (iblk m c 2 t) j := by
  unfold term side; rw [if_neg h]

theorem acc_eq (t : Fin cfg0.N) (h : t.val % 8 = 7) (j : S1024x1024.Idx) :
    (outsAt0 m c t.val t.isLt).2 j
      = 0 + ∑ s : Fin 8, term m c ⟨8 * (t.val / 8) + s, by have := t.isLt; have := s.isLt; omega⟩ j := by
  rw [Pipeline.eq_sum_fin_of_reset_step_apply_of_flush (fun n h => (outsAt0 m c n h).2) 8 (fun _ => (0 : EReal)) (term m c)
    (fun t h j => by
      rw [outsAt0_A m c t h (by omega) (by omega) (by omega)]; frame_out; rw [next_at, start_at, term_lo m c t j (by omega)])
    (fun t h j => by
      by_cases h1 : t.val % 8 ≤ 3
      · rw [outsAt0_B m c t h h1 (by omega) (by omega)]; frame_out
        rw [next_at, term_lo m c t j h1]; exact congrArg (· + _) (congrFun (read_unread_whole cc0_scratch0 _ _) j)
      · rw [term_hi m c t j h1]
        by_cases h3 : t.val % 8 = 7
        · rw [outsAt0_D m c t h h1 (by omega) h3]; frame_out
          rw [next_at']; exact congrArg (· + _) (congrFun (read_unread_whole cc0_scratch0 _ _) j)
        · rw [outsAt0_C m c t h h1 (by omega) h3]; frame_out
          rw [next_at']; exact congrArg (· + _) (congrFun (read_unread_whole cc0_scratch0 _ _) j)) t h j]

theorem out_eq (t : Fin cfg0.N) (h : t.val % 8 = 7) (j : S1024x1024.Idx) :
    (outsAt0 m c t.val t.isLt).1 j = (outsAt0 m c t.val t.isLt).2 j := by
  rw [outsAt0_D m c t (by omega) (by omega) (by omega) h]
  frame_out

theorem emb_eq (t : Fin cfg0.N) (p q : Fin 1024) : (win0_3.blk t).view.emb (ix2 p q)
    = ix2 (⟨t.val / 8 % 8 * 1024 + p.val, by omega⟩ : Fin 8192)
        (⟨t.val / 64 * 1024 + q.val, by have := lt_of_lt_of_eq t.isLt (show cfg0.N = 128 from N_0); omega⟩ : Fin 2048) := by
  blk_ext [ix_3]

theorem final : (dats m 0 c).arrAt 3 cfg0.N
    = Reference4Ideal.Read.val_main_v6 (F := Ideal) (V m c main_arg0) (V m c main_arg1) (V m c main_arg2) := by
  refine (dats m 0 c).arrAt_eq_of_covers 3 _ (by decide +kernel) fun t hf y => ?_
  have h7 := (flush0_3 t).mp hf
  have hN := lt_of_lt_of_eq t.isLt (show cfg0.N = 128 from N_0)
  blk_simp
  obtain ⟨p, j, rfl⟩ := Tile.pair_of y
  rw [after0_3, out_eq m c t h7, acc_eq m c t h7, zero_add]
  refine Eq.symm ((congrArg _ (emb_eq t p j)).trans ((Reference4Ideal.Read.val_main_v6_apply _ _ _ _).trans ?_))
  refine (Fin.sum_mul_add_congr fun s k hl => ?_).symm
  refine congrArg₂ (· * ·) ?_ ?_
  · unfold side Reference4Ideal.Read.val_main_v5
    by_cases h1 : s.val ≤ 3
    · rw [if_pos (by show (8 * (t.val / 8) + s.val) % 8 ≤ 3; omega)]
      refine Eq.trans ?_ (concatenate_pair_apply_left (t := Reference4Ideal.S8192x11264) (s₁ := Reference4Ideal.S8192x5632) (s₂ := Reference4Ideal.S8192x5632) 1 _ _ _ _ rfl
        (ix2 ⟨t.val / 8 % 8 * 1024 + p, by omega⟩ ⟨s.val * 1408 + k, by omega⟩) fun b => ?_).symm
      · blk_simp [iblk]
        refine congrArg (V m c main_arg0) ?_
        blk_ext [ix_0]
      · match b with
        | ⟨0, _⟩ => rfl
        | ⟨1, _⟩ => rfl
    · rw [if_neg (by show ¬ (8 * (t.val / 8) + s.val) % 8 ≤ 3; omega)]
      refine Eq.trans ?_ (concatenate_pair_apply_right (t := Reference4Ideal.S8192x11264) (s₁ := Reference4Ideal.S8192x5632) (s₂ := Reference4Ideal.S8192x5632) 1 _ _ _ _ rfl rfl
        (ix2 ⟨t.val / 8 % 8 * 1024 + p, by omega⟩ ⟨(s.val - 4) * 1408 + k, by omega⟩) (fun b hb => ?_) ?_).symm
      · blk_simp [iblk]
        refine congrArg (V m c main_arg1) ?_
        blk_ext [ix_1]
      · match b with
        | ⟨0, _⟩ => rfl
        | ⟨1, _⟩ => exact absurd rfl hb
      · show (s.val - 4) * 1408 + k.val + 5632 = s.val * 1408 + k.val
        omega
  · blk_simp [iblk]
    refine congrArg (V m c main_arg2) ?_
    blk_ext [ix_2]

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run _ _ _).mono (fun _ h => ⟨fun c => (h c).2, sem_eq_zero_of_no_sems rfl _⟩) (Cert.Reference4Ideal.Value.run m ρ)

/-- Both programs leave the reference's product in the result. -/
theorem equal_results : Cert.algebraic_Kernel4Ideal_Reference4Ideal := by
  intro m g m' g' _ hargs
  refine ⟨fun c => Reference4Ideal.Read.val_main_v6 (F := Ideal) (V m c main_arg0) (V m c main_arg1) (V m c main_arg2), ?_, ?_⟩
  · exact (θ_run _ _ _).mono (fun r h c => ⟨(h c).1.trans (final m c), (h c).2⟩) (Cert.Kernel4Ideal.Value.run_blocks m g)
  · refine (θ_run _ _ _).mono (fun r h c => ⟨(h c).1.trans ((Reference4Ideal.Read.val_main_v6_eq _ _ _).trans ?_), (h c).2⟩) (Cert.Reference4Ideal.Value.run m' g')
    have a0 : m' ((c.tc : Thread Cert.Reference4Ideal.nD Cert.Reference4Ideal.τ).loc Cert.Reference4Ideal.main_arg0) = V m c main_arg0 := (hargs c).1
    have a1 : m' ((c.tc : Thread Cert.Reference4Ideal.nD Cert.Reference4Ideal.τ).loc Cert.Reference4Ideal.main_arg1) = V m c main_arg1 := (hargs c).2.1
    have a2 : m' ((c.tc : Thread Cert.Reference4Ideal.nD Cert.Reference4Ideal.τ).loc Cert.Reference4Ideal.main_arg2) = V m c main_arg2 := (hargs c).2.2
    rw [a0, a1, a2]

end Cert.Proof.DH2

end
-- ==== Proof.DHA.lean ====
/- The product `d_h_a`: every block of the output adds up six products, four with one operand and two with the other. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel5.Frame
public import proofs.«01_k».proof.Proof.Tile
public import Idealize.ShloMosaic.Lib.Quiescent

@[expose] public section

noncomputable section

namespace Cert.Proof.DHA

open Idealize.ShloMosaic Idealize.ShloMosaic.TcCoe Idealize.SL.Sem Cert.Kernel5Ideal Cert.Kernel5Ideal.Gen
open scoped BigOperators

/-- The product over one block of the contracted axis. -/
def part (x : FVec Ideal S1024x2048 .bf16) (y : FVec Ideal S2048x1024 .bf16) (j : S1024x1024.Idx) : EReal :=
  ∑ k : Fin 2048, x (ix2 (j 0) k) * y (ix2 k (j 1))

theorem start_at (j : S1024x1024.Idx) : k0_pay1 (F := Ideal) j = 0 := by
  unfold k0_pay1; rw [shapeCast_self]; exact Tile.zero_at S1024x1024 j

theorem next_at (z : FVec Ideal S1024x1024 .f32) (x : FVec Ideal S1024x2048 .bf16) (y : FVec Ideal S2048x1024 .bf16) (j : S1024x1024.Idx) :
    k0_pay2 (F := Ideal) z x y j = z j + part x y j := by
  unfold k0_pay2; rw [shapeCast_self]
  refine congrArg (z j + ·) ?_
  obtain ⟨p, q, rfl⟩ := Tile.pair_of j
  simp only [pointwise]
  rw [Tile.zero_at, zero_add]
  rfl

theorem next_at' (z : FVec Ideal S1024x1024 .f32) (x : FVec Ideal S1024x2048 .bf16) (y : FVec Ideal S2048x1024 .bf16) (j : S1024x1024.Idx) :
    k0_pay3 (F := Ideal) z x y j = z j + part x y j := next_at z x y j

theorem ix_0 : ∀ t : Fin cfg0.N, win0_0.index t = ![t.val / 6 % 8, min (t.val % 6) 3] := (by decide +kernel : ∀ t : Fin grid0.N, _)
theorem ix_1 : ∀ t : Fin cfg0.N, win0_1.index t = ![t.val / 6 % 8, t.val % 6 - 4] := (by decide +kernel : ∀ t : Fin grid0.N, _)
theorem ix_2 : ∀ t : Fin cfg0.N, win0_2.index t = ![t.val % 6, t.val / 48] := (by decide +kernel : ∀ t : Fin grid0.N, _)
theorem ix_3 : ∀ t : Fin cfg0.N, win0_3.index t = ![t.val / 6 % 8, t.val / 48] := (by decide +kernel : ∀ t : Fin grid0.N, _)

variable (m : (ℓ : Loc nD τ sig) → Buf (Elt Ideal) ℓ) (c : Dev nD)

/-- The block of the weight a grid point reads. -/
theorem weight_at (t : Fin cfg0.N) (k : Fin 2048) (q : Fin 1024) : X0_2 m c t (ix2 k q)
    = V m c main_arg2 (ix2 (⟨t.val % 6 * 2048 + k.val, by omega⟩ : Fin 22592)
        (⟨t.val / 48 * 1024 + q.val, by have := lt_of_lt_of_eq t.isLt (show cfg0.N = 96 from N_0); omega⟩ : Fin 2048)) := by
  unfold X0_2 Pipeline.Window.fill
  rw [dif_pos (moved0_2 t _)]
  blk_simp [iblk]
  refine congrArg (V m c main_arg2) ?_
  blk_ext [ix_2]

/-- The first operand of a grid point's product: the first four points of a run read one array, the others the other. -/
def side (t : Fin cfg0.N) : FVec Ideal S1024x2048 .bf16 := if t.val % 6 ≤ 3 then iblk m c 0 t else iblk m c 1 t

/-- One grid point's share of an element of its block. -/
def term (t : Fin cfg0.N) (j : S1024x1024.Idx) : EReal := part (side m c t) (X0_2 m c t) j

theorem term_lo (t : Fin cfg0.N) (j : S1024x1024.Idx) (h : t.val % 6 ≤ 3) : term m c t j = part (iblk m c 0 t) (X0_2 m c t) j := by
  unfold term side; rw [if_pos h]
theorem term_hi (t : Fin cfg0.N) (j : S1024x1024.Idx) (h : ¬ t.val % 6 ≤ 3) : term m c t j = part (iblk m c 1 t) (X0_2 m c t) j := by
  unfold term side; rw [if_neg h]

theorem acc_eq (t : Fin cfg0.N) (h : t.val % 6 = 5) (j : S1024x1024.Idx) :
    (outsAt0 m c t.val t.isLt).2 j
      = 0 + ∑ s : Fin 6, term m c ⟨6 * (t.val / 6) + s, by have := t.isLt; have := s.isLt; omega⟩ j := by
  rw [Pipeline.eq_sum_fin_of_reset_step_apply_of_flush (fun n h => (outsAt0 m c n h).2) 6 (fun _ => (0 : EReal)) (term m c)
    (fun t h j => by
      rw [outsAt0_A m c t h (by omega) (by omega) (by omega)]; frame_out; rw [next_at, start_at, term_lo m c t j (by omega)])
    (fun t h j => by
      by_cases h1 : t.val % 6 ≤ 3
      · rw [outsAt0_B m c t h h1 (by omega) (by omega)]; frame_out
        rw [next_at, term_lo m c t j h1]; exact congrArg (· + _) (congrFun (read_unread_whole cc0_scratch0 _ _) j)
      · rw [term_hi m c t j h1]
        by_cases h3 : t.val % 6 = 5
        · rw [outsAt0_D m c t h h1 (by omega) h3]; frame_out
          rw [next_at']; exact congrArg (· + _) (congrFun (read_unread_whole cc0_scratch0 _ _) j)
        · rw [outsAt0_C m c t h h1 (by omega) h3]; frame_out
          rw [next_at']; exact congrArg (· + _) (congrFun (read_unread_whole cc0_scratch0 _ _) j)) t h j]

theorem out_eq (t : Fin cfg0.N) (h : t.val % 6 = 5) (j : S1024x1024.Idx) :
    (outsAt0 m c t.val t.isLt).1 j = (outsAt0 m c t.val t.isLt).2 j := by
  rw [outsAt0_D m c t (by omega) (by omega) (by omega) h]
  frame_out

theorem emb_eq (t : Fin cfg0.N) (p q : Fin 1024) : (win0_3.blk t).view.emb (ix2 p q)
    = ix2 (⟨t.val / 6 % 8 * 1024 + p.val, by omega⟩ : Fin 8192)
        (⟨t.val / 48 * 1024 + q.val, by have := lt_of_lt_of_eq t.isLt (show cfg0.N = 96 from N_0); omega⟩ : Fin 2048) := by
  blk_ext [ix_3]

theorem final : (dats m 0 c).arrAt 3 cfg0.N
    = Reference5Ideal.Read.val_main_v7 (F := Ideal) (V m c main_arg0) (V m c main_arg1) (V m c main_arg2) := by
  refine (dats m 0 c).arrAt_eq_of_covers 3 _ (by decide +kernel) fun t hf y => ?_
  have h5 := (flush0_3 t).mp hf
  have hN := lt_of_lt_of_eq t.isLt (show cfg0.N = 96 from N_0)
  blk_simp
  obtain ⟨p, j, rfl⟩ := Tile.pair_of y
  rw [after0_3, out_eq m c t h5, acc_eq m c t h5, zero_add]
  refine Eq.symm ((congrArg _ (emb_eq t p j)).trans ((Reference5Ideal.Read.val_main_v7_apply _ _ _ _).trans ?_))
  refine (Fin.sum_mul_add_congr fun s k hl => ?_).symm
  refine congrArg₂ (· * ·) ?_ ?_
  · unfold side Reference5Ideal.Read.val_main_v6
    by_cases h1 : s.val ≤ 3
    · rw [if_pos (by show (6 * (t.val / 6) + s.val) % 6 ≤ 3; omega)]
      refine Eq.trans ?_ (concatenate_pair_apply_left (t := Reference5Ideal.S8192x12288) (s₁ := Reference5Ideal.S8192x8192) (s₂ := Reference5Ideal.S8192x4096) 1 _ _ _ _ rfl
        (ix2 ⟨t.val / 6 % 8 * 1024 + p, by omega⟩ ⟨s.val * 2048 + k, by omega⟩) fun b => ?_).symm
      · blk_simp [iblk]
        refine congrArg (V m c main_arg0) ?_
        blk_ext [ix_0]
      · match b with
        | ⟨0, _⟩ => rfl
        | ⟨1, _⟩ => rfl
    · rw [if_neg (by show ¬ (6 * (t.val / 6) + s.val) % 6 ≤ 3; omega)]
      refine Eq.trans ?_ (concatenate_pair_apply_right (t := Reference5Ideal.S8192x12288) (s₁ := Reference5Ideal.S8192x8192) (s₂ := Reference5Ideal.S8192x4096) 1 _ _ _ _ rfl rfl
        (ix2 ⟨t.val / 6 % 8 * 1024 + p, by omega⟩ ⟨(s.val - 4) * 2048 + k, by omega⟩) (fun b hb => ?_) ?_).symm
      · blk_simp [iblk]
        refine congrArg (V m c main_arg1) ?_
        blk_ext [ix_1]
      · match b with
        | ⟨0, _⟩ => rfl
        | ⟨1, _⟩ => exact absurd rfl hb
      · show (s.val - 4) * 2048 + k.val + 8192 = s.val * 2048 + k.val
        omega
  · refine (weight_at m c _ k j).trans ?_
    refine Eq.trans ?_ (Reference5Ideal.Read.val_main_v1_apply _ _).symm
    refine congrArg (V m c main_arg2) ?_
    funext d
    match d with
    | ⟨0, _⟩ => exact Fin.ext (by show (6 * (t.val / 6) + s.val) % 6 * 2048 + k.val = s.val * 2048 + k.val; omega)
    | ⟨1, _⟩ => exact Fin.ext (by show (6 * (t.val / 6) + s.val) / 48 * 1024 + j.val = t.val / 48 * 1024 + j.val; omega)

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run _ _ _).mono (fun _ h => ⟨fun c => (h c).2, sem_eq_zero_of_no_sems rfl _⟩) (Cert.Reference5Ideal.Value.run m ρ)

/-- Both programs leave the reference's product in the result. -/
theorem equal_results : Cert.algebraic_Kernel5Ideal_Reference5Ideal := by
  intro m g m' g' _ hargs
  refine ⟨fun c => Reference5Ideal.Read.val_main_v7 (F := Ideal) (V m c main_arg0) (V m c main_arg1) (V m c main_arg2), ?_, ?_⟩
  · exact (θ_run _ _ _).mono (fun r h c => ⟨(h c).1.trans (final m c), (h c).2⟩) (Cert.Kernel5Ideal.Value.run_blocks m g)
  · refine (θ_run _ _ _).mono (fun r h c => ⟨(h c).1.trans ((Reference5Ideal.Read.val_main_v7_eq _ _ _).trans ?_), (h c).2⟩) (Cert.Reference5Ideal.Value.run m' g')
    have a0 : m' ((c.tc : Thread Cert.Reference5Ideal.nD Cert.Reference5Ideal.τ).loc Cert.Reference5Ideal.main_arg0) = V m c main_arg0 := (hargs c).1
    have a1 : m' ((c.tc : Thread Cert.Reference5Ideal.nD Cert.Reference5Ideal.τ).loc Cert.Reference5Ideal.main_arg1) = V m c main_arg1 := (hargs c).2.1
    have a2 : m' ((c.tc : Thread Cert.Reference5Ideal.nD Cert.Reference5Ideal.τ).loc Cert.Reference5Ideal.main_arg2) = V m c main_arg2 := (hargs c).2.2
    rw [a0, a1, a2]

end Cert.Proof.DHA

end
-- ==== Proof.GDown.lean ====
/- The product `g_ffn_down`: every block of the output adds up 4 products over 2048 steps each. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel6.Frame
public import proofs.«01_k».proof.Proof.Tile
public import Idealize.ShloMosaic.Lib.Quiescent

@[expose] public section

noncomputable section

namespace Cert.Proof.GDown

open Idealize.ShloMosaic Idealize.ShloMosaic.TcCoe Idealize.SL.Sem Cert.Kernel6Ideal Cert.Kernel6Ideal.Gen
open scoped BigOperators

/-- The product over one run of steps. -/
def part (x : FVec Ideal S2048x1408 .bf16) (y : FVec Ideal S2048x1024 .bf16) (j : S1408x1024.Idx) : EReal :=
  ∑ k : Fin 2048, x (ix2 k (j 0)) * y (ix2 k (j 1))

theorem part_at (x : FVec Ideal S2048x1408 .bf16) (y : FVec Ideal S2048x1024 .bf16) (j : S1408x1024.Idx) :
    k0_pay1 (F := Ideal) x y j = part x y j := by
  obtain ⟨p, q, rfl⟩ := Tile.pair_of j
  show Idealize.ShloMosaic.matmul dot_S2048x1408_S2048x1024_S1408x1024_0_0_1_1_n_n none x y (constant S1408x1024 .f32 0x00000000#32) (ix2 p q) = _
  simp only [pointwise]
  rw [Tile.zero_at, zero_add]
  rfl

theorem first_at (x : FVec Ideal S2048x1408 .bf16) (y : FVec Ideal S2048x1024 .bf16) (j : S1408x1024.Idx) :
    k0_pay2 (F := Ideal) x y j = part x y j := by
  rw [← part_at]; unfold k0_pay2; rw [shapeCast_self]

theorem next_at (x : FVec Ideal S2048x1408 .bf16) (y : FVec Ideal S2048x1024 .bf16) (z : FVec Ideal S1408x1024 .f32) (j : S1408x1024.Idx) :
    k0_pay3 (F := Ideal) x y z j = z j + part x y j := by
  rw [← part_at]; unfold k0_pay3; rw [shapeCast_self]; rfl

theorem ix_0 : ∀ t : Fin cfg0.N, win0_0.index t = ![t.val % 4, t.val / 4 % 4] := (by decide +kernel : ∀ t : Fin grid0.N, _)
theorem ix_1 : ∀ t : Fin cfg0.N, win0_1.index t = ![t.val % 4, t.val / 16] := (by decide +kernel : ∀ t : Fin grid0.N, _)
theorem ix_2 : ∀ t : Fin cfg0.N, win0_2.index t = ![t.val / 4 % 4, t.val / 16] := (by decide +kernel : ∀ t : Fin grid0.N, _)

/-- The reference's element: one sum over the whole contracted axis. -/
theorem ref_at (x0 : FVec Ideal S8192x5632 .bf16) (x1 : FVec Ideal S8192x2048 .bf16) (i : S5632x2048.Idx) :
    Reference6Ideal.Read.val_main_v6 (F := Ideal) x0 x1 i = ∑ k : Fin 8192, x0 (ix2 k (i 0)) * x1 (ix2 k (i 1)) := by
  show Reference6Ideal.Read.val_main_v5 (F := Ideal) x0 x1 i = _
  rw [Reference6Ideal.Read.val_main_v5_apply, Reference6Ideal.Read.val_main_v4_apply]
  refine Finset.sum_congr rfl fun k _ => (mul_comm _ _).trans (congrArg₂ (· * ·) (congrArg x0 ?_) (congrArg x1 ?_))
  · funext d; match d with | 0 => rfl | 1 => rfl
  · funext d; match d with | 0 => rfl | 1 => rfl

variable (m : (ℓ : Loc nD τ sig) → Buf (Elt Ideal) ℓ) (c : Dev nD)

/-- One grid point's share of an element of its block. -/
def term (t : Fin cfg0.N) (j : S1408x1024.Idx) : EReal := part (iblk m c 0 t) (iblk m c 1 t) j

/-- After the last point of a run the scratch holds the sum of the run's products. -/
theorem acc_eq (t : Fin cfg0.N) (h : t.val % 4 = 3) (j : S1408x1024.Idx) :
    (outsAt0 m c t.val t.isLt).2 j
      = 0 + ∑ s : Fin 4, term m c ⟨4 * (t.val / 4) + s, by have := t.isLt; have := s.isLt; omega⟩ j := by
  rw [Pipeline.eq_sum_fin_of_reset_step_apply_of_flush (fun n h => (outsAt0 m c n h).2) 4 (fun _ => (0 : EReal)) (term m c)
    (fun t h j => by
      rw [outsAt0_A m c t h (by omega) (by omega)]; frame_out; rw [first_at, zero_add, term])
    (fun t h j => by
      by_cases hl : t.val % 4 = 3
      · rw [outsAt0_C m c t h (by omega) hl]; frame_out; rw [next_at, term]; exact congrArg (· + _) (congrFun (read_unread_whole cc0_scratch0 _ _) j)
      · rw [outsAt0_B m c t h (by omega) hl]; frame_out; rw [next_at, term]; exact congrArg (· + _) (congrFun (read_unread_whole cc0_scratch0 _ _) j)) t h j]

theorem out_eq (t : Fin cfg0.N) (h : t.val % 4 = 3) (j : S1408x1024.Idx) :
    (outsAt0 m c t.val t.isLt).1 j = (outsAt0 m c t.val t.isLt).2 j := by
  rw [outsAt0_C m c t (by omega) (by omega) h]
  frame_out
  rfl

theorem final : (dats m 0 c).arrAt 2 cfg0.N = Reference6Ideal.Read.val_main_v6 (F := Ideal) (V m c main_arg0) (V m c main_arg1) := by
  refine (dats m 0 c).arrAt_eq_of_covers 2 _ (by decide +kernel) fun t hf y => ?_
  have hl := (flush0_2 t).mp hf
  have hN := lt_of_lt_of_eq t.isLt (show cfg0.N = 32 from N_0)
  blk_simp
  obtain ⟨p, j, rfl⟩ := Tile.pair_of y
  rw [after0_2, out_eq m c t hl, acc_eq m c t hl, zero_add]
  refine Eq.symm ((ref_at _ _ _).trans ?_)
  refine (Fin.sum_mul_add_congr fun s k hk => ?_).symm
  refine congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run _ _ _).mono (fun _ h => ⟨fun c => (h c).2, sem_eq_zero_of_no_sems rfl _⟩) (Cert.Reference6Ideal.Value.run m ρ)

/-- Both programs leave the reference's product in the result. -/
theorem equal_results : Cert.algebraic_Kernel6Ideal_Reference6Ideal := by
  intro m g m' g' _ hargs
  refine ⟨fun c => Reference6Ideal.Read.val_main_v6 (F := Ideal) (V m c main_arg0) (V m c main_arg1), ?_, ?_⟩
  · exact (θ_run _ _ _).mono (fun r h c => ⟨(h c).1.trans (final m c), (h c).2⟩) (Cert.Kernel6Ideal.Value.run_blocks m g)
  · refine (θ_run _ _ _).mono (fun r h c => ⟨(h c).1.trans ((Reference6Ideal.Read.val_main_v6_eq _ _).trans ?_), (h c).2⟩) (Cert.Reference6Ideal.Value.run m' g')
    have a0 : m' ((c.tc : Thread Cert.Reference6Ideal.nD Cert.Reference6Ideal.τ).loc Cert.Reference6Ideal.main_arg0) = V m c main_arg0 := (hargs c).1
    have a1 : m' ((c.tc : Thread Cert.Reference6Ideal.nD Cert.Reference6Ideal.τ).loc Cert.Reference6Ideal.main_arg1) = V m c main_arg1 := (hargs c).2
    rw [a0, a1]

end Cert.Proof.GDown

end
-- ==== Proof.GUp.lean ====
/- The product `g_ffn_up_up`: every block of the output adds up 4 products over 2048 steps each. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel7.Frame
public import proofs.«01_k».proof.Proof.Tile
public import Idealize.ShloMosaic.Lib.Quiescent

@[expose] public section

noncomputable section

namespace Cert.Proof.GUp

open Idealize.ShloMosaic Idealize.ShloMosaic.TcCoe Idealize.SL.Sem Cert.Kernel7Ideal Cert.Kernel7Ideal.Gen
open scoped BigOperators

/-- The product over one run of steps. -/
def part (x : FVec Ideal S2048x1024 .bf16) (y : FVec Ideal S2048x1408 .bf16) (j : S1024x1408.Idx) : EReal :=
  ∑ k : Fin 2048, x (ix2 k (j 0)) * y (ix2 k (j 1))

theorem part_at (x : FVec Ideal S2048x1024 .bf16) (y : FVec Ideal S2048x1408 .bf16) (j : S1024x1408.Idx) :
    k0_pay1 (F := Ideal) x y j = part x y j := by
  obtain ⟨p, q, rfl⟩ := Tile.pair_of j
  show Idealize.ShloMosaic.matmul dot_S2048x1024_S2048x1408_S1024x1408_0_0_1_1_n_n none x y (constant S1024x1408 .f32 0x00000000#32) (ix2 p q) = _
  simp only [pointwise]
  rw [Tile.zero_at, zero_add]
  rfl

theorem first_at (x : FVec Ideal S2048x1024 .bf16) (y : FVec Ideal S2048x1408 .bf16) (j : S1024x1408.Idx) :
    k0_pay2 (F := Ideal) x y j = part x y j := by
  rw [← part_at]; unfold k0_pay2; rw [shapeCast_self]

theorem next_at (x : FVec Ideal S2048x1024 .bf16) (y : FVec Ideal S2048x1408 .bf16) (z : FVec Ideal S1024x1408 .f32) (j : S1024x1408.Idx) :
    k0_pay3 (F := Ideal) x y z j = z j + part x y j := by
  rw [← part_at]; unfold k0_pay3; rw [shapeCast_self]; rfl

theorem ix_0 : ∀ t : Fin cfg0.N, win0_0.index t = ![t.val % 4, t.val / 4 % 2] := (by decide +kernel : ∀ t : Fin grid0.N, _)
theorem ix_1 : ∀ t : Fin cfg0.N, win0_1.index t = ![t.val % 4, t.val / 8] := (by decide +kernel : ∀ t : Fin grid0.N, _)
theorem ix_2 : ∀ t : Fin cfg0.N, win0_2.index t = ![t.val / 4 % 2, t.val / 8] := (by decide +kernel : ∀ t : Fin grid0.N, _)

/-- The reference's element: one sum over the whole contracted axis. -/
theorem ref_at (x0 : FVec Ideal S8192x2048 .bf16) (x1 : FVec Ideal S8192x5632 .bf16) (i : S2048x5632.Idx) :
    Reference7Ideal.Read.val_main_v6 (F := Ideal) x0 x1 i = ∑ k : Fin 8192, x0 (ix2 k (i 0)) * x1 (ix2 k (i 1)) := by
  show Reference7Ideal.Read.val_main_v5 (F := Ideal) x0 x1 i = _
  rw [Reference7Ideal.Read.val_main_v5_apply, Reference7Ideal.Read.val_main_v4_apply]
  refine Finset.sum_congr rfl fun k _ => (mul_comm _ _).trans (congrArg₂ (· * ·) (congrArg x0 ?_) (congrArg x1 ?_))
  · funext d; match d with | 0 => rfl | 1 => rfl
  · funext d; match d with | 0 => rfl | 1 => rfl

variable (m : (ℓ : Loc nD τ sig) → Buf (Elt Ideal) ℓ) (c : Dev nD)

/-- One grid point's share of an element of its block. -/
def term (t : Fin cfg0.N) (j : S1024x1408.Idx) : EReal := part (iblk m c 0 t) (iblk m c 1 t) j

/-- After the last point of a run the scratch holds the sum of the run's products. -/
theorem acc_eq (t : Fin cfg0.N) (h : t.val % 4 = 3) (j : S1024x1408.Idx) :
    (outsAt0 m c t.val t.isLt).2 j
      = 0 + ∑ s : Fin 4, term m c ⟨4 * (t.val / 4) + s, by have := t.isLt; have := s.isLt; omega⟩ j := by
  rw [Pipeline.eq_sum_fin_of_reset_step_apply_of_flush (fun n h => (outsAt0 m c n h).2) 4 (fun _ => (0 : EReal)) (term m c)
    (fun t h j => by
      rw [outsAt0_A m c t h (by omega) (by omega)]; frame_out; rw [first_at, zero_add, term])
    (fun t h j => by
      by_cases hl : t.val % 4 = 3
      · rw [outsAt0_C m c t h (by omega) hl]; frame_out; rw [next_at, term]; exact congrArg (· + _) (congrFun (read_unread_whole cc0_scratch0 _ _) j)
      · rw [outsAt0_B m c t h (by omega) hl]; frame_out; rw [next_at, term]; exact congrArg (· + _) (congrFun (read_unread_whole cc0_scratch0 _ _) j)) t h j]

theorem out_eq (t : Fin cfg0.N) (h : t.val % 4 = 3) (j : S1024x1408.Idx) :
    (outsAt0 m c t.val t.isLt).1 j = (outsAt0 m c t.val t.isLt).2 j := by
  rw [outsAt0_C m c t (by omega) (by omega) h]
  frame_out
  rfl

theorem final : (dats m 0 c).arrAt 2 cfg0.N = Reference7Ideal.Read.val_main_v6 (F := Ideal) (V m c main_arg0) (V m c main_arg1) := by
  refine (dats m 0 c).arrAt_eq_of_covers 2 _ (by decide +kernel) fun t hf y => ?_
  have hl := (flush0_2 t).mp hf
  have hN := lt_of_lt_of_eq t.isLt (show cfg0.N = 32 from N_0)
  blk_simp
  obtain ⟨p, j, rfl⟩ := Tile.pair_of y
  rw [after0_2, out_eq m c t hl, acc_eq m c t hl, zero_add]
  refine Eq.symm ((ref_at _ _ _).trans ?_)
  refine (Fin.sum_mul_add_congr fun s k hk => ?_).symm
  refine congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_reference : Cert.quiescent_Reference7Ideal := fun m ρ _ =>
  (θ_run _ _ _).mono (fun _ h => ⟨fun c => (h c).2, sem_eq_zero_of_no_sems rfl _⟩) (Cert.Reference7Ideal.Value.run m ρ)

/-- Both programs leave the reference's product in the result. -/
theorem equal_results : Cert.algebraic_Kernel7Ideal_Reference7Ideal := by
  intro m g m' g' _ hargs
  refine ⟨fun c => Reference7Ideal.Read.val_main_v6 (F := Ideal) (V m c main_arg0) (V m c main_arg1), ?_, ?_⟩
  · exact (θ_run _ _ _).mono (fun r h c => ⟨(h c).1.trans (final m c), (h c).2⟩) (Cert.Kernel7Ideal.Value.run_blocks m g)
  · refine (θ_run _ _ _).mono (fun r h c => ⟨(h c).1.trans ((Reference7Ideal.Read.val_main_v6_eq _ _).trans ?_), (h c).2⟩) (Cert.Reference7Ideal.Value.run m' g')
    have a0 : m' ((c.tc : Thread Cert.Reference7Ideal.nD Cert.Reference7Ideal.τ).loc Cert.Reference7Ideal.main_arg0) = V m c main_arg0 := (hargs c).1
    have a1 : m' ((c.tc : Thread Cert.Reference7Ideal.nD Cert.Reference7Ideal.τ).loc Cert.Reference7Ideal.main_arg1) = V m c main_arg1 := (hargs c).2
    rw [a0, a1]

end Cert.Proof.GUp

end
-- ==== Proof.GOut.lean ====
/- The product `g_w_out`: every block of the output adds up 4 products over 2048 steps each. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel8.Frame
public import proofs.«01_k».proof.Proof.Tile
public import Idealize.ShloMosaic.Lib.Quiescent

@[expose] public section

noncomputable section

namespace Cert.Proof.GOut

open Idealize.ShloMosaic Idealize.ShloMosaic.TcCoe Idealize.SL.Sem Cert.Kernel8Ideal Cert.Kernel8Ideal.Gen
open scoped BigOperators

/-- The product over one run of steps. -/
def part (x : FVec Ideal S2048x1024 .bf16) (y : FVec Ideal S2048x2048 .bf16) (j : S1024x2048.Idx) : EReal :=
  ∑ k : Fin 2048, x (ix2 k (j 0)) * y (ix2 k (j 1))

theorem part_at (x : FVec Ideal S2048x1024 .bf16) (y : FVec Ideal S2048x2048 .bf16) (j : S1024x2048.Idx) :
    k0_pay1 (F := Ideal) x y j = part x y j := by
  obtain ⟨p, q, rfl⟩ := Tile.pair_of j
  show Idealize.ShloMosaic.matmul dot_S2048x1024_S2048x2048_S1024x2048_0_0_1_1_n_n none x y (constant S1024x2048 .f32 0x00000000#32) (ix2 p q) = _
  simp only [pointwise]
  rw [Tile.zero_at, zero_add]
  rfl

theorem first_at (x : FVec Ideal S2048x1024 .bf16) (y : FVec Ideal S2048x2048 .bf16) (j : S1024x2048.Idx) :
    k0_pay2 (F := Ideal) x y j = part x y j := by
  rw [← part_at]; unfold k0_pay2; rw [shapeCast_self]

theorem next_at (x : FVec Ideal S2048x1024 .bf16) (y : FVec Ideal S2048x2048 .bf16) (z : FVec Ideal S1024x2048 .f32) (j : S1024x2048.Idx) :
    k0_pay3 (F := Ideal) x y z j = z j + part x y j := by
  rw [← part_at]; unfold k0_pay3; rw [shapeCast_self]; rfl

theorem ix_0 : ∀ t : Fin cfg0.N, win0_0.index t = ![t.val % 4, t.val / 4 % 2] := (by decide +kernel : ∀ t : Fin grid0.N, _)
theorem ix_1 : ∀ t : Fin cfg0.N, win0_1.index t = ![t.val % 4, t.val / 8] := (by decide +kernel : ∀ t : Fin grid0.N, _)
theorem ix_2 : ∀ t : Fin cfg0.N, win0_2.index t = ![t.val / 4 % 2, t.val / 8] := (by decide +kernel : ∀ t : Fin grid0.N, _)

/-- The reference's element: one sum over the whole contracted axis. -/
theorem ref_at (x0 : FVec Ideal S8192x2048 .bf16) (x1 : FVec Ideal S8192x2048 .bf16) (i : S2048x2048.Idx) :
    Reference8Ideal.Read.val_main_v6 (F := Ideal) x0 x1 i = ∑ k : Fin 8192, x0 (ix2 k (i 0)) * x1 (ix2 k (i 1)) := by
  show Reference8Ideal.Read.val_main_v5 (F := Ideal) x0 x1 i = _
  rw [Reference8Ideal.Read.val_main_v5_apply, Reference8Ideal.Read.val_main_v4_apply]
  refine Finset.sum_congr rfl fun k _ => (mul_comm _ _).trans (congrArg₂ (· * ·) (congrArg x0 ?_) (congrArg x1 ?_))
  · funext d; match d with | 0 => rfl | 1 => rfl
  · funext d; match d with | 0 => rfl | 1 => rfl

variable (m : (ℓ : Loc nD τ sig) → Buf (Elt Ideal) ℓ) (c : Dev nD)

/-- One grid point's share of an element of its block. -/
def term (t : Fin cfg0.N) (j : S1024x2048.Idx) : EReal := part (iblk m c 0 t) (iblk m c 1 t) j

/-- After the last point of a run the scratch holds the sum of the run's products. -/
theorem acc_eq (t : Fin cfg0.N) (h : t.val % 4 = 3) (j : S1024x2048.Idx) :
    (outsAt0 m c t.val t.isLt).2 j
      = 0 + ∑ s : Fin 4, term m c ⟨4 * (t.val / 4) + s, by have := t.isLt; have := s.isLt; omega⟩ j := by
  rw [Pipeline.eq_sum_fin_of_reset_step_apply_of_flush (fun n h => (outsAt0 m c n h).2) 4 (fun _ => (0 : EReal)) (term m c)
    (fun t h j => by
      rw [outsAt0_A m c t h (by omega) (by omega)]; frame_out; rw [first_at, zero_add, term])
    (fun t h j => by
      by_cases hl : t.val % 4 = 3
      · rw [outsAt0_C m c t h (by omega) hl]; frame_out; rw [next_at, term]; exact congrArg (· + _) (congrFun (read_unread_whole cc0_scratch0 _ _) j)
      · rw [outsAt0_B m c t h (by omega) hl]; frame_out; rw [next_at, term]; exact congrArg (· + _) (congrFun (read_unread_whole cc0_scratch0 _ _) j)) t h j]

theorem out_eq (t : Fin cfg0.N) (h : t.val % 4 = 3) (j : S1024x2048.Idx) :
    (outsAt0 m c t.val t.isLt).1 j = (outsAt0 m c t.val t.isLt).2 j := by
  rw [outsAt0_C m c t (by omega) (by omega) h]
  frame_out
  rfl

theorem final : (dats m 0 c).arrAt 2 cfg0.N = Reference8Ideal.Read.val_main_v6 (F := Ideal) (V m c main_arg0) (V m c main_arg1) := by
  refine (dats m 0 c).arrAt_eq_of_covers 2 _ (by decide +kernel) fun t hf y => ?_
  have hl := (flush0_2 t).mp hf
  have hN := lt_of_lt_of_eq t.isLt (show cfg0.N = 8 from N_0)
  blk_simp
  obtain ⟨p, j, rfl⟩ := Tile.pair_of y
  rw [after0_2, out_eq m c t hl, acc_eq m c t hl, zero_add]
  refine Eq.symm ((ref_at _ _ _).trans ?_)
  refine (Fin.sum_mul_add_congr fun s k hk => ?_).symm
  refine congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel8 := fun m ρ _ => Cert.Kernel8.Gen.frame m ρ

theorem frame_ideal : Cert.quiescent_Kernel8Ideal := fun m ρ _ => Cert.Kernel8Ideal.Gen.frame m ρ

theorem frame_reference : Cert.quiescent_Reference8Ideal := fun m ρ _ =>
  (θ_run _ _ _).mono (fun _ h => ⟨fun c => (h c).2, sem_eq_zero_of_no_sems rfl _⟩) (Cert.Reference8Ideal.Value.run m ρ)

/-- Both programs leave the reference's product in the result. -/
theorem equal_results : Cert.algebraic_Kernel8Ideal_Reference8Ideal := by
  intro m g m' g' _ hargs
  refine ⟨fun c => Reference8Ideal.Read.val_main_v6 (F := Ideal) (V m c main_arg0) (V m c main_arg1), ?_, ?_⟩
  · exact (θ_run _ _ _).mono (fun r h c => ⟨(h c).1.trans (final m c), (h c).2⟩) (Cert.Kernel8Ideal.Value.run_blocks m g)
  · refine (θ_run _ _ _).mono (fun r h c => ⟨(h c).1.trans ((Reference8Ideal.Read.val_main_v6_eq _ _).trans ?_), (h c).2⟩) (Cert.Reference8Ideal.Value.run m' g')
    have a0 : m' ((c.tc : Thread Cert.Reference8Ideal.nD Cert.Reference8Ideal.τ).loc Cert.Reference8Ideal.main_arg0) = V m c main_arg0 := (hargs c).1
    have a1 : m' ((c.tc : Thread Cert.Reference8Ideal.nD Cert.Reference8Ideal.τ).loc Cert.Reference8Ideal.main_arg1) = V m c main_arg1 := (hargs c).2
    rw [a0, a1]

end Cert.Proof.GOut

end
-- ==== Proof.GBranchHg.lean ====
/- The product `g_w_branch_hg`: every block of the output adds up 4 products over 2048 steps each. -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel9.Frame
public import proofs.«01_k».proof.Proof.Tile
public import Idealize.ShloMosaic.Lib.Quiescent

@[expose] public section

noncomputable section

namespace Cert.Proof.GBranchHg

open Idealize.ShloMosaic Idealize.ShloMosaic.TcCoe Idealize.SL.Sem Cert.Kernel9Ideal Cert.Kernel9Ideal.Gen
open scoped BigOperators

/-- The product over one run of steps. -/
def part (x : FVec Ideal S2048x1024 .bf16) (y : FVec Ideal S2048x2048 .bf16) (j : S1024x2048.Idx) : EReal :=
  ∑ k : Fin 2048, x (ix2 k (j 0)) * y (ix2 k (j 1))

theorem part_at (x : FVec Ideal S2048x1024 .bf16) (y : FVec Ideal S2048x2048 .bf16) (j : S1024x2048.Idx) :
    k0_pay1 (F := Ideal) x y j = part x y j := by
  obtain ⟨p, q, rfl⟩ := Tile.pair_of j
  show Idealize.ShloMosaic.matmul dot_S2048x1024_S2048x2048_S1024x2048_0_0_1_1_n_n none x y (constant S1024x2048 .f32 0x00000000#32) (ix2 p q) = _
  simp only [pointwise]
  rw [Tile.zero_at, zero_add]
  rfl

theorem first_at (x : FVec Ideal S2048x1024 .bf16) (y : FVec Ideal S2048x2048 .bf16) (j : S1024x2048.Idx) :
    k0_pay2 (F := Ideal) x y j = part x y j := by
  rw [← part_at]; unfold k0_pay2; rw [shapeCast_self]

theorem next_at (x : FVec Ideal S2048x1024 .bf16) (y : FVec Ideal S2048x2048 .bf16) (z : FVec Ideal S1024x2048 .f32) (j : S1024x2048.Idx) :
    k0_pay3 (F := Ideal) x y z j = z j + part x y j := by
  rw [← part_at]; unfold k0_pay3; rw [shapeCast_self]; rfl

theorem ix_0 : ∀ t : Fin cfg0.N, win0_0.index t = ![t.val % 4, t.val / 4 % 2] := (by decide +kernel : ∀ t : Fin grid0.N, _)
theorem ix_1 : ∀ t : Fin cfg0.N, win0_1.index t = ![t.val % 4, t.val / 8] := (by decide +kernel : ∀ t : Fin grid0.N, _)
theorem ix_2 : ∀ t : Fin cfg0.N, win0_2.index t = ![t.val / 4 % 2, t.val / 8] := (by decide +kernel : ∀ t : Fin grid0.N, _)

/-- The reference's element: one sum over the whole contracted axis. -/
theorem ref_at (x0 : FVec Ideal S8192x2048 .bf16) (x1 : FVec Ideal S8192x2048 .bf16) (i : S2048x2048.Idx) :
    Reference9Ideal.Read.val_main_v6 (F := Ideal) x0 x1 i = ∑ k : Fin 8192, x0 (ix2 k (i 0)) * x1 (ix2 k (i 1)) := by
  show Reference9Ideal.Read.val_main_v5 (F := Ideal) x0 x1 i = _
  rw [Reference9Ideal.Read.val_main_v5_apply, Reference9Ideal.Read.val_main_v4_apply]
  refine Finset.sum_congr rfl fun k _ => (mul_comm _ _).trans (congrArg₂ (· * ·) (congrArg x0 ?_) (congrArg x1 ?_))
  · funext d; match d with | 0 => rfl | 1 => rfl
  · funext d; match d with | 0 => rfl | 1 => rfl

variable (m : (ℓ : Loc nD τ sig) → Buf (Elt Ideal) ℓ) (c : Dev nD)

/-- One grid point's share of an element of its block. -/
def term (t : Fin cfg0.N) (j : S1024x2048.Idx) : EReal := part (iblk m c 0 t) (iblk m c 1 t) j

/-- After the last point of a run the scratch holds the sum of the run's products. -/
theorem acc_eq (t : Fin cfg0.N) (h : t.val % 4 = 3) (j : S1024x2048.Idx) :
    (outsAt0 m c t.val t.isLt).2 j
      = 0 + ∑ s : Fin 4, term m c ⟨4 * (t.val / 4) + s, by have := t.isLt; have := s.isLt; omega⟩ j := by
  rw [Pipeline.eq_sum_fin_of_reset_step_apply_of_flush (fun n h => (outsAt0 m c n h).2) 4 (fun _ => (0 : EReal)) (term m c)
    (fun t h j => by
      rw [outsAt0_A m c t h (by omega) (by omega)]; frame_out; rw [first_at, zero_add, term])
    (fun t h j => by
      by_cases hl : t.val % 4 = 3
      · rw [outsAt0_C m c t h (by omega) hl]; frame_out; rw [next_at, term]; exact congrArg (· + _) (congrFun (read_unread_whole cc0_scratch0 _ _) j)
      · rw [outsAt0_B m c t h (by omega) hl]; frame_out; rw [next_at, term]; exact congrArg (· + _) (congrFun (read_unread_whole cc0_scratch0 _ _) j)) t h j]

theorem out_eq (t : Fin cfg0.N) (h : t.val % 4 = 3) (j : S1024x2048.Idx) :
    (outsAt0 m c t.val t.isLt).1 j = (outsAt0 m c t.val t.isLt).2 j := by
  rw [outsAt0_C m c t (by omega) (by omega) h]
  frame_out
  rfl

theorem final : (dats m 0 c).arrAt 2 cfg0.N = Reference9Ideal.Read.val_main_v6 (F := Ideal) (V m c main_arg0) (V m c main_arg1) := by
  refine (dats m 0 c).arrAt_eq_of_covers 2 _ (by decide +kernel) fun t hf y => ?_
  have hl := (flush0_2 t).mp hf
  have hN := lt_of_lt_of_eq t.isLt (show cfg0.N = 8 from N_0)
  blk_simp
  obtain ⟨p, j, rfl⟩ := Tile.pair_of y
  rw [after0_2, out_eq m c t hl, acc_eq m c t hl, zero_add]
  refine Eq.symm ((ref_at _ _ _).trans ?_)
  refine (Fin.sum_mul_add_congr fun s k hk => ?_).symm
  refine congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel9 := fun m ρ _ => Cert.Kernel9.Gen.frame m ρ

theorem frame_ideal : Cert.quiescent_Kernel9Ideal := fun m ρ _ => Cert.Kernel9Ideal.Gen.frame m ρ

theorem frame_reference : Cert.quiescent_Reference9Ideal := fun m ρ _ =>
  (θ_run _ _ _).mono (fun _ h => ⟨fun c => (h c).2, sem_eq_zero_of_no_sems rfl _⟩) (Cert.Reference9Ideal.Value.run m ρ)

/-- Both programs leave the reference's product in the result. -/
theorem equal_results : Cert.algebraic_Kernel9Ideal_Reference9Ideal := by
  intro m g m' g' _ hargs
  refine ⟨fun c => Reference9Ideal.Read.val_main_v6 (F := Ideal) (V m c main_arg0) (V m c main_arg1), ?_, ?_⟩
  · exact (θ_run _ _ _).mono (fun r h c => ⟨(h c).1.trans (final m c), (h c).2⟩) (Cert.Kernel9Ideal.Value.run_blocks m g)
  · refine (θ_run _ _ _).mono (fun r h c => ⟨(h c).1.trans ((Reference9Ideal.Read.val_main_v6_eq _ _).trans ?_), (h c).2⟩) (Cert.Reference9Ideal.Value.run m' g')
    have a0 : m' ((c.tc : Thread Cert.Reference9Ideal.nD Cert.Reference9Ideal.τ).loc Cert.Reference9Ideal.main_arg0) = V m c main_arg0 := (hargs c).1
    have a1 : m' ((c.tc : Thread Cert.Reference9Ideal.nD Cert.Reference9Ideal.τ).loc Cert.Reference9Ideal.main_arg1) = V m c main_arg1 := (hargs c).2
    rw [a0, a1]

end Cert.Proof.GBranchHg

end
-- ==== Proof.GBranchSsm.lean ====
/- The product `g_w_branch_ssm`: every block of the output adds up 4 products over 2048 steps each. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel10.Frame
public import proofs.«01_k».proof.Proof.Tile
public import Idealize.ShloMosaic.Lib.Quiescent

@[expose] public section

noncomputable section

namespace Cert.Proof.GBranchSsm

open Idealize.ShloMosaic Idealize.ShloMosaic.TcCoe Idealize.SL.Sem Cert.Kernel10Ideal Cert.Kernel10Ideal.Gen
open scoped BigOperators

/-- The product over one run of steps. -/
def part (x : FVec Ideal S2048x1024 .bf16) (y : FVec Ideal S2048x2048 .bf16) (j : S1024x2048.Idx) : EReal :=
  ∑ k : Fin 2048, x (ix2 k (j 0)) * y (ix2 k (j 1))

theorem part_at (x : FVec Ideal S2048x1024 .bf16) (y : FVec Ideal S2048x2048 .bf16) (j : S1024x2048.Idx) :
    k0_pay1 (F := Ideal) x y j = part x y j := by
  obtain ⟨p, q, rfl⟩ := Tile.pair_of j
  show Idealize.ShloMosaic.matmul dot_S2048x1024_S2048x2048_S1024x2048_0_0_1_1_n_n none x y (constant S1024x2048 .f32 0x00000000#32) (ix2 p q) = _
  simp only [pointwise]
  rw [Tile.zero_at, zero_add]
  rfl

theorem first_at (x : FVec Ideal S2048x1024 .bf16) (y : FVec Ideal S2048x2048 .bf16) (j : S1024x2048.Idx) :
    k0_pay2 (F := Ideal) x y j = part x y j := by
  rw [← part_at]; unfold k0_pay2; rw [shapeCast_self]

theorem next_at (x : FVec Ideal S2048x1024 .bf16) (y : FVec Ideal S2048x2048 .bf16) (z : FVec Ideal S1024x2048 .f32) (j : S1024x2048.Idx) :
    k0_pay3 (F := Ideal) x y z j = z j + part x y j := by
  rw [← part_at]; unfold k0_pay3; rw [shapeCast_self]; rfl

theorem ix_0 : ∀ t : Fin cfg0.N, win0_0.index t = ![t.val % 4, t.val / 4 % 4] := (by decide +kernel : ∀ t : Fin grid0.N, _)
theorem ix_1 : ∀ t : Fin cfg0.N, win0_1.index t = ![t.val % 4, t.val / 16] := (by decide +kernel : ∀ t : Fin grid0.N, _)
theorem ix_2 : ∀ t : Fin cfg0.N, win0_2.index t = ![t.val / 4 % 4, t.val / 16] := (by decide +kernel : ∀ t : Fin grid0.N, _)

/-- The reference's element: one sum over the whole contracted axis. -/
theorem ref_at (x0 : FVec Ideal S8192x4096 .bf16) (x1 : FVec Ideal S8192x2048 .bf16) (i : S4096x2048.Idx) :
    Reference10Ideal.Read.val_main_v6 (F := Ideal) x0 x1 i = ∑ k : Fin 8192, x0 (ix2 k (i 0)) * x1 (ix2 k (i 1)) := by
  show Reference10Ideal.Read.val_main_v5 (F := Ideal) x0 x1 i = _
  rw [Reference10Ideal.Read.val_main_v5_apply, Reference10Ideal.Read.val_main_v4_apply]
  refine Finset.sum_congr rfl fun k _ => (mul_comm _ _).trans (congrArg₂ (· * ·) (congrArg x0 ?_) (congrArg x1 ?_))
  · funext d; match d with | 0 => rfl | 1 => rfl
  · funext d; match d with | 0 => rfl | 1 => rfl

variable (m : (ℓ : Loc nD τ sig) → Buf (Elt Ideal) ℓ) (c : Dev nD)

/-- One grid point's share of an element of its block. -/
def term (t : Fin cfg0.N) (j : S1024x2048.Idx) : EReal := part (iblk m c 0 t) (iblk m c 1 t) j

/-- After the last point of a run the scratch holds the sum of the run's products. -/
theorem acc_eq (t : Fin cfg0.N) (h : t.val % 4 = 3) (j : S1024x2048.Idx) :
    (outsAt0 m c t.val t.isLt).2 j
      = 0 + ∑ s : Fin 4, term m c ⟨4 * (t.val / 4) + s, by have := t.isLt; have := s.isLt; omega⟩ j := by
  rw [Pipeline.eq_sum_fin_of_reset_step_apply_of_flush (fun n h => (outsAt0 m c n h).2) 4 (fun _ => (0 : EReal)) (term m c)
    (fun t h j => by
      rw [outsAt0_A m c t h (by omega) (by omega)]; frame_out; rw [first_at, zero_add, term])
    (fun t h j => by
      by_cases hl : t.val % 4 = 3
      · rw [outsAt0_C m c t h (by omega) hl]; frame_out; rw [next_at, term]; exact congrArg (· + _) (congrFun (read_unread_whole cc0_scratch0 _ _) j)
      · rw [outsAt0_B m c t h (by omega) hl]; frame_out; rw [next_at, term]; exact congrArg (· + _) (congrFun (read_unread_whole cc0_scratch0 _ _) j)) t h j]

theorem out_eq (t : Fin cfg0.N) (h : t.val % 4 = 3) (j : S1024x2048.Idx) :
    (outsAt0 m c t.val t.isLt).1 j = (outsAt0 m c t.val t.isLt).2 j := by
  rw [outsAt0_C m c t (by omega) (by omega) h]
  frame_out
  rfl

theorem final : (dats m 0 c).arrAt 2 cfg0.N = Reference10Ideal.Read.val_main_v6 (F := Ideal) (V m c main_arg0) (V m c main_arg1) := by
  refine (dats m 0 c).arrAt_eq_of_covers 2 _ (by decide +kernel) fun t hf y => ?_
  have hl := (flush0_2 t).mp hf
  have hN := lt_of_lt_of_eq t.isLt (show cfg0.N = 16 from N_0)
  blk_simp
  obtain ⟨p, j, rfl⟩ := Tile.pair_of y
  rw [after0_2, out_eq m c t hl, acc_eq m c t hl, zero_add]
  refine Eq.symm ((ref_at _ _ _).trans ?_)
  refine (Fin.sum_mul_add_congr fun s k hk => ?_).symm
  refine congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel10 := fun m ρ _ => Cert.Kernel10.Gen.frame m ρ

theorem frame_ideal : Cert.quiescent_Kernel10Ideal := fun m ρ _ => Cert.Kernel10Ideal.Gen.frame m ρ

theorem frame_reference : Cert.quiescent_Reference10Ideal := fun m ρ _ =>
  (θ_run _ _ _).mono (fun _ h => ⟨fun c => (h c).2, sem_eq_zero_of_no_sems rfl _⟩) (Cert.Reference10Ideal.Value.run m ρ)

/-- Both programs leave the reference's product in the result. -/
theorem equal_results : Cert.algebraic_Kernel10Ideal_Reference10Ideal := by
  intro m g m' g' _ hargs
  refine ⟨fun c => Reference10Ideal.Read.val_main_v6 (F := Ideal) (V m c main_arg0) (V m c main_arg1), ?_, ?_⟩
  · exact (θ_run _ _ _).mono (fun r h c => ⟨(h c).1.trans (final m c), (h c).2⟩) (Cert.Kernel10Ideal.Value.run_blocks m g)
  · refine (θ_run _ _ _).mono (fun r h c => ⟨(h c).1.trans ((Reference10Ideal.Read.val_main_v6_eq _ _).trans ?_), (h c).2⟩) (Cert.Reference10Ideal.Value.run m' g')
    have a0 : m' ((c.tc : Thread Cert.Reference10Ideal.nD Cert.Reference10Ideal.τ).loc Cert.Reference10Ideal.main_arg0) = V m c main_arg0 := (hargs c).1
    have a1 : m' ((c.tc : Thread Cert.Reference10Ideal.nD Cert.Reference10Ideal.τ).loc Cert.Reference10Ideal.main_arg1) = V m c main_arg1 := (hargs c).2
    rw [a0, a1]

end Cert.Proof.GBranchSsm

end
-- ==== Proof.GIn0.lean ====
/- The product `g_w_in_0`: every block of the output adds up 4 products over 2048 steps each. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel11.Frame
public import proofs.«01_k».proof.Proof.Tile
public import Idealize.ShloMosaic.Lib.Quiescent

@[expose] public section

noncomputable section

namespace Cert.Proof.GIn0

open Idealize.ShloMosaic Idealize.ShloMosaic.TcCoe Idealize.SL.Sem Cert.Kernel11Ideal Cert.Kernel11Ideal.Gen
open scoped BigOperators

/-- The product over one run of steps. -/
def part (x : FVec Ideal S2048x1024 .bf16) (y : FVec Ideal S2048x2048 .bf16) (j : S1024x2048.Idx) : EReal :=
  ∑ k : Fin 2048, x (ix2 k (j 0)) * y (ix2 k (j 1))

theorem part_at (x : FVec Ideal S2048x1024 .bf16) (y : FVec Ideal S2048x2048 .bf16) (j : S1024x2048.Idx) :
    k0_pay1 (F := Ideal) x y j = part x y j := by
  obtain ⟨p, q, rfl⟩ := Tile.pair_of j
  show Idealize.ShloMosaic.matmul dot_S2048x1024_S2048x2048_S1024x2048_0_0_1_1_n_n none x y (constant S1024x2048 .f32 0x00000000#32) (ix2 p q) = _
  simp only [pointwise]
  rw [Tile.zero_at, zero_add]
  rfl

theorem first_at (x : FVec Ideal S2048x1024 .bf16) (y : FVec Ideal S2048x2048 .bf16) (j : S1024x2048.Idx) :
    k0_pay2 (F := Ideal) x y j = part x y j := by
  rw [← part_at]; unfold k0_pay2; rw [shapeCast_self]

theorem next_at (x : FVec Ideal S2048x1024 .bf16) (y : FVec Ideal S2048x2048 .bf16) (z : FVec Ideal S1024x2048 .f32) (j : S1024x2048.Idx) :
    k0_pay3 (F := Ideal) x y z j = z j + part x y j := by
  rw [← part_at]; unfold k0_pay3; rw [shapeCast_self]; rfl

theorem ix_0 : ∀ t : Fin cfg0.N, win0_0.index t = ![t.val % 4, t.val / 4 % 8] := (by decide +kernel : ∀ t : Fin grid0.N, _)
theorem ix_1 : ∀ t : Fin cfg0.N, win0_1.index t = ![t.val % 4, t.val / 32] := (by decide +kernel : ∀ t : Fin grid0.N, _)
theorem ix_2 : ∀ t : Fin cfg0.N, win0_2.index t = ![t.val / 4 % 8, t.val / 32] := (by decide +kernel : ∀ t : Fin grid0.N, _)

/-- The reference's element: one sum over the whole contracted axis. -/
theorem ref_at (x0 : FVec Ideal S8192x8192 .bf16) (x1 : FVec Ideal S8192x2048 .bf16) (i : S8192x2048.Idx) :
    Reference11Ideal.Read.val_main_v5 (F := Ideal) x0 x1 i = ∑ k : Fin 8192, x0 (ix2 k (i 0)) * x1 (ix2 k (i 1)) := by
  show Reference11Ideal.Read.val_main_v4 (F := Ideal) x0 x1 i = _
  rw [Reference11Ideal.Read.val_main_v4_apply]
  refine Finset.sum_congr rfl fun k _ => congrArg₂ (· * ·) (congrArg x0 ?_) (congrArg x1 ?_)
  · funext d; match d with | 0 => rfl | 1 => rfl
  · funext d; match d with | 0 => rfl | 1 => rfl

variable (m : (ℓ : Loc nD τ sig) → Buf (Elt Ideal) ℓ) (c : Dev nD)

/-- One grid point's share of an element of its block. -/
def term (t : Fin cfg0.N) (j : S1024x2048.Idx) : EReal := part (iblk m c 0 t) (iblk m c 1 t) j

/-- After the last point of a run the scratch holds the sum of the run's products. -/
theorem acc_eq (t : Fin cfg0.N) (h : t.val % 4 = 3) (j : S1024x2048.Idx) :
    (outsAt0 m c t.val t.isLt).2 j
      = 0 + ∑ s : Fin 4, term m c ⟨4 * (t.val / 4) + s, by have := t.isLt; have := s.isLt; omega⟩ j := by
  rw [Pipeline.eq_sum_fin_of_reset_step_apply_of_flush (fun n h => (outsAt0 m c n h).2) 4 (fun _ => (0 : EReal)) (term m c)
    (fun t h j => by
      rw [outsAt0_A m c t h (by omega) (by omega)]; frame_out; rw [first_at, zero_add, term])
    (fun t h j => by
      by_cases hl : t.val % 4 = 3
      · rw [outsAt0_C m c t h (by omega) hl]; frame_out; rw [next_at, term]; exact congrArg (· + _) (congrFun (read_unread_whole cc0_scratch0 _ _) j)
      · rw [outsAt0_B m c t h (by omega) hl]; frame_out; rw [next_at, term]; exact congrArg (· + _) (congrFun (read_unread_whole cc0_scratch0 _ _) j)) t h j]

theorem out_eq (t : Fin cfg0.N) (h : t.val % 4 = 3) (j : S1024x2048.Idx) :
    (outsAt0 m c t.val t.isLt).1 j = (outsAt0 m c t.val t.isLt).2 j := by
  rw [outsAt0_C m c t (by omega) (by omega) h]
  frame_out
  rfl

theorem final : (dats m 0 c).arrAt 2 cfg0.N = Reference11Ideal.Read.val_main_v5 (F := Ideal) (V m c main_arg0) (V m c main_arg1) := by
  refine (dats m 0 c).arrAt_eq_of_covers 2 _ (by decide +kernel) fun t hf y => ?_
  have hl := (flush0_2 t).mp hf
  have hN := lt_of_lt_of_eq t.isLt (show cfg0.N = 32 from N_0)
  blk_simp
  obtain ⟨p, j, rfl⟩ := Tile.pair_of y
  rw [after0_2, out_eq m c t hl, acc_eq m c t hl, zero_add]
  refine Eq.symm ((ref_at _ _ _).trans ?_)
  refine (Fin.sum_mul_add_congr fun s k hk => ?_).symm
  refine congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel11 := fun m ρ _ => Cert.Kernel11.Gen.frame m ρ

theorem frame_ideal : Cert.quiescent_Kernel11Ideal := fun m ρ _ => Cert.Kernel11Ideal.Gen.frame m ρ

theorem frame_reference : Cert.quiescent_Reference11Ideal := fun m ρ _ =>
  (θ_run _ _ _).mono (fun _ h => ⟨fun c => (h c).2, sem_eq_zero_of_no_sems rfl _⟩) (Cert.Reference11Ideal.Value.run m ρ)

/-- Both programs leave the reference's product in the result. -/
theorem equal_results : Cert.algebraic_Kernel11Ideal_Reference11Ideal := by
  intro m g m' g' _ hargs
  refine ⟨fun c => Reference11Ideal.Read.val_main_v5 (F := Ideal) (V m c main_arg0) (V m c main_arg1), ?_, ?_⟩
  · exact (θ_run _ _ _).mono (fun r h c => ⟨(h c).1.trans (final m c), (h c).2⟩) (Cert.Kernel11Ideal.Value.run_blocks m g)
  · refine (θ_run _ _ _).mono (fun r h c => ⟨(h c).1.trans ((Reference11Ideal.Read.val_main_v5_eq _ _).trans ?_), (h c).2⟩) (Cert.Reference11Ideal.Value.run m' g')
    have a0 : m' ((c.tc : Thread Cert.Reference11Ideal.nD Cert.Reference11Ideal.τ).loc Cert.Reference11Ideal.main_arg0) = V m c main_arg0 := (hargs c).1
    have a1 : m' ((c.tc : Thread Cert.Reference11Ideal.nD Cert.Reference11Ideal.τ).loc Cert.Reference11Ideal.main_arg1) = V m c main_arg1 := (hargs c).2
    rw [a0, a1]

end Cert.Proof.GIn0

end
-- ==== Proof.GIn1.lean ====
/- The product `g_w_in_1`: every block of the output adds up 4 products over 2048 steps each. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel12.Frame
public import proofs.«01_k».proof.Proof.Tile
public import Idealize.ShloMosaic.Lib.Quiescent

@[expose] public section

noncomputable section

namespace Cert.Proof.GIn1

open Idealize.ShloMosaic Idealize.ShloMosaic.TcCoe Idealize.SL.Sem Cert.Kernel12Ideal Cert.Kernel12Ideal.Gen
open scoped BigOperators

/-- The product over one run of steps. -/
def part (x : FVec Ideal S2048x1024 .bf16) (y : FVec Ideal S2048x2048 .bf16) (j : S1024x2048.Idx) : EReal :=
  ∑ k : Fin 2048, x (ix2 k (j 0)) * y (ix2 k (j 1))

theorem part_at (x : FVec Ideal S2048x1024 .bf16) (y : FVec Ideal S2048x2048 .bf16) (j : S1024x2048.Idx) :
    k0_pay1 (F := Ideal) x y j = part x y j := by
  obtain ⟨p, q, rfl⟩ := Tile.pair_of j
  show Idealize.ShloMosaic.matmul dot_S2048x1024_S2048x2048_S1024x2048_0_0_1_1_n_n none x y (constant S1024x2048 .f32 0x00000000#32) (ix2 p q) = _
  simp only [pointwise]
  rw [Tile.zero_at, zero_add]
  rfl

theorem first_at (x : FVec Ideal S2048x1024 .bf16) (y : FVec Ideal S2048x2048 .bf16) (j : S1024x2048.Idx) :
    k0_pay2 (F := Ideal) x y j = part x y j := by
  rw [← part_at]; unfold k0_pay2; rw [shapeCast_self]

theorem next_at (x : FVec Ideal S2048x1024 .bf16) (y : FVec Ideal S2048x2048 .bf16) (z : FVec Ideal S1024x2048 .f32) (j : S1024x2048.Idx) :
    k0_pay3 (F := Ideal) x y z j = z j + part x y j := by
  rw [← part_at]; unfold k0_pay3; rw [shapeCast_self]; rfl

theorem ix_0 : ∀ t : Fin cfg0.N, win0_0.index t = ![t.val % 4, t.val / 4 % 4] := (by decide +kernel : ∀ t : Fin grid0.N, _)
theorem ix_1 : ∀ t : Fin cfg0.N, win0_1.index t = ![t.val % 4, t.val / 16] := (by decide +kernel : ∀ t : Fin grid0.N, _)
theorem ix_2 : ∀ t : Fin cfg0.N, win0_2.index t = ![t.val / 4 % 4, t.val / 16] := (by decide +kernel : ∀ t : Fin grid0.N, _)

/-- The reference's element: one sum over the whole contracted axis. -/
theorem ref_at (x0 : FVec Ideal S8192x4096 .bf16) (x1 : FVec Ideal S8192x2048 .bf16) (i : S4096x2048.Idx) :
    Reference12Ideal.Read.val_main_v5 (F := Ideal) x0 x1 i = ∑ k : Fin 8192, x0 (ix2 k (i 0)) * x1 (ix2 k (i 1)) := by
  show Reference12Ideal.Read.val_main_v4 (F := Ideal) x0 x1 i = _
  rw [Reference12Ideal.Read.val_main_v4_apply]
  refine Finset.sum_congr rfl fun k _ => congrArg₂ (· * ·) (congrArg x0 ?_) (congrArg x1 ?_)
  · funext d; match d with | 0 => rfl | 1 => rfl
  · funext d; match d with | 0 => rfl | 1 => rfl

variable (m : (ℓ : Loc nD τ sig) → Buf (Elt Ideal) ℓ) (c : Dev nD)

/-- One grid point's share of an element of its block. -/
def term (t : Fin cfg0.N) (j : S1024x2048.Idx) : EReal := part (iblk m c 0 t) (iblk m c 1 t) j

/-- After the last point of a run the scratch holds the sum of the run's products. -/
theorem acc_eq (t : Fin cfg0.N) (h : t.val % 4 = 3) (j : S1024x2048.Idx) :
    (outsAt0 m c t.val t.isLt).2 j
      = 0 + ∑ s : Fin 4, term m c ⟨4 * (t.val / 4) + s, by have := t.isLt; have := s.isLt; omega⟩ j := by
  rw [Pipeline.eq_sum_fin_of_reset_step_apply_of_flush (fun n h => (outsAt0 m c n h).2) 4 (fun _ => (0 : EReal)) (term m c)
    (fun t h j => by
      rw [outsAt0_A m c t h (by omega) (by omega)]; frame_out; rw [first_at, zero_add, term])
    (fun t h j => by
      by_cases hl : t.val % 4 = 3
      · rw [outsAt0_C m c t h (by omega) hl]; frame_out; rw [next_at, term]; exact congrArg (· + _) (congrFun (read_unread_whole cc0_scratch0 _ _) j)
      · rw [outsAt0_B m c t h (by omega) hl]; frame_out; rw [next_at, term]; exact congrArg (· + _) (congrFun (read_unread_whole cc0_scratch0 _ _) j)) t h j]

theorem out_eq (t : Fin cfg0.N) (h : t.val % 4 = 3) (j : S1024x2048.Idx) :
    (outsAt0 m c t.val t.isLt).1 j = (outsAt0 m c t.val t.isLt).2 j := by
  rw [outsAt0_C m c t (by omega) (by omega) h]
  frame_out
  rfl

theorem final : (dats m 0 c).arrAt 2 cfg0.N = Reference12Ideal.Read.val_main_v5 (F := Ideal) (V m c main_arg0) (V m c main_arg1) := by
  refine (dats m 0 c).arrAt_eq_of_covers 2 _ (by decide +kernel) fun t hf y => ?_
  have hl := (flush0_2 t).mp hf
  have hN := lt_of_lt_of_eq t.isLt (show cfg0.N = 16 from N_0)
  blk_simp
  obtain ⟨p, j, rfl⟩ := Tile.pair_of y
  rw [after0_2, out_eq m c t hl, acc_eq m c t hl, zero_add]
  refine Eq.symm ((ref_at _ _ _).trans ?_)
  refine (Fin.sum_mul_add_congr fun s k hk => ?_).symm
  refine congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel12 := fun m ρ _ => Cert.Kernel12.Gen.frame m ρ

theorem frame_ideal : Cert.quiescent_Kernel12Ideal := fun m ρ _ => Cert.Kernel12Ideal.Gen.frame m ρ

theorem frame_reference : Cert.quiescent_Reference12Ideal := fun m ρ _ =>
  (θ_run _ _ _).mono (fun _ h => ⟨fun c => (h c).2, sem_eq_zero_of_no_sems rfl _⟩) (Cert.Reference12Ideal.Value.run m ρ)

/-- Both programs leave the reference's product in the result. -/
theorem equal_results : Cert.algebraic_Kernel12Ideal_Reference12Ideal := by
  intro m g m' g' _ hargs
  refine ⟨fun c => Reference12Ideal.Read.val_main_v5 (F := Ideal) (V m c main_arg0) (V m c main_arg1), ?_, ?_⟩
  · exact (θ_run _ _ _).mono (fun r h c => ⟨(h c).1.trans (final m c), (h c).2⟩) (Cert.Kernel12Ideal.Value.run_blocks m g)
  · refine (θ_run _ _ _).mono (fun r h c => ⟨(h c).1.trans ((Reference12Ideal.Read.val_main_v5_eq _ _).trans ?_), (h c).2⟩) (Cert.Reference12Ideal.Value.run m' g')
    have a0 : m' ((c.tc : Thread Cert.Reference12Ideal.nD Cert.Reference12Ideal.τ).loc Cert.Reference12Ideal.main_arg0) = V m c main_arg0 := (hargs c).1
    have a1 : m' ((c.tc : Thread Cert.Reference12Ideal.nD Cert.Reference12Ideal.τ).loc Cert.Reference12Ideal.main_arg1) = V m c main_arg1 := (hargs c).2
    rw [a0, a1]

end Cert.Proof.GIn1

end
-- ==== Proof.GIn2.lean ====
/- The product `g_w_in_2`: every block of the output adds up 4 products over 2048 steps each. -/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel13.Frame
public import proofs.«01_k».proof.Proof.Tile
public import Idealize.ShloMosaic.Lib.Quiescent

@[expose] public section

noncomputable section

namespace Cert.Proof.GIn2

open Idealize.ShloMosaic Idealize.ShloMosaic.TcCoe Idealize.SL.Sem Cert.Kernel13Ideal Cert.Kernel13Ideal.Gen
open scoped BigOperators

/-- The product over one run of steps. -/
def part (x : FVec Ideal S2048x1024 .bf16) (y : FVec Ideal S2048x2048 .bf16) (j : S1024x2048.Idx) : EReal :=
  ∑ k : Fin 2048, x (ix2 k (j 0)) * y (ix2 k (j 1))

theorem part_at (x : FVec Ideal S2048x1024 .bf16) (y : FVec Ideal S2048x2048 .bf16) (j : S1024x2048.Idx) :
    k0_pay1 (F := Ideal) x y j = part x y j := by
  obtain ⟨p, q, rfl⟩ := Tile.pair_of j
  show Idealize.ShloMosaic.matmul dot_S2048x1024_S2048x2048_S1024x2048_0_0_1_1_n_n none x y (constant S1024x2048 .f32 0x00000000#32) (ix2 p q) = _
  simp only [pointwise]
  rw [Tile.zero_at, zero_add]
  rfl

theorem first_at (x : FVec Ideal S2048x1024 .bf16) (y : FVec Ideal S2048x2048 .bf16) (j : S1024x2048.Idx) :
    k0_pay2 (F := Ideal) x y j = part x y j := by
  rw [← part_at]; unfold k0_pay2; rw [shapeCast_self]

theorem next_at (x : FVec Ideal S2048x1024 .bf16) (y : FVec Ideal S2048x2048 .bf16) (z : FVec Ideal S1024x2048 .f32) (j : S1024x2048.Idx) :
    k0_pay3 (F := Ideal) x y z j = z j + part x y j := by
  rw [← part_at]; unfold k0_pay3; rw [shapeCast_self]; rfl

theorem ix_0 : ∀ t : Fin cfg0.N, win0_0.index t = ![t.val % 4, t.val / 4 % 4] := (by decide +kernel : ∀ t : Fin grid0.N, _)
theorem ix_1 : ∀ t : Fin cfg0.N, win0_1.index t = ![t.val % 4, t.val / 16] := (by decide +kernel : ∀ t : Fin grid0.N, _)
theorem ix_2 : ∀ t : Fin cfg0.N, win0_2.index t = ![t.val / 4 % 4, t.val / 16] := (by decide +kernel : ∀ t : Fin grid0.N, _)

/-- The reference's element: one sum over the whole contracted axis. -/
theorem ref_at (x0 : FVec Ideal S8192x4096 .bf16) (x1 : FVec Ideal S8192x2048 .bf16) (i : S4096x2048.Idx) :
    Reference13Ideal.Read.val_main_v5 (F := Ideal) x0 x1 i = ∑ k : Fin 8192, x0 (ix2 k (i 0)) * x1 (ix2 k (i 1)) := by
  show Reference13Ideal.Read.val_main_v4 (F := Ideal) x0 x1 i = _
  rw [Reference13Ideal.Read.val_main_v4_apply]
  refine Finset.sum_congr rfl fun k _ => congrArg₂ (· * ·) (congrArg x0 ?_) (congrArg x1 ?_)
  · funext d; match d with | 0 => rfl | 1 => rfl
  · funext d; match d with | 0 => rfl | 1 => rfl

variable (m : (ℓ : Loc nD τ sig) → Buf (Elt Ideal) ℓ) (c : Dev nD)

/-- One grid point's share of an element of its block. -/
def term (t : Fin cfg0.N) (j : S1024x2048.Idx) : EReal := part (iblk m c 0 t) (iblk m c 1 t) j

/-- After the last point of a run the scratch holds the sum of the run's products. -/
theorem acc_eq (t : Fin cfg0.N) (h : t.val % 4 = 3) (j : S1024x2048.Idx) :
    (outsAt0 m c t.val t.isLt).2 j
      = 0 + ∑ s : Fin 4, term m c ⟨4 * (t.val / 4) + s, by have := t.isLt; have := s.isLt; omega⟩ j := by
  rw [Pipeline.eq_sum_fin_of_reset_step_apply_of_flush (fun n h => (outsAt0 m c n h).2) 4 (fun _ => (0 : EReal)) (term m c)
    (fun t h j => by
      rw [outsAt0_A m c t h (by omega) (by omega)]; frame_out; rw [first_at, zero_add, term])
    (fun t h j => by
      by_cases hl : t.val % 4 = 3
      · rw [outsAt0_C m c t h (by omega) hl]; frame_out; rw [next_at, term]; exact congrArg (· + _) (congrFun (read_unread_whole cc0_scratch0 _ _) j)
      · rw [outsAt0_B m c t h (by omega) hl]; frame_out; rw [next_at, term]; exact congrArg (· + _) (congrFun (read_unread_whole cc0_scratch0 _ _) j)) t h j]

theorem out_eq (t : Fin cfg0.N) (h : t.val % 4 = 3) (j : S1024x2048.Idx) :
    (outsAt0 m c t.val t.isLt).1 j = (outsAt0 m c t.val t.isLt).2 j := by
  rw [outsAt0_C m c t (by omega) (by omega) h]
  frame_out
  rfl

theorem final : (dats m 0 c).arrAt 2 cfg0.N = Reference13Ideal.Read.val_main_v5 (F := Ideal) (V m c main_arg0) (V m c main_arg1) := by
  refine (dats m 0 c).arrAt_eq_of_covers 2 _ (by decide +kernel) fun t hf y => ?_
  have hl := (flush0_2 t).mp hf
  have hN := lt_of_lt_of_eq t.isLt (show cfg0.N = 16 from N_0)
  blk_simp
  obtain ⟨p, j, rfl⟩ := Tile.pair_of y
  rw [after0_2, out_eq m c t hl, acc_eq m c t hl, zero_add]
  refine Eq.symm ((ref_at _ _ _).trans ?_)
  refine (Fin.sum_mul_add_congr fun s k hk => ?_).symm
  refine congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel13 := fun m ρ _ => Cert.Kernel13.Gen.frame m ρ

theorem frame_ideal : Cert.quiescent_Kernel13Ideal := fun m ρ _ => Cert.Kernel13Ideal.Gen.frame m ρ

theorem frame_reference : Cert.quiescent_Reference13Ideal := fun m ρ _ =>
  (θ_run _ _ _).mono (fun _ h => ⟨fun c => (h c).2, sem_eq_zero_of_no_sems rfl _⟩) (Cert.Reference13Ideal.Value.run m ρ)

/-- Both programs leave the reference's product in the result. -/
theorem equal_results : Cert.algebraic_Kernel13Ideal_Reference13Ideal := by
  intro m g m' g' _ hargs
  refine ⟨fun c => Reference13Ideal.Read.val_main_v5 (F := Ideal) (V m c main_arg0) (V m c main_arg1), ?_, ?_⟩
  · exact (θ_run _ _ _).mono (fun r h c => ⟨(h c).1.trans (final m c), (h c).2⟩) (Cert.Kernel13Ideal.Value.run_blocks m g)
  · refine (θ_run _ _ _).mono (fun r h c => ⟨(h c).1.trans ((Reference13Ideal.Read.val_main_v5_eq _ _).trans ?_), (h c).2⟩) (Cert.Reference13Ideal.Value.run m' g')
    have a0 : m' ((c.tc : Thread Cert.Reference13Ideal.nD Cert.Reference13Ideal.τ).loc Cert.Reference13Ideal.main_arg0) = V m c main_arg0 := (hargs c).1
    have a1 : m' ((c.tc : Thread Cert.Reference13Ideal.nD Cert.Reference13Ideal.τ).loc Cert.Reference13Ideal.main_arg1) = V m c main_arg1 := (hargs c).2
    rw [a0, a1]

end Cert.Proof.GIn2

end
-- ==== Proof.GIn3.lean ====
/- The product `g_w_in_3`: every block of the output adds up 4 products over 2048 steps each. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel14.Frame
public import proofs.«01_k».proof.Proof.Tile
public import Idealize.ShloMosaic.Lib.Quiescent

@[expose] public section

noncomputable section

namespace Cert.Proof.GIn3

open Idealize.ShloMosaic Idealize.ShloMosaic.TcCoe Idealize.SL.Sem Cert.Kernel14Ideal Cert.Kernel14Ideal.Gen
open scoped BigOperators

/-- The product over one run of steps. -/
def part (x : FVec Ideal S2048x1024 .bf16) (y : FVec Ideal S2048x2048 .bf16) (j : S1024x2048.Idx) : EReal :=
  ∑ k : Fin 2048, x (ix2 k (j 0)) * y (ix2 k (j 1))

theorem part_at (x : FVec Ideal S2048x1024 .bf16) (y : FVec Ideal S2048x2048 .bf16) (j : S1024x2048.Idx) :
    k0_pay1 (F := Ideal) x y j = part x y j := by
  obtain ⟨p, q, rfl⟩ := Tile.pair_of j
  show Idealize.ShloMosaic.matmul dot_S2048x1024_S2048x2048_S1024x2048_0_0_1_1_n_n none x y (constant S1024x2048 .f32 0x00000000#32) (ix2 p q) = _
  simp only [pointwise]
  rw [Tile.zero_at, zero_add]
  rfl

theorem first_at (x : FVec Ideal S2048x1024 .bf16) (y : FVec Ideal S2048x2048 .bf16) (j : S1024x2048.Idx) :
    k0_pay2 (F := Ideal) x y j = part x y j := by
  rw [← part_at]; unfold k0_pay2; rw [shapeCast_self]

theorem next_at (x : FVec Ideal S2048x1024 .bf16) (y : FVec Ideal S2048x2048 .bf16) (z : FVec Ideal S1024x2048 .f32) (j : S1024x2048.Idx) :
    k0_pay3 (F := Ideal) x y z j = z j + part x y j := by
  rw [← part_at]; unfold k0_pay3; rw [shapeCast_self]; rfl

theorem ix_0 : ∀ t : Fin cfg0.N, win0_0.index t = ![t.val % 4, t.val / 4 % 1] := (by decide +kernel : ∀ t : Fin grid0.N, _)
theorem ix_1 : ∀ t : Fin cfg0.N, win0_1.index t = ![t.val % 4, t.val / 4] := (by decide +kernel : ∀ t : Fin grid0.N, _)
theorem ix_2 : ∀ t : Fin cfg0.N, win0_2.index t = ![t.val / 4 % 1, t.val / 4] := (by decide +kernel : ∀ t : Fin grid0.N, _)

/-- The reference's element: one sum over the whole contracted axis. -/
theorem ref_at (x0 : FVec Ideal S8192x1024 .bf16) (x1 : FVec Ideal S8192x2048 .bf16) (i : S1024x2048.Idx) :
    Reference14Ideal.Read.val_main_v5 (F := Ideal) x0 x1 i = ∑ k : Fin 8192, x0 (ix2 k (i 0)) * x1 (ix2 k (i 1)) := by
  show Reference14Ideal.Read.val_main_v4 (F := Ideal) x0 x1 i = _
  rw [Reference14Ideal.Read.val_main_v4_apply]
  refine Finset.sum_congr rfl fun k _ => congrArg₂ (· * ·) (congrArg x0 ?_) (congrArg x1 ?_)
  · funext d; match d with | 0 => rfl | 1 => rfl
  · funext d; match d with | 0 => rfl | 1 => rfl

variable (m : (ℓ : Loc nD τ sig) → Buf (Elt Ideal) ℓ) (c : Dev nD)

/-- One grid point's share of an element of its block. -/
def term (t : Fin cfg0.N) (j : S1024x2048.Idx) : EReal := part (iblk m c 0 t) (iblk m c 1 t) j

/-- After the last point of a run the scratch holds the sum of the run's products. -/
theorem acc_eq (t : Fin cfg0.N) (h : t.val % 4 = 3) (j : S1024x2048.Idx) :
    (outsAt0 m c t.val t.isLt).2 j
      = 0 + ∑ s : Fin 4, term m c ⟨4 * (t.val / 4) + s, by have := t.isLt; have := s.isLt; omega⟩ j := by
  rw [Pipeline.eq_sum_fin_of_reset_step_apply_of_flush (fun n h => (outsAt0 m c n h).2) 4 (fun _ => (0 : EReal)) (term m c)
    (fun t h j => by
      rw [outsAt0_A m c t h (by have := lt_of_lt_of_eq t.isLt (show cfg0.N = 4 from N_0); omega) (by omega)]; frame_out; rw [first_at, zero_add, term])
    (fun t h j => by
      by_cases hl : t.val % 4 = 3
      · rw [outsAt0_C m c t h (by omega) hl]; frame_out; rw [next_at, term]; exact congrArg (· + _) (congrFun (read_unread_whole cc0_scratch0 _ _) j)
      · rw [outsAt0_B m c t h (by omega) hl]; frame_out; rw [next_at, term]; exact congrArg (· + _) (congrFun (read_unread_whole cc0_scratch0 _ _) j)) t h j]

theorem out_eq (t : Fin cfg0.N) (h : t.val % 4 = 3) (j : S1024x2048.Idx) :
    (outsAt0 m c t.val t.isLt).1 j = (outsAt0 m c t.val t.isLt).2 j := by
  rw [outsAt0_C m c t (by omega) (by omega) h]
  frame_out
  rfl

theorem final : (dats m 0 c).arrAt 2 cfg0.N = Reference14Ideal.Read.val_main_v5 (F := Ideal) (V m c main_arg0) (V m c main_arg1) := by
  refine (dats m 0 c).arrAt_eq_of_covers 2 _ (by decide +kernel) fun t hf y => ?_
  have hl := (flush0_2 t).mp hf
  have hN := lt_of_lt_of_eq t.isLt (show cfg0.N = 4 from N_0)
  blk_simp
  obtain ⟨p, j, rfl⟩ := Tile.pair_of y
  rw [after0_2, out_eq m c t hl, acc_eq m c t hl, zero_add]
  refine Eq.symm ((ref_at _ _ _).trans ?_)
  refine (Fin.sum_mul_add_congr fun s k hk => ?_).symm
  refine congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel14 := fun m ρ _ => Cert.Kernel14.Gen.frame m ρ

theorem frame_ideal : Cert.quiescent_Kernel14Ideal := fun m ρ _ => Cert.Kernel14Ideal.Gen.frame m ρ

theorem frame_reference : Cert.quiescent_Reference14Ideal := fun m ρ _ =>
  (θ_run _ _ _).mono (fun _ h => ⟨fun c => (h c).2, sem_eq_zero_of_no_sems rfl _⟩) (Cert.Reference14Ideal.Value.run m ρ)

/-- Both programs leave the reference's product in the result. -/
theorem equal_results : Cert.algebraic_Kernel14Ideal_Reference14Ideal := by
  intro m g m' g' _ hargs
  refine ⟨fun c => Reference14Ideal.Read.val_main_v5 (F := Ideal) (V m c main_arg0) (V m c main_arg1), ?_, ?_⟩
  · exact (θ_run _ _ _).mono (fun r h c => ⟨(h c).1.trans (final m c), (h c).2⟩) (Cert.Kernel14Ideal.Value.run_blocks m g)
  · refine (θ_run _ _ _).mono (fun r h c => ⟨(h c).1.trans ((Reference14Ideal.Read.val_main_v5_eq _ _).trans ?_), (h c).2⟩) (Cert.Reference14Ideal.Value.run m' g')
    have a0 : m' ((c.tc : Thread Cert.Reference14Ideal.nD Cert.Reference14Ideal.τ).loc Cert.Reference14Ideal.main_arg0) = V m c main_arg0 := (hargs c).1
    have a1 : m' ((c.tc : Thread Cert.Reference14Ideal.nD Cert.Reference14Ideal.τ).loc Cert.Reference14Ideal.main_arg1) = V m c main_arg1 := (hargs c).2
    rw [a0, a1]

end Cert.Proof.GIn3

end
-- ==== Proof.GIn4.lean ====
/- The product `g_w_in_4`: every block of the output adds up 4 products over 2048 steps each. -/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel15.Frame
public import proofs.«01_k».proof.Proof.Tile
public import Idealize.ShloMosaic.Lib.Quiescent

@[expose] public section

noncomputable section

namespace Cert.Proof.GIn4

open Idealize.ShloMosaic Idealize.ShloMosaic.TcCoe Idealize.SL.Sem Cert.Kernel15Ideal Cert.Kernel15Ideal.Gen
open scoped BigOperators

/-- The product over one run of steps. -/
def part (x : FVec Ideal S2048x1024 .bf16) (y : FVec Ideal S2048x2048 .bf16) (j : S1024x2048.Idx) : EReal :=
  ∑ k : Fin 2048, x (ix2 k (j 0)) * y (ix2 k (j 1))

theorem part_at (x : FVec Ideal S2048x1024 .bf16) (y : FVec Ideal S2048x2048 .bf16) (j : S1024x2048.Idx) :
    k0_pay1 (F := Ideal) x y j = part x y j := by
  obtain ⟨p, q, rfl⟩ := Tile.pair_of j
  show Idealize.ShloMosaic.matmul dot_S2048x1024_S2048x2048_S1024x2048_0_0_1_1_n_n none x y (constant S1024x2048 .f32 0x00000000#32) (ix2 p q) = _
  simp only [pointwise]
  rw [Tile.zero_at, zero_add]
  rfl

theorem first_at (x : FVec Ideal S2048x1024 .bf16) (y : FVec Ideal S2048x2048 .bf16) (j : S1024x2048.Idx) :
    k0_pay2 (F := Ideal) x y j = part x y j := by
  rw [← part_at]; unfold k0_pay2; rw [shapeCast_self]

theorem next_at (x : FVec Ideal S2048x1024 .bf16) (y : FVec Ideal S2048x2048 .bf16) (z : FVec Ideal S1024x2048 .f32) (j : S1024x2048.Idx) :
    k0_pay3 (F := Ideal) x y z j = z j + part x y j := by
  rw [← part_at]; unfold k0_pay3; rw [shapeCast_self]; rfl

theorem ix_0 : ∀ t : Fin cfg0.N, win0_0.index t = ![t.val % 4, t.val / 4 % 1] := (by decide +kernel : ∀ t : Fin grid0.N, _)
theorem ix_1 : ∀ t : Fin cfg0.N, win0_1.index t = ![t.val % 4, t.val / 4] := (by decide +kernel : ∀ t : Fin grid0.N, _)
theorem ix_2 : ∀ t : Fin cfg0.N, win0_2.index t = ![t.val / 4 % 1, t.val / 4] := (by decide +kernel : ∀ t : Fin grid0.N, _)

/-- The reference's element: one sum over the whole contracted axis. -/
theorem ref_at (x0 : FVec Ideal S8192x1024 .bf16) (x1 : FVec Ideal S8192x2048 .bf16) (i : S1024x2048.Idx) :
    Reference15Ideal.Read.val_main_v5 (F := Ideal) x0 x1 i = ∑ k : Fin 8192, x0 (ix2 k (i 0)) * x1 (ix2 k (i 1)) := by
  show Reference15Ideal.Read.val_main_v4 (F := Ideal) x0 x1 i = _
  rw [Reference15Ideal.Read.val_main_v4_apply]
  refine Finset.sum_congr rfl fun k _ => congrArg₂ (· * ·) (congrArg x0 ?_) (congrArg x1 ?_)
  · funext d; match d with | 0 => rfl | 1 => rfl
  · funext d; match d with | 0 => rfl | 1 => rfl

variable (m : (ℓ : Loc nD τ sig) → Buf (Elt Ideal) ℓ) (c : Dev nD)

/-- One grid point's share of an element of its block. -/
def term (t : Fin cfg0.N) (j : S1024x2048.Idx) : EReal := part (iblk m c 0 t) (iblk m c 1 t) j

/-- After the last point of a run the scratch holds the sum of the run's products. -/
theorem acc_eq (t : Fin cfg0.N) (h : t.val % 4 = 3) (j : S1024x2048.Idx) :
    (outsAt0 m c t.val t.isLt).2 j
      = 0 + ∑ s : Fin 4, term m c ⟨4 * (t.val / 4) + s, by have := t.isLt; have := s.isLt; omega⟩ j := by
  rw [Pipeline.eq_sum_fin_of_reset_step_apply_of_flush (fun n h => (outsAt0 m c n h).2) 4 (fun _ => (0 : EReal)) (term m c)
    (fun t h j => by
      rw [outsAt0_A m c t h (by have := lt_of_lt_of_eq t.isLt (show cfg0.N = 4 from N_0); omega) (by omega)]; frame_out; rw [first_at, zero_add, term])
    (fun t h j => by
      by_cases hl : t.val % 4 = 3
      · rw [outsAt0_C m c t h (by omega) hl]; frame_out; rw [next_at, term]; exact congrArg (· + _) (congrFun (read_unread_whole cc0_scratch0 _ _) j)
      · rw [outsAt0_B m c t h (by omega) hl]; frame_out; rw [next_at, term]; exact congrArg (· + _) (congrFun (read_unread_whole cc0_scratch0 _ _) j)) t h j]

theorem out_eq (t : Fin cfg0.N) (h : t.val % 4 = 3) (j : S1024x2048.Idx) :
    (outsAt0 m c t.val t.isLt).1 j = (outsAt0 m c t.val t.isLt).2 j := by
  rw [outsAt0_C m c t (by omega) (by omega) h]
  frame_out
  rfl

theorem final : (dats m 0 c).arrAt 2 cfg0.N = Reference15Ideal.Read.val_main_v5 (F := Ideal) (V m c main_arg0) (V m c main_arg1) := by
  refine (dats m 0 c).arrAt_eq_of_covers 2 _ (by decide +kernel) fun t hf y => ?_
  have hl := (flush0_2 t).mp hf
  have hN := lt_of_lt_of_eq t.isLt (show cfg0.N = 4 from N_0)
  blk_simp
  obtain ⟨p, j, rfl⟩ := Tile.pair_of y
  rw [after0_2, out_eq m c t hl, acc_eq m c t hl, zero_add]
  refine Eq.symm ((ref_at _ _ _).trans ?_)
  refine (Fin.sum_mul_add_congr fun s k hk => ?_).symm
  refine congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel15 := fun m ρ _ => Cert.Kernel15.Gen.frame m ρ

theorem frame_ideal : Cert.quiescent_Kernel15Ideal := fun m ρ _ => Cert.Kernel15Ideal.Gen.frame m ρ

theorem frame_reference : Cert.quiescent_Reference15Ideal := fun m ρ _ =>
  (θ_run _ _ _).mono (fun _ h => ⟨fun c => (h c).2, sem_eq_zero_of_no_sems rfl _⟩) (Cert.Reference15Ideal.Value.run m ρ)

/-- Both programs leave the reference's product in the result. -/
theorem equal_results : Cert.algebraic_Kernel15Ideal_Reference15Ideal := by
  intro m g m' g' _ hargs
  refine ⟨fun c => Reference15Ideal.Read.val_main_v5 (F := Ideal) (V m c main_arg0) (V m c main_arg1), ?_, ?_⟩
  · exact (θ_run _ _ _).mono (fun r h c => ⟨(h c).1.trans (final m c), (h c).2⟩) (Cert.Kernel15Ideal.Value.run_blocks m g)
  · refine (θ_run _ _ _).mono (fun r h c => ⟨(h c).1.trans ((Reference15Ideal.Read.val_main_v5_eq _ _).trans ?_), (h c).2⟩) (Cert.Reference15Ideal.Value.run m' g')
    have a0 : m' ((c.tc : Thread Cert.Reference15Ideal.nD Cert.Reference15Ideal.τ).loc Cert.Reference15Ideal.main_arg0) = V m c main_arg0 := (hargs c).1
    have a1 : m' ((c.tc : Thread Cert.Reference15Ideal.nD Cert.Reference15Ideal.τ).loc Cert.Reference15Ideal.main_arg1) = V m c main_arg1 := (hargs c).2
    rw [a0, a1]

end Cert.Proof.GIn4

end
-- ==== Proof.GInDt.lean ====
/- The product `g_w_in_dt`: every block of the output adds up 8 products over 1024 steps each. -/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel16.Frame
public import proofs.«01_k».proof.Proof.Tile
public import Idealize.ShloMosaic.Lib.Quiescent

@[expose] public section

noncomputable section

namespace Cert.Proof.GInDt

open Idealize.ShloMosaic Idealize.ShloMosaic.TcCoe Idealize.SL.Sem Cert.Kernel16Ideal Cert.Kernel16Ideal.Gen
open scoped BigOperators

/-- The product over one run of steps. -/
def part (x : FVec Ideal S1024x128 .bf16) (y : FVec Ideal S1024x2048 .bf16) (j : S128x2048.Idx) : EReal :=
  ∑ k : Fin 1024, x (ix2 k (j 0)) * y (ix2 k (j 1))

theorem part_at (x : FVec Ideal S1024x128 .bf16) (y : FVec Ideal S1024x2048 .bf16) (j : S128x2048.Idx) :
    k0_pay1 (F := Ideal) x y j = part x y j := by
  obtain ⟨p, q, rfl⟩ := Tile.pair_of j
  show Idealize.ShloMosaic.matmul dot_S1024x128_S1024x2048_S128x2048_0_0_1_1_n_n none x y (constant S128x2048 .f32 0x00000000#32) (ix2 p q) = _
  simp only [pointwise]
  rw [Tile.zero_at, zero_add]
  rfl

theorem first_at (x : FVec Ideal S1024x128 .bf16) (y : FVec Ideal S1024x2048 .bf16) (j : S128x2048.Idx) :
    k0_pay2 (F := Ideal) x y j = part x y j := by
  rw [← part_at]; unfold k0_pay2; rw [shapeCast_self]

theorem next_at (x : FVec Ideal S1024x128 .bf16) (y : FVec Ideal S1024x2048 .bf16) (z : FVec Ideal S128x2048 .f32) (j : S128x2048.Idx) :
    k0_pay3 (F := Ideal) x y z j = z j + part x y j := by
  rw [← part_at]; unfold k0_pay3; rw [shapeCast_self]; rfl

theorem ix_0 : ∀ t : Fin cfg0.N, win0_0.index t = ![t.val % 8, t.val / 8 % 1] := (by decide +kernel : ∀ t : Fin grid0.N, _)
theorem ix_1 : ∀ t : Fin cfg0.N, win0_1.index t = ![t.val % 8, t.val / 8] := (by decide +kernel : ∀ t : Fin grid0.N, _)
theorem ix_2 : ∀ t : Fin cfg0.N, win0_2.index t = ![t.val / 8 % 1, t.val / 8] := (by decide +kernel : ∀ t : Fin grid0.N, _)

/-- The reference's element: one sum over the whole contracted axis. -/
theorem ref_at (x0 : FVec Ideal S8192x128 .bf16) (x1 : FVec Ideal S8192x2048 .bf16) (i : S128x2048.Idx) :
    Reference16Ideal.Read.val_main_v5 (F := Ideal) x0 x1 i = ∑ k : Fin 8192, x0 (ix2 k (i 0)) * x1 (ix2 k (i 1)) := by
  show Reference16Ideal.Read.val_main_v4 (F := Ideal) x0 x1 i = _
  rw [Reference16Ideal.Read.val_main_v4_apply]
  refine Finset.sum_congr rfl fun k _ => congrArg₂ (· * ·) (congrArg x0 ?_) (congrArg x1 ?_)
  · funext d; match d with | 0 => rfl | 1 => rfl
  · funext d; match d with | 0 => rfl | 1 => rfl

variable (m : (ℓ : Loc nD τ sig) → Buf (Elt Ideal) ℓ) (c : Dev nD)

/-- One grid point's share of an element of its block. -/
def term (t : Fin cfg0.N) (j : S128x2048.Idx) : EReal := part (iblk m c 0 t) (iblk m c 1 t) j

/-- After the last point of a run the scratch holds the sum of the run's products. -/
theorem acc_eq (t : Fin cfg0.N) (h : t.val % 8 = 7) (j : S128x2048.Idx) :
    (outsAt0 m c t.val t.isLt).2 j
      = 0 + ∑ s : Fin 8, term m c ⟨8 * (t.val / 8) + s, by have := t.isLt; have := s.isLt; omega⟩ j := by
  rw [Pipeline.eq_sum_fin_of_reset_step_apply_of_flush (fun n h => (outsAt0 m c n h).2) 8 (fun _ => (0 : EReal)) (term m c)
    (fun t h j => by
      rw [outsAt0_A m c t h (by have := lt_of_lt_of_eq t.isLt (show cfg0.N = 8 from N_0); omega) (by omega)]; frame_out; rw [first_at, zero_add, term])
    (fun t h j => by
      by_cases hl : t.val % 8 = 7
      · rw [outsAt0_C m c t h (by omega) hl]; frame_out; rw [next_at, term]; exact congrArg (· + _) (congrFun (read_unread_whole cc0_scratch0 _ _) j)
      · rw [outsAt0_B m c t h (by omega) hl]; frame_out; rw [next_at, term]; exact congrArg (· + _) (congrFun (read_unread_whole cc0_scratch0 _ _) j)) t h j]

theorem out_eq (t : Fin cfg0.N) (h : t.val % 8 = 7) (j : S128x2048.Idx) :
    (outsAt0 m c t.val t.isLt).1 j = (outsAt0 m c t.val t.isLt).2 j := by
  rw [outsAt0_C m c t (by omega) (by omega) h]
  frame_out
  rfl

theorem final : (dats m 0 c).arrAt 2 cfg0.N = Reference16Ideal.Read.val_main_v5 (F := Ideal) (V m c main_arg0) (V m c main_arg1) := by
  refine (dats m 0 c).arrAt_eq_of_covers 2 _ (by decide +kernel) fun t hf y => ?_
  have hl := (flush0_2 t).mp hf
  have hN := lt_of_lt_of_eq t.isLt (show cfg0.N = 8 from N_0)
  blk_simp
  obtain ⟨p, j, rfl⟩ := Tile.pair_of y
  rw [after0_2, out_eq m c t hl, acc_eq m c t hl, zero_add]
  refine Eq.symm ((ref_at _ _ _).trans ?_)
  refine (Fin.sum_mul_add_congr fun s k hk => ?_).symm
  refine congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel16 := fun m ρ _ => Cert.Kernel16.Gen.frame m ρ

theorem frame_ideal : Cert.quiescent_Kernel16Ideal := fun m ρ _ => Cert.Kernel16Ideal.Gen.frame m ρ

theorem frame_reference : Cert.quiescent_Reference16Ideal := fun m ρ _ =>
  (θ_run _ _ _).mono (fun _ h => ⟨fun c => (h c).2, sem_eq_zero_of_no_sems rfl _⟩) (Cert.Reference16Ideal.Value.run m ρ)

/-- Both programs leave the reference's product in the result. -/
theorem equal_results : Cert.algebraic_Kernel16Ideal_Reference16Ideal := by
  intro m g m' g' _ hargs
  refine ⟨fun c => Reference16Ideal.Read.val_main_v5 (F := Ideal) (V m c main_arg0) (V m c main_arg1), ?_, ?_⟩
  · exact (θ_run _ _ _).mono (fun r h c => ⟨(h c).1.trans (final m c), (h c).2⟩) (Cert.Kernel16Ideal.Value.run_blocks m g)
  · refine (θ_run _ _ _).mono (fun r h c => ⟨(h c).1.trans ((Reference16Ideal.Read.val_main_v5_eq _ _).trans ?_), (h c).2⟩) (Cert.Reference16Ideal.Value.run m' g')
    have a0 : m' ((c.tc : Thread Cert.Reference16Ideal.nD Cert.Reference16Ideal.τ).loc Cert.Reference16Ideal.main_arg0) = V m c main_arg0 := (hargs c).1
    have a1 : m' ((c.tc : Thread Cert.Reference16Ideal.nD Cert.Reference16Ideal.τ).loc Cert.Reference16Ideal.main_arg1) = V m c main_arg1 := (hargs c).2
    rw [a0, a1]

end Cert.Proof.GInDt

end
-- ==== Proof.GInG0.lean ====
/- The product `g_w_in_g0`: every block of the output adds up 4 products over 2048 steps each. -/
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel17.Frame
public import proofs.«01_k».proof.Proof.Tile
public import Idealize.ShloMosaic.Lib.Quiescent

@[expose] public section

noncomputable section

namespace Cert.Proof.GInG0

open Idealize.ShloMosaic Idealize.ShloMosaic.TcCoe Idealize.SL.Sem Cert.Kernel17Ideal Cert.Kernel17Ideal.Gen
open scoped BigOperators

/-- The product over one run of steps. -/
def part (x : FVec Ideal S2048x1024 .bf16) (y : FVec Ideal S2048x2048 .bf16) (j : S1024x2048.Idx) : EReal :=
  ∑ k : Fin 2048, x (ix2 k (j 0)) * y (ix2 k (j 1))

theorem part_at (x : FVec Ideal S2048x1024 .bf16) (y : FVec Ideal S2048x2048 .bf16) (j : S1024x2048.Idx) :
    k0_pay1 (F := Ideal) x y j = part x y j := by
  obtain ⟨p, q, rfl⟩ := Tile.pair_of j
  show Idealize.ShloMosaic.matmul dot_S2048x1024_S2048x2048_S1024x2048_0_0_1_1_n_n none x y (constant S1024x2048 .f32 0x00000000#32) (ix2 p q) = _
  simp only [pointwise]
  rw [Tile.zero_at, zero_add]
  rfl

theorem first_at (x : FVec Ideal S2048x1024 .bf16) (y : FVec Ideal S2048x2048 .bf16) (j : S1024x2048.Idx) :
    k0_pay2 (F := Ideal) x y j = part x y j := by
  rw [← part_at]; unfold k0_pay2; rw [shapeCast_self]

theorem next_at (x : FVec Ideal S2048x1024 .bf16) (y : FVec Ideal S2048x2048 .bf16) (z : FVec Ideal S1024x2048 .f32) (j : S1024x2048.Idx) :
    k0_pay3 (F := Ideal) x y z j = z j + part x y j := by
  rw [← part_at]; unfold k0_pay3; rw [shapeCast_self]; rfl

theorem ix_0 : ∀ t : Fin cfg0.N, win0_0.index t = ![t.val % 4, t.val / 4 % 2] := (by decide +kernel : ∀ t : Fin grid0.N, _)
theorem ix_1 : ∀ t : Fin cfg0.N, win0_1.index t = ![t.val % 4, t.val / 8] := (by decide +kernel : ∀ t : Fin grid0.N, _)
theorem ix_2 : ∀ t : Fin cfg0.N, win0_2.index t = ![t.val / 4 % 2, t.val / 8] := (by decide +kernel : ∀ t : Fin grid0.N, _)

/-- The reference's element: one sum over the whole contracted axis. -/
theorem ref_at (x0 : FVec Ideal S8192x2048 .bf16) (x1 : FVec Ideal S8192x2048 .bf16) (i : S2048x2048.Idx) :
    Reference17Ideal.Read.val_main_v5 (F := Ideal) x0 x1 i = ∑ k : Fin 8192, x0 (ix2 k (i 0)) * x1 (ix2 k (i 1)) := by
  show Reference17Ideal.Read.val_main_v4 (F := Ideal) x0 x1 i = _
  rw [Reference17Ideal.Read.val_main_v4_apply]
  refine Finset.sum_congr rfl fun k _ => congrArg₂ (· * ·) (congrArg x0 ?_) (congrArg x1 ?_)
  · funext d; match d with | 0 => rfl | 1 => rfl
  · funext d; match d with | 0 => rfl | 1 => rfl

variable (m : (ℓ : Loc nD τ sig) → Buf (Elt Ideal) ℓ) (c : Dev nD)

/-- One grid point's share of an element of its block. -/
def term (t : Fin cfg0.N) (j : S1024x2048.Idx) : EReal := part (iblk m c 0 t) (iblk m c 1 t) j

/-- After the last point of a run the scratch holds the sum of the run's products. -/
theorem acc_eq (t : Fin cfg0.N) (h : t.val % 4 = 3) (j : S1024x2048.Idx) :
    (outsAt0 m c t.val t.isLt).2 j
      = 0 + ∑ s : Fin 4, term m c ⟨4 * (t.val / 4) + s, by have := t.isLt; have := s.isLt; omega⟩ j := by
  rw [Pipeline.eq_sum_fin_of_reset_step_apply_of_flush (fun n h => (outsAt0 m c n h).2) 4 (fun _ => (0 : EReal)) (term m c)
    (fun t h j => by
      rw [outsAt0_A m c t h (by omega) (by omega)]; frame_out; rw [first_at, zero_add, term])
    (fun t h j => by
      by_cases hl : t.val % 4 = 3
      · rw [outsAt0_C m c t h (by omega) hl]; frame_out; rw [next_at, term]; exact congrArg (· + _) (congrFun (read_unread_whole cc0_scratch0 _ _) j)
      · rw [outsAt0_B m c t h (by omega) hl]; frame_out; rw [next_at, term]; exact congrArg (· + _) (congrFun (read_unread_whole cc0_scratch0 _ _) j)) t h j]

theorem out_eq (t : Fin cfg0.N) (h : t.val % 4 = 3) (j : S1024x2048.Idx) :
    (outsAt0 m c t.val t.isLt).1 j = (outsAt0 m c t.val t.isLt).2 j := by
  rw [outsAt0_C m c t (by omega) (by omega) h]
  frame_out
  rfl

theorem final : (dats m 0 c).arrAt 2 cfg0.N = Reference17Ideal.Read.val_main_v5 (F := Ideal) (V m c main_arg0) (V m c main_arg1) := by
  refine (dats m 0 c).arrAt_eq_of_covers 2 _ (by decide +kernel) fun t hf y => ?_
  have hl := (flush0_2 t).mp hf
  have hN := lt_of_lt_of_eq t.isLt (show cfg0.N = 8 from N_0)
  blk_simp
  obtain ⟨p, j, rfl⟩ := Tile.pair_of y
  rw [after0_2, out_eq m c t hl, acc_eq m c t hl, zero_add]
  refine Eq.symm ((ref_at _ _ _).trans ?_)
  refine (Fin.sum_mul_add_congr fun s k hk => ?_).symm
  refine congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel17 := fun m ρ _ => Cert.Kernel17.Gen.frame m ρ

theorem frame_ideal : Cert.quiescent_Kernel17Ideal := fun m ρ _ => Cert.Kernel17Ideal.Gen.frame m ρ

theorem frame_reference : Cert.quiescent_Reference17Ideal := fun m ρ _ =>
  (θ_run _ _ _).mono (fun _ h => ⟨fun c => (h c).2, sem_eq_zero_of_no_sems rfl _⟩) (Cert.Reference17Ideal.Value.run m ρ)

/-- Both programs leave the reference's product in the result. -/
theorem equal_results : Cert.algebraic_Kernel17Ideal_Reference17Ideal := by
  intro m g m' g' _ hargs
  refine ⟨fun c => Reference17Ideal.Read.val_main_v5 (F := Ideal) (V m c main_arg0) (V m c main_arg1), ?_, ?_⟩
  · exact (θ_run _ _ _).mono (fun r h c => ⟨(h c).1.trans (final m c), (h c).2⟩) (Cert.Kernel17Ideal.Value.run_blocks m g)
  · refine (θ_run _ _ _).mono (fun r h c => ⟨(h c).1.trans ((Reference17Ideal.Read.val_main_v5_eq _ _).trans ?_), (h c).2⟩) (Cert.Reference17Ideal.Value.run m' g')
    have a0 : m' ((c.tc : Thread Cert.Reference17Ideal.nD Cert.Reference17Ideal.τ).loc Cert.Reference17Ideal.main_arg0) = V m c main_arg0 := (hargs c).1
    have a1 : m' ((c.tc : Thread Cert.Reference17Ideal.nD Cert.Reference17Ideal.τ).loc Cert.Reference17Ideal.main_arg1) = V m c main_arg1 := (hargs c).2
    rw [a0, a1]

end Cert.Proof.GInG0

end
-- ==== Proof.GInG1.lean ====
/- The product `g_w_in_g1`: every block of the output adds up 4 products over 2048 steps each. -/
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel18.Frame
public import proofs.«01_k».proof.Proof.Tile
public import Idealize.ShloMosaic.Lib.Quiescent

@[expose] public section

noncomputable section

namespace Cert.Proof.GInG1

open Idealize.ShloMosaic Idealize.ShloMosaic.TcCoe Idealize.SL.Sem Cert.Kernel18Ideal Cert.Kernel18Ideal.Gen
open scoped BigOperators

/-- The product over one run of steps. -/
def part (x : FVec Ideal S2048x1024 .bf16) (y : FVec Ideal S2048x2048 .bf16) (j : S1024x2048.Idx) : EReal :=
  ∑ k : Fin 2048, x (ix2 k (j 0)) * y (ix2 k (j 1))

theorem part_at (x : FVec Ideal S2048x1024 .bf16) (y : FVec Ideal S2048x2048 .bf16) (j : S1024x2048.Idx) :
    k0_pay1 (F := Ideal) x y j = part x y j := by
  obtain ⟨p, q, rfl⟩ := Tile.pair_of j
  show Idealize.ShloMosaic.matmul dot_S2048x1024_S2048x2048_S1024x2048_0_0_1_1_n_n none x y (constant S1024x2048 .f32 0x00000000#32) (ix2 p q) = _
  simp only [pointwise]
  rw [Tile.zero_at, zero_add]
  rfl

theorem first_at (x : FVec Ideal S2048x1024 .bf16) (y : FVec Ideal S2048x2048 .bf16) (j : S1024x2048.Idx) :
    k0_pay2 (F := Ideal) x y j = part x y j := by
  rw [← part_at]; unfold k0_pay2; rw [shapeCast_self]

theorem next_at (x : FVec Ideal S2048x1024 .bf16) (y : FVec Ideal S2048x2048 .bf16) (z : FVec Ideal S1024x2048 .f32) (j : S1024x2048.Idx) :
    k0_pay3 (F := Ideal) x y z j = z j + part x y j := by
  rw [← part_at]; unfold k0_pay3; rw [shapeCast_self]; rfl

theorem ix_0 : ∀ t : Fin cfg0.N, win0_0.index t = ![t.val % 4, t.val / 4 % 2] := (by decide +kernel : ∀ t : Fin grid0.N, _)
theorem ix_1 : ∀ t : Fin cfg0.N, win0_1.index t = ![t.val % 4, t.val / 8] := (by decide +kernel : ∀ t : Fin grid0.N, _)
theorem ix_2 : ∀ t : Fin cfg0.N, win0_2.index t = ![t.val / 4 % 2, t.val / 8] := (by decide +kernel : ∀ t : Fin grid0.N, _)

/-- The reference's element: one sum over the whole contracted axis. -/
theorem ref_at (x0 : FVec Ideal S8192x2048 .bf16) (x1 : FVec Ideal S8192x2048 .bf16) (i : S2048x2048.Idx) :
    Reference18Ideal.Read.val_main_v5 (F := Ideal) x0 x1 i = ∑ k : Fin 8192, x0 (ix2 k (i 0)) * x1 (ix2 k (i 1)) := by
  show Reference18Ideal.Read.val_main_v4 (F := Ideal) x0 x1 i = _
  rw [Reference18Ideal.Read.val_main_v4_apply]
  refine Finset.sum_congr rfl fun k _ => congrArg₂ (· * ·) (congrArg x0 ?_) (congrArg x1 ?_)
  · funext d; match d with | 0 => rfl | 1 => rfl
  · funext d; match d with | 0 => rfl | 1 => rfl

variable (m : (ℓ : Loc nD τ sig) → Buf (Elt Ideal) ℓ) (c : Dev nD)

/-- One grid point's share of an element of its block. -/
def term (t : Fin cfg0.N) (j : S1024x2048.Idx) : EReal := part (iblk m c 0 t) (iblk m c 1 t) j

/-- After the last point of a run the scratch holds the sum of the run's products. -/
theorem acc_eq (t : Fin cfg0.N) (h : t.val % 4 = 3) (j : S1024x2048.Idx) :
    (outsAt0 m c t.val t.isLt).2 j
      = 0 + ∑ s : Fin 4, term m c ⟨4 * (t.val / 4) + s, by have := t.isLt; have := s.isLt; omega⟩ j := by
  rw [Pipeline.eq_sum_fin_of_reset_step_apply_of_flush (fun n h => (outsAt0 m c n h).2) 4 (fun _ => (0 : EReal)) (term m c)
    (fun t h j => by
      rw [outsAt0_A m c t h (by omega) (by omega)]; frame_out; rw [first_at, zero_add, term])
    (fun t h j => by
      by_cases hl : t.val % 4 = 3
      · rw [outsAt0_C m c t h (by omega) hl]; frame_out; rw [next_at, term]; exact congrArg (· + _) (congrFun (read_unread_whole cc0_scratch0 _ _) j)
      · rw [outsAt0_B m c t h (by omega) hl]; frame_out; rw [next_at, term]; exact congrArg (· + _) (congrFun (read_unread_whole cc0_scratch0 _ _) j)) t h j]

theorem out_eq (t : Fin cfg0.N) (h : t.val % 4 = 3) (j : S1024x2048.Idx) :
    (outsAt0 m c t.val t.isLt).1 j = (outsAt0 m c t.val t.isLt).2 j := by
  rw [outsAt0_C m c t (by omega) (by omega) h]
  frame_out
  rfl

theorem final : (dats m 0 c).arrAt 2 cfg0.N = Reference18Ideal.Read.val_main_v5 (F := Ideal) (V m c main_arg0) (V m c main_arg1) := by
  refine (dats m 0 c).arrAt_eq_of_covers 2 _ (by decide +kernel) fun t hf y => ?_
  have hl := (flush0_2 t).mp hf
  have hN := lt_of_lt_of_eq t.isLt (show cfg0.N = 8 from N_0)
  blk_simp
  obtain ⟨p, j, rfl⟩ := Tile.pair_of y
  rw [after0_2, out_eq m c t hl, acc_eq m c t hl, zero_add]
  refine Eq.symm ((ref_at _ _ _).trans ?_)
  refine (Fin.sum_mul_add_congr fun s k hk => ?_).symm
  refine congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel18 := fun m ρ _ => Cert.Kernel18.Gen.frame m ρ

theorem frame_ideal : Cert.quiescent_Kernel18Ideal := fun m ρ _ => Cert.Kernel18Ideal.Gen.frame m ρ

theorem frame_reference : Cert.quiescent_Reference18Ideal := fun m ρ _ =>
  (θ_run _ _ _).mono (fun _ h => ⟨fun c => (h c).2, sem_eq_zero_of_no_sems rfl _⟩) (Cert.Reference18Ideal.Value.run m ρ)

/-- Both programs leave the reference's product in the result. -/
theorem equal_results : Cert.algebraic_Kernel18Ideal_Reference18Ideal := by
  intro m g m' g' _ hargs
  refine ⟨fun c => Reference18Ideal.Read.val_main_v5 (F := Ideal) (V m c main_arg0) (V m c main_arg1), ?_, ?_⟩
  · exact (θ_run _ _ _).mono (fun r h c => ⟨(h c).1.trans (final m c), (h c).2⟩) (Cert.Kernel18Ideal.Value.run_blocks m g)
  · refine (θ_run _ _ _).mono (fun r h c => ⟨(h c).1.trans ((Reference18Ideal.Read.val_main_v5_eq _ _).trans ?_), (h c).2⟩) (Cert.Reference18Ideal.Value.run m' g')
    have a0 : m' ((c.tc : Thread Cert.Reference18Ideal.nD Cert.Reference18Ideal.τ).loc Cert.Reference18Ideal.main_arg0) = V m c main_arg0 := (hargs c).1
    have a1 : m' ((c.tc : Thread Cert.Reference18Ideal.nD Cert.Reference18Ideal.τ).loc Cert.Reference18Ideal.main_arg1) = V m c main_arg1 := (hargs c).2
    rw [a0, a1]

end Cert.Proof.GInG1

end
-- ==== Proof.DMixed.lean ====
/- The product `d_mixed`: every block of the output is one product of a block of each operand. -/
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel19.Frame
public import proofs.«01_k».proof.Proof.Tile
public import Idealize.ShloMosaic.Lib.Quiescent

@[expose] public section

noncomputable section

namespace Cert.Proof.DMixed

open Idealize.ShloMosaic Idealize.ShloMosaic.TcCoe Idealize.SL.Sem Cert.Kernel19Ideal Cert.Kernel19Ideal.Gen
open scoped BigOperators

/-- One block of the output at an element. -/
theorem tile (x : FVec Ideal S1024x2048 .bf16) (y : FVec Ideal S1024x2048 .bf16) (p : Fin 1024) (q : Fin 1024) :
    k0_pay1 (F := Ideal) x y (ix2 p q) = ∑ k : Fin 2048, x (ix2 p k) * y (ix2 q k) := by
  show Idealize.ShloMosaic.matmul dot_S1024x2048_S1024x2048_S1024x1024_1_1_0_0_n_n none x y (constant S1024x1024 .f32 0x00000000#32) (ix2 p q) = _
  simp only [pointwise]
  rw [Tile.zero_at, zero_add]

theorem ix_0 : ∀ t : Fin cfg0.N, win0_0.index t = ![t.val % 8, 0] := (by decide +kernel : ∀ t : Fin grid0.N, _)
theorem ix_1 : ∀ t : Fin cfg0.N, win0_1.index t = ![t.val / 8, 0] := (by decide +kernel : ∀ t : Fin grid0.N, _)
theorem ix_2 : ∀ t : Fin cfg0.N, win0_2.index t = ![t.val % 8, t.val / 8] := (by decide +kernel : ∀ t : Fin grid0.N, _)

/-- The reference's element: one sum over the whole contracted axis. -/
theorem ref_at (x0 : FVec Ideal S8192x2048 .bf16) (x1 : FVec Ideal S2048x2048 .bf16) (i : S8192x2048.Idx) :
    Reference19Ideal.Read.val_main_v4 (F := Ideal) x0 x1 i = ∑ k : Fin 2048, x0 (ix2 (i 0) k) * x1 (ix2 (i 1) k) := by
  rw [Reference19Ideal.Read.val_main_v4_apply]
  refine Finset.sum_congr rfl fun k _ => congrArg₂ (· * ·) (congrArg x0 ?_) (congrArg x1 ?_)
  · funext d; match d with | 0 => rfl | 1 => rfl
  · funext d; match d with | 0 => rfl | 1 => rfl

variable (m : (ℓ : Loc nD τ sig) → Buf (Elt Ideal) ℓ) (c : Dev nD)

theorem final : (dats m 0 c).arrAt 2 cfg0.N = Reference19Ideal.Read.val_main_v4 (F := Ideal) (V m c main_arg0) (V m c main_arg1) := by
  refine (dats m 0 c).arrAt_eq_of_covers 2 _ (by decide +kernel) fun t hf y => ?_
  have hN := lt_of_lt_of_eq t.isLt (show cfg0.N = 16 from N_0)
  blk_simp
  rw [after0_2]
  unfold outsAt0
  frame_out
  obtain ⟨p, j, rfl⟩ := Tile.pair_of y
  rw [tile]
  refine Eq.symm ((ref_at _ _ _).trans ?_)
  refine Finset.sum_congr rfl fun k _ => congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel19 := fun m ρ _ => Cert.Kernel19.Gen.frame m ρ

theorem frame_ideal : Cert.quiescent_Kernel19Ideal := fun m ρ _ => Cert.Kernel19Ideal.Gen.frame m ρ

theorem frame_reference : Cert.quiescent_Reference19Ideal := fun m ρ _ =>
  (θ_run _ _ _).mono (fun _ h => ⟨fun c => (h c).2, sem_eq_zero_of_no_sems rfl _⟩) (Cert.Reference19Ideal.Value.run m ρ)

/-- Both programs leave the reference's product in the result. -/
theorem equal_results : Cert.algebraic_Kernel19Ideal_Reference19Ideal := by
  intro m g m' g' _ hargs
  refine ⟨fun c => Reference19Ideal.Read.val_main_v4 (F := Ideal) (V m c main_arg0) (V m c main_arg1), ?_, ?_⟩
  · exact (θ_run _ _ _).mono (fun r h c => ⟨(h c).1.trans (final m c), (h c).2⟩) (Cert.Kernel19Ideal.Value.run_blocks m g)
  · refine (θ_run _ _ _).mono (fun r h c => ⟨(h c).1.trans ((Reference19Ideal.Read.val_main_v4_eq _ _).trans ?_), (h c).2⟩) (Cert.Reference19Ideal.Value.run m' g')
    have a0 : m' ((c.tc : Thread Cert.Reference19Ideal.nD Cert.Reference19Ideal.τ).loc Cert.Reference19Ideal.main_arg0) = V m c main_arg0 := (hargs c).1
    have a1 : m' ((c.tc : Thread Cert.Reference19Ideal.nD Cert.Reference19Ideal.τ).loc Cert.Reference19Ideal.main_arg1) = V m c main_arg1 := (hargs c).2
    rw [a0, a1]

end Cert.Proof.DMixed

end
-- ==== Proof.DYHg.lean ====
/- The product `d_y_hg`: every block of the output is one product of a block of each operand. -/
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel20.Frame
public import proofs.«01_k».proof.Proof.Tile
public import Idealize.ShloMosaic.Lib.Quiescent

@[expose] public section

noncomputable section

namespace Cert.Proof.DYHg

open Idealize.ShloMosaic Idealize.ShloMosaic.TcCoe Idealize.SL.Sem Cert.Kernel20Ideal Cert.Kernel20Ideal.Gen
open scoped BigOperators

/-- One block of the output at an element. -/
theorem tile (x : FVec Ideal S1024x2048 .bf16) (y : FVec Ideal S1024x2048 .bf16) (p : Fin 1024) (q : Fin 1024) :
    k0_pay1 (F := Ideal) x y (ix2 p q) = ∑ k : Fin 2048, x (ix2 p k) * y (ix2 q k) := by
  show Idealize.ShloMosaic.matmul dot_S1024x2048_S1024x2048_S1024x1024_1_1_0_0_n_n none x y (constant S1024x1024 .f32 0x00000000#32) (ix2 p q) = _
  simp only [pointwise]
  rw [Tile.zero_at, zero_add]

theorem ix_0 : ∀ t : Fin cfg0.N, win0_0.index t = ![t.val % 8, 0] := (by decide +kernel : ∀ t : Fin grid0.N, _)
theorem ix_1 : ∀ t : Fin cfg0.N, win0_1.index t = ![t.val / 8, 0] := (by decide +kernel : ∀ t : Fin grid0.N, _)
theorem ix_2 : ∀ t : Fin cfg0.N, win0_2.index t = ![t.val % 8, t.val / 8] := (by decide +kernel : ∀ t : Fin grid0.N, _)

/-- The reference's element: one sum over the whole contracted axis. -/
theorem ref_at (x0 : FVec Ideal S8192x2048 .bf16) (x1 : FVec Ideal S2048x2048 .bf16) (i : S8192x2048.Idx) :
    Reference20Ideal.Read.val_main_v5 (F := Ideal) x0 x1 i = ∑ k : Fin 2048, x0 (ix2 (i 0) k) * x1 (ix2 (i 1) k) := by
  show Reference20Ideal.Read.val_main_v4 (F := Ideal) x0 x1 i = _
  rw [Reference20Ideal.Read.val_main_v4_apply]
  refine Finset.sum_congr rfl fun k _ => congrArg₂ (· * ·) (congrArg x0 ?_) (congrArg x1 ?_)
  · funext d; match d with | 0 => rfl | 1 => rfl
  · funext d; match d with | 0 => rfl | 1 => rfl

variable (m : (ℓ : Loc nD τ sig) → Buf (Elt Ideal) ℓ) (c : Dev nD)

theorem final : (dats m 0 c).arrAt 2 cfg0.N = Reference20Ideal.Read.val_main_v5 (F := Ideal) (V m c main_arg0) (V m c main_arg1) := by
  refine (dats m 0 c).arrAt_eq_of_covers 2 _ (by decide +kernel) fun t hf y => ?_
  have hN := lt_of_lt_of_eq t.isLt (show cfg0.N = 16 from N_0)
  blk_simp
  rw [after0_2]
  unfold outsAt0
  frame_out
  obtain ⟨p, j, rfl⟩ := Tile.pair_of y
  rw [tile]
  refine Eq.symm ((ref_at _ _ _).trans ?_)
  refine Finset.sum_congr rfl fun k _ => congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel20 := fun m ρ _ => Cert.Kernel20.Gen.frame m ρ

theorem frame_ideal : Cert.quiescent_Kernel20Ideal := fun m ρ _ => Cert.Kernel20Ideal.Gen.frame m ρ

theorem frame_reference : Cert.quiescent_Reference20Ideal := fun m ρ _ =>
  (θ_run _ _ _).mono (fun _ h => ⟨fun c => (h c).2, sem_eq_zero_of_no_sems rfl _⟩) (Cert.Reference20Ideal.Value.run m ρ)

/-- Both programs leave the reference's product in the result. -/
theorem equal_results : Cert.algebraic_Kernel20Ideal_Reference20Ideal := by
  intro m g m' g' _ hargs
  refine ⟨fun c => Reference20Ideal.Read.val_main_v5 (F := Ideal) (V m c main_arg0) (V m c main_arg1), ?_, ?_⟩
  · exact (θ_run _ _ _).mono (fun r h c => ⟨(h c).1.trans (final m c), (h c).2⟩) (Cert.Kernel20Ideal.Value.run_blocks m g)
  · refine (θ_run _ _ _).mono (fun r h c => ⟨(h c).1.trans ((Reference20Ideal.Read.val_main_v5_eq _ _).trans ?_), (h c).2⟩) (Cert.Reference20Ideal.Value.run m' g')
    have a0 : m' ((c.tc : Thread Cert.Reference20Ideal.nD Cert.Reference20Ideal.τ).loc Cert.Reference20Ideal.main_arg0) = V m c main_arg0 := (hargs c).1
    have a1 : m' ((c.tc : Thread Cert.Reference20Ideal.nD Cert.Reference20Ideal.τ).loc Cert.Reference20Ideal.main_arg1) = V m c main_arg1 := (hargs c).2
    rw [a0, a1]

end Cert.Proof.DYHg

end
-- ==== Proof.DYSsm.lean ====
/- The product `d_y_ssm`: every block of the output is one product of a block of each operand. -/
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel21.Frame
public import proofs.«01_k».proof.Proof.Tile
public import Idealize.ShloMosaic.Lib.Quiescent

@[expose] public section

noncomputable section

namespace Cert.Proof.DYSsm

open Idealize.ShloMosaic Idealize.ShloMosaic.TcCoe Idealize.SL.Sem Cert.Kernel21Ideal Cert.Kernel21Ideal.Gen
open scoped BigOperators

/-- One block of the output at an element. -/
theorem tile (x : FVec Ideal S1024x2048 .bf16) (y : FVec Ideal S1024x2048 .bf16) (p : Fin 1024) (q : Fin 1024) :
    k0_pay1 (F := Ideal) x y (ix2 p q) = ∑ k : Fin 2048, x (ix2 p k) * y (ix2 q k) := by
  show Idealize.ShloMosaic.matmul dot_S1024x2048_S1024x2048_S1024x1024_1_1_0_0_n_n none x y (constant S1024x1024 .f32 0x00000000#32) (ix2 p q) = _
  simp only [pointwise]
  rw [Tile.zero_at, zero_add]

theorem ix_0 : ∀ t : Fin cfg0.N, win0_0.index t = ![t.val % 8, 0] := (by decide +kernel : ∀ t : Fin grid0.N, _)
theorem ix_1 : ∀ t : Fin cfg0.N, win0_1.index t = ![t.val / 8, 0] := (by decide +kernel : ∀ t : Fin grid0.N, _)
theorem ix_2 : ∀ t : Fin cfg0.N, win0_2.index t = ![t.val % 8, t.val / 8] := (by decide +kernel : ∀ t : Fin grid0.N, _)

/-- The reference's element: one sum over the whole contracted axis. -/
theorem ref_at (x0 : FVec Ideal S8192x2048 .bf16) (x1 : FVec Ideal S4096x2048 .bf16) (i : S8192x4096.Idx) :
    Reference21Ideal.Read.val_main_v5 (F := Ideal) x0 x1 i = ∑ k : Fin 2048, x0 (ix2 (i 0) k) * x1 (ix2 (i 1) k) := by
  show Reference21Ideal.Read.val_main_v4 (F := Ideal) x0 x1 i = _
  rw [Reference21Ideal.Read.val_main_v4_apply]
  refine Finset.sum_congr rfl fun k _ => congrArg₂ (· * ·) (congrArg x0 ?_) (congrArg x1 ?_)
  · funext d; match d with | 0 => rfl | 1 => rfl
  · funext d; match d with | 0 => rfl | 1 => rfl

variable (m : (ℓ : Loc nD τ sig) → Buf (Elt Ideal) ℓ) (c : Dev nD)

theorem final : (dats m 0 c).arrAt 2 cfg0.N = Reference21Ideal.Read.val_main_v5 (F := Ideal) (V m c main_arg0) (V m c main_arg1) := by
  refine (dats m 0 c).arrAt_eq_of_covers 2 _ (by decide +kernel) fun t hf y => ?_
  have hN := lt_of_lt_of_eq t.isLt (show cfg0.N = 32 from N_0)
  blk_simp
  rw [after0_2]
  unfold outsAt0
  frame_out
  obtain ⟨p, j, rfl⟩ := Tile.pair_of y
  rw [tile]
  refine Eq.symm ((ref_at _ _ _).trans ?_)
  refine Finset.sum_congr rfl fun k _ => congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel21 := fun m ρ _ => Cert.Kernel21.Gen.frame m ρ

theorem frame_ideal : Cert.quiescent_Kernel21Ideal := fun m ρ _ => Cert.Kernel21Ideal.Gen.frame m ρ

theorem frame_reference : Cert.quiescent_Reference21Ideal := fun m ρ _ =>
  (θ_run _ _ _).mono (fun _ h => ⟨fun c => (h c).2, sem_eq_zero_of_no_sems rfl _⟩) (Cert.Reference21Ideal.Value.run m ρ)

/-- Both programs leave the reference's product in the result. -/
theorem equal_results : Cert.algebraic_Kernel21Ideal_Reference21Ideal := by
  intro m g m' g' _ hargs
  refine ⟨fun c => Reference21Ideal.Read.val_main_v5 (F := Ideal) (V m c main_arg0) (V m c main_arg1), ?_, ?_⟩
  · exact (θ_run _ _ _).mono (fun r h c => ⟨(h c).1.trans (final m c), (h c).2⟩) (Cert.Kernel21Ideal.Value.run_blocks m g)
  · refine (θ_run _ _ _).mono (fun r h c => ⟨(h c).1.trans ((Reference21Ideal.Read.val_main_v5_eq _ _).trans ?_), (h c).2⟩) (Cert.Reference21Ideal.Value.run m' g')
    have a0 : m' ((c.tc : Thread Cert.Reference21Ideal.nD Cert.Reference21Ideal.τ).loc Cert.Reference21Ideal.main_arg0) = V m c main_arg0 := (hargs c).1
    have a1 : m' ((c.tc : Thread Cert.Reference21Ideal.nD Cert.Reference21Ideal.τ).loc Cert.Reference21Ideal.main_arg1) = V m c main_arg1 := (hargs c).2
    rw [a0, a1]

end Cert.Proof.DYSsm

end
-- ==== Proof.FfnUp.lean ====
/- The product `ffn_up`: every block of the output is one product of a block of each operand. -/
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel22.Frame
public import proofs.«01_k».proof.Proof.Tile
public import Idealize.ShloMosaic.Lib.Quiescent

@[expose] public section

noncomputable section

namespace Cert.Proof.FfnUp

open Idealize.ShloMosaic Idealize.ShloMosaic.TcCoe Idealize.SL.Sem Cert.Kernel22Ideal Cert.Kernel22Ideal.Gen
open scoped BigOperators

/-- One block of the output at an element. -/
theorem tile (x : FVec Ideal S1024x2048 .bf16) (y : FVec Ideal S2048x1024 .bf16) (p : Fin 1024) (q : Fin 1024) :
    k0_pay1 (F := Ideal) x y (ix2 p q) = ∑ k : Fin 2048, x (ix2 p k) * y (ix2 k q) := by
  show Idealize.ShloMosaic.matmul dot_S1024x2048_S2048x1024_S1024x1024_1_0_0_1_n_n none x y (constant S1024x1024 .f32 0x00000000#32) (ix2 p q) = _
  simp only [pointwise]
  rw [Tile.zero_at, zero_add]

theorem ix_0 : ∀ t : Fin cfg0.N, win0_0.index t = ![t.val % 8, 0] := (by decide +kernel : ∀ t : Fin grid0.N, _)
theorem ix_1 : ∀ t : Fin cfg0.N, win0_1.index t = ![0, t.val / 8] := (by decide +kernel : ∀ t : Fin grid0.N, _)
theorem ix_2 : ∀ t : Fin cfg0.N, win0_2.index t = ![t.val % 8, t.val / 8] := (by decide +kernel : ∀ t : Fin grid0.N, _)

/-- The reference's element: one sum over the whole contracted axis. -/
theorem ref_at (x0 : FVec Ideal S8192x2048 .bf16) (x1 : FVec Ideal S2048x11264 .bf16) (i : S8192x11264.Idx) :
    Reference22Ideal.Read.val_main_v2 (F := Ideal) x0 x1 i = ∑ k : Fin 2048, x0 (ix2 (i 0) k) * x1 (ix2 k (i 1)) := by
  rw [Reference22Ideal.Read.val_main_v2_apply]
  refine Finset.sum_congr rfl fun k _ => congrArg₂ (· * ·) (congrArg x0 ?_) (congrArg x1 ?_)
  · funext d; match d with | 0 => rfl | 1 => rfl
  · funext d; match d with | 0 => rfl | 1 => rfl

variable (m : (ℓ : Loc nD τ sig) → Buf (Elt Ideal) ℓ) (c : Dev nD)

theorem final : (dats m 0 c).arrAt 2 cfg0.N = Reference22Ideal.Read.val_main_v2 (F := Ideal) (V m c main_arg0) (V m c main_arg1) := by
  refine (dats m 0 c).arrAt_eq_of_covers 2 _ (by decide +kernel) fun t hf y => ?_
  have hN := lt_of_lt_of_eq t.isLt (show cfg0.N = 88 from N_0)
  blk_simp
  rw [after0_2]
  unfold outsAt0
  frame_out
  obtain ⟨p, j, rfl⟩ := Tile.pair_of y
  rw [tile]
  refine Eq.symm ((ref_at _ _ _).trans ?_)
  refine Finset.sum_congr rfl fun k _ => congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel22 := fun m ρ _ => Cert.Kernel22.Gen.frame m ρ

theorem frame_ideal : Cert.quiescent_Kernel22Ideal := fun m ρ _ => Cert.Kernel22Ideal.Gen.frame m ρ

theorem frame_reference : Cert.quiescent_Reference22Ideal := fun m ρ _ =>
  (θ_run _ _ _).mono (fun _ h => ⟨fun c => (h c).2, sem_eq_zero_of_no_sems rfl _⟩) (Cert.Reference22Ideal.Value.run m ρ)

/-- Both programs leave the reference's product in the result. -/
theorem equal_results : Cert.algebraic_Kernel22Ideal_Reference22Ideal := by
  intro m g m' g' _ hargs
  refine ⟨fun c => Reference22Ideal.Read.val_main_v2 (F := Ideal) (V m c main_arg0) (V m c main_arg1), ?_, ?_⟩
  · exact (θ_run _ _ _).mono (fun r h c => ⟨(h c).1.trans (final m c), (h c).2⟩) (Cert.Kernel22Ideal.Value.run_blocks m g)
  · refine (θ_run _ _ _).mono (fun r h c => ⟨(h c).1.trans ((Reference22Ideal.Read.val_main_v2_eq _ _).trans ?_), (h c).2⟩) (Cert.Reference22Ideal.Value.run m' g')
    have a0 : m' ((c.tc : Thread Cert.Reference22Ideal.nD Cert.Reference22Ideal.τ).loc Cert.Reference22Ideal.main_arg0) = V m c main_arg0 := (hargs c).1
    have a1 : m' ((c.tc : Thread Cert.Reference22Ideal.nD Cert.Reference22Ideal.τ).loc Cert.Reference22Ideal.main_arg1) = V m c main_arg1 := (hargs c).2
    rw [a0, a1]

end Cert.Proof.FfnUp

end
-- ==== Proof.FfnDown.lean ====
/- The product `ffn_down`: every block of the output is one product of a block of each operand. -/
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel23.Frame
public import proofs.«01_k».proof.Proof.Tile
public import Idealize.ShloMosaic.Lib.Quiescent

@[expose] public section

noncomputable section

namespace Cert.Proof.FfnDown

open Idealize.ShloMosaic Idealize.ShloMosaic.TcCoe Idealize.SL.Sem Cert.Kernel23Ideal Cert.Kernel23Ideal.Gen
open scoped BigOperators

/-- One block of the output at an element. -/
theorem tile (x : FVec Ideal S512x5632 .bf16) (y : FVec Ideal S5632x1024 .bf16) (p : Fin 512) (q : Fin 1024) :
    k0_pay1 (F := Ideal) x y (ix2 p q) = ∑ k : Fin 5632, x (ix2 p k) * y (ix2 k q) := by
  show Idealize.ShloMosaic.matmul dot_S512x5632_S5632x1024_S512x1024_1_0_0_1_n_n none x y (constant S512x1024 .f32 0x00000000#32) (ix2 p q) = _
  simp only [pointwise]
  rw [Tile.zero_at, zero_add]

theorem ix_0 : ∀ t : Fin cfg0.N, win0_0.index t = ![t.val % 16, 0] := (by decide +kernel : ∀ t : Fin grid0.N, _)
theorem ix_1 : ∀ t : Fin cfg0.N, win0_1.index t = ![0, t.val / 16] := (by decide +kernel : ∀ t : Fin grid0.N, _)
theorem ix_2 : ∀ t : Fin cfg0.N, win0_2.index t = ![t.val % 16, t.val / 16] := (by decide +kernel : ∀ t : Fin grid0.N, _)

/-- The reference's element: one sum over the whole contracted axis. -/
theorem ref_at (x0 : FVec Ideal S8192x5632 .bf16) (x1 : FVec Ideal S5632x2048 .bf16) (i : S8192x2048.Idx) :
    Reference23Ideal.Read.val_main_v2 (F := Ideal) x0 x1 i = ∑ k : Fin 5632, x0 (ix2 (i 0) k) * x1 (ix2 k (i 1)) := by
  rw [Reference23Ideal.Read.val_main_v2_apply]
  refine Finset.sum_congr rfl fun k _ => congrArg₂ (· * ·) (congrArg x0 ?_) (congrArg x1 ?_)
  · funext d; match d with | 0 => rfl | 1 => rfl
  · funext d; match d with | 0 => rfl | 1 => rfl

variable (m : (ℓ : Loc nD τ sig) → Buf (Elt Ideal) ℓ) (c : Dev nD)

theorem final : (dats m 0 c).arrAt 2 cfg0.N = Reference23Ideal.Read.val_main_v2 (F := Ideal) (V m c main_arg0) (V m c main_arg1) := by
  refine (dats m 0 c).arrAt_eq_of_covers 2 _ (by decide +kernel) fun t hf y => ?_
  have hN := lt_of_lt_of_eq t.isLt (show cfg0.N = 32 from N_0)
  blk_simp
  rw [after0_2]
  unfold outsAt0
  frame_out
  obtain ⟨p, j, rfl⟩ := Tile.pair_of y
  rw [tile]
  refine Eq.symm ((ref_at _ _ _).trans ?_)
  refine Finset.sum_congr rfl fun k _ => congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel23 := fun m ρ _ => Cert.Kernel23.Gen.frame m ρ

theorem frame_ideal : Cert.quiescent_Kernel23Ideal := fun m ρ _ => Cert.Kernel23Ideal.Gen.frame m ρ

theorem frame_reference : Cert.quiescent_Reference23Ideal := fun m ρ _ =>
  (θ_run _ _ _).mono (fun _ h => ⟨fun c => (h c).2, sem_eq_zero_of_no_sems rfl _⟩) (Cert.Reference23Ideal.Value.run m ρ)

/-- Both programs leave the reference's product in the result. -/
theorem equal_results : Cert.algebraic_Kernel23Ideal_Reference23Ideal := by
  intro m g m' g' _ hargs
  refine ⟨fun c => Reference23Ideal.Read.val_main_v2 (F := Ideal) (V m c main_arg0) (V m c main_arg1), ?_, ?_⟩
  · exact (θ_run _ _ _).mono (fun r h c => ⟨(h c).1.trans (final m c), (h c).2⟩) (Cert.Kernel23Ideal.Value.run_blocks m g)
  · refine (θ_run _ _ _).mono (fun r h c => ⟨(h c).1.trans ((Reference23Ideal.Read.val_main_v2_eq _ _).trans ?_), (h c).2⟩) (Cert.Reference23Ideal.Value.run m' g')
    have a0 : m' ((c.tc : Thread Cert.Reference23Ideal.nD Cert.Reference23Ideal.τ).loc Cert.Reference23Ideal.main_arg0) = V m c main_arg0 := (hargs c).1
    have a1 : m' ((c.tc : Thread Cert.Reference23Ideal.nD Cert.Reference23Ideal.τ).loc Cert.Reference23Ideal.main_arg1) = V m c main_arg1 := (hargs c).2
    rw [a0, a1]

end Cert.Proof.FfnDown

end
-- ==== Proof.OutProj.lean ====
/- The product `out_proj`: every block of the output is one product of a block of each operand. -/
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel24.Frame
public import proofs.«01_k».proof.Proof.Tile
public import Idealize.ShloMosaic.Lib.Quiescent

@[expose] public section

noncomputable section

namespace Cert.Proof.OutProj

open Idealize.ShloMosaic Idealize.ShloMosaic.TcCoe Idealize.SL.Sem Cert.Kernel24Ideal Cert.Kernel24Ideal.Gen
open scoped BigOperators

/-- One block of the output at an element. -/
theorem tile (x : FVec Ideal S1024x2048 .bf16) (y : FVec Ideal S2048x1024 .bf16) (p : Fin 1024) (q : Fin 1024) :
    k0_pay1 (F := Ideal) x y (ix2 p q) = ∑ k : Fin 2048, x (ix2 p k) * y (ix2 k q) := by
  show Idealize.ShloMosaic.matmul dot_S1024x2048_S2048x1024_S1024x1024_1_0_0_1_n_n none x y (constant S1024x1024 .f32 0x00000000#32) (ix2 p q) = _
  simp only [pointwise]
  rw [Tile.zero_at, zero_add]

theorem ix_0 : ∀ t : Fin cfg0.N, win0_0.index t = ![t.val % 8, 0] := (by decide +kernel : ∀ t : Fin grid0.N, _)
theorem ix_1 : ∀ t : Fin cfg0.N, win0_1.index t = ![0, t.val / 8] := (by decide +kernel : ∀ t : Fin grid0.N, _)
theorem ix_2 : ∀ t : Fin cfg0.N, win0_2.index t = ![t.val % 8, t.val / 8] := (by decide +kernel : ∀ t : Fin grid0.N, _)

/-- The reference's element: one sum over the whole contracted axis. -/
theorem ref_at (x0 : FVec Ideal S8192x2048 .bf16) (x1 : FVec Ideal S2048x2048 .bf16) (i : S8192x2048.Idx) :
    Reference24Ideal.Read.val_main_v2 (F := Ideal) x0 x1 i = ∑ k : Fin 2048, x0 (ix2 (i 0) k) * x1 (ix2 k (i 1)) := by
  rw [Reference24Ideal.Read.val_main_v2_apply]
  refine Finset.sum_congr rfl fun k _ => congrArg₂ (· * ·) (congrArg x0 ?_) (congrArg x1 ?_)
  · funext d; match d with | 0 => rfl | 1 => rfl
  · funext d; match d with | 0 => rfl | 1 => rfl

variable (m : (ℓ : Loc nD τ sig) → Buf (Elt Ideal) ℓ) (c : Dev nD)

theorem final : (dats m 0 c).arrAt 2 cfg0.N = Reference24Ideal.Read.val_main_v2 (F := Ideal) (V m c main_arg0) (V m c main_arg1) := by
  refine (dats m 0 c).arrAt_eq_of_covers 2 _ (by decide +kernel) fun t hf y => ?_
  have hN := lt_of_lt_of_eq t.isLt (show cfg0.N = 16 from N_0)
  blk_simp
  rw [after0_2]
  unfold outsAt0
  frame_out
  obtain ⟨p, j, rfl⟩ := Tile.pair_of y
  rw [tile]
  refine Eq.symm ((ref_at _ _ _).trans ?_)
  refine Finset.sum_congr rfl fun k _ => congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel24 := fun m ρ _ => Cert.Kernel24.Gen.frame m ρ

theorem frame_ideal : Cert.quiescent_Kernel24Ideal := fun m ρ _ => Cert.Kernel24Ideal.Gen.frame m ρ

theorem frame_reference : Cert.quiescent_Reference24Ideal := fun m ρ _ =>
  (θ_run _ _ _).mono (fun _ h => ⟨fun c => (h c).2, sem_eq_zero_of_no_sems rfl _⟩) (Cert.Reference24Ideal.Value.run m ρ)

/-- Both programs leave the reference's product in the result. -/
theorem equal_results : Cert.algebraic_Kernel24Ideal_Reference24Ideal := by
  intro m g m' g' _ hargs
  refine ⟨fun c => Reference24Ideal.Read.val_main_v2 (F := Ideal) (V m c main_arg0) (V m c main_arg1), ?_, ?_⟩
  · exact (θ_run _ _ _).mono (fun r h c => ⟨(h c).1.trans (final m c), (h c).2⟩) (Cert.Kernel24Ideal.Value.run_blocks m g)
  · refine (θ_run _ _ _).mono (fun r h c => ⟨(h c).1.trans ((Reference24Ideal.Read.val_main_v2_eq _ _).trans ?_), (h c).2⟩) (Cert.Reference24Ideal.Value.run m' g')
    have a0 : m' ((c.tc : Thread Cert.Reference24Ideal.nD Cert.Reference24Ideal.τ).loc Cert.Reference24Ideal.main_arg0) = V m c main_arg0 := (hargs c).1
    have a1 : m' ((c.tc : Thread Cert.Reference24Ideal.nD Cert.Reference24Ideal.τ).loc Cert.Reference24Ideal.main_arg1) = V m c main_arg1 := (hargs c).2
    rw [a0, a1]

end Cert.Proof.OutProj

end
-- ==== Proof.BranchHg.lean ====
/- The product `branch_hg`: every block of the output is one product of a block of each operand. -/
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel25.Frame
public import proofs.«01_k».proof.Proof.Tile
public import Idealize.ShloMosaic.Lib.Quiescent

@[expose] public section

noncomputable section

namespace Cert.Proof.BranchHg

open Idealize.ShloMosaic Idealize.ShloMosaic.TcCoe Idealize.SL.Sem Cert.Kernel25Ideal Cert.Kernel25Ideal.Gen
open scoped BigOperators

/-- One block of the output at an element. -/
theorem tile (x : FVec Ideal S1024x2048 .bf16) (y : FVec Ideal S2048x1024 .bf16) (p : Fin 1024) (q : Fin 1024) :
    k0_pay1 (F := Ideal) x y (ix2 p q) = ∑ k : Fin 2048, x (ix2 p k) * y (ix2 k q) := by
  show Idealize.ShloMosaic.matmul dot_S1024x2048_S2048x1024_S1024x1024_1_0_0_1_n_n none x y (constant S1024x1024 .f32 0x00000000#32) (ix2 p q) = _
  simp only [pointwise]
  rw [Tile.zero_at, zero_add]

theorem ix_0 : ∀ t : Fin cfg0.N, win0_0.index t = ![t.val % 8, 0] := (by decide +kernel : ∀ t : Fin grid0.N, _)
theorem ix_1 : ∀ t : Fin cfg0.N, win0_1.index t = ![0, t.val / 8] := (by decide +kernel : ∀ t : Fin grid0.N, _)
theorem ix_2 : ∀ t : Fin cfg0.N, win0_2.index t = ![t.val % 8, t.val / 8] := (by decide +kernel : ∀ t : Fin grid0.N, _)

/-- The reference's element: one sum over the whole contracted axis. -/
theorem ref_at (x0 : FVec Ideal S8192x2048 .bf16) (x1 : FVec Ideal S2048x2048 .bf16) (i : S8192x2048.Idx) :
    Reference25Ideal.Read.val_main_v3 (F := Ideal) x0 x1 i = ∑ k : Fin 2048, x0 (ix2 (i 0) k) * x1 (ix2 k (i 1)) := by
  show Reference25Ideal.Read.val_main_v2 (F := Ideal) x0 x1 i = _
  rw [Reference25Ideal.Read.val_main_v2_apply]
  refine Finset.sum_congr rfl fun k _ => congrArg₂ (· * ·) (congrArg x0 ?_) (congrArg x1 ?_)
  · funext d; match d with | 0 => rfl | 1 => rfl
  · funext d; match d with | 0 => rfl | 1 => rfl

variable (m : (ℓ : Loc nD τ sig) → Buf (Elt Ideal) ℓ) (c : Dev nD)

theorem final : (dats m 0 c).arrAt 2 cfg0.N = Reference25Ideal.Read.val_main_v3 (F := Ideal) (V m c main_arg0) (V m c main_arg1) := by
  refine (dats m 0 c).arrAt_eq_of_covers 2 _ (by decide +kernel) fun t hf y => ?_
  have hN := lt_of_lt_of_eq t.isLt (show cfg0.N = 16 from N_0)
  blk_simp
  rw [after0_2]
  unfold outsAt0
  frame_out
  obtain ⟨p, j, rfl⟩ := Tile.pair_of y
  rw [tile]
  refine Eq.symm ((ref_at _ _ _).trans ?_)
  refine Finset.sum_congr rfl fun k _ => congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel25 := fun m ρ _ => Cert.Kernel25.Gen.frame m ρ

theorem frame_ideal : Cert.quiescent_Kernel25Ideal := fun m ρ _ => Cert.Kernel25Ideal.Gen.frame m ρ

theorem frame_reference : Cert.quiescent_Reference25Ideal := fun m ρ _ =>
  (θ_run _ _ _).mono (fun _ h => ⟨fun c => (h c).2, sem_eq_zero_of_no_sems rfl _⟩) (Cert.Reference25Ideal.Value.run m ρ)

/-- Both programs leave the reference's product in the result. -/
theorem equal_results : Cert.algebraic_Kernel25Ideal_Reference25Ideal := by
  intro m g m' g' _ hargs
  refine ⟨fun c => Reference25Ideal.Read.val_main_v3 (F := Ideal) (V m c main_arg0) (V m c main_arg1), ?_, ?_⟩
  · exact (θ_run _ _ _).mono (fun r h c => ⟨(h c).1.trans (final m c), (h c).2⟩) (Cert.Kernel25Ideal.Value.run_blocks m g)
  · refine (θ_run _ _ _).mono (fun r h c => ⟨(h c).1.trans ((Reference25Ideal.Read.val_main_v3_eq _ _).trans ?_), (h c).2⟩) (Cert.Reference25Ideal.Value.run m' g')
    have a0 : m' ((c.tc : Thread Cert.Reference25Ideal.nD Cert.Reference25Ideal.τ).loc Cert.Reference25Ideal.main_arg0) = V m c main_arg0 := (hargs c).1
    have a1 : m' ((c.tc : Thread Cert.Reference25Ideal.nD Cert.Reference25Ideal.τ).loc Cert.Reference25Ideal.main_arg1) = V m c main_arg1 := (hargs c).2
    rw [a0, a1]

end Cert.Proof.BranchHg

end
-- ==== Proof.BranchSsm.lean ====
/- The product `branch_ssm`: every block of the output is one product of a block of each operand. -/
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel26.Frame
public import proofs.«01_k».proof.Proof.Tile
public import Idealize.ShloMosaic.Lib.Quiescent

@[expose] public section

noncomputable section

namespace Cert.Proof.BranchSsm

open Idealize.ShloMosaic Idealize.ShloMosaic.TcCoe Idealize.SL.Sem Cert.Kernel26Ideal Cert.Kernel26Ideal.Gen
open scoped BigOperators

/-- One block of the output at an element. -/
theorem tile (x : FVec Ideal S1024x4096 .bf16) (y : FVec Ideal S4096x1024 .bf16) (p : Fin 1024) (q : Fin 1024) :
    k0_pay1 (F := Ideal) x y (ix2 p q) = ∑ k : Fin 4096, x (ix2 p k) * y (ix2 k q) := by
  show Idealize.ShloMosaic.matmul dot_S1024x4096_S4096x1024_S1024x1024_1_0_0_1_n_n none x y (constant S1024x1024 .f32 0x00000000#32) (ix2 p q) = _
  simp only [pointwise]
  rw [Tile.zero_at, zero_add]

theorem ix_0 : ∀ t : Fin cfg0.N, win0_0.index t = ![t.val % 8, 0] := (by decide +kernel : ∀ t : Fin grid0.N, _)
theorem ix_1 : ∀ t : Fin cfg0.N, win0_1.index t = ![0, t.val / 8] := (by decide +kernel : ∀ t : Fin grid0.N, _)
theorem ix_2 : ∀ t : Fin cfg0.N, win0_2.index t = ![t.val % 8, t.val / 8] := (by decide +kernel : ∀ t : Fin grid0.N, _)

/-- The reference's element: one sum over the whole contracted axis. -/
theorem ref_at (x0 : FVec Ideal S8192x4096 .bf16) (x1 : FVec Ideal S4096x2048 .bf16) (i : S8192x2048.Idx) :
    Reference26Ideal.Read.val_main_v3 (F := Ideal) x0 x1 i = ∑ k : Fin 4096, x0 (ix2 (i 0) k) * x1 (ix2 k (i 1)) := by
  show Reference26Ideal.Read.val_main_v2 (F := Ideal) x0 x1 i = _
  rw [Reference26Ideal.Read.val_main_v2_apply]
  refine Finset.sum_congr rfl fun k _ => congrArg₂ (· * ·) (congrArg x0 ?_) (congrArg x1 ?_)
  · funext d; match d with | 0 => rfl | 1 => rfl
  · funext d; match d with | 0 => rfl | 1 => rfl

variable (m : (ℓ : Loc nD τ sig) → Buf (Elt Ideal) ℓ) (c : Dev nD)

theorem final : (dats m 0 c).arrAt 2 cfg0.N = Reference26Ideal.Read.val_main_v3 (F := Ideal) (V m c main_arg0) (V m c main_arg1) := by
  refine (dats m 0 c).arrAt_eq_of_covers 2 _ (by decide +kernel) fun t hf y => ?_
  have hN := lt_of_lt_of_eq t.isLt (show cfg0.N = 16 from N_0)
  blk_simp
  rw [after0_2]
  unfold outsAt0
  frame_out
  obtain ⟨p, j, rfl⟩ := Tile.pair_of y
  rw [tile]
  refine Eq.symm ((ref_at _ _ _).trans ?_)
  refine Finset.sum_congr rfl fun k _ => congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel26 := fun m ρ _ => Cert.Kernel26.Gen.frame m ρ

theorem frame_ideal : Cert.quiescent_Kernel26Ideal := fun m ρ _ => Cert.Kernel26Ideal.Gen.frame m ρ

theorem frame_reference : Cert.quiescent_Reference26Ideal := fun m ρ _ =>
  (θ_run _ _ _).mono (fun _ h => ⟨fun c => (h c).2, sem_eq_zero_of_no_sems rfl _⟩) (Cert.Reference26Ideal.Value.run m ρ)

/-- Both programs leave the reference's product in the result. -/
theorem equal_results : Cert.algebraic_Kernel26Ideal_Reference26Ideal := by
  intro m g m' g' _ hargs
  refine ⟨fun c => Reference26Ideal.Read.val_main_v3 (F := Ideal) (V m c main_arg0) (V m c main_arg1), ?_, ?_⟩
  · exact (θ_run _ _ _).mono (fun r h c => ⟨(h c).1.trans (final m c), (h c).2⟩) (Cert.Kernel26Ideal.Value.run_blocks m g)
  · refine (θ_run _ _ _).mono (fun r h c => ⟨(h c).1.trans ((Reference26Ideal.Read.val_main_v3_eq _ _).trans ?_), (h c).2⟩) (Cert.Reference26Ideal.Value.run m' g')
    have a0 : m' ((c.tc : Thread Cert.Reference26Ideal.nD Cert.Reference26Ideal.τ).loc Cert.Reference26Ideal.main_arg0) = V m c main_arg0 := (hargs c).1
    have a1 : m' ((c.tc : Thread Cert.Reference26Ideal.nD Cert.Reference26Ideal.τ).loc Cert.Reference26Ideal.main_arg1) = V m c main_arg1 := (hargs c).2
    rw [a0, a1]

end Cert.Proof.BranchSsm

end
-- ==== Proof.ProjQfig.lean ====
/- The product `proj_qfig`: every block of the output is one product of a block of each operand. -/
module

public import proofs.«01_k».proof.Defs
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel27.Frame
public import proofs.«01_k».proof.Proof.Tile
public import Idealize.ShloMosaic.Lib.Quiescent

@[expose] public section

noncomputable section

namespace Cert.Proof.ProjQfig

open Idealize.ShloMosaic Idealize.ShloMosaic.TcCoe Idealize.SL.Sem Cert.Kernel27Ideal Cert.Kernel27Ideal.Gen
open scoped BigOperators

/-- One block of the output at an element. -/
theorem tile (x : FVec Ideal S1024x2048 .bf16) (y : FVec Ideal S1024x2048 .bf16) (p : Fin 1024) (q : Fin 1024) :
    k0_pay1 (F := Ideal) x y (ix2 p q) = ∑ k : Fin 2048, x (ix2 p k) * y (ix2 q k) := by
  show Idealize.ShloMosaic.matmul dot_S1024x2048_S1024x2048_S1024x1024_1_1_0_0_n_n none x y (constant S1024x1024 .f32 0x00000000#32) (ix2 p q) = _
  simp only [pointwise]
  rw [Tile.zero_at, zero_add]

theorem ix_0 : ∀ t : Fin cfg0.N, win0_0.index t = ![t.val % 8, 0] := (by decide +kernel : ∀ t : Fin grid0.N, _)
theorem ix_1 : ∀ t : Fin cfg0.N, win0_1.index t = ![t.val / 8, 0] := (by decide +kernel : ∀ t : Fin grid0.N, _)
theorem ix_2 : ∀ t : Fin cfg0.N, win0_2.index t = ![t.val % 8, t.val / 8] := (by decide +kernel : ∀ t : Fin grid0.N, _)

/-- The reference's element: one sum over the whole contracted axis. -/
theorem ref_at (x0 : FVec Ideal S8192x2048 .bf16) (x1 : FVec Ideal S22592x2048 .bf16) (i : S8192x8192.Idx) :
    Reference27Ideal.Read.val_main_v3 (F := Ideal) x0 x1 i = ∑ k : Fin 2048, x0 (ix2 (i 0) k) * x1 (ix2 ⟨0 + (i 1).val, by have : (i 1).val < 8192 := (i 1).isLt; omega⟩ k) := by
  rw [Reference27Ideal.Read.val_main_v3_apply]
  refine Finset.sum_congr rfl fun k _ => congrArg₂ (· * ·) (congrArg x0 ?_) ((show Reference27Ideal.Read.val_main_v1 (F := Ideal) x1 (Reference27Ideal.Read.ridx_main_v3 i k) = _ from (Reference27Ideal.Read.val_main_v1_apply (F := Ideal) x1 _).trans (congrArg x1 ?_)))
  · funext d; match d with | 0 => rfl | 1 => rfl
  · funext d; match d with | 0 => exact Fin.ext (Nat.zero_add _).symm | 1 => rfl

variable (m : (ℓ : Loc nD τ sig) → Buf (Elt Ideal) ℓ) (c : Dev nD)

/-- The block of the weight a grid point reads. -/
theorem weight_at (t : Fin cfg0.N) (q : Fin 1024) (k : Fin 2048) : X0_1 m c t (ix2 q k)
    = V m c main_arg1 (ix2 (⟨(t.val / 8) * 1024 + q.val, by have := lt_of_lt_of_eq t.isLt (show cfg0.N = 64 from N_0); omega⟩ : Fin 22592) k) := by
  unfold X0_1 Pipeline.Window.fill
  rw [dif_pos (moved0_1 t _)]
  blk_simp [iblk]
  refine congrArg (V m c main_arg1) ?_
  blk_ext [ix_1]

theorem final : (dats m 0 c).arrAt 2 cfg0.N = Reference27Ideal.Read.val_main_v3 (F := Ideal) (V m c main_arg0) (V m c main_arg1) := by
  refine (dats m 0 c).arrAt_eq_of_covers 2 _ (by decide +kernel) fun t hf y => ?_
  have hN := lt_of_lt_of_eq t.isLt (show cfg0.N = 64 from N_0)
  blk_simp
  rw [after0_2]
  unfold outsAt0
  frame_out
  obtain ⟨p, j, rfl⟩ := Tile.pair_of y
  rw [tile]
  refine Eq.symm ((ref_at _ _ _).trans ?_)
  refine Finset.sum_congr rfl fun k _ => congrArg₂ (· * ·) ?_ ?_
  · blk_simp [iblk]
    refine congrArg (V m c main_arg0) ?_
    blk_ext [ix_0, ix_2]
  · refine Eq.trans ?_ (weight_at m c t j k).symm
    refine congrArg (V m c main_arg1) ?_
    blk_ext [ix_2]

theorem frame_kernel : Cert.quiescent_Kernel27 := fun m ρ _ => Cert.Kernel27.Gen.frame m ρ

theorem frame_ideal : Cert.quiescent_Kernel27Ideal := fun m ρ _ => Cert.Kernel27Ideal.Gen.frame m ρ

theorem frame_reference : Cert.quiescent_Reference27Ideal := fun m ρ _ =>
  (θ_run _ _ _).mono (fun _ h => ⟨fun c => (h c).2, sem_eq_zero_of_no_sems rfl _⟩) (Cert.Reference27Ideal.Value.run m ρ)

/-- Both programs leave the reference's product in the result. -/
theorem equal_results : Cert.algebraic_Kernel27Ideal_Reference27Ideal := by
  intro m g m' g' _ hargs
  refine ⟨fun c => Reference27Ideal.Read.val_main_v3 (F := Ideal) (V m c main_arg0) (V m c main_arg1), ?_, ?_⟩
  · exact (θ_run _ _ _).mono (fun r h c => ⟨(h c).1.trans (final m c), (h c).2⟩) (Cert.Kernel27Ideal.Value.run_blocks m g)
  · refine (θ_run _ _ _).mono (fun r h c => ⟨(h c).1.trans ((Reference27Ideal.Read.val_main_v3_eq _ _).trans ?_), (h c).2⟩) (Cert.Reference27Ideal.Value.run m' g')
    have a0 : m' ((c.tc : Thread Cert.Reference27Ideal.nD Cert.Reference27Ideal.τ).loc Cert.Reference27Ideal.main_arg0) = V m c main_arg0 := (hargs c).1
    have a1 : m' ((c.tc : Thread Cert.Reference27Ideal.nD Cert.Reference27Ideal.τ).loc Cert.Reference27Ideal.main_arg1) = V m c main_arg1 := (hargs c).2
    rw [a0, a1]

end Cert.Proof.ProjQfig

end
-- ==== Proof.ProjZ.lean ====
/- The product `proj_z`: every block of the output is one product of a block of each operand. -/
module

public import proofs.«01_k».proof.Defs
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel28.Frame
public import proofs.«01_k».proof.Proof.Tile
public import Idealize.ShloMosaic.Lib.Quiescent

@[expose] public section

noncomputable section

namespace Cert.Proof.ProjZ

open Idealize.ShloMosaic Idealize.ShloMosaic.TcCoe Idealize.SL.Sem Cert.Kernel28Ideal Cert.Kernel28Ideal.Gen
open scoped BigOperators

/-- One block of the output at an element. -/
theorem tile (x : FVec Ideal S1024x2048 .bf16) (y : FVec Ideal S1024x2048 .bf16) (p : Fin 1024) (q : Fin 1024) :
    k0_pay1 (F := Ideal) x y (ix2 p q) = ∑ k : Fin 2048, x (ix2 p k) * y (ix2 q k) := by
  show Idealize.ShloMosaic.matmul dot_S1024x2048_S1024x2048_S1024x1024_1_1_0_0_n_n none x y (constant S1024x1024 .f32 0x00000000#32) (ix2 p q) = _
  simp only [pointwise]
  rw [Tile.zero_at, zero_add]

theorem ix_0 : ∀ t : Fin cfg0.N, win0_0.index t = ![t.val % 8, 0] := (by decide +kernel : ∀ t : Fin grid0.N, _)
theorem ix_1 : ∀ t : Fin cfg0.N, win0_1.index t = ![8 + t.val / 8, 0] := (by decide +kernel : ∀ t : Fin grid0.N, _)
theorem ix_2 : ∀ t : Fin cfg0.N, win0_2.index t = ![t.val % 8, t.val / 8] := (by decide +kernel : ∀ t : Fin grid0.N, _)

/-- The reference's element: one sum over the whole contracted axis. -/
theorem ref_at (x0 : FVec Ideal S8192x2048 .bf16) (x1 : FVec Ideal S22592x2048 .bf16) (i : S8192x4096.Idx) :
    Reference28Ideal.Read.val_main_v3 (F := Ideal) x0 x1 i = ∑ k : Fin 2048, x0 (ix2 (i 0) k) * x1 (ix2 ⟨8192 + (i 1).val, by have : (i 1).val < 4096 := (i 1).isLt; omega⟩ k) := by
  rw [Reference28Ideal.Read.val_main_v3_apply]
  refine Finset.sum_congr rfl fun k _ => congrArg₂ (· * ·) (congrArg x0 ?_) ((show Reference28Ideal.Read.val_main_v1 (F := Ideal) x1 (Reference28Ideal.Read.ridx_main_v3 i k) = _ from (Reference28Ideal.Read.val_main_v1_apply (F := Ideal) x1 _).trans (congrArg x1 ?_)))
  · funext d; match d with | 0 => rfl | 1 => rfl
  · funext d; match d with | 0 => exact Fin.ext rfl | 1 => rfl

variable (m : (ℓ : Loc nD τ sig) → Buf (Elt Ideal) ℓ) (c : Dev nD)

/-- The block of the weight a grid point reads. -/
theorem weight_at (t : Fin cfg0.N) (q : Fin 1024) (k : Fin 2048) : X0_1 m c t (ix2 q k)
    = V m c main_arg1 (ix2 (⟨(8 + t.val / 8) * 1024 + q.val, by have := lt_of_lt_of_eq t.isLt (show cfg0.N = 32 from N_0); omega⟩ : Fin 22592) k) := by
  unfold X0_1 Pipeline.Window.fill
  rw [dif_pos (moved0_1 t _)]
  blk_simp [iblk]
  refine congrArg (V m c main_arg1) ?_
  blk_ext [ix_1]

theorem final : (dats m 0 c).arrAt 2 cfg0.N = Reference28Ideal.Read.val_main_v3 (F := Ideal) (V m c main_arg0) (V m c main_arg1) := by
  refine (dats m 0 c).arrAt_eq_of_covers 2 _ (by decide +kernel) fun t hf y => ?_
  have hN := lt_of_lt_of_eq t.isLt (show cfg0.N = 32 from N_0)
  blk_simp
  rw [after0_2]
  unfold outsAt0
  frame_out
  obtain ⟨p, j, rfl⟩ := Tile.pair_of y
  rw [tile]
  refine Eq.symm ((ref_at _ _ _).trans ?_)
  refine Finset.sum_congr rfl fun k _ => congrArg₂ (· * ·) ?_ ?_
  · blk_simp [iblk]
    refine congrArg (V m c main_arg0) ?_
    blk_ext [ix_0, ix_2]
  · refine Eq.trans ?_ (weight_at m c t j k).symm
    refine congrArg (V m c main_arg1) ?_
    blk_ext [ix_2]

theorem frame_kernel : Cert.quiescent_Kernel28 := fun m ρ _ => Cert.Kernel28.Gen.frame m ρ

theorem frame_ideal : Cert.quiescent_Kernel28Ideal := fun m ρ _ => Cert.Kernel28Ideal.Gen.frame m ρ

theorem frame_reference : Cert.quiescent_Reference28Ideal := fun m ρ _ =>
  (θ_run _ _ _).mono (fun _ h => ⟨fun c => (h c).2, sem_eq_zero_of_no_sems rfl _⟩) (Cert.Reference28Ideal.Value.run m ρ)

/-- Both programs leave the reference's product in the result. -/
theorem equal_results : Cert.algebraic_Kernel28Ideal_Reference28Ideal := by
  intro m g m' g' _ hargs
  refine ⟨fun c => Reference28Ideal.Read.val_main_v3 (F := Ideal) (V m c main_arg0) (V m c main_arg1), ?_, ?_⟩
  · exact (θ_run _ _ _).mono (fun r h c => ⟨(h c).1.trans (final m c), (h c).2⟩) (Cert.Kernel28Ideal.Value.run_blocks m g)
  · refine (θ_run _ _ _).mono (fun r h c => ⟨(h c).1.trans ((Reference28Ideal.Read.val_main_v3_eq _ _).trans ?_), (h c).2⟩) (Cert.Reference28Ideal.Value.run m' g')
    have a0 : m' ((c.tc : Thread Cert.Reference28Ideal.nD Cert.Reference28Ideal.τ).loc Cert.Reference28Ideal.main_arg0) = V m c main_arg0 := (hargs c).1
    have a1 : m' ((c.tc : Thread Cert.Reference28Ideal.nD Cert.Reference28Ideal.τ).loc Cert.Reference28Ideal.main_arg1) = V m c main_arg1 := (hargs c).2
    rw [a0, a1]

end Cert.Proof.ProjZ

end
-- ==== Proof.ProjXbc.lean ====
/- The product `proj_xbc`: every block of the output is one product of a block of each operand. -/
module

public import proofs.«01_k».proof.Defs
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Kernel29.Frame
public import proofs.«01_k».proof.Proof.Tile
public import Idealize.ShloMosaic.Lib.Quiescent

@[expose] public section

noncomputable section

namespace Cert.Proof.ProjXbc

open Idealize.ShloMosaic Idealize.ShloMosaic.TcCoe Idealize.SL.Sem Cert.Kernel29Ideal Cert.Kernel29Ideal.Gen
open scoped BigOperators

/-- One block of the output at an element. -/
theorem tile (x : FVec Ideal S1024x2048 .bf16) (y : FVec Ideal S1024x2048 .bf16) (p : Fin 1024) (q : Fin 1024) :
    k0_pay1 (F := Ideal) x y (ix2 p q) = ∑ k : Fin 2048, x (ix2 p k) * y (ix2 q k) := by
  show Idealize.ShloMosaic.matmul dot_S1024x2048_S1024x2048_S1024x1024_1_1_0_0_n_n none x y (constant S1024x1024 .f32 0x00000000#32) (ix2 p q) = _
  simp only [pointwise]
  rw [Tile.zero_at, zero_add]

theorem ix_0 : ∀ t : Fin cfg0.N, win0_0.index t = ![t.val % 8, 0] := (by decide +kernel : ∀ t : Fin grid0.N, _)
theorem ix_1 : ∀ t : Fin cfg0.N, win0_1.index t = ![12 + t.val / 8, 0] := (by decide +kernel : ∀ t : Fin grid0.N, _)
theorem ix_2 : ∀ t : Fin cfg0.N, win0_2.index t = ![t.val % 8, t.val / 8] := (by decide +kernel : ∀ t : Fin grid0.N, _)

/-- The reference's element: one sum over the whole contracted axis. -/
theorem ref_at (x0 : FVec Ideal S8192x2048 .bf16) (x1 : FVec Ideal S22592x2048 .bf16) (i : S8192x6144.Idx) :
    Reference29Ideal.Read.val_main_v3 (F := Ideal) x0 x1 i = ∑ k : Fin 2048, x0 (ix2 (i 0) k) * x1 (ix2 ⟨12288 + (i 1).val, by have : (i 1).val < 6144 := (i 1).isLt; omega⟩ k) := by
  rw [Reference29Ideal.Read.val_main_v3_apply]
  refine Finset.sum_congr rfl fun k _ => congrArg₂ (· * ·) (congrArg x0 ?_) ((show Reference29Ideal.Read.val_main_v1 (F := Ideal) x1 (Reference29Ideal.Read.ridx_main_v3 i k) = _ from (Reference29Ideal.Read.val_main_v1_apply (F := Ideal) x1 _).trans (congrArg x1 ?_)))
  · funext d; match d with | 0 => rfl | 1 => rfl
  · funext d; match d with | 0 => exact Fin.ext rfl | 1 => rfl

variable (m : (ℓ : Loc nD τ sig) → Buf (Elt Ideal) ℓ) (c : Dev nD)

/-- The block of the weight a grid point reads. -/
theorem weight_at (t : Fin cfg0.N) (q : Fin 1024) (k : Fin 2048) : X0_1 m c t (ix2 q k)
    = V m c main_arg1 (ix2 (⟨(12 + t.val / 8) * 1024 + q.val, by have := lt_of_lt_of_eq t.isLt (show cfg0.N = 48 from N_0); omega⟩ : Fin 22592) k) := by
  unfold X0_1 Pipeline.Window.fill
  rw [dif_pos (moved0_1 t _)]
  blk_simp [iblk]
  refine congrArg (V m c main_arg1) ?_
  blk_ext [ix_1]

theorem final : (dats m 0 c).arrAt 2 cfg0.N = Reference29Ideal.Read.val_main_v3 (F := Ideal) (V m c main_arg0) (V m c main_arg1) := by
  refine (dats m 0 c).arrAt_eq_of_covers 2 _ (by decide +kernel) fun t hf y => ?_
  have hN := lt_of_lt_of_eq t.isLt (show cfg0.N = 48 from N_0)
  blk_simp
  rw [after0_2]
  unfold outsAt0
  frame_out
  obtain ⟨p, j, rfl⟩ := Tile.pair_of y
  rw [tile]
  refine Eq.symm ((ref_at _ _ _).trans ?_)
  refine Finset.sum_congr rfl fun k _ => congrArg₂ (· * ·) ?_ ?_
  · blk_simp [iblk]
    refine congrArg (V m c main_arg0) ?_
    blk_ext [ix_0, ix_2]
  · refine Eq.trans ?_ (weight_at m c t j k).symm
    refine congrArg (V m c main_arg1) ?_
    blk_ext [ix_2]

theorem frame_kernel : Cert.quiescent_Kernel29 := fun m ρ _ => Cert.Kernel29.Gen.frame m ρ

theorem frame_ideal : Cert.quiescent_Kernel29Ideal := fun m ρ _ => Cert.Kernel29Ideal.Gen.frame m ρ

theorem frame_reference : Cert.quiescent_Reference29Ideal := fun m ρ _ =>
  (θ_run _ _ _).mono (fun _ h => ⟨fun c => (h c).2, sem_eq_zero_of_no_sems rfl _⟩) (Cert.Reference29Ideal.Value.run m ρ)

/-- Both programs leave the reference's product in the result. -/
theorem equal_results : Cert.algebraic_Kernel29Ideal_Reference29Ideal := by
  intro m g m' g' _ hargs
  refine ⟨fun c => Reference29Ideal.Read.val_main_v3 (F := Ideal) (V m c main_arg0) (V m c main_arg1), ?_, ?_⟩
  · exact (θ_run _ _ _).mono (fun r h c => ⟨(h c).1.trans (final m c), (h c).2⟩) (Cert.Kernel29Ideal.Value.run_blocks m g)
  · refine (θ_run _ _ _).mono (fun r h c => ⟨(h c).1.trans ((Reference29Ideal.Read.val_main_v3_eq _ _).trans ?_), (h c).2⟩) (Cert.Reference29Ideal.Value.run m' g')
    have a0 : m' ((c.tc : Thread Cert.Reference29Ideal.nD Cert.Reference29Ideal.τ).loc Cert.Reference29Ideal.main_arg0) = V m c main_arg0 := (hargs c).1
    have a1 : m' ((c.tc : Thread Cert.Reference29Ideal.nD Cert.Reference29Ideal.τ).loc Cert.Reference29Ideal.main_arg1) = V m c main_arg1 := (hargs c).2
    rw [a0, a1]

end Cert.Proof.ProjXbc

end
-- ==== Proof.ProjDt.lean ====
/- The product `proj_dt`: every block of the output is one product of a block of each operand. -/
module

public import proofs.«01_k».proof.Defs
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel30.Frame
public import proofs.«01_k».proof.Proof.Tile
public import Idealize.ShloMosaic.Lib.Quiescent

@[expose] public section

noncomputable section

namespace Cert.Proof.ProjDt

open Idealize.ShloMosaic Idealize.ShloMosaic.TcCoe Idealize.SL.Sem Cert.Kernel30Ideal Cert.Kernel30Ideal.Gen
open scoped BigOperators

/-- One block of the output at an element. -/
theorem tile (x : FVec Ideal S1024x2048 .bf16) (y : FVec Ideal S128x2048 .bf16) (p : Fin 1024) (q : Fin 128) :
    k0_pay1 (F := Ideal) x y (ix2 p q) = ∑ k : Fin 2048, x (ix2 p k) * y (ix2 q k) := by
  show Idealize.ShloMosaic.matmul dot_S1024x2048_S128x2048_S1024x128_1_1_0_0_n_n none x y (constant S1024x128 .f32 0x00000000#32) (ix2 p q) = _
  simp only [pointwise]
  rw [Tile.zero_at, zero_add]

theorem ix_0 : ∀ t : Fin cfg0.N, win0_0.index t = ![t.val % 8, 0] := (by decide +kernel : ∀ t : Fin grid0.N, _)
theorem ix_1 : ∀ t : Fin cfg0.N, win0_1.index t = ![t.val / 8, 0] := (by decide +kernel : ∀ t : Fin grid0.N, _)
theorem ix_2 : ∀ t : Fin cfg0.N, win0_2.index t = ![t.val % 8, t.val / 8] := (by decide +kernel : ∀ t : Fin grid0.N, _)

/-- The reference's element: one sum over the whole contracted axis. -/
theorem ref_at (x0 : FVec Ideal S8192x2048 .bf16) (x1 : FVec Ideal S128x2048 .bf16) (i : S8192x128.Idx) :
    Reference30Ideal.Read.val_main_v2 (F := Ideal) x0 x1 i = ∑ k : Fin 2048, x0 (ix2 (i 0) k) * x1 (ix2 (i 1) k) := by
  rw [Reference30Ideal.Read.val_main_v2_apply]
  refine Finset.sum_congr rfl fun k _ => congrArg₂ (· * ·) (congrArg x0 ?_) (congrArg x1 ?_)
  · funext d; match d with | 0 => rfl | 1 => rfl
  · funext d; match d with | 0 => rfl | 1 => rfl

variable (m : (ℓ : Loc nD τ sig) → Buf (Elt Ideal) ℓ) (c : Dev nD)

theorem final : (dats m 0 c).arrAt 2 cfg0.N = Reference30Ideal.Read.val_main_v2 (F := Ideal) (V m c main_arg0) (V m c main_arg1) := by
  refine (dats m 0 c).arrAt_eq_of_covers 2 _ (by decide +kernel) fun t hf y => ?_
  have hN := lt_of_lt_of_eq t.isLt (show cfg0.N = 8 from N_0)
  blk_simp
  rw [after0_2]
  unfold outsAt0
  frame_out
  obtain ⟨p, j, rfl⟩ := Tile.pair_of y
  rw [tile]
  refine Eq.symm ((ref_at _ _ _).trans ?_)
  refine Finset.sum_congr rfl fun k _ => congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel30 := fun m ρ _ => Cert.Kernel30.Gen.frame m ρ

theorem frame_ideal : Cert.quiescent_Kernel30Ideal := fun m ρ _ => Cert.Kernel30Ideal.Gen.frame m ρ

theorem frame_reference : Cert.quiescent_Reference30Ideal := fun m ρ _ =>
  (θ_run _ _ _).mono (fun _ h => ⟨fun c => (h c).2, sem_eq_zero_of_no_sems rfl _⟩) (Cert.Reference30Ideal.Value.run m ρ)

/-- Both programs leave the reference's product in the result. -/
theorem equal_results : Cert.algebraic_Kernel30Ideal_Reference30Ideal := by
  intro m g m' g' _ hargs
  refine ⟨fun c => Reference30Ideal.Read.val_main_v2 (F := Ideal) (V m c main_arg0) (V m c main_arg1), ?_, ?_⟩
  · exact (θ_run _ _ _).mono (fun r h c => ⟨(h c).1.trans (final m c), (h c).2⟩) (Cert.Kernel30Ideal.Value.run_blocks m g)
  · refine (θ_run _ _ _).mono (fun r h c => ⟨(h c).1.trans ((Reference30Ideal.Read.val_main_v2_eq _ _).trans ?_), (h c).2⟩) (Cert.Reference30Ideal.Value.run m' g')
    have a0 : m' ((c.tc : Thread Cert.Reference30Ideal.nD Cert.Reference30Ideal.τ).loc Cert.Reference30Ideal.main_arg0) = V m c main_arg0 := (hargs c).1
    have a1 : m' ((c.tc : Thread Cert.Reference30Ideal.nD Cert.Reference30Ideal.τ).loc Cert.Reference30Ideal.main_arg1) = V m c main_arg1 := (hargs c).2
    rw [a0, a1]

end Cert.Proof.ProjDt

end
-- ==== Proof.ProjGates.lean ====
/- The product `proj_gates`: every block of the output is one product of a block of each operand. -/
module

public import proofs.«01_k».proof.Defs
public import proofs.«01_k».proof.Proof.Gen.Kernel31Ideal.Value
public import proofs.«01_k».proof.Proof.Gen.Reference31Ideal.Run
public import proofs.«01_k».proof.Proof.Gen.Reference31Ideal.Read
public import proofs.«01_k».proof.Proof.Gen.Kernel31.Frame
public import proofs.«01_k».proof.Proof.Tile
public import Idealize.ShloMosaic.Lib.Quiescent

@[expose] public section

noncomputable section

namespace Cert.Proof.ProjGates

open Idealize.ShloMosaic Idealize.ShloMosaic.TcCoe Idealize.SL.Sem Cert.Kernel31Ideal Cert.Kernel31Ideal.Gen
open scoped BigOperators

/-- One block of the output at an element. -/
theorem tile (x : FVec Ideal S1024x2048 .bf16) (y : FVec Ideal S1024x2048 .bf16) (p : Fin 1024) (q : Fin 1024) :
    k0_pay1 (F := Ideal) x y (ix2 p q) = ∑ k : Fin 2048, x (ix2 p k) * y (ix2 q k) := by
  show Idealize.ShloMosaic.matmul dot_S1024x2048_S1024x2048_S1024x1024_1_1_0_0_n_n none x y (constant S1024x1024 .f32 0x00000000#32) (ix2 p q) = _
  simp only [pointwise]
  rw [Tile.zero_at, zero_add]

theorem ix_0 : ∀ t : Fin cfg0.N, win0_0.index t = ![t.val % 8, 0] := (by decide +kernel : ∀ t : Fin grid0.N, _)
theorem ix_1 : ∀ t : Fin cfg0.N, win0_1.index t = ![t.val / 8, 0] := (by decide +kernel : ∀ t : Fin grid0.N, _)
theorem ix_2 : ∀ t : Fin cfg0.N, win0_2.index t = ![t.val % 8, t.val / 8] := (by decide +kernel : ∀ t : Fin grid0.N, _)

/-- The reference's element: one sum over the whole contracted axis. -/
theorem ref_at (x0 : FVec Ideal S8192x2048 .bf16) (x1 : FVec Ideal S4096x2048 .bf16) (i : S8192x4096.Idx) :
    Reference31Ideal.Read.val_main_v3 (F := Ideal) x0 x1 i = ∑ k : Fin 2048, x0 (ix2 (i 0) k) * x1 (ix2 (i 1) k) := by
  show Reference31Ideal.Read.val_main_v2 (F := Ideal) x0 x1 i = _
  rw [Reference31Ideal.Read.val_main_v2_apply]
  refine Finset.sum_congr rfl fun k _ => congrArg₂ (· * ·) (congrArg x0 ?_) (congrArg x1 ?_)
  · funext d; match d with | 0 => rfl | 1 => rfl
  · funext d; match d with | 0 => rfl | 1 => rfl

variable (m : (ℓ : Loc nD τ sig) → Buf (Elt Ideal) ℓ) (c : Dev nD)

theorem final : (dats m 0 c).arrAt 2 cfg0.N = Reference31Ideal.Read.val_main_v3 (F := Ideal) (V m c main_arg0) (V m c main_arg1) := by
  refine (dats m 0 c).arrAt_eq_of_covers 2 _ (by decide +kernel) fun t hf y => ?_
  have hN := lt_of_lt_of_eq t.isLt (show cfg0.N = 32 from N_0)
  blk_simp
  rw [after0_2]
  unfold outsAt0
  frame_out
  obtain ⟨p, j, rfl⟩ := Tile.pair_of y
  rw [tile]
  refine Eq.symm ((ref_at _ _ _).trans ?_)
  refine Finset.sum_congr rfl fun k _ => congrArg₂ (· * ·) ?_ ?_
  · blk_simp [iblk]
    refine congrArg (V m c main_arg0) ?_
    blk_ext [ix_0, ix_2]
  · blk_simp [iblk]
    refine congrArg (V m c main_arg1) ?_
    blk_ext [ix_1, ix_2]

theorem frame_kernel : Cert.quiescent_Kernel31 := fun m ρ _ => Cert.Kernel31.Gen.frame m ρ

theorem frame_ideal : Cert.quiescent_Kernel31Ideal := fun m ρ _ => Cert.Kernel31Ideal.Gen.frame m ρ

theorem frame_reference : Cert.quiescent_Reference31Ideal := fun m ρ _ =>
  (θ_run _ _ _).mono (fun _ h => ⟨fun c => (h c).2, sem_eq_zero_of_no_sems rfl _⟩) (Cert.Reference31Ideal.Value.run m ρ)

/-- Both programs leave the reference's product in the result. -/
theorem equal_results : Cert.algebraic_Kernel31Ideal_Reference31Ideal := by
  intro m g m' g' _ hargs
  refine ⟨fun c => Reference31Ideal.Read.val_main_v3 (F := Ideal) (V m c main_arg0) (V m c main_arg1), ?_, ?_⟩
  · exact (θ_run _ _ _).mono (fun r h c => ⟨(h c).1.trans (final m c), (h c).2⟩) (Cert.Kernel31Ideal.Value.run_blocks m g)
  · refine (θ_run _ _ _).mono (fun r h c => ⟨(h c).1.trans ((Reference31Ideal.Read.val_main_v3_eq _ _).trans ?_), (h c).2⟩) (Cert.Reference31Ideal.Value.run m' g')
    have a0 : m' ((c.tc : Thread Cert.Reference31Ideal.nD Cert.Reference31Ideal.τ).loc Cert.Reference31Ideal.main_arg0) = V m c main_arg0 := (hargs c).1
    have a1 : m' ((c.tc : Thread Cert.Reference31Ideal.nD Cert.Reference31Ideal.τ).loc Cert.Reference31Ideal.main_arg1) = V m c main_arg1 := (hargs c).2
    rw [a0, a1]

end Cert.Proof.ProjGates

end
-- ==== Proof.DHB.lean ====
/- The product `d_h_b`: every block of the output starts from a block of the sum so far and adds up eleven products, six with the
   projection's weight, one with the step sizes' and four with the gates'. -/
module

public import proofs.«01_k».proof.Defs
public import proofs.«01_k».proof.Proof.Gen.Kernel32Ideal.Frame
public import Idealize.ShloMosaic.Lib.Pipeline.Value
public import proofs.«01_k».proof.Proof.Gen.Reference32Ideal.Run
public import proofs.«01_k».proof.Proof.Gen.Reference32Ideal.Read
public import proofs.«01_k».proof.Proof.Gen.Kernel32.Frame
public import proofs.«01_k».proof.Proof.Tile
public import Idealize.ShloMosaic.Lib.Quiescent

@[expose] public section

noncomputable section

namespace Cert.Proof.DHB

open Idealize.ShloMosaic Idealize.ShloMosaic.TcCoe Idealize.SL.Sem Cert.Kernel32Ideal Cert.Kernel32Ideal.Gen
open scoped BigOperators

/-! ## One grid point's product -/

/-- The product over one block of the contracted axis. -/
def part (x : FVec Ideal S1024x1024 .bf16) (y : FVec Ideal S1024x1024 .bf16) (j : S1024x1024.Idx) : EReal :=
  ∑ k : Fin 1024, x (ix2 (j 0) k) * y (ix2 k (j 1))

/-- The same over the step sizes' columns. -/
def part' (x : FVec Ideal S1024x128 .bf16) (y : FVec Ideal S128x1024 .bf16) (j : S1024x1024.Idx) : EReal :=
  ∑ k : Fin 128, x (ix2 (j 0) k) * y (ix2 k (j 1))

theorem start_at (z : FVec Ideal S1024x1024 .f32) (j : S1024x1024.Idx) : k0_pay2 (F := Ideal) z j = z j := by
  unfold k0_pay2; rw [shapeCast_self]

theorem next_1 (z : FVec Ideal S1024x1024 .f32) (x : FVec Ideal S1024x1024 .bf16) (y : FVec Ideal S1024x1024 .bf16) (j : S1024x1024.Idx) :
    k0_pay1 (F := Ideal) z x y j = z j + part x y j := by
  unfold k0_pay1; rw [shapeCast_self]
  refine congrArg (z j + ·) ?_
  obtain ⟨p, q, rfl⟩ := Tile.pair_of j
  simp only [pointwise]
  rw [Tile.zero_at, zero_add]
  rfl

theorem next_3 (z : FVec Ideal S1024x1024 .f32) (x : FVec Ideal S1024x1024 .bf16) (y : FVec Ideal S1024x1024 .bf16) (j : S1024x1024.Idx) :
    k0_pay3 (F := Ideal) z x y j = z j + part x y j := next_1 z x y j
theorem next_4 (z : FVec Ideal S1024x1024 .f32) (x : FVec Ideal S1024x1024 .bf16) (y : FVec Ideal S1024x1024 .bf16) (j : S1024x1024.Idx) :
    k0_pay4 (F := Ideal) z x y j = z j + part x y j := next_1 z x y j
theorem next_5 (z : FVec Ideal S1024x1024 .f32) (x : FVec Ideal S1024x1024 .bf16) (y : FVec Ideal S1024x1024 .bf16) (j : S1024x1024.Idx) :
    k0_pay5 (F := Ideal) z x y j = z j + part x y j := next_1 z x y j
theorem next_7 (z : FVec Ideal S1024x1024 .f32) (x : FVec Ideal S1024x1024 .bf16) (y : FVec Ideal S1024x1024 .bf16) (j : S1024x1024.Idx) :
    k0_pay7 (F := Ideal) z x y j = z j + part x y j := next_1 z x y j

theorem next_6 (z : FVec Ideal S1024x1024 .f32) (x : FVec Ideal S1024x128 .bf16) (y : FVec Ideal S128x1024 .bf16) (j : S1024x1024.Idx) :
    k0_pay6 (F := Ideal) z x y j = z j + part' x y j := by
  unfold k0_pay6; rw [shapeCast_self]
  refine congrArg (z j + ·) ?_
  obtain ⟨p, q, rfl⟩ := Tile.pair_of j
  simp only [pointwise]
  rw [Tile.zero_at, zero_add]
  rfl

/-! ## The blocks a grid point reads -/

theorem ix_0 : ∀ t : Fin cfg0.N, win0_0.index t = ![t.val / 11 % 8, min (t.val % 11) 3] := (by decide +kernel : ∀ t : Fin grid0.N, _)
theorem ix_1 : ∀ t : Fin cfg0.N, win0_1.index t = ![t.val / 11 % 8, 0] := (by decide +kernel : ∀ t : Fin grid0.N, _)
theorem ix_2 : ∀ t : Fin cfg0.N, win0_2.index t = ![t.val / 11 % 8, 0] := (by decide +kernel : ∀ t : Fin grid0.N, _)
theorem ix_3 : ∀ t : Fin cfg0.N, win0_3.index t = ![t.val / 11 % 8, 0] := (by decide +kernel : ∀ t : Fin grid0.N, _)
theorem ix_4 : ∀ t : Fin cfg0.N, win0_4.index t = ![t.val / 11 % 8, min (t.val % 11 - 7) 1] := (by decide +kernel : ∀ t : Fin grid0.N, _)
theorem ix_5 : ∀ t : Fin cfg0.N, win0_5.index t = ![t.val / 11 % 8, t.val % 11 - 9] := (by decide +kernel : ∀ t : Fin grid0.N, _)
theorem ix_6 : ∀ t : Fin cfg0.N, win0_6.index t = ![12 + min (t.val % 11) 5, t.val / 88] := (by decide +kernel : ∀ t : Fin grid0.N, _)
theorem ix_7 : ∀ t : Fin cfg0.N, win0_7.index t = ![0, t.val / 88] := (by decide +kernel : ∀ t : Fin grid0.N, _)
theorem ix_8 : ∀ t : Fin cfg0.N, win0_8.index t = ![t.val % 11 - 7, t.val / 88] := (by decide +kernel : ∀ t : Fin grid0.N, _)
theorem ix_9 : ∀ t : Fin cfg0.N, win0_9.index t = ![t.val / 11 % 8, t.val / 88] := (by decide +kernel : ∀ t : Fin grid0.N, _)
theorem ix_10 : ∀ t : Fin cfg0.N, win0_10.index t = ![t.val / 11 % 8, t.val / 88] := (by decide +kernel : ∀ t : Fin grid0.N, _)

theorem lt_N (t : Fin cfg0.N) : t.val < 176 := lt_of_lt_of_eq t.isLt (show cfg0.N = 176 from N_0)

/-- The row of the output an element of a grid point's block lies in. -/
def row (t : Fin cfg0.N) (p : Fin 1024) : Fin 8192 := ⟨t.val / 11 % 8 * 1024 + p.val, by omega⟩
/-- Its column. -/
def col (t : Fin cfg0.N) (q : Fin 1024) : Fin 2048 := ⟨t.val / 88 * 1024 + q.val, by have := lt_N t; omega⟩
/-- The grid point `s` of the run of eleven that writes one block. -/
def pt (t : Fin cfg0.N) (s : Fin 11) : Fin cfg0.N :=
  ⟨11 * (t.val / 11) + s.val, by have h := lt_N t; exact lt_of_lt_of_eq (show _ < 176 by omega) N_0.symm⟩

theorem pt_mod (t : Fin cfg0.N) (s : Fin 11) : (pt t s).val % 11 = s.val := by show (11 * (t.val / 11) + s.val) % 11 = s.val; omega
theorem row_pt (t : Fin cfg0.N) (s : Fin 11) (p : Fin 1024) : row (pt t s) p = row t p :=
  Fin.ext (by show (11 * (t.val / 11) + s.val) / 11 % 8 * 1024 + p.val = t.val / 11 % 8 * 1024 + p.val; omega)
theorem col_pt (t : Fin cfg0.N) (s : Fin 11) (q : Fin 1024) : col (pt t s) q = col t q :=
  Fin.ext (by show (11 * (t.val / 11) + s.val) / 88 * 1024 + q.val = t.val / 88 * 1024 + q.val; omega)

variable (m : (ℓ : Loc nD τ sig) → Buf (Elt Ideal) ℓ) (c : Dev nD)

theorem x_at (t : Fin cfg0.N) (h : t.val % 11 ≤ 3) (p k : Fin 1024) : (iblk m c 0 t : FVec Ideal S1024x1024 .bf16) (ix2 p k)
    = V m c main_arg0 (ix2 (row t p) (⟨t.val % 11 * 1024 + k.val, by omega⟩ : Fin 4096)) := by
  unfold row
  blk_simp [iblk]
  refine congrArg (V m c main_arg0) ?_
  blk_ext [ix_0]

theorem b_at (t : Fin cfg0.N) (p k : Fin 1024) : (iblk m c 1 t : FVec Ideal S1024x1024 .bf16) (ix2 p k)
    = V m c main_arg1 (ix2 (row t p) k) := by
  unfold row
  blk_simp [iblk]
  refine congrArg (V m c main_arg1) ?_
  blk_ext [ix_1]

theorem c_at (t : Fin cfg0.N) (p k : Fin 1024) : (iblk m c 2 t : FVec Ideal S1024x1024 .bf16) (ix2 p k)
    = V m c main_arg2 (ix2 (row t p) k) := by
  unfold row
  blk_simp [iblk]
  refine congrArg (V m c main_arg2) ?_
  blk_ext [ix_2]

theorem dt_at (t : Fin cfg0.N) (p : Fin 1024) (k : Fin 128) : (iblk m c 3 t : FVec Ideal S1024x128 .bf16) (ix2 p k)
    = V m c main_arg3 (ix2 (row t p) k) := by
  unfold row
  blk_simp [iblk]
  refine congrArg (V m c main_arg3) ?_
  blk_ext [ix_3]

theorem hg_at (t : Fin cfg0.N) (h : t.val % 11 ≤ 8) (p k : Fin 1024) : (iblk m c 4 t : FVec Ideal S1024x1024 .bf16) (ix2 p k)
    = V m c main_arg4 (ix2 (row t p) (⟨(t.val % 11 - 7) * 1024 + k.val, by omega⟩ : Fin 2048)) := by
  unfold row
  blk_simp [iblk]
  refine congrArg (V m c main_arg4) ?_
  blk_ext [ix_4]

theorem ssm_at (t : Fin cfg0.N) (p k : Fin 1024) : (iblk m c 5 t : FVec Ideal S1024x1024 .bf16) (ix2 p k)
    = V m c main_arg5 (ix2 (row t p) (⟨(t.val % 11 - 9) * 1024 + k.val, by omega⟩ : Fin 2048)) := by
  unfold row
  blk_simp [iblk]
  refine congrArg (V m c main_arg5) ?_
  blk_ext [ix_5]

theorem w_in_at (t : Fin cfg0.N) (h : t.val % 11 ≤ 5) (k q : Fin 1024) : X0_6 m c t (ix2 k q)
    = V m c main_arg6 (ix2 (⟨12288 + (t.val % 11 * 1024 + k.val), by omega⟩ : Fin 22592) (col t q)) := by
  unfold col X0_6 Pipeline.Window.fill
  rw [dif_pos (moved0_6 t _)]
  blk_simp [iblk]
  refine congrArg (V m c main_arg6) ?_
  blk_ext [ix_6]

theorem w_dt_at (t : Fin cfg0.N) (k : Fin 128) (q : Fin 1024) : (iblk m c 7 t : FVec Ideal S128x1024 .bf16) (ix2 k q)
    = V m c main_arg7 (ix2 k (col t q)) := by
  unfold col
  blk_simp [iblk]
  refine congrArg (V m c main_arg7) ?_
  blk_ext [ix_7]

theorem w_gates_at (t : Fin cfg0.N) (k q : Fin 1024) : (iblk m c 8 t : FVec Ideal S1024x1024 .bf16) (ix2 k q)
    = V m c main_arg8 (ix2 (⟨(t.val % 11 - 7) * 1024 + k.val, by omega⟩ : Fin 4096) (col t q)) := by
  unfold col
  blk_simp [iblk]
  refine congrArg (V m c main_arg8) ?_
  blk_ext [ix_8]

theorem so_far_at (t : Fin cfg0.N) (p q : Fin 1024) : (iblk m c 9 t : FVec Ideal S1024x1024 .f32) (ix2 p q)
    = V m c main_arg9 (ix2 (row t p) (col t q)) := by
  unfold row col
  blk_simp [iblk]
  refine congrArg (V m c main_arg9) ?_
  blk_ext [ix_9]

/-! ## The run of eleven grid points -/

/-- What a run of grid points starts from: the block of the sum so far, at its first point. -/
def start (t : Fin cfg0.N) (j : S1024x1024.Idx) : EReal :=
  if t.val % 11 = 0 then (iblk m c 9 t : FVec Ideal S1024x1024 .f32) j else 0

/-- One grid point's share of an element of its block. -/
def share (t : Fin cfg0.N) (j : S1024x1024.Idx) : EReal :=
  if t.val % 11 ≤ 3 then part (iblk m c 0 t) (X0_6 m c t) j
  else if t.val % 11 = 4 then part (iblk m c 1 t) (X0_6 m c t) j
  else if t.val % 11 = 5 then part (iblk m c 2 t) (X0_6 m c t) j
  else if t.val % 11 = 6 then part' (iblk m c 3 t) (iblk m c 7 t) j
  else if t.val % 11 ≤ 8 then part (iblk m c 4 t) (iblk m c 8 t) j
  else part (iblk m c 5 t) (iblk m c 8 t) j

variable (t : Fin cfg0.N) (j : S1024x1024.Idx)

theorem share_x (h : t.val % 11 ≤ 3) : share m c t j = part (iblk m c 0 t) (X0_6 m c t) j := by
  unfold share; rw [if_pos h]
theorem share_b (h : t.val % 11 = 4) : share m c t j = part (iblk m c 1 t) (X0_6 m c t) j := by
  unfold share; rw [if_neg (by omega), if_pos h]
theorem share_c (h : t.val % 11 = 5) : share m c t j = part (iblk m c 2 t) (X0_6 m c t) j := by
  unfold share; rw [if_neg (by omega), if_neg (by omega), if_pos h]
theorem share_dt (h : t.val % 11 = 6) : share m c t j = part' (iblk m c 3 t) (iblk m c 7 t) j := by
  unfold share; rw [if_neg (by omega), if_neg (by omega), if_neg (by omega), if_pos h]
theorem share_hg (h : 7 ≤ t.val % 11) (h' : t.val % 11 ≤ 8) : share m c t j = part (iblk m c 4 t) (iblk m c 8 t) j := by
  unfold share; rw [if_neg (by omega), if_neg (by omega), if_neg (by omega), if_neg (by omega), if_pos h']
theorem share_ssm (h : 9 ≤ t.val % 11) : share m c t j = part (iblk m c 5 t) (iblk m c 8 t) j := by
  unfold share; rw [if_neg (by omega), if_neg (by omega), if_neg (by omega), if_neg (by omega), if_neg (by omega)]

/-- A point that is not the first of its run adds its share to what the point before left. -/
theorem step (h : ¬ t.val % 11 = 0) : (outsAt0 m c t.val t.isLt).2 j
    = (outsAt0 m c (t.val - 1) (Nat.lt_of_le_of_lt (Nat.sub_le _ _) t.isLt)).2 j + share m c t j := by
  by_cases h1 : t.val % 11 ≤ 3
  · rw [outsAt0_B m c t h h1 (by omega) (by omega) (by omega) (by omega) (by omega) (by omega)]; frame_out
    rw [next_3, share_x m c t j h1]; exact congrArg (· + _) (congrFun (read_unread_whole cc0_scratch0 _ _) j)
  by_cases h2 : t.val % 11 = 4
  · rw [outsAt0_C m c t h h1 h2 (by omega) (by omega) (by omega) (by omega) (by omega)]; frame_out
    rw [next_4, share_b m c t j h2]; exact congrArg (· + _) (congrFun (read_unread_whole cc0_scratch0 _ _) j)
  by_cases h3 : t.val % 11 = 5
  · rw [outsAt0_D m c t h h1 h2 h3 (by omega) (by omega) (by omega) (by omega)]; frame_out
    rw [next_5, share_c m c t j h3]; exact congrArg (· + _) (congrFun (read_unread_whole cc0_scratch0 _ _) j)
  by_cases h4 : t.val % 11 = 6
  · rw [outsAt0_E m c t h h1 h2 h3 h4 (by omega) (by omega) (by omega)]; frame_out
    rw [next_6, share_dt m c t j h4]; exact congrArg (· + _) (congrFun (read_unread_whole cc0_scratch0 _ _) j)
  by_cases h5 : t.val % 11 ≤ 8
  · rw [outsAt0_F m c t h h1 h2 h3 h4 ⟨by omega, h5⟩ (by omega) (by omega)]; frame_out
    rw [next_7, share_hg m c t j (by omega) h5]; exact congrArg (· + _) (congrFun (read_unread_whole cc0_scratch0 _ _) j)
  by_cases h6 : t.val % 11 = 10
  · rw [outsAt0_H m c t h h1 h2 h3 h4 (by omega) (by omega) h6]; frame_out
    rw [next_1, share_ssm m c t j (by omega)]; exact congrArg (· + _) (congrFun (read_unread_whole cc0_scratch0 _ _) j)
  · rw [outsAt0_G m c t h h1 h2 h3 h4 (by omega) (by omega) h6]; frame_out
    rw [next_1, share_ssm m c t j (by omega)]; exact congrArg (· + _) (congrFun (read_unread_whole cc0_scratch0 _ _) j)

theorem acc_eq (h : t.val % 11 = 10) : (outsAt0 m c t.val t.isLt).2 j
    = 0 + ∑ s : Fin 11, (start m c (pt t s) j + share m c (pt t s) j) :=
  Pipeline.eq_sum_fin_of_reset_step_apply_of_flush (fun n h => (outsAt0 m c n h).2) 11 (fun _ => (0 : EReal))
    (fun t j => start m c t j + share m c t j)
    (fun t h j => by
      rw [outsAt0_A m c t h (by omega) (by omega) (by omega) (by omega) (by omega) (by omega) (by omega)]; frame_out
      rw [next_3, start_at, share_x m c t j (by omega), zero_add]; unfold start; rw [if_pos h])
    (fun t h j => by
      unfold start; rw [if_neg h, zero_add]; exact step m c t j h) t h j

theorem out_eq (h : t.val % 11 = 10) : (outsAt0 m c t.val t.isLt).1 j = (outsAt0 m c t.val t.isLt).2 j := by
  rw [outsAt0_H m c t (by omega) (by omega) (by omega) (by omega) (by omega) (by omega) (by omega) h]
  frame_out

/-- The eleven terms in the order of the weights. -/
theorem split (f : Fin 11 → EReal) : ∑ s, f s
    = ∑ s : Fin 6, f ⟨s.val, by omega⟩ + (f 6 + ∑ s : Fin 4, f ⟨7 + s.val, by omega⟩) := by
  simp only [Fin.sum_univ_succ, Finset.univ_eq_empty, Finset.sum_empty, add_zero]
  simp only [add_assoc]
  rfl

/-! ## The reference's operands put together -/

open Reference32Ideal.Read

theorem cols_x (x0 : FVec Ideal Reference32Ideal.S8192x4096 .bf16) (x1 x2 : FVec Ideal Reference32Ideal.S8192x1024 .bf16) (r : Fin 8192) (k : Fin 6144)
    (h : k.val < 4096) : val_main_v11 (F := Ideal) x0 x1 x2 (ix2 r k) = x0 (ix2 r ⟨k.val, h⟩) := by
  unfold val_main_v11
  refine concatenate_apply_piece (t := Reference32Ideal.S8192x6144) 1
    [⟨Reference32Ideal.S8192x4096, val_main_v8 (F := Ideal) x0⟩, ⟨Reference32Ideal.S8192x1024, val_main_v9 (F := Ideal) x1⟩, ⟨Reference32Ideal.S8192x1024, val_main_v10 (F := Ideal) x2⟩]
    _ (ix2 r k) 0 (by simp) Reference32Ideal.S8192x4096 _ rfl rfl 0 rfl (ix2 r ⟨k.val, h⟩) (fun b hb => ?_) ?_
  · match b with
    | ⟨0, _⟩ => rfl
    | ⟨1, _⟩ => exact absurd rfl hb
  · exact Nat.zero_add _

theorem cols_b (x0 : FVec Ideal Reference32Ideal.S8192x4096 .bf16) (x1 x2 : FVec Ideal Reference32Ideal.S8192x1024 .bf16) (r : Fin 8192) (k : Fin 6144)
    (l : Fin 1024) (h : 4096 + l.val = k.val) : val_main_v11 (F := Ideal) x0 x1 x2 (ix2 r k) = x1 (ix2 r l) := by
  unfold val_main_v11
  refine concatenate_apply_piece (t := Reference32Ideal.S8192x6144) 1
    [⟨Reference32Ideal.S8192x4096, val_main_v8 (F := Ideal) x0⟩, ⟨Reference32Ideal.S8192x1024, val_main_v9 (F := Ideal) x1⟩, ⟨Reference32Ideal.S8192x1024, val_main_v10 (F := Ideal) x2⟩]
    _ (ix2 r k) 1 (by simp) Reference32Ideal.S8192x1024 _ rfl rfl 4096 rfl (ix2 r l) (fun b hb => ?_) h
  match b with
  | ⟨0, _⟩ => rfl
  | ⟨1, _⟩ => exact absurd rfl hb

theorem cols_c (x0 : FVec Ideal Reference32Ideal.S8192x4096 .bf16) (x1 x2 : FVec Ideal Reference32Ideal.S8192x1024 .bf16) (r : Fin 8192) (k : Fin 6144)
    (l : Fin 1024) (h : 5120 + l.val = k.val) : val_main_v11 (F := Ideal) x0 x1 x2 (ix2 r k) = x2 (ix2 r l) := by
  unfold val_main_v11
  refine concatenate_apply_piece (t := Reference32Ideal.S8192x6144) 1
    [⟨Reference32Ideal.S8192x4096, val_main_v8 (F := Ideal) x0⟩, ⟨Reference32Ideal.S8192x1024, val_main_v9 (F := Ideal) x1⟩, ⟨Reference32Ideal.S8192x1024, val_main_v10 (F := Ideal) x2⟩]
    _ (ix2 r k) 2 (by simp) Reference32Ideal.S8192x1024 _ rfl rfl 5120 rfl (ix2 r l) (fun b hb => ?_) h
  match b with
  | ⟨0, _⟩ => rfl
  | ⟨1, _⟩ => exact absurd rfl hb

theorem cols_hg (x4 x5 : FVec Ideal Reference32Ideal.S8192x2048 .bf16) (r : Fin 8192) (k : Fin 4096) (l : Fin 2048) (h : l.val = k.val) :
    val_main_v15 (F := Ideal) x4 x5 (ix2 r k) = x4 (ix2 r l) := by
  unfold val_main_v15
  refine concatenate_apply_piece (t := Reference32Ideal.S8192x4096) 1
    [⟨Reference32Ideal.S8192x2048, val_main_v13 (F := Ideal) x4⟩, ⟨Reference32Ideal.S8192x2048, val_main_v14 (F := Ideal) x5⟩]
    _ (ix2 r k) 0 (by simp) Reference32Ideal.S8192x2048 _ rfl rfl 0 rfl (ix2 r l) (fun b hb => ?_)
    ((Nat.zero_add _).trans h)
  match b with
  | ⟨0, _⟩ => rfl
  | ⟨1, _⟩ => exact absurd rfl hb

theorem cols_ssm (x4 x5 : FVec Ideal Reference32Ideal.S8192x2048 .bf16) (r : Fin 8192) (k : Fin 4096) (l : Fin 2048) (h : 2048 + l.val = k.val) :
    val_main_v15 (F := Ideal) x4 x5 (ix2 r k) = x5 (ix2 r l) := by
  unfold val_main_v15
  refine concatenate_apply_piece (t := Reference32Ideal.S8192x4096) 1
    [⟨Reference32Ideal.S8192x2048, val_main_v13 (F := Ideal) x4⟩, ⟨Reference32Ideal.S8192x2048, val_main_v14 (F := Ideal) x5⟩]
    _ (ix2 r k) 1 (by simp) Reference32Ideal.S8192x2048 _ rfl rfl 2048 rfl (ix2 r l) (fun b hb => ?_) h
  match b with
  | ⟨0, _⟩ => rfl
  | ⟨1, _⟩ => exact absurd rfl hb

theorem l16 (r : Fin 8192) (q : Fin 2048) (k : Fin 4096) : lidx_main_v16 (ix2 r q) k = ix2 r k := by
  funext d; match d with | ⟨0, _⟩ => rfl | ⟨1, _⟩ => rfl
theorem r16 (r : Fin 8192) (q : Fin 2048) (k : Fin 4096) : ridx_main_v16 (ix2 r q) k = ix2 k q := by
  funext d; match d with | ⟨0, _⟩ => rfl | ⟨1, _⟩ => rfl
theorem l17 (r : Fin 8192) (q : Fin 2048) (k : Fin 128) : lidx_main_v17 (ix2 r q) k = ix2 r k := by
  funext d; match d with | ⟨0, _⟩ => rfl | ⟨1, _⟩ => rfl
theorem r17 (r : Fin 8192) (q : Fin 2048) (k : Fin 128) : ridx_main_v17 (ix2 r q) k = ix2 k q := by
  funext d; match d with | ⟨0, _⟩ => rfl | ⟨1, _⟩ => rfl
theorem l19 (r : Fin 8192) (q : Fin 2048) (k : Fin 6144) : lidx_main_v19 (ix2 r q) k = ix2 r k := by
  funext d; match d with | ⟨0, _⟩ => rfl | ⟨1, _⟩ => rfl
theorem r19 (r : Fin 8192) (q : Fin 2048) (k : Fin 6144) : ridx_main_v19 (ix2 r q) k = ix2 k q := by
  funext d; match d with | ⟨0, _⟩ => rfl | ⟨1, _⟩ => rfl

/-! ## The three weights -/

variable (p q : Fin 1024)

theorem in_eq : ∑ s : Fin 6, share m c (pt t ⟨s.val, by omega⟩) (ix2 p q)
    = val_main_v19 (F := Ideal) (V m c main_arg0) (V m c main_arg1) (V m c main_arg2) (V m c main_arg6) (ix2 (row t p) (col t q)) := by
  rw [val_main_v19_apply]
  have hw (s : Fin 6) (k : Fin 1024) (l : Fin 6144) (hl : l.val = s.val * 1024 + k.val) :
      X0_6 m c (pt t ⟨s.val, by omega⟩) (ix2 k q) = val_main_v2 (F := Ideal) (V m c main_arg6) (ridx_main_v19 (ix2 (row t p) (col t q)) l) := by
    have e := pt_mod t ⟨s.val, by omega⟩
    rw [w_in_at m c _ (by rw [e]; show s.val ≤ 5; omega), r19, col_pt]
    refine Eq.trans ?_ (val_main_v1_apply _ _).symm
    refine congrArg (V m c main_arg6) ?_
    funext d
    match d with
    | ⟨0, _⟩ => exact Fin.ext (by show 12288 + (_ % 11 * 1024 + k.val) = 12288 + l.val; rw [e]; show 12288 + (s.val * 1024 + k.val) = _; omega)
    | ⟨1, _⟩ => rfl
  have hs (s : Fin 6) : share m c (pt t ⟨s.val, by omega⟩) (ix2 p q) = ∑ k : Fin 1024,
      val_main_v11 (F := Ideal) (V m c main_arg0) (V m c main_arg1) (V m c main_arg2) (lidx_main_v19 (ix2 (row t p) (col t q)) ⟨s.val * 1024 + k.val, by omega⟩)
        * val_main_v2 (F := Ideal) (V m c main_arg6) (ridx_main_v19 (ix2 (row t p) (col t q)) ⟨s.val * 1024 + k.val, by omega⟩) := by
    have e := pt_mod t ⟨s.val, by omega⟩
    have e' : (pt t ⟨s.val, by omega⟩).val % 11 = s.val := e
    by_cases h1 : s.val ≤ 3
    · rw [share_x m c _ _ (by omega)]
      refine Finset.sum_congr rfl fun k _ => congrArg₂ (· * ·) ?_ (hw s k _ rfl)
      refine (x_at m c _ (by omega) p k).trans ?_
      rw [l19, cols_x _ _ _ _ _ (by show s.val * 1024 + k.val < 4096; omega), row_pt]
      exact congrArg (fun z => V m c main_arg0 (ix2 (row t p) z)) (Fin.ext (by show _ % 11 * 1024 + k.val = s.val * 1024 + k.val; omega))
    by_cases h2 : s.val = 4
    · rw [share_b m c _ _ (by omega)]
      refine Finset.sum_congr rfl fun k _ => congrArg₂ (· * ·) ?_ (hw s k _ rfl)
      refine (b_at m c _ p k).trans ?_
      rw [l19, cols_b _ _ _ _ _ k (by show 4096 + k.val = s.val * 1024 + k.val; omega), row_pt]
    · rw [share_c m c _ _ (by omega)]
      refine Finset.sum_congr rfl fun k _ => congrArg₂ (· * ·) ?_ (hw s k _ rfl)
      refine (c_at m c _ p k).trans ?_
      rw [l19, cols_c _ _ _ _ _ k (by show 5120 + k.val = s.val * 1024 + k.val; omega), row_pt]
  rw [Finset.sum_congr rfl fun s _ => hs s]
  refine Fin.sum_mul_add_congr fun s k hl => ?_
  rfl

theorem dt_eq : share m c (pt t 6) (ix2 p q)
    = val_main_v17 (F := Ideal) (V m c main_arg3) (V m c main_arg7) (ix2 (row t p) (col t q)) := by
  rw [val_main_v17_apply, share_dt m c _ _ (pt_mod t 6)]
  refine Finset.sum_congr rfl fun k _ => congrArg₂ (· * ·) ?_ ?_
  · rw [l17]; exact (dt_at m c _ p k).trans (by rw [row_pt]; rfl)
  · rw [r17]; exact (w_dt_at m c _ k q).trans (by rw [col_pt]; rfl)

theorem gates_eq : ∑ s : Fin 4, share m c (pt t ⟨7 + s.val, by omega⟩) (ix2 p q)
    = val_main_v16 (F := Ideal) (V m c main_arg4) (V m c main_arg5) (V m c main_arg8) (ix2 (row t p) (col t q)) := by
  rw [val_main_v16_apply]
  have hw (s : Fin 4) (k : Fin 1024) (l : Fin 4096) (hl : l.val = s.val * 1024 + k.val) :
      (iblk m c 8 (pt t ⟨7 + s.val, by omega⟩) : FVec Ideal S1024x1024 .bf16) (ix2 k q)
        = val_main_v6 (F := Ideal) (V m c main_arg8) (ridx_main_v16 (ix2 (row t p) (col t q)) l) := by
    have e : (pt t ⟨7 + s.val, by omega⟩).val % 11 = 7 + s.val := pt_mod t ⟨7 + s.val, by omega⟩
    rw [r16]
    refine (w_gates_at m c _ k q).trans ?_
    rw [col_pt]
    exact congrArg (fun z => V m c main_arg8 (ix2 z (col t q))) (Fin.ext (by show (_ % 11 - 7) * 1024 + k.val = l.val; rw [e, hl]; omega))
  have hs (s : Fin 4) : share m c (pt t ⟨7 + s.val, by omega⟩) (ix2 p q) = ∑ k : Fin 1024,
      val_main_v15 (F := Ideal) (V m c main_arg4) (V m c main_arg5) (lidx_main_v16 (ix2 (row t p) (col t q)) ⟨s.val * 1024 + k.val, by omega⟩)
        * val_main_v6 (F := Ideal) (V m c main_arg8) (ridx_main_v16 (ix2 (row t p) (col t q)) ⟨s.val * 1024 + k.val, by omega⟩) := by
    have e : (pt t ⟨7 + s.val, by omega⟩).val % 11 = 7 + s.val := pt_mod t ⟨7 + s.val, by omega⟩
    by_cases h1 : s.val ≤ 1
    · rw [share_hg m c _ _ (by omega) (by omega)]
      refine Finset.sum_congr rfl fun k _ => congrArg₂ (· * ·) ?_ (hw s k _ rfl)
      refine (hg_at m c _ (by omega) p k).trans ?_
      rw [l16, row_pt]
      exact (cols_hg _ _ _ _ _ (by show (_ % 11 - 7) * 1024 + k.val = s.val * 1024 + k.val; rw [e]; omega)).symm
    · rw [share_ssm m c _ _ (by omega)]
      refine Finset.sum_congr rfl fun k _ => congrArg₂ (· * ·) ?_ (hw s k _ rfl)
      refine (ssm_at m c _ p k).trans ?_
      rw [l16, row_pt]
      exact (cols_ssm _ _ _ _ _ (by show 2048 + ((_ % 11 - 9) * 1024 + k.val) = s.val * 1024 + k.val; rw [e]; omega)).symm
  rw [Finset.sum_congr rfl fun s _ => hs s]
  refine Fin.sum_mul_add_congr fun s k hl => ?_
  rfl

theorem start_eq : ∑ s : Fin 11, start m c (pt t s) (ix2 p q) = V m c main_arg9 (ix2 (row t p) (col t q)) := by
  refine (Finset.sum_eq_single (0 : Fin 11)
    (fun s _ hs => (if_neg (by rw [pt_mod]; exact fun h => hs (Fin.ext h)) : start m c (pt t s) (ix2 p q) = 0))
    (fun h => absurd (Finset.mem_univ _) h)).trans ?_
  rw [if_pos (show (pt t 0).val % 11 = 0 from pt_mod t 0), so_far_at, row_pt, col_pt]

theorem emb_eq : (win0_10.blk t).view.emb (ix2 p q) = ix2 (row t p) (col t q) := by
  unfold row col
  blk_ext [ix_10]

theorem final : (dats m 0 c).arrAt 10 cfg0.N
    = Reference32Ideal.Read.val_main_v21 (F := Ideal) (V m c main_arg0) (V m c main_arg1) (V m c main_arg2) (V m c main_arg3) (V m c main_arg4) (V m c main_arg5) (V m c main_arg6) (V m c main_arg7) (V m c main_arg8) (V m c main_arg9) := by
  refine (dats m 0 c).arrAt_eq_of_covers 10 _ (by decide +kernel) fun t hf y => ?_
  have h := (flush0_10 t).mp hf
  blk_simp
  obtain ⟨p, q, rfl⟩ := Tile.pair_of y
  rw [after0_10, out_eq m c t _ h, acc_eq m c t _ h, Finset.sum_add_distrib, start_eq, split, in_eq, dt_eq, gates_eq, zero_add]
  refine Eq.symm ((congrArg _ (emb_eq t p q)).trans ?_)
  refine congrArg (fun z : EReal => (show EReal from V m c main_arg9 (ix2 (row t p) (col t q))) + z) ?_
  exact (congrArg (· + _) (add_comm _ _)).trans (add_comm _ _)

/-- A run leaves the result at the array named in `final` and the arguments as they were. -/
theorem run_blocks (ρ : Dev nD → PrngReg) : θ_run defs (onTc (τ := τ) (main (F := Ideal))) ⟨m, fun _ => 0, ρ⟩ fun r => ∀ c : Dev nD,
      r.2.mem ((c : Thread nD τ).loc main_v0) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1 10,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩)
    (run_main m ρ)

theorem frame_kernel : Cert.quiescent_Kernel32 := fun m ρ _ => Cert.Kernel32.Gen.frame m ρ

theorem frame_ideal : Cert.quiescent_Kernel32Ideal := fun m ρ _ => Cert.Kernel32Ideal.Gen.frame m ρ

theorem frame_reference : Cert.quiescent_Reference32Ideal := fun m ρ _ =>
  (θ_run _ _ _).mono (fun _ h => ⟨fun c => (h c).2, sem_eq_zero_of_no_sems rfl _⟩) (Cert.Reference32Ideal.Value.run m ρ)

/-- Both programs leave the reference's product in the result. -/
theorem equal_results : Cert.algebraic_Kernel32Ideal_Reference32Ideal := by
  intro m g m' g' _ hargs
  refine ⟨fun c => Reference32Ideal.Read.val_main_v21 (F := Ideal) (V m c main_arg0) (V m c main_arg1) (V m c main_arg2) (V m c main_arg3) (V m c main_arg4) (V m c main_arg5) (V m c main_arg6) (V m c main_arg7) (V m c main_arg8) (V m c main_arg9), ?_, ?_⟩
  · exact (θ_run _ _ _).mono (fun r h c => ⟨(h c).1.trans (final m c), (h c).2⟩) (run_blocks m g)
  · refine (θ_run _ _ _).mono (fun r h c => ⟨(h c).1.trans ((Reference32Ideal.Read.val_main_v21_eq _ _ _ _ _ _ _ _ _ _).trans ?_), (h c).2⟩) (Cert.Reference32Ideal.Value.run m' g')
    have a0 : m' ((c.tc : Thread Cert.Reference32Ideal.nD Cert.Reference32Ideal.τ).loc Cert.Reference32Ideal.main_arg0) = V m c main_arg0 := (hargs c).1
    have a1 : m' ((c.tc : Thread Cert.Reference32Ideal.nD Cert.Reference32Ideal.τ).loc Cert.Reference32Ideal.main_arg1) = V m c main_arg1 := (hargs c).2.1
    have a2 : m' ((c.tc : Thread Cert.Reference32Ideal.nD Cert.Reference32Ideal.τ).loc Cert.Reference32Ideal.main_arg2) = V m c main_arg2 := (hargs c).2.2.1
    have a3 : m' ((c.tc : Thread Cert.Reference32Ideal.nD Cert.Reference32Ideal.τ).loc Cert.Reference32Ideal.main_arg3) = V m c main_arg3 := (hargs c).2.2.2.1
    have a4 : m' ((c.tc : Thread Cert.Reference32Ideal.nD Cert.Reference32Ideal.τ).loc Cert.Reference32Ideal.main_arg4) = V m c main_arg4 := (hargs c).2.2.2.2.1
    have a5 : m' ((c.tc : Thread Cert.Reference32Ideal.nD Cert.Reference32Ideal.τ).loc Cert.Reference32Ideal.main_arg5) = V m c main_arg5 := (hargs c).2.2.2.2.2.1
    have a6 : m' ((c.tc : Thread Cert.Reference32Ideal.nD Cert.Reference32Ideal.τ).loc Cert.Reference32Ideal.main_arg6) = V m c main_arg6 := (hargs c).2.2.2.2.2.2.1
    have a7 : m' ((c.tc : Thread Cert.Reference32Ideal.nD Cert.Reference32Ideal.τ).loc Cert.Reference32Ideal.main_arg7) = V m c main_arg7 := (hargs c).2.2.2.2.2.2.2.1
    have a8 : m' ((c.tc : Thread Cert.Reference32Ideal.nD Cert.Reference32Ideal.τ).loc Cert.Reference32Ideal.main_arg8) = V m c main_arg8 := (hargs c).2.2.2.2.2.2.2.2.1
    have a9 : m' ((c.tc : Thread Cert.Reference32Ideal.nD Cert.Reference32Ideal.τ).loc Cert.Reference32Ideal.main_arg9) = V m c main_arg9 := (hargs c).2.2.2.2.2.2.2.2.2
    rw [a0, a1, a2, a3, a4, a5, a6, a7, a8, a9]

end Cert.Proof.DHB

end
-- ==== Proof.AdamWIn.lean ====
/- The AdamW step of the input weight: the update and the two new moments, element by element. -/
module

public import proofs.«01_k».proof.Defs
public import proofs.«01_k».proof.Proof.Gen.Kernel33Ideal.Value
public import proofs.«01_k».proof.Proof.Gen.Reference33Ideal.Run
public import proofs.«01_k».proof.Proof.Gen.Reference33Ideal.Read
public import proofs.«01_k».proof.Proof.Gen.Kernel33.Frame
public import Idealize.ShloMosaic.Lib.Quiescent

@[expose] public section

noncomputable section

namespace Cert.Proof.AdamWIn

open Idealize.ShloMosaic Idealize.ShloMosaic.TcCoe Idealize.SL.Sem Cert.Kernel33Ideal Cert.Kernel33Ideal.Gen
open Cert.Reference33Ideal.Read (val_main_v4 val_main_v10 val_main_v23 val_main_v4_eq val_main_v10_eq val_main_v23_eq)

variable (m : (ℓ : Loc nD τ sig) → Buf (Elt Ideal) ℓ) (c : Dev nD)

/-- The update of the weight. -/
theorem final_delta : (dats m 0 c).arrAt 4 cfg0.N = val_main_v23 (F := Ideal) (m ((c : Thread nD τ).loc main_arg0)) (m ((c : Thread nD τ).loc main_arg1))
    (m ((c : Thread nD τ).loc main_arg2)) (m ((c : Thread nD τ).loc main_arg3)) :=
  (Cert.Kernel33Ideal.Value.final4 m c).trans (funext fun _ => rfl)

/-- The new first moment. -/
theorem final_m : (dats m 0 c).arrAt 5 cfg0.N = val_main_v4 (F := Ideal) (m ((c : Thread nD τ).loc main_arg1)) (m ((c : Thread nD τ).loc main_arg2)) :=
  (Cert.Kernel33Ideal.Value.final5 m c).trans (funext fun _ => rfl)

/-- The new second moment. -/
theorem final_v : (dats m 0 c).arrAt 6 cfg0.N = val_main_v10 (F := Ideal) (m ((c : Thread nD τ).loc main_arg1)) (m ((c : Thread nD τ).loc main_arg3)) :=
  (Cert.Kernel33Ideal.Value.final6 m c).trans (funext fun _ => rfl)

theorem frame_kernel : Cert.quiescent_Kernel33 := fun m ρ _ => Cert.Kernel33.Gen.frame m ρ

theorem frame_ideal : Cert.quiescent_Kernel33Ideal := fun m ρ _ => Cert.Kernel33Ideal.Gen.frame m ρ

theorem frame_reference : Cert.quiescent_Reference33Ideal := fun m ρ _ =>
  (θ_run _ _ _).mono (fun _ h => ⟨fun c => (h c).2.2.2, sem_eq_zero_of_no_sems rfl _⟩) (Cert.Reference33Ideal.Value.run m ρ)

/-- Both programs leave the same three arrays. -/
theorem equal_results : Cert.algebraic_Kernel33Ideal_Reference33Ideal := by
  intro m g m' g' _ hargs
  refine ⟨fun c => val_main_v23 (F := Ideal) (m ((c : Thread nD τ).loc main_arg0)) (m ((c : Thread nD τ).loc main_arg1))
      (m ((c : Thread nD τ).loc main_arg2)) (m ((c : Thread nD τ).loc main_arg3)),
    fun c => val_main_v4 (F := Ideal) (m ((c : Thread nD τ).loc main_arg1)) (m ((c : Thread nD τ).loc main_arg2)),
    fun c => val_main_v10 (F := Ideal) (m ((c : Thread nD τ).loc main_arg1)) (m ((c : Thread nD τ).loc main_arg3)), ?_, ?_⟩
  · exact (θ_run _ _ _).mono (fun r h c => ⟨(h c).1.trans (final_delta m c), (h c).2.1.trans (final_m m c), (h c).2.2.1.trans (final_v m c),
      (h c).2.2.2⟩) (Cert.Kernel33Ideal.Value.run_blocks m g)
  · refine (θ_run _ _ _).mono (fun r h c => ⟨(h c).1.trans ((val_main_v23_eq _ _ _ _).trans ?_),
      (h c).2.1.trans ((val_main_v4_eq _ _).trans ?_), (h c).2.2.1.trans ((val_main_v10_eq _ _).trans ?_), (h c).2.2.2⟩)
      (Cert.Reference33Ideal.Value.run m' g')
    · rw [(hargs c).1, (hargs c).2.1, (hargs c).2.2.1, (hargs c).2.2.2]
    · rw [(hargs c).2.1, (hargs c).2.2.1]
    · rw [(hargs c).2.1, (hargs c).2.2.2]

end Cert.Proof.AdamWIn

end
-- ==== Proof.AdamWBranchHg.lean ====
/- The AdamW step of the recurrence's branch weight: the update and the two new moments, element by element. -/
module

public import proofs.«01_k».proof.Defs
public import proofs.«01_k».proof.Proof.Gen.Kernel34Ideal.Value
public import proofs.«01_k».proof.Proof.Gen.Reference34Ideal.Run
public import proofs.«01_k».proof.Proof.Gen.Reference34Ideal.Read
public import proofs.«01_k».proof.Proof.Gen.Kernel34.Frame
public import Idealize.ShloMosaic.Lib.Quiescent

@[expose] public section

noncomputable section

namespace Cert.Proof.AdamWBranchHg

open Idealize.ShloMosaic Idealize.ShloMosaic.TcCoe Idealize.SL.Sem Cert.Kernel34Ideal Cert.Kernel34Ideal.Gen
open Cert.Reference34Ideal.Read (val_main_v4 val_main_v10 val_main_v23 val_main_v4_eq val_main_v10_eq val_main_v23_eq)

variable (m : (ℓ : Loc nD τ sig) → Buf (Elt Ideal) ℓ) (c : Dev nD)

/-- The update of the weight. -/
theorem final_delta : (dats m 0 c).arrAt 4 cfg0.N = val_main_v23 (F := Ideal) (m ((c : Thread nD τ).loc main_arg0)) (m ((c : Thread nD τ).loc main_arg1))
    (m ((c : Thread nD τ).loc main_arg2)) (m ((c : Thread nD τ).loc main_arg3)) :=
  (Cert.Kernel34Ideal.Value.final4 m c).trans (funext fun _ => rfl)

/-- The new first moment. -/
theorem final_m : (dats m 0 c).arrAt 5 cfg0.N = val_main_v4 (F := Ideal) (m ((c : Thread nD τ).loc main_arg1)) (m ((c : Thread nD τ).loc main_arg2)) :=
  (Cert.Kernel34Ideal.Value.final5 m c).trans (funext fun _ => rfl)

/-- The new second moment. -/
theorem final_v : (dats m 0 c).arrAt 6 cfg0.N = val_main_v10 (F := Ideal) (m ((c : Thread nD τ).loc main_arg1)) (m ((c : Thread nD τ).loc main_arg3)) :=
  (Cert.Kernel34Ideal.Value.final6 m c).trans (funext fun _ => rfl)

theorem frame_kernel : Cert.quiescent_Kernel34 := fun m ρ _ => Cert.Kernel34.Gen.frame m ρ

theorem frame_ideal : Cert.quiescent_Kernel34Ideal := fun m ρ _ => Cert.Kernel34Ideal.Gen.frame m ρ

theorem frame_reference : Cert.quiescent_Reference34Ideal := fun m ρ _ =>
  (θ_run _ _ _).mono (fun _ h => ⟨fun c => (h c).2.2.2, sem_eq_zero_of_no_sems rfl _⟩) (Cert.Reference34Ideal.Value.run m ρ)

/-- Both programs leave the same three arrays. -/
theorem equal_results : Cert.algebraic_Kernel34Ideal_Reference34Ideal := by
  intro m g m' g' _ hargs
  refine ⟨fun c => val_main_v23 (F := Ideal) (m ((c : Thread nD τ).loc main_arg0)) (m ((c : Thread nD τ).loc main_arg1))
      (m ((c : Thread nD τ).loc main_arg2)) (m ((c : Thread nD τ).loc main_arg3)),
    fun c => val_main_v4 (F := Ideal) (m ((c : Thread nD τ).loc main_arg1)) (m ((c : Thread nD τ).loc main_arg2)),
    fun c => val_main_v10 (F := Ideal) (m ((c : Thread nD τ).loc main_arg1)) (m ((c : Thread nD τ).loc main_arg3)), ?_, ?_⟩
  · exact (θ_run _ _ _).mono (fun r h c => ⟨(h c).1.trans (final_delta m c), (h c).2.1.trans (final_m m c), (h c).2.2.1.trans (final_v m c),
      (h c).2.2.2⟩) (Cert.Kernel34Ideal.Value.run_blocks m g)
  · refine (θ_run _ _ _).mono (fun r h c => ⟨(h c).1.trans ((val_main_v23_eq _ _ _ _).trans ?_),
      (h c).2.1.trans ((val_main_v4_eq _ _).trans ?_), (h c).2.2.1.trans ((val_main_v10_eq _ _).trans ?_), (h c).2.2.2⟩)
      (Cert.Reference34Ideal.Value.run m' g')
    · rw [(hargs c).1, (hargs c).2.1, (hargs c).2.2.1, (hargs c).2.2.2]
    · rw [(hargs c).2.1, (hargs c).2.2.1]
    · rw [(hargs c).2.1, (hargs c).2.2.2]

end Cert.Proof.AdamWBranchHg

end
-- ==== Proof.AdamWBranchSsm.lean ====
/- The AdamW step of the state space branch weight: the update and the two new moments, element by element. -/
module

public import proofs.«01_k».proof.Defs
public import proofs.«01_k».proof.Proof.Gen.Kernel35Ideal.Value
public import proofs.«01_k».proof.Proof.Gen.Reference35Ideal.Run
public import proofs.«01_k».proof.Proof.Gen.Reference35Ideal.Read
public import proofs.«01_k».proof.Proof.Gen.Kernel35.Frame
public import Idealize.ShloMosaic.Lib.Quiescent

@[expose] public section

noncomputable section

namespace Cert.Proof.AdamWBranchSsm

open Idealize.ShloMosaic Idealize.ShloMosaic.TcCoe Idealize.SL.Sem Cert.Kernel35Ideal Cert.Kernel35Ideal.Gen
open Cert.Reference35Ideal.Read (val_main_v4 val_main_v10 val_main_v23 val_main_v4_eq val_main_v10_eq val_main_v23_eq)

variable (m : (ℓ : Loc nD τ sig) → Buf (Elt Ideal) ℓ) (c : Dev nD)

/-- The update of the weight. -/
theorem final_delta : (dats m 0 c).arrAt 4 cfg0.N = val_main_v23 (F := Ideal) (m ((c : Thread nD τ).loc main_arg0)) (m ((c : Thread nD τ).loc main_arg1))
    (m ((c : Thread nD τ).loc main_arg2)) (m ((c : Thread nD τ).loc main_arg3)) :=
  (Cert.Kernel35Ideal.Value.final4 m c).trans (funext fun _ => rfl)

/-- The new first moment. -/
theorem final_m : (dats m 0 c).arrAt 5 cfg0.N = val_main_v4 (F := Ideal) (m ((c : Thread nD τ).loc main_arg1)) (m ((c : Thread nD τ).loc main_arg2)) :=
  (Cert.Kernel35Ideal.Value.final5 m c).trans (funext fun _ => rfl)

/-- The new second moment. -/
theorem final_v : (dats m 0 c).arrAt 6 cfg0.N = val_main_v10 (F := Ideal) (m ((c : Thread nD τ).loc main_arg1)) (m ((c : Thread nD τ).loc main_arg3)) :=
  (Cert.Kernel35Ideal.Value.final6 m c).trans (funext fun _ => rfl)

theorem frame_kernel : Cert.quiescent_Kernel35 := fun m ρ _ => Cert.Kernel35.Gen.frame m ρ

theorem frame_ideal : Cert.quiescent_Kernel35Ideal := fun m ρ _ => Cert.Kernel35Ideal.Gen.frame m ρ

theorem frame_reference : Cert.quiescent_Reference35Ideal := fun m ρ _ =>
  (θ_run _ _ _).mono (fun _ h => ⟨fun c => (h c).2.2.2, sem_eq_zero_of_no_sems rfl _⟩) (Cert.Reference35Ideal.Value.run m ρ)

/-- Both programs leave the same three arrays. -/
theorem equal_results : Cert.algebraic_Kernel35Ideal_Reference35Ideal := by
  intro m g m' g' _ hargs
  refine ⟨fun c => val_main_v23 (F := Ideal) (m ((c : Thread nD τ).loc main_arg0)) (m ((c : Thread nD τ).loc main_arg1))
      (m ((c : Thread nD τ).loc main_arg2)) (m ((c : Thread nD τ).loc main_arg3)),
    fun c => val_main_v4 (F := Ideal) (m ((c : Thread nD τ).loc main_arg1)) (m ((c : Thread nD τ).loc main_arg2)),
    fun c => val_main_v10 (F := Ideal) (m ((c : Thread nD τ).loc main_arg1)) (m ((c : Thread nD τ).loc main_arg3)), ?_, ?_⟩
  · exact (θ_run _ _ _).mono (fun r h c => ⟨(h c).1.trans (final_delta m c), (h c).2.1.trans (final_m m c), (h c).2.2.1.trans (final_v m c),
      (h c).2.2.2⟩) (Cert.Kernel35Ideal.Value.run_blocks m g)
  · refine (θ_run _ _ _).mono (fun r h c => ⟨(h c).1.trans ((val_main_v23_eq _ _ _ _).trans ?_),
      (h c).2.1.trans ((val_main_v4_eq _ _).trans ?_), (h c).2.2.1.trans ((val_main_v10_eq _ _).trans ?_), (h c).2.2.2⟩)
      (Cert.Reference35Ideal.Value.run m' g')
    · rw [(hargs c).1, (hargs c).2.1, (hargs c).2.2.1, (hargs c).2.2.2]
    · rw [(hargs c).2.1, (hargs c).2.2.1]
    · rw [(hargs c).2.1, (hargs c).2.2.2]

end Cert.Proof.AdamWBranchSsm

end
-- ==== Proof.AdamWOut.lean ====
/- The AdamW step of the mixer's output weight: the update and the two new moments, element by element. -/
module

public import proofs.«01_k».proof.Defs
public import proofs.«01_k».proof.Proof.Gen.Kernel36Ideal.Value
public import proofs.«01_k».proof.Proof.Gen.Reference36Ideal.Run
public import proofs.«01_k».proof.Proof.Gen.Reference36Ideal.Read
public import proofs.«01_k».proof.Proof.Gen.Kernel36.Frame
public import Idealize.ShloMosaic.Lib.Quiescent

@[expose] public section

noncomputable section

namespace Cert.Proof.AdamWOut

open Idealize.ShloMosaic Idealize.ShloMosaic.TcCoe Idealize.SL.Sem Cert.Kernel36Ideal Cert.Kernel36Ideal.Gen
open Cert.Reference36Ideal.Read (val_main_v4 val_main_v10 val_main_v23 val_main_v4_eq val_main_v10_eq val_main_v23_eq)

variable (m : (ℓ : Loc nD τ sig) → Buf (Elt Ideal) ℓ) (c : Dev nD)

/-- The update of the weight. -/
theorem final_delta : (dats m 0 c).arrAt 4 cfg0.N = val_main_v23 (F := Ideal) (m ((c : Thread nD τ).loc main_arg0)) (m ((c : Thread nD τ).loc main_arg1))
    (m ((c : Thread nD τ).loc main_arg2)) (m ((c : Thread nD τ).loc main_arg3)) :=
  (Cert.Kernel36Ideal.Value.final4 m c).trans (funext fun _ => rfl)

/-- The new first moment. -/
theorem final_m : (dats m 0 c).arrAt 5 cfg0.N = val_main_v4 (F := Ideal) (m ((c : Thread nD τ).loc main_arg1)) (m ((c : Thread nD τ).loc main_arg2)) :=
  (Cert.Kernel36Ideal.Value.final5 m c).trans (funext fun _ => rfl)

/-- The new second moment. -/
theorem final_v : (dats m 0 c).arrAt 6 cfg0.N = val_main_v10 (F := Ideal) (m ((c : Thread nD τ).loc main_arg1)) (m ((c : Thread nD τ).loc main_arg3)) :=
  (Cert.Kernel36Ideal.Value.final6 m c).trans (funext fun _ => rfl)

theorem frame_kernel : Cert.quiescent_Kernel36 := fun m ρ _ => Cert.Kernel36.Gen.frame m ρ

theorem frame_ideal : Cert.quiescent_Kernel36Ideal := fun m ρ _ => Cert.Kernel36Ideal.Gen.frame m ρ

theorem frame_reference : Cert.quiescent_Reference36Ideal := fun m ρ _ =>
  (θ_run _ _ _).mono (fun _ h => ⟨fun c => (h c).2.2.2, sem_eq_zero_of_no_sems rfl _⟩) (Cert.Reference36Ideal.Value.run m ρ)

/-- Both programs leave the same three arrays. -/
theorem equal_results : Cert.algebraic_Kernel36Ideal_Reference36Ideal := by
  intro m g m' g' _ hargs
  refine ⟨fun c => val_main_v23 (F := Ideal) (m ((c : Thread nD τ).loc main_arg0)) (m ((c : Thread nD τ).loc main_arg1))
      (m ((c : Thread nD τ).loc main_arg2)) (m ((c : Thread nD τ).loc main_arg3)),
    fun c => val_main_v4 (F := Ideal) (m ((c : Thread nD τ).loc main_arg1)) (m ((c : Thread nD τ).loc main_arg2)),
    fun c => val_main_v10 (F := Ideal) (m ((c : Thread nD τ).loc main_arg1)) (m ((c : Thread nD τ).loc main_arg3)), ?_, ?_⟩
  · exact (θ_run _ _ _).mono (fun r h c => ⟨(h c).1.trans (final_delta m c), (h c).2.1.trans (final_m m c), (h c).2.2.1.trans (final_v m c),
      (h c).2.2.2⟩) (Cert.Kernel36Ideal.Value.run_blocks m g)
  · refine (θ_run _ _ _).mono (fun r h c => ⟨(h c).1.trans ((val_main_v23_eq _ _ _ _).trans ?_),
      (h c).2.1.trans ((val_main_v4_eq _ _).trans ?_), (h c).2.2.1.trans ((val_main_v10_eq _ _).trans ?_), (h c).2.2.2⟩)
      (Cert.Reference36Ideal.Value.run m' g')
    · rw [(hargs c).1, (hargs c).2.1, (hargs c).2.2.1, (hargs c).2.2.2]
    · rw [(hargs c).2.1, (hargs c).2.2.1]
    · rw [(hargs c).2.1, (hargs c).2.2.2]

end Cert.Proof.AdamWOut

end
-- ==== Proof.AdamWFfnUp.lean ====
/- The AdamW step of the feed forward up weight: the update and the two new moments, element by element. -/
module

public import proofs.«01_k».proof.Defs
public import proofs.«01_k».proof.Proof.Gen.Kernel37Ideal.Value
public import proofs.«01_k».proof.Proof.Gen.Reference37Ideal.Run
public import proofs.«01_k».proof.Proof.Gen.Reference37Ideal.Read
public import proofs.«01_k».proof.Proof.Gen.Kernel37.Frame
public import Idealize.ShloMosaic.Lib.Quiescent

@[expose] public section

noncomputable section

namespace Cert.Proof.AdamWFfnUp

open Idealize.ShloMosaic Idealize.ShloMosaic.TcCoe Idealize.SL.Sem Cert.Kernel37Ideal Cert.Kernel37Ideal.Gen
open Cert.Reference37Ideal.Read (val_main_v4 val_main_v10 val_main_v23 val_main_v4_eq val_main_v10_eq val_main_v23_eq)

variable (m : (ℓ : Loc nD τ sig) → Buf (Elt Ideal) ℓ) (c : Dev nD)

/-- The update of the weight. -/
theorem final_delta : (dats m 0 c).arrAt 4 cfg0.N = val_main_v23 (F := Ideal) (m ((c : Thread nD τ).loc main_arg0)) (m ((c : Thread nD τ).loc main_arg1))
    (m ((c : Thread nD τ).loc main_arg2)) (m ((c : Thread nD τ).loc main_arg3)) :=
  (Cert.Kernel37Ideal.Value.final4 m c).trans (funext fun _ => rfl)

/-- The new first moment. -/
theorem final_m : (dats m 0 c).arrAt 5 cfg0.N = val_main_v4 (F := Ideal) (m ((c : Thread nD τ).loc main_arg1)) (m ((c : Thread nD τ).loc main_arg2)) :=
  (Cert.Kernel37Ideal.Value.final5 m c).trans (funext fun _ => rfl)

/-- The new second moment. -/
theorem final_v : (dats m 0 c).arrAt 6 cfg0.N = val_main_v10 (F := Ideal) (m ((c : Thread nD τ).loc main_arg1)) (m ((c : Thread nD τ).loc main_arg3)) :=
  (Cert.Kernel37Ideal.Value.final6 m c).trans (funext fun _ => rfl)

theorem frame_kernel : Cert.quiescent_Kernel37 := fun m ρ _ => Cert.Kernel37.Gen.frame m ρ

theorem frame_ideal : Cert.quiescent_Kernel37Ideal := fun m ρ _ => Cert.Kernel37Ideal.Gen.frame m ρ

theorem frame_reference : Cert.quiescent_Reference37Ideal := fun m ρ _ =>
  (θ_run _ _ _).mono (fun _ h => ⟨fun c => (h c).2.2.2, sem_eq_zero_of_no_sems rfl _⟩) (Cert.Reference37Ideal.Value.run m ρ)

/-- Both programs leave the same three arrays. -/
theorem equal_results : Cert.algebraic_Kernel37Ideal_Reference37Ideal := by
  intro m g m' g' _ hargs
  refine ⟨fun c => val_main_v23 (F := Ideal) (m ((c : Thread nD τ).loc main_arg0)) (m ((c : Thread nD τ).loc main_arg1))
      (m ((c : Thread nD τ).loc main_arg2)) (m ((c : Thread nD τ).loc main_arg3)),
    fun c => val_main_v4 (F := Ideal) (m ((c : Thread nD τ).loc main_arg1)) (m ((c : Thread nD τ).loc main_arg2)),
    fun c => val_main_v10 (F := Ideal) (m ((c : Thread nD τ).loc main_arg1)) (m ((c : Thread nD τ).loc main_arg3)), ?_, ?_⟩
  · exact (θ_run _ _ _).mono (fun r h c => ⟨(h c).1.trans (final_delta m c), (h c).2.1.trans (final_m m c), (h c).2.2.1.trans (final_v m c),
      (h c).2.2.2⟩) (Cert.Kernel37Ideal.Value.run_blocks m g)
  · refine (θ_run _ _ _).mono (fun r h c => ⟨(h c).1.trans ((val_main_v23_eq _ _ _ _).trans ?_),
      (h c).2.1.trans ((val_main_v4_eq _ _).trans ?_), (h c).2.2.1.trans ((val_main_v10_eq _ _).trans ?_), (h c).2.2.2⟩)
      (Cert.Reference37Ideal.Value.run m' g')
    · rw [(hargs c).1, (hargs c).2.1, (hargs c).2.2.1, (hargs c).2.2.2]
    · rw [(hargs c).2.1, (hargs c).2.2.1]
    · rw [(hargs c).2.1, (hargs c).2.2.2]

end Cert.Proof.AdamWFfnUp

end
-- ==== Proof.AdamWFfnDown.lean ====
/- The AdamW step of the feed forward down weight: the update and the two new moments, element by element. -/
module

public import proofs.«01_k».proof.Defs
public import proofs.«01_k».proof.Proof.Gen.Kernel38Ideal.Value
public import proofs.«01_k».proof.Proof.Gen.Reference38Ideal.Run
public import proofs.«01_k».proof.Proof.Gen.Reference38Ideal.Read
public import proofs.«01_k».proof.Proof.Gen.Kernel38.Frame
public import Idealize.ShloMosaic.Lib.Quiescent

@[expose] public section

noncomputable section

namespace Cert.Proof.AdamWFfnDown

open Idealize.ShloMosaic Idealize.ShloMosaic.TcCoe Idealize.SL.Sem Cert.Kernel38Ideal Cert.Kernel38Ideal.Gen
open Cert.Reference38Ideal.Read (val_main_v4 val_main_v10 val_main_v23 val_main_v4_eq val_main_v10_eq val_main_v23_eq)

variable (m : (ℓ : Loc nD τ sig) → Buf (Elt Ideal) ℓ) (c : Dev nD)

/-- The update of the weight. -/
theorem final_delta : (dats m 0 c).arrAt 4 cfg0.N = val_main_v23 (F := Ideal) (m ((c : Thread nD τ).loc main_arg0)) (m ((c : Thread nD τ).loc main_arg1))
    (m ((c : Thread nD τ).loc main_arg2)) (m ((c : Thread nD τ).loc main_arg3)) :=
  (Cert.Kernel38Ideal.Value.final4 m c).trans (funext fun _ => rfl)

/-- The new first moment. -/
theorem final_m : (dats m 0 c).arrAt 5 cfg0.N = val_main_v4 (F := Ideal) (m ((c : Thread nD τ).loc main_arg1)) (m ((c : Thread nD τ).loc main_arg2)) :=
  (Cert.Kernel38Ideal.Value.final5 m c).trans (funext fun _ => rfl)

/-- The new second moment. -/
theorem final_v : (dats m 0 c).arrAt 6 cfg0.N = val_main_v10 (F := Ideal) (m ((c : Thread nD τ).loc main_arg1)) (m ((c : Thread nD τ).loc main_arg3)) :=
  (Cert.Kernel38Ideal.Value.final6 m c).trans (funext fun _ => rfl)

theorem frame_kernel : Cert.quiescent_Kernel38 := fun m ρ _ => Cert.Kernel38.Gen.frame m ρ

theorem frame_ideal : Cert.quiescent_Kernel38Ideal := fun m ρ _ => Cert.Kernel38Ideal.Gen.frame m ρ

theorem frame_reference : Cert.quiescent_Reference38Ideal := fun m ρ _ =>
  (θ_run _ _ _).mono (fun _ h => ⟨fun c => (h c).2.2.2, sem_eq_zero_of_no_sems rfl _⟩) (Cert.Reference38Ideal.Value.run m ρ)

/-- Both programs leave the same three arrays. -/
theorem equal_results : Cert.algebraic_Kernel38Ideal_Reference38Ideal := by
  intro m g m' g' _ hargs
  refine ⟨fun c => val_main_v23 (F := Ideal) (m ((c : Thread nD τ).loc main_arg0)) (m ((c : Thread nD τ).loc main_arg1))
      (m ((c : Thread nD τ).loc main_arg2)) (m ((c : Thread nD τ).loc main_arg3)),
    fun c => val_main_v4 (F := Ideal) (m ((c : Thread nD τ).loc main_arg1)) (m ((c : Thread nD τ).loc main_arg2)),
    fun c => val_main_v10 (F := Ideal) (m ((c : Thread nD τ).loc main_arg1)) (m ((c : Thread nD τ).loc main_arg3)), ?_, ?_⟩
  · exact (θ_run _ _ _).mono (fun r h c => ⟨(h c).1.trans (final_delta m c), (h c).2.1.trans (final_m m c), (h c).2.2.1.trans (final_v m c),
      (h c).2.2.2⟩) (Cert.Kernel38Ideal.Value.run_blocks m g)
  · refine (θ_run _ _ _).mono (fun r h c => ⟨(h c).1.trans ((val_main_v23_eq _ _ _ _).trans ?_),
      (h c).2.1.trans ((val_main_v4_eq _ _).trans ?_), (h c).2.2.1.trans ((val_main_v10_eq _ _).trans ?_), (h c).2.2.2⟩)
      (Cert.Reference38Ideal.Value.run m' g')
    · rw [(hargs c).1, (hargs c).2.1, (hargs c).2.2.1, (hargs c).2.2.2]
    · rw [(hargs c).2.1, (hargs c).2.2.1]
    · rw [(hargs c).2.1, (hargs c).2.2.2]

end Cert.Proof.AdamWFfnDown

end
-- ==== Proof.AdamWSmall.lean ====
/- The AdamW step of the small weights, packed into one array: the update and the two new moments, element by element. -/
module

public import proofs.«01_k».proof.Defs
public import proofs.«01_k».proof.Proof.Gen.Kernel39Ideal.Value
public import proofs.«01_k».proof.Proof.Gen.Reference39Ideal.Run
public import proofs.«01_k».proof.Proof.Gen.Reference39Ideal.Read
public import proofs.«01_k».proof.Proof.Gen.Kernel39.Frame
public import Idealize.ShloMosaic.Lib.Quiescent

@[expose] public section

noncomputable section

namespace Cert.Proof.AdamWSmall

open Idealize.ShloMosaic Idealize.ShloMosaic.TcCoe Idealize.SL.Sem Cert.Kernel39Ideal Cert.Kernel39Ideal.Gen
open Cert.Reference39Ideal.Read (val_main_v4 val_main_v10 val_main_v23 val_main_v4_eq val_main_v10_eq val_main_v23_eq)

variable (m : (ℓ : Loc nD τ sig) → Buf (Elt Ideal) ℓ) (c : Dev nD)

/-- The update of the weight. -/
theorem final_delta : (dats m 0 c).arrAt 4 cfg0.N = val_main_v23 (F := Ideal) (m ((c : Thread nD τ).loc main_arg0)) (m ((c : Thread nD τ).loc main_arg1))
    (m ((c : Thread nD τ).loc main_arg2)) (m ((c : Thread nD τ).loc main_arg3)) :=
  (Cert.Kernel39Ideal.Value.final4 m c).trans (funext fun _ => rfl)

/-- The new first moment. -/
theorem final_m : (dats m 0 c).arrAt 5 cfg0.N = val_main_v4 (F := Ideal) (m ((c : Thread nD τ).loc main_arg1)) (m ((c : Thread nD τ).loc main_arg2)) :=
  (Cert.Kernel39Ideal.Value.final5 m c).trans (funext fun _ => rfl)

/-- The new second moment. -/
theorem final_v : (dats m 0 c).arrAt 6 cfg0.N = val_main_v10 (F := Ideal) (m ((c : Thread nD τ).loc main_arg1)) (m ((c : Thread nD τ).loc main_arg3)) :=
  (Cert.Kernel39Ideal.Value.final6 m c).trans (funext fun _ => rfl)

theorem frame_kernel : Cert.quiescent_Kernel39 := fun m ρ _ => Cert.Kernel39.Gen.frame m ρ

theorem frame_ideal : Cert.quiescent_Kernel39Ideal := fun m ρ _ => Cert.Kernel39Ideal.Gen.frame m ρ

theorem frame_reference : Cert.quiescent_Reference39Ideal := fun m ρ _ =>
  (θ_run _ _ _).mono (fun _ h => ⟨fun c => (h c).2.2.2, sem_eq_zero_of_no_sems rfl _⟩) (Cert.Reference39Ideal.Value.run m ρ)

/-- Both programs leave the same three arrays. -/
theorem equal_results : Cert.algebraic_Kernel39Ideal_Reference39Ideal := by
  intro m g m' g' _ hargs
  refine ⟨fun c => val_main_v23 (F := Ideal) (m ((c : Thread nD τ).loc main_arg0)) (m ((c : Thread nD τ).loc main_arg1))
      (m ((c : Thread nD τ).loc main_arg2)) (m ((c : Thread nD τ).loc main_arg3)),
    fun c => val_main_v4 (F := Ideal) (m ((c : Thread nD τ).loc main_arg1)) (m ((c : Thread nD τ).loc main_arg2)),
    fun c => val_main_v10 (F := Ideal) (m ((c : Thread nD τ).loc main_arg1)) (m ((c : Thread nD τ).loc main_arg3)), ?_, ?_⟩
  · exact (θ_run _ _ _).mono (fun r h c => ⟨(h c).1.trans (final_delta m c), (h c).2.1.trans (final_m m c), (h c).2.2.1.trans (final_v m c),
      (h c).2.2.2⟩) (Cert.Kernel39Ideal.Value.run_blocks m g)
  · refine (θ_run _ _ _).mono (fun r h c => ⟨(h c).1.trans ((val_main_v23_eq _ _ _ _).trans ?_),
      (h c).2.1.trans ((val_main_v4_eq _ _).trans ?_), (h c).2.2.1.trans ((val_main_v10_eq _ _).trans ?_), (h c).2.2.2⟩)
      (Cert.Reference39Ideal.Value.run m' g')
    · rw [(hargs c).1, (hargs c).2.1, (hargs c).2.2.1, (hargs c).2.2.2]
    · rw [(hargs c).2.1, (hargs c).2.2.1]
    · rw [(hargs c).2.1, (hargs c).2.2.2]

end Cert.Proof.AdamWSmall

end
-- ==== Proof.lean ====
/- The proof of the certificate's claim. -/
module

public import proofs.«01_k».proof.Proof.Frames
public import proofs.«01_k».proof.Proof.Gen.KernelIdeal.Value
public import proofs.«01_k».proof.Proof.Gen.ReferenceIdeal.Run
public import proofs.«01_k».proof.Proof.Gen.ReferenceIdeal.Read
public import proofs.«01_k».proof.Proof.Equal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Gen.Reference31Ideal.Read
public import proofs.«01_k».proof.Proof.Gen.Kernel32.Frame
public import proofs.«01_k».proof.Proof.Gen.Kernel32Ideal.Frame
public import proofs.«01_k».proof.Proof.Gen.Reference32Ideal.Run
public import proofs.«01_k».proof.Proof.Gen.Reference32Ideal.Read
public import proofs.«01_k».proof.Proof.Gen.Kernel33.Frame
public import proofs.«01_k».proof.Proof.Gen.Kernel33Ideal.Frame
public import proofs.«01_k».proof.Proof.Gen.Kernel33Ideal.Value
public import proofs.«01_k».proof.Proof.Gen.Reference33Ideal.Run
public import proofs.«01_k».proof.Proof.Gen.Reference33Ideal.Read
public import proofs.«01_k».proof.Proof.Gen.Kernel34.Frame
public import proofs.«01_k».proof.Proof.Gen.Kernel34Ideal.Frame
public import proofs.«01_k».proof.Proof.Gen.Kernel34Ideal.Value
public import proofs.«01_k».proof.Proof.Gen.Reference34Ideal.Run
public import proofs.«01_k».proof.Proof.Gen.Reference34Ideal.Read
public import proofs.«01_k».proof.Proof.Gen.Kernel35.Frame
public import proofs.«01_k».proof.Proof.Gen.Kernel35Ideal.Frame
public import proofs.«01_k».proof.Proof.Gen.Kernel35Ideal.Value
public import proofs.«01_k».proof.Proof.Gen.Reference35Ideal.Run
public import proofs.«01_k».proof.Proof.Gen.Reference35Ideal.Read
public import proofs.«01_k».proof.Proof.Gen.Kernel36.Frame
public import proofs.«01_k».proof.Proof.Gen.Kernel36Ideal.Frame
public import proofs.«01_k».proof.Proof.Gen.Kernel36Ideal.Value
public import proofs.«01_k».proof.Proof.Gen.Reference36Ideal.Run
public import proofs.«01_k».proof.Proof.Gen.Reference36Ideal.Read
public import proofs.«01_k».proof.Proof.Gen.Kernel37.Frame
public import proofs.«01_k».proof.Proof.Gen.Kernel37Ideal.Frame
public import proofs.«01_k».proof.Proof.Gen.Kernel37Ideal.Value
public import proofs.«01_k».proof.Proof.Gen.Reference37Ideal.Run
public import proofs.«01_k».proof.Proof.Gen.Reference37Ideal.Read
public import proofs.«01_k».proof.Proof.Gen.Kernel38.Frame
public import proofs.«01_k».proof.Proof.Gen.Kernel38Ideal.Frame
public import proofs.«01_k».proof.Proof.Gen.Kernel38Ideal.Value
public import proofs.«01_k».proof.Proof.Gen.Reference38Ideal.Run
public import proofs.«01_k».proof.Proof.Gen.Reference38Ideal.Read
public import proofs.«01_k».proof.Proof.Gen.Kernel39.Frame
public import proofs.«01_k».proof.Proof.Gen.Kernel39Ideal.Frame
public import proofs.«01_k».proof.Proof.Gen.Kernel39Ideal.Value
public import proofs.«01_k».proof.Proof.Gen.Reference39Ideal.Run
public import proofs.«01_k».proof.Proof.Gen.Reference39Ideal.Read
public import proofs.«01_k».proof.Proof.DAct
public import proofs.«01_k».proof.Proof.DGate
public import proofs.«01_k».proof.Proof.DH2
public import proofs.«01_k».proof.Proof.DHA
public import proofs.«01_k».proof.Proof.GDown
public import proofs.«01_k».proof.Proof.GUp
public import proofs.«01_k».proof.Proof.GOut
public import proofs.«01_k».proof.Proof.GBranchHg
public import proofs.«01_k».proof.Proof.GBranchSsm
public import proofs.«01_k».proof.Proof.GIn0
public import proofs.«01_k».proof.Proof.GIn1
public import proofs.«01_k».proof.Proof.GIn2
public import proofs.«01_k».proof.Proof.GIn3
public import proofs.«01_k».proof.Proof.GIn4
public import proofs.«01_k».proof.Proof.GInDt
public import proofs.«01_k».proof.Proof.GInG0
public import proofs.«01_k».proof.Proof.GInG1
public import proofs.«01_k».proof.Proof.DMixed
public import proofs.«01_k».proof.Proof.DYHg
public import proofs.«01_k».proof.Proof.DYSsm
public import proofs.«01_k».proof.Proof.FfnUp
public import proofs.«01_k».proof.Proof.FfnDown
public import proofs.«01_k».proof.Proof.OutProj
public import proofs.«01_k».proof.Proof.BranchHg
public import proofs.«01_k».proof.Proof.BranchSsm
public import proofs.«01_k».proof.Proof.ProjQfig
public import proofs.«01_k».proof.Proof.ProjZ
public import proofs.«01_k».proof.Proof.ProjXbc
public import proofs.«01_k».proof.Proof.ProjDt
public import proofs.«01_k».proof.Proof.ProjGates
public import proofs.«01_k».proof.Proof.DHB
public import proofs.«01_k».proof.Proof.AdamWIn
public import proofs.«01_k».proof.Proof.AdamWBranchHg
public import proofs.«01_k».proof.Proof.AdamWBranchSsm
public import proofs.«01_k».proof.Proof.AdamWOut
public import proofs.«01_k».proof.Proof.AdamWFfnUp
public import proofs.«01_k».proof.Proof.AdamWFfnDown
public import proofs.«01_k».proof.Proof.AdamWSmall

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Kernel39.Gen.facts, Cert.Kernel39Ideal.Gen.facts, Cert.Reference39Ideal.Gen.facts,
    Cert.Pre_finite.Gen.facts,
    frame_kernel, frame_ideal, frame_ideal_finite, frame_reference, frame_reference_finite,
    DAct.frame_kernel, DAct.frame_ideal, DAct.frame_reference,
    DGate.frame_kernel, DGate.frame_ideal, DGate.frame_reference,
    DH2.frame_kernel, DH2.frame_ideal, DH2.frame_reference,
    DHA.frame_kernel, DHA.frame_ideal, DHA.frame_reference,
    GDown.frame_kernel, GDown.frame_ideal, GDown.frame_reference,
    GUp.frame_kernel, GUp.frame_ideal, GUp.frame_reference,
    GOut.frame_kernel, GOut.frame_ideal, GOut.frame_reference,
    GBranchHg.frame_kernel, GBranchHg.frame_ideal, GBranchHg.frame_reference,
    GBranchSsm.frame_kernel, GBranchSsm.frame_ideal, GBranchSsm.frame_reference,
    GIn0.frame_kernel, GIn0.frame_ideal, GIn0.frame_reference,
    GIn1.frame_kernel, GIn1.frame_ideal, GIn1.frame_reference,
    GIn2.frame_kernel, GIn2.frame_ideal, GIn2.frame_reference,
    GIn3.frame_kernel, GIn3.frame_ideal, GIn3.frame_reference,
    GIn4.frame_kernel, GIn4.frame_ideal, GIn4.frame_reference,
    GInDt.frame_kernel, GInDt.frame_ideal, GInDt.frame_reference,
    GInG0.frame_kernel, GInG0.frame_ideal, GInG0.frame_reference,
    GInG1.frame_kernel, GInG1.frame_ideal, GInG1.frame_reference,
    DMixed.frame_kernel, DMixed.frame_ideal, DMixed.frame_reference,
    DYHg.frame_kernel, DYHg.frame_ideal, DYHg.frame_reference,
    DYSsm.frame_kernel, DYSsm.frame_ideal, DYSsm.frame_reference,
    FfnUp.frame_kernel, FfnUp.frame_ideal, FfnUp.frame_reference,
    FfnDown.frame_kernel, FfnDown.frame_ideal, FfnDown.frame_reference,
    OutProj.frame_kernel, OutProj.frame_ideal, OutProj.frame_reference,
    BranchHg.frame_kernel, BranchHg.frame_ideal, BranchHg.frame_reference,
    BranchSsm.frame_kernel, BranchSsm.frame_ideal, BranchSsm.frame_reference,
    ProjQfig.frame_kernel, ProjQfig.frame_ideal, ProjQfig.frame_reference,
    ProjZ.frame_kernel, ProjZ.frame_ideal, ProjZ.frame_reference,
    ProjXbc.frame_kernel, ProjXbc.frame_ideal, ProjXbc.frame_reference,
    ProjDt.frame_kernel, ProjDt.frame_ideal, ProjDt.frame_reference,
    ProjGates.frame_kernel, ProjGates.frame_ideal, ProjGates.frame_reference,
    DHB.frame_kernel, DHB.frame_ideal, DHB.frame_reference,
    AdamWIn.frame_kernel, AdamWIn.frame_ideal, AdamWIn.frame_reference,
    AdamWBranchHg.frame_kernel, AdamWBranchHg.frame_ideal, AdamWBranchHg.frame_reference,
    AdamWBranchSsm.frame_kernel, AdamWBranchSsm.frame_ideal, AdamWBranchSsm.frame_reference,
    AdamWOut.frame_kernel, AdamWOut.frame_ideal, AdamWOut.frame_reference,
    AdamWFfnUp.frame_kernel, AdamWFfnUp.frame_ideal, AdamWFfnUp.frame_reference,
    AdamWFfnDown.frame_kernel, AdamWFfnDown.frame_ideal, AdamWFfnDown.frame_reference,
    AdamWSmall.frame_kernel, AdamWSmall.frame_ideal, AdamWSmall.frame_reference,
    masked_preserved, equal_results,
    trivial, DAct.equal_results,
    trivial, DGate.equal_results,
    trivial, DH2.equal_results,
    trivial, DHA.equal_results,
    trivial, GDown.equal_results,
    trivial, GUp.equal_results,
    trivial, GOut.equal_results,
    trivial, GBranchHg.equal_results,
    trivial, GBranchSsm.equal_results,
    trivial, GIn0.equal_results,
    trivial, GIn1.equal_results,
    trivial, GIn2.equal_results,
    trivial, GIn3.equal_results,
    trivial, GIn4.equal_results,
    trivial, GInDt.equal_results,
    trivial, GInG0.equal_results,
    trivial, GInG1.equal_results,
    trivial, DMixed.equal_results,
    trivial, DYHg.equal_results,
    trivial, DYSsm.equal_results,
    trivial, FfnUp.equal_results,
    trivial, FfnDown.equal_results,
    trivial, OutProj.equal_results,
    trivial, BranchHg.equal_results,
    trivial, BranchSsm.equal_results,
    trivial, ProjQfig.equal_results,
    trivial, ProjZ.equal_results,
    trivial, ProjXbc.equal_results,
    trivial, ProjDt.equal_results,
    trivial, ProjGates.equal_results,
    trivial, DHB.equal_results,
    trivial, AdamWIn.equal_results,
    trivial, AdamWBranchHg.equal_results,
    trivial, AdamWBranchSsm.equal_results,
    trivial, AdamWOut.equal_results,
    trivial, AdamWFfnUp.equal_results,
    trivial, AdamWFfnDown.equal_results,
    trivial, AdamWSmall.equal_results⟩

end Cert.Proof

end
